-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_weights [hPre_finite_weights : Cert.Pre_finite_weights.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_weights [hPre_finite_weights : Cert.Pre_finite_weights.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_weights [hKernel5Ideal : Cert.Kernel5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_weights m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_weights [hReference5Ideal : Cert.Reference5Ideal.Facts] [hPre_finite_weights : Cert.Pre_finite_weights.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_weights m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_on_rows_used [hKernel2Ideal : Cert.Kernel2Ideal.Facts] [hReference2Ideal : Cert.Reference2Ideal.Facts] [hPre_in_range : Cert.Pre_in_range.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![294912, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![294912, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v53) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_weights [hKernel5Ideal : Cert.Kernel5Ideal.Facts] [hReference5Ideal : Cert.Reference5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_weights m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_in_range : Cert.Pre_in_range.Facts) (hPre_finite_weights : Cert.Pre_finite_weights.Facts) (hOn_rows_used : Cert.On_rows_used.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_weights (hKernel5Ideal := hKernel5Ideal) (hPre_finite_weights := hPre_finite_weights)
    ∧ quiescent_Reference5Ideal (hReference5Ideal := hReference5Ideal)
    ∧ quiescent_Reference5Ideal_pre_finite_weights (hReference5Ideal := hReference5Ideal) (hPre_finite_weights := hPre_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_rows_used (hKernel2Ideal := hKernel2Ideal) (hReference2Ideal := hReference2Ideal) (hPre_in_range := hPre_in_range) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_weights (hKernel5Ideal := hKernel5Ideal) (hReference5Ideal := hReference5Ideal) (hPre_finite_weights := hPre_finite_weights)
-- ==== On_rows_used.lean ====
abbrev S576 : Shape := ⟨1, ![576]⟩
abbrev S1 : Shape := ⟨1, ![1]⟩
abbrev S294912x1024 : Shape := ⟨2, ![294912, 1024]⟩
abbrev S4x64x1024x256 : Shape := ⟨4, ![4, 64, 1024, 256]⟩
abbrev S4x64x256x1024 : Shape := ⟨4, ![4, 64, 256, 1024]⟩
abbrev S_ : Shape := ⟨0, ![]⟩

class Facts : Prop where
  shapeCasts_S1_S_ : S1.ShapeCasts S_
  bcast_S_S294912x1024 : S_.BroadcastsInDim S294912x1024 (![] : Fin 0 → Fin S294912x1024.rank)

variable [Facts]

def fn {F : FTy → Type} [FloatOps F] (main_arg0 : IVec S576 32) (main_arg1 : IVec S576 32) (main_arg2 : IVec S1 32) (main_arg3 : FVec F S294912x1024 .bf16) (main_arg4 : FVec F S4x64x1024x256 .bf16) (main_arg5 : FVec F S4x64x1024x256 .bf16) (main_arg6 : FVec F S4x64x256x1024 .bf16) : IVec S294912x1024 1 :=
  let main_v0 : IVec S294912x1024 32 := iotaInDim S294912x1024 32 0
  let main_v1 : IVec S_ 32 := shapeCast S_ main_arg2 shapeCasts_S1_S_
  let main_c : IVec S_ 32 := constantI S_ 32 512#32
  let main_v2 : IVec S_ 32 := muli main_c main_v1
  let main_v3 : IVec S294912x1024 32 := broadcastInDim S294912x1024 ![] bcast_S_S294912x1024 main_v2
  let main_v4 : IVec S294912x1024 1 := cmpi .slt main_v0 main_v3
  main_v4
-- ==== Pre_finite.lean ====
abbrev S16x2048x1024 : Shape := ⟨3, ![16, 2048, 1024]⟩
abbrev S16x2048x256 : Shape := ⟨3, ![16, 2048, 256]⟩
abbrev S16x256x256 : Shape := ⟨3, ![16, 256, 256]⟩
abbrev S16 : Shape := ⟨1, ![16]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x2048x256 : S_.BroadcastsInDim S16x2048x256 (![] : Fin 0 → Fin S16x2048x256.rank)
  reducesTo_S16x2048x256_S_d0_1_2 : S16x2048x256.ReducesTo [0, 1, 2] S_
  bcast_S_S16x256x256 : S_.BroadcastsInDim S16x256x256 (![] : Fin 0 → Fin S16x256x256.rank)
  reducesTo_S16x256x256_S_d0_1_2 : S16x256x256.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S16x2048x1024 .f32) (main_arg1 : FVec F S16x2048x256 .f32) (main_arg2 : FVec F S16x2048x256 .f32) (main_arg3 : FVec F S16x256x256 .f32) (main_arg4 : FVec F S16x256x256 .f32) (main_arg5 : FVec F S16 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x256x256 .f32 := Host.absf main_arg3
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite_weights.lean ====
abbrev S32x1024 : Shape := ⟨2, ![32, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S32x1024 .f32) (main_arg1 : FVec F S1024 .f32) (main_arg2 : FVec F S4x1024x6144 .f32) (main_arg3 : FVec F S4x6144 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024x6144 .f32 := Host.absf main_arg2
  let main_cst_2 : FVec F S_ .f32 := constant S_ .f32 0x7F800000#32
  let main_v10 : FVec F S4x1024x6144 .f32 := broadcastInDim S4x1024x6144 ![] bcast_S_S4x1024x6144 main_cst_2
  let main_v11 : IVec S4x1024x6144 1 := cmpf .olt main_v9 main_v10
  let main_c_3 : IVec S_ 1 := constantI S_ 1 1#1
  let main_v12 : IVec S_ 1 := (fun x v => Host.reduce IntOp.andi x v reducesTo_S4x1024x6144_S_d0_1_2 h_S_) main_v11 main_c_3
  let main_v13 : IVec S_ 1 := andi main_v8 main_v12
  main_v13
-- ==== Pre_in_range.lean ====
abbrev S576 : Shape := ⟨1, ![576]⟩
abbrev S1 : Shape := ⟨1, ![1]⟩
abbrev S294912x1024 : Shape := ⟨2, ![294912, 1024]⟩
abbrev S4x64x1024x256 : Shape := ⟨4, ![4, 64, 1024, 256]⟩
abbrev S4x64x256x1024 : Shape := ⟨4, ![4, 64, 256, 1024]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S576 32) (main_arg1 : IVec S576 32) (main_arg2 : IVec S1 32) (main_arg3 : FVec F S294912x1024 .bf16) (main_arg4 : FVec F S4x64x1024x256 .bf16) (main_arg5 : FVec F S4x64x1024x256 .bf16) (main_arg6 : FVec F S4x64x256x1024 .bf16) : IVec S_ 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 32 := constantI S_ 32 64#32
  let main_v2 : IVec S576 32 := broadcastInDim S576 ![] bcast_S_S576 main_c_0
  let main_v3 : IVec S576 1 := cmpi .slt main_arg0 main_v2
  let main_v4 : IVec S576 1 := andi main_v1 main_v3
  let main_c_1 : IVec S_ 1 := constantI S_ 1 1#1
  let main_v5 : IVec S_ 1 := (fun x v => Host.reduce IntOp.andi x v reducesTo_S576_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 576#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S16x2048x1024 : Shape := ⟨3, ![16, 2048, 1024]⟩
abbrev S16x2048x256 : Shape := ⟨3, ![16, 2048, 256]⟩
abbrev S16x256x256 : Shape := ⟨3, ![16, 256, 256]⟩
abbrev S16 : Shape := ⟨1, ![16]⟩
abbrev S_ : Shape := ⟨0, ![]⟩
abbrev S1x128x1024 : Shape := ⟨3, ![1, 128, 1024]⟩
abbrev S1x2048x256 : Shape := ⟨3, ![1, 2048, 256]⟩
abbrev S1x256x256 : Shape := ⟨3, ![1, 256, 256]⟩
abbrev S4x512x640 : Shape := ⟨3, ![4, 512, 640]⟩
abbrev S4x512x128 : Shape := ⟨3, ![4, 512, 128]⟩
abbrev S128x384 : Shape := ⟨2, ![128, 384]⟩
abbrev S128x1024 : Shape := ⟨2, ![128, 1024]⟩
abbrev S256x256 : Shape := ⟨2, ![256, 256]⟩
abbrev S1x384x256 : Shape := ⟨3, ![1, 384, 256]⟩
abbrev S384x256 : Shape := ⟨2, ![384, 256]⟩
abbrev S128x64 : Shape := ⟨2, ![128, 64]⟩
abbrev S512x64 : Shape := ⟨2, ![512, 64]⟩
abbrev S384x64 : Shape := ⟨2, ![384, 64]⟩
abbrev S512x384 : Shape := ⟨2, ![512, 384]⟩
abbrev S1x512x384 : Shape := ⟨3, ![1, 512, 384]⟩
abbrev S256x64 : Shape := ⟨2, ![256, 64]⟩
abbrev S512x256 : Shape := ⟨2, ![512, 256]⟩
abbrev S1x512x256 : Shape := ⟨3, ![1, 512, 256]⟩
abbrev S1x32x640 : Shape := ⟨3, ![1, 32, 640]⟩
abbrev S32x640 : Shape := ⟨2, ![32, 640]⟩
abbrev S32x128 : Shape := ⟨2, ![32, 128]⟩
abbrev S32x384 : Shape := ⟨2, ![32, 384]⟩
abbrev S1 : Shape := ⟨1, ![1]⟩
abbrev S32 : Shape := ⟨1, ![32]⟩
abbrev S32x1 : Shape := ⟨2, ![32, 1]⟩
abbrev S1x32x128 : Shape := ⟨3, ![1, 32, 128]⟩
abbrev S1x512x64 : Shape := ⟨3, ![1, 512, 64]⟩
abbrev S1x128x64 : Shape := ⟨3, ![1, 128, 64]⟩

abbrev nBuf : Space → Nat
  | .hbm => 15
  | .vmem => 16
  | .smem => 1
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x256x256, .f32⟩
  | .hbm, ⟨4, _⟩ => ⟨S16x256x256, .f32⟩
  | .hbm, ⟨5, _⟩ => ⟨S16, .f32⟩
  | .hbm, ⟨6, _⟩ => ⟨S_, .f32⟩
  | .hbm, ⟨7, _⟩ => ⟨S16x2048x1024, .f32⟩
  | .hbm, ⟨8, _⟩ => ⟨S16x2048x1024, .f32⟩
  | .hbm, ⟨9, _⟩ => ⟨S16x2048x1024, .bf16⟩
  | .hbm, ⟨10, _⟩ => ⟨S16x2048x256, .bf16⟩
  | .hbm, ⟨11, _⟩ => ⟨S16x2048x256, .bf16⟩
  | .hbm, ⟨12, _⟩ => ⟨S16x256x256, .bf16⟩
  | .hbm, ⟨13, _⟩ => ⟨S16x256x256, .bf16⟩
  | .hbm, ⟨14, _⟩ => ⟨S16x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x128x1024, .bf16⟩
  | .local _ .vmem, ⟨11, _⟩ => ⟨S1x128x1024, .bf16⟩
  | .local _ .vmem, ⟨12, _⟩ => ⟨S4x512x640, .f32⟩
  | .local _ .vmem, ⟨13, _⟩ => ⟨S4x512x640, .bf16⟩
  | .local _ .vmem, ⟨14, _⟩ => ⟨S4x512x128, .f32⟩
  | .local _ .vmem, ⟨15, _⟩ => ⟨S128x384, .f32⟩
  | .local _ .smem, ⟨0, _⟩ => ⟨S16, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c1664_i32 : BitVec 32 := 1664#32
  let c0_i32 : BitVec 32 := 0#32
  let arg1 : BitVec 32 := BitVec.ofNat 32 (i 1).val
  let c128_i32 : BitVec 32 := 128#32
  let v6 : BitVec 32 := Scalar.muli arg1 c128_i32
  let c128_i32_8 : BitVec 32 := 128#32
  let v7 : BitVec 32 := Scalar.subi v6 c128_i32_8
  let v8 : BitVec 32 := Scalar.maxsi c0_i32 v7
  let v9 : BitVec 32 := Scalar.minsi c1664_i32 v8
  v9
def k0_off1 (i : grid0.Coords) : Fin 3 → Nat :=
  let c0_9 : Index := 0#32
  let c1664_i32 : BitVec 32 := 1664#32
  let c0_i32 : BitVec 32 := 0#32
  let arg1 : BitVec 32 := BitVec.ofNat 32 (i 1).val
  let c128_i32 : BitVec 32 := 128#32
  let v6 : BitVec 32 := Scalar.muli arg1 c128_i32
  let c128_i32_8 : BitVec 32 := 128#32
  let v7 : BitVec 32 := Scalar.subi v6 c128_i32_8
  let v8 : BitVec 32 := Scalar.maxsi c0_i32 v7
  let v9 : BitVec 32 := Scalar.minsi c1664_i32 v8
  let v10 : BitVec 32 := v9
  let v11 : Index := Scalar.indexCast v10
  let c0_10 : Index := 0#32
  ![0, v11.toNat, 0]
def k0_mult2 : BitVec 32 :=
  let c0_i32_45 : BitVec 32 := 0#32
  let c32_i32 : BitVec 32 := 32#32
  let v93 : BitVec 32 := Scalar.muli c0_i32_45 c32_i32
  v93
def k0_off2 (c0_i32_45 : BitVec 32) : Fin 3 → Nat :=
  let c0_46 : Index := 0#32
  let c32_i32 : BitVec 32 := 32#32
  let v93 : BitVec 32 := Scalar.muli c0_i32_45 c32_i32
  let v94 : BitVec 32 := v93
  let v95 : Index := Scalar.indexCast v94
  let c0_47 : Index := 0#32
  ![0, v95.toNat, 0]
def k0_mult3 : BitVec 32 :=
  let c0_i32_45 : BitVec 32 := 0#32
  let c4_i32 : BitVec 32 := 4#32
  let c0_i32_48 : BitVec 32 := 0#32
  let v103 : BitVec 1 := Scalar.cmpi .eq c4_i32 c0_i32_48
  let c1_i32 : BitVec 32 := 1#32
  let v104 : BitVec 32 := Scalar.select v103 c1_i32 c4_i32
  let v105 : BitVec 32 := Scalar.remsi c0_i32_45 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let c32_i32_52 : BitVec 32 := 32#32
  let v113 : BitVec 32 := Scalar.muli v112 c32_i32_52
  v113
def k0_off3 (c0_i32_45 : BitVec 32) : Fin 2 → Nat :=
  let c4_i32 : BitVec 32 := 4#32
  let c0_i32_48 : BitVec 32 := 0#32
  let v103 : BitVec 1 := Scalar.cmpi .eq c4_i32 c0_i32_48
  let c1_i32 : BitVec 32 := 1#32
  let v104 : BitVec 32 := Scalar.select v103 c1_i32 c4_i32
  let v105 : BitVec 32 := Scalar.remsi c0_i32_45 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let c32_i32_52 : BitVec 32 := 32#32
  let v113 : BitVec 32 := Scalar.muli v112 c32_i32_52
  let v114 : BitVec 32 := v113
  let v115 : Index := Scalar.indexCast v114
  let c0_53 : Index := 0#32
  ![v115.toNat, 0]
def k0_off4 (c0_i32_61 : BitVec 32) (c0_i32_45 : BitVec 32) : Fin 1 → Nat :=
  let c0_i32_55 : BitVec 32 := 0#32
  let v124 : BitVec 1 := Scalar.cmpi .sgt c0_i32_45 c0_i32_55
  let v125 : BitVec 32 := Scalar.extui v124
  let c0_i32_56 : BitVec 32 := 0#32
  let v126 : BitVec 1 := Scalar.cmpi .slt c0_i32_45 c0_i32_56
  let v127 : BitVec 32 := Scalar.extui v126
  let v128 : BitVec 32 := Scalar.subi v125 v127
  let c4_i32_54 : BitVec 32 := 4#32
  let c0_i32_57 : BitVec 32 := 0#32
  let v129 : BitVec 1 := Scalar.cmpi .sgt c4_i32_54 c0_i32_57
  let v130 : BitVec 32 := Scalar.extui v129
  let c0_i32_58 : BitVec 32 := 0#32
  let v131 : BitVec 1 := Scalar.cmpi .slt c4_i32_54 c0_i32_58
  let v132 : BitVec 32 := Scalar.extui v131
  let v133 : BitVec 32 := Scalar.subi v130 v132
  let v134 : BitVec 1 := Scalar.cmpi .ne v128 v133
  let v135 : BitVec 32 := Scalar.remsi c0_i32_45 c4_i32_54
  let c0_i32_59 : BitVec 32 := 0#32
  let v136 : BitVec 1 := Scalar.cmpi .ne v135 c0_i32_59
  let v137 : BitVec 1 := Scalar.andi v134 v136
  let v123 : BitVec 32 := Scalar.divsi c0_i32_45 c4_i32_54
  let c1_i32_60 : BitVec 32 := 1#32
  let v138 : BitVec 32 := Scalar.subi v123 c1_i32_60
  let v139 : BitVec 32 := Scalar.select v137 v138 v123
  let v140 : BitVec 32 := Scalar.addi c0_i32_61 v139
  let v141 : Index := Scalar.indexCast v140
  ![v141.toNat]
def k0_off5 (c0_i32_45 : BitVec 32) : Fin 3 → Nat :=
  let c0_63 : Index := 0#32
  let c32_i32 : BitVec 32 := 32#32
  let v93 : BitVec 32 := Scalar.muli c0_i32_45 c32_i32
  let v94 : BitVec 32 := v93
  let v153 : Index := Scalar.indexCast v94
  let c0_64 : Index := 0#32
  ![0, v153.toNat, 0]
def k0_mult4 : BitVec 32 :=
  let c1_i32_65 : BitVec 32 := 1#32
  let c32_i32_66 : BitVec 32 := 32#32
  let v157 : BitVec 32 := Scalar.muli c1_i32_65 c32_i32_66
  v157
def k0_mult5 : BitVec 32 :=
  let c1_i32_65 : BitVec 32 := 1#32
  let c4_i32_69 : BitVec 32 := 4#32
  let c0_i32_70 : BitVec 32 := 0#32
  let v167 : BitVec 1 := Scalar.cmpi .eq c4_i32_69 c0_i32_70
  let c1_i32_71 : BitVec 32 := 1#32
  let v168 : BitVec 32 := Scalar.select v167 c1_i32_71 c4_i32_69
  let v169 : BitVec 32 := Scalar.remsi c1_i32_65 v168
  let c0_i32_73 : BitVec 32 := 0#32
  let v171 : BitVec 1 := Scalar.cmpi .slt v169 c0_i32_73
  let c0_i32_74 : BitVec 32 := 0#32
  let v172 : BitVec 1 := Scalar.cmpi .slt v168 c0_i32_74
  let v173 : BitVec 1 := Scalar.xori v171 v172
  let c0_i32_72 : BitVec 32 := 0#32
  let v170 : BitVec 1 := Scalar.cmpi .ne v169 c0_i32_72
  let v174 : BitVec 1 := Scalar.andi v173 v170
  let v175 : BitVec 32 := Scalar.addi v169 v168
  let v176 : BitVec 32 := Scalar.select v174 v175 v169
  let c32_i32_75 : BitVec 32 := 32#32
  let v177 : BitVec 32 := Scalar.muli v176 c32_i32_75
  v177
def k0_mult6 : BitVec 32 :=
  let c2_i32 : BitVec 32 := 2#32
  let c32_i32_88 : BitVec 32 := 32#32
  let v221 : BitVec 32 := Scalar.muli c2_i32 c32_i32_88
  v221
def k0_mult7 : BitVec 32 :=
  let c2_i32 : BitVec 32 := 2#32
  let c4_i32_91 : BitVec 32 := 4#32
  let c0_i32_92 : BitVec 32 := 0#32
  let v231 : BitVec 1 := Scalar.cmpi .eq c4_i32_91 c0_i32_92
  let c1_i32_93 : BitVec 32 := 1#32
  let v232 : BitVec 32 := Scalar.select v231 c1_i32_93 c4_i32_91
  let v233 : BitVec 32 := Scalar.remsi c2_i32 v232
  let c0_i32_95 : BitVec 32 := 0#32
  let v235 : BitVec 1 := Scalar.cmpi .slt v233 c0_i32_95
  let c0_i32_96 : BitVec 32 := 0#32
  let v236 : BitVec 1 := Scalar.cmpi .slt v232 c0_i32_96
  let v237 : BitVec 1 := Scalar.xori v235 v236
  let c0_i32_94 : BitVec 32 := 0#32
  let v234 : BitVec 1 := Scalar.cmpi .ne v233 c0_i32_94
  let v238 : BitVec 1 := Scalar.andi v237 v234
  let v239 : BitVec 32 := Scalar.addi v233 v232
  let v240 : BitVec 32 := Scalar.select v238 v239 v233
  let c32_i32_97 : BitVec 32 := 32#32
  let v241 : BitVec 32 := Scalar.muli v240 c32_i32_97
  v241
def k0_mult8 : BitVec 32 :=
  let c3_i32 : BitVec 32 := 3#32
  let c32_i32_110 : BitVec 32 := 32#32
  let v285 : BitVec 32 := Scalar.muli c3_i32 c32_i32_110
  v285
def k0_mult9 : BitVec 32 :=
  let c3_i32 : BitVec 32 := 3#32
  let c4_i32_113 : BitVec 32 := 4#32
  let c0_i32_114 : BitVec 32 := 0#32
  let v295 : BitVec 1 := Scalar.cmpi .eq c4_i32_113 c0_i32_114
  let c1_i32_115 : BitVec 32 := 1#32
  let v296 : BitVec 32 := Scalar.select v295 c1_i32_115 c4_i32_113
  let v297 : BitVec 32 := Scalar.remsi c3_i32 v296
  let c0_i32_117 : BitVec 32 := 0#32
  let v299 : BitVec 1 := Scalar.cmpi .slt v297 c0_i32_117
  let c0_i32_118 : BitVec 32 := 0#32
  let v300 : BitVec 1 := Scalar.cmpi .slt v296 c0_i32_118
  let v301 : BitVec 1 := Scalar.xori v299 v300
  let c0_i32_116 : BitVec 32 := 0#32
  let v298 : BitVec 1 := Scalar.cmpi .ne v297 c0_i32_116
  let v302 : BitVec 1 := Scalar.andi v301 v298
  let v303 : BitVec 32 := Scalar.addi v297 v296
  let v304 : BitVec 32 := Scalar.select v302 v303 v297
  let c32_i32_119 : BitVec 32 := 32#32
  let v305 : BitVec 32 := Scalar.muli v304 c32_i32_119
  v305
def k0_mult10 : BitVec 32 :=
  let c4_i32_132 : BitVec 32 := 4#32
  let c32_i32_133 : BitVec 32 := 32#32
  let v349 : BitVec 32 := Scalar.muli c4_i32_132 c32_i32_133
  v349
def k0_mult11 : BitVec 32 :=
  let c4_i32_132 : BitVec 32 := 4#32
  let c4_i32_136 : BitVec 32 := 4#32
  let c0_i32_137 : BitVec 32 := 0#32
  let v359 : BitVec 1 := Scalar.cmpi .eq c4_i32_136 c0_i32_137
  let c1_i32_138 : BitVec 32 := 1#32
  let v360 : BitVec 32 := Scalar.select v359 c1_i32_138 c4_i32_136
  let v361 : BitVec 32 := Scalar.remsi c4_i32_132 v360
  let c0_i32_140 : BitVec 32 := 0#32
  let v363 : BitVec 1 := Scalar.cmpi .slt v361 c0_i32_140
  let c0_i32_141 : BitVec 32 := 0#32
  let v364 : BitVec 1 := Scalar.cmpi .slt v360 c0_i32_141
  let v365 : BitVec 1 := Scalar.xori v363 v364
  let c0_i32_139 : BitVec 32 := 0#32
  let v362 : BitVec 1 := Scalar.cmpi .ne v361 c0_i32_139
  let v366 : BitVec 1 := Scalar.andi v365 v362
  let v367 : BitVec 32 := Scalar.addi v361 v360
  let v368 : BitVec 32 := Scalar.select v366 v367 v361
  let c32_i32_142 : BitVec 32 := 32#32
  let v369 : BitVec 32 := Scalar.muli v368 c32_i32_142
  v369
def k0_mult12 : BitVec 32 :=
  let c5_i32 : BitVec 32 := 5#32
  let c32_i32_155 : BitVec 32 := 32#32
  let v413 : BitVec 32 := Scalar.muli c5_i32 c32_i32_155
  v413
def k0_mult13 : BitVec 32 :=
  let c5_i32 : BitVec 32 := 5#32
  let c4_i32_158 : BitVec 32 := 4#32
  let c0_i32_159 : BitVec 32 := 0#32
  let v423 : BitVec 1 := Scalar.cmpi .eq c4_i32_158 c0_i32_159
  let c1_i32_160 : BitVec 32 := 1#32
  let v424 : BitVec 32 := Scalar.select v423 c1_i32_160 c4_i32_158
  let v425 : BitVec 32 := Scalar.remsi c5_i32 v424
  let c0_i32_162 : BitVec 32 := 0#32
  let v427 : BitVec 1 := Scalar.cmpi .slt v425 c0_i32_162
  let c0_i32_163 : BitVec 32 := 0#32
  let v428 : BitVec 1 := Scalar.cmpi .slt v424 c0_i32_163
  let v429 : BitVec 1 := Scalar.xori v427 v428
  let c0_i32_161 : BitVec 32 := 0#32
  let v426 : BitVec 1 := Scalar.cmpi .ne v425 c0_i32_161
  let v430 : BitVec 1 := Scalar.andi v429 v426
  let v431 : BitVec 32 := Scalar.addi v425 v424
  let v432 : BitVec 32 := Scalar.select v430 v431 v425
  let c32_i32_164 : BitVec 32 := 32#32
  let v433 : BitVec 32 := Scalar.muli v432 c32_i32_164
  v433
def k0_mult14 : BitVec 32 :=
  let c6_i32 : BitVec 32 := 6#32
  let c32_i32_177 : BitVec 32 := 32#32
  let v477 : BitVec 32 := Scalar.muli c6_i32 c32_i32_177
  v477
def k0_mult15 : BitVec 32 :=
  let c6_i32 : BitVec 32 := 6#32
  let c4_i32_180 : BitVec 32 := 4#32
  let c0_i32_181 : BitVec 32 := 0#32
  let v487 : BitVec 1 := Scalar.cmpi .eq c4_i32_180 c0_i32_181
  let c1_i32_182 : BitVec 32 := 1#32
  let v488 : BitVec 32 := Scalar.select v487 c1_i32_182 c4_i32_180
  let v489 : BitVec 32 := Scalar.remsi c6_i32 v488
  let c0_i32_184 : BitVec 32 := 0#32
  let v491 : BitVec 1 := Scalar.cmpi .slt v489 c0_i32_184
  let c0_i32_185 : BitVec 32 := 0#32
  let v492 : BitVec 1 := Scalar.cmpi .slt v488 c0_i32_185
  let v493 : BitVec 1 := Scalar.xori v491 v492
  let c0_i32_183 : BitVec 32 := 0#32
  let v490 : BitVec 1 := Scalar.cmpi .ne v489 c0_i32_183
  let v494 : BitVec 1 := Scalar.andi v493 v490
  let v495 : BitVec 32 := Scalar.addi v489 v488
  let v496 : BitVec 32 := Scalar.select v494 v495 v489
  let c32_i32_186 : BitVec 32 := 32#32
  let v497 : BitVec 32 := Scalar.muli v496 c32_i32_186
  v497
def k0_mult16 : BitVec 32 :=
  let c7_i32 : BitVec 32 := 7#32
  let c32_i32_199 : BitVec 32 := 32#32
  let v541 : BitVec 32 := Scalar.muli c7_i32 c32_i32_199
  v541
def k0_mult17 : BitVec 32 :=
  let c7_i32 : BitVec 32 := 7#32
  let c4_i32_202 : BitVec 32 := 4#32
  let c0_i32_203 : BitVec 32 := 0#32
  let v551 : BitVec 1 := Scalar.cmpi .eq c4_i32_202 c0_i32_203
  let c1_i32_204 : BitVec 32 := 1#32
  let v552 : BitVec 32 := Scalar.select v551 c1_i32_204 c4_i32_202
  let v553 : BitVec 32 := Scalar.remsi c7_i32 v552
  let c0_i32_206 : BitVec 32 := 0#32
  let v555 : BitVec 1 := Scalar.cmpi .slt v553 c0_i32_206
  let c0_i32_207 : BitVec 32 := 0#32
  let v556 : BitVec 1 := Scalar.cmpi .slt v552 c0_i32_207
  let v557 : BitVec 1 := Scalar.xori v555 v556
  let c0_i32_205 : BitVec 32 := 0#32
  let v554 : BitVec 1 := Scalar.cmpi .ne v553 c0_i32_205
  let v558 : BitVec 1 := Scalar.andi v557 v554
  let v559 : BitVec 32 := Scalar.addi v553 v552
  let v560 : BitVec 32 := Scalar.select v558 v559 v553
  let c32_i32_208 : BitVec 32 := 32#32
  let v561 : BitVec 32 := Scalar.muli v560 c32_i32_208
  v561
def k0_mult18 : BitVec 32 :=
  let c8_i32 : BitVec 32 := 8#32
  let c32_i32_221 : BitVec 32 := 32#32
  let v605 : BitVec 32 := Scalar.muli c8_i32 c32_i32_221
  v605
def k0_mult19 : BitVec 32 :=
  let c8_i32 : BitVec 32 := 8#32
  let c4_i32_224 : BitVec 32 := 4#32
  let c0_i32_225 : BitVec 32 := 0#32
  let v615 : BitVec 1 := Scalar.cmpi .eq c4_i32_224 c0_i32_225
  let c1_i32_226 : BitVec 32 := 1#32
  let v616 : BitVec 32 := Scalar.select v615 c1_i32_226 c4_i32_224
  let v617 : BitVec 32 := Scalar.remsi c8_i32 v616
  let c0_i32_228 : BitVec 32 := 0#32
  let v619 : BitVec 1 := Scalar.cmpi .slt v617 c0_i32_228
  let c0_i32_229 : BitVec 32 := 0#32
  let v620 : BitVec 1 := Scalar.cmpi .slt v616 c0_i32_229
  let v621 : BitVec 1 := Scalar.xori v619 v620
  let c0_i32_227 : BitVec 32 := 0#32
  let v618 : BitVec 1 := Scalar.cmpi .ne v617 c0_i32_227
  let v622 : BitVec 1 := Scalar.andi v621 v618
  let v623 : BitVec 32 := Scalar.addi v617 v616
  let v624 : BitVec 32 := Scalar.select v622 v623 v617
  let c32_i32_230 : BitVec 32 := 32#32
  let v625 : BitVec 32 := Scalar.muli v624 c32_i32_230
  v625
def k0_mult20 : BitVec 32 :=
  let c9_i32 : BitVec 32 := 9#32
  let c32_i32_243 : BitVec 32 := 32#32
  let v669 : BitVec 32 := Scalar.muli c9_i32 c32_i32_243
  v669
def k0_mult21 : BitVec 32 :=
  let c9_i32 : BitVec 32 := 9#32
  let c4_i32_246 : BitVec 32 := 4#32
  let c0_i32_247 : BitVec 32 := 0#32
  let v679 : BitVec 1 := Scalar.cmpi .eq c4_i32_246 c0_i32_247
  let c1_i32_248 : BitVec 32 := 1#32
  let v680 : BitVec 32 := Scalar.select v679 c1_i32_248 c4_i32_246
  let v681 : BitVec 32 := Scalar.remsi c9_i32 v680
  let c0_i32_250 : BitVec 32 := 0#32
  let v683 : BitVec 1 := Scalar.cmpi .slt v681 c0_i32_250
  let c0_i32_251 : BitVec 32 := 0#32
  let v684 : BitVec 1 := Scalar.cmpi .slt v680 c0_i32_251
  let v685 : BitVec 1 := Scalar.xori v683 v684
  let c0_i32_249 : BitVec 32 := 0#32
  let v682 : BitVec 1 := Scalar.cmpi .ne v681 c0_i32_249
  let v686 : BitVec 1 := Scalar.andi v685 v682
  let v687 : BitVec 32 := Scalar.addi v681 v680
  let v688 : BitVec 32 := Scalar.select v686 v687 v681
  let c32_i32_252 : BitVec 32 := 32#32
  let v689 : BitVec 32 := Scalar.muli v688 c32_i32_252
  v689
def k0_mult22 : BitVec 32 :=
  let c10_i32 : BitVec 32 := 10#32
  let c32_i32_265 : BitVec 32 := 32#32
  let v733 : BitVec 32 := Scalar.muli c10_i32 c32_i32_265
  v733
def k0_mult23 : BitVec 32 :=
  let c10_i32 : BitVec 32 := 10#32
  let c4_i32_268 : BitVec 32 := 4#32
  let c0_i32_269 : BitVec 32 := 0#32
  let v743 : BitVec 1 := Scalar.cmpi .eq c4_i32_268 c0_i32_269
  let c1_i32_270 : BitVec 32 := 1#32
  let v744 : BitVec 32 := Scalar.select v743 c1_i32_270 c4_i32_268
  let v745 : BitVec 32 := Scalar.remsi c10_i32 v744
  let c0_i32_272 : BitVec 32 := 0#32
  let v747 : BitVec 1 := Scalar.cmpi .slt v745 c0_i32_272
  let c0_i32_273 : BitVec 32 := 0#32
  let v748 : BitVec 1 := Scalar.cmpi .slt v744 c0_i32_273
  let v749 : BitVec 1 := Scalar.xori v747 v748
  let c0_i32_271 : BitVec 32 := 0#32
  let v746 : BitVec 1 := Scalar.cmpi .ne v745 c0_i32_271
  let v750 : BitVec 1 := Scalar.andi v749 v746
  let v751 : BitVec 32 := Scalar.addi v745 v744
  let v752 : BitVec 32 := Scalar.select v750 v751 v745
  let c32_i32_274 : BitVec 32 := 32#32
  let v753 : BitVec 32 := Scalar.muli v752 c32_i32_274
  v753
def k0_mult24 : BitVec 32 :=
  let c11_i32 : BitVec 32 := 11#32
  let c32_i32_287 : BitVec 32 := 32#32
  let v797 : BitVec 32 := Scalar.muli c11_i32 c32_i32_287
  v797
def k0_mult25 : BitVec 32 :=
  let c11_i32 : BitVec 32 := 11#32
  let c4_i32_290 : BitVec 32 := 4#32
  let c0_i32_291 : BitVec 32 := 0#32
  let v807 : BitVec 1 := Scalar.cmpi .eq c4_i32_290 c0_i32_291
  let c1_i32_292 : BitVec 32 := 1#32
  let v808 : BitVec 32 := Scalar.select v807 c1_i32_292 c4_i32_290
  let v809 : BitVec 32 := Scalar.remsi c11_i32 v808
  let c0_i32_294 : BitVec 32 := 0#32
  let v811 : BitVec 1 := Scalar.cmpi .slt v809 c0_i32_294
  let c0_i32_295 : BitVec 32 := 0#32
  let v812 : BitVec 1 := Scalar.cmpi .slt v808 c0_i32_295
  let v813 : BitVec 1 := Scalar.xori v811 v812
  let c0_i32_293 : BitVec 32 := 0#32
  let v810 : BitVec 1 := Scalar.cmpi .ne v809 c0_i32_293
  let v814 : BitVec 1 := Scalar.andi v813 v810
  let v815 : BitVec 32 := Scalar.addi v809 v808
  let v816 : BitVec 32 := Scalar.select v814 v815 v809
  let c32_i32_296 : BitVec 32 := 32#32
  let v817 : BitVec 32 := Scalar.muli v816 c32_i32_296
  v817
def k0_mult26 : BitVec 32 :=
  let c12_i32 : BitVec 32 := 12#32
  let c32_i32_309 : BitVec 32 := 32#32
  let v861 : BitVec 32 := Scalar.muli c12_i32 c32_i32_309
  v861
def k0_mult27 : BitVec 32 :=
  let c12_i32 : BitVec 32 := 12#32
  let c4_i32_312 : BitVec 32 := 4#32
  let c0_i32_313 : BitVec 32 := 0#32
  let v871 : BitVec 1 := Scalar.cmpi .eq c4_i32_312 c0_i32_313
  let c1_i32_314 : BitVec 32 := 1#32
  let v872 : BitVec 32 := Scalar.select v871 c1_i32_314 c4_i32_312
  let v873 : BitVec 32 := Scalar.remsi c12_i32 v872
  let c0_i32_316 : BitVec 32 := 0#32
  let v875 : BitVec 1 := Scalar.cmpi .slt v873 c0_i32_316
  let c0_i32_317 : BitVec 32 := 0#32
  let v876 : BitVec 1 := Scalar.cmpi .slt v872 c0_i32_317
  let v877 : BitVec 1 := Scalar.xori v875 v876
  let c0_i32_315 : BitVec 32 := 0#32
  let v874 : BitVec 1 := Scalar.cmpi .ne v873 c0_i32_315
  let v878 : BitVec 1 := Scalar.andi v877 v874
  let v879 : BitVec 32 := Scalar.addi v873 v872
  let v880 : BitVec 32 := Scalar.select v878 v879 v873
  let c32_i32_318 : BitVec 32 := 32#32
  let v881 : BitVec 32 := Scalar.muli v880 c32_i32_318
  v881
def k0_mult28 : BitVec 32 :=
  let c13_i32 : BitVec 32 := 13#32
  let c32_i32_331 : BitVec 32 := 32#32
  let v925 : BitVec 32 := Scalar.muli c13_i32 c32_i32_331
  v925
def k0_mult29 : BitVec 32 :=
  let c13_i32 : BitVec 32 := 13#32
  let c4_i32_334 : BitVec 32 := 4#32
  let c0_i32_335 : BitVec 32 := 0#32
  let v935 : BitVec 1 := Scalar.cmpi .eq c4_i32_334 c0_i32_335
  let c1_i32_336 : BitVec 32 := 1#32
  let v936 : BitVec 32 := Scalar.select v935 c1_i32_336 c4_i32_334
  let v937 : BitVec 32 := Scalar.remsi c13_i32 v936
  let c0_i32_338 : BitVec 32 := 0#32
  let v939 : BitVec 1 := Scalar.cmpi .slt v937 c0_i32_338
  let c0_i32_339 : BitVec 32 := 0#32
  let v940 : BitVec 1 := Scalar.cmpi .slt v936 c0_i32_339
  let v941 : BitVec 1 := Scalar.xori v939 v940
  let c0_i32_337 : BitVec 32 := 0#32
  let v938 : BitVec 1 := Scalar.cmpi .ne v937 c0_i32_337
  let v942 : BitVec 1 := Scalar.andi v941 v938
  let v943 : BitVec 32 := Scalar.addi v937 v936
  let v944 : BitVec 32 := Scalar.select v942 v943 v937
  let c32_i32_340 : BitVec 32 := 32#32
  let v945 : BitVec 32 := Scalar.muli v944 c32_i32_340
  v945
def k0_mult30 : BitVec 32 :=
  let c14_i32 : BitVec 32 := 14#32
  let c32_i32_353 : BitVec 32 := 32#32
  let v989 : BitVec 32 := Scalar.muli c14_i32 c32_i32_353
  v989
def k0_mult31 : BitVec 32 :=
  let c14_i32 : BitVec 32 := 14#32
  let c4_i32_356 : BitVec 32 := 4#32
  let c0_i32_357 : BitVec 32 := 0#32
  let v999 : BitVec 1 := Scalar.cmpi .eq c4_i32_356 c0_i32_357
  let c1_i32_358 : BitVec 32 := 1#32
  let v1000 : BitVec 32 := Scalar.select v999 c1_i32_358 c4_i32_356
  let v1001 : BitVec 32 := Scalar.remsi c14_i32 v1000
  let c0_i32_360 : BitVec 32 := 0#32
  let v1003 : BitVec 1 := Scalar.cmpi .slt v1001 c0_i32_360
  let c0_i32_361 : BitVec 32 := 0#32
  let v1004 : BitVec 1 := Scalar.cmpi .slt v1000 c0_i32_361
  let v1005 : BitVec 1 := Scalar.xori v1003 v1004
  let c0_i32_359 : BitVec 32 := 0#32
  let v1002 : BitVec 1 := Scalar.cmpi .ne v1001 c0_i32_359
  let v1006 : BitVec 1 := Scalar.andi v1005 v1002
  let v1007 : BitVec 32 := Scalar.addi v1001 v1000
  let v1008 : BitVec 32 := Scalar.select v1006 v1007 v1001
  let c32_i32_362 : BitVec 32 := 32#32
  let v1009 : BitVec 32 := Scalar.muli v1008 c32_i32_362
  v1009
def k0_mult32 : BitVec 32 :=
  let c15_i32 : BitVec 32 := 15#32
  let c32_i32_375 : BitVec 32 := 32#32
  let v1053 : BitVec 32 := Scalar.muli c15_i32 c32_i32_375
  v1053
def k0_mult33 : BitVec 32 :=
  let c15_i32 : BitVec 32 := 15#32
  let c4_i32_378 : BitVec 32 := 4#32
  let c0_i32_379 : BitVec 32 := 0#32
  let v1063 : BitVec 1 := Scalar.cmpi .eq c4_i32_378 c0_i32_379
  let c1_i32_380 : BitVec 32 := 1#32
  let v1064 : BitVec 32 := Scalar.select v1063 c1_i32_380 c4_i32_378
  let v1065 : BitVec 32 := Scalar.remsi c15_i32 v1064
  let c0_i32_382 : BitVec 32 := 0#32
  let v1067 : BitVec 1 := Scalar.cmpi .slt v1065 c0_i32_382
  let c0_i32_383 : BitVec 32 := 0#32
  let v1068 : BitVec 1 := Scalar.cmpi .slt v1064 c0_i32_383
  let v1069 : BitVec 1 := Scalar.xori v1067 v1068
  let c0_i32_381 : BitVec 32 := 0#32
  let v1066 : BitVec 1 := Scalar.cmpi .ne v1065 c0_i32_381
  let v1070 : BitVec 1 := Scalar.andi v1069 v1066
  let v1071 : BitVec 32 := Scalar.addi v1065 v1064
  let v1072 : BitVec 32 := Scalar.select v1070 v1071 v1065
  let c32_i32_384 : BitVec 32 := 32#32
  let v1073 : BitVec 32 := Scalar.muli v1072 c32_i32_384
  v1073
def k0_mult34 : BitVec 32 :=
  let c0_i32_397 : BitVec 32 := 0#32
  let c32_i32_398 : BitVec 32 := 32#32
  let v1117 : BitVec 32 := Scalar.muli c0_i32_397 c32_i32_398
  v1117
def k0_off6 (c0_i32_397 : BitVec 32) : Fin 3 → Nat :=
  let c1_399 : Index := 1#32
  let c32_i32_398 : BitVec 32 := 32#32
  let v1117 : BitVec 32 := Scalar.muli c0_i32_397 c32_i32_398
  let v1118 : BitVec 32 := v1117
  let v1119 : Index := Scalar.indexCast v1118
  let c0_400 : Index := 0#32
  ![1, v1119.toNat, 0]
def k0_mult35 : BitVec 32 :=
  let c0_i32_397 : BitVec 32 := 0#32
  let c4_i32_401 : BitVec 32 := 4#32
  let c0_i32_402 : BitVec 32 := 0#32
  let v1127 : BitVec 1 := Scalar.cmpi .eq c4_i32_401 c0_i32_402
  let c1_i32_403 : BitVec 32 := 1#32
  let v1128 : BitVec 32 := Scalar.select v1127 c1_i32_403 c4_i32_401
  let v1129 : BitVec 32 := Scalar.remsi c0_i32_397 v1128
  let c0_i32_405 : BitVec 32 := 0#32
  let v1131 : BitVec 1 := Scalar.cmpi .slt v1129 c0_i32_405
  let c0_i32_406 : BitVec 32 := 0#32
  let v1132 : BitVec 1 := Scalar.cmpi .slt v1128 c0_i32_406
  let v1133 : BitVec 1 := Scalar.xori v1131 v1132
  let c0_i32_404 : BitVec 32 := 0#32
  let v1130 : BitVec 1 := Scalar.cmpi .ne v1129 c0_i32_404
  let v1134 : BitVec 1 := Scalar.andi v1133 v1130
  let v1135 : BitVec 32 := Scalar.addi v1129 v1128
  let v1136 : BitVec 32 := Scalar.select v1134 v1135 v1129
  let c32_i32_407 : BitVec 32 := 32#32
  let v1137 : BitVec 32 := Scalar.muli v1136 c32_i32_407
  v1137
def k0_off7 (c0_i32_397 : BitVec 32) : Fin 3 → Nat :=
  let c1_418 : Index := 1#32
  let c32_i32_398 : BitVec 32 := 32#32
  let v1117 : BitVec 32 := Scalar.muli c0_i32_397 c32_i32_398
  let v1118 : BitVec 32 := v1117
  let v1177 : Index := Scalar.indexCast v1118
  let c0_419 : Index := 0#32
  ![1, v1177.toNat, 0]
def k0_mult36 : BitVec 32 :=
  let c1_i32_420 : BitVec 32 := 1#32
  let c32_i32_421 : BitVec 32 := 32#32
  let v1181 : BitVec 32 := Scalar.muli c1_i32_420 c32_i32_421
  v1181
def k0_mult37 : BitVec 32 :=
  let c1_i32_420 : BitVec 32 := 1#32
  let c4_i32_424 : BitVec 32 := 4#32
  let c0_i32_425 : BitVec 32 := 0#32
  let v1191 : BitVec 1 := Scalar.cmpi .eq c4_i32_424 c0_i32_425
  let c1_i32_426 : BitVec 32 := 1#32
  let v1192 : BitVec 32 := Scalar.select v1191 c1_i32_426 c4_i32_424
  let v1193 : BitVec 32 := Scalar.remsi c1_i32_420 v1192
  let c0_i32_428 : BitVec 32 := 0#32
  let v1195 : BitVec 1 := Scalar.cmpi .slt v1193 c0_i32_428
  let c0_i32_429 : BitVec 32 := 0#32
  let v1196 : BitVec 1 := Scalar.cmpi .slt v1192 c0_i32_429
  let v1197 : BitVec 1 := Scalar.xori v1195 v1196
  let c0_i32_427 : BitVec 32 := 0#32
  let v1194 : BitVec 1 := Scalar.cmpi .ne v1193 c0_i32_427
  let v1198 : BitVec 1 := Scalar.andi v1197 v1194
  let v1199 : BitVec 32 := Scalar.addi v1193 v1192
  let v1200 : BitVec 32 := Scalar.select v1198 v1199 v1193
  let c32_i32_430 : BitVec 32 := 32#32
  let v1201 : BitVec 32 := Scalar.muli v1200 c32_i32_430
  v1201
def k0_mult38 : BitVec 32 :=
  let c2_i32_443 : BitVec 32 := 2#32
  let c32_i32_444 : BitVec 32 := 32#32
  let v1245 : BitVec 32 := Scalar.muli c2_i32_443 c32_i32_444
  v1245
def k0_mult39 : BitVec 32 :=
  let c2_i32_443 : BitVec 32 := 2#32
  let c4_i32_447 : BitVec 32 := 4#32
  let c0_i32_448 : BitVec 32 := 0#32
  let v1255 : BitVec 1 := Scalar.cmpi .eq c4_i32_447 c0_i32_448
  let c1_i32_449 : BitVec 32 := 1#32
  let v1256 : BitVec 32 := Scalar.select v1255 c1_i32_449 c4_i32_447
  let v1257 : BitVec 32 := Scalar.remsi c2_i32_443 v1256
  let c0_i32_451 : BitVec 32 := 0#32
  let v1259 : BitVec 1 := Scalar.cmpi .slt v1257 c0_i32_451
  let c0_i32_452 : BitVec 32 := 0#32
  let v1260 : BitVec 1 := Scalar.cmpi .slt v1256 c0_i32_452
  let v1261 : BitVec 1 := Scalar.xori v1259 v1260
  let c0_i32_450 : BitVec 32 := 0#32
  let v1258 : BitVec 1 := Scalar.cmpi .ne v1257 c0_i32_450
  let v1262 : BitVec 1 := Scalar.andi v1261 v1258
  let v1263 : BitVec 32 := Scalar.addi v1257 v1256
  let v1264 : BitVec 32 := Scalar.select v1262 v1263 v1257
  let c32_i32_453 : BitVec 32 := 32#32
  let v1265 : BitVec 32 := Scalar.muli v1264 c32_i32_453
  v1265
def k0_mult40 : BitVec 32 :=
  let c3_i32_466 : BitVec 32 := 3#32
  let c32_i32_467 : BitVec 32 := 32#32
  let v1309 : BitVec 32 := Scalar.muli c3_i32_466 c32_i32_467
  v1309
def k0_mult41 : BitVec 32 :=
  let c3_i32_466 : BitVec 32 := 3#32
  let c4_i32_470 : BitVec 32 := 4#32
  let c0_i32_471 : BitVec 32 := 0#32
  let v1319 : BitVec 1 := Scalar.cmpi .eq c4_i32_470 c0_i32_471
  let c1_i32_472 : BitVec 32 := 1#32
  let v1320 : BitVec 32 := Scalar.select v1319 c1_i32_472 c4_i32_470
  let v1321 : BitVec 32 := Scalar.remsi c3_i32_466 v1320
  let c0_i32_474 : BitVec 32 := 0#32
  let v1323 : BitVec 1 := Scalar.cmpi .slt v1321 c0_i32_474
  let c0_i32_475 : BitVec 32 := 0#32
  let v1324 : BitVec 1 := Scalar.cmpi .slt v1320 c0_i32_475
  let v1325 : BitVec 1 := Scalar.xori v1323 v1324
  let c0_i32_473 : BitVec 32 := 0#32
  let v1322 : BitVec 1 := Scalar.cmpi .ne v1321 c0_i32_473
  let v1326 : BitVec 1 := Scalar.andi v1325 v1322
  let v1327 : BitVec 32 := Scalar.addi v1321 v1320
  let v1328 : BitVec 32 := Scalar.select v1326 v1327 v1321
  let c32_i32_476 : BitVec 32 := 32#32
  let v1329 : BitVec 32 := Scalar.muli v1328 c32_i32_476
  v1329
def k0_mult42 : BitVec 32 :=
  let c4_i32_489 : BitVec 32 := 4#32
  let c32_i32_490 : BitVec 32 := 32#32
  let v1373 : BitVec 32 := Scalar.muli c4_i32_489 c32_i32_490
  v1373
def k0_mult43 : BitVec 32 :=
  let c4_i32_489 : BitVec 32 := 4#32
  let c4_i32_493 : BitVec 32 := 4#32
  let c0_i32_494 : BitVec 32 := 0#32
  let v1383 : BitVec 1 := Scalar.cmpi .eq c4_i32_493 c0_i32_494
  let c1_i32_495 : BitVec 32 := 1#32
  let v1384 : BitVec 32 := Scalar.select v1383 c1_i32_495 c4_i32_493
  let v1385 : BitVec 32 := Scalar.remsi c4_i32_489 v1384
  let c0_i32_497 : BitVec 32 := 0#32
  let v1387 : BitVec 1 := Scalar.cmpi .slt v1385 c0_i32_497
  let c0_i32_498 : BitVec 32 := 0#32
  let v1388 : BitVec 1 := Scalar.cmpi .slt v1384 c0_i32_498
  let v1389 : BitVec 1 := Scalar.xori v1387 v1388
  let c0_i32_496 : BitVec 32 := 0#32
  let v1386 : BitVec 1 := Scalar.cmpi .ne v1385 c0_i32_496
  let v1390 : BitVec 1 := Scalar.andi v1389 v1386
  let v1391 : BitVec 32 := Scalar.addi v1385 v1384
  let v1392 : BitVec 32 := Scalar.select v1390 v1391 v1385
  let c32_i32_499 : BitVec 32 := 32#32
  let v1393 : BitVec 32 := Scalar.muli v1392 c32_i32_499
  v1393
def k0_mult44 : BitVec 32 :=
  let c5_i32_512 : BitVec 32 := 5#32
  let c32_i32_513 : BitVec 32 := 32#32
  let v1437 : BitVec 32 := Scalar.muli c5_i32_512 c32_i32_513
  v1437
def k0_mult45 : BitVec 32 :=
  let c5_i32_512 : BitVec 32 := 5#32
  let c4_i32_516 : BitVec 32 := 4#32
  let c0_i32_517 : BitVec 32 := 0#32
  let v1447 : BitVec 1 := Scalar.cmpi .eq c4_i32_516 c0_i32_517
  let c1_i32_518 : BitVec 32 := 1#32
  let v1448 : BitVec 32 := Scalar.select v1447 c1_i32_518 c4_i32_516
  let v1449 : BitVec 32 := Scalar.remsi c5_i32_512 v1448
  let c0_i32_520 : BitVec 32 := 0#32
  let v1451 : BitVec 1 := Scalar.cmpi .slt v1449 c0_i32_520
  let c0_i32_521 : BitVec 32 := 0#32
  let v1452 : BitVec 1 := Scalar.cmpi .slt v1448 c0_i32_521
  let v1453 : BitVec 1 := Scalar.xori v1451 v1452
  let c0_i32_519 : BitVec 32 := 0#32
  let v1450 : BitVec 1 := Scalar.cmpi .ne v1449 c0_i32_519
  let v1454 : BitVec 1 := Scalar.andi v1453 v1450
  let v1455 : BitVec 32 := Scalar.addi v1449 v1448
  let v1456 : BitVec 32 := Scalar.select v1454 v1455 v1449
  let c32_i32_522 : BitVec 32 := 32#32
  let v1457 : BitVec 32 := Scalar.muli v1456 c32_i32_522
  v1457
def k0_mult46 : BitVec 32 :=
  let c6_i32_535 : BitVec 32 := 6#32
  let c32_i32_536 : BitVec 32 := 32#32
  let v1501 : BitVec 32 := Scalar.muli c6_i32_535 c32_i32_536
  v1501
def k0_mult47 : BitVec 32 :=
  let c6_i32_535 : BitVec 32 := 6#32
  let c4_i32_539 : BitVec 32 := 4#32
  let c0_i32_540 : BitVec 32 := 0#32
  let v1511 : BitVec 1 := Scalar.cmpi .eq c4_i32_539 c0_i32_540
  let c1_i32_541 : BitVec 32 := 1#32
  let v1512 : BitVec 32 := Scalar.select v1511 c1_i32_541 c4_i32_539
  let v1513 : BitVec 32 := Scalar.remsi c6_i32_535 v1512
  let c0_i32_543 : BitVec 32 := 0#32
  let v1515 : BitVec 1 := Scalar.cmpi .slt v1513 c0_i32_543
  let c0_i32_544 : BitVec 32 := 0#32
  let v1516 : BitVec 1 := Scalar.cmpi .slt v1512 c0_i32_544
  let v1517 : BitVec 1 := Scalar.xori v1515 v1516
  let c0_i32_542 : BitVec 32 := 0#32
  let v1514 : BitVec 1 := Scalar.cmpi .ne v1513 c0_i32_542
  let v1518 : BitVec 1 := Scalar.andi v1517 v1514
  let v1519 : BitVec 32 := Scalar.addi v1513 v1512
  let v1520 : BitVec 32 := Scalar.select v1518 v1519 v1513
  let c32_i32_545 : BitVec 32 := 32#32
  let v1521 : BitVec 32 := Scalar.muli v1520 c32_i32_545
  v1521
def k0_mult48 : BitVec 32 :=
  let c7_i32_558 : BitVec 32 := 7#32
  let c32_i32_559 : BitVec 32 := 32#32
  let v1565 : BitVec 32 := Scalar.muli c7_i32_558 c32_i32_559
  v1565
def k0_mult49 : BitVec 32 :=
  let c7_i32_558 : BitVec 32 := 7#32
  let c4_i32_562 : BitVec 32 := 4#32
  let c0_i32_563 : BitVec 32 := 0#32
  let v1575 : BitVec 1 := Scalar.cmpi .eq c4_i32_562 c0_i32_563
  let c1_i32_564 : BitVec 32 := 1#32
  let v1576 : BitVec 32 := Scalar.select v1575 c1_i32_564 c4_i32_562
  let v1577 : BitVec 32 := Scalar.remsi c7_i32_558 v1576
  let c0_i32_566 : BitVec 32 := 0#32
  let v1579 : BitVec 1 := Scalar.cmpi .slt v1577 c0_i32_566
  let c0_i32_567 : BitVec 32 := 0#32
  let v1580 : BitVec 1 := Scalar.cmpi .slt v1576 c0_i32_567
  let v1581 : BitVec 1 := Scalar.xori v1579 v1580
  let c0_i32_565 : BitVec 32 := 0#32
  let v1578 : BitVec 1 := Scalar.cmpi .ne v1577 c0_i32_565
  let v1582 : BitVec 1 := Scalar.andi v1581 v1578
  let v1583 : BitVec 32 := Scalar.addi v1577 v1576
  let v1584 : BitVec 32 := Scalar.select v1582 v1583 v1577
  let c32_i32_568 : BitVec 32 := 32#32
  let v1585 : BitVec 32 := Scalar.muli v1584 c32_i32_568
  v1585
def k0_mult50 : BitVec 32 :=
  let c8_i32_581 : BitVec 32 := 8#32
  let c32_i32_582 : BitVec 32 := 32#32
  let v1629 : BitVec 32 := Scalar.muli c8_i32_581 c32_i32_582
  v1629
def k0_mult51 : BitVec 32 :=
  let c8_i32_581 : BitVec 32 := 8#32
  let c4_i32_585 : BitVec 32 := 4#32
  let c0_i32_586 : BitVec 32 := 0#32
  let v1639 : BitVec 1 := Scalar.cmpi .eq c4_i32_585 c0_i32_586
  let c1_i32_587 : BitVec 32 := 1#32
  let v1640 : BitVec 32 := Scalar.select v1639 c1_i32_587 c4_i32_585
  let v1641 : BitVec 32 := Scalar.remsi c8_i32_581 v1640
  let c0_i32_589 : BitVec 32 := 0#32
  let v1643 : BitVec 1 := Scalar.cmpi .slt v1641 c0_i32_589
  let c0_i32_590 : BitVec 32 := 0#32
  let v1644 : BitVec 1 := Scalar.cmpi .slt v1640 c0_i32_590
  let v1645 : BitVec 1 := Scalar.xori v1643 v1644
  let c0_i32_588 : BitVec 32 := 0#32
  let v1642 : BitVec 1 := Scalar.cmpi .ne v1641 c0_i32_588
  let v1646 : BitVec 1 := Scalar.andi v1645 v1642
  let v1647 : BitVec 32 := Scalar.addi v1641 v1640
  let v1648 : BitVec 32 := Scalar.select v1646 v1647 v1641
  let c32_i32_591 : BitVec 32 := 32#32
  let v1649 : BitVec 32 := Scalar.muli v1648 c32_i32_591
  v1649
def k0_mult52 : BitVec 32 :=
  let c9_i32_604 : BitVec 32 := 9#32
  let c32_i32_605 : BitVec 32 := 32#32
  let v1693 : BitVec 32 := Scalar.muli c9_i32_604 c32_i32_605
  v1693
def k0_mult53 : BitVec 32 :=
  let c9_i32_604 : BitVec 32 := 9#32
  let c4_i32_608 : BitVec 32 := 4#32
  let c0_i32_609 : BitVec 32 := 0#32
  let v1703 : BitVec 1 := Scalar.cmpi .eq c4_i32_608 c0_i32_609
  let c1_i32_610 : BitVec 32 := 1#32
  let v1704 : BitVec 32 := Scalar.select v1703 c1_i32_610 c4_i32_608
  let v1705 : BitVec 32 := Scalar.remsi c9_i32_604 v1704
  let c0_i32_612 : BitVec 32 := 0#32
  let v1707 : BitVec 1 := Scalar.cmpi .slt v1705 c0_i32_612
  let c0_i32_613 : BitVec 32 := 0#32
  let v1708 : BitVec 1 := Scalar.cmpi .slt v1704 c0_i32_613
  let v1709 : BitVec 1 := Scalar.xori v1707 v1708
  let c0_i32_611 : BitVec 32 := 0#32
  let v1706 : BitVec 1 := Scalar.cmpi .ne v1705 c0_i32_611
  let v1710 : BitVec 1 := Scalar.andi v1709 v1706
  let v1711 : BitVec 32 := Scalar.addi v1705 v1704
  let v1712 : BitVec 32 := Scalar.select v1710 v1711 v1705
  let c32_i32_614 : BitVec 32 := 32#32
  let v1713 : BitVec 32 := Scalar.muli v1712 c32_i32_614
  v1713
def k0_mult54 : BitVec 32 :=
  let c10_i32_627 : BitVec 32 := 10#32
  let c32_i32_628 : BitVec 32 := 32#32
  let v1757 : BitVec 32 := Scalar.muli c10_i32_627 c32_i32_628
  v1757
def k0_mult55 : BitVec 32 :=
  let c10_i32_627 : BitVec 32 := 10#32
  let c4_i32_631 : BitVec 32 := 4#32
  let c0_i32_632 : BitVec 32 := 0#32
  let v1767 : BitVec 1 := Scalar.cmpi .eq c4_i32_631 c0_i32_632
  let c1_i32_633 : BitVec 32 := 1#32
  let v1768 : BitVec 32 := Scalar.select v1767 c1_i32_633 c4_i32_631
  let v1769 : BitVec 32 := Scalar.remsi c10_i32_627 v1768
  let c0_i32_635 : BitVec 32 := 0#32
  let v1771 : BitVec 1 := Scalar.cmpi .slt v1769 c0_i32_635
  let c0_i32_636 : BitVec 32 := 0#32
  let v1772 : BitVec 1 := Scalar.cmpi .slt v1768 c0_i32_636
  let v1773 : BitVec 1 := Scalar.xori v1771 v1772
  let c0_i32_634 : BitVec 32 := 0#32
  let v1770 : BitVec 1 := Scalar.cmpi .ne v1769 c0_i32_634
  let v1774 : BitVec 1 := Scalar.andi v1773 v1770
  let v1775 : BitVec 32 := Scalar.addi v1769 v1768
  let v1776 : BitVec 32 := Scalar.select v1774 v1775 v1769
  let c32_i32_637 : BitVec 32 := 32#32
  let v1777 : BitVec 32 := Scalar.muli v1776 c32_i32_637
  v1777
def k0_mult56 : BitVec 32 :=
  let c11_i32_650 : BitVec 32 := 11#32
  let c32_i32_651 : BitVec 32 := 32#32
  let v1821 : BitVec 32 := Scalar.muli c11_i32_650 c32_i32_651
  v1821
def k0_mult57 : BitVec 32 :=
  let c11_i32_650 : BitVec 32 := 11#32
  let c4_i32_654 : BitVec 32 := 4#32
  let c0_i32_655 : BitVec 32 := 0#32
  let v1831 : BitVec 1 := Scalar.cmpi .eq c4_i32_654 c0_i32_655
  let c1_i32_656 : BitVec 32 := 1#32
  let v1832 : BitVec 32 := Scalar.select v1831 c1_i32_656 c4_i32_654
  let v1833 : BitVec 32 := Scalar.remsi c11_i32_650 v1832
  let c0_i32_658 : BitVec 32 := 0#32
  let v1835 : BitVec 1 := Scalar.cmpi .slt v1833 c0_i32_658
  let c0_i32_659 : BitVec 32 := 0#32
  let v1836 : BitVec 1 := Scalar.cmpi .slt v1832 c0_i32_659
  let v1837 : BitVec 1 := Scalar.xori v1835 v1836
  let c0_i32_657 : BitVec 32 := 0#32
  let v1834 : BitVec 1 := Scalar.cmpi .ne v1833 c0_i32_657
  let v1838 : BitVec 1 := Scalar.andi v1837 v1834
  let v1839 : BitVec 32 := Scalar.addi v1833 v1832
  let v1840 : BitVec 32 := Scalar.select v1838 v1839 v1833
  let c32_i32_660 : BitVec 32 := 32#32
  let v1841 : BitVec 32 := Scalar.muli v1840 c32_i32_660
  v1841
def k0_mult58 : BitVec 32 :=
  let c12_i32_673 : BitVec 32 := 12#32
  let c32_i32_674 : BitVec 32 := 32#32
  let v1885 : BitVec 32 := Scalar.muli c12_i32_673 c32_i32_674
  v1885
def k0_mult59 : BitVec 32 :=
  let c12_i32_673 : BitVec 32 := 12#32
  let c4_i32_677 : BitVec 32 := 4#32
  let c0_i32_678 : BitVec 32 := 0#32
  let v1895 : BitVec 1 := Scalar.cmpi .eq c4_i32_677 c0_i32_678
  let c1_i32_679 : BitVec 32 := 1#32
  let v1896 : BitVec 32 := Scalar.select v1895 c1_i32_679 c4_i32_677
  let v1897 : BitVec 32 := Scalar.remsi c12_i32_673 v1896
  let c0_i32_681 : BitVec 32 := 0#32
  let v1899 : BitVec 1 := Scalar.cmpi .slt v1897 c0_i32_681
  let c0_i32_682 : BitVec 32 := 0#32
  let v1900 : BitVec 1 := Scalar.cmpi .slt v1896 c0_i32_682
  let v1901 : BitVec 1 := Scalar.xori v1899 v1900
  let c0_i32_680 : BitVec 32 := 0#32
  let v1898 : BitVec 1 := Scalar.cmpi .ne v1897 c0_i32_680
  let v1902 : BitVec 1 := Scalar.andi v1901 v1898
  let v1903 : BitVec 32 := Scalar.addi v1897 v1896
  let v1904 : BitVec 32 := Scalar.select v1902 v1903 v1897
  let c32_i32_683 : BitVec 32 := 32#32
  let v1905 : BitVec 32 := Scalar.muli v1904 c32_i32_683
  v1905
def k0_mult60 : BitVec 32 :=
  let c13_i32_696 : BitVec 32 := 13#32
  let c32_i32_697 : BitVec 32 := 32#32
  let v1949 : BitVec 32 := Scalar.muli c13_i32_696 c32_i32_697
  v1949
def k0_mult61 : BitVec 32 :=
  let c13_i32_696 : BitVec 32 := 13#32
  let c4_i32_700 : BitVec 32 := 4#32
  let c0_i32_701 : BitVec 32 := 0#32
  let v1959 : BitVec 1 := Scalar.cmpi .eq c4_i32_700 c0_i32_701
  let c1_i32_702 : BitVec 32 := 1#32
  let v1960 : BitVec 32 := Scalar.select v1959 c1_i32_702 c4_i32_700
  let v1961 : BitVec 32 := Scalar.remsi c13_i32_696 v1960
  let c0_i32_704 : BitVec 32 := 0#32
  let v1963 : BitVec 1 := Scalar.cmpi .slt v1961 c0_i32_704
  let c0_i32_705 : BitVec 32 := 0#32
  let v1964 : BitVec 1 := Scalar.cmpi .slt v1960 c0_i32_705
  let v1965 : BitVec 1 := Scalar.xori v1963 v1964
  let c0_i32_703 : BitVec 32 := 0#32
  let v1962 : BitVec 1 := Scalar.cmpi .ne v1961 c0_i32_703
  let v1966 : BitVec 1 := Scalar.andi v1965 v1962
  let v1967 : BitVec 32 := Scalar.addi v1961 v1960
  let v1968 : BitVec 32 := Scalar.select v1966 v1967 v1961
  let c32_i32_706 : BitVec 32 := 32#32
  let v1969 : BitVec 32 := Scalar.muli v1968 c32_i32_706
  v1969
def k0_mult62 : BitVec 32 :=
  let c14_i32_719 : BitVec 32 := 14#32
  let c32_i32_720 : BitVec 32 := 32#32
  let v2013 : BitVec 32 := Scalar.muli c14_i32_719 c32_i32_720
  v2013
def k0_mult63 : BitVec 32 :=
  let c14_i32_719 : BitVec 32 := 14#32
  let c4_i32_723 : BitVec 32 := 4#32
  let c0_i32_724 : BitVec 32 := 0#32
  let v2023 : BitVec 1 := Scalar.cmpi .eq c4_i32_723 c0_i32_724
  let c1_i32_725 : BitVec 32 := 1#32
  let v2024 : BitVec 32 := Scalar.select v2023 c1_i32_725 c4_i32_723
  let v2025 : BitVec 32 := Scalar.remsi c14_i32_719 v2024
  let c0_i32_727 : BitVec 32 := 0#32
  let v2027 : BitVec 1 := Scalar.cmpi .slt v2025 c0_i32_727
  let c0_i32_728 : BitVec 32 := 0#32
  let v2028 : BitVec 1 := Scalar.cmpi .slt v2024 c0_i32_728
  let v2029 : BitVec 1 := Scalar.xori v2027 v2028
  let c0_i32_726 : BitVec 32 := 0#32
  let v2026 : BitVec 1 := Scalar.cmpi .ne v2025 c0_i32_726
  let v2030 : BitVec 1 := Scalar.andi v2029 v2026
  let v2031 : BitVec 32 := Scalar.addi v2025 v2024
  let v2032 : BitVec 32 := Scalar.select v2030 v2031 v2025
  let c32_i32_729 : BitVec 32 := 32#32
  let v2033 : BitVec 32 := Scalar.muli v2032 c32_i32_729
  v2033
def k0_mult64 : BitVec 32 :=
  let c15_i32_742 : BitVec 32 := 15#32
  let c32_i32_743 : BitVec 32 := 32#32
  let v2077 : BitVec 32 := Scalar.muli c15_i32_742 c32_i32_743
  v2077
def k0_mult65 : BitVec 32 :=
  let c15_i32_742 : BitVec 32 := 15#32
  let c4_i32_746 : BitVec 32 := 4#32
  let c0_i32_747 : BitVec 32 := 0#32
  let v2087 : BitVec 1 := Scalar.cmpi .eq c4_i32_746 c0_i32_747
  let c1_i32_748 : BitVec 32 := 1#32
  let v2088 : BitVec 32 := Scalar.select v2087 c1_i32_748 c4_i32_746
  let v2089 : BitVec 32 := Scalar.remsi c15_i32_742 v2088
  let c0_i32_750 : BitVec 32 := 0#32
  let v2091 : BitVec 1 := Scalar.cmpi .slt v2089 c0_i32_750
  let c0_i32_751 : BitVec 32 := 0#32
  let v2092 : BitVec 1 := Scalar.cmpi .slt v2088 c0_i32_751
  let v2093 : BitVec 1 := Scalar.xori v2091 v2092
  let c0_i32_749 : BitVec 32 := 0#32
  let v2090 : BitVec 1 := Scalar.cmpi .ne v2089 c0_i32_749
  let v2094 : BitVec 1 := Scalar.andi v2093 v2090
  let v2095 : BitVec 32 := Scalar.addi v2089 v2088
  let v2096 : BitVec 32 := Scalar.select v2094 v2095 v2089
  let c32_i32_752 : BitVec 32 := 32#32
  let v2097 : BitVec 32 := Scalar.muli v2096 c32_i32_752
  v2097
def k0_mult66 : BitVec 32 :=
  let c0_i32_766 : BitVec 32 := 0#32
  let c32_i32_767 : BitVec 32 := 32#32
  let v2141 : BitVec 32 := Scalar.muli c0_i32_766 c32_i32_767
  v2141
def k0_off8 (c0_i32_766 : BitVec 32) : Fin 3 → Nat :=
  let c2_768 : Index := 2#32
  let c32_i32_767 : BitVec 32 := 32#32
  let v2141 : BitVec 32 := Scalar.muli c0_i32_766 c32_i32_767
  let v2142 : BitVec 32 := v2141
  let v2143 : Index := Scalar.indexCast v2142
  let c0_769 : Index := 0#32
  ![2, v2143.toNat, 0]
def k0_mult67 : BitVec 32 :=
  let c0_i32_766 : BitVec 32 := 0#32
  let c4_i32_770 : BitVec 32 := 4#32
  let c0_i32_771 : BitVec 32 := 0#32
  let v2151 : BitVec 1 := Scalar.cmpi .eq c4_i32_770 c0_i32_771
  let c1_i32_772 : BitVec 32 := 1#32
  let v2152 : BitVec 32 := Scalar.select v2151 c1_i32_772 c4_i32_770
  let v2153 : BitVec 32 := Scalar.remsi c0_i32_766 v2152
  let c0_i32_774 : BitVec 32 := 0#32
  let v2155 : BitVec 1 := Scalar.cmpi .slt v2153 c0_i32_774
  let c0_i32_775 : BitVec 32 := 0#32
  let v2156 : BitVec 1 := Scalar.cmpi .slt v2152 c0_i32_775
  let v2157 : BitVec 1 := Scalar.xori v2155 v2156
  let c0_i32_773 : BitVec 32 := 0#32
  let v2154 : BitVec 1 := Scalar.cmpi .ne v2153 c0_i32_773
  let v2158 : BitVec 1 := Scalar.andi v2157 v2154
  let v2159 : BitVec 32 := Scalar.addi v2153 v2152
  let v2160 : BitVec 32 := Scalar.select v2158 v2159 v2153
  let c32_i32_776 : BitVec 32 := 32#32
  let v2161 : BitVec 32 := Scalar.muli v2160 c32_i32_776
  v2161
def k0_off9 (c0_i32_766 : BitVec 32) : Fin 3 → Nat :=
  let c2_787 : Index := 2#32
  let c32_i32_767 : BitVec 32 := 32#32
  let v2141 : BitVec 32 := Scalar.muli c0_i32_766 c32_i32_767
  let v2142 : BitVec 32 := v2141
  let v2201 : Index := Scalar.indexCast v2142
  let c0_788 : Index := 0#32
  ![2, v2201.toNat, 0]
def k0_mult68 : BitVec 32 :=
  let c1_i32_789 : BitVec 32 := 1#32
  let c32_i32_790 : BitVec 32 := 32#32
  let v2205 : BitVec 32 := Scalar.muli c1_i32_789 c32_i32_790
  v2205
def k0_mult69 : BitVec 32 :=
  let c1_i32_789 : BitVec 32 := 1#32
  let c4_i32_793 : BitVec 32 := 4#32
  let c0_i32_794 : BitVec 32 := 0#32
  let v2215 : BitVec 1 := Scalar.cmpi .eq c4_i32_793 c0_i32_794
  let c1_i32_795 : BitVec 32 := 1#32
  let v2216 : BitVec 32 := Scalar.select v2215 c1_i32_795 c4_i32_793
  let v2217 : BitVec 32 := Scalar.remsi c1_i32_789 v2216
  let c0_i32_797 : BitVec 32 := 0#32
  let v2219 : BitVec 1 := Scalar.cmpi .slt v2217 c0_i32_797
  let c0_i32_798 : BitVec 32 := 0#32
  let v2220 : BitVec 1 := Scalar.cmpi .slt v2216 c0_i32_798
  let v2221 : BitVec 1 := Scalar.xori v2219 v2220
  let c0_i32_796 : BitVec 32 := 0#32
  let v2218 : BitVec 1 := Scalar.cmpi .ne v2217 c0_i32_796
  let v2222 : BitVec 1 := Scalar.andi v2221 v2218
  let v2223 : BitVec 32 := Scalar.addi v2217 v2216
  let v2224 : BitVec 32 := Scalar.select v2222 v2223 v2217
  let c32_i32_799 : BitVec 32 := 32#32
  let v2225 : BitVec 32 := Scalar.muli v2224 c32_i32_799
  v2225
def k0_mult70 : BitVec 32 :=
  let c2_i32_812 : BitVec 32 := 2#32
  let c32_i32_813 : BitVec 32 := 32#32
  let v2269 : BitVec 32 := Scalar.muli c2_i32_812 c32_i32_813
  v2269
def k0_mult71 : BitVec 32 :=
  let c2_i32_812 : BitVec 32 := 2#32
  let c4_i32_816 : BitVec 32 := 4#32
  let c0_i32_817 : BitVec 32 := 0#32
  let v2279 : BitVec 1 := Scalar.cmpi .eq c4_i32_816 c0_i32_817
  let c1_i32_818 : BitVec 32 := 1#32
  let v2280 : BitVec 32 := Scalar.select v2279 c1_i32_818 c4_i32_816
  let v2281 : BitVec 32 := Scalar.remsi c2_i32_812 v2280
  let c0_i32_820 : BitVec 32 := 0#32
  let v2283 : BitVec 1 := Scalar.cmpi .slt v2281 c0_i32_820
  let c0_i32_821 : BitVec 32 := 0#32
  let v2284 : BitVec 1 := Scalar.cmpi .slt v2280 c0_i32_821
  let v2285 : BitVec 1 := Scalar.xori v2283 v2284
  let c0_i32_819 : BitVec 32 := 0#32
  let v2282 : BitVec 1 := Scalar.cmpi .ne v2281 c0_i32_819
  let v2286 : BitVec 1 := Scalar.andi v2285 v2282
  let v2287 : BitVec 32 := Scalar.addi v2281 v2280
  let v2288 : BitVec 32 := Scalar.select v2286 v2287 v2281
  let c32_i32_822 : BitVec 32 := 32#32
  let v2289 : BitVec 32 := Scalar.muli v2288 c32_i32_822
  v2289
def k0_mult72 : BitVec 32 :=
  let c3_i32_835 : BitVec 32 := 3#32
  let c32_i32_836 : BitVec 32 := 32#32
  let v2333 : BitVec 32 := Scalar.muli c3_i32_835 c32_i32_836
  v2333
def k0_mult73 : BitVec 32 :=
  let c3_i32_835 : BitVec 32 := 3#32
  let c4_i32_839 : BitVec 32 := 4#32
  let c0_i32_840 : BitVec 32 := 0#32
  let v2343 : BitVec 1 := Scalar.cmpi .eq c4_i32_839 c0_i32_840
  let c1_i32_841 : BitVec 32 := 1#32
  let v2344 : BitVec 32 := Scalar.select v2343 c1_i32_841 c4_i32_839
  let v2345 : BitVec 32 := Scalar.remsi c3_i32_835 v2344
  let c0_i32_843 : BitVec 32 := 0#32
  let v2347 : BitVec 1 := Scalar.cmpi .slt v2345 c0_i32_843
  let c0_i32_844 : BitVec 32 := 0#32
  let v2348 : BitVec 1 := Scalar.cmpi .slt v2344 c0_i32_844
  let v2349 : BitVec 1 := Scalar.xori v2347 v2348
  let c0_i32_842 : BitVec 32 := 0#32
  let v2346 : BitVec 1 := Scalar.cmpi .ne v2345 c0_i32_842
  let v2350 : BitVec 1 := Scalar.andi v2349 v2346
  let v2351 : BitVec 32 := Scalar.addi v2345 v2344
  let v2352 : BitVec 32 := Scalar.select v2350 v2351 v2345
  let c32_i32_845 : BitVec 32 := 32#32
  let v2353 : BitVec 32 := Scalar.muli v2352 c32_i32_845
  v2353
def k0_mult74 : BitVec 32 :=
  let c4_i32_858 : BitVec 32 := 4#32
  let c32_i32_859 : BitVec 32 := 32#32
  let v2397 : BitVec 32 := Scalar.muli c4_i32_858 c32_i32_859
  v2397
def k0_mult75 : BitVec 32 :=
  let c4_i32_858 : BitVec 32 := 4#32
  let c4_i32_862 : BitVec 32 := 4#32
  let c0_i32_863 : BitVec 32 := 0#32
  let v2407 : BitVec 1 := Scalar.cmpi .eq c4_i32_862 c0_i32_863
  let c1_i32_864 : BitVec 32 := 1#32
  let v2408 : BitVec 32 := Scalar.select v2407 c1_i32_864 c4_i32_862
  let v2409 : BitVec 32 := Scalar.remsi c4_i32_858 v2408
  let c0_i32_866 : BitVec 32 := 0#32
  let v2411 : BitVec 1 := Scalar.cmpi .slt v2409 c0_i32_866
  let c0_i32_867 : BitVec 32 := 0#32
  let v2412 : BitVec 1 := Scalar.cmpi .slt v2408 c0_i32_867
  let v2413 : BitVec 1 := Scalar.xori v2411 v2412
  let c0_i32_865 : BitVec 32 := 0#32
  let v2410 : BitVec 1 := Scalar.cmpi .ne v2409 c0_i32_865
  let v2414 : BitVec 1 := Scalar.andi v2413 v2410
  let v2415 : BitVec 32 := Scalar.addi v2409 v2408
  let v2416 : BitVec 32 := Scalar.select v2414 v2415 v2409
  let c32_i32_868 : BitVec 32 := 32#32
  let v2417 : BitVec 32 := Scalar.muli v2416 c32_i32_868
  v2417
def k0_mult76 : BitVec 32 :=
  let c5_i32_881 : BitVec 32 := 5#32
  let c32_i32_882 : BitVec 32 := 32#32
  let v2461 : BitVec 32 := Scalar.muli c5_i32_881 c32_i32_882
  v2461
def k0_mult77 : BitVec 32 :=
  let c5_i32_881 : BitVec 32 := 5#32
  let c4_i32_885 : BitVec 32 := 4#32
  let c0_i32_886 : BitVec 32 := 0#32
  let v2471 : BitVec 1 := Scalar.cmpi .eq c4_i32_885 c0_i32_886
  let c1_i32_887 : BitVec 32 := 1#32
  let v2472 : BitVec 32 := Scalar.select v2471 c1_i32_887 c4_i32_885
  let v2473 : BitVec 32 := Scalar.remsi c5_i32_881 v2472
  let c0_i32_889 : BitVec 32 := 0#32
  let v2475 : BitVec 1 := Scalar.cmpi .slt v2473 c0_i32_889
  let c0_i32_890 : BitVec 32 := 0#32
  let v2476 : BitVec 1 := Scalar.cmpi .slt v2472 c0_i32_890
  let v2477 : BitVec 1 := Scalar.xori v2475 v2476
  let c0_i32_888 : BitVec 32 := 0#32
  let v2474 : BitVec 1 := Scalar.cmpi .ne v2473 c0_i32_888
  let v2478 : BitVec 1 := Scalar.andi v2477 v2474
  let v2479 : BitVec 32 := Scalar.addi v2473 v2472
  let v2480 : BitVec 32 := Scalar.select v2478 v2479 v2473
  let c32_i32_891 : BitVec 32 := 32#32
  let v2481 : BitVec 32 := Scalar.muli v2480 c32_i32_891
  v2481
def k0_mult78 : BitVec 32 :=
  let c6_i32_904 : BitVec 32 := 6#32
  let c32_i32_905 : BitVec 32 := 32#32
  let v2525 : BitVec 32 := Scalar.muli c6_i32_904 c32_i32_905
  v2525
def k0_mult79 : BitVec 32 :=
  let c6_i32_904 : BitVec 32 := 6#32
  let c4_i32_908 : BitVec 32 := 4#32
  let c0_i32_909 : BitVec 32 := 0#32
  let v2535 : BitVec 1 := Scalar.cmpi .eq c4_i32_908 c0_i32_909
  let c1_i32_910 : BitVec 32 := 1#32
  let v2536 : BitVec 32 := Scalar.select v2535 c1_i32_910 c4_i32_908
  let v2537 : BitVec 32 := Scalar.remsi c6_i32_904 v2536
  let c0_i32_912 : BitVec 32 := 0#32
  let v2539 : BitVec 1 := Scalar.cmpi .slt v2537 c0_i32_912
  let c0_i32_913 : BitVec 32 := 0#32
  let v2540 : BitVec 1 := Scalar.cmpi .slt v2536 c0_i32_913
  let v2541 : BitVec 1 := Scalar.xori v2539 v2540
  let c0_i32_911 : BitVec 32 := 0#32
  let v2538 : BitVec 1 := Scalar.cmpi .ne v2537 c0_i32_911
  let v2542 : BitVec 1 := Scalar.andi v2541 v2538
  let v2543 : BitVec 32 := Scalar.addi v2537 v2536
  let v2544 : BitVec 32 := Scalar.select v2542 v2543 v2537
  let c32_i32_914 : BitVec 32 := 32#32
  let v2545 : BitVec 32 := Scalar.muli v2544 c32_i32_914
  v2545
def k0_mult80 : BitVec 32 :=
  let c7_i32_927 : BitVec 32 := 7#32
  let c32_i32_928 : BitVec 32 := 32#32
  let v2589 : BitVec 32 := Scalar.muli c7_i32_927 c32_i32_928
  v2589
def k0_mult81 : BitVec 32 :=
  let c7_i32_927 : BitVec 32 := 7#32
  let c4_i32_931 : BitVec 32 := 4#32
  let c0_i32_932 : BitVec 32 := 0#32
  let v2599 : BitVec 1 := Scalar.cmpi .eq c4_i32_931 c0_i32_932
  let c1_i32_933 : BitVec 32 := 1#32
  let v2600 : BitVec 32 := Scalar.select v2599 c1_i32_933 c4_i32_931
  let v2601 : BitVec 32 := Scalar.remsi c7_i32_927 v2600
  let c0_i32_935 : BitVec 32 := 0#32
  let v2603 : BitVec 1 := Scalar.cmpi .slt v2601 c0_i32_935
  let c0_i32_936 : BitVec 32 := 0#32
  let v2604 : BitVec 1 := Scalar.cmpi .slt v2600 c0_i32_936
  let v2605 : BitVec 1 := Scalar.xori v2603 v2604
  let c0_i32_934 : BitVec 32 := 0#32
  let v2602 : BitVec 1 := Scalar.cmpi .ne v2601 c0_i32_934
  let v2606 : BitVec 1 := Scalar.andi v2605 v2602
  let v2607 : BitVec 32 := Scalar.addi v2601 v2600
  let v2608 : BitVec 32 := Scalar.select v2606 v2607 v2601
  let c32_i32_937 : BitVec 32 := 32#32
  let v2609 : BitVec 32 := Scalar.muli v2608 c32_i32_937
  v2609
def k0_mult82 : BitVec 32 :=
  let c8_i32_950 : BitVec 32 := 8#32
  let c32_i32_951 : BitVec 32 := 32#32
  let v2653 : BitVec 32 := Scalar.muli c8_i32_950 c32_i32_951
  v2653
def k0_mult83 : BitVec 32 :=
  let c8_i32_950 : BitVec 32 := 8#32
  let c4_i32_954 : BitVec 32 := 4#32
  let c0_i32_955 : BitVec 32 := 0#32
  let v2663 : BitVec 1 := Scalar.cmpi .eq c4_i32_954 c0_i32_955
  let c1_i32_956 : BitVec 32 := 1#32
  let v2664 : BitVec 32 := Scalar.select v2663 c1_i32_956 c4_i32_954
  let v2665 : BitVec 32 := Scalar.remsi c8_i32_950 v2664
  let c0_i32_958 : BitVec 32 := 0#32
  let v2667 : BitVec 1 := Scalar.cmpi .slt v2665 c0_i32_958
  let c0_i32_959 : BitVec 32 := 0#32
  let v2668 : BitVec 1 := Scalar.cmpi .slt v2664 c0_i32_959
  let v2669 : BitVec 1 := Scalar.xori v2667 v2668
  let c0_i32_957 : BitVec 32 := 0#32
  let v2666 : BitVec 1 := Scalar.cmpi .ne v2665 c0_i32_957
  let v2670 : BitVec 1 := Scalar.andi v2669 v2666
  let v2671 : BitVec 32 := Scalar.addi v2665 v2664
  let v2672 : BitVec 32 := Scalar.select v2670 v2671 v2665
  let c32_i32_960 : BitVec 32 := 32#32
  let v2673 : BitVec 32 := Scalar.muli v2672 c32_i32_960
  v2673
def k0_mult84 : BitVec 32 :=
  let c9_i32_973 : BitVec 32 := 9#32
  let c32_i32_974 : BitVec 32 := 32#32
  let v2717 : BitVec 32 := Scalar.muli c9_i32_973 c32_i32_974
  v2717
def k0_mult85 : BitVec 32 :=
  let c9_i32_973 : BitVec 32 := 9#32
  let c4_i32_977 : BitVec 32 := 4#32
  let c0_i32_978 : BitVec 32 := 0#32
  let v2727 : BitVec 1 := Scalar.cmpi .eq c4_i32_977 c0_i32_978
  let c1_i32_979 : BitVec 32 := 1#32
  let v2728 : BitVec 32 := Scalar.select v2727 c1_i32_979 c4_i32_977
  let v2729 : BitVec 32 := Scalar.remsi c9_i32_973 v2728
  let c0_i32_981 : BitVec 32 := 0#32
  let v2731 : BitVec 1 := Scalar.cmpi .slt v2729 c0_i32_981
  let c0_i32_982 : BitVec 32 := 0#32
  let v2732 : BitVec 1 := Scalar.cmpi .slt v2728 c0_i32_982
  let v2733 : BitVec 1 := Scalar.xori v2731 v2732
  let c0_i32_980 : BitVec 32 := 0#32
  let v2730 : BitVec 1 := Scalar.cmpi .ne v2729 c0_i32_980
  let v2734 : BitVec 1 := Scalar.andi v2733 v2730
  let v2735 : BitVec 32 := Scalar.addi v2729 v2728
  let v2736 : BitVec 32 := Scalar.select v2734 v2735 v2729
  let c32_i32_983 : BitVec 32 := 32#32
  let v2737 : BitVec 32 := Scalar.muli v2736 c32_i32_983
  v2737
def k0_mult86 : BitVec 32 :=
  let c10_i32_996 : BitVec 32 := 10#32
  let c32_i32_997 : BitVec 32 := 32#32
  let v2781 : BitVec 32 := Scalar.muli c10_i32_996 c32_i32_997
  v2781
def k0_mult87 : BitVec 32 :=
  let c10_i32_996 : BitVec 32 := 10#32
  let c4_i32_1000 : BitVec 32 := 4#32
  let c0_i32_1001 : BitVec 32 := 0#32
  let v2791 : BitVec 1 := Scalar.cmpi .eq c4_i32_1000 c0_i32_1001
  let c1_i32_1002 : BitVec 32 := 1#32
  let v2792 : BitVec 32 := Scalar.select v2791 c1_i32_1002 c4_i32_1000
  let v2793 : BitVec 32 := Scalar.remsi c10_i32_996 v2792
  let c0_i32_1004 : BitVec 32 := 0#32
  let v2795 : BitVec 1 := Scalar.cmpi .slt v2793 c0_i32_1004
  let c0_i32_1005 : BitVec 32 := 0#32
  let v2796 : BitVec 1 := Scalar.cmpi .slt v2792 c0_i32_1005
  let v2797 : BitVec 1 := Scalar.xori v2795 v2796
  let c0_i32_1003 : BitVec 32 := 0#32
  let v2794 : BitVec 1 := Scalar.cmpi .ne v2793 c0_i32_1003
  let v2798 : BitVec 1 := Scalar.andi v2797 v2794
  let v2799 : BitVec 32 := Scalar.addi v2793 v2792
  let v2800 : BitVec 32 := Scalar.select v2798 v2799 v2793
  let c32_i32_1006 : BitVec 32 := 32#32
  let v2801 : BitVec 32 := Scalar.muli v2800 c32_i32_1006
  v2801
def k0_mult88 : BitVec 32 :=
  let c11_i32_1019 : BitVec 32 := 11#32
  let c32_i32_1020 : BitVec 32 := 32#32
  let v2845 : BitVec 32 := Scalar.muli c11_i32_1019 c32_i32_1020
  v2845
def k0_mult89 : BitVec 32 :=
  let c11_i32_1019 : BitVec 32 := 11#32
  let c4_i32_1023 : BitVec 32 := 4#32
  let c0_i32_1024 : BitVec 32 := 0#32
  let v2855 : BitVec 1 := Scalar.cmpi .eq c4_i32_1023 c0_i32_1024
  let c1_i32_1025 : BitVec 32 := 1#32
  let v2856 : BitVec 32 := Scalar.select v2855 c1_i32_1025 c4_i32_1023
  let v2857 : BitVec 32 := Scalar.remsi c11_i32_1019 v2856
  let c0_i32_1027 : BitVec 32 := 0#32
  let v2859 : BitVec 1 := Scalar.cmpi .slt v2857 c0_i32_1027
  let c0_i32_1028 : BitVec 32 := 0#32
  let v2860 : BitVec 1 := Scalar.cmpi .slt v2856 c0_i32_1028
  let v2861 : BitVec 1 := Scalar.xori v2859 v2860
  let c0_i32_1026 : BitVec 32 := 0#32
  let v2858 : BitVec 1 := Scalar.cmpi .ne v2857 c0_i32_1026
  let v2862 : BitVec 1 := Scalar.andi v2861 v2858
  let v2863 : BitVec 32 := Scalar.addi v2857 v2856
  let v2864 : BitVec 32 := Scalar.select v2862 v2863 v2857
  let c32_i32_1029 : BitVec 32 := 32#32
  let v2865 : BitVec 32 := Scalar.muli v2864 c32_i32_1029
  v2865
def k0_mult90 : BitVec 32 :=
  let c12_i32_1042 : BitVec 32 := 12#32
  let c32_i32_1043 : BitVec 32 := 32#32
  let v2909 : BitVec 32 := Scalar.muli c12_i32_1042 c32_i32_1043
  v2909
def k0_mult91 : BitVec 32 :=
  let c12_i32_1042 : BitVec 32 := 12#32
  let c4_i32_1046 : BitVec 32 := 4#32
  let c0_i32_1047 : BitVec 32 := 0#32
  let v2919 : BitVec 1 := Scalar.cmpi .eq c4_i32_1046 c0_i32_1047
  let c1_i32_1048 : BitVec 32 := 1#32
  let v2920 : BitVec 32 := Scalar.select v2919 c1_i32_1048 c4_i32_1046
  let v2921 : BitVec 32 := Scalar.remsi c12_i32_1042 v2920
  let c0_i32_1050 : BitVec 32 := 0#32
  let v2923 : BitVec 1 := Scalar.cmpi .slt v2921 c0_i32_1050
  let c0_i32_1051 : BitVec 32 := 0#32
  let v2924 : BitVec 1 := Scalar.cmpi .slt v2920 c0_i32_1051
  let v2925 : BitVec 1 := Scalar.xori v2923 v2924
  let c0_i32_1049 : BitVec 32 := 0#32
  let v2922 : BitVec 1 := Scalar.cmpi .ne v2921 c0_i32_1049
  let v2926 : BitVec 1 := Scalar.andi v2925 v2922
  let v2927 : BitVec 32 := Scalar.addi v2921 v2920
  let v2928 : BitVec 32 := Scalar.select v2926 v2927 v2921
  let c32_i32_1052 : BitVec 32 := 32#32
  let v2929 : BitVec 32 := Scalar.muli v2928 c32_i32_1052
  v2929
def k0_mult92 : BitVec 32 :=
  let c13_i32_1065 : BitVec 32 := 13#32
  let c32_i32_1066 : BitVec 32 := 32#32
  let v2973 : BitVec 32 := Scalar.muli c13_i32_1065 c32_i32_1066
  v2973
def k0_mult93 : BitVec 32 :=
  let c13_i32_1065 : BitVec 32 := 13#32
  let c4_i32_1069 : BitVec 32 := 4#32
  let c0_i32_1070 : BitVec 32 := 0#32
  let v2983 : BitVec 1 := Scalar.cmpi .eq c4_i32_1069 c0_i32_1070
  let c1_i32_1071 : BitVec 32 := 1#32
  let v2984 : BitVec 32 := Scalar.select v2983 c1_i32_1071 c4_i32_1069
  let v2985 : BitVec 32 := Scalar.remsi c13_i32_1065 v2984
  let c0_i32_1073 : BitVec 32 := 0#32
  let v2987 : BitVec 1 := Scalar.cmpi .slt v2985 c0_i32_1073
  let c0_i32_1074 : BitVec 32 := 0#32
  let v2988 : BitVec 1 := Scalar.cmpi .slt v2984 c0_i32_1074
  let v2989 : BitVec 1 := Scalar.xori v2987 v2988
  let c0_i32_1072 : BitVec 32 := 0#32
  let v2986 : BitVec 1 := Scalar.cmpi .ne v2985 c0_i32_1072
  let v2990 : BitVec 1 := Scalar.andi v2989 v2986
  let v2991 : BitVec 32 := Scalar.addi v2985 v2984
  let v2992 : BitVec 32 := Scalar.select v2990 v2991 v2985
  let c32_i32_1075 : BitVec 32 := 32#32
  let v2993 : BitVec 32 := Scalar.muli v2992 c32_i32_1075
  v2993
def k0_mult94 : BitVec 32 :=
  let c14_i32_1088 : BitVec 32 := 14#32
  let c32_i32_1089 : BitVec 32 := 32#32
  let v3037 : BitVec 32 := Scalar.muli c14_i32_1088 c32_i32_1089
  v3037
def k0_mult95 : BitVec 32 :=
  let c14_i32_1088 : BitVec 32 := 14#32
  let c4_i32_1092 : BitVec 32 := 4#32
  let c0_i32_1093 : BitVec 32 := 0#32
  let v3047 : BitVec 1 := Scalar.cmpi .eq c4_i32_1092 c0_i32_1093
  let c1_i32_1094 : BitVec 32 := 1#32
  let v3048 : BitVec 32 := Scalar.select v3047 c1_i32_1094 c4_i32_1092
  let v3049 : BitVec 32 := Scalar.remsi c14_i32_1088 v3048
  let c0_i32_1096 : BitVec 32 := 0#32
  let v3051 : BitVec 1 := Scalar.cmpi .slt v3049 c0_i32_1096
  let c0_i32_1097 : BitVec 32 := 0#32
  let v3052 : BitVec 1 := Scalar.cmpi .slt v3048 c0_i32_1097
  let v3053 : BitVec 1 := Scalar.xori v3051 v3052
  let c0_i32_1095 : BitVec 32 := 0#32
  let v3050 : BitVec 1 := Scalar.cmpi .ne v3049 c0_i32_1095
  let v3054 : BitVec 1 := Scalar.andi v3053 v3050
  let v3055 : BitVec 32 := Scalar.addi v3049 v3048
  let v3056 : BitVec 32 := Scalar.select v3054 v3055 v3049
  let c32_i32_1098 : BitVec 32 := 32#32
  let v3057 : BitVec 32 := Scalar.muli v3056 c32_i32_1098
  v3057
def k0_mult96 : BitVec 32 :=
  let c15_i32_1111 : BitVec 32 := 15#32
  let c32_i32_1112 : BitVec 32 := 32#32
  let v3101 : BitVec 32 := Scalar.muli c15_i32_1111 c32_i32_1112
  v3101
def k0_mult97 : BitVec 32 :=
  let c15_i32_1111 : BitVec 32 := 15#32
  let c4_i32_1115 : BitVec 32 := 4#32
  let c0_i32_1116 : BitVec 32 := 0#32
  let v3111 : BitVec 1 := Scalar.cmpi .eq c4_i32_1115 c0_i32_1116
  let c1_i32_1117 : BitVec 32 := 1#32
  let v3112 : BitVec 32 := Scalar.select v3111 c1_i32_1117 c4_i32_1115
  let v3113 : BitVec 32 := Scalar.remsi c15_i32_1111 v3112
  let c0_i32_1119 : BitVec 32 := 0#32
  let v3115 : BitVec 1 := Scalar.cmpi .slt v3113 c0_i32_1119
  let c0_i32_1120 : BitVec 32 := 0#32
  let v3116 : BitVec 1 := Scalar.cmpi .slt v3112 c0_i32_1120
  let v3117 : BitVec 1 := Scalar.xori v3115 v3116
  let c0_i32_1118 : BitVec 32 := 0#32
  let v3114 : BitVec 1 := Scalar.cmpi .ne v3113 c0_i32_1118
  let v3118 : BitVec 1 := Scalar.andi v3117 v3114
  let v3119 : BitVec 32 := Scalar.addi v3113 v3112
  let v3120 : BitVec 32 := Scalar.select v3118 v3119 v3113
  let c32_i32_1121 : BitVec 32 := 32#32
  let v3121 : BitVec 32 := Scalar.muli v3120 c32_i32_1121
  v3121
def k0_mult98 : BitVec 32 :=
  let c0_i32_1135 : BitVec 32 := 0#32
  let c32_i32_1136 : BitVec 32 := 32#32
  let v3165 : BitVec 32 := Scalar.muli c0_i32_1135 c32_i32_1136
  v3165
def k0_off10 (c0_i32_1135 : BitVec 32) : Fin 3 → Nat :=
  let c3_1137 : Index := 3#32
  let c32_i32_1136 : BitVec 32 := 32#32
  let v3165 : BitVec 32 := Scalar.muli c0_i32_1135 c32_i32_1136
  let v3166 : BitVec 32 := v3165
  let v3167 : Index := Scalar.indexCast v3166
  let c0_1138 : Index := 0#32
  ![3, v3167.toNat, 0]
def k0_mult99 : BitVec 32 :=
  let c0_i32_1135 : BitVec 32 := 0#32
  let c4_i32_1139 : BitVec 32 := 4#32
  let c0_i32_1140 : BitVec 32 := 0#32
  let v3175 : BitVec 1 := Scalar.cmpi .eq c4_i32_1139 c0_i32_1140
  let c1_i32_1141 : BitVec 32 := 1#32
  let v3176 : BitVec 32 := Scalar.select v3175 c1_i32_1141 c4_i32_1139
  let v3177 : BitVec 32 := Scalar.remsi c0_i32_1135 v3176
  let c0_i32_1143 : BitVec 32 := 0#32
  let v3179 : BitVec 1 := Scalar.cmpi .slt v3177 c0_i32_1143
  let c0_i32_1144 : BitVec 32 := 0#32
  let v3180 : BitVec 1 := Scalar.cmpi .slt v3176 c0_i32_1144
  let v3181 : BitVec 1 := Scalar.xori v3179 v3180
  let c0_i32_1142 : BitVec 32 := 0#32
  let v3178 : BitVec 1 := Scalar.cmpi .ne v3177 c0_i32_1142
  let v3182 : BitVec 1 := Scalar.andi v3181 v3178
  let v3183 : BitVec 32 := Scalar.addi v3177 v3176
  let v3184 : BitVec 32 := Scalar.select v3182 v3183 v3177
  let c32_i32_1145 : BitVec 32 := 32#32
  let v3185 : BitVec 32 := Scalar.muli v3184 c32_i32_1145
  v3185
def k0_off11 (c0_i32_1135 : BitVec 32) : Fin 3 → Nat :=
  let c3_1156 : Index := 3#32
  let c32_i32_1136 : BitVec 32 := 32#32
  let v3165 : BitVec 32 := Scalar.muli c0_i32_1135 c32_i32_1136
  let v3166 : BitVec 32 := v3165
  let v3225 : Index := Scalar.indexCast v3166
  let c0_1157 : Index := 0#32
  ![3, v3225.toNat, 0]
def k0_mult100 : BitVec 32 :=
  let c1_i32_1158 : BitVec 32 := 1#32
  let c32_i32_1159 : BitVec 32 := 32#32
  let v3229 : BitVec 32 := Scalar.muli c1_i32_1158 c32_i32_1159
  v3229
def k0_mult101 : BitVec 32 :=
  let c1_i32_1158 : BitVec 32 := 1#32
  let c4_i32_1162 : BitVec 32 := 4#32
  let c0_i32_1163 : BitVec 32 := 0#32
  let v3239 : BitVec 1 := Scalar.cmpi .eq c4_i32_1162 c0_i32_1163
  let c1_i32_1164 : BitVec 32 := 1#32
  let v3240 : BitVec 32 := Scalar.select v3239 c1_i32_1164 c4_i32_1162
  let v3241 : BitVec 32 := Scalar.remsi c1_i32_1158 v3240
  let c0_i32_1166 : BitVec 32 := 0#32
  let v3243 : BitVec 1 := Scalar.cmpi .slt v3241 c0_i32_1166
  let c0_i32_1167 : BitVec 32 := 0#32
  let v3244 : BitVec 1 := Scalar.cmpi .slt v3240 c0_i32_1167
  let v3245 : BitVec 1 := Scalar.xori v3243 v3244
  let c0_i32_1165 : BitVec 32 := 0#32
  let v3242 : BitVec 1 := Scalar.cmpi .ne v3241 c0_i32_1165
  let v3246 : BitVec 1 := Scalar.andi v3245 v3242
  let v3247 : BitVec 32 := Scalar.addi v3241 v3240
  let v3248 : BitVec 32 := Scalar.select v3246 v3247 v3241
  let c32_i32_1168 : BitVec 32 := 32#32
  let v3249 : BitVec 32 := Scalar.muli v3248 c32_i32_1168
  v3249
def k0_mult102 : BitVec 32 :=
  let c2_i32_1181 : BitVec 32 := 2#32
  let c32_i32_1182 : BitVec 32 := 32#32
  let v3293 : BitVec 32 := Scalar.muli c2_i32_1181 c32_i32_1182
  v3293
def k0_mult103 : BitVec 32 :=
  let c2_i32_1181 : BitVec 32 := 2#32
  let c4_i32_1185 : BitVec 32 := 4#32
  let c0_i32_1186 : BitVec 32 := 0#32
  let v3303 : BitVec 1 := Scalar.cmpi .eq c4_i32_1185 c0_i32_1186
  let c1_i32_1187 : BitVec 32 := 1#32
  let v3304 : BitVec 32 := Scalar.select v3303 c1_i32_1187 c4_i32_1185
  let v3305 : BitVec 32 := Scalar.remsi c2_i32_1181 v3304
  let c0_i32_1189 : BitVec 32 := 0#32
  let v3307 : BitVec 1 := Scalar.cmpi .slt v3305 c0_i32_1189
  let c0_i32_1190 : BitVec 32 := 0#32
  let v3308 : BitVec 1 := Scalar.cmpi .slt v3304 c0_i32_1190
  let v3309 : BitVec 1 := Scalar.xori v3307 v3308
  let c0_i32_1188 : BitVec 32 := 0#32
  let v3306 : BitVec 1 := Scalar.cmpi .ne v3305 c0_i32_1188
  let v3310 : BitVec 1 := Scalar.andi v3309 v3306
  let v3311 : BitVec 32 := Scalar.addi v3305 v3304
  let v3312 : BitVec 32 := Scalar.select v3310 v3311 v3305
  let c32_i32_1191 : BitVec 32 := 32#32
  let v3313 : BitVec 32 := Scalar.muli v3312 c32_i32_1191
  v3313
def k0_mult104 : BitVec 32 :=
  let c3_i32_1204 : BitVec 32 := 3#32
  let c32_i32_1205 : BitVec 32 := 32#32
  let v3357 : BitVec 32 := Scalar.muli c3_i32_1204 c32_i32_1205
  v3357
def k0_mult105 : BitVec 32 :=
  let c3_i32_1204 : BitVec 32 := 3#32
  let c4_i32_1208 : BitVec 32 := 4#32
  let c0_i32_1209 : BitVec 32 := 0#32
  let v3367 : BitVec 1 := Scalar.cmpi .eq c4_i32_1208 c0_i32_1209
  let c1_i32_1210 : BitVec 32 := 1#32
  let v3368 : BitVec 32 := Scalar.select v3367 c1_i32_1210 c4_i32_1208
  let v3369 : BitVec 32 := Scalar.remsi c3_i32_1204 v3368
  let c0_i32_1212 : BitVec 32 := 0#32
  let v3371 : BitVec 1 := Scalar.cmpi .slt v3369 c0_i32_1212
  let c0_i32_1213 : BitVec 32 := 0#32
  let v3372 : BitVec 1 := Scalar.cmpi .slt v3368 c0_i32_1213
  let v3373 : BitVec 1 := Scalar.xori v3371 v3372
  let c0_i32_1211 : BitVec 32 := 0#32
  let v3370 : BitVec 1 := Scalar.cmpi .ne v3369 c0_i32_1211
  let v3374 : BitVec 1 := Scalar.andi v3373 v3370
  let v3375 : BitVec 32 := Scalar.addi v3369 v3368
  let v3376 : BitVec 32 := Scalar.select v3374 v3375 v3369
  let c32_i32_1214 : BitVec 32 := 32#32
  let v3377 : BitVec 32 := Scalar.muli v3376 c32_i32_1214
  v3377
def k0_mult106 : BitVec 32 :=
  let c4_i32_1227 : BitVec 32 := 4#32
  let c32_i32_1228 : BitVec 32 := 32#32
  let v3421 : BitVec 32 := Scalar.muli c4_i32_1227 c32_i32_1228
  v3421
def k0_mult107 : BitVec 32 :=
  let c4_i32_1227 : BitVec 32 := 4#32
  let c4_i32_1231 : BitVec 32 := 4#32
  let c0_i32_1232 : BitVec 32 := 0#32
  let v3431 : BitVec 1 := Scalar.cmpi .eq c4_i32_1231 c0_i32_1232
  let c1_i32_1233 : BitVec 32 := 1#32
  let v3432 : BitVec 32 := Scalar.select v3431 c1_i32_1233 c4_i32_1231
  let v3433 : BitVec 32 := Scalar.remsi c4_i32_1227 v3432
  let c0_i32_1235 : BitVec 32 := 0#32
  let v3435 : BitVec 1 := Scalar.cmpi .slt v3433 c0_i32_1235
  let c0_i32_1236 : BitVec 32 := 0#32
  let v3436 : BitVec 1 := Scalar.cmpi .slt v3432 c0_i32_1236
  let v3437 : BitVec 1 := Scalar.xori v3435 v3436
  let c0_i32_1234 : BitVec 32 := 0#32
  let v3434 : BitVec 1 := Scalar.cmpi .ne v3433 c0_i32_1234
  let v3438 : BitVec 1 := Scalar.andi v3437 v3434
  let v3439 : BitVec 32 := Scalar.addi v3433 v3432
  let v3440 : BitVec 32 := Scalar.select v3438 v3439 v3433
  let c32_i32_1237 : BitVec 32 := 32#32
  let v3441 : BitVec 32 := Scalar.muli v3440 c32_i32_1237
  v3441
def k0_mult108 : BitVec 32 :=
  let c5_i32_1250 : BitVec 32 := 5#32
  let c32_i32_1251 : BitVec 32 := 32#32
  let v3485 : BitVec 32 := Scalar.muli c5_i32_1250 c32_i32_1251
  v3485
def k0_mult109 : BitVec 32 :=
  let c5_i32_1250 : BitVec 32 := 5#32
  let c4_i32_1254 : BitVec 32 := 4#32
  let c0_i32_1255 : BitVec 32 := 0#32
  let v3495 : BitVec 1 := Scalar.cmpi .eq c4_i32_1254 c0_i32_1255
  let c1_i32_1256 : BitVec 32 := 1#32
  let v3496 : BitVec 32 := Scalar.select v3495 c1_i32_1256 c4_i32_1254
  let v3497 : BitVec 32 := Scalar.remsi c5_i32_1250 v3496
  let c0_i32_1258 : BitVec 32 := 0#32
  let v3499 : BitVec 1 := Scalar.cmpi .slt v3497 c0_i32_1258
  let c0_i32_1259 : BitVec 32 := 0#32
  let v3500 : BitVec 1 := Scalar.cmpi .slt v3496 c0_i32_1259
  let v3501 : BitVec 1 := Scalar.xori v3499 v3500
  let c0_i32_1257 : BitVec 32 := 0#32
  let v3498 : BitVec 1 := Scalar.cmpi .ne v3497 c0_i32_1257
  let v3502 : BitVec 1 := Scalar.andi v3501 v3498
  let v3503 : BitVec 32 := Scalar.addi v3497 v3496
  let v3504 : BitVec 32 := Scalar.select v3502 v3503 v3497
  let c32_i32_1260 : BitVec 32 := 32#32
  let v3505 : BitVec 32 := Scalar.muli v3504 c32_i32_1260
  v3505
def k0_mult110 : BitVec 32 :=
  let c6_i32_1273 : BitVec 32 := 6#32
  let c32_i32_1274 : BitVec 32 := 32#32
  let v3549 : BitVec 32 := Scalar.muli c6_i32_1273 c32_i32_1274
  v3549
def k0_mult111 : BitVec 32 :=
  let c6_i32_1273 : BitVec 32 := 6#32
  let c4_i32_1277 : BitVec 32 := 4#32
  let c0_i32_1278 : BitVec 32 := 0#32
  let v3559 : BitVec 1 := Scalar.cmpi .eq c4_i32_1277 c0_i32_1278
  let c1_i32_1279 : BitVec 32 := 1#32
  let v3560 : BitVec 32 := Scalar.select v3559 c1_i32_1279 c4_i32_1277
  let v3561 : BitVec 32 := Scalar.remsi c6_i32_1273 v3560
  let c0_i32_1281 : BitVec 32 := 0#32
  let v3563 : BitVec 1 := Scalar.cmpi .slt v3561 c0_i32_1281
  let c0_i32_1282 : BitVec 32 := 0#32
  let v3564 : BitVec 1 := Scalar.cmpi .slt v3560 c0_i32_1282
  let v3565 : BitVec 1 := Scalar.xori v3563 v3564
  let c0_i32_1280 : BitVec 32 := 0#32
  let v3562 : BitVec 1 := Scalar.cmpi .ne v3561 c0_i32_1280
  let v3566 : BitVec 1 := Scalar.andi v3565 v3562
  let v3567 : BitVec 32 := Scalar.addi v3561 v3560
  let v3568 : BitVec 32 := Scalar.select v3566 v3567 v3561
  let c32_i32_1283 : BitVec 32 := 32#32
  let v3569 : BitVec 32 := Scalar.muli v3568 c32_i32_1283
  v3569
def k0_mult112 : BitVec 32 :=
  let c7_i32_1296 : BitVec 32 := 7#32
  let c32_i32_1297 : BitVec 32 := 32#32
  let v3613 : BitVec 32 := Scalar.muli c7_i32_1296 c32_i32_1297
  v3613
def k0_mult113 : BitVec 32 :=
  let c7_i32_1296 : BitVec 32 := 7#32
  let c4_i32_1300 : BitVec 32 := 4#32
  let c0_i32_1301 : BitVec 32 := 0#32
  let v3623 : BitVec 1 := Scalar.cmpi .eq c4_i32_1300 c0_i32_1301
  let c1_i32_1302 : BitVec 32 := 1#32
  let v3624 : BitVec 32 := Scalar.select v3623 c1_i32_1302 c4_i32_1300
  let v3625 : BitVec 32 := Scalar.remsi c7_i32_1296 v3624
  let c0_i32_1304 : BitVec 32 := 0#32
  let v3627 : BitVec 1 := Scalar.cmpi .slt v3625 c0_i32_1304
  let c0_i32_1305 : BitVec 32 := 0#32
  let v3628 : BitVec 1 := Scalar.cmpi .slt v3624 c0_i32_1305
  let v3629 : BitVec 1 := Scalar.xori v3627 v3628
  let c0_i32_1303 : BitVec 32 := 0#32
  let v3626 : BitVec 1 := Scalar.cmpi .ne v3625 c0_i32_1303
  let v3630 : BitVec 1 := Scalar.andi v3629 v3626
  let v3631 : BitVec 32 := Scalar.addi v3625 v3624
  let v3632 : BitVec 32 := Scalar.select v3630 v3631 v3625
  let c32_i32_1306 : BitVec 32 := 32#32
  let v3633 : BitVec 32 := Scalar.muli v3632 c32_i32_1306
  v3633
def k0_mult114 : BitVec 32 :=
  let c8_i32_1319 : BitVec 32 := 8#32
  let c32_i32_1320 : BitVec 32 := 32#32
  let v3677 : BitVec 32 := Scalar.muli c8_i32_1319 c32_i32_1320
  v3677
def k0_mult115 : BitVec 32 :=
  let c8_i32_1319 : BitVec 32 := 8#32
  let c4_i32_1323 : BitVec 32 := 4#32
  let c0_i32_1324 : BitVec 32 := 0#32
  let v3687 : BitVec 1 := Scalar.cmpi .eq c4_i32_1323 c0_i32_1324
  let c1_i32_1325 : BitVec 32 := 1#32
  let v3688 : BitVec 32 := Scalar.select v3687 c1_i32_1325 c4_i32_1323
  let v3689 : BitVec 32 := Scalar.remsi c8_i32_1319 v3688
  let c0_i32_1327 : BitVec 32 := 0#32
  let v3691 : BitVec 1 := Scalar.cmpi .slt v3689 c0_i32_1327
  let c0_i32_1328 : BitVec 32 := 0#32
  let v3692 : BitVec 1 := Scalar.cmpi .slt v3688 c0_i32_1328
  let v3693 : BitVec 1 := Scalar.xori v3691 v3692
  let c0_i32_1326 : BitVec 32 := 0#32
  let v3690 : BitVec 1 := Scalar.cmpi .ne v3689 c0_i32_1326
  let v3694 : BitVec 1 := Scalar.andi v3693 v3690
  let v3695 : BitVec 32 := Scalar.addi v3689 v3688
  let v3696 : BitVec 32 := Scalar.select v3694 v3695 v3689
  let c32_i32_1329 : BitVec 32 := 32#32
  let v3697 : BitVec 32 := Scalar.muli v3696 c32_i32_1329
  v3697
def k0_mult116 : BitVec 32 :=
  let c9_i32_1342 : BitVec 32 := 9#32
  let c32_i32_1343 : BitVec 32 := 32#32
  let v3741 : BitVec 32 := Scalar.muli c9_i32_1342 c32_i32_1343
  v3741
def k0_mult117 : BitVec 32 :=
  let c9_i32_1342 : BitVec 32 := 9#32
  let c4_i32_1346 : BitVec 32 := 4#32
  let c0_i32_1347 : BitVec 32 := 0#32
  let v3751 : BitVec 1 := Scalar.cmpi .eq c4_i32_1346 c0_i32_1347
  let c1_i32_1348 : BitVec 32 := 1#32
  let v3752 : BitVec 32 := Scalar.select v3751 c1_i32_1348 c4_i32_1346
  let v3753 : BitVec 32 := Scalar.remsi c9_i32_1342 v3752
  let c0_i32_1350 : BitVec 32 := 0#32
  let v3755 : BitVec 1 := Scalar.cmpi .slt v3753 c0_i32_1350
  let c0_i32_1351 : BitVec 32 := 0#32
  let v3756 : BitVec 1 := Scalar.cmpi .slt v3752 c0_i32_1351
  let v3757 : BitVec 1 := Scalar.xori v3755 v3756
  let c0_i32_1349 : BitVec 32 := 0#32
  let v3754 : BitVec 1 := Scalar.cmpi .ne v3753 c0_i32_1349
  let v3758 : BitVec 1 := Scalar.andi v3757 v3754
  let v3759 : BitVec 32 := Scalar.addi v3753 v3752
  let v3760 : BitVec 32 := Scalar.select v3758 v3759 v3753
  let c32_i32_1352 : BitVec 32 := 32#32
  let v3761 : BitVec 32 := Scalar.muli v3760 c32_i32_1352
  v3761
def k0_mult118 : BitVec 32 :=
  let c10_i32_1365 : BitVec 32 := 10#32
  let c32_i32_1366 : BitVec 32 := 32#32
  let v3805 : BitVec 32 := Scalar.muli c10_i32_1365 c32_i32_1366
  v3805
def k0_mult119 : BitVec 32 :=
  let c10_i32_1365 : BitVec 32 := 10#32
  let c4_i32_1369 : BitVec 32 := 4#32
  let c0_i32_1370 : BitVec 32 := 0#32
  let v3815 : BitVec 1 := Scalar.cmpi .eq c4_i32_1369 c0_i32_1370
  let c1_i32_1371 : BitVec 32 := 1#32
  let v3816 : BitVec 32 := Scalar.select v3815 c1_i32_1371 c4_i32_1369
  let v3817 : BitVec 32 := Scalar.remsi c10_i32_1365 v3816
  let c0_i32_1373 : BitVec 32 := 0#32
  let v3819 : BitVec 1 := Scalar.cmpi .slt v3817 c0_i32_1373
  let c0_i32_1374 : BitVec 32 := 0#32
  let v3820 : BitVec 1 := Scalar.cmpi .slt v3816 c0_i32_1374
  let v3821 : BitVec 1 := Scalar.xori v3819 v3820
  let c0_i32_1372 : BitVec 32 := 0#32
  let v3818 : BitVec 1 := Scalar.cmpi .ne v3817 c0_i32_1372
  let v3822 : BitVec 1 := Scalar.andi v3821 v3818
  let v3823 : BitVec 32 := Scalar.addi v3817 v3816
  let v3824 : BitVec 32 := Scalar.select v3822 v3823 v3817
  let c32_i32_1375 : BitVec 32 := 32#32
  let v3825 : BitVec 32 := Scalar.muli v3824 c32_i32_1375
  v3825
def k0_mult120 : BitVec 32 :=
  let c11_i32_1388 : BitVec 32 := 11#32
  let c32_i32_1389 : BitVec 32 := 32#32
  let v3869 : BitVec 32 := Scalar.muli c11_i32_1388 c32_i32_1389
  v3869
def k0_mult121 : BitVec 32 :=
  let c11_i32_1388 : BitVec 32 := 11#32
  let c4_i32_1392 : BitVec 32 := 4#32
  let c0_i32_1393 : BitVec 32 := 0#32
  let v3879 : BitVec 1 := Scalar.cmpi .eq c4_i32_1392 c0_i32_1393
  let c1_i32_1394 : BitVec 32 := 1#32
  let v3880 : BitVec 32 := Scalar.select v3879 c1_i32_1394 c4_i32_1392
  let v3881 : BitVec 32 := Scalar.remsi c11_i32_1388 v3880
  let c0_i32_1396 : BitVec 32 := 0#32
  let v3883 : BitVec 1 := Scalar.cmpi .slt v3881 c0_i32_1396
  let c0_i32_1397 : BitVec 32 := 0#32
  let v3884 : BitVec 1 := Scalar.cmpi .slt v3880 c0_i32_1397
  let v3885 : BitVec 1 := Scalar.xori v3883 v3884
  let c0_i32_1395 : BitVec 32 := 0#32
  let v3882 : BitVec 1 := Scalar.cmpi .ne v3881 c0_i32_1395
  let v3886 : BitVec 1 := Scalar.andi v3885 v3882
  let v3887 : BitVec 32 := Scalar.addi v3881 v3880
  let v3888 : BitVec 32 := Scalar.select v3886 v3887 v3881
  let c32_i32_1398 : BitVec 32 := 32#32
  let v3889 : BitVec 32 := Scalar.muli v3888 c32_i32_1398
  v3889
def k0_mult122 : BitVec 32 :=
  let c12_i32_1411 : BitVec 32 := 12#32
  let c32_i32_1412 : BitVec 32 := 32#32
  let v3933 : BitVec 32 := Scalar.muli c12_i32_1411 c32_i32_1412
  v3933
def k0_mult123 : BitVec 32 :=
  let c12_i32_1411 : BitVec 32 := 12#32
  let c4_i32_1415 : BitVec 32 := 4#32
  let c0_i32_1416 : BitVec 32 := 0#32
  let v3943 : BitVec 1 := Scalar.cmpi .eq c4_i32_1415 c0_i32_1416
  let c1_i32_1417 : BitVec 32 := 1#32
  let v3944 : BitVec 32 := Scalar.select v3943 c1_i32_1417 c4_i32_1415
  let v3945 : BitVec 32 := Scalar.remsi c12_i32_1411 v3944
  let c0_i32_1419 : BitVec 32 := 0#32
  let v3947 : BitVec 1 := Scalar.cmpi .slt v3945 c0_i32_1419
  let c0_i32_1420 : BitVec 32 := 0#32
  let v3948 : BitVec 1 := Scalar.cmpi .slt v3944 c0_i32_1420
  let v3949 : BitVec 1 := Scalar.xori v3947 v3948
  let c0_i32_1418 : BitVec 32 := 0#32
  let v3946 : BitVec 1 := Scalar.cmpi .ne v3945 c0_i32_1418
  let v3950 : BitVec 1 := Scalar.andi v3949 v3946
  let v3951 : BitVec 32 := Scalar.addi v3945 v3944
  let v3952 : BitVec 32 := Scalar.select v3950 v3951 v3945
  let c32_i32_1421 : BitVec 32 := 32#32
  let v3953 : BitVec 32 := Scalar.muli v3952 c32_i32_1421
  v3953
def k0_mult124 : BitVec 32 :=
  let c13_i32_1434 : BitVec 32 := 13#32
  let c32_i32_1435 : BitVec 32 := 32#32
  let v3997 : BitVec 32 := Scalar.muli c13_i32_1434 c32_i32_1435
  v3997
def k0_mult125 : BitVec 32 :=
  let c13_i32_1434 : BitVec 32 := 13#32
  let c4_i32_1438 : BitVec 32 := 4#32
  let c0_i32_1439 : BitVec 32 := 0#32
  let v4007 : BitVec 1 := Scalar.cmpi .eq c4_i32_1438 c0_i32_1439
  let c1_i32_1440 : BitVec 32 := 1#32
  let v4008 : BitVec 32 := Scalar.select v4007 c1_i32_1440 c4_i32_1438
  let v4009 : BitVec 32 := Scalar.remsi c13_i32_1434 v4008
  let c0_i32_1442 : BitVec 32 := 0#32
  let v4011 : BitVec 1 := Scalar.cmpi .slt v4009 c0_i32_1442
  let c0_i32_1443 : BitVec 32 := 0#32
  let v4012 : BitVec 1 := Scalar.cmpi .slt v4008 c0_i32_1443
  let v4013 : BitVec 1 := Scalar.xori v4011 v4012
  let c0_i32_1441 : BitVec 32 := 0#32
  let v4010 : BitVec 1 := Scalar.cmpi .ne v4009 c0_i32_1441
  let v4014 : BitVec 1 := Scalar.andi v4013 v4010
  let v4015 : BitVec 32 := Scalar.addi v4009 v4008
  let v4016 : BitVec 32 := Scalar.select v4014 v4015 v4009
  let c32_i32_1444 : BitVec 32 := 32#32
  let v4017 : BitVec 32 := Scalar.muli v4016 c32_i32_1444
  v4017
def k0_mult126 : BitVec 32 :=
  let c14_i32_1457 : BitVec 32 := 14#32
  let c32_i32_1458 : BitVec 32 := 32#32
  let v4061 : BitVec 32 := Scalar.muli c14_i32_1457 c32_i32_1458
  v4061
def k0_mult127 : BitVec 32 :=
  let c14_i32_1457 : BitVec 32 := 14#32
  let c4_i32_1461 : BitVec 32 := 4#32
  let c0_i32_1462 : BitVec 32 := 0#32
  let v4071 : BitVec 1 := Scalar.cmpi .eq c4_i32_1461 c0_i32_1462
  let c1_i32_1463 : BitVec 32 := 1#32
  let v4072 : BitVec 32 := Scalar.select v4071 c1_i32_1463 c4_i32_1461
  let v4073 : BitVec 32 := Scalar.remsi c14_i32_1457 v4072
  let c0_i32_1465 : BitVec 32 := 0#32
  let v4075 : BitVec 1 := Scalar.cmpi .slt v4073 c0_i32_1465
  let c0_i32_1466 : BitVec 32 := 0#32
  let v4076 : BitVec 1 := Scalar.cmpi .slt v4072 c0_i32_1466
  let v4077 : BitVec 1 := Scalar.xori v4075 v4076
  let c0_i32_1464 : BitVec 32 := 0#32
  let v4074 : BitVec 1 := Scalar.cmpi .ne v4073 c0_i32_1464
  let v4078 : BitVec 1 := Scalar.andi v4077 v4074
  let v4079 : BitVec 32 := Scalar.addi v4073 v4072
  let v4080 : BitVec 32 := Scalar.select v4078 v4079 v4073
  let c32_i32_1467 : BitVec 32 := 32#32
  let v4081 : BitVec 32 := Scalar.muli v4080 c32_i32_1467
  v4081
def k0_mult128 : BitVec 32 :=
  let c15_i32_1480 : BitVec 32 := 15#32
  let c32_i32_1481 : BitVec 32 := 32#32
  let v4125 : BitVec 32 := Scalar.muli c15_i32_1480 c32_i32_1481
  v4125
def k0_mult129 : BitVec 32 :=
  let c15_i32_1480 : BitVec 32 := 15#32
  let c4_i32_1484 : BitVec 32 := 4#32
  let c0_i32_1485 : BitVec 32 := 0#32
  let v4135 : BitVec 1 := Scalar.cmpi .eq c4_i32_1484 c0_i32_1485
  let c1_i32_1486 : BitVec 32 := 1#32
  let v4136 : BitVec 32 := Scalar.select v4135 c1_i32_1486 c4_i32_1484
  let v4137 : BitVec 32 := Scalar.remsi c15_i32_1480 v4136
  let c0_i32_1488 : BitVec 32 := 0#32
  let v4139 : BitVec 1 := Scalar.cmpi .slt v4137 c0_i32_1488
  let c0_i32_1489 : BitVec 32 := 0#32
  let v4140 : BitVec 1 := Scalar.cmpi .slt v4136 c0_i32_1489
  let v4141 : BitVec 1 := Scalar.xori v4139 v4140
  let c0_i32_1487 : BitVec 32 := 0#32
  let v4138 : BitVec 1 := Scalar.cmpi .ne v4137 c0_i32_1487
  let v4142 : BitVec 1 := Scalar.andi v4141 v4138
  let v4143 : BitVec 32 := Scalar.addi v4137 v4136
  let v4144 : BitVec 32 := Scalar.select v4142 v4143 v4137
  let c32_i32_1490 : BitVec 32 := 32#32
  let v4145 : BitVec 32 := Scalar.muli v4144 c32_i32_1490
  v4145
def k0_mult130 : BitVec 32 :=
  let c0_i32_1504 : BitVec 32 := 0#32
  let c32_i32_1505 : BitVec 32 := 32#32
  let v4189 : BitVec 32 := Scalar.muli c0_i32_1504 c32_i32_1505
  v4189
def k0_mult131 : BitVec 32 :=
  let c0_i32_1504 : BitVec 32 := 0#32
  let c4_i32_1508 : BitVec 32 := 4#32
  let c0_i32_1509 : BitVec 32 := 0#32
  let v4199 : BitVec 1 := Scalar.cmpi .eq c4_i32_1508 c0_i32_1509
  let c1_i32_1510 : BitVec 32 := 1#32
  let v4200 : BitVec 32 := Scalar.select v4199 c1_i32_1510 c4_i32_1508
  let v4201 : BitVec 32 := Scalar.remsi c0_i32_1504 v4200
  let c0_i32_1512 : BitVec 32 := 0#32
  let v4203 : BitVec 1 := Scalar.cmpi .slt v4201 c0_i32_1512
  let c0_i32_1513 : BitVec 32 := 0#32
  let v4204 : BitVec 1 := Scalar.cmpi .slt v4200 c0_i32_1513
  let v4205 : BitVec 1 := Scalar.xori v4203 v4204
  let c0_i32_1511 : BitVec 32 := 0#32
  let v4202 : BitVec 1 := Scalar.cmpi .ne v4201 c0_i32_1511
  let v4206 : BitVec 1 := Scalar.andi v4205 v4202
  let v4207 : BitVec 32 := Scalar.addi v4201 v4200
  let v4208 : BitVec 32 := Scalar.select v4206 v4207 v4201
  let c32_i32_1514 : BitVec 32 := 32#32
  let v4209 : BitVec 32 := Scalar.muli v4208 c32_i32_1514
  v4209
def k0_off12 (c0_i32_1504 : BitVec 32) : Fin 3 → Nat :=
  let c0_1526 : Index := 0#32
  let c32_i32_1505 : BitVec 32 := 32#32
  let v4189 : BitVec 32 := Scalar.muli c0_i32_1504 c32_i32_1505
  let v4190 : BitVec 32 := v4189
  let v4253 : Index := Scalar.indexCast v4190
  let c0_1527 : Index := 0#32
  ![0, v4253.toNat, 0]
def k0_off13 (c0_i32_1504 : BitVec 32) : Fin 3 → Nat :=
  let c0_1528 : Index := 0#32
  let c32_i32_1505 : BitVec 32 := 32#32
  let v4189 : BitVec 32 := Scalar.muli c0_i32_1504 c32_i32_1505
  let v4190 : BitVec 32 := v4189
  let v4258 : Index := Scalar.indexCast v4190
  let c128 : Index := 128#32
  ![0, v4258.toNat, 128]
def k0_off14 (c0_i32_1504 : BitVec 32) : Fin 3 → Nat :=
  let c0_1529 : Index := 0#32
  let c32_i32_1505 : BitVec 32 := 32#32
  let v4189 : BitVec 32 := Scalar.muli c0_i32_1504 c32_i32_1505
  let v4190 : BitVec 32 := v4189
  let v4263 : Index := Scalar.indexCast v4190
  let c256 : Index := 256#32
  ![0, v4263.toNat, 256]
def k0_off15 (c0_i32_1504 : BitVec 32) : Fin 3 → Nat :=
  let c0_1530 : Index := 0#32
  let c32_i32_1505 : BitVec 32 := 32#32
  let v4189 : BitVec 32 := Scalar.muli c0_i32_1504 c32_i32_1505
  let v4190 : BitVec 32 := v4189
  let v4268 : Index := Scalar.indexCast v4190
  let c384_1531 : Index := 384#32
  ![0, v4268.toNat, 384]
def k0_off16 (c0_i32_1504 : BitVec 32) : Fin 3 → Nat :=
  let c0_1532 : Index := 0#32
  let c32_i32_1505 : BitVec 32 := 32#32
  let v4189 : BitVec 32 := Scalar.muli c0_i32_1504 c32_i32_1505
  let v4190 : BitVec 32 := v4189
  let v4273 : Index := Scalar.indexCast v4190
  let c512 : Index := 512#32
  ![0, v4273.toNat, 512]
def k0_mult132 : BitVec 32 :=
  let c1_i32_1537 : BitVec 32 := 1#32
  let c32_i32_1538 : BitVec 32 := 32#32
  let v4294 : BitVec 32 := Scalar.muli c1_i32_1537 c32_i32_1538
  v4294
def k0_mult133 : BitVec 32 :=
  let c1_i32_1537 : BitVec 32 := 1#32
  let c4_i32_1541 : BitVec 32 := 4#32
  let c0_i32_1542 : BitVec 32 := 0#32
  let v4304 : BitVec 1 := Scalar.cmpi .eq c4_i32_1541 c0_i32_1542
  let c1_i32_1543 : BitVec 32 := 1#32
  let v4305 : BitVec 32 := Scalar.select v4304 c1_i32_1543 c4_i32_1541
  let v4306 : BitVec 32 := Scalar.remsi c1_i32_1537 v4305
  let c0_i32_1545 : BitVec 32 := 0#32
  let v4308 : BitVec 1 := Scalar.cmpi .slt v4306 c0_i32_1545
  let c0_i32_1546 : BitVec 32 := 0#32
  let v4309 : BitVec 1 := Scalar.cmpi .slt v4305 c0_i32_1546
  let v4310 : BitVec 1 := Scalar.xori v4308 v4309
  let c0_i32_1544 : BitVec 32 := 0#32
  let v4307 : BitVec 1 := Scalar.cmpi .ne v4306 c0_i32_1544
  let v4311 : BitVec 1 := Scalar.andi v4310 v4307
  let v4312 : BitVec 32 := Scalar.addi v4306 v4305
  let v4313 : BitVec 32 := Scalar.select v4311 v4312 v4306
  let c32_i32_1547 : BitVec 32 := 32#32
  let v4314 : BitVec 32 := Scalar.muli v4313 c32_i32_1547
  v4314
def k0_mult134 : BitVec 32 :=
  let c2_i32_1573 : BitVec 32 := 2#32
  let c32_i32_1574 : BitVec 32 := 32#32
  let v4399 : BitVec 32 := Scalar.muli c2_i32_1573 c32_i32_1574
  v4399
def k0_mult135 : BitVec 32 :=
  let c2_i32_1573 : BitVec 32 := 2#32
  let c4_i32_1577 : BitVec 32 := 4#32
  let c0_i32_1578 : BitVec 32 := 0#32
  let v4409 : BitVec 1 := Scalar.cmpi .eq c4_i32_1577 c0_i32_1578
  let c1_i32_1579 : BitVec 32 := 1#32
  let v4410 : BitVec 32 := Scalar.select v4409 c1_i32_1579 c4_i32_1577
  let v4411 : BitVec 32 := Scalar.remsi c2_i32_1573 v4410
  let c0_i32_1581 : BitVec 32 := 0#32
  let v4413 : BitVec 1 := Scalar.cmpi .slt v4411 c0_i32_1581
  let c0_i32_1582 : BitVec 32 := 0#32
  let v4414 : BitVec 1 := Scalar.cmpi .slt v4410 c0_i32_1582
  let v4415 : BitVec 1 := Scalar.xori v4413 v4414
  let c0_i32_1580 : BitVec 32 := 0#32
  let v4412 : BitVec 1 := Scalar.cmpi .ne v4411 c0_i32_1580
  let v4416 : BitVec 1 := Scalar.andi v4415 v4412
  let v4417 : BitVec 32 := Scalar.addi v4411 v4410
  let v4418 : BitVec 32 := Scalar.select v4416 v4417 v4411
  let c32_i32_1583 : BitVec 32 := 32#32
  let v4419 : BitVec 32 := Scalar.muli v4418 c32_i32_1583
  v4419
def k0_mult136 : BitVec 32 :=
  let c3_i32_1609 : BitVec 32 := 3#32
  let c32_i32_1610 : BitVec 32 := 32#32
  let v4504 : BitVec 32 := Scalar.muli c3_i32_1609 c32_i32_1610
  v4504
def k0_mult137 : BitVec 32 :=
  let c3_i32_1609 : BitVec 32 := 3#32
  let c4_i32_1613 : BitVec 32 := 4#32
  let c0_i32_1614 : BitVec 32 := 0#32
  let v4514 : BitVec 1 := Scalar.cmpi .eq c4_i32_1613 c0_i32_1614
  let c1_i32_1615 : BitVec 32 := 1#32
  let v4515 : BitVec 32 := Scalar.select v4514 c1_i32_1615 c4_i32_1613
  let v4516 : BitVec 32 := Scalar.remsi c3_i32_1609 v4515
  let c0_i32_1617 : BitVec 32 := 0#32
  let v4518 : BitVec 1 := Scalar.cmpi .slt v4516 c0_i32_1617
  let c0_i32_1618 : BitVec 32 := 0#32
  let v4519 : BitVec 1 := Scalar.cmpi .slt v4515 c0_i32_1618
  let v4520 : BitVec 1 := Scalar.xori v4518 v4519
  let c0_i32_1616 : BitVec 32 := 0#32
  let v4517 : BitVec 1 := Scalar.cmpi .ne v4516 c0_i32_1616
  let v4521 : BitVec 1 := Scalar.andi v4520 v4517
  let v4522 : BitVec 32 := Scalar.addi v4516 v4515
  let v4523 : BitVec 32 := Scalar.select v4521 v4522 v4516
  let c32_i32_1619 : BitVec 32 := 32#32
  let v4524 : BitVec 32 := Scalar.muli v4523 c32_i32_1619
  v4524
def k0_mult138 : BitVec 32 :=
  let c4_i32_1645 : BitVec 32 := 4#32
  let c32_i32_1646 : BitVec 32 := 32#32
  let v4609 : BitVec 32 := Scalar.muli c4_i32_1645 c32_i32_1646
  v4609
def k0_mult139 : BitVec 32 :=
  let c4_i32_1645 : BitVec 32 := 4#32
  let c4_i32_1649 : BitVec 32 := 4#32
  let c0_i32_1650 : BitVec 32 := 0#32
  let v4619 : BitVec 1 := Scalar.cmpi .eq c4_i32_1649 c0_i32_1650
  let c1_i32_1651 : BitVec 32 := 1#32
  let v4620 : BitVec 32 := Scalar.select v4619 c1_i32_1651 c4_i32_1649
  let v4621 : BitVec 32 := Scalar.remsi c4_i32_1645 v4620
  let c0_i32_1653 : BitVec 32 := 0#32
  let v4623 : BitVec 1 := Scalar.cmpi .slt v4621 c0_i32_1653
  let c0_i32_1654 : BitVec 32 := 0#32
  let v4624 : BitVec 1 := Scalar.cmpi .slt v4620 c0_i32_1654
  let v4625 : BitVec 1 := Scalar.xori v4623 v4624
  let c0_i32_1652 : BitVec 32 := 0#32
  let v4622 : BitVec 1 := Scalar.cmpi .ne v4621 c0_i32_1652
  let v4626 : BitVec 1 := Scalar.andi v4625 v4622
  let v4627 : BitVec 32 := Scalar.addi v4621 v4620
  let v4628 : BitVec 32 := Scalar.select v4626 v4627 v4621
  let c32_i32_1655 : BitVec 32 := 32#32
  let v4629 : BitVec 32 := Scalar.muli v4628 c32_i32_1655
  v4629
def k0_mult140 : BitVec 32 :=
  let c5_i32_1681 : BitVec 32 := 5#32
  let c32_i32_1682 : BitVec 32 := 32#32
  let v4714 : BitVec 32 := Scalar.muli c5_i32_1681 c32_i32_1682
  v4714
def k0_mult141 : BitVec 32 :=
  let c5_i32_1681 : BitVec 32 := 5#32
  let c4_i32_1685 : BitVec 32 := 4#32
  let c0_i32_1686 : BitVec 32 := 0#32
  let v4724 : BitVec 1 := Scalar.cmpi .eq c4_i32_1685 c0_i32_1686
  let c1_i32_1687 : BitVec 32 := 1#32
  let v4725 : BitVec 32 := Scalar.select v4724 c1_i32_1687 c4_i32_1685
  let v4726 : BitVec 32 := Scalar.remsi c5_i32_1681 v4725
  let c0_i32_1689 : BitVec 32 := 0#32
  let v4728 : BitVec 1 := Scalar.cmpi .slt v4726 c0_i32_1689
  let c0_i32_1690 : BitVec 32 := 0#32
  let v4729 : BitVec 1 := Scalar.cmpi .slt v4725 c0_i32_1690
  let v4730 : BitVec 1 := Scalar.xori v4728 v4729
  let c0_i32_1688 : BitVec 32 := 0#32
  let v4727 : BitVec 1 := Scalar.cmpi .ne v4726 c0_i32_1688
  let v4731 : BitVec 1 := Scalar.andi v4730 v4727
  let v4732 : BitVec 32 := Scalar.addi v4726 v4725
  let v4733 : BitVec 32 := Scalar.select v4731 v4732 v4726
  let c32_i32_1691 : BitVec 32 := 32#32
  let v4734 : BitVec 32 := Scalar.muli v4733 c32_i32_1691
  v4734
def k0_mult142 : BitVec 32 :=
  let c6_i32_1717 : BitVec 32 := 6#32
  let c32_i32_1718 : BitVec 32 := 32#32
  let v4819 : BitVec 32 := Scalar.muli c6_i32_1717 c32_i32_1718
  v4819
def k0_mult143 : BitVec 32 :=
  let c6_i32_1717 : BitVec 32 := 6#32
  let c4_i32_1721 : BitVec 32 := 4#32
  let c0_i32_1722 : BitVec 32 := 0#32
  let v4829 : BitVec 1 := Scalar.cmpi .eq c4_i32_1721 c0_i32_1722
  let c1_i32_1723 : BitVec 32 := 1#32
  let v4830 : BitVec 32 := Scalar.select v4829 c1_i32_1723 c4_i32_1721
  let v4831 : BitVec 32 := Scalar.remsi c6_i32_1717 v4830
  let c0_i32_1725 : BitVec 32 := 0#32
  let v4833 : BitVec 1 := Scalar.cmpi .slt v4831 c0_i32_1725
  let c0_i32_1726 : BitVec 32 := 0#32
  let v4834 : BitVec 1 := Scalar.cmpi .slt v4830 c0_i32_1726
  let v4835 : BitVec 1 := Scalar.xori v4833 v4834
  let c0_i32_1724 : BitVec 32 := 0#32
  let v4832 : BitVec 1 := Scalar.cmpi .ne v4831 c0_i32_1724
  let v4836 : BitVec 1 := Scalar.andi v4835 v4832
  let v4837 : BitVec 32 := Scalar.addi v4831 v4830
  let v4838 : BitVec 32 := Scalar.select v4836 v4837 v4831
  let c32_i32_1727 : BitVec 32 := 32#32
  let v4839 : BitVec 32 := Scalar.muli v4838 c32_i32_1727
  v4839
def k0_mult144 : BitVec 32 :=
  let c7_i32_1753 : BitVec 32 := 7#32
  let c32_i32_1754 : BitVec 32 := 32#32
  let v4924 : BitVec 32 := Scalar.muli c7_i32_1753 c32_i32_1754
  v4924
def k0_mult145 : BitVec 32 :=
  let c7_i32_1753 : BitVec 32 := 7#32
  let c4_i32_1757 : BitVec 32 := 4#32
  let c0_i32_1758 : BitVec 32 := 0#32
  let v4934 : BitVec 1 := Scalar.cmpi .eq c4_i32_1757 c0_i32_1758
  let c1_i32_1759 : BitVec 32 := 1#32
  let v4935 : BitVec 32 := Scalar.select v4934 c1_i32_1759 c4_i32_1757
  let v4936 : BitVec 32 := Scalar.remsi c7_i32_1753 v4935
  let c0_i32_1761 : BitVec 32 := 0#32
  let v4938 : BitVec 1 := Scalar.cmpi .slt v4936 c0_i32_1761
  let c0_i32_1762 : BitVec 32 := 0#32
  let v4939 : BitVec 1 := Scalar.cmpi .slt v4935 c0_i32_1762
  let v4940 : BitVec 1 := Scalar.xori v4938 v4939
  let c0_i32_1760 : BitVec 32 := 0#32
  let v4937 : BitVec 1 := Scalar.cmpi .ne v4936 c0_i32_1760
  let v4941 : BitVec 1 := Scalar.andi v4940 v4937
  let v4942 : BitVec 32 := Scalar.addi v4936 v4935
  let v4943 : BitVec 32 := Scalar.select v4941 v4942 v4936
  let c32_i32_1763 : BitVec 32 := 32#32
  let v4944 : BitVec 32 := Scalar.muli v4943 c32_i32_1763
  v4944
def k0_mult146 : BitVec 32 :=
  let c8_i32_1789 : BitVec 32 := 8#32
  let c32_i32_1790 : BitVec 32 := 32#32
  let v5029 : BitVec 32 := Scalar.muli c8_i32_1789 c32_i32_1790
  v5029
def k0_mult147 : BitVec 32 :=
  let c8_i32_1789 : BitVec 32 := 8#32
  let c4_i32_1793 : BitVec 32 := 4#32
  let c0_i32_1794 : BitVec 32 := 0#32
  let v5039 : BitVec 1 := Scalar.cmpi .eq c4_i32_1793 c0_i32_1794
  let c1_i32_1795 : BitVec 32 := 1#32
  let v5040 : BitVec 32 := Scalar.select v5039 c1_i32_1795 c4_i32_1793
  let v5041 : BitVec 32 := Scalar.remsi c8_i32_1789 v5040
  let c0_i32_1797 : BitVec 32 := 0#32
  let v5043 : BitVec 1 := Scalar.cmpi .slt v5041 c0_i32_1797
  let c0_i32_1798 : BitVec 32 := 0#32
  let v5044 : BitVec 1 := Scalar.cmpi .slt v5040 c0_i32_1798
  let v5045 : BitVec 1 := Scalar.xori v5043 v5044
  let c0_i32_1796 : BitVec 32 := 0#32
  let v5042 : BitVec 1 := Scalar.cmpi .ne v5041 c0_i32_1796
  let v5046 : BitVec 1 := Scalar.andi v5045 v5042
  let v5047 : BitVec 32 := Scalar.addi v5041 v5040
  let v5048 : BitVec 32 := Scalar.select v5046 v5047 v5041
  let c32_i32_1799 : BitVec 32 := 32#32
  let v5049 : BitVec 32 := Scalar.muli v5048 c32_i32_1799
  v5049
def k0_mult148 : BitVec 32 :=
  let c9_i32_1825 : BitVec 32 := 9#32
  let c32_i32_1826 : BitVec 32 := 32#32
  let v5134 : BitVec 32 := Scalar.muli c9_i32_1825 c32_i32_1826
  v5134
def k0_mult149 : BitVec 32 :=
  let c9_i32_1825 : BitVec 32 := 9#32
  let c4_i32_1829 : BitVec 32 := 4#32
  let c0_i32_1830 : BitVec 32 := 0#32
  let v5144 : BitVec 1 := Scalar.cmpi .eq c4_i32_1829 c0_i32_1830
  let c1_i32_1831 : BitVec 32 := 1#32
  let v5145 : BitVec 32 := Scalar.select v5144 c1_i32_1831 c4_i32_1829
  let v5146 : BitVec 32 := Scalar.remsi c9_i32_1825 v5145
  let c0_i32_1833 : BitVec 32 := 0#32
  let v5148 : BitVec 1 := Scalar.cmpi .slt v5146 c0_i32_1833
  let c0_i32_1834 : BitVec 32 := 0#32
  let v5149 : BitVec 1 := Scalar.cmpi .slt v5145 c0_i32_1834
  let v5150 : BitVec 1 := Scalar.xori v5148 v5149
  let c0_i32_1832 : BitVec 32 := 0#32
  let v5147 : BitVec 1 := Scalar.cmpi .ne v5146 c0_i32_1832
  let v5151 : BitVec 1 := Scalar.andi v5150 v5147
  let v5152 : BitVec 32 := Scalar.addi v5146 v5145
  let v5153 : BitVec 32 := Scalar.select v5151 v5152 v5146
  let c32_i32_1835 : BitVec 32 := 32#32
  let v5154 : BitVec 32 := Scalar.muli v5153 c32_i32_1835
  v5154
def k0_mult150 : BitVec 32 :=
  let c10_i32_1861 : BitVec 32 := 10#32
  let c32_i32_1862 : BitVec 32 := 32#32
  let v5239 : BitVec 32 := Scalar.muli c10_i32_1861 c32_i32_1862
  v5239
def k0_mult151 : BitVec 32 :=
  let c10_i32_1861 : BitVec 32 := 10#32
  let c4_i32_1865 : BitVec 32 := 4#32
  let c0_i32_1866 : BitVec 32 := 0#32
  let v5249 : BitVec 1 := Scalar.cmpi .eq c4_i32_1865 c0_i32_1866
  let c1_i32_1867 : BitVec 32 := 1#32
  let v5250 : BitVec 32 := Scalar.select v5249 c1_i32_1867 c4_i32_1865
  let v5251 : BitVec 32 := Scalar.remsi c10_i32_1861 v5250
  let c0_i32_1869 : BitVec 32 := 0#32
  let v5253 : BitVec 1 := Scalar.cmpi .slt v5251 c0_i32_1869
  let c0_i32_1870 : BitVec 32 := 0#32
  let v5254 : BitVec 1 := Scalar.cmpi .slt v5250 c0_i32_1870
  let v5255 : BitVec 1 := Scalar.xori v5253 v5254
  let c0_i32_1868 : BitVec 32 := 0#32
  let v5252 : BitVec 1 := Scalar.cmpi .ne v5251 c0_i32_1868
  let v5256 : BitVec 1 := Scalar.andi v5255 v5252
  let v5257 : BitVec 32 := Scalar.addi v5251 v5250
  let v5258 : BitVec 32 := Scalar.select v5256 v5257 v5251
  let c32_i32_1871 : BitVec 32 := 32#32
  let v5259 : BitVec 32 := Scalar.muli v5258 c32_i32_1871
  v5259
def k0_mult152 : BitVec 32 :=
  let c11_i32_1897 : BitVec 32 := 11#32
  let c32_i32_1898 : BitVec 32 := 32#32
  let v5344 : BitVec 32 := Scalar.muli c11_i32_1897 c32_i32_1898
  v5344
def k0_mult153 : BitVec 32 :=
  let c11_i32_1897 : BitVec 32 := 11#32
  let c4_i32_1901 : BitVec 32 := 4#32
  let c0_i32_1902 : BitVec 32 := 0#32
  let v5354 : BitVec 1 := Scalar.cmpi .eq c4_i32_1901 c0_i32_1902
  let c1_i32_1903 : BitVec 32 := 1#32
  let v5355 : BitVec 32 := Scalar.select v5354 c1_i32_1903 c4_i32_1901
  let v5356 : BitVec 32 := Scalar.remsi c11_i32_1897 v5355
  let c0_i32_1905 : BitVec 32 := 0#32
  let v5358 : BitVec 1 := Scalar.cmpi .slt v5356 c0_i32_1905
  let c0_i32_1906 : BitVec 32 := 0#32
  let v5359 : BitVec 1 := Scalar.cmpi .slt v5355 c0_i32_1906
  let v5360 : BitVec 1 := Scalar.xori v5358 v5359
  let c0_i32_1904 : BitVec 32 := 0#32
  let v5357 : BitVec 1 := Scalar.cmpi .ne v5356 c0_i32_1904
  let v5361 : BitVec 1 := Scalar.andi v5360 v5357
  let v5362 : BitVec 32 := Scalar.addi v5356 v5355
  let v5363 : BitVec 32 := Scalar.select v5361 v5362 v5356
  let c32_i32_1907 : BitVec 32 := 32#32
  let v5364 : BitVec 32 := Scalar.muli v5363 c32_i32_1907
  v5364
def k0_mult154 : BitVec 32 :=
  let c12_i32_1933 : BitVec 32 := 12#32
  let c32_i32_1934 : BitVec 32 := 32#32
  let v5449 : BitVec 32 := Scalar.muli c12_i32_1933 c32_i32_1934
  v5449
def k0_mult155 : BitVec 32 :=
  let c12_i32_1933 : BitVec 32 := 12#32
  let c4_i32_1937 : BitVec 32 := 4#32
  let c0_i32_1938 : BitVec 32 := 0#32
  let v5459 : BitVec 1 := Scalar.cmpi .eq c4_i32_1937 c0_i32_1938
  let c1_i32_1939 : BitVec 32 := 1#32
  let v5460 : BitVec 32 := Scalar.select v5459 c1_i32_1939 c4_i32_1937
  let v5461 : BitVec 32 := Scalar.remsi c12_i32_1933 v5460
  let c0_i32_1941 : BitVec 32 := 0#32
  let v5463 : BitVec 1 := Scalar.cmpi .slt v5461 c0_i32_1941
  let c0_i32_1942 : BitVec 32 := 0#32
  let v5464 : BitVec 1 := Scalar.cmpi .slt v5460 c0_i32_1942
  let v5465 : BitVec 1 := Scalar.xori v5463 v5464
  let c0_i32_1940 : BitVec 32 := 0#32
  let v5462 : BitVec 1 := Scalar.cmpi .ne v5461 c0_i32_1940
  let v5466 : BitVec 1 := Scalar.andi v5465 v5462
  let v5467 : BitVec 32 := Scalar.addi v5461 v5460
  let v5468 : BitVec 32 := Scalar.select v5466 v5467 v5461
  let c32_i32_1943 : BitVec 32 := 32#32
  let v5469 : BitVec 32 := Scalar.muli v5468 c32_i32_1943
  v5469
def k0_mult156 : BitVec 32 :=
  let c13_i32_1969 : BitVec 32 := 13#32
  let c32_i32_1970 : BitVec 32 := 32#32
  let v5554 : BitVec 32 := Scalar.muli c13_i32_1969 c32_i32_1970
  v5554
def k0_mult157 : BitVec 32 :=
  let c13_i32_1969 : BitVec 32 := 13#32
  let c4_i32_1973 : BitVec 32 := 4#32
  let c0_i32_1974 : BitVec 32 := 0#32
  let v5564 : BitVec 1 := Scalar.cmpi .eq c4_i32_1973 c0_i32_1974
  let c1_i32_1975 : BitVec 32 := 1#32
  let v5565 : BitVec 32 := Scalar.select v5564 c1_i32_1975 c4_i32_1973
  let v5566 : BitVec 32 := Scalar.remsi c13_i32_1969 v5565
  let c0_i32_1977 : BitVec 32 := 0#32
  let v5568 : BitVec 1 := Scalar.cmpi .slt v5566 c0_i32_1977
  let c0_i32_1978 : BitVec 32 := 0#32
  let v5569 : BitVec 1 := Scalar.cmpi .slt v5565 c0_i32_1978
  let v5570 : BitVec 1 := Scalar.xori v5568 v5569
  let c0_i32_1976 : BitVec 32 := 0#32
  let v5567 : BitVec 1 := Scalar.cmpi .ne v5566 c0_i32_1976
  let v5571 : BitVec 1 := Scalar.andi v5570 v5567
  let v5572 : BitVec 32 := Scalar.addi v5566 v5565
  let v5573 : BitVec 32 := Scalar.select v5571 v5572 v5566
  let c32_i32_1979 : BitVec 32 := 32#32
  let v5574 : BitVec 32 := Scalar.muli v5573 c32_i32_1979
  v5574
def k0_mult158 : BitVec 32 :=
  let c14_i32_2005 : BitVec 32 := 14#32
  let c32_i32_2006 : BitVec 32 := 32#32
  let v5659 : BitVec 32 := Scalar.muli c14_i32_2005 c32_i32_2006
  v5659
def k0_mult159 : BitVec 32 :=
  let c14_i32_2005 : BitVec 32 := 14#32
  let c4_i32_2009 : BitVec 32 := 4#32
  let c0_i32_2010 : BitVec 32 := 0#32
  let v5669 : BitVec 1 := Scalar.cmpi .eq c4_i32_2009 c0_i32_2010
  let c1_i32_2011 : BitVec 32 := 1#32
  let v5670 : BitVec 32 := Scalar.select v5669 c1_i32_2011 c4_i32_2009
  let v5671 : BitVec 32 := Scalar.remsi c14_i32_2005 v5670
  let c0_i32_2013 : BitVec 32 := 0#32
  let v5673 : BitVec 1 := Scalar.cmpi .slt v5671 c0_i32_2013
  let c0_i32_2014 : BitVec 32 := 0#32
  let v5674 : BitVec 1 := Scalar.cmpi .slt v5670 c0_i32_2014
  let v5675 : BitVec 1 := Scalar.xori v5673 v5674
  let c0_i32_2012 : BitVec 32 := 0#32
  let v5672 : BitVec 1 := Scalar.cmpi .ne v5671 c0_i32_2012
  let v5676 : BitVec 1 := Scalar.andi v5675 v5672
  let v5677 : BitVec 32 := Scalar.addi v5671 v5670
  let v5678 : BitVec 32 := Scalar.select v5676 v5677 v5671
  let c32_i32_2015 : BitVec 32 := 32#32
  let v5679 : BitVec 32 := Scalar.muli v5678 c32_i32_2015
  v5679
def k0_mult160 : BitVec 32 :=
  let c15_i32_2041 : BitVec 32 := 15#32
  let c32_i32_2042 : BitVec 32 := 32#32
  let v5764 : BitVec 32 := Scalar.muli c15_i32_2041 c32_i32_2042
  v5764
def k0_mult161 : BitVec 32 :=
  let c15_i32_2041 : BitVec 32 := 15#32
  let c4_i32_2045 : BitVec 32 := 4#32
  let c0_i32_2046 : BitVec 32 := 0#32
  let v5774 : BitVec 1 := Scalar.cmpi .eq c4_i32_2045 c0_i32_2046
  let c1_i32_2047 : BitVec 32 := 1#32
  let v5775 : BitVec 32 := Scalar.select v5774 c1_i32_2047 c4_i32_2045
  let v5776 : BitVec 32 := Scalar.remsi c15_i32_2041 v5775
  let c0_i32_2049 : BitVec 32 := 0#32
  let v5778 : BitVec 1 := Scalar.cmpi .slt v5776 c0_i32_2049
  let c0_i32_2050 : BitVec 32 := 0#32
  let v5779 : BitVec 1 := Scalar.cmpi .slt v5775 c0_i32_2050
  let v5780 : BitVec 1 := Scalar.xori v5778 v5779
  let c0_i32_2048 : BitVec 32 := 0#32
  let v5777 : BitVec 1 := Scalar.cmpi .ne v5776 c0_i32_2048
  let v5781 : BitVec 1 := Scalar.andi v5780 v5777
  let v5782 : BitVec 32 := Scalar.addi v5776 v5775
  let v5783 : BitVec 32 := Scalar.select v5781 v5782 v5776
  let c32_i32_2051 : BitVec 32 := 32#32
  let v5784 : BitVec 32 := Scalar.muli v5783 c32_i32_2051
  v5784
def k0_mult162 : BitVec 32 :=
  let c0_i32_2078 : BitVec 32 := 0#32
  let c32_i32_2079 : BitVec 32 := 32#32
  let v5869 : BitVec 32 := Scalar.muli c0_i32_2078 c32_i32_2079
  v5869
def k0_mult163 : BitVec 32 :=
  let c0_i32_2078 : BitVec 32 := 0#32
  let c4_i32_2082 : BitVec 32 := 4#32
  let c0_i32_2083 : BitVec 32 := 0#32
  let v5879 : BitVec 1 := Scalar.cmpi .eq c4_i32_2082 c0_i32_2083
  let c1_i32_2084 : BitVec 32 := 1#32
  let v5880 : BitVec 32 := Scalar.select v5879 c1_i32_2084 c4_i32_2082
  let v5881 : BitVec 32 := Scalar.remsi c0_i32_2078 v5880
  let c0_i32_2086 : BitVec 32 := 0#32
  let v5883 : BitVec 1 := Scalar.cmpi .slt v5881 c0_i32_2086
  let c0_i32_2087 : BitVec 32 := 0#32
  let v5884 : BitVec 1 := Scalar.cmpi .slt v5880 c0_i32_2087
  let v5885 : BitVec 1 := Scalar.xori v5883 v5884
  let c0_i32_2085 : BitVec 32 := 0#32
  let v5882 : BitVec 1 := Scalar.cmpi .ne v5881 c0_i32_2085
  let v5886 : BitVec 1 := Scalar.andi v5885 v5882
  let v5887 : BitVec 32 := Scalar.addi v5881 v5880
  let v5888 : BitVec 32 := Scalar.select v5886 v5887 v5881
  let c32_i32_2088 : BitVec 32 := 32#32
  let v5889 : BitVec 32 := Scalar.muli v5888 c32_i32_2088
  v5889
def k0_off17 (c0_i32_2078 : BitVec 32) : Fin 3 → Nat :=
  let c1_2100 : Index := 1#32
  let c32_i32_2079 : BitVec 32 := 32#32
  let v5869 : BitVec 32 := Scalar.muli c0_i32_2078 c32_i32_2079
  let v5870 : BitVec 32 := v5869
  let v5933 : Index := Scalar.indexCast v5870
  let c0_2101 : Index := 0#32
  ![1, v5933.toNat, 0]
def k0_off18 (c0_i32_2078 : BitVec 32) : Fin 3 → Nat :=
  let c1_2102 : Index := 1#32
  let c32_i32_2079 : BitVec 32 := 32#32
  let v5869 : BitVec 32 := Scalar.muli c0_i32_2078 c32_i32_2079
  let v5870 : BitVec 32 := v5869
  let v5938 : Index := Scalar.indexCast v5870
  let c128_2103 : Index := 128#32
  ![1, v5938.toNat, 128]
def k0_off19 (c0_i32_2078 : BitVec 32) : Fin 3 → Nat :=
  let c1_2104 : Index := 1#32
  let c32_i32_2079 : BitVec 32 := 32#32
  let v5869 : BitVec 32 := Scalar.muli c0_i32_2078 c32_i32_2079
  let v5870 : BitVec 32 := v5869
  let v5943 : Index := Scalar.indexCast v5870
  let c256_2105 : Index := 256#32
  ![1, v5943.toNat, 256]
def k0_off20 (c0_i32_2078 : BitVec 32) : Fin 3 → Nat :=
  let c1_2106 : Index := 1#32
  let c32_i32_2079 : BitVec 32 := 32#32
  let v5869 : BitVec 32 := Scalar.muli c0_i32_2078 c32_i32_2079
  let v5870 : BitVec 32 := v5869
  let v5948 : Index := Scalar.indexCast v5870
  let c384_2107 : Index := 384#32
  ![1, v5948.toNat, 384]
def k0_off21 (c0_i32_2078 : BitVec 32) : Fin 3 → Nat :=
  let c1_2108 : Index := 1#32
  let c32_i32_2079 : BitVec 32 := 32#32
  let v5869 : BitVec 32 := Scalar.muli c0_i32_2078 c32_i32_2079
  let v5870 : BitVec 32 := v5869
  let v5953 : Index := Scalar.indexCast v5870
  let c512_2109 : Index := 512#32
  ![1, v5953.toNat, 512]
def k0_mult164 : BitVec 32 :=
  let c1_i32_2114 : BitVec 32 := 1#32
  let c32_i32_2115 : BitVec 32 := 32#32
  let v5974 : BitVec 32 := Scalar.muli c1_i32_2114 c32_i32_2115
  v5974
def k0_mult165 : BitVec 32 :=
  let c1_i32_2114 : BitVec 32 := 1#32
  let c4_i32_2118 : BitVec 32 := 4#32
  let c0_i32_2119 : BitVec 32 := 0#32
  let v5984 : BitVec 1 := Scalar.cmpi .eq c4_i32_2118 c0_i32_2119
  let c1_i32_2120 : BitVec 32 := 1#32
  let v5985 : BitVec 32 := Scalar.select v5984 c1_i32_2120 c4_i32_2118
  let v5986 : BitVec 32 := Scalar.remsi c1_i32_2114 v5985
  let c0_i32_2122 : BitVec 32 := 0#32
  let v5988 : BitVec 1 := Scalar.cmpi .slt v5986 c0_i32_2122
  let c0_i32_2123 : BitVec 32 := 0#32
  let v5989 : BitVec 1 := Scalar.cmpi .slt v5985 c0_i32_2123
  let v5990 : BitVec 1 := Scalar.xori v5988 v5989
  let c0_i32_2121 : BitVec 32 := 0#32
  let v5987 : BitVec 1 := Scalar.cmpi .ne v5986 c0_i32_2121
  let v5991 : BitVec 1 := Scalar.andi v5990 v5987
  let v5992 : BitVec 32 := Scalar.addi v5986 v5985
  let v5993 : BitVec 32 := Scalar.select v5991 v5992 v5986
  let c32_i32_2124 : BitVec 32 := 32#32
  let v5994 : BitVec 32 := Scalar.muli v5993 c32_i32_2124
  v5994
def k0_mult166 : BitVec 32 :=
  let c2_i32_2150 : BitVec 32 := 2#32
  let c32_i32_2151 : BitVec 32 := 32#32
  let v6079 : BitVec 32 := Scalar.muli c2_i32_2150 c32_i32_2151
  v6079
def k0_mult167 : BitVec 32 :=
  let c2_i32_2150 : BitVec 32 := 2#32
  let c4_i32_2154 : BitVec 32 := 4#32
  let c0_i32_2155 : BitVec 32 := 0#32
  let v6089 : BitVec 1 := Scalar.cmpi .eq c4_i32_2154 c0_i32_2155
  let c1_i32_2156 : BitVec 32 := 1#32
  let v6090 : BitVec 32 := Scalar.select v6089 c1_i32_2156 c4_i32_2154
  let v6091 : BitVec 32 := Scalar.remsi c2_i32_2150 v6090
  let c0_i32_2158 : BitVec 32 := 0#32
  let v6093 : BitVec 1 := Scalar.cmpi .slt v6091 c0_i32_2158
  let c0_i32_2159 : BitVec 32 := 0#32
  let v6094 : BitVec 1 := Scalar.cmpi .slt v6090 c0_i32_2159
  let v6095 : BitVec 1 := Scalar.xori v6093 v6094
  let c0_i32_2157 : BitVec 32 := 0#32
  let v6092 : BitVec 1 := Scalar.cmpi .ne v6091 c0_i32_2157
  let v6096 : BitVec 1 := Scalar.andi v6095 v6092
  let v6097 : BitVec 32 := Scalar.addi v6091 v6090
  let v6098 : BitVec 32 := Scalar.select v6096 v6097 v6091
  let c32_i32_2160 : BitVec 32 := 32#32
  let v6099 : BitVec 32 := Scalar.muli v6098 c32_i32_2160
  v6099
def k0_mult168 : BitVec 32 :=
  let c3_i32_2186 : BitVec 32 := 3#32
  let c32_i32_2187 : BitVec 32 := 32#32
  let v6184 : BitVec 32 := Scalar.muli c3_i32_2186 c32_i32_2187
  v6184
def k0_mult169 : BitVec 32 :=
  let c3_i32_2186 : BitVec 32 := 3#32
  let c4_i32_2190 : BitVec 32 := 4#32
  let c0_i32_2191 : BitVec 32 := 0#32
  let v6194 : BitVec 1 := Scalar.cmpi .eq c4_i32_2190 c0_i32_2191
  let c1_i32_2192 : BitVec 32 := 1#32
  let v6195 : BitVec 32 := Scalar.select v6194 c1_i32_2192 c4_i32_2190
  let v6196 : BitVec 32 := Scalar.remsi c3_i32_2186 v6195
  let c0_i32_2194 : BitVec 32 := 0#32
  let v6198 : BitVec 1 := Scalar.cmpi .slt v6196 c0_i32_2194
  let c0_i32_2195 : BitVec 32 := 0#32
  let v6199 : BitVec 1 := Scalar.cmpi .slt v6195 c0_i32_2195
  let v6200 : BitVec 1 := Scalar.xori v6198 v6199
  let c0_i32_2193 : BitVec 32 := 0#32
  let v6197 : BitVec 1 := Scalar.cmpi .ne v6196 c0_i32_2193
  let v6201 : BitVec 1 := Scalar.andi v6200 v6197
  let v6202 : BitVec 32 := Scalar.addi v6196 v6195
  let v6203 : BitVec 32 := Scalar.select v6201 v6202 v6196
  let c32_i32_2196 : BitVec 32 := 32#32
  let v6204 : BitVec 32 := Scalar.muli v6203 c32_i32_2196
  v6204
def k0_mult170 : BitVec 32 :=
  let c4_i32_2222 : BitVec 32 := 4#32
  let c32_i32_2223 : BitVec 32 := 32#32
  let v6289 : BitVec 32 := Scalar.muli c4_i32_2222 c32_i32_2223
  v6289
def k0_mult171 : BitVec 32 :=
  let c4_i32_2222 : BitVec 32 := 4#32
  let c4_i32_2226 : BitVec 32 := 4#32
  let c0_i32_2227 : BitVec 32 := 0#32
  let v6299 : BitVec 1 := Scalar.cmpi .eq c4_i32_2226 c0_i32_2227
  let c1_i32_2228 : BitVec 32 := 1#32
  let v6300 : BitVec 32 := Scalar.select v6299 c1_i32_2228 c4_i32_2226
  let v6301 : BitVec 32 := Scalar.remsi c4_i32_2222 v6300
  let c0_i32_2230 : BitVec 32 := 0#32
  let v6303 : BitVec 1 := Scalar.cmpi .slt v6301 c0_i32_2230
  let c0_i32_2231 : BitVec 32 := 0#32
  let v6304 : BitVec 1 := Scalar.cmpi .slt v6300 c0_i32_2231
  let v6305 : BitVec 1 := Scalar.xori v6303 v6304
  let c0_i32_2229 : BitVec 32 := 0#32
  let v6302 : BitVec 1 := Scalar.cmpi .ne v6301 c0_i32_2229
  let v6306 : BitVec 1 := Scalar.andi v6305 v6302
  let v6307 : BitVec 32 := Scalar.addi v6301 v6300
  let v6308 : BitVec 32 := Scalar.select v6306 v6307 v6301
  let c32_i32_2232 : BitVec 32 := 32#32
  let v6309 : BitVec 32 := Scalar.muli v6308 c32_i32_2232
  v6309
def k0_mult172 : BitVec 32 :=
  let c5_i32_2258 : BitVec 32 := 5#32
  let c32_i32_2259 : BitVec 32 := 32#32
  let v6394 : BitVec 32 := Scalar.muli c5_i32_2258 c32_i32_2259
  v6394
def k0_mult173 : BitVec 32 :=
  let c5_i32_2258 : BitVec 32 := 5#32
  let c4_i32_2262 : BitVec 32 := 4#32
  let c0_i32_2263 : BitVec 32 := 0#32
  let v6404 : BitVec 1 := Scalar.cmpi .eq c4_i32_2262 c0_i32_2263
  let c1_i32_2264 : BitVec 32 := 1#32
  let v6405 : BitVec 32 := Scalar.select v6404 c1_i32_2264 c4_i32_2262
  let v6406 : BitVec 32 := Scalar.remsi c5_i32_2258 v6405
  let c0_i32_2266 : BitVec 32 := 0#32
  let v6408 : BitVec 1 := Scalar.cmpi .slt v6406 c0_i32_2266
  let c0_i32_2267 : BitVec 32 := 0#32
  let v6409 : BitVec 1 := Scalar.cmpi .slt v6405 c0_i32_2267
  let v6410 : BitVec 1 := Scalar.xori v6408 v6409
  let c0_i32_2265 : BitVec 32 := 0#32
  let v6407 : BitVec 1 := Scalar.cmpi .ne v6406 c0_i32_2265
  let v6411 : BitVec 1 := Scalar.andi v6410 v6407
  let v6412 : BitVec 32 := Scalar.addi v6406 v6405
  let v6413 : BitVec 32 := Scalar.select v6411 v6412 v6406
  let c32_i32_2268 : BitVec 32 := 32#32
  let v6414 : BitVec 32 := Scalar.muli v6413 c32_i32_2268
  v6414
def k0_mult174 : BitVec 32 :=
  let c6_i32_2294 : BitVec 32 := 6#32
  let c32_i32_2295 : BitVec 32 := 32#32
  let v6499 : BitVec 32 := Scalar.muli c6_i32_2294 c32_i32_2295
  v6499
def k0_mult175 : BitVec 32 :=
  let c6_i32_2294 : BitVec 32 := 6#32
  let c4_i32_2298 : BitVec 32 := 4#32
  let c0_i32_2299 : BitVec 32 := 0#32
  let v6509 : BitVec 1 := Scalar.cmpi .eq c4_i32_2298 c0_i32_2299
  let c1_i32_2300 : BitVec 32 := 1#32
  let v6510 : BitVec 32 := Scalar.select v6509 c1_i32_2300 c4_i32_2298
  let v6511 : BitVec 32 := Scalar.remsi c6_i32_2294 v6510
  let c0_i32_2302 : BitVec 32 := 0#32
  let v6513 : BitVec 1 := Scalar.cmpi .slt v6511 c0_i32_2302
  let c0_i32_2303 : BitVec 32 := 0#32
  let v6514 : BitVec 1 := Scalar.cmpi .slt v6510 c0_i32_2303
  let v6515 : BitVec 1 := Scalar.xori v6513 v6514
  let c0_i32_2301 : BitVec 32 := 0#32
  let v6512 : BitVec 1 := Scalar.cmpi .ne v6511 c0_i32_2301
  let v6516 : BitVec 1 := Scalar.andi v6515 v6512
  let v6517 : BitVec 32 := Scalar.addi v6511 v6510
  let v6518 : BitVec 32 := Scalar.select v6516 v6517 v6511
  let c32_i32_2304 : BitVec 32 := 32#32
  let v6519 : BitVec 32 := Scalar.muli v6518 c32_i32_2304
  v6519
def k0_mult176 : BitVec 32 :=
  let c7_i32_2330 : BitVec 32 := 7#32
  let c32_i32_2331 : BitVec 32 := 32#32
  let v6604 : BitVec 32 := Scalar.muli c7_i32_2330 c32_i32_2331
  v6604
def k0_mult177 : BitVec 32 :=
  let c7_i32_2330 : BitVec 32 := 7#32
  let c4_i32_2334 : BitVec 32 := 4#32
  let c0_i32_2335 : BitVec 32 := 0#32
  let v6614 : BitVec 1 := Scalar.cmpi .eq c4_i32_2334 c0_i32_2335
  let c1_i32_2336 : BitVec 32 := 1#32
  let v6615 : BitVec 32 := Scalar.select v6614 c1_i32_2336 c4_i32_2334
  let v6616 : BitVec 32 := Scalar.remsi c7_i32_2330 v6615
  let c0_i32_2338 : BitVec 32 := 0#32
  let v6618 : BitVec 1 := Scalar.cmpi .slt v6616 c0_i32_2338
  let c0_i32_2339 : BitVec 32 := 0#32
  let v6619 : BitVec 1 := Scalar.cmpi .slt v6615 c0_i32_2339
  let v6620 : BitVec 1 := Scalar.xori v6618 v6619
  let c0_i32_2337 : BitVec 32 := 0#32
  let v6617 : BitVec 1 := Scalar.cmpi .ne v6616 c0_i32_2337
  let v6621 : BitVec 1 := Scalar.andi v6620 v6617
  let v6622 : BitVec 32 := Scalar.addi v6616 v6615
  let v6623 : BitVec 32 := Scalar.select v6621 v6622 v6616
  let c32_i32_2340 : BitVec 32 := 32#32
  let v6624 : BitVec 32 := Scalar.muli v6623 c32_i32_2340
  v6624
def k0_mult178 : BitVec 32 :=
  let c8_i32_2366 : BitVec 32 := 8#32
  let c32_i32_2367 : BitVec 32 := 32#32
  let v6709 : BitVec 32 := Scalar.muli c8_i32_2366 c32_i32_2367
  v6709
def k0_mult179 : BitVec 32 :=
  let c8_i32_2366 : BitVec 32 := 8#32
  let c4_i32_2370 : BitVec 32 := 4#32
  let c0_i32_2371 : BitVec 32 := 0#32
  let v6719 : BitVec 1 := Scalar.cmpi .eq c4_i32_2370 c0_i32_2371
  let c1_i32_2372 : BitVec 32 := 1#32
  let v6720 : BitVec 32 := Scalar.select v6719 c1_i32_2372 c4_i32_2370
  let v6721 : BitVec 32 := Scalar.remsi c8_i32_2366 v6720
  let c0_i32_2374 : BitVec 32 := 0#32
  let v6723 : BitVec 1 := Scalar.cmpi .slt v6721 c0_i32_2374
  let c0_i32_2375 : BitVec 32 := 0#32
  let v6724 : BitVec 1 := Scalar.cmpi .slt v6720 c0_i32_2375
  let v6725 : BitVec 1 := Scalar.xori v6723 v6724
  let c0_i32_2373 : BitVec 32 := 0#32
  let v6722 : BitVec 1 := Scalar.cmpi .ne v6721 c0_i32_2373
  let v6726 : BitVec 1 := Scalar.andi v6725 v6722
  let v6727 : BitVec 32 := Scalar.addi v6721 v6720
  let v6728 : BitVec 32 := Scalar.select v6726 v6727 v6721
  let c32_i32_2376 : BitVec 32 := 32#32
  let v6729 : BitVec 32 := Scalar.muli v6728 c32_i32_2376
  v6729
def k0_mult180 : BitVec 32 :=
  let c9_i32_2402 : BitVec 32 := 9#32
  let c32_i32_2403 : BitVec 32 := 32#32
  let v6814 : BitVec 32 := Scalar.muli c9_i32_2402 c32_i32_2403
  v6814
def k0_mult181 : BitVec 32 :=
  let c9_i32_2402 : BitVec 32 := 9#32
  let c4_i32_2406 : BitVec 32 := 4#32
  let c0_i32_2407 : BitVec 32 := 0#32
  let v6824 : BitVec 1 := Scalar.cmpi .eq c4_i32_2406 c0_i32_2407
  let c1_i32_2408 : BitVec 32 := 1#32
  let v6825 : BitVec 32 := Scalar.select v6824 c1_i32_2408 c4_i32_2406
  let v6826 : BitVec 32 := Scalar.remsi c9_i32_2402 v6825
  let c0_i32_2410 : BitVec 32 := 0#32
  let v6828 : BitVec 1 := Scalar.cmpi .slt v6826 c0_i32_2410
  let c0_i32_2411 : BitVec 32 := 0#32
  let v6829 : BitVec 1 := Scalar.cmpi .slt v6825 c0_i32_2411
  let v6830 : BitVec 1 := Scalar.xori v6828 v6829
  let c0_i32_2409 : BitVec 32 := 0#32
  let v6827 : BitVec 1 := Scalar.cmpi .ne v6826 c0_i32_2409
  let v6831 : BitVec 1 := Scalar.andi v6830 v6827
  let v6832 : BitVec 32 := Scalar.addi v6826 v6825
  let v6833 : BitVec 32 := Scalar.select v6831 v6832 v6826
  let c32_i32_2412 : BitVec 32 := 32#32
  let v6834 : BitVec 32 := Scalar.muli v6833 c32_i32_2412
  v6834
def k0_mult182 : BitVec 32 :=
  let c10_i32_2438 : BitVec 32 := 10#32
  let c32_i32_2439 : BitVec 32 := 32#32
  let v6919 : BitVec 32 := Scalar.muli c10_i32_2438 c32_i32_2439
  v6919
def k0_mult183 : BitVec 32 :=
  let c10_i32_2438 : BitVec 32 := 10#32
  let c4_i32_2442 : BitVec 32 := 4#32
  let c0_i32_2443 : BitVec 32 := 0#32
  let v6929 : BitVec 1 := Scalar.cmpi .eq c4_i32_2442 c0_i32_2443
  let c1_i32_2444 : BitVec 32 := 1#32
  let v6930 : BitVec 32 := Scalar.select v6929 c1_i32_2444 c4_i32_2442
  let v6931 : BitVec 32 := Scalar.remsi c10_i32_2438 v6930
  let c0_i32_2446 : BitVec 32 := 0#32
  let v6933 : BitVec 1 := Scalar.cmpi .slt v6931 c0_i32_2446
  let c0_i32_2447 : BitVec 32 := 0#32
  let v6934 : BitVec 1 := Scalar.cmpi .slt v6930 c0_i32_2447
  let v6935 : BitVec 1 := Scalar.xori v6933 v6934
  let c0_i32_2445 : BitVec 32 := 0#32
  let v6932 : BitVec 1 := Scalar.cmpi .ne v6931 c0_i32_2445
  let v6936 : BitVec 1 := Scalar.andi v6935 v6932
  let v6937 : BitVec 32 := Scalar.addi v6931 v6930
  let v6938 : BitVec 32 := Scalar.select v6936 v6937 v6931
  let c32_i32_2448 : BitVec 32 := 32#32
  let v6939 : BitVec 32 := Scalar.muli v6938 c32_i32_2448
  v6939
def k0_mult184 : BitVec 32 :=
  let c11_i32_2474 : BitVec 32 := 11#32
  let c32_i32_2475 : BitVec 32 := 32#32
  let v7024 : BitVec 32 := Scalar.muli c11_i32_2474 c32_i32_2475
  v7024
def k0_mult185 : BitVec 32 :=
  let c11_i32_2474 : BitVec 32 := 11#32
  let c4_i32_2478 : BitVec 32 := 4#32
  let c0_i32_2479 : BitVec 32 := 0#32
  let v7034 : BitVec 1 := Scalar.cmpi .eq c4_i32_2478 c0_i32_2479
  let c1_i32_2480 : BitVec 32 := 1#32
  let v7035 : BitVec 32 := Scalar.select v7034 c1_i32_2480 c4_i32_2478
  let v7036 : BitVec 32 := Scalar.remsi c11_i32_2474 v7035
  let c0_i32_2482 : BitVec 32 := 0#32
  let v7038 : BitVec 1 := Scalar.cmpi .slt v7036 c0_i32_2482
  let c0_i32_2483 : BitVec 32 := 0#32
  let v7039 : BitVec 1 := Scalar.cmpi .slt v7035 c0_i32_2483
  let v7040 : BitVec 1 := Scalar.xori v7038 v7039
  let c0_i32_2481 : BitVec 32 := 0#32
  let v7037 : BitVec 1 := Scalar.cmpi .ne v7036 c0_i32_2481
  let v7041 : BitVec 1 := Scalar.andi v7040 v7037
  let v7042 : BitVec 32 := Scalar.addi v7036 v7035
  let v7043 : BitVec 32 := Scalar.select v7041 v7042 v7036
  let c32_i32_2484 : BitVec 32 := 32#32
  let v7044 : BitVec 32 := Scalar.muli v7043 c32_i32_2484
  v7044
def k0_mult186 : BitVec 32 :=
  let c12_i32_2510 : BitVec 32 := 12#32
  let c32_i32_2511 : BitVec 32 := 32#32
  let v7129 : BitVec 32 := Scalar.muli c12_i32_2510 c32_i32_2511
  v7129
def k0_mult187 : BitVec 32 :=
  let c12_i32_2510 : BitVec 32 := 12#32
  let c4_i32_2514 : BitVec 32 := 4#32
  let c0_i32_2515 : BitVec 32 := 0#32
  let v7139 : BitVec 1 := Scalar.cmpi .eq c4_i32_2514 c0_i32_2515
  let c1_i32_2516 : BitVec 32 := 1#32
  let v7140 : BitVec 32 := Scalar.select v7139 c1_i32_2516 c4_i32_2514
  let v7141 : BitVec 32 := Scalar.remsi c12_i32_2510 v7140
  let c0_i32_2518 : BitVec 32 := 0#32
  let v7143 : BitVec 1 := Scalar.cmpi .slt v7141 c0_i32_2518
  let c0_i32_2519 : BitVec 32 := 0#32
  let v7144 : BitVec 1 := Scalar.cmpi .slt v7140 c0_i32_2519
  let v7145 : BitVec 1 := Scalar.xori v7143 v7144
  let c0_i32_2517 : BitVec 32 := 0#32
  let v7142 : BitVec 1 := Scalar.cmpi .ne v7141 c0_i32_2517
  let v7146 : BitVec 1 := Scalar.andi v7145 v7142
  let v7147 : BitVec 32 := Scalar.addi v7141 v7140
  let v7148 : BitVec 32 := Scalar.select v7146 v7147 v7141
  let c32_i32_2520 : BitVec 32 := 32#32
  let v7149 : BitVec 32 := Scalar.muli v7148 c32_i32_2520
  v7149
def k0_mult188 : BitVec 32 :=
  let c13_i32_2546 : BitVec 32 := 13#32
  let c32_i32_2547 : BitVec 32 := 32#32
  let v7234 : BitVec 32 := Scalar.muli c13_i32_2546 c32_i32_2547
  v7234
def k0_mult189 : BitVec 32 :=
  let c13_i32_2546 : BitVec 32 := 13#32
  let c4_i32_2550 : BitVec 32 := 4#32
  let c0_i32_2551 : BitVec 32 := 0#32
  let v7244 : BitVec 1 := Scalar.cmpi .eq c4_i32_2550 c0_i32_2551
  let c1_i32_2552 : BitVec 32 := 1#32
  let v7245 : BitVec 32 := Scalar.select v7244 c1_i32_2552 c4_i32_2550
  let v7246 : BitVec 32 := Scalar.remsi c13_i32_2546 v7245
  let c0_i32_2554 : BitVec 32 := 0#32
  let v7248 : BitVec 1 := Scalar.cmpi .slt v7246 c0_i32_2554
  let c0_i32_2555 : BitVec 32 := 0#32
  let v7249 : BitVec 1 := Scalar.cmpi .slt v7245 c0_i32_2555
  let v7250 : BitVec 1 := Scalar.xori v7248 v7249
  let c0_i32_2553 : BitVec 32 := 0#32
  let v7247 : BitVec 1 := Scalar.cmpi .ne v7246 c0_i32_2553
  let v7251 : BitVec 1 := Scalar.andi v7250 v7247
  let v7252 : BitVec 32 := Scalar.addi v7246 v7245
  let v7253 : BitVec 32 := Scalar.select v7251 v7252 v7246
  let c32_i32_2556 : BitVec 32 := 32#32
  let v7254 : BitVec 32 := Scalar.muli v7253 c32_i32_2556
  v7254
def k0_mult190 : BitVec 32 :=
  let c14_i32_2582 : BitVec 32 := 14#32
  let c32_i32_2583 : BitVec 32 := 32#32
  let v7339 : BitVec 32 := Scalar.muli c14_i32_2582 c32_i32_2583
  v7339
def k0_mult191 : BitVec 32 :=
  let c14_i32_2582 : BitVec 32 := 14#32
  let c4_i32_2586 : BitVec 32 := 4#32
  let c0_i32_2587 : BitVec 32 := 0#32
  let v7349 : BitVec 1 := Scalar.cmpi .eq c4_i32_2586 c0_i32_2587
  let c1_i32_2588 : BitVec 32 := 1#32
  let v7350 : BitVec 32 := Scalar.select v7349 c1_i32_2588 c4_i32_2586
  let v7351 : BitVec 32 := Scalar.remsi c14_i32_2582 v7350
  let c0_i32_2590 : BitVec 32 := 0#32
  let v7353 : BitVec 1 := Scalar.cmpi .slt v7351 c0_i32_2590
  let c0_i32_2591 : BitVec 32 := 0#32
  let v7354 : BitVec 1 := Scalar.cmpi .slt v7350 c0_i32_2591
  let v7355 : BitVec 1 := Scalar.xori v7353 v7354
  let c0_i32_2589 : BitVec 32 := 0#32
  let v7352 : BitVec 1 := Scalar.cmpi .ne v7351 c0_i32_2589
  let v7356 : BitVec 1 := Scalar.andi v7355 v7352
  let v7357 : BitVec 32 := Scalar.addi v7351 v7350
  let v7358 : BitVec 32 := Scalar.select v7356 v7357 v7351
  let c32_i32_2592 : BitVec 32 := 32#32
  let v7359 : BitVec 32 := Scalar.muli v7358 c32_i32_2592
  v7359
def k0_mult192 : BitVec 32 :=
  let c15_i32_2618 : BitVec 32 := 15#32
  let c32_i32_2619 : BitVec 32 := 32#32
  let v7444 : BitVec 32 := Scalar.muli c15_i32_2618 c32_i32_2619
  v7444
def k0_mult193 : BitVec 32 :=
  let c15_i32_2618 : BitVec 32 := 15#32
  let c4_i32_2622 : BitVec 32 := 4#32
  let c0_i32_2623 : BitVec 32 := 0#32
  let v7454 : BitVec 1 := Scalar.cmpi .eq c4_i32_2622 c0_i32_2623
  let c1_i32_2624 : BitVec 32 := 1#32
  let v7455 : BitVec 32 := Scalar.select v7454 c1_i32_2624 c4_i32_2622
  let v7456 : BitVec 32 := Scalar.remsi c15_i32_2618 v7455
  let c0_i32_2626 : BitVec 32 := 0#32
  let v7458 : BitVec 1 := Scalar.cmpi .slt v7456 c0_i32_2626
  let c0_i32_2627 : BitVec 32 := 0#32
  let v7459 : BitVec 1 := Scalar.cmpi .slt v7455 c0_i32_2627
  let v7460 : BitVec 1 := Scalar.xori v7458 v7459
  let c0_i32_2625 : BitVec 32 := 0#32
  let v7457 : BitVec 1 := Scalar.cmpi .ne v7456 c0_i32_2625
  let v7461 : BitVec 1 := Scalar.andi v7460 v7457
  let v7462 : BitVec 32 := Scalar.addi v7456 v7455
  let v7463 : BitVec 32 := Scalar.select v7461 v7462 v7456
  let c32_i32_2628 : BitVec 32 := 32#32
  let v7464 : BitVec 32 := Scalar.muli v7463 c32_i32_2628
  v7464
def k0_mult194 : BitVec 32 :=
  let c0_i32_2655 : BitVec 32 := 0#32
  let c32_i32_2656 : BitVec 32 := 32#32
  let v7549 : BitVec 32 := Scalar.muli c0_i32_2655 c32_i32_2656
  v7549
def k0_mult195 : BitVec 32 :=
  let c0_i32_2655 : BitVec 32 := 0#32
  let c4_i32_2659 : BitVec 32 := 4#32
  let c0_i32_2660 : BitVec 32 := 0#32
  let v7559 : BitVec 1 := Scalar.cmpi .eq c4_i32_2659 c0_i32_2660
  let c1_i32_2661 : BitVec 32 := 1#32
  let v7560 : BitVec 32 := Scalar.select v7559 c1_i32_2661 c4_i32_2659
  let v7561 : BitVec 32 := Scalar.remsi c0_i32_2655 v7560
  let c0_i32_2663 : BitVec 32 := 0#32
  let v7563 : BitVec 1 := Scalar.cmpi .slt v7561 c0_i32_2663
  let c0_i32_2664 : BitVec 32 := 0#32
  let v7564 : BitVec 1 := Scalar.cmpi .slt v7560 c0_i32_2664
  let v7565 : BitVec 1 := Scalar.xori v7563 v7564
  let c0_i32_2662 : BitVec 32 := 0#32
  let v7562 : BitVec 1 := Scalar.cmpi .ne v7561 c0_i32_2662
  let v7566 : BitVec 1 := Scalar.andi v7565 v7562
  let v7567 : BitVec 32 := Scalar.addi v7561 v7560
  let v7568 : BitVec 32 := Scalar.select v7566 v7567 v7561
  let c32_i32_2665 : BitVec 32 := 32#32
  let v7569 : BitVec 32 := Scalar.muli v7568 c32_i32_2665
  v7569
def k0_off22 (c0_i32_2655 : BitVec 32) : Fin 3 → Nat :=
  let c2_2677 : Index := 2#32
  let c32_i32_2656 : BitVec 32 := 32#32
  let v7549 : BitVec 32 := Scalar.muli c0_i32_2655 c32_i32_2656
  let v7550 : BitVec 32 := v7549
  let v7613 : Index := Scalar.indexCast v7550
  let c0_2678 : Index := 0#32
  ![2, v7613.toNat, 0]
def k0_off23 (c0_i32_2655 : BitVec 32) : Fin 3 → Nat :=
  let c2_2679 : Index := 2#32
  let c32_i32_2656 : BitVec 32 := 32#32
  let v7549 : BitVec 32 := Scalar.muli c0_i32_2655 c32_i32_2656
  let v7550 : BitVec 32 := v7549
  let v7618 : Index := Scalar.indexCast v7550
  let c128_2680 : Index := 128#32
  ![2, v7618.toNat, 128]
def k0_off24 (c0_i32_2655 : BitVec 32) : Fin 3 → Nat :=
  let c2_2681 : Index := 2#32
  let c32_i32_2656 : BitVec 32 := 32#32
  let v7549 : BitVec 32 := Scalar.muli c0_i32_2655 c32_i32_2656
  let v7550 : BitVec 32 := v7549
  let v7623 : Index := Scalar.indexCast v7550
  let c256_2682 : Index := 256#32
  ![2, v7623.toNat, 256]
def k0_off25 (c0_i32_2655 : BitVec 32) : Fin 3 → Nat :=
  let c2_2683 : Index := 2#32
  let c32_i32_2656 : BitVec 32 := 32#32
  let v7549 : BitVec 32 := Scalar.muli c0_i32_2655 c32_i32_2656
  let v7550 : BitVec 32 := v7549
  let v7628 : Index := Scalar.indexCast v7550
  let c384_2684 : Index := 384#32
  ![2, v7628.toNat, 384]
def k0_off26 (c0_i32_2655 : BitVec 32) : Fin 3 → Nat :=
  let c2_2685 : Index := 2#32
  let c32_i32_2656 : BitVec 32 := 32#32
  let v7549 : BitVec 32 := Scalar.muli c0_i32_2655 c32_i32_2656
  let v7550 : BitVec 32 := v7549
  let v7633 : Index := Scalar.indexCast v7550
  let c512_2686 : Index := 512#32
  ![2, v7633.toNat, 512]
def k0_mult196 : BitVec 32 :=
  let c1_i32_2691 : BitVec 32 := 1#32
  let c32_i32_2692 : BitVec 32 := 32#32
  let v7654 : BitVec 32 := Scalar.muli c1_i32_2691 c32_i32_2692
  v7654
def k0_mult197 : BitVec 32 :=
  let c1_i32_2691 : BitVec 32 := 1#32
  let c4_i32_2695 : BitVec 32 := 4#32
  let c0_i32_2696 : BitVec 32 := 0#32
  let v7664 : BitVec 1 := Scalar.cmpi .eq c4_i32_2695 c0_i32_2696
  let c1_i32_2697 : BitVec 32 := 1#32
  let v7665 : BitVec 32 := Scalar.select v7664 c1_i32_2697 c4_i32_2695
  let v7666 : BitVec 32 := Scalar.remsi c1_i32_2691 v7665
  let c0_i32_2699 : BitVec 32 := 0#32
  let v7668 : BitVec 1 := Scalar.cmpi .slt v7666 c0_i32_2699
  let c0_i32_2700 : BitVec 32 := 0#32
  let v7669 : BitVec 1 := Scalar.cmpi .slt v7665 c0_i32_2700
  let v7670 : BitVec 1 := Scalar.xori v7668 v7669
  let c0_i32_2698 : BitVec 32 := 0#32
  let v7667 : BitVec 1 := Scalar.cmpi .ne v7666 c0_i32_2698
  let v7671 : BitVec 1 := Scalar.andi v7670 v7667
  let v7672 : BitVec 32 := Scalar.addi v7666 v7665
  let v7673 : BitVec 32 := Scalar.select v7671 v7672 v7666
  let c32_i32_2701 : BitVec 32 := 32#32
  let v7674 : BitVec 32 := Scalar.muli v7673 c32_i32_2701
  v7674
def k0_mult198 : BitVec 32 :=
  let c2_i32_2727 : BitVec 32 := 2#32
  let c32_i32_2728 : BitVec 32 := 32#32
  let v7759 : BitVec 32 := Scalar.muli c2_i32_2727 c32_i32_2728
  v7759
def k0_mult199 : BitVec 32 :=
  let c2_i32_2727 : BitVec 32 := 2#32
  let c4_i32_2731 : BitVec 32 := 4#32
  let c0_i32_2732 : BitVec 32 := 0#32
  let v7769 : BitVec 1 := Scalar.cmpi .eq c4_i32_2731 c0_i32_2732
  let c1_i32_2733 : BitVec 32 := 1#32
  let v7770 : BitVec 32 := Scalar.select v7769 c1_i32_2733 c4_i32_2731
  let v7771 : BitVec 32 := Scalar.remsi c2_i32_2727 v7770
  let c0_i32_2735 : BitVec 32 := 0#32
  let v7773 : BitVec 1 := Scalar.cmpi .slt v7771 c0_i32_2735
  let c0_i32_2736 : BitVec 32 := 0#32
  let v7774 : BitVec 1 := Scalar.cmpi .slt v7770 c0_i32_2736
  let v7775 : BitVec 1 := Scalar.xori v7773 v7774
  let c0_i32_2734 : BitVec 32 := 0#32
  let v7772 : BitVec 1 := Scalar.cmpi .ne v7771 c0_i32_2734
  let v7776 : BitVec 1 := Scalar.andi v7775 v7772
  let v7777 : BitVec 32 := Scalar.addi v7771 v7770
  let v7778 : BitVec 32 := Scalar.select v7776 v7777 v7771
  let c32_i32_2737 : BitVec 32 := 32#32
  let v7779 : BitVec 32 := Scalar.muli v7778 c32_i32_2737
  v7779
def k0_mult200 : BitVec 32 :=
  let c3_i32_2763 : BitVec 32 := 3#32
  let c32_i32_2764 : BitVec 32 := 32#32
  let v7864 : BitVec 32 := Scalar.muli c3_i32_2763 c32_i32_2764
  v7864
def k0_mult201 : BitVec 32 :=
  let c3_i32_2763 : BitVec 32 := 3#32
  let c4_i32_2767 : BitVec 32 := 4#32
  let c0_i32_2768 : BitVec 32 := 0#32
  let v7874 : BitVec 1 := Scalar.cmpi .eq c4_i32_2767 c0_i32_2768
  let c1_i32_2769 : BitVec 32 := 1#32
  let v7875 : BitVec 32 := Scalar.select v7874 c1_i32_2769 c4_i32_2767
  let v7876 : BitVec 32 := Scalar.remsi c3_i32_2763 v7875
  let c0_i32_2771 : BitVec 32 := 0#32
  let v7878 : BitVec 1 := Scalar.cmpi .slt v7876 c0_i32_2771
  let c0_i32_2772 : BitVec 32 := 0#32
  let v7879 : BitVec 1 := Scalar.cmpi .slt v7875 c0_i32_2772
  let v7880 : BitVec 1 := Scalar.xori v7878 v7879
  let c0_i32_2770 : BitVec 32 := 0#32
  let v7877 : BitVec 1 := Scalar.cmpi .ne v7876 c0_i32_2770
  let v7881 : BitVec 1 := Scalar.andi v7880 v7877
  let v7882 : BitVec 32 := Scalar.addi v7876 v7875
  let v7883 : BitVec 32 := Scalar.select v7881 v7882 v7876
  let c32_i32_2773 : BitVec 32 := 32#32
  let v7884 : BitVec 32 := Scalar.muli v7883 c32_i32_2773
  v7884
def k0_mult202 : BitVec 32 :=
  let c4_i32_2799 : BitVec 32 := 4#32
  let c32_i32_2800 : BitVec 32 := 32#32
  let v7969 : BitVec 32 := Scalar.muli c4_i32_2799 c32_i32_2800
  v7969
def k0_mult203 : BitVec 32 :=
  let c4_i32_2799 : BitVec 32 := 4#32
  let c4_i32_2803 : BitVec 32 := 4#32
  let c0_i32_2804 : BitVec 32 := 0#32
  let v7979 : BitVec 1 := Scalar.cmpi .eq c4_i32_2803 c0_i32_2804
  let c1_i32_2805 : BitVec 32 := 1#32
  let v7980 : BitVec 32 := Scalar.select v7979 c1_i32_2805 c4_i32_2803
  let v7981 : BitVec 32 := Scalar.remsi c4_i32_2799 v7980
  let c0_i32_2807 : BitVec 32 := 0#32
  let v7983 : BitVec 1 := Scalar.cmpi .slt v7981 c0_i32_2807
  let c0_i32_2808 : BitVec 32 := 0#32
  let v7984 : BitVec 1 := Scalar.cmpi .slt v7980 c0_i32_2808
  let v7985 : BitVec 1 := Scalar.xori v7983 v7984
  let c0_i32_2806 : BitVec 32 := 0#32
  let v7982 : BitVec 1 := Scalar.cmpi .ne v7981 c0_i32_2806
  let v7986 : BitVec 1 := Scalar.andi v7985 v7982
  let v7987 : BitVec 32 := Scalar.addi v7981 v7980
  let v7988 : BitVec 32 := Scalar.select v7986 v7987 v7981
  let c32_i32_2809 : BitVec 32 := 32#32
  let v7989 : BitVec 32 := Scalar.muli v7988 c32_i32_2809
  v7989
def k0_mult204 : BitVec 32 :=
  let c5_i32_2835 : BitVec 32 := 5#32
  let c32_i32_2836 : BitVec 32 := 32#32
  let v8074 : BitVec 32 := Scalar.muli c5_i32_2835 c32_i32_2836
  v8074
def k0_mult205 : BitVec 32 :=
  let c5_i32_2835 : BitVec 32 := 5#32
  let c4_i32_2839 : BitVec 32 := 4#32
  let c0_i32_2840 : BitVec 32 := 0#32
  let v8084 : BitVec 1 := Scalar.cmpi .eq c4_i32_2839 c0_i32_2840
  let c1_i32_2841 : BitVec 32 := 1#32
  let v8085 : BitVec 32 := Scalar.select v8084 c1_i32_2841 c4_i32_2839
  let v8086 : BitVec 32 := Scalar.remsi c5_i32_2835 v8085
  let c0_i32_2843 : BitVec 32 := 0#32
  let v8088 : BitVec 1 := Scalar.cmpi .slt v8086 c0_i32_2843
  let c0_i32_2844 : BitVec 32 := 0#32
  let v8089 : BitVec 1 := Scalar.cmpi .slt v8085 c0_i32_2844
  let v8090 : BitVec 1 := Scalar.xori v8088 v8089
  let c0_i32_2842 : BitVec 32 := 0#32
  let v8087 : BitVec 1 := Scalar.cmpi .ne v8086 c0_i32_2842
  let v8091 : BitVec 1 := Scalar.andi v8090 v8087
  let v8092 : BitVec 32 := Scalar.addi v8086 v8085
  let v8093 : BitVec 32 := Scalar.select v8091 v8092 v8086
  let c32_i32_2845 : BitVec 32 := 32#32
  let v8094 : BitVec 32 := Scalar.muli v8093 c32_i32_2845
  v8094
def k0_mult206 : BitVec 32 :=
  let c6_i32_2871 : BitVec 32 := 6#32
  let c32_i32_2872 : BitVec 32 := 32#32
  let v8179 : BitVec 32 := Scalar.muli c6_i32_2871 c32_i32_2872
  v8179
def k0_mult207 : BitVec 32 :=
  let c6_i32_2871 : BitVec 32 := 6#32
  let c4_i32_2875 : BitVec 32 := 4#32
  let c0_i32_2876 : BitVec 32 := 0#32
  let v8189 : BitVec 1 := Scalar.cmpi .eq c4_i32_2875 c0_i32_2876
  let c1_i32_2877 : BitVec 32 := 1#32
  let v8190 : BitVec 32 := Scalar.select v8189 c1_i32_2877 c4_i32_2875
  let v8191 : BitVec 32 := Scalar.remsi c6_i32_2871 v8190
  let c0_i32_2879 : BitVec 32 := 0#32
  let v8193 : BitVec 1 := Scalar.cmpi .slt v8191 c0_i32_2879
  let c0_i32_2880 : BitVec 32 := 0#32
  let v8194 : BitVec 1 := Scalar.cmpi .slt v8190 c0_i32_2880
  let v8195 : BitVec 1 := Scalar.xori v8193 v8194
  let c0_i32_2878 : BitVec 32 := 0#32
  let v8192 : BitVec 1 := Scalar.cmpi .ne v8191 c0_i32_2878
  let v8196 : BitVec 1 := Scalar.andi v8195 v8192
  let v8197 : BitVec 32 := Scalar.addi v8191 v8190
  let v8198 : BitVec 32 := Scalar.select v8196 v8197 v8191
  let c32_i32_2881 : BitVec 32 := 32#32
  let v8199 : BitVec 32 := Scalar.muli v8198 c32_i32_2881
  v8199
def k0_mult208 : BitVec 32 :=
  let c7_i32_2907 : BitVec 32 := 7#32
  let c32_i32_2908 : BitVec 32 := 32#32
  let v8284 : BitVec 32 := Scalar.muli c7_i32_2907 c32_i32_2908
  v8284
def k0_mult209 : BitVec 32 :=
  let c7_i32_2907 : BitVec 32 := 7#32
  let c4_i32_2911 : BitVec 32 := 4#32
  let c0_i32_2912 : BitVec 32 := 0#32
  let v8294 : BitVec 1 := Scalar.cmpi .eq c4_i32_2911 c0_i32_2912
  let c1_i32_2913 : BitVec 32 := 1#32
  let v8295 : BitVec 32 := Scalar.select v8294 c1_i32_2913 c4_i32_2911
  let v8296 : BitVec 32 := Scalar.remsi c7_i32_2907 v8295
  let c0_i32_2915 : BitVec 32 := 0#32
  let v8298 : BitVec 1 := Scalar.cmpi .slt v8296 c0_i32_2915
  let c0_i32_2916 : BitVec 32 := 0#32
  let v8299 : BitVec 1 := Scalar.cmpi .slt v8295 c0_i32_2916
  let v8300 : BitVec 1 := Scalar.xori v8298 v8299
  let c0_i32_2914 : BitVec 32 := 0#32
  let v8297 : BitVec 1 := Scalar.cmpi .ne v8296 c0_i32_2914
  let v8301 : BitVec 1 := Scalar.andi v8300 v8297
  let v8302 : BitVec 32 := Scalar.addi v8296 v8295
  let v8303 : BitVec 32 := Scalar.select v8301 v8302 v8296
  let c32_i32_2917 : BitVec 32 := 32#32
  let v8304 : BitVec 32 := Scalar.muli v8303 c32_i32_2917
  v8304
def k0_mult210 : BitVec 32 :=
  let c8_i32_2943 : BitVec 32 := 8#32
  let c32_i32_2944 : BitVec 32 := 32#32
  let v8389 : BitVec 32 := Scalar.muli c8_i32_2943 c32_i32_2944
  v8389
def k0_mult211 : BitVec 32 :=
  let c8_i32_2943 : BitVec 32 := 8#32
  let c4_i32_2947 : BitVec 32 := 4#32
  let c0_i32_2948 : BitVec 32 := 0#32
  let v8399 : BitVec 1 := Scalar.cmpi .eq c4_i32_2947 c0_i32_2948
  let c1_i32_2949 : BitVec 32 := 1#32
  let v8400 : BitVec 32 := Scalar.select v8399 c1_i32_2949 c4_i32_2947
  let v8401 : BitVec 32 := Scalar.remsi c8_i32_2943 v8400
  let c0_i32_2951 : BitVec 32 := 0#32
  let v8403 : BitVec 1 := Scalar.cmpi .slt v8401 c0_i32_2951
  let c0_i32_2952 : BitVec 32 := 0#32
  let v8404 : BitVec 1 := Scalar.cmpi .slt v8400 c0_i32_2952
  let v8405 : BitVec 1 := Scalar.xori v8403 v8404
  let c0_i32_2950 : BitVec 32 := 0#32
  let v8402 : BitVec 1 := Scalar.cmpi .ne v8401 c0_i32_2950
  let v8406 : BitVec 1 := Scalar.andi v8405 v8402
  let v8407 : BitVec 32 := Scalar.addi v8401 v8400
  let v8408 : BitVec 32 := Scalar.select v8406 v8407 v8401
  let c32_i32_2953 : BitVec 32 := 32#32
  let v8409 : BitVec 32 := Scalar.muli v8408 c32_i32_2953
  v8409
def k0_mult212 : BitVec 32 :=
  let c9_i32_2979 : BitVec 32 := 9#32
  let c32_i32_2980 : BitVec 32 := 32#32
  let v8494 : BitVec 32 := Scalar.muli c9_i32_2979 c32_i32_2980
  v8494
def k0_mult213 : BitVec 32 :=
  let c9_i32_2979 : BitVec 32 := 9#32
  let c4_i32_2983 : BitVec 32 := 4#32
  let c0_i32_2984 : BitVec 32 := 0#32
  let v8504 : BitVec 1 := Scalar.cmpi .eq c4_i32_2983 c0_i32_2984
  let c1_i32_2985 : BitVec 32 := 1#32
  let v8505 : BitVec 32 := Scalar.select v8504 c1_i32_2985 c4_i32_2983
  let v8506 : BitVec 32 := Scalar.remsi c9_i32_2979 v8505
  let c0_i32_2987 : BitVec 32 := 0#32
  let v8508 : BitVec 1 := Scalar.cmpi .slt v8506 c0_i32_2987
  let c0_i32_2988 : BitVec 32 := 0#32
  let v8509 : BitVec 1 := Scalar.cmpi .slt v8505 c0_i32_2988
  let v8510 : BitVec 1 := Scalar.xori v8508 v8509
  let c0_i32_2986 : BitVec 32 := 0#32
  let v8507 : BitVec 1 := Scalar.cmpi .ne v8506 c0_i32_2986
  let v8511 : BitVec 1 := Scalar.andi v8510 v8507
  let v8512 : BitVec 32 := Scalar.addi v8506 v8505
  let v8513 : BitVec 32 := Scalar.select v8511 v8512 v8506
  let c32_i32_2989 : BitVec 32 := 32#32
  let v8514 : BitVec 32 := Scalar.muli v8513 c32_i32_2989
  v8514
def k0_mult214 : BitVec 32 :=
  let c10_i32_3015 : BitVec 32 := 10#32
  let c32_i32_3016 : BitVec 32 := 32#32
  let v8599 : BitVec 32 := Scalar.muli c10_i32_3015 c32_i32_3016
  v8599
def k0_mult215 : BitVec 32 :=
  let c10_i32_3015 : BitVec 32 := 10#32
  let c4_i32_3019 : BitVec 32 := 4#32
  let c0_i32_3020 : BitVec 32 := 0#32
  let v8609 : BitVec 1 := Scalar.cmpi .eq c4_i32_3019 c0_i32_3020
  let c1_i32_3021 : BitVec 32 := 1#32
  let v8610 : BitVec 32 := Scalar.select v8609 c1_i32_3021 c4_i32_3019
  let v8611 : BitVec 32 := Scalar.remsi c10_i32_3015 v8610
  let c0_i32_3023 : BitVec 32 := 0#32
  let v8613 : BitVec 1 := Scalar.cmpi .slt v8611 c0_i32_3023
  let c0_i32_3024 : BitVec 32 := 0#32
  let v8614 : BitVec 1 := Scalar.cmpi .slt v8610 c0_i32_3024
  let v8615 : BitVec 1 := Scalar.xori v8613 v8614
  let c0_i32_3022 : BitVec 32 := 0#32
  let v8612 : BitVec 1 := Scalar.cmpi .ne v8611 c0_i32_3022
  let v8616 : BitVec 1 := Scalar.andi v8615 v8612
  let v8617 : BitVec 32 := Scalar.addi v8611 v8610
  let v8618 : BitVec 32 := Scalar.select v8616 v8617 v8611
  let c32_i32_3025 : BitVec 32 := 32#32
  let v8619 : BitVec 32 := Scalar.muli v8618 c32_i32_3025
  v8619
def k0_mult216 : BitVec 32 :=
  let c11_i32_3051 : BitVec 32 := 11#32
  let c32_i32_3052 : BitVec 32 := 32#32
  let v8704 : BitVec 32 := Scalar.muli c11_i32_3051 c32_i32_3052
  v8704
def k0_mult217 : BitVec 32 :=
  let c11_i32_3051 : BitVec 32 := 11#32
  let c4_i32_3055 : BitVec 32 := 4#32
  let c0_i32_3056 : BitVec 32 := 0#32
  let v8714 : BitVec 1 := Scalar.cmpi .eq c4_i32_3055 c0_i32_3056
  let c1_i32_3057 : BitVec 32 := 1#32
  let v8715 : BitVec 32 := Scalar.select v8714 c1_i32_3057 c4_i32_3055
  let v8716 : BitVec 32 := Scalar.remsi c11_i32_3051 v8715
  let c0_i32_3059 : BitVec 32 := 0#32
  let v8718 : BitVec 1 := Scalar.cmpi .slt v8716 c0_i32_3059
  let c0_i32_3060 : BitVec 32 := 0#32
  let v8719 : BitVec 1 := Scalar.cmpi .slt v8715 c0_i32_3060
  let v8720 : BitVec 1 := Scalar.xori v8718 v8719
  let c0_i32_3058 : BitVec 32 := 0#32
  let v8717 : BitVec 1 := Scalar.cmpi .ne v8716 c0_i32_3058
  let v8721 : BitVec 1 := Scalar.andi v8720 v8717
  let v8722 : BitVec 32 := Scalar.addi v8716 v8715
  let v8723 : BitVec 32 := Scalar.select v8721 v8722 v8716
  let c32_i32_3061 : BitVec 32 := 32#32
  let v8724 : BitVec 32 := Scalar.muli v8723 c32_i32_3061
  v8724
def k0_mult218 : BitVec 32 :=
  let c12_i32_3087 : BitVec 32 := 12#32
  let c32_i32_3088 : BitVec 32 := 32#32
  let v8809 : BitVec 32 := Scalar.muli c12_i32_3087 c32_i32_3088
  v8809
def k0_mult219 : BitVec 32 :=
  let c12_i32_3087 : BitVec 32 := 12#32
  let c4_i32_3091 : BitVec 32 := 4#32
  let c0_i32_3092 : BitVec 32 := 0#32
  let v8819 : BitVec 1 := Scalar.cmpi .eq c4_i32_3091 c0_i32_3092
  let c1_i32_3093 : BitVec 32 := 1#32
  let v8820 : BitVec 32 := Scalar.select v8819 c1_i32_3093 c4_i32_3091
  let v8821 : BitVec 32 := Scalar.remsi c12_i32_3087 v8820
  let c0_i32_3095 : BitVec 32 := 0#32
  let v8823 : BitVec 1 := Scalar.cmpi .slt v8821 c0_i32_3095
  let c0_i32_3096 : BitVec 32 := 0#32
  let v8824 : BitVec 1 := Scalar.cmpi .slt v8820 c0_i32_3096
  let v8825 : BitVec 1 := Scalar.xori v8823 v8824
  let c0_i32_3094 : BitVec 32 := 0#32
  let v8822 : BitVec 1 := Scalar.cmpi .ne v8821 c0_i32_3094
  let v8826 : BitVec 1 := Scalar.andi v8825 v8822
  let v8827 : BitVec 32 := Scalar.addi v8821 v8820
  let v8828 : BitVec 32 := Scalar.select v8826 v8827 v8821
  let c32_i32_3097 : BitVec 32 := 32#32
  let v8829 : BitVec 32 := Scalar.muli v8828 c32_i32_3097
  v8829
def k0_mult220 : BitVec 32 :=
  let c13_i32_3123 : BitVec 32 := 13#32
  let c32_i32_3124 : BitVec 32 := 32#32
  let v8914 : BitVec 32 := Scalar.muli c13_i32_3123 c32_i32_3124
  v8914
def k0_mult221 : BitVec 32 :=
  let c13_i32_3123 : BitVec 32 := 13#32
  let c4_i32_3127 : BitVec 32 := 4#32
  let c0_i32_3128 : BitVec 32 := 0#32
  let v8924 : BitVec 1 := Scalar.cmpi .eq c4_i32_3127 c0_i32_3128
  let c1_i32_3129 : BitVec 32 := 1#32
  let v8925 : BitVec 32 := Scalar.select v8924 c1_i32_3129 c4_i32_3127
  let v8926 : BitVec 32 := Scalar.remsi c13_i32_3123 v8925
  let c0_i32_3131 : BitVec 32 := 0#32
  let v8928 : BitVec 1 := Scalar.cmpi .slt v8926 c0_i32_3131
  let c0_i32_3132 : BitVec 32 := 0#32
  let v8929 : BitVec 1 := Scalar.cmpi .slt v8925 c0_i32_3132
  let v8930 : BitVec 1 := Scalar.xori v8928 v8929
  let c0_i32_3130 : BitVec 32 := 0#32
  let v8927 : BitVec 1 := Scalar.cmpi .ne v8926 c0_i32_3130
  let v8931 : BitVec 1 := Scalar.andi v8930 v8927
  let v8932 : BitVec 32 := Scalar.addi v8926 v8925
  let v8933 : BitVec 32 := Scalar.select v8931 v8932 v8926
  let c32_i32_3133 : BitVec 32 := 32#32
  let v8934 : BitVec 32 := Scalar.muli v8933 c32_i32_3133
  v8934
def k0_mult222 : BitVec 32 :=
  let c14_i32_3159 : BitVec 32 := 14#32
  let c32_i32_3160 : BitVec 32 := 32#32
  let v9019 : BitVec 32 := Scalar.muli c14_i32_3159 c32_i32_3160
  v9019
def k0_mult223 : BitVec 32 :=
  let c14_i32_3159 : BitVec 32 := 14#32
  let c4_i32_3163 : BitVec 32 := 4#32
  let c0_i32_3164 : BitVec 32 := 0#32
  let v9029 : BitVec 1 := Scalar.cmpi .eq c4_i32_3163 c0_i32_3164
  let c1_i32_3165 : BitVec 32 := 1#32
  let v9030 : BitVec 32 := Scalar.select v9029 c1_i32_3165 c4_i32_3163
  let v9031 : BitVec 32 := Scalar.remsi c14_i32_3159 v9030
  let c0_i32_3167 : BitVec 32 := 0#32
  let v9033 : BitVec 1 := Scalar.cmpi .slt v9031 c0_i32_3167
  let c0_i32_3168 : BitVec 32 := 0#32
  let v9034 : BitVec 1 := Scalar.cmpi .slt v9030 c0_i32_3168
  let v9035 : BitVec 1 := Scalar.xori v9033 v9034
  let c0_i32_3166 : BitVec 32 := 0#32
  let v9032 : BitVec 1 := Scalar.cmpi .ne v9031 c0_i32_3166
  let v9036 : BitVec 1 := Scalar.andi v9035 v9032
  let v9037 : BitVec 32 := Scalar.addi v9031 v9030
  let v9038 : BitVec 32 := Scalar.select v9036 v9037 v9031
  let c32_i32_3169 : BitVec 32 := 32#32
  let v9039 : BitVec 32 := Scalar.muli v9038 c32_i32_3169
  v9039
def k0_mult224 : BitVec 32 :=
  let c15_i32_3195 : BitVec 32 := 15#32
  let c32_i32_3196 : BitVec 32 := 32#32
  let v9124 : BitVec 32 := Scalar.muli c15_i32_3195 c32_i32_3196
  v9124
def k0_mult225 : BitVec 32 :=
  let c15_i32_3195 : BitVec 32 := 15#32
  let c4_i32_3199 : BitVec 32 := 4#32
  let c0_i32_3200 : BitVec 32 := 0#32
  let v9134 : BitVec 1 := Scalar.cmpi .eq c4_i32_3199 c0_i32_3200
  let c1_i32_3201 : BitVec 32 := 1#32
  let v9135 : BitVec 32 := Scalar.select v9134 c1_i32_3201 c4_i32_3199
  let v9136 : BitVec 32 := Scalar.remsi c15_i32_3195 v9135
  let c0_i32_3203 : BitVec 32 := 0#32
  let v9138 : BitVec 1 := Scalar.cmpi .slt v9136 c0_i32_3203
  let c0_i32_3204 : BitVec 32 := 0#32
  let v9139 : BitVec 1 := Scalar.cmpi .slt v9135 c0_i32_3204
  let v9140 : BitVec 1 := Scalar.xori v9138 v9139
  let c0_i32_3202 : BitVec 32 := 0#32
  let v9137 : BitVec 1 := Scalar.cmpi .ne v9136 c0_i32_3202
  let v9141 : BitVec 1 := Scalar.andi v9140 v9137
  let v9142 : BitVec 32 := Scalar.addi v9136 v9135
  let v9143 : BitVec 32 := Scalar.select v9141 v9142 v9136
  let c32_i32_3205 : BitVec 32 := 32#32
  let v9144 : BitVec 32 := Scalar.muli v9143 c32_i32_3205
  v9144
def k0_mult226 : BitVec 32 :=
  let c0_i32_3232 : BitVec 32 := 0#32
  let c32_i32_3233 : BitVec 32 := 32#32
  let v9229 : BitVec 32 := Scalar.muli c0_i32_3232 c32_i32_3233
  v9229
def k0_mult227 : BitVec 32 :=
  let c0_i32_3232 : BitVec 32 := 0#32
  let c4_i32_3236 : BitVec 32 := 4#32
  let c0_i32_3237 : BitVec 32 := 0#32
  let v9239 : BitVec 1 := Scalar.cmpi .eq c4_i32_3236 c0_i32_3237
  let c1_i32_3238 : BitVec 32 := 1#32
  let v9240 : BitVec 32 := Scalar.select v9239 c1_i32_3238 c4_i32_3236
  let v9241 : BitVec 32 := Scalar.remsi c0_i32_3232 v9240
  let c0_i32_3240 : BitVec 32 := 0#32
  let v9243 : BitVec 1 := Scalar.cmpi .slt v9241 c0_i32_3240
  let c0_i32_3241 : BitVec 32 := 0#32
  let v9244 : BitVec 1 := Scalar.cmpi .slt v9240 c0_i32_3241
  let v9245 : BitVec 1 := Scalar.xori v9243 v9244
  let c0_i32_3239 : BitVec 32 := 0#32
  let v9242 : BitVec 1 := Scalar.cmpi .ne v9241 c0_i32_3239
  let v9246 : BitVec 1 := Scalar.andi v9245 v9242
  let v9247 : BitVec 32 := Scalar.addi v9241 v9240
  let v9248 : BitVec 32 := Scalar.select v9246 v9247 v9241
  let c32_i32_3242 : BitVec 32 := 32#32
  let v9249 : BitVec 32 := Scalar.muli v9248 c32_i32_3242
  v9249
def k0_off27 (c0_i32_3232 : BitVec 32) : Fin 3 → Nat :=
  let c3_3254 : Index := 3#32
  let c32_i32_3233 : BitVec 32 := 32#32
  let v9229 : BitVec 32 := Scalar.muli c0_i32_3232 c32_i32_3233
  let v9230 : BitVec 32 := v9229
  let v9293 : Index := Scalar.indexCast v9230
  let c0_3255 : Index := 0#32
  ![3, v9293.toNat, 0]
def k0_off28 (c0_i32_3232 : BitVec 32) : Fin 3 → Nat :=
  let c3_3256 : Index := 3#32
  let c32_i32_3233 : BitVec 32 := 32#32
  let v9229 : BitVec 32 := Scalar.muli c0_i32_3232 c32_i32_3233
  let v9230 : BitVec 32 := v9229
  let v9298 : Index := Scalar.indexCast v9230
  let c128_3257 : Index := 128#32
  ![3, v9298.toNat, 128]
def k0_off29 (c0_i32_3232 : BitVec 32) : Fin 3 → Nat :=
  let c3_3258 : Index := 3#32
  let c32_i32_3233 : BitVec 32 := 32#32
  let v9229 : BitVec 32 := Scalar.muli c0_i32_3232 c32_i32_3233
  let v9230 : BitVec 32 := v9229
  let v9303 : Index := Scalar.indexCast v9230
  let c256_3259 : Index := 256#32
  ![3, v9303.toNat, 256]
def k0_off30 (c0_i32_3232 : BitVec 32) : Fin 3 → Nat :=
  let c3_3260 : Index := 3#32
  let c32_i32_3233 : BitVec 32 := 32#32
  let v9229 : BitVec 32 := Scalar.muli c0_i32_3232 c32_i32_3233
  let v9230 : BitVec 32 := v9229
  let v9308 : Index := Scalar.indexCast v9230
  let c384_3261 : Index := 384#32
  ![3, v9308.toNat, 384]
def k0_off31 (c0_i32_3232 : BitVec 32) : Fin 3 → Nat :=
  let c3_3262 : Index := 3#32
  let c32_i32_3233 : BitVec 32 := 32#32
  let v9229 : BitVec 32 := Scalar.muli c0_i32_3232 c32_i32_3233
  let v9230 : BitVec 32 := v9229
  let v9313 : Index := Scalar.indexCast v9230
  let c512_3263 : Index := 512#32
  ![3, v9313.toNat, 512]
def k0_mult228 : BitVec 32 :=
  let c1_i32_3268 : BitVec 32 := 1#32
  let c32_i32_3269 : BitVec 32 := 32#32
  let v9334 : BitVec 32 := Scalar.muli c1_i32_3268 c32_i32_3269
  v9334
def k0_mult229 : BitVec 32 :=
  let c1_i32_3268 : BitVec 32 := 1#32
  let c4_i32_3272 : BitVec 32 := 4#32
  let c0_i32_3273 : BitVec 32 := 0#32
  let v9344 : BitVec 1 := Scalar.cmpi .eq c4_i32_3272 c0_i32_3273
  let c1_i32_3274 : BitVec 32 := 1#32
  let v9345 : BitVec 32 := Scalar.select v9344 c1_i32_3274 c4_i32_3272
  let v9346 : BitVec 32 := Scalar.remsi c1_i32_3268 v9345
  let c0_i32_3276 : BitVec 32 := 0#32
  let v9348 : BitVec 1 := Scalar.cmpi .slt v9346 c0_i32_3276
  let c0_i32_3277 : BitVec 32 := 0#32
  let v9349 : BitVec 1 := Scalar.cmpi .slt v9345 c0_i32_3277
  let v9350 : BitVec 1 := Scalar.xori v9348 v9349
  let c0_i32_3275 : BitVec 32 := 0#32
  let v9347 : BitVec 1 := Scalar.cmpi .ne v9346 c0_i32_3275
  let v9351 : BitVec 1 := Scalar.andi v9350 v9347
  let v9352 : BitVec 32 := Scalar.addi v9346 v9345
  let v9353 : BitVec 32 := Scalar.select v9351 v9352 v9346
  let c32_i32_3278 : BitVec 32 := 32#32
  let v9354 : BitVec 32 := Scalar.muli v9353 c32_i32_3278
  v9354
def k0_mult230 : BitVec 32 :=
  let c2_i32_3304 : BitVec 32 := 2#32
  let c32_i32_3305 : BitVec 32 := 32#32
  let v9439 : BitVec 32 := Scalar.muli c2_i32_3304 c32_i32_3305
  v9439
def k0_mult231 : BitVec 32 :=
  let c2_i32_3304 : BitVec 32 := 2#32
  let c4_i32_3308 : BitVec 32 := 4#32
  let c0_i32_3309 : BitVec 32 := 0#32
  let v9449 : BitVec 1 := Scalar.cmpi .eq c4_i32_3308 c0_i32_3309
  let c1_i32_3310 : BitVec 32 := 1#32
  let v9450 : BitVec 32 := Scalar.select v9449 c1_i32_3310 c4_i32_3308
  let v9451 : BitVec 32 := Scalar.remsi c2_i32_3304 v9450
  let c0_i32_3312 : BitVec 32 := 0#32
  let v9453 : BitVec 1 := Scalar.cmpi .slt v9451 c0_i32_3312
  let c0_i32_3313 : BitVec 32 := 0#32
  let v9454 : BitVec 1 := Scalar.cmpi .slt v9450 c0_i32_3313
  let v9455 : BitVec 1 := Scalar.xori v9453 v9454
  let c0_i32_3311 : BitVec 32 := 0#32
  let v9452 : BitVec 1 := Scalar.cmpi .ne v9451 c0_i32_3311
  let v9456 : BitVec 1 := Scalar.andi v9455 v9452
  let v9457 : BitVec 32 := Scalar.addi v9451 v9450
  let v9458 : BitVec 32 := Scalar.select v9456 v9457 v9451
  let c32_i32_3314 : BitVec 32 := 32#32
  let v9459 : BitVec 32 := Scalar.muli v9458 c32_i32_3314
  v9459
def k0_mult232 : BitVec 32 :=
  let c3_i32_3340 : BitVec 32 := 3#32
  let c32_i32_3341 : BitVec 32 := 32#32
  let v9544 : BitVec 32 := Scalar.muli c3_i32_3340 c32_i32_3341
  v9544
def k0_mult233 : BitVec 32 :=
  let c3_i32_3340 : BitVec 32 := 3#32
  let c4_i32_3344 : BitVec 32 := 4#32
  let c0_i32_3345 : BitVec 32 := 0#32
  let v9554 : BitVec 1 := Scalar.cmpi .eq c4_i32_3344 c0_i32_3345
  let c1_i32_3346 : BitVec 32 := 1#32
  let v9555 : BitVec 32 := Scalar.select v9554 c1_i32_3346 c4_i32_3344
  let v9556 : BitVec 32 := Scalar.remsi c3_i32_3340 v9555
  let c0_i32_3348 : BitVec 32 := 0#32
  let v9558 : BitVec 1 := Scalar.cmpi .slt v9556 c0_i32_3348
  let c0_i32_3349 : BitVec 32 := 0#32
  let v9559 : BitVec 1 := Scalar.cmpi .slt v9555 c0_i32_3349
  let v9560 : BitVec 1 := Scalar.xori v9558 v9559
  let c0_i32_3347 : BitVec 32 := 0#32
  let v9557 : BitVec 1 := Scalar.cmpi .ne v9556 c0_i32_3347
  let v9561 : BitVec 1 := Scalar.andi v9560 v9557
  let v9562 : BitVec 32 := Scalar.addi v9556 v9555
  let v9563 : BitVec 32 := Scalar.select v9561 v9562 v9556
  let c32_i32_3350 : BitVec 32 := 32#32
  let v9564 : BitVec 32 := Scalar.muli v9563 c32_i32_3350
  v9564
def k0_mult234 : BitVec 32 :=
  let c4_i32_3376 : BitVec 32 := 4#32
  let c32_i32_3377 : BitVec 32 := 32#32
  let v9649 : BitVec 32 := Scalar.muli c4_i32_3376 c32_i32_3377
  v9649
def k0_mult235 : BitVec 32 :=
  let c4_i32_3376 : BitVec 32 := 4#32
  let c4_i32_3380 : BitVec 32 := 4#32
  let c0_i32_3381 : BitVec 32 := 0#32
  let v9659 : BitVec 1 := Scalar.cmpi .eq c4_i32_3380 c0_i32_3381
  let c1_i32_3382 : BitVec 32 := 1#32
  let v9660 : BitVec 32 := Scalar.select v9659 c1_i32_3382 c4_i32_3380
  let v9661 : BitVec 32 := Scalar.remsi c4_i32_3376 v9660
  let c0_i32_3384 : BitVec 32 := 0#32
  let v9663 : BitVec 1 := Scalar.cmpi .slt v9661 c0_i32_3384
  let c0_i32_3385 : BitVec 32 := 0#32
  let v9664 : BitVec 1 := Scalar.cmpi .slt v9660 c0_i32_3385
  let v9665 : BitVec 1 := Scalar.xori v9663 v9664
  let c0_i32_3383 : BitVec 32 := 0#32
  let v9662 : BitVec 1 := Scalar.cmpi .ne v9661 c0_i32_3383
  let v9666 : BitVec 1 := Scalar.andi v9665 v9662
  let v9667 : BitVec 32 := Scalar.addi v9661 v9660
  let v9668 : BitVec 32 := Scalar.select v9666 v9667 v9661
  let c32_i32_3386 : BitVec 32 := 32#32
  let v9669 : BitVec 32 := Scalar.muli v9668 c32_i32_3386
  v9669
def k0_mult236 : BitVec 32 :=
  let c5_i32_3412 : BitVec 32 := 5#32
  let c32_i32_3413 : BitVec 32 := 32#32
  let v9754 : BitVec 32 := Scalar.muli c5_i32_3412 c32_i32_3413
  v9754
def k0_mult237 : BitVec 32 :=
  let c5_i32_3412 : BitVec 32 := 5#32
  let c4_i32_3416 : BitVec 32 := 4#32
  let c0_i32_3417 : BitVec 32 := 0#32
  let v9764 : BitVec 1 := Scalar.cmpi .eq c4_i32_3416 c0_i32_3417
  let c1_i32_3418 : BitVec 32 := 1#32
  let v9765 : BitVec 32 := Scalar.select v9764 c1_i32_3418 c4_i32_3416
  let v9766 : BitVec 32 := Scalar.remsi c5_i32_3412 v9765
  let c0_i32_3420 : BitVec 32 := 0#32
  let v9768 : BitVec 1 := Scalar.cmpi .slt v9766 c0_i32_3420
  let c0_i32_3421 : BitVec 32 := 0#32
  let v9769 : BitVec 1 := Scalar.cmpi .slt v9765 c0_i32_3421
  let v9770 : BitVec 1 := Scalar.xori v9768 v9769
  let c0_i32_3419 : BitVec 32 := 0#32
  let v9767 : BitVec 1 := Scalar.cmpi .ne v9766 c0_i32_3419
  let v9771 : BitVec 1 := Scalar.andi v9770 v9767
  let v9772 : BitVec 32 := Scalar.addi v9766 v9765
  let v9773 : BitVec 32 := Scalar.select v9771 v9772 v9766
  let c32_i32_3422 : BitVec 32 := 32#32
  let v9774 : BitVec 32 := Scalar.muli v9773 c32_i32_3422
  v9774
def k0_mult238 : BitVec 32 :=
  let c6_i32_3448 : BitVec 32 := 6#32
  let c32_i32_3449 : BitVec 32 := 32#32
  let v9859 : BitVec 32 := Scalar.muli c6_i32_3448 c32_i32_3449
  v9859
def k0_mult239 : BitVec 32 :=
  let c6_i32_3448 : BitVec 32 := 6#32
  let c4_i32_3452 : BitVec 32 := 4#32
  let c0_i32_3453 : BitVec 32 := 0#32
  let v9869 : BitVec 1 := Scalar.cmpi .eq c4_i32_3452 c0_i32_3453
  let c1_i32_3454 : BitVec 32 := 1#32
  let v9870 : BitVec 32 := Scalar.select v9869 c1_i32_3454 c4_i32_3452
  let v9871 : BitVec 32 := Scalar.remsi c6_i32_3448 v9870
  let c0_i32_3456 : BitVec 32 := 0#32
  let v9873 : BitVec 1 := Scalar.cmpi .slt v9871 c0_i32_3456
  let c0_i32_3457 : BitVec 32 := 0#32
  let v9874 : BitVec 1 := Scalar.cmpi .slt v9870 c0_i32_3457
  let v9875 : BitVec 1 := Scalar.xori v9873 v9874
  let c0_i32_3455 : BitVec 32 := 0#32
  let v9872 : BitVec 1 := Scalar.cmpi .ne v9871 c0_i32_3455
  let v9876 : BitVec 1 := Scalar.andi v9875 v9872
  let v9877 : BitVec 32 := Scalar.addi v9871 v9870
  let v9878 : BitVec 32 := Scalar.select v9876 v9877 v9871
  let c32_i32_3458 : BitVec 32 := 32#32
  let v9879 : BitVec 32 := Scalar.muli v9878 c32_i32_3458
  v9879
def k0_mult240 : BitVec 32 :=
  let c7_i32_3484 : BitVec 32 := 7#32
  let c32_i32_3485 : BitVec 32 := 32#32
  let v9964 : BitVec 32 := Scalar.muli c7_i32_3484 c32_i32_3485
  v9964
def k0_mult241 : BitVec 32 :=
  let c7_i32_3484 : BitVec 32 := 7#32
  let c4_i32_3488 : BitVec 32 := 4#32
  let c0_i32_3489 : BitVec 32 := 0#32
  let v9974 : BitVec 1 := Scalar.cmpi .eq c4_i32_3488 c0_i32_3489
  let c1_i32_3490 : BitVec 32 := 1#32
  let v9975 : BitVec 32 := Scalar.select v9974 c1_i32_3490 c4_i32_3488
  let v9976 : BitVec 32 := Scalar.remsi c7_i32_3484 v9975
  let c0_i32_3492 : BitVec 32 := 0#32
  let v9978 : BitVec 1 := Scalar.cmpi .slt v9976 c0_i32_3492
  let c0_i32_3493 : BitVec 32 := 0#32
  let v9979 : BitVec 1 := Scalar.cmpi .slt v9975 c0_i32_3493
  let v9980 : BitVec 1 := Scalar.xori v9978 v9979
  let c0_i32_3491 : BitVec 32 := 0#32
  let v9977 : BitVec 1 := Scalar.cmpi .ne v9976 c0_i32_3491
  let v9981 : BitVec 1 := Scalar.andi v9980 v9977
  let v9982 : BitVec 32 := Scalar.addi v9976 v9975
  let v9983 : BitVec 32 := Scalar.select v9981 v9982 v9976
  let c32_i32_3494 : BitVec 32 := 32#32
  let v9984 : BitVec 32 := Scalar.muli v9983 c32_i32_3494
  v9984
def k0_mult242 : BitVec 32 :=
  let c8_i32_3520 : BitVec 32 := 8#32
  let c32_i32_3521 : BitVec 32 := 32#32
  let v10069 : BitVec 32 := Scalar.muli c8_i32_3520 c32_i32_3521
  v10069
def k0_mult243 : BitVec 32 :=
  let c8_i32_3520 : BitVec 32 := 8#32
  let c4_i32_3524 : BitVec 32 := 4#32
  let c0_i32_3525 : BitVec 32 := 0#32
  let v10079 : BitVec 1 := Scalar.cmpi .eq c4_i32_3524 c0_i32_3525
  let c1_i32_3526 : BitVec 32 := 1#32
  let v10080 : BitVec 32 := Scalar.select v10079 c1_i32_3526 c4_i32_3524
  let v10081 : BitVec 32 := Scalar.remsi c8_i32_3520 v10080
  let c0_i32_3528 : BitVec 32 := 0#32
  let v10083 : BitVec 1 := Scalar.cmpi .slt v10081 c0_i32_3528
  let c0_i32_3529 : BitVec 32 := 0#32
  let v10084 : BitVec 1 := Scalar.cmpi .slt v10080 c0_i32_3529
  let v10085 : BitVec 1 := Scalar.xori v10083 v10084
  let c0_i32_3527 : BitVec 32 := 0#32
  let v10082 : BitVec 1 := Scalar.cmpi .ne v10081 c0_i32_3527
  let v10086 : BitVec 1 := Scalar.andi v10085 v10082
  let v10087 : BitVec 32 := Scalar.addi v10081 v10080
  let v10088 : BitVec 32 := Scalar.select v10086 v10087 v10081
  let c32_i32_3530 : BitVec 32 := 32#32
  let v10089 : BitVec 32 := Scalar.muli v10088 c32_i32_3530
  v10089
def k0_mult244 : BitVec 32 :=
  let c9_i32_3556 : BitVec 32 := 9#32
  let c32_i32_3557 : BitVec 32 := 32#32
  let v10174 : BitVec 32 := Scalar.muli c9_i32_3556 c32_i32_3557
  v10174
def k0_mult245 : BitVec 32 :=
  let c9_i32_3556 : BitVec 32 := 9#32
  let c4_i32_3560 : BitVec 32 := 4#32
  let c0_i32_3561 : BitVec 32 := 0#32
  let v10184 : BitVec 1 := Scalar.cmpi .eq c4_i32_3560 c0_i32_3561
  let c1_i32_3562 : BitVec 32 := 1#32
  let v10185 : BitVec 32 := Scalar.select v10184 c1_i32_3562 c4_i32_3560
  let v10186 : BitVec 32 := Scalar.remsi c9_i32_3556 v10185
  let c0_i32_3564 : BitVec 32 := 0#32
  let v10188 : BitVec 1 := Scalar.cmpi .slt v10186 c0_i32_3564
  let c0_i32_3565 : BitVec 32 := 0#32
  let v10189 : BitVec 1 := Scalar.cmpi .slt v10185 c0_i32_3565
  let v10190 : BitVec 1 := Scalar.xori v10188 v10189
  let c0_i32_3563 : BitVec 32 := 0#32
  let v10187 : BitVec 1 := Scalar.cmpi .ne v10186 c0_i32_3563
  let v10191 : BitVec 1 := Scalar.andi v10190 v10187
  let v10192 : BitVec 32 := Scalar.addi v10186 v10185
  let v10193 : BitVec 32 := Scalar.select v10191 v10192 v10186
  let c32_i32_3566 : BitVec 32 := 32#32
  let v10194 : BitVec 32 := Scalar.muli v10193 c32_i32_3566
  v10194
def k0_mult246 : BitVec 32 :=
  let c10_i32_3592 : BitVec 32 := 10#32
  let c32_i32_3593 : BitVec 32 := 32#32
  let v10279 : BitVec 32 := Scalar.muli c10_i32_3592 c32_i32_3593
  v10279
def k0_mult247 : BitVec 32 :=
  let c10_i32_3592 : BitVec 32 := 10#32
  let c4_i32_3596 : BitVec 32 := 4#32
  let c0_i32_3597 : BitVec 32 := 0#32
  let v10289 : BitVec 1 := Scalar.cmpi .eq c4_i32_3596 c0_i32_3597
  let c1_i32_3598 : BitVec 32 := 1#32
  let v10290 : BitVec 32 := Scalar.select v10289 c1_i32_3598 c4_i32_3596
  let v10291 : BitVec 32 := Scalar.remsi c10_i32_3592 v10290
  let c0_i32_3600 : BitVec 32 := 0#32
  let v10293 : BitVec 1 := Scalar.cmpi .slt v10291 c0_i32_3600
  let c0_i32_3601 : BitVec 32 := 0#32
  let v10294 : BitVec 1 := Scalar.cmpi .slt v10290 c0_i32_3601
  let v10295 : BitVec 1 := Scalar.xori v10293 v10294
  let c0_i32_3599 : BitVec 32 := 0#32
  let v10292 : BitVec 1 := Scalar.cmpi .ne v10291 c0_i32_3599
  let v10296 : BitVec 1 := Scalar.andi v10295 v10292
  let v10297 : BitVec 32 := Scalar.addi v10291 v10290
  let v10298 : BitVec 32 := Scalar.select v10296 v10297 v10291
  let c32_i32_3602 : BitVec 32 := 32#32
  let v10299 : BitVec 32 := Scalar.muli v10298 c32_i32_3602
  v10299
def k0_mult248 : BitVec 32 :=
  let c11_i32_3628 : BitVec 32 := 11#32
  let c32_i32_3629 : BitVec 32 := 32#32
  let v10384 : BitVec 32 := Scalar.muli c11_i32_3628 c32_i32_3629
  v10384
def k0_mult249 : BitVec 32 :=
  let c11_i32_3628 : BitVec 32 := 11#32
  let c4_i32_3632 : BitVec 32 := 4#32
  let c0_i32_3633 : BitVec 32 := 0#32
  let v10394 : BitVec 1 := Scalar.cmpi .eq c4_i32_3632 c0_i32_3633
  let c1_i32_3634 : BitVec 32 := 1#32
  let v10395 : BitVec 32 := Scalar.select v10394 c1_i32_3634 c4_i32_3632
  let v10396 : BitVec 32 := Scalar.remsi c11_i32_3628 v10395
  let c0_i32_3636 : BitVec 32 := 0#32
  let v10398 : BitVec 1 := Scalar.cmpi .slt v10396 c0_i32_3636
  let c0_i32_3637 : BitVec 32 := 0#32
  let v10399 : BitVec 1 := Scalar.cmpi .slt v10395 c0_i32_3637
  let v10400 : BitVec 1 := Scalar.xori v10398 v10399
  let c0_i32_3635 : BitVec 32 := 0#32
  let v10397 : BitVec 1 := Scalar.cmpi .ne v10396 c0_i32_3635
  let v10401 : BitVec 1 := Scalar.andi v10400 v10397
  let v10402 : BitVec 32 := Scalar.addi v10396 v10395
  let v10403 : BitVec 32 := Scalar.select v10401 v10402 v10396
  let c32_i32_3638 : BitVec 32 := 32#32
  let v10404 : BitVec 32 := Scalar.muli v10403 c32_i32_3638
  v10404
def k0_mult250 : BitVec 32 :=
  let c12_i32_3664 : BitVec 32 := 12#32
  let c32_i32_3665 : BitVec 32 := 32#32
  let v10489 : BitVec 32 := Scalar.muli c12_i32_3664 c32_i32_3665
  v10489
def k0_mult251 : BitVec 32 :=
  let c12_i32_3664 : BitVec 32 := 12#32
  let c4_i32_3668 : BitVec 32 := 4#32
  let c0_i32_3669 : BitVec 32 := 0#32
  let v10499 : BitVec 1 := Scalar.cmpi .eq c4_i32_3668 c0_i32_3669
  let c1_i32_3670 : BitVec 32 := 1#32
  let v10500 : BitVec 32 := Scalar.select v10499 c1_i32_3670 c4_i32_3668
  let v10501 : BitVec 32 := Scalar.remsi c12_i32_3664 v10500
  let c0_i32_3672 : BitVec 32 := 0#32
  let v10503 : BitVec 1 := Scalar.cmpi .slt v10501 c0_i32_3672
  let c0_i32_3673 : BitVec 32 := 0#32
  let v10504 : BitVec 1 := Scalar.cmpi .slt v10500 c0_i32_3673
  let v10505 : BitVec 1 := Scalar.xori v10503 v10504
  let c0_i32_3671 : BitVec 32 := 0#32
  let v10502 : BitVec 1 := Scalar.cmpi .ne v10501 c0_i32_3671
  let v10506 : BitVec 1 := Scalar.andi v10505 v10502
  let v10507 : BitVec 32 := Scalar.addi v10501 v10500
  let v10508 : BitVec 32 := Scalar.select v10506 v10507 v10501
  let c32_i32_3674 : BitVec 32 := 32#32
  let v10509 : BitVec 32 := Scalar.muli v10508 c32_i32_3674
  v10509
def k0_mult252 : BitVec 32 :=
  let c13_i32_3700 : BitVec 32 := 13#32
  let c32_i32_3701 : BitVec 32 := 32#32
  let v10594 : BitVec 32 := Scalar.muli c13_i32_3700 c32_i32_3701
  v10594
def k0_mult253 : BitVec 32 :=
  let c13_i32_3700 : BitVec 32 := 13#32
  let c4_i32_3704 : BitVec 32 := 4#32
  let c0_i32_3705 : BitVec 32 := 0#32
  let v10604 : BitVec 1 := Scalar.cmpi .eq c4_i32_3704 c0_i32_3705
  let c1_i32_3706 : BitVec 32 := 1#32
  let v10605 : BitVec 32 := Scalar.select v10604 c1_i32_3706 c4_i32_3704
  let v10606 : BitVec 32 := Scalar.remsi c13_i32_3700 v10605
  let c0_i32_3708 : BitVec 32 := 0#32
  let v10608 : BitVec 1 := Scalar.cmpi .slt v10606 c0_i32_3708
  let c0_i32_3709 : BitVec 32 := 0#32
  let v10609 : BitVec 1 := Scalar.cmpi .slt v10605 c0_i32_3709
  let v10610 : BitVec 1 := Scalar.xori v10608 v10609
  let c0_i32_3707 : BitVec 32 := 0#32
  let v10607 : BitVec 1 := Scalar.cmpi .ne v10606 c0_i32_3707
  let v10611 : BitVec 1 := Scalar.andi v10610 v10607
  let v10612 : BitVec 32 := Scalar.addi v10606 v10605
  let v10613 : BitVec 32 := Scalar.select v10611 v10612 v10606
  let c32_i32_3710 : BitVec 32 := 32#32
  let v10614 : BitVec 32 := Scalar.muli v10613 c32_i32_3710
  v10614
def k0_mult254 : BitVec 32 :=
  let c14_i32_3736 : BitVec 32 := 14#32
  let c32_i32_3737 : BitVec 32 := 32#32
  let v10699 : BitVec 32 := Scalar.muli c14_i32_3736 c32_i32_3737
  v10699
def k0_mult255 : BitVec 32 :=
  let c14_i32_3736 : BitVec 32 := 14#32
  let c4_i32_3740 : BitVec 32 := 4#32
  let c0_i32_3741 : BitVec 32 := 0#32
  let v10709 : BitVec 1 := Scalar.cmpi .eq c4_i32_3740 c0_i32_3741
  let c1_i32_3742 : BitVec 32 := 1#32
  let v10710 : BitVec 32 := Scalar.select v10709 c1_i32_3742 c4_i32_3740
  let v10711 : BitVec 32 := Scalar.remsi c14_i32_3736 v10710
  let c0_i32_3744 : BitVec 32 := 0#32
  let v10713 : BitVec 1 := Scalar.cmpi .slt v10711 c0_i32_3744
  let c0_i32_3745 : BitVec 32 := 0#32
  let v10714 : BitVec 1 := Scalar.cmpi .slt v10710 c0_i32_3745
  let v10715 : BitVec 1 := Scalar.xori v10713 v10714
  let c0_i32_3743 : BitVec 32 := 0#32
  let v10712 : BitVec 1 := Scalar.cmpi .ne v10711 c0_i32_3743
  let v10716 : BitVec 1 := Scalar.andi v10715 v10712
  let v10717 : BitVec 32 := Scalar.addi v10711 v10710
  let v10718 : BitVec 32 := Scalar.select v10716 v10717 v10711
  let c32_i32_3746 : BitVec 32 := 32#32
  let v10719 : BitVec 32 := Scalar.muli v10718 c32_i32_3746
  v10719
def k0_mult256 : BitVec 32 :=
  let c15_i32_3772 : BitVec 32 := 15#32
  let c32_i32_3773 : BitVec 32 := 32#32
  let v10804 : BitVec 32 := Scalar.muli c15_i32_3772 c32_i32_3773
  v10804
def k0_mult257 : BitVec 32 :=
  let c15_i32_3772 : BitVec 32 := 15#32
  let c4_i32_3776 : BitVec 32 := 4#32
  let c0_i32_3777 : BitVec 32 := 0#32
  let v10814 : BitVec 1 := Scalar.cmpi .eq c4_i32_3776 c0_i32_3777
  let c1_i32_3778 : BitVec 32 := 1#32
  let v10815 : BitVec 32 := Scalar.select v10814 c1_i32_3778 c4_i32_3776
  let v10816 : BitVec 32 := Scalar.remsi c15_i32_3772 v10815
  let c0_i32_3780 : BitVec 32 := 0#32
  let v10818 : BitVec 1 := Scalar.cmpi .slt v10816 c0_i32_3780
  let c0_i32_3781 : BitVec 32 := 0#32
  let v10819 : BitVec 1 := Scalar.cmpi .slt v10815 c0_i32_3781
  let v10820 : BitVec 1 := Scalar.xori v10818 v10819
  let c0_i32_3779 : BitVec 32 := 0#32
  let v10817 : BitVec 1 := Scalar.cmpi .ne v10816 c0_i32_3779
  let v10821 : BitVec 1 := Scalar.andi v10820 v10817
  let v10822 : BitVec 32 := Scalar.addi v10816 v10815
  let v10823 : BitVec 32 := Scalar.select v10821 v10822 v10816
  let c32_i32_3782 : BitVec 32 := 32#32
  let v10824 : BitVec 32 := Scalar.muli v10823 c32_i32_3782
  v10824
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x1024 : Shape := ⟨3, ![16, 2048, 1024]⟩
abbrev S16x2048x256 : Shape := ⟨3, ![16, 2048, 256]⟩
abbrev S16x256x256 : Shape := ⟨3, ![16, 256, 256]⟩
abbrev S16 : Shape := ⟨1, ![16]⟩
abbrev S16x2048x4x4x64 : Shape := ⟨5, ![16, 2048, 4, 4, 64]⟩
abbrev S16x2048x4x64 : Shape := ⟨4, ![16, 2048, 4, 64]⟩
abbrev S16x256x4x64 : Shape := ⟨4, ![16, 256, 4, 64]⟩
abbrev S2048x2048 : Shape := ⟨2, ![2048, 2048]⟩
abbrev S_ : Shape := ⟨0, ![]⟩
abbrev S1x1x1x2048x2048 : Shape := ⟨5, ![1, 1, 1, 2048, 2048]⟩
abbrev S16x4x2048x2048x4 : Shape := ⟨5, ![16, 4, 2048, 2048, 4]⟩
abbrev S16x4x4x2048x2048 : Shape := ⟨5, ![16, 4, 4, 2048, 2048]⟩
abbrev S16x4x256x2048x4 : Shape := ⟨5, ![16, 4, 256, 2048, 4]⟩
abbrev S16x4x4x2048x256 : Shape := ⟨5, ![16, 4, 4, 2048, 256]⟩
abbrev S1x4x4x1 : Shape := ⟨4, ![1, 4, 4, 1]⟩
abbrev S16x4x4x2048 : Shape := ⟨4, ![16, 4, 4, 2048]⟩
abbrev S16x4x4x2048x1 : Shape := ⟨5, ![16, 4, 4, 2048, 1]⟩
abbrev S16x4x64x4x2048 : Shape := ⟨5, ![16, 4, 64, 4, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x256x256, .f32⟩
  | .hbm, ⟨4, _⟩ => ⟨S16x256x256, .f32⟩
  | .hbm, ⟨5, _⟩ => ⟨S16, .f32⟩
  | .hbm, ⟨6, _⟩ => ⟨S16x2048x4x4x64, .f32⟩
  | .hbm, ⟨7, _⟩ => ⟨S16x2048x4x64, .f32⟩
  | .hbm, ⟨8, _⟩ => ⟨S16x2048x4x64, .f32⟩
  | .hbm, ⟨9, _⟩ => ⟨S16x256x4x64, .f32⟩
  | .hbm, ⟨10, _⟩ => ⟨S16x256x4x64, .f32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S1x1x1x2048x2048, .i1⟩
  | .hbm, ⟨19, _⟩ => ⟨S16x4x2048x2048x4, .f32⟩
  | .hbm, ⟨20, _⟩ => ⟨S16x4x4x2048x2048, .f32⟩
  | .hbm, ⟨21, _⟩ => ⟨S_, .f32⟩
  | .hbm, ⟨22, _⟩ => ⟨S16x4x4x2048x2048, .f32⟩
  | .hbm, ⟨23, _⟩ => ⟨S16x4x4x2048x2048, .f32⟩
  | .hbm, ⟨24, _⟩ => ⟨S_, .f32⟩
  | .hbm, ⟨25, _⟩ => ⟨S_, .f32⟩
  | .hbm, ⟨26, _⟩ => ⟨S16x4x4x2048x2048, .i1⟩
  | .hbm, ⟨27, _⟩ => ⟨S16x4x4x2048x2048, .f32⟩
  | .hbm, ⟨28, _⟩ => ⟨S16x4x4x2048x2048, .f32⟩
  | .hbm, ⟨29, _⟩ => ⟨S16x4x256x2048x4, .f32⟩
  | .hbm, ⟨30, _⟩ => ⟨S16x4x4x2048x256, .f32⟩
  | .hbm, ⟨31, _⟩ => ⟨S_, .f32⟩
  | .hbm, ⟨32, _⟩ => ⟨S16x4x4x2048x256, .f32⟩
  | .hbm, ⟨33, _⟩ => ⟨S16x4x4x2048x256, .f32⟩
  | .hbm, ⟨34, _⟩ => ⟨S1x4x4x1, .f32⟩
  | .hbm, ⟨35, _⟩ => ⟨S_, .f32⟩
  | .hbm, ⟨36, _⟩ => ⟨S16x4x4x2048, .f32⟩
  | .hbm, ⟨37, _⟩ => ⟨S_, .f32⟩
  | .hbm, ⟨38, _⟩ => ⟨S16x4x4x2048, .f32⟩
  | .hbm, ⟨39, _⟩ => ⟨S16x4x4x2048, .f32⟩
  | .hbm, ⟨40, _⟩ => ⟨S16x4x4x2048, .f32⟩
  | .hbm, ⟨41, _⟩ => ⟨S16x4x4x2048, .f32⟩
  | .hbm, ⟨42, _⟩ => ⟨S16x4x4x2048x1, .f32⟩
  | .hbm, ⟨43, _⟩ => ⟨S16x4x4x2048x2048, .f32⟩
  | .hbm, ⟨44, _⟩ => ⟨S16x4x4x2048x2048, .f32⟩
  | .hbm, ⟨45, _⟩ => ⟨S16x4x4x2048x2048, .f32⟩
  | .hbm, ⟨46, _⟩ => ⟨S16x4x4x2048x1, .f32⟩
  | .hbm, ⟨47, _⟩ => ⟨S16x4x4x2048x256, .f32⟩
  | .hbm, ⟨48, _⟩ => ⟨S16x4x4x2048x256, .f32⟩
  | .hbm, ⟨49, _⟩ => ⟨S16x4x4x2048x256, .f32⟩
  | .hbm, ⟨50, _⟩ => ⟨S_, .f32⟩
  | .hbm, ⟨51, _⟩ => ⟨S16x4x4x2048, .f32⟩
  | .hbm, ⟨52, _⟩ => ⟨S_, .f32⟩
  | .hbm, ⟨53, _⟩ => ⟨S16x4x4x2048, .f32⟩
  | .hbm, ⟨54, _⟩ => ⟨S16x4x4x2048, .f32⟩
  | .hbm, ⟨55, _⟩ => ⟨S16x4x4x2048, .f32⟩
  | .hbm, ⟨56, _⟩ => ⟨S16x4x4x2048, .f32⟩
  | .hbm, ⟨57, _⟩ => ⟨S16x4x4x2048, .f32⟩
  | .hbm, ⟨58, _⟩ => ⟨S16x4x4x2048, .f32⟩
  | .hbm, ⟨59, _⟩ => ⟨S16x4x4x2048x1, .f32⟩
  | .hbm, ⟨60, _⟩ => ⟨S16x4x4x2048x2048, .f32⟩
  | .hbm, ⟨61, _⟩ => ⟨S16x4x4x2048x2048, .f32⟩
  | .hbm, ⟨62, _⟩ => ⟨S16x4x64x4x2048, .f32⟩
  | .hbm, ⟨63, _⟩ => ⟨S16x2048x4x4x64, .f32⟩
  | .hbm, ⟨64, _⟩ => ⟨S16x4x4x2048x256, .f32⟩
  | .hbm, ⟨65, _⟩ => ⟨S16x4x4x2048x256, .f32⟩
  | .hbm, ⟨66, _⟩ => ⟨S16x4x64x4x2048, .f32⟩
  | .hbm, ⟨67, _⟩ => ⟨S16x2048x4x4x64, .f32⟩
  | .hbm, ⟨68, _⟩ => ⟨S16x2048x4x4x64, .f32⟩
  | .hbm, ⟨69, _⟩ => ⟨S16x2048x1024, .f32⟩
  | .hbm, ⟨70, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel2.lean ====
abbrev S576 : Shape := ⟨1, ![576]⟩
abbrev S1 : Shape := ⟨1, ![1]⟩
abbrev S294912x1024 : Shape := ⟨2, ![294912, 1024]⟩
abbrev S4x64x1024x256 : Shape := ⟨4, ![4, 64, 1024, 256]⟩
abbrev S4x64x256x1024 : Shape := ⟨4, ![4, 64, 256, 1024]⟩
abbrev S1024x1024 : Shape := ⟨2, ![1024, 1024]⟩
abbrev S1x1x1024x256 : Shape := ⟨4, ![1, 1, 1024, 256]⟩
abbrev S1x1x256x1024 : Shape := ⟨4, ![1, 1, 256, 1024]⟩
abbrev S512x1024 : Shape := ⟨2, ![512, 1024]⟩
abbrev S512x512 : Shape := ⟨2, ![512, 512]⟩
abbrev S1x1x512x256 : Shape := ⟨4, ![1, 1, 512, 256]⟩
abbrev S512x256 : Shape := ⟨2, ![512, 256]⟩
abbrev S256x1024 : Shape := ⟨2, ![256, 1024]⟩

abbrev nBuf : Space → Nat
  | .hbm => 5
  | .vmem => 16
  | .smem => 3
  | _ => 0

abbrev bufTy : (tb : Table) → Fin (tcTables nBuf tb) → BufTy
  | .hbm, ⟨0, _⟩ => ⟨S294912x1024, .bf16⟩
  | .hbm, ⟨1, _⟩ => ⟨S4x64x1024x256, .bf16⟩
  | .hbm, ⟨2, _⟩ => ⟨S4x64x1024x256, .bf16⟩
  | .hbm, ⟨3, _⟩ => ⟨S4x64x256x1024, .bf16⟩
  | .hbm, ⟨4, _⟩ => ⟨S294912x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x1024x256, .bf16⟩
  | .local _ .vmem, ⟨5, _⟩ => ⟨S1x1x1024x256, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x1024x256, .bf16⟩
  | .local _ .vmem, ⟨9, _⟩ => ⟨S1x1x1024x256, .bf16⟩
  | .local _ .vmem, ⟨10, _⟩ => ⟨S1x1x1024x256, .bf16⟩
  | .local _ .vmem, ⟨11, _⟩ => ⟨S1x1x1024x256, .bf16⟩
  | .local _ .vmem, ⟨12, _⟩ => ⟨S1x1x256x1024, .bf16⟩
  | .local _ .vmem, ⟨13, _⟩ => ⟨S1x1x256x1024, .bf16⟩
  | .local _ .vmem, ⟨14, _⟩ => ⟨S1024x1024, .bf16⟩
  | .local _ .vmem, ⟨15, _⟩ => ⟨S1024x1024, .bf16⟩
  | .local _ .smem, ⟨0, _⟩ => ⟨S576, .i32⟩
  | .local _ .smem, ⟨1, _⟩ => ⟨S576, .i32⟩
  | .local _ .smem, ⟨2, _⟩ => ⟨S1, .i32⟩
  | _, _ => ⟨S294912x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_off2 (i : grid0.Coords) (c0_i32_3 : BitVec 32) : Fin 1 → Nat :=
  let arg0 : BitVec 32 := BitVec.ofNat 32 (i 0).val
  let c2_i32_2 : BitVec 32 := 2#32
  let v7 : BitVec 32 := Scalar.muli arg0 c2_i32_2
  let v8 : BitVec 32 := Scalar.addi v7 c0_i32_3
  let v9 : Index := Scalar.indexCast v8
  ![v9.toNat]
def k0_cond1 (i : grid0.Coords) (v1 : BitVec 32) : BitVec 1 :=
  let arg0 : BitVec 32 := BitVec.ofNat 32 (i 0).val
  let c2_i32 : BitVec 32 := 2#32
  let v0 : BitVec 32 := Scalar.muli arg0 c2_i32
  let v2 : BitVec 1 := Scalar.cmpi .slt v0 v1
  let v3 : BitVec 32 := Scalar.extui v2
  let c0_i32 : BitVec 32 := 0#32
  let v4 : BitVec 1 := Scalar.cmpi .ne v3 c0_i32
  v4

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c2_i32 : BitVec 32 := 2#32
  let v1 : BitVec 32 := Scalar.addi v0 c2_i32
  let c1_i32 : BitVec 32 := 1#32
  let v2 : BitVec 32 := Scalar.subi v1 c1_i32
  let c2_i32_0 : BitVec 32 := 2#32
  let v3 : BitVec 32 := Scalar.divsi v2 c2_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi v2 c2_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.subi v19 c1_i32_6
  let v21 : BitVec 32 := Scalar.minsi arg0 v20
  let c0_i32_7 : BitVec 32 := 0#32
  let c0_i32_8 : BitVec 32 := 0#32
  ![v21.toNat, c0_i32_7.toNat]

def cc0_transform_1 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S576) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_2 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S576) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_3 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S576) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_4 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S576) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_5 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S576) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_6 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S576) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c2_i32 : BitVec 32 := 2#32
  let v1 : BitVec 32 := Scalar.addi v0 c2_i32
  let c1_i32 : BitVec 32 := 1#32
  let v2 : BitVec 32 := Scalar.subi v1 c1_i32
  let c2_i32_0 : BitVec 32 := 2#32
  let v3 : BitVec 32 := Scalar.divsi v2 c2_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi v2 c2_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.subi v19 c1_i32_6
  let v21 : BitVec 32 := Scalar.minsi arg0 v20
  let c0_i32_7 : BitVec 32 := 0#32
  let c0_i32_8 : BitVec 32 := 0#32
  ![v21.toNat, c0_i32_7.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S576 : Shape := ⟨1, ![576]⟩
abbrev S1 : Shape := ⟨1, ![1]⟩
abbrev S294912x1024 : Shape := ⟨2, ![294912, 1024]⟩
abbrev S4x64x1024x256 : Shape := ⟨4, ![4, 64, 1024, 256]⟩
abbrev S4x64x256x1024 : Shape := ⟨4, ![4, 64, 256, 1024]⟩
abbrev S576x512x1024 : Shape := ⟨3, ![576, 512, 1024]⟩
abbrev S512 : Shape := ⟨1, ![512]⟩
abbrev S1x512 : Shape := ⟨2, ![1, 512]⟩
abbrev S576x1 : Shape := ⟨2, ![576, 1]⟩
abbrev S576x512 : Shape := ⟨2, ![576, 512]⟩
abbrev S_ : Shape := ⟨0, ![]⟩
abbrev S576x512x1 : Shape := ⟨3, ![576, 512, 1]⟩
abbrev S1x64x1024x256 : Shape := ⟨4, ![1, 64, 1024, 256]⟩
abbrev S64x1024x256 : Shape := ⟨3, ![64, 1024, 256]⟩
abbrev S576x1024x256 : Shape := ⟨3, ![576, 1024, 256]⟩
abbrev S576x512x256 : Shape := ⟨3, ![576, 512, 256]⟩
abbrev S1x64x256x1024 : Shape := ⟨4, ![1, 64, 256, 1024]⟩
abbrev S64x256x1024 : Shape := ⟨3, ![64, 256, 1024]⟩
abbrev S576x256x1024 : Shape := ⟨3, ![576, 256, 1024]⟩

abbrev nBuf : Space → Nat
  | .hbm => 79
  | .vmem => 0
  | .smem => 0
  | _ => 0

abbrev bufTy : (tb : Table) → Fin (tcTables nBuf tb) → BufTy
  | .hbm, ⟨0, _⟩ => ⟨S576, .i32⟩
  | .hbm, ⟨1, _⟩ => ⟨S576, .i32⟩
  | .hbm, ⟨2, _⟩ => ⟨S1, .i32⟩
  | .hbm, ⟨3, _⟩ => ⟨S294912x1024, .bf16⟩
  | .hbm, ⟨4, _⟩ => ⟨S4x64x1024x256, .bf16⟩
  | .hbm, ⟨5, _⟩ => ⟨S4x64x1024x256, .bf16⟩
  | .hbm, ⟨6, _⟩ => ⟨S4x64x256x1024, .bf16⟩
  | .hbm, ⟨7, _⟩ => ⟨S294912x1024, .f32⟩
  | .hbm, ⟨8, _⟩ => ⟨S576x512x1024, .f32⟩
  | .hbm, ⟨9, _⟩ => ⟨S512, .i32⟩
  | .hbm, ⟨10, _⟩ => ⟨S1x512, .i32⟩
  | .hbm, ⟨11, _⟩ => ⟨S576x1, .i32⟩
  | .hbm, ⟨12, _⟩ => ⟨S576x512, .i32⟩
  | .hbm, ⟨13, _⟩ => ⟨S576x512, .i32⟩
  | .hbm, ⟨14, _⟩ => ⟨S576x512, .i1⟩
  | .hbm, ⟨15, _⟩ => ⟨S576, .i32⟩
  | .hbm, ⟨16, _⟩ => ⟨S_, .i32⟩
  | .hbm, ⟨17, _⟩ => ⟨S576, .i32⟩
  | .hbm, ⟨18, _⟩ => ⟨S576, .i1⟩
  | .hbm, ⟨19, _⟩ => ⟨S576x1, .i1⟩
  | .hbm, ⟨20, _⟩ => ⟨S576x512, .i1⟩
  | .hbm, ⟨21, _⟩ => ⟨S576x512, .i1⟩
  | .hbm, ⟨22, _⟩ => ⟨S576x512x1, .i1⟩
  | .hbm, ⟨23, _⟩ => ⟨S_, .f32⟩
  | .hbm, ⟨24, _⟩ => ⟨S_, .f32⟩
  | .hbm, ⟨25, _⟩ => ⟨S576x512x1024, .i1⟩
  | .hbm, ⟨26, _⟩ => ⟨S576x512x1024, .f32⟩
  | .hbm, ⟨27, _⟩ => ⟨S576x512x1024, .f32⟩
  | .hbm, ⟨28, _⟩ => ⟨S1x64x1024x256, .bf16⟩
  | .hbm, ⟨29, _⟩ => ⟨S64x1024x256, .bf16⟩
  | .hbm, ⟨30, _⟩ => ⟨S64x1024x256, .f32⟩
  | .hbm, ⟨31, _⟩ => ⟨S_, .i32⟩
  | .hbm, ⟨32, _⟩ => ⟨S576, .i32⟩
  | .hbm, ⟨33, _⟩ => ⟨S576, .i1⟩
  | .hbm, ⟨34, _⟩ => ⟨S_, .i32⟩
  | .hbm, ⟨35, _⟩ => ⟨S576, .i32⟩
  | .hbm, ⟨36, _⟩ => ⟨S576, .i32⟩
  | .hbm, ⟨37, _⟩ => ⟨S576, .i32⟩
  | .hbm, ⟨38, _⟩ => ⟨S576x1, .i32⟩
  | .hbm, ⟨39, _⟩ => ⟨S576x1024x256, .f32⟩
  | .hbm, ⟨40, _⟩ => ⟨S576x512x256, .f32⟩
  | .hbm, ⟨41, _⟩ => ⟨S1x64x1024x256, .bf16⟩
  | .hbm, ⟨42, _⟩ => ⟨S64x1024x256, .bf16⟩
  | .hbm, ⟨43, _⟩ => ⟨S64x1024x256, .f32⟩
  | .hbm, ⟨44, _⟩ => ⟨S_, .i32⟩
  | .hbm, ⟨45, _⟩ => ⟨S576, .i32⟩
  | .hbm, ⟨46, _⟩ => ⟨S576, .i1⟩
  | .hbm, ⟨47, _⟩ => ⟨S_, .i32⟩
  | .hbm, ⟨48, _⟩ => ⟨S576, .i32⟩
  | .hbm, ⟨49, _⟩ => ⟨S576, .i32⟩
  | .hbm, ⟨50, _⟩ => ⟨S576, .i32⟩
  | .hbm, ⟨51, _⟩ => ⟨S576x1, .i32⟩
  | .hbm, ⟨52, _⟩ => ⟨S576x1024x256, .f32⟩
  | .hbm, ⟨53, _⟩ => ⟨S576x512x256, .f32⟩
  | .hbm, ⟨54, _⟩ => ⟨S576x512x256, .f32⟩
  | .hbm, ⟨55, _⟩ => ⟨S576x512x256, .f32⟩
  | .hbm, ⟨56, _⟩ => ⟨S_, .f32⟩
  | .hbm, ⟨57, _⟩ => ⟨S576x512x256, .f32⟩
  | .hbm, ⟨58, _⟩ => ⟨S576x512x256, .f32⟩
  | .hbm, ⟨59, _⟩ => ⟨S_, .f32⟩
  | .hbm, ⟨60, _⟩ => ⟨S576x512x256, .f32⟩
  | .hbm, ⟨61, _⟩ => ⟨S576x512x256, .f32⟩
  | .hbm, ⟨62, _⟩ => ⟨S576x512x256, .f32⟩
  | .hbm, ⟨63, _⟩ => ⟨S576x512x256, .f32⟩
  | .hbm, ⟨64, _⟩ => ⟨S1x64x256x1024, .bf16⟩
  | .hbm, ⟨65, _⟩ => ⟨S64x256x1024, .bf16⟩
  | .hbm, ⟨66, _⟩ => ⟨S64x256x1024, .f32⟩
  | .hbm, ⟨67, _⟩ => ⟨S_, .i32⟩
  | .hbm, ⟨68, _⟩ => ⟨S576, .i32⟩
  | .hbm, ⟨69, _⟩ => ⟨S576, .i1⟩
  | .hbm, ⟨70, _⟩ => ⟨S_, .i32⟩
  | .hbm, ⟨71, _⟩ => ⟨S576, .i32⟩
  | .hbm, ⟨72, _⟩ => ⟨S576, .i32⟩
  | .hbm, ⟨73, _⟩ => ⟨S576, .i32⟩
  | .hbm, ⟨74, _⟩ => ⟨S576x1, .i32⟩
  | .hbm, ⟨75, _⟩ => ⟨S576x256x1024, .f32⟩
  | .hbm, ⟨76, _⟩ => ⟨S576x512x1024, .f32⟩
  | .hbm, ⟨77, _⟩ => ⟨S294912x1024, .f32⟩
  | .hbm, ⟨78, _⟩ => ⟨S294912x1024, .bf16⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_1 : Ref sig .tc := ⟨.hbm, 44, rfl⟩
abbrev main_v31 : Ref sig .tc := ⟨.hbm, 45, rfl⟩
abbrev main_v32 : Ref sig .tc := ⟨.hbm, 46, rfl⟩
abbrev main_c_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_3 : Ref sig .tc := ⟨.hbm, 67, rfl⟩
abbrev main_v44 : Ref sig .tc := ⟨.hbm, 68, rfl⟩
abbrev main_v45 : Ref sig .tc := ⟨.hbm, 69, rfl⟩
abbrev main_c_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x256 : Shape := ⟨2, ![1024, 256]⟩
abbrev S256x1024 : Shape := ⟨2, ![256, 1024]⟩
abbrev S17x6144 : Shape := ⟨2, ![17, 6144]⟩
abbrev S1024 : Shape := ⟨1, ![1024]⟩
abbrev S32x2048x1024 : Shape := ⟨3, ![32, 2048, 1024]⟩
abbrev S17x6x1x1024 : Shape := ⟨4, ![17, 6, 1, 1024]⟩
abbrev S1x1024 : Shape := ⟨2, ![1, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 16
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S16x2048x1024, .f32⟩
  | .hbm, ⟨5, _⟩ => ⟨S17x6144, .f32⟩
  | .hbm, ⟨6, _⟩ => ⟨S1024, .f32⟩
  | .hbm, ⟨7, _⟩ => ⟨S1024, .f32⟩
  | .hbm, ⟨8, _⟩ => ⟨S32x2048x1024, .f32⟩
  | .hbm, ⟨9, _⟩ => ⟨S1024x256, .bf16⟩
  | .hbm, ⟨10, _⟩ => ⟨S1024x256, .bf16⟩
  | .hbm, ⟨11, _⟩ => ⟨S256x1024, .bf16⟩
  | .hbm, ⟨12, _⟩ => ⟨S17x6x1x1024, .f32⟩
  | .hbm, ⟨13, _⟩ => ⟨S1x1024, .f32⟩
  | .hbm, ⟨14, _⟩ => ⟨S1x1024, .f32⟩
  | .hbm, ⟨15, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x256, .bf16⟩
  | .local _ .vmem, ⟨3, _⟩ => ⟨S1024x256, .bf16⟩
  | .local _ .vmem, ⟨4, _⟩ => ⟨S256x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x1024 : Shape := ⟨3, ![16, 2048, 1024]⟩
abbrev S1024x256 : Shape := ⟨2, ![1024, 256]⟩
abbrev S256x1024 : Shape := ⟨2, ![256, 1024]⟩
abbrev S17x6144 : Shape := ⟨2, ![17, 6144]⟩
abbrev S1024 : Shape := ⟨1, ![1024]⟩
abbrev S32x2048x1024 : Shape := ⟨3, ![32, 2048, 1024]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S16x2048x256 : Shape := ⟨3, ![16, 2048, 256]⟩
abbrev S1x1x1024 : Shape := ⟨3, ![1, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S16x2048x1024, .f32⟩
  | .hbm, ⟨5, _⟩ => ⟨S17x6144, .f32⟩
  | .hbm, ⟨6, _⟩ => ⟨S1024, .f32⟩
  | .hbm, ⟨7, _⟩ => ⟨S1024, .f32⟩
  | .hbm, ⟨8, _⟩ => ⟨S32x2048x1024, .f32⟩
  | .hbm, ⟨9, _⟩ => ⟨S16x6144, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x1x1024, .f32⟩
  | .hbm, ⟨47, _⟩ => ⟨S16x1x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x256, .f32⟩
  | .hbm, ⟨53, _⟩ => ⟨S16x2048x256, .f32⟩
  | .hbm, ⟨54, _⟩ => ⟨S16x2048x256, .f32⟩
  | .hbm, ⟨55, _⟩ => ⟨S_, .f32⟩
  | .hbm, ⟨56, _⟩ => ⟨S16x2048x256, .f32⟩
  | .hbm, ⟨57, _⟩ => ⟨S16x2048x256, .f32⟩
  | .hbm, ⟨58, _⟩ => ⟨S_, .f32⟩
  | .hbm, ⟨59, _⟩ => ⟨S16x2048x256, .f32⟩
  | .hbm, ⟨60, _⟩ => ⟨S16x2048x256, .f32⟩
  | .hbm, ⟨61, _⟩ => ⟨S16x2048x256, .f32⟩
  | .hbm, ⟨62, _⟩ => ⟨S16x2048x256, .f32⟩
  | .hbm, ⟨63, _⟩ => ⟨S16x2048x256, .f32⟩
  | .hbm, ⟨64, _⟩ => ⟨S16x2048x1024, .f32⟩
  | .hbm, ⟨65, _⟩ => ⟨S_, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S_, .f32⟩
  | .hbm, ⟨82, _⟩ => ⟨S16x2048, .f32⟩
  | .hbm, ⟨83, _⟩ => ⟨S16x2048x1, .f32⟩
  | .hbm, ⟨84, _⟩ => ⟨S_, .f32⟩
  | .hbm, ⟨85, _⟩ => ⟨S16x2048x1, .f32⟩
  | .hbm, ⟨86, _⟩ => ⟨S16x2048x1, .f32⟩
  | .hbm, ⟨87, _⟩ => ⟨S16x2048x1024, .f32⟩
  | .hbm, ⟨88, _⟩ => ⟨S16x2048x1024, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S16x2048x1, .f32⟩
  | .hbm, ⟨93, _⟩ => ⟨S16x2048x1024, .f32⟩
  | .hbm, ⟨94, _⟩ => ⟨S16x2048x1024, .f32⟩
  | .hbm, ⟨95, _⟩ => ⟨S1x1x1024, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S32x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Kernel4.lean ====
abbrev S16x2048x1024 : Shape := ⟨3, ![16, 2048, 1024]⟩
abbrev S17x6144 : Shape := ⟨2, ![17, 6144]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S17x6x1x1024 : Shape := ⟨4, ![17, 6, 1, 1024]⟩
abbrev S16x2048x2048 : Shape := ⟨3, ![16, 2048, 2048]⟩
abbrev S1x512x1024 : Shape := ⟨3, ![1, 512, 1024]⟩
abbrev S1x1x1x1024 : Shape := ⟨4, ![1, 1, 1, 1024]⟩
abbrev S1x512x2048 : Shape := ⟨3, ![1, 512, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S1x512x256 : Shape := ⟨3, ![1, 512, 256]⟩

abbrev nBuf : Space → Nat
  | .hbm => 46
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S17x6144, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S_, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x512, .f32⟩
  | .hbm, ⟨43, _⟩ => ⟨S256x512, .bf16⟩
  | .hbm, ⟨44, _⟩ => ⟨S17x6x1x1024, .f32⟩
  | .hbm, ⟨45, _⟩ => ⟨S16x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S256x512, .bf16⟩
  | .local _ .vmem, ⟨7, _⟩ => ⟨S1x512x2048, .bf16⟩
  | .local _ .vmem, ⟨8, _⟩ => ⟨S1x512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16x2048x1024 : Shape := ⟨3, ![16, 2048, 1024]⟩
abbrev S17x6144 : Shape := ⟨2, ![17, 6144]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S16x2048x4x256 : Shape := ⟨4, ![16, 2048, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x2048x2048 : Shape := ⟨3, ![16, 2048, 2048]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S17x6144, .f32⟩
  | .hbm, ⟨2, _⟩ => ⟨S16x6144, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x1x1024, .f32⟩
  | .hbm, ⟨40, _⟩ => ⟨S16x1x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x4x256, .f32⟩
  | .hbm, ⟨46, _⟩ => ⟨S256, .i32⟩
  | .hbm, ⟨47, _⟩ => ⟨S256x1, .i32⟩
  | .hbm, ⟨48, _⟩ => ⟨S1x256, .i32⟩
  | .hbm, ⟨49, _⟩ => ⟨S256x256, .i32⟩
  | .hbm, ⟨50, _⟩ => ⟨S256x256, .i32⟩
  | .hbm, ⟨51, _⟩ => ⟨S256x256, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S256x256, .i32⟩
  | .hbm, ⟨59, _⟩ => ⟨S256x256, .i32⟩
  | .hbm, ⟨60, _⟩ => ⟨S_, .i32⟩
  | .hbm, ⟨61, _⟩ => ⟨S256x256, .i32⟩
  | .hbm, ⟨62, _⟩ => ⟨S256x256, .i1⟩
  | .hbm, ⟨63, _⟩ => ⟨S_, .i32⟩
  | .hbm, ⟨64, _⟩ => ⟨S256x256, .i32⟩
  | .hbm, ⟨65, _⟩ => ⟨S256x256, .i1⟩
  | .hbm, ⟨66, _⟩ => ⟨S_, .i32⟩
  | .hbm, ⟨67, _⟩ => ⟨S_, .i1⟩
  | .hbm, ⟨68, _⟩ => ⟨S256x256, .i1⟩
  | .hbm, ⟨69, _⟩ => ⟨S256x256, .i1⟩
  | .hbm, ⟨70, _⟩ => ⟨S256x256, .i1⟩
  | .hbm, ⟨71, _⟩ => ⟨S256x256, .i32⟩
  | .hbm, ⟨72, _⟩ => ⟨S256x256, .i32⟩
  | .hbm, ⟨73, _⟩ => ⟨S256x256, .i32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S16x2048x4x256, .f32⟩
  | .hbm, ⟨83, _⟩ => ⟨S256x256, .f32⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S16x2048x4x256, .f32⟩
  | .hbm, ⟨88, _⟩ => ⟨S16x2048x1024, .f32⟩
  | .hbm, ⟨89, _⟩ => ⟨S16x2048x1024, .f32⟩
  | .hbm, ⟨90, _⟩ => ⟨S16x2048x2048, .f32⟩
  | .hbm, ⟨91, _⟩ => ⟨S16x2048x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_1 : Ref sig .tc := ⟨.hbm, 60, rfl⟩
abbrev main_call0_v5 : Ref sig .tc := ⟨.hbm, 61, rfl⟩
abbrev main_call0_v6 : Ref sig .tc := ⟨.hbm, 62, rfl⟩
abbrev main_call0_c_2 : Ref sig .tc := ⟨.hbm, 63, rfl⟩
abbrev main_call0_v7 : Ref sig .tc := ⟨.hbm, 64, rfl⟩
abbrev main_call0_v8 : Ref sig .tc := ⟨.hbm, 65, rfl⟩
abbrev main_call0_c_3 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_v44 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S15x1024 : Shape := ⟨2, ![15, 1024]⟩
abbrev S48x1024 : Shape := ⟨2, ![48, 1024]⟩
abbrev S4x1x6144 : Shape := ⟨3, ![4, 1, 6144]⟩
abbrev S4x48x6144 : Shape := ⟨3, ![4, 48, 6144]⟩
abbrev S1x1024x1536 : Shape := ⟨3, ![1, 1024, 1536]⟩
abbrev S1x1x1536 : Shape := ⟨3, ![1, 1, 1536]⟩
abbrev S1x48x1536 : Shape := ⟨3, ![1, 48, 1536]⟩
abbrev S1024x1536 : Shape := ⟨2, ![1024, 1536]⟩
abbrev S48x1536 : Shape := ⟨2, ![48, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S15x1024, .f32⟩
  | .hbm, ⟨7, _⟩ => ⟨S48x1024, .f32⟩
  | .hbm, ⟨8, _⟩ => ⟨S4x1x6144, .f32⟩
  | .hbm, ⟨9, _⟩ => ⟨S4x48x6144, .f32⟩
  | .local _ .vmem, ⟨0, _⟩ => ⟨S48x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x48x1536, .f32⟩
  | .local _ .vmem, ⟨6, _⟩ => ⟨S1x48x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32x1024 : Shape := ⟨2, ![32, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S15x1024 : Shape := ⟨2, ![15, 1024]⟩
abbrev S48x1024 : Shape := ⟨2, ![48, 1024]⟩
abbrev S4x6144x48 : Shape := ⟨3, ![4, 6144, 48]⟩
abbrev S4x48x6144 : Shape := ⟨3, ![4, 48, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S15x1024, .f32⟩
  | .hbm, ⟨7, _⟩ => ⟨S48x1024, .f32⟩
  | .hbm, ⟨8, _⟩ => ⟨S48x1024, .f32⟩
  | .hbm, ⟨9, _⟩ => ⟨S48x1024, .f32⟩
  | .hbm, ⟨10, _⟩ => ⟨S_, .f32⟩
  | .hbm, ⟨11, _⟩ => ⟨S48x1024, .f32⟩
  | .hbm, ⟨12, _⟩ => ⟨S48x1024, .f32⟩
  | .hbm, ⟨13, _⟩ => ⟨S_, .f32⟩
  | .hbm, ⟨14, _⟩ => ⟨S48x1024, .f32⟩
  | .hbm, ⟨15, _⟩ => ⟨S48x1024, .f32⟩
  | .hbm, ⟨16, _⟩ => ⟨S48x1024, .f32⟩
  | .hbm, ⟨17, _⟩ => ⟨S4x6144x48, .f32⟩
  | .hbm, ⟨18, _⟩ => ⟨S4x48x6144, .f32⟩
  | .hbm, ⟨19, _⟩ => ⟨S4x1x6144, .f32⟩
  | .hbm, ⟨20, _⟩ => ⟨S4x48x6144, .f32⟩
  | .hbm, ⟨21, _⟩ => ⟨S4x48x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.AttnMath.lean ====
/- One row of windowed attention with a sink, over the extended reals: the kernel's form (five tiles of 128 logits, the sums
   multiplied by the reciprocal of the normalizer at the end) equals the reference's form (every key of the sequence, the
   masked ones at minus infinity, each weight divided before the product). -/
module

public import Idealize.ShloMosaic.PureOps.Ideal.Laws
public import Idealize.ShloMosaic.Lib.IdealHost

@[expose] public section

noncomputable section

namespace Cert.Attn

open Idealize.ShloMosaic
open scoped BigOperators

/-! ## Facts of extended reals -/

/-- The exponential is never negative. -/
theorem exp_nonneg (x : EReal) : 0 ≤ Ideal.exp x := by
  induction x using EReal.rec with
  | bot => exact le_refl _
  | top => exact le_top
  | coe r => exact EReal.coe_nonneg.mpr (Real.exp_pos r).le

/-- The exponential of a real is positive. -/
theorem exp_coe_pos (r : ℝ) : 0 < Ideal.exp (r : EReal) := EReal.coe_pos.mpr (Real.exp_pos r)

/-- A masked logit contributes nothing. -/
theorem exp_bot_sub (m : EReal) : Ideal.exp (⊥ - m) = 0 := by rw [EReal.bot_sub]; rfl

/-- A finite sum times a factor that is not negative and not infinite. -/
theorem sum_mul_of_nonneg {ι : Type} (s : Finset ι) (f : ι → EReal) {d : EReal} (h0 : 0 ≤ d) (ht : d ≠ ⊤) :
    (∑ i ∈ s, f i) * d = ∑ i ∈ s, f i * d := by
  classical
  induction s using Finset.induction_on with
  | empty => simp
  | insert a s ha ih =>
    rw [Finset.sum_insert ha, Finset.sum_insert ha, EReal.right_distrib_of_nonneg_of_ne_top h0 ht, ih]

/-- A finite sum of reals is not plus infinity. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    have h1 := h a (Finset.mem_insert_self _ _)
    have h2 := ih fun i hi => h i (Finset.mem_insert_of_mem hi)
    exact (EReal.add_lt_top h1 h2).ne

/-- A product of two reals is not plus infinity. -/
theorem mul_ne_top {x y : EReal} (hx : x ≠ ⊤) (hx' : x ≠ ⊥) (hy : y ≠ ⊤) (hy' : y ≠ ⊥) : x * y ≠ ⊤ := by
  lift x to ℝ using ⟨hx, hx'⟩
  lift y to ℝ using ⟨hy, hy'⟩
  rw [← EReal.coe_mul]; exact EReal.coe_ne_top _

/-! ## One row -/

/-- The kernel's row maximum: lane by lane over five tiles, then over the lanes, then the sink. -/
def rowMax (T : ℕ → EReal) (sink : EReal) : EReal :=
  max ((Finset.univ : Finset (Fin 128)).fold max ⊥ fun l : Fin 128 => max (max (max (max (T l) (T (128 + l))) (T (256 + l))) (T (384 + l))) (T (512 + l))) sink

/-- The kernel's normalizer. -/
def rowDen (T : ℕ → EReal) (sink : EReal) : EReal :=
  (∑ l : Fin 128, ((((Ideal.exp (T l - rowMax T sink) + Ideal.exp (T (128 + l) - rowMax T sink)) + Ideal.exp (T (256 + l) - rowMax T sink))
      + Ideal.exp (T (384 + l) - rowMax T sink)) + Ideal.exp (T (512 + l) - rowMax T sink))) + Ideal.exp (sink - rowMax T sink)

/-- The kernel's output at one coordinate of a row: `vc` the context values, `vw` the window's. -/
def rowOut (T : ℕ → EReal) (sink : EReal) (vw vc : ℕ → EReal) : EReal :=
  ((∑ j : Fin 256, Ideal.exp (T (384 + j) - rowMax T sink) * vc j) + ∑ j : Fin 384, Ideal.exp (T j - rowMax T sink) * vw j)
    * Ideal.div 1 (rowDen T sink)

/-- The reference's row maximum. -/
def refMax (sw sc : ℕ → EReal) (sink : EReal) : EReal :=
  max (max ((Finset.univ : Finset (Fin 2048)).fold max ⊥ fun s : Fin 2048 => sw s) ((Finset.univ : Finset (Fin 256)).fold max ⊥ fun s : Fin 256 => sc s)) sink

/-- The reference's normalizer. -/
def refDen (sw sc : ℕ → EReal) (sink : EReal) : EReal :=
  ((∑ s : Fin 2048, Ideal.exp (sw s - refMax sw sc sink)) + ∑ s : Fin 256, Ideal.exp (sc s - refMax sw sc sink))
    + Ideal.exp (sink - refMax sw sc sink)

/-- The reference's output at one coordinate of a row. -/
def refOut (sw sc : ℕ → EReal) (sink : EReal) (v vc : ℕ → EReal) : EReal :=
  (∑ s : Fin 2048, Ideal.div (Ideal.exp (sw s - refMax sw sc sink)) (refDen sw sc sink) * v s)
    + ∑ s : Fin 256, Ideal.div (Ideal.exp (sc s - refMax sw sc sink)) (refDen sw sc sink) * vc s

section
variable (st : ℕ) (hst : st ≤ 1664) (T sw sc : ℕ → EReal) (sink : EReal)
  (hw : ∀ j < 384, T j = sw (st + j)) (hc : ∀ j < 256, T (384 + j) = sc j)
  (hout : ∀ s < 2048, (s < st ∨ st + 384 ≤ s) → sw s = ⊥)
include hst hw hc hout

/-- The two maxima agree: keys outside the window are at minus infinity. -/
theorem rowMax_eq : rowMax T sink = refMax sw sc sink := by
  refine eq_of_forall_ge_iff fun c => ?_
  unfold rowMax refMax
  simp only [max_le_iff, Finset.fold_max_le, bot_le, true_and, Finset.mem_univ, forall_const]
  refine and_congr_left fun _ => ⟨fun h => ⟨fun s => ?_, fun s => ?_⟩, fun h l => ?_⟩
  · by_cases hs : s.val < st ∨ st + 384 ≤ s.val
    · rw [hout s s.isLt hs]; exact bot_le
    · push Not at hs
      obtain ⟨j, hj⟩ := Nat.exists_eq_add_of_le hs.1
      have hj' : j < 384 := by omega
      rw [hj, ← hw j hj']
      rcases Nat.lt_or_ge j 128 with h1 | h1
      · exact (h ⟨j, h1⟩).1.1.1.1
      rcases Nat.lt_or_ge j 256 with h2 | h2
      · have := (h ⟨j - 128, by omega⟩).1.1.1.2
        simpa only [show 128 + (j - 128) = j by omega] using this
      · have := (h ⟨j - 256, by omega⟩).1.1.2
        simpa only [show 256 + (j - 256) = j by omega] using this
  · rw [← hc s s.isLt]
    rcases Nat.lt_or_ge s.val 128 with h1 | h1
    · exact (h ⟨s, h1⟩).1.2
    · have := (h ⟨s.val - 128, by omega⟩).2
      simpa only [show 512 + (s.val - 128) = 384 + s.val by omega] using this
  · have hl := l.isLt
    have k : ∀ j < 384, T j ≤ c := fun j hj => by rw [hw j hj]; exact h.1 ⟨st + j, by omega⟩
    have k' : ∀ j < 256, T (384 + j) ≤ c := fun j hj => by rw [hc j hj]; exact h.2 ⟨j, hj⟩
    refine ⟨⟨⟨⟨k _ (by omega), k _ (by omega)⟩, k _ (by omega)⟩, k' _ (by omega)⟩, ?_⟩
    have := k' (128 + l) (by omega)
    simpa only [show 384 + (128 + l.val) = 512 + l.val by omega] using this

omit hst hw hc hout in
/-- A sum over five tiles of 128 is the window's sum plus the context's. -/
theorem sum_tiles (f : ℕ → EReal) :
    ∑ l : Fin 128, ((((f l + f (128 + l)) + f (256 + l)) + f (384 + l)) + f (512 + l))
      = (∑ j : Fin 384, f j) + ∑ j : Fin 256, f (384 + j) := by
  rw [Finset.sum_add_distrib, Finset.sum_add_distrib, Finset.sum_add_distrib, Finset.sum_add_distrib,
    Fin.sum_univ_eq_sum_range f 128, Fin.sum_univ_eq_sum_range (fun l => f (128 + l)) 128,
    Fin.sum_univ_eq_sum_range (fun l => f (256 + l)) 128, Fin.sum_univ_eq_sum_range (fun l => f (384 + l)) 128,
    Fin.sum_univ_eq_sum_range (fun l => f (512 + l)) 128, Fin.sum_univ_eq_sum_range f 384,
    Fin.sum_univ_eq_sum_range (fun l => f (384 + l)) 256, show (384 : ℕ) = 128 + 128 + 128 from rfl,
    Finset.sum_range_add f (128 + 128) 128, Finset.sum_range_add f 128 128, show (256 : ℕ) = 128 + 128 from rfl,
    Finset.sum_range_add (fun l => f (128 + 128 + 128 + l)) 128 128]
  simp only [show ∀ x, 128 + 128 + 128 + (128 + x) = 512 + x by intro x; omega, show ∀ x, 128 + 128 + 128 + x = 384 + x by intro x; omega,
    show ∀ x, 128 + 128 + x = 256 + x by intro x; omega]
  simp only [add_assoc]

omit hw hc in
/-- A sum over the sequence of terms that vanish outside the window is the window's sum. -/
theorem sum_window (f : ℕ → EReal) (hf : ∀ s < 2048, (s < st ∨ st + 384 ≤ s) → f s = 0) :
    ∑ s : Fin 2048, f s = ∑ j : Fin 384, f (st + j) := by
  rw [Fin.sum_univ_eq_sum_range f 2048, Fin.sum_univ_eq_sum_range (fun j => f (st + j)) 384,
    show 2048 = st + (384 + (1664 - st)) by omega, Finset.sum_range_add, Finset.sum_range_add,
    Finset.sum_eq_zero fun s hs => hf s (by have := Finset.mem_range.mp hs; omega) (Or.inl (Finset.mem_range.mp hs)), zero_add,
    Finset.sum_eq_zero (s := Finset.range (1664 - st)) fun s hs => hf _ (by have := Finset.mem_range.mp hs; omega) (Or.inr (by omega)),
    add_zero]

/-- The two normalizers agree. -/
theorem rowDen_eq : rowDen T sink = refDen sw sc sink := by
  unfold rowDen refDen
  rw [rowMax_eq st hst T sw sc sink hw hc hout, sum_tiles fun j => Ideal.exp (T j - refMax sw sc sink),
    sum_window st hst sw hout (fun s => Ideal.exp (sw s - refMax sw sc sink)) fun s h h' => by
      rw [hout s h h', exp_bot_sub]]
  congr 2
  · exact Finset.sum_congr rfl fun j _ => by rw [hw j j.isLt]
  · exact Finset.sum_congr rfl fun j _ => by rw [hc j j.isLt]

/-- The row: where the sink is a real and no logit is plus infinity, the kernel's output is the reference's. -/
theorem rowOut_eq (vw v vc : ℕ → EReal) (hv : ∀ j < 384, vw j = v (st + j)) (r : ℝ) (hr : sink = r)
    (htw : ∀ s < 2048, sw s ≠ ⊤) (htc : ∀ s < 256, sc s ≠ ⊤) : rowOut T sink vw vc = refOut sw sc sink v vc := by
  have hm : ∃ μ : ℝ, refMax sw sc sink = μ := by
    have h1 : refMax sw sc sink ≠ ⊤ := by
      refine ne_of_lt ?_
      unfold refMax
      rw [max_lt_iff, max_lt_iff, Finset.fold_max_lt, Finset.fold_max_lt]
      exact ⟨⟨⟨bot_lt_top, fun s _ => lt_top_iff_ne_top.mpr (htw s s.isLt)⟩, bot_lt_top, fun s _ => lt_top_iff_ne_top.mpr (htc s s.isLt)⟩,
        by rw [hr]; exact EReal.coe_lt_top r⟩
    have h2 : refMax sw sc sink ≠ ⊥ := by
      refine ne_of_gt (lt_of_lt_of_le ?_ (le_max_right _ _))
      rw [hr]; exact EReal.bot_lt_coe r
    lift refMax sw sc sink to ℝ using ⟨h1, h2⟩ with μ
    exact ⟨μ, rfl⟩
  obtain ⟨μ, hμ⟩ := hm
  have hpos : 0 < refDen sw sc sink := by
    unfold refDen
    refine lt_of_lt_of_le (b := Ideal.exp (sink - refMax sw sc sink)) ?_
      (le_add_of_nonneg_left (add_nonneg (Finset.sum_nonneg fun _ _ => exp_nonneg _) (Finset.sum_nonneg fun _ _ => exp_nonneg _)))
    rw [hμ, hr, ← EReal.coe_sub]; exact exp_coe_pos _
  have hne := hpos.ne'
  have hd0 : 0 ≤ (refDen sw sc sink)⁻¹ := EReal.inv_nonneg_of_nonneg hpos.le
  have hdt : (refDen sw sc sink)⁻¹ ≠ ⊤ := (EReal.inv_lt_top _).ne
  have hdiv : ∀ x, Ideal.div x (refDen sw sc sink) = x * (refDen sw sc sink)⁻¹ := fun x => by unfold Ideal.div; rw [if_neg hne]
  unfold rowOut refOut
  rw [rowDen_eq st hst T sw sc sink hw hc hout, rowMax_eq st hst T sw sc sink hw hc hout]
  simp only [hdiv, one_mul]
  rw [EReal.right_distrib_of_nonneg_of_ne_top hd0 hdt, sum_mul_of_nonneg _ _ hd0 hdt, sum_mul_of_nonneg _ _ hd0 hdt, add_comm,
    sum_window st hst sw hout (fun s => Ideal.exp (sw s - refMax sw sc sink) * (refDen sw sc sink)⁻¹ * v s) fun s h h' => by
      rw [hout s h h', exp_bot_sub, zero_mul, zero_mul]]
  congr 1
  · exact Finset.sum_congr rfl fun j _ => by rw [hw j j.isLt, hv j j.isLt, mul_right_comm]
  · exact Finset.sum_congr rfl fun j _ => by rw [hc j j.isLt, mul_right_comm]

end

end Cert.Attn

end
-- ==== Proof.Chunk.lean ====
module

public import proofs.«01_k».proof.Proof.Gen.KernelIdeal
public import proofs.«01_k».proof.Proof.AttnMath
public import Idealize.ShloMosaic.Lib.MatmulPlain
public import Idealize.ShloMosaic.Lib.Pipeline.Value

@[expose] public section

noncomputable section

/-!
One chunk of 32 rows of the attention body: the payloads it stores, as functions of what it loads, and what
they hold at an index.
-/

namespace Cert.Attn

open Idealize.ShloMosaic Idealize.ShloMosaic.ValueIdx Cert.KernelIdeal Cert.KernelIdeal.Gen
open scoped BigOperators

theorem lt640 {n : ℕ} (h : n < 384) : n < 640 := Nat.lt_trans h (by decide)

variable (s : Vec Ideal S1x32x640 .f32) (b : Vec Ideal S32x384 .f32) (sink : Elt Ideal .f32) (mv : Vec Ideal S1x32x128 .f32)

/-- The first tile of logits with its mask. -/
def tile0 : FVec Ideal S32x128 .f32 :=
  addf (extractStridedSlice S32x128 ![0, 0] (shapeCast S32x640 s shapeCasts_S1x32x640_S32x640) slices_S32x640_o0_0_S32x128)
    (extractStridedSlice S32x128 ![0, 0] b slices_S32x384_o0_0_S32x128)
/-- The second tile. -/
def tile1 : FVec Ideal S32x128 .f32 :=
  addf (extractStridedSlice S32x128 ![0, 128] (shapeCast S32x640 s shapeCasts_S1x32x640_S32x640) slices_S32x640_o0_128_S32x128)
    (extractStridedSlice S32x128 ![0, 128] b slices_S32x384_o0_128_S32x128)
/-- The third tile. -/
def tile2 : FVec Ideal S32x128 .f32 :=
  addf (extractStridedSlice S32x128 ![0, 256] (shapeCast S32x640 s shapeCasts_S1x32x640_S32x640) slices_S32x640_o0_256_S32x128)
    (extractStridedSlice S32x128 ![0, 256] b slices_S32x384_o0_256_S32x128)
/-- The first context tile. -/
def tile3 : FVec Ideal S32x128 .f32 :=
  extractStridedSlice S32x128 ![0, 384] (shapeCast S32x640 s shapeCasts_S1x32x640_S32x640) slices_S32x640_o0_384_S32x128
/-- The second context tile. -/
def tile4 : FVec Ideal S32x128 .f32 :=
  extractStridedSlice S32x128 ![0, 512] (shapeCast S32x640 s shapeCasts_S1x32x640_S32x640) slices_S32x640_o0_512_S32x128

/-- The rows' maxima, on every lane. -/
def maxPay : FVec Ideal S1x32x128 .f32 :=
  shapeCast S1x32x128 (broadcastTo S32x128 (shapeCast S32x1 (maximumf
    (shapeCast S32x1 (multiReduction .maximumf [1] S32
      (maximumf (maximumf (maximumf (maximumf (tile0 s b) (tile1 s b)) (tile2 s b)) (tile3 s)) (tile4 s))
      0xFF800000#32 reduces_S32x128_S32 (.inl rfl) rfl) shapeCasts_S32_S32x1) (broadcast S32x1 sink)) (by decide)) broadcasts_S32x1_S32x128)
    shapeCasts_S32x128_S1x32x128

/-- A tile's exponentials against the stored maxima. -/
def eTile (t : FVec Ideal S32x128 .f32) : FVec Ideal S32x128 .f32 :=
  exp (subf t (shapeCast S32x128 mv shapeCasts_S1x32x128_S32x128))

/-- A tile's exponentials as stored for the products. -/
def pPay (t : FVec Ideal S32x128 .f32) : FVec Ideal S1x32x128 .bf16 :=
  shapeCast S1x32x128 (truncf .bf16 (eTile mv t) bitsLt_bf16_f32) shapeCasts_S32x128_S1x32x128

/-- The reciprocals of the normalizers, on every lane. -/
def denPay : FVec Ideal S1x32x128 .f32 :=
  shapeCast S1x32x128 (divf (broadcast S32x128 (Scalar.ofBits .f32 0x3F800000#32))
    (addf (broadcastTo S32x128 (shapeCast S32x1 (multiReduction .add [1] S32
      (addf (addf (addf (addf (eTile mv (tile0 s b)) (eTile mv (tile1 s b))) (eTile mv (tile2 s b))) (eTile mv (tile3 s)))
        (eTile mv (tile4 s))) 0x00000000#32 reduces_S32x128_S32 (.inl rfl) rfl) shapeCasts_S32_S32x1) broadcasts_S32x1_S32x128)
      (exp (subf (broadcast S32x128 sink) (shapeCast S32x128 mv shapeCasts_S1x32x128_S32x128)))))
    shapeCasts_S32x128_S1x32x128

theorem slice_s (o : ℕ) (h : S32x640.Slices ![0, o] S32x128) (a : Fin 32) (l : Fin 128) (ho : o + 128 ≤ 640) :
    extractStridedSlice S32x128 ![0, o] (shapeCast S32x640 s shapeCasts_S1x32x640_S32x640) h (ix2 a l)
      = s (ix3 0 a ⟨o + l, Nat.lt_of_lt_of_le (Nat.add_lt_add_left l.isLt o) ho⟩) := by
  refine (extractStridedSlice_apply _ _ _ _ (ix2 a ⟨o + l, by omega⟩) ?_).trans ?_
  · intro d; match d with
    | ⟨0, _⟩ => show a.val = 0 + a.val; omega
    | ⟨1, _⟩ => rfl
  · refine shapeCast_apply _ _ _ _ ?_
    rw [Shape.rowMajor_val_two, Shape.rowMajor_val_three]
    show (0 * 32 + a.val) * 640 + (o + l.val) = a.val * 640 + (o + l.val)
    omega

theorem slice_b (o : ℕ) (h : S32x384.Slices ![0, o] S32x128) (a : Fin 32) (l : Fin 128) (ho : o + 128 ≤ 384) :
    extractStridedSlice S32x128 ![0, o] b h (ix2 a l) = b (ix2 a ⟨o + l, Nat.lt_of_lt_of_le (Nat.add_lt_add_left l.isLt o) ho⟩) := by
  refine extractStridedSlice_apply _ _ _ _ _ ?_
  intro d; match d with
    | ⟨0, _⟩ => show a.val = 0 + a.val; omega
    | ⟨1, _⟩ => rfl

section
variable (T : ℕ → EReal) (a : Fin 32)
  (hw : ∀ n (h : n < 384), T n = s (ix3 0 a ⟨n, lt640 h⟩) + b (ix2 a ⟨n, h⟩))
  (hc : ∀ n (h : n < 640), 384 ≤ n → T n = s (ix3 0 a ⟨n, h⟩))
include hw in
theorem tile0_apply (l : Fin 128) : tile0 s b (ix2 a l) = T l := by
  unfold tile0
  rw [hw l (by omega)]
  refine (congrArg₂ (· + ·) (slice_s s 0 _ a l (by omega)) (slice_b b 0 _ a l (by omega))).trans ?_
  simp only [Nat.zero_add]
include hw in
theorem tile1_apply (l : Fin 128) : tile1 s b (ix2 a l) = T (128 + l) := by
  unfold tile1
  rw [hw _ (by omega)]
  exact congrArg₂ (· + ·) (slice_s s 128 _ a l (by omega)) (slice_b b 128 _ a l (by omega))
include hw in
theorem tile2_apply (l : Fin 128) : tile2 s b (ix2 a l) = T (256 + l) := by
  unfold tile2
  rw [hw _ (by omega)]
  exact congrArg₂ (· + ·) (slice_s s 256 _ a l (by omega)) (slice_b b 256 _ a l (by omega))
include hc in
theorem tile3_apply (l : Fin 128) : tile3 s (ix2 a l) = T (384 + l) := by
  rw [hc _ (by omega) (by omega)]
  exact slice_s s 384 _ a l (by omega)
include hc in
theorem tile4_apply (l : Fin 128) : tile4 s (ix2 a l) = T (512 + l) := by
  rw [hc _ (by omega) (by omega)]
  exact slice_s s 512 _ a l (by omega)

theorem cast_out {φ : FTy} (x : FVec Ideal S32x128 φ) (a : Fin 32) (l : Fin 128) (h : S32x128.ShapeCasts S1x32x128) :
    shapeCast S1x32x128 x h (ix3 0 a l) = x (ix2 a l) := by
  refine shapeCast_apply _ _ _ _ ?_
  rw [Shape.rowMajor_val_two, Shape.rowMajor_val_three]
  show a.val * 128 + l.val = (0 * 32 + a.val) * 128 + l.val
  omega

theorem cast_in {φ : FTy} (x : FVec Ideal S1x32x128 φ) (a : Fin 32) (l : Fin 128) (h : S1x32x128.ShapeCasts S32x128) :
    shapeCast S32x128 x h (ix2 a l) = x (ix3 0 a l) := by
  refine shapeCast_apply _ _ _ _ ?_
  rw [Shape.rowMajor_val_two, Shape.rowMajor_val_three]
  show (0 * 32 + a.val) * 128 + l.val = a.val * 128 + l.val
  omega

theorem spread (x : FVec Ideal S32x1 .f32) (a : Fin 32) (l : Fin 128) (h : S32x1.Broadcasts S32x128) :
    broadcastTo S32x128 x h (ix2 a l) = x (ix2 a 0) := by
  refine broadcastTo_apply _ _ _ _ ?_
  intro d; match d with
    | ⟨0, _⟩ => rfl
    | ⟨1, _⟩ => rfl

theorem col (x : FVec Ideal S32 .f32) (a : Fin 32) (h : S32.ShapeCasts S32x1) :
    shapeCast S32x1 x h (ix2 a 0) = x (ix1 a) := by
  refine shapeCast_apply _ _ _ _ ?_
  rw [Shape.rowMajor_val_one, Shape.rowMajor_val_two]
  show a.val = a.val * 1 + 0
  omega

theorem lift_row (a : Fin 32) (l : Fin 128) : reduces_S32x128_S32.lift (ix1 a) l = ix2 a l := by
  funext d; apply Fin.ext
  match d with
  | ⟨0, _⟩ => rfl
  | ⟨1, _⟩ => rfl

theorem red_max (x : FVec Ideal S32x128 .f32) (h1 : FKind.Formats .f32) (h2 : 0xFF800000#32 = FKind.maximumf.neutral .f32 h1) (a : Fin 32) :
    multiReduction .maximumf [1] S32 x 0xFF800000#32 reduces_S32x128_S32 h1 h2 (ix1 a)
      = (Finset.univ : Finset (Fin 128)).fold max ⊥ fun l => x (ix2 a l) := by
  refine (Ideal.multiReduction_maximumf_single (a := (1 : Fin S32x128.rank)) x _ _ h1 h2 _).trans ?_
  show (Finset.univ : Finset (Fin 128)).fold max (Ideal.ofBits .f32 0xFF800000#32) _ = _
  rw [show Ideal.ofBits .f32 0xFF800000#32 = (⊥ : EReal) by simp [Ideal.ofBits, Ideal.ieee]]
  exact Finset.fold_congr fun l _ => congrArg x (lift_row a l)

theorem red_add (x : FVec Ideal S32x128 .f32) (h1 : FKind.Formats .f32) (h2 : 0x00000000#32 = FKind.add.neutral .f32 h1) (a : Fin 32) :
    multiReduction .add [1] S32 x 0x00000000#32 reduces_S32x128_S32 h1 h2 (ix1 a) = ∑ l : Fin 128, x (ix2 a l) := by
  refine (Ideal.multiReduction_add_single (a := (1 : Fin S32x128.rank)) x _ _ h1 h2 _).trans ?_
  exact Finset.sum_congr rfl fun l _ => congrArg x (lift_row a l)

include hw hc in
/-- The stored maxima hold the row's maximum. -/
theorem maxPay_apply (l : Fin 128) : maxPay s b sink (ix3 0 a l) = rowMax T sink := by
  unfold maxPay
  rw [cast_out, spread]
  refine (shapeCast_apply _ _ _ (ix2 a 0) rfl).trans ?_
  show max _ _ = _
  rw [col]
  refine (congrArg (max · _) (red_max _ _ _ a)).trans ?_
  unfold rowMax
  refine congrArg (max · _) (Finset.fold_congr fun l _ => ?_)
  show max (max (max (max (tile0 s b _) (tile1 s b _)) (tile2 s b _)) (tile3 s _)) (tile4 s _) = _
  rw [tile0_apply s b T a hw, tile1_apply s b T a hw, tile2_apply s b T a hw, tile3_apply s T a hc, tile4_apply s T a hc]

section
variable (M : EReal) (hm : ∀ l, mv (ix3 0 a l) = M)
include hm
theorem eTile_apply (t : FVec Ideal S32x128 .f32) (l : Fin 128) (x : EReal) (hx : t (ix2 a l) = x) :
    eTile mv t (ix2 a l) = Ideal.exp (x - M) := by
  show Ideal.exp (t _ - shapeCast S32x128 mv _ _) = _
  rw [cast_in (φ := .f32), hm, hx]

theorem pPay_apply (t : FVec Ideal S32x128 .f32) (l : Fin 128) (x : EReal) (hx : t (ix2 a l) = x) :
    pPay mv t (ix3 0 a l) = Ideal.exp (x - M) := by
  unfold pPay
  rw [cast_out]
  exact eTile_apply mv a M hm t l x hx
end

include hw hc in
/-- The stored reciprocals. -/
theorem denPay_apply (hm : ∀ l, mv (ix3 0 a l) = rowMax T sink) (l : Fin 128) :
    denPay s b sink mv (ix3 0 a l) = Ideal.div 1 (rowDen T sink) := by
  unfold denPay
  rw [cast_out]
  show Ideal.div (Ideal.ofBits .f32 0x3F800000#32) (broadcastTo S32x128 _ _ _ + Ideal.exp (sink - shapeCast S32x128 mv _ _)) = _
  rw [Ideal.ofBits_one_f32, spread, col, cast_in (φ := .f32), hm]
  refine (congrArg (fun x => Ideal.div 1 (x + _)) (red_add _ _ _ a)).trans ?_
  unfold rowDen
  refine congrArg (fun x => Ideal.div 1 (x + _)) (Finset.sum_congr rfl fun l _ => ?_)
  show (((eTile mv _ _ + eTile mv _ _) + eTile mv _ _) + eTile mv _ _) + eTile mv _ _ = _
  rw [eTile_apply mv a _ hm _ l _ (tile0_apply s b T a hw l), eTile_apply mv a _ hm _ l _ (tile1_apply s b T a hw l),
    eTile_apply mv a _ hm _ l _ (tile2_apply s b T a hw l), eTile_apply mv a _ hm _ l _ (tile3_apply s T a hc l),
    eTile_apply mv a _ hm _ l _ (tile4_apply s T a hc l)]

end

end Cert.Attn
-- ==== Proof.Pieces.lean ====
module

public import proofs.«01_k».proof.Proof.Chunk
public import Idealize.ShloMosaic.Lib.Pipeline.FrameBody
public import Idealize.ShloMosaic.Lib.Ring

@[expose] public section

noncomputable section

/-!
The scratch buffers of the attention body, written chunk by chunk: what each list of writes holds at an index,
as long as every chunk's payload is the one `Chunk` names.
-/

namespace Cert.Attn

open Idealize.ShloMosaic Idealize.ShloMosaic.ValueIdx Idealize.SL.Sem Cert.KernelIdeal Cert.KernelIdeal.Gen
open scoped BigOperators

/-- An index of the logits' scratch. -/
def jS (h ρ n : ℕ) : S4x512x640.Idx := ix3 (Fin.ofNat 4 h) (Fin.ofNat 512 ρ) (Fin.ofNat 640 n)
/-- An index of the mask's scratch. -/
def jB (ρ n : ℕ) : S128x384.Idx := ix2 (Fin.ofNat 128 ρ) (Fin.ofNat 384 n)

section
variable (GS : S4x512x640.Idx → EReal) (GB : S128x384.Idx → EReal) (x0 : Vec Ideal S16 .f32)

/-- Row `ρ` of key head `h`: its masked logits, the window's, then the context's. -/
def TG (h ρ n : ℕ) : EReal := if n < 384 then GS (jS h ρ n) + GB (jB (ρ % 128) n) else GS (jS h ρ n)
/-- The row's sink logit. -/
def sg (h ρ : ℕ) : EReal := x0 (ix1 (Fin.ofNat 16 (4 * h + ρ / 128)))
/-- The row's maximum. -/
def MG (h ρ : ℕ) : EReal := rowMax (TG GS GB h ρ) (sg x0 h ρ)
/-- The row's reciprocal normalizer. -/
def RG (h ρ : ℕ) : EReal := Ideal.div 1 (rowDen (TG GS GB h ρ) (sg x0 h ρ))
/-- An exponential. -/
def PG (y : S4x512x640.Idx) : EReal := Ideal.exp (TG GS GB (y 0) (y 1) (y 2) - MG GS GB x0 (y 0) (y 1))

/-- The statistics' scratch after its first `k` chunks were overwritten: reciprocals there, maxima elsewhere. -/
def Inv (L : List (View.Piece (Elt Ideal) S4x512x128 .f32)) (k : ℕ) : Prop :=
  ∀ y : S4x512x128.Idx, View.canon L y
    = if 16 * (y 0).val + (y 1).val / 32 < k then RG GS GB x0 (y 0) (y 1) else MG GS GB x0 (y 0) (y 1)

/-- Every write of the first pass holds the maxima of its rows. -/
def OkM (L : List (View.Piece (Elt Ideal) S4x512x128 .f32)) : Prop :=
  ∀ p ∈ L, ∀ x : p.1.shape.Idx, p.2 x = MG GS GB x0 (p.1.emb x 0) (p.1.emb x 1)

/-- Every write of the exponentials' scratch holds its part of them. -/
def OkP (L : List (View.Piece (Elt Ideal) S4x512x640 .bf16)) : Prop :=
  ∀ p ∈ L, ∀ x : p.1.shape.Idx, p.2 x = PG GS GB x0 (p.1.emb x)

theorem okM_nil : OkM GS GB x0 [] := fun _ h => absurd h List.not_mem_nil
theorem okP_nil : OkP GS GB x0 [] := fun _ h => absurd h List.not_mem_nil
end

theorem inbS (h r : ℕ) (hh : h < 4) (hr : r < 16) : ∀ a, (![h, 32 * r, 0] : Fin 3 → ℕ) a + S1x32x640.size a ≤ S4x512x640.size a := by
  intro a; match a with
  | ⟨0, _⟩ => show h + 1 ≤ 4; omega
  | ⟨1, _⟩ => show 32 * r + 32 ≤ 512; omega
  | ⟨2, _⟩ => show 0 + 640 ≤ 640; omega
theorem inbM (h r : ℕ) (hh : h < 4) (hr : r < 16) : ∀ a, (![h, 32 * r, 0] : Fin 3 → ℕ) a + S1x32x128.size a ≤ S4x512x128.size a := by
  intro a; match a with
  | ⟨0, _⟩ => show h + 1 ≤ 4; omega
  | ⟨1, _⟩ => show 32 * r + 32 ≤ 512; omega
  | ⟨2, _⟩ => show 0 + 128 ≤ 128; omega
theorem inbP (h r n : ℕ) (hh : h < 4) (hr : r < 16) (hn : n < 5) :
    ∀ a, (![h, 32 * r, 128 * n] : Fin 3 → ℕ) a + S1x32x128.size a ≤ S4x512x640.size a := by
  intro a; match a with
  | ⟨0, _⟩ => show h + 1 ≤ 4; omega
  | ⟨1, _⟩ => show 32 * r + 32 ≤ 512; omega
  | ⟨2, _⟩ => show 128 * n + 128 ≤ 640; omega
theorem inbB (r : ℕ) : ∀ a, (![32 * (r % 4), 0] : Fin 2 → ℕ) a + S32x384.size a ≤ S128x384.size a := by
  intro a; match a with
  | ⟨0, _⟩ => show 32 * (r % 4) + 32 ≤ 128; omega
  | ⟨1, _⟩ => show 0 + 384 ≤ 384; omega
theorem inbK (h r : ℕ) (hh : h < 4) (hr : r < 16) : ∀ a, (![4 * h + r / 4] : Fin 1 → ℕ) a + S1.size a ≤ S16.size a := by
  intro a; match a with
  | ⟨0, _⟩ => show 4 * h + r / 4 + 1 ≤ 16; omega

/-- What a chunk loads of the logits. -/
def sL (v9 : Memref sig .tc .vmem S4x512x640 .f32) (L0 : List (View.Piece (Elt Ideal) S4x512x640 .f32)) (h r : ℕ) (hh : h < 4) (hr : r < 16) : Vec Ideal S1x32x640 .f32 :=
  v9.view.readCov L0 (Rect.unit (s := S4x512x640) ![h, 32 * r, 0] S1x32x640.size (inbS h r hh hr)).toLoadRect
/-- What it loads of the mask. -/
def bL (v12 : Memref sig .tc .vmem S128x384 .f32) (L3 : List (View.Piece (Elt Ideal) S128x384 .f32)) (r : ℕ) : Vec Ideal S32x384 .f32 :=
  v12.view.readCov L3 (Rect.unit (s := S128x384) ![32 * (r % 4), 0] S32x384.size (inbB r)).toLoadRect
/-- What it loads of the statistics. -/
def mL (v11 : Memref sig .tc .vmem S4x512x128 .f32) (L : List (View.Piece (Elt Ideal) S4x512x128 .f32)) (h r : ℕ) (hh : h < 4) (hr : r < 16) : Vec Ideal S1x32x128 .f32 :=
  v11.view.readCov L (Rect.unit (s := S4x512x128) ![h, 32 * r, 0] S1x32x128.size (inbM h r hh hr)).toLoadRect
/-- Its sink logit. -/
def kL (v2 : Memref sig .tc .smem S16 .f32) (h2 : v2.IsWhole) (x0 : Vec Ideal S16 .f32) (h r : ℕ) (hh : h < 4) (hr : r < 16) : Elt Ideal .f32 :=
  View.readAt (Elt Ideal) v2.view (Rect.unit (s := S16) ![4 * h + r / 4] S1.size (inbK h r hh hr)).toLoadRect (h2.unread x0) (Shape.Idx.first (show 0 < S1.numel by decide))

section
variable (v2 : Memref sig .tc .smem S16 .f32) (h2 : v2.IsWhole) (v9 : Memref sig .tc .vmem S4x512x640 .f32)
  (v11 : Memref sig .tc .vmem S4x512x128 .f32) (v12 : Memref sig .tc .vmem S128x384 .f32)
  (L0 : List (View.Piece (Elt Ideal) S4x512x640 .f32)) (L3 : List (View.Piece (Elt Ideal) S128x384 .f32)) (x0 : Vec Ideal S16 .f32)
  (h r : ℕ) (hh : h < 4) (hr : r < 16)

theorem sL_apply (a : Fin 32) (n : Fin 640) : sL v9 L0 h r hh hr (ix3 0 a n) = View.canon L0 (jS h (32 * r + a) n) := by
  unfold sL
  rw [View.readCov_eq_canon']
  refine congrArg (View.canon L0) (funext fun d => Fin.ext ?_)
  match d with
  | ⟨0, _⟩ => show h + 1 * 0 = h % 4; omega
  | ⟨1, _⟩ => show 32 * r + 1 * a.val = (32 * r + a.val) % 512; omega
  | ⟨2, _⟩ => show 0 + 1 * n.val = n.val % 640; omega

theorem bL_apply (a : Fin 32) (n : Fin 384) : bL v12 L3 r (ix2 a n) = View.canon L3 (jB ((32 * r + a) % 128) n) := by
  unfold bL
  rw [View.readCov_eq_canon']
  refine congrArg (View.canon L3) (funext fun d => Fin.ext ?_)
  match d with
  | ⟨0, _⟩ => show 32 * (r % 4) + 1 * a.val = ((32 * r + a.val) % 128) % 128; omega
  | ⟨1, _⟩ => show 0 + 1 * n.val = n.val % 384; omega

theorem mL_apply (L : List (View.Piece (Elt Ideal) S4x512x128 .f32)) (a : Fin 32) (l : Fin 128) :
    mL v11 L h r hh hr (ix3 0 a l) = View.canon L ((Rect.unit (s := S4x512x128) ![h, 32 * r, 0] S1x32x128.size (inbM h r hh hr)).emb (ix3 0 a l)) := by
  unfold mL
  rw [View.readCov_eq_canon']
  rfl

theorem kL_apply (a : Fin 32) : kL v2 h2 x0 h r hh hr = sg x0 h (32 * r + a) := by
  unfold kL
  rw [View.readAt_eq_ld, h2.read_unread]
  refine congrArg x0 (funext fun d => Fin.ext ?_)
  match d with
  | ⟨0, _⟩ => show 4 * h + r / 4 + 1 * 0 = (4 * h + (32 * r + a.val) / 128) % 16; omega

theorem tw (a : Fin 32) (n : ℕ) (hn : n < 384) : TG (View.canon L0) (View.canon L3) h (32 * r + a) n
    = sL v9 L0 h r hh hr (ix3 0 a ⟨n, lt640 hn⟩) + bL v12 L3 r (ix2 a ⟨n, hn⟩) := by
  rw [sL_apply, bL_apply]; unfold TG; rw [if_pos hn]

theorem tc (a : Fin 32) (n : ℕ) (hn : n < 640) (hn' : 384 ≤ n) : TG (View.canon L0) (View.canon L3) h (32 * r + a) n
    = sL v9 L0 h r hh hr (ix3 0 a ⟨n, hn⟩) := by
  rw [sL_apply]; unfold TG; rw [if_neg (by omega)]

/-- The first pass's chunk. -/
theorem okM_step (L : List (View.Piece (Elt Ideal) S4x512x128 .f32)) (hL : OkM (View.canon L0) (View.canon L3) x0 L) :
    OkM (View.canon L0) (View.canon L3) x0 (⟨Rect.unit (s := S4x512x128) ![h, 32 * r, 0] S1x32x128.size (inbM h r hh hr),
      maxPay (sL v9 L0 h r hh hr) (bL v12 L3 r) (kL v2 h2 x0 h r hh hr)⟩ :: L) := by
  intro p hp
  rcases List.mem_cons.mp hp with rfl | hp
  · intro x
    obtain ⟨z, a, l, rfl⟩ : ∃ (z : Fin 1) (a : Fin 32) (l : Fin 128), x = ix3 z a l := ⟨x 0, x 1, x 2, eq_ix3 x⟩
    obtain rfl : z = 0 := Subsingleton.elim _ _
    show maxPay _ _ _ (ix3 0 a l) = _
    rw [maxPay_apply _ _ _ _ a (tw v9 v12 L0 L3 h r hh hr a) (tc v9 L0 L3 h r hh hr a), kL_apply _ _ _ _ _ _ _ a]
    unfold MG
    show _ = rowMax (TG _ _ (h + 1 * 0) (32 * r + 1 * a.val)) (sg x0 (h + 1 * 0) (32 * r + 1 * a.val))
    simp only [Nat.mul_zero, Nat.add_zero, Nat.one_mul]
  · exact hL p hp

theorem inv_zero (L : List (View.Piece (Elt Ideal) S4x512x128 .f32)) (hL : OkM (View.canon L0) (View.canon L3) x0 L)
    (hc : View.Piece.tiledL L S1x32x128.size = true) : Inv (View.canon L0) (View.canon L3) x0 L 0 := by
  intro y
  rw [if_neg (by omega)]
  exact View.canon_apply_of_pieces (Val := Elt Ideal) (e := .f32) (fun y : S4x512x128.Idx => MG (View.canon L0) (View.canon L3) x0 (y 0).val (y 1).val) L hL y
    (View.cover_of_tiledL L S1x32x128.size hc y)

section
variable (L : List (View.Piece (Elt Ideal) S4x512x128 .f32)) (hI : Inv (View.canon L0) (View.canon L3) x0 L (16 * h + r))
include hI

theorem mL_max (a : Fin 32) (l : Fin 128) : mL v11 L h r hh hr (ix3 0 a l) = MG (View.canon L0) (View.canon L3) x0 h (32 * r + a) := by
  rw [mL_apply, hI]
  show (if 16 * (h + 1 * 0) + (32 * r + 1 * a.val) / 32 < 16 * h + r then _
    else MG _ _ x0 (h + 1 * 0) (32 * r + 1 * a.val)) = _
  rw [if_neg (by omega)]
  simp only [Nat.mul_zero, Nat.add_zero, Nat.one_mul]

/-- The second pass's chunk of the statistics. -/
theorem inv_step : Inv (View.canon L0) (View.canon L3) x0 (⟨Rect.unit (s := S4x512x128) ![h, 32 * r, 0] S1x32x128.size (inbM h r hh hr),
      denPay (sL v9 L0 h r hh hr) (bL v12 L3 r) (kL v2 h2 x0 h r hh hr) (mL v11 L h r hh hr)⟩ :: L) (16 * h + r + 1) := by
  intro y
  by_cases hy : y ∈ (Rect.unit (s := S4x512x128) ![h, 32 * r, 0] S1x32x128.size (inbM h r hh hr)).set
  · obtain ⟨x, rfl⟩ := LoadRect.exists_idx_of_mem _ hy
    obtain ⟨z, a, l, rfl⟩ : ∃ (z : Fin 1) (a : Fin 32) (l : Fin 128), x = ix3 z a l := ⟨x 0, x 1, x 2, eq_ix3 x⟩
    obtain rfl : z = 0 := Subsingleton.elim _ _
    refine (View.canon_cons_emb (Rect.unit (s := S4x512x128) ![h, 32 * r, 0] S1x32x128.size (inbM h r hh hr)) _ L (ix3 0 a l)).trans ?_
    rw [kL_apply _ _ _ _ _ _ _ a, denPay_apply _ _ _ _ _ a (tw v9 v12 L0 L3 h r hh hr a) (tc v9 L0 L3 h r hh hr a)
      (mL_max v11 L0 L3 x0 h r hh hr L hI a)]
    show _ = (if 16 * (h + 1 * 0) + (32 * r + 1 * a.val) / 32 < 16 * h + r + 1 then RG _ _ x0 (h + 1 * 0) (32 * r + 1 * a.val) else _)
    rw [if_pos (by omega)]
    simp only [Nat.mul_zero, Nat.add_zero, Nat.one_mul]
    rfl
  · refine (View.canon_cons_of_not_mem (Val := Elt Ideal) (e := .f32) ⟨Rect.unit (s := S4x512x128) ![h, 32 * r, 0] S1x32x128.size (inbM h r hh hr), _⟩ L hy).trans ?_
    rw [hI]
    have hne : 16 * (y 0).val + (y 1).val / 32 ≠ 16 * h + r := by
      intro he
      apply hy
      rw [Rect.mem_set_unit]
      have h0 : (y 0).val < 4 := (y 0).isLt
      have h1 : (y 1).val < 512 := (y 1).isLt
      have h2 : (y 2).val < 128 := (y 2).isLt
      intro d; match d with
      | ⟨0, _⟩ => show h ≤ (y 0).val ∧ (y 0).val < h + 1; omega
      | ⟨1, _⟩ => show 32 * r ≤ (y 1).val ∧ (y 1).val < 32 * r + 32; omega
      | ⟨2, _⟩ => show 0 ≤ (y 2).val ∧ (y 2).val < 0 + 128; omega
    by_cases hlt : 16 * (y 0).val + (y 1).val / 32 < 16 * h + r
    · rw [if_pos hlt, if_pos (by omega)]
    · rw [if_neg hlt, if_neg (by omega)]

theorem okP_one (n : ℕ) (hn : n < 5) (t : FVec Ideal S32x128 .f32)
    (ht : ∀ (a : Fin 32) (l : Fin 128), t (ix2 a l) = TG (View.canon L0) (View.canon L3) h (32 * r + a) (128 * n + l))
    (LP : List (View.Piece (Elt Ideal) S4x512x640 .bf16)) (hP : OkP (View.canon L0) (View.canon L3) x0 LP) :
    OkP (View.canon L0) (View.canon L3) x0 (⟨Rect.unit (s := S4x512x640) ![h, 32 * r, 128 * n] S1x32x128.size (inbP h r n hh hr hn),
      pPay (mL v11 L h r hh hr) t⟩ :: LP) := by
  intro p hp
  rcases List.mem_cons.mp hp with rfl | hp
  · intro x
    obtain ⟨z, a, l, rfl⟩ : ∃ (z : Fin 1) (a : Fin 32) (l : Fin 128), x = ix3 z a l := ⟨x 0, x 1, x 2, eq_ix3 x⟩
    obtain rfl : z = 0 := Subsingleton.elim _ _
    refine (pPay_apply _ a _ (mL_max v11 L0 L3 x0 h r hh hr L hI a) t l _ (ht a l)).trans ?_
    unfold PG
    show _ = Ideal.exp (TG _ _ (h + 1 * 0) (32 * r + 1 * a.val) (128 * n + 1 * l.val) - MG _ _ x0 (h + 1 * 0) (32 * r + 1 * a.val))
    simp only [Nat.mul_zero, Nat.add_zero, Nat.one_mul]
  · exact hP p hp

/-- The second pass's chunk of the exponentials. -/
theorem okP_step (LP : List (View.Piece (Elt Ideal) S4x512x640 .bf16)) (hP : OkP (View.canon L0) (View.canon L3) x0 LP) :
    OkP (View.canon L0) (View.canon L3) x0
      (⟨Rect.unit (s := S4x512x640) ![h, 32 * r, 128 * 4] S1x32x128.size (inbP h r 4 hh hr (by decide)), pPay (mL v11 L h r hh hr) (tile4 (sL v9 L0 h r hh hr))⟩
      :: ⟨Rect.unit (s := S4x512x640) ![h, 32 * r, 128 * 3] S1x32x128.size (inbP h r 3 hh hr (by decide)), pPay (mL v11 L h r hh hr) (tile3 (sL v9 L0 h r hh hr))⟩
      :: ⟨Rect.unit (s := S4x512x640) ![h, 32 * r, 128 * 2] S1x32x128.size (inbP h r 2 hh hr (by decide)), pPay (mL v11 L h r hh hr) (tile2 (sL v9 L0 h r hh hr) (bL v12 L3 r))⟩
      :: ⟨Rect.unit (s := S4x512x640) ![h, 32 * r, 128 * 1] S1x32x128.size (inbP h r 1 hh hr (by decide)), pPay (mL v11 L h r hh hr) (tile1 (sL v9 L0 h r hh hr) (bL v12 L3 r))⟩
      :: ⟨Rect.unit (s := S4x512x640) ![h, 32 * r, 128 * 0] S1x32x128.size (inbP h r 0 hh hr (by decide)), pPay (mL v11 L h r hh hr) (tile0 (sL v9 L0 h r hh hr) (bL v12 L3 r))⟩
      :: LP) := by
  have hw := tw v9 v12 L0 L3 h r hh hr
  have hc := tc v9 L0 L3 h r hh hr
  refine okP_one v11 L0 L3 x0 h r hh hr L hI 4 (by decide) _ (fun a l => tile4_apply _ _ a (hc a) l) _ ?_
  refine okP_one v11 L0 L3 x0 h r hh hr L hI 3 (by decide) _ (fun a l => tile3_apply _ _ a (hc a) l) _ ?_
  refine okP_one v11 L0 L3 x0 h r hh hr L hI 2 (by decide) _ (fun a l => tile2_apply _ _ _ a (hw a) l) _ ?_
  refine okP_one v11 L0 L3 x0 h r hh hr L hI 1 (by decide) _ (fun a l => tile1_apply _ _ _ a (hw a) l) _ ?_
  refine okP_one v11 L0 L3 x0 h r hh hr L hI 0 (by decide) _ (fun a l => ?_) _ hP
  rw [tile0_apply _ _ _ a (hw a) l, Nat.mul_zero, Nat.zero_add]
end

theorem okP_canon (LP : List (View.Piece (Elt Ideal) S4x512x640 .bf16)) (hP : OkP (View.canon L0) (View.canon L3) x0 LP)
    (hc : View.Piece.tiledL LP S1x32x128.size = true) (y : S4x512x640.Idx) :
    View.canon LP y = PG (View.canon L0) (View.canon L3) x0 y :=
  View.canon_apply_of_pieces (Val := Elt Ideal) (e := .bf16) (PG (View.canon L0) (View.canon L3) x0) LP hP y (View.cover_of_tiledL LP S1x32x128.size hc y)

end

end Cert.Attn
-- ==== Proof.Heads.lean ====
module

public import proofs.«01_k».proof.Proof.Pieces

@[expose] public section

noncomputable section

/-!
One key head of the attention body: the logits it stores from the loaded queries and keys, and the output it
stores from the exponentials, the values and the reciprocal normalizers.
-/

namespace Cert.Attn

open Idealize.ShloMosaic Idealize.ShloMosaic.ValueIdx Idealize.SL.Sem Cert.KernelIdeal Cert.KernelIdeal.Gen
open scoped BigOperators

/-- An index of the query rows. -/
def jQ (t e : ℕ) : S128x1024.Idx := ix2 (Fin.ofNat 128 t) (Fin.ofNat 1024 e)
/-- An index of the window's rows. -/
def jW (n e : ℕ) : S384x256.Idx := ix2 (Fin.ofNat 384 n) (Fin.ofNat 256 e)
/-- An index of the context's rows. -/
def jC (n e : ℕ) : S256x256.Idx := ix2 (Fin.ofNat 256 n) (Fin.ofNat 256 e)

theorem slQ (n : ℕ) (hn : n < 16) : S128x1024.Slices ![0, 64 * n] S128x64 := by
  refine ⟨rfl, fun a => ?_⟩
  match a with
  | ⟨0, _⟩ => show 0 + 128 ≤ 128; omega
  | ⟨1, _⟩ => show 64 * n + 64 ≤ 1024; omega
theorem slW (h : ℕ) (hh : h < 4) : S384x256.Slices ![0, 64 * h] S384x64 := by
  refine ⟨rfl, fun a => ?_⟩
  match a with
  | ⟨0, _⟩ => show 0 + 384 ≤ 384; omega
  | ⟨1, _⟩ => show 64 * h + 64 ≤ 256; omega
theorem slC (h : ℕ) (hh : h < 4) : S256x256.Slices ![0, 64 * h] S256x64 := by
  refine ⟨rfl, fun a => ?_⟩
  match a with
  | ⟨0, _⟩ => show 0 + 256 ≤ 256; omega
  | ⟨1, _⟩ => show 64 * h + 64 ≤ 256; omega
theorem slO (g : ℕ) (hg : g < 4) : S512x64.Slices ![128 * g, 0] S128x64 := by
  refine ⟨rfl, fun a => ?_⟩
  match a with
  | ⟨0, _⟩ => show 128 * g + 128 ≤ 512; omega
  | ⟨1, _⟩ => show 0 + 64 ≤ 64; omega
theorem lt16 {h g : ℕ} (hh : h < 4) (hg : g < 4) : 4 * h + g < 16 := by omega

theorem inbSW (h : ℕ) (hh : h < 4) : ∀ a, (![h, 0, 0] : Fin 3 → ℕ) a + S1x512x384.size a ≤ S4x512x640.size a := by
  intro a; match a with
  | ⟨0, _⟩ => show h + 1 ≤ 4; omega
  | ⟨1, _⟩ => show 0 + 512 ≤ 512; omega
  | ⟨2, _⟩ => show 0 + 384 ≤ 640; omega
theorem inbSC (h : ℕ) (hh : h < 4) : ∀ a, (![h, 0, 384] : Fin 3 → ℕ) a + S1x512x256.size a ≤ S4x512x640.size a := by
  intro a; match a with
  | ⟨0, _⟩ => show h + 1 ≤ 4; omega
  | ⟨1, _⟩ => show 0 + 512 ≤ 512; omega
  | ⟨2, _⟩ => show 384 + 256 ≤ 640; omega
theorem inbR (h : ℕ) (hh : h < 4) : ∀ a, (![h, 0, 0] : Fin 3 → ℕ) a + S1x512x64.size a ≤ S4x512x128.size a := by
  intro a; match a with
  | ⟨0, _⟩ => show h + 1 ≤ 4; omega
  | ⟨1, _⟩ => show 0 + 512 ≤ 512; omega
  | ⟨2, _⟩ => show 0 + 64 ≤ 128; omega
theorem inbO (n : ℕ) (hn : n < 16) : ∀ a, (![0, 0, 64 * n] : Fin 3 → ℕ) a + S1x128x64.size a ≤ S1x128x1024.size a := by
  intro a; match a with
  | ⟨0, _⟩ => show 0 + 1 ≤ 1; omega
  | ⟨1, _⟩ => show 0 + 128 ≤ 128; omega
  | ⟨2, _⟩ => show 64 * n + 64 ≤ 1024; omega

section
variable (qv : FVec Ideal S128x1024 .bf16) (kw vw : FVec Ideal S384x256 .bf16) (kc vc : FVec Ideal S256x256 .bf16) (h : ℕ) (hh : h < 4)

/-- The four query heads of a key head, one under the other. -/
def qHead : FVec Ideal S512x64 .bf16 :=
  concatenate S512x64 0 [⟨S128x64, extractStridedSlice S128x64 ![0, 64 * (4 * h + 0)] qv (slQ _ (lt16 hh (by decide)))⟩,
    ⟨S128x64, extractStridedSlice S128x64 ![0, 64 * (4 * h + 1)] qv (slQ _ (lt16 hh (by decide)))⟩,
    ⟨S128x64, extractStridedSlice S128x64 ![0, 64 * (4 * h + 2)] qv (slQ _ (lt16 hh (by decide)))⟩,
    ⟨S128x64, extractStridedSlice S128x64 ![0, 64 * (4 * h + 3)] qv (slQ _ (lt16 hh (by decide)))⟩]
    concatenates_S128x64_S128x64_S128x64_S128x64_S512x64_d0

/-- The window's logits. -/
def sPayW : FVec Ideal S1x512x384 .f32 :=
  shapeCast S1x512x384 (matmul dot_S512x64_S384x64_S512x384_1_1_0_0_n_n none (qHead qv h hh)
    (extractStridedSlice S384x64 ![0, 64 * h] kw (slW h hh)) (constant S512x384 .f32 0x00000000#32)) shapeCasts_S512x384_S1x512x384
/-- The context's logits. -/
def sPayC : FVec Ideal S1x512x256 .f32 :=
  shapeCast S1x512x256 (matmul dot_S512x64_S256x64_S512x256_1_1_0_0_n_n none (qHead qv h hh)
    (extractStridedSlice S256x64 ![0, 64 * h] kc (slC h hh)) (constant S512x256 .f32 0x00000000#32)) shapeCasts_S512x256_S1x512x256

theorem slice_q (n : ℕ) (hn : S128x1024.Slices ![0, 64 * n] S128x64) (hn' : n < 16) (t : Fin 128) (d : Fin 64) :
    extractStridedSlice S128x64 ![0, 64 * n] qv hn (ix2 t d) = qv (jQ t (64 * n + d)) := by
  refine extractStridedSlice_apply _ _ _ _ _ ?_
  intro a; match a with
  | ⟨0, _⟩ => show t.val % 128 = 0 + t.val; omega
  | ⟨1, _⟩ => show (64 * n + d.val) % 1024 = 64 * n + d.val; omega

theorem qHead_apply (ρ : Fin 512) (d : Fin 64) :
    qHead qv h hh (ix2 ρ d) = qv (jQ (ρ.val % 128) (64 * (4 * h + ρ.val / 128) + d)) := by
  have hρ := ρ.isLt
  have key : ∀ (g : ℕ) (hg : g < 4) (e : ρ.val / 128 = g) (x : S128x64.Idx → Elt Ideal .bf16),
      x = extractStridedSlice S128x64 ![0, 64 * (4 * h + g)] qv (slQ _ (lt16 hh hg)) →
      x (ix2 ⟨ρ.val % 128, Nat.mod_lt _ (by decide)⟩ d) = qv (jQ (ρ.val % 128) (64 * (4 * h + ρ.val / 128) + d)) := by
    intro g hg e x hx
    subst hx
    rw [e]
    exact slice_q qv _ _ (by omega) ⟨ρ.val % 128, Nat.mod_lt _ (by decide)⟩ d
  unfold qHead
  have hd : ρ.val / 128 = 0 ∨ ρ.val / 128 = 1 ∨ ρ.val / 128 = 2 ∨ ρ.val / 128 = 3 := by omega
  rcases hd with e | e | e | e
  · refine (concatenate_apply_piece (t := S512x64) 0 _ _ _ 0 (by show 0 < 4; decide) S128x64 _ rfl rfl 0 rfl (ix2 ⟨ρ.val % 128, Nat.mod_lt _ (by decide)⟩ d) ?_ ?_).trans (key 0 (by decide) e _ rfl)
    · intro b hb; match b with
      | ⟨0, _⟩ => exact absurd rfl hb
      | ⟨1, _⟩ => rfl
    · show 0 + ρ.val % 128 = ρ.val; omega
  · refine (concatenate_apply_piece (t := S512x64) 0 _ _ _ 1 (by show 1 < 4; decide) S128x64 _ rfl rfl 128 rfl (ix2 ⟨ρ.val % 128, Nat.mod_lt _ (by decide)⟩ d) ?_ ?_).trans (key 1 (by decide) e _ rfl)
    · intro b hb; match b with
      | ⟨0, _⟩ => exact absurd rfl hb
      | ⟨1, _⟩ => rfl
    · show 128 + ρ.val % 128 = ρ.val; omega
  · refine (concatenate_apply_piece (t := S512x64) 0 _ _ _ 2 (by show 2 < 4; decide) S128x64 _ rfl rfl 256 rfl (ix2 ⟨ρ.val % 128, Nat.mod_lt _ (by decide)⟩ d) ?_ ?_).trans (key 2 (by decide) e _ rfl)
    · intro b hb; match b with
      | ⟨0, _⟩ => exact absurd rfl hb
      | ⟨1, _⟩ => rfl
    · show 256 + ρ.val % 128 = ρ.val; omega
  · refine (concatenate_apply_piece (t := S512x64) 0 _ _ _ 3 (by show 3 < 4; decide) S128x64 _ rfl rfl 384 rfl (ix2 ⟨ρ.val % 128, Nat.mod_lt _ (by decide)⟩ d) ?_ ?_).trans (key 3 (by decide) e _ rfl)
    · intro b hb; match b with
      | ⟨0, _⟩ => exact absurd rfl hb
      | ⟨1, _⟩ => rfl
    · show 384 + ρ.val % 128 = ρ.val; omega

theorem slice_w (n : Fin 384) (d : Fin 64) :
    extractStridedSlice S384x64 ![0, 64 * h] kw (slW h hh) (ix2 n d) = kw (jW n (64 * h + d)) := by
  refine extractStridedSlice_apply _ _ _ _ _ ?_
  intro a; match a with
  | ⟨0, _⟩ => show n.val % 384 = 0 + n.val; omega
  | ⟨1, _⟩ => show (64 * h + d.val) % 256 = 64 * h + d.val; omega
theorem slice_c (n : Fin 256) (d : Fin 64) :
    extractStridedSlice S256x64 ![0, 64 * h] kc (slC h hh) (ix2 n d) = kc (jC n (64 * h + d)) := by
  refine extractStridedSlice_apply _ _ _ _ _ ?_
  intro a; match a with
  | ⟨0, _⟩ => show n.val % 256 = 0 + n.val; omega
  | ⟨1, _⟩ => show (64 * h + d.val) % 256 = 64 * h + d.val; omega

/-- The logits of row `ρ` of key head `h`. -/
def LS (h ρ n : ℕ) : EReal :=
  if n < 384 then ∑ d : Fin 64, (qv (jQ (ρ % 128) (64 * (4 * h + ρ / 128) + d)) : EReal) * kw (jW n (64 * h + d))
  else ∑ d : Fin 64, (qv (jQ (ρ % 128) (64 * (4 * h + ρ / 128) + d)) : EReal) * kc (jC (n - 384) (64 * h + d))

theorem sPayW_apply (ρ : Fin 512) (n : Fin 384) : sPayW qv kw h hh (ix3 0 ρ n) = LS qv kw kc h ρ n := by
  unfold sPayW
  refine (shapeCast_apply _ _ _ (ix2 ρ n) ?_).trans ?_
  · rw [Shape.rowMajor_val_two, Shape.rowMajor_val_three]
    show ρ.val * 384 + n.val = (0 * 512 + ρ.val) * 384 + n.val
    omega
  · refine (Ideal.matmul_transposedRhs_apply (M := 512) (K := 64) (N := 384) none _ _ _ ρ n).trans ?_
    unfold LS
    rw [if_pos n.isLt]
    refine (congrArg₂ (· + ·) (Ideal.ofBits_zero_f32) (Finset.sum_congr rfl fun d _ =>
      congrArg₂ (· * ·) (qHead_apply qv h hh ρ d) (slice_w kw h hh n d))).trans (zero_add _)

theorem sPayC_apply (ρ : Fin 512) (n : Fin 256) : sPayC qv kc h hh (ix3 0 ρ n) = LS qv kw kc h ρ (384 + n) := by
  unfold sPayC
  refine (shapeCast_apply _ _ _ (ix2 ρ n) ?_).trans ?_
  · rw [Shape.rowMajor_val_two, Shape.rowMajor_val_three]
    show ρ.val * 256 + n.val = (0 * 512 + ρ.val) * 256 + n.val
    omega
  · refine (Ideal.matmul_transposedRhs_apply (M := 512) (K := 64) (N := 256) none _ _ _ ρ n).trans ?_
    unfold LS
    rw [if_neg (by omega), Nat.add_sub_cancel_left]
    refine (congrArg₂ (· + ·) (Ideal.ofBits_zero_f32) (Finset.sum_congr rfl fun d _ =>
      congrArg₂ (· * ·) (qHead_apply qv h hh ρ d) (slice_c kc h hh n d))).trans (zero_add _)

/-- Every write of the logits' scratch holds its part of them. -/
def OkS (L : List (View.Piece (Elt Ideal) S4x512x640 .f32)) : Prop :=
  ∀ p ∈ L, ∀ x : p.1.shape.Idx, p.2 x = LS qv kw kc (p.1.emb x 0) (p.1.emb x 1) (p.1.emb x 2)

theorem okS_nil : OkS qv kw kc [] := fun _ h => absurd h List.not_mem_nil

/-- A key head's two writes of the logits. -/
theorem okS_step (L : List (View.Piece (Elt Ideal) S4x512x640 .f32)) (hL : OkS qv kw kc L) :
    OkS qv kw kc (⟨Rect.unit (s := S4x512x640) ![h, 0, 384] S1x512x256.size (inbSC h hh), sPayC qv kc h hh⟩
      :: ⟨Rect.unit (s := S4x512x640) ![h, 0, 0] S1x512x384.size (inbSW h hh), sPayW qv kw h hh⟩ :: L) := by
  intro p hp
  rcases List.mem_cons.mp hp with rfl | hp
  · intro x
    obtain ⟨z, a, l, rfl⟩ : ∃ (z : Fin 1) (a : Fin 512) (l : Fin 256), x = ix3 z a l := ⟨x 0, x 1, x 2, eq_ix3 x⟩
    obtain rfl : z = 0 := Subsingleton.elim _ _
    refine (sPayC_apply qv kw kc h hh a l).trans ?_
    show _ = LS _ _ _ (h + 1 * 0) (0 + 1 * a.val) (384 + 1 * l.val)
    simp only [Nat.mul_zero, Nat.add_zero, Nat.one_mul, Nat.zero_add]
  rcases List.mem_cons.mp hp with rfl | hp
  · intro x
    obtain ⟨z, a, l, rfl⟩ : ∃ (z : Fin 1) (a : Fin 512) (l : Fin 384), x = ix3 z a l := ⟨x 0, x 1, x 2, eq_ix3 x⟩
    obtain rfl : z = 0 := Subsingleton.elim _ _
    refine (sPayW_apply qv kw kc h hh a l).trans ?_
    show _ = LS _ _ _ (h + 1 * 0) (0 + 1 * a.val) (0 + 1 * l.val)
    simp only [Nat.mul_zero, Nat.add_zero, Nat.one_mul, Nat.zero_add]
  · exact hL p hp

/-- A key head's output rows. -/
def headO (pc : Vec Ideal S1x512x256 .bf16) (pw : Vec Ideal S1x512x384 .bf16) (mm : Vec Ideal S1x512x64 .f32) : FVec Ideal S512x64 .f32 :=
  mulf (addf (matmul (φ₁ := .bf16) dot_S512x256_S256x64_S512x64_1_0_0_1_n_n none (shapeCast S512x256 pc shapeCasts_S1x512x256_S512x256)
      (extractStridedSlice S256x64 ![0, 64 * h] vc (slC h hh)) (constant S512x64 .f32 0x00000000#32))
    (matmul (φ₁ := .bf16) dot_S512x384_S384x64_S512x64_1_0_0_1_n_n none (shapeCast S512x384 pw shapeCasts_S1x512x384_S512x384)
      (extractStridedSlice S384x64 ![0, 64 * h] vw (slW h hh)) (constant S512x64 .f32 0x00000000#32)))
    (shapeCast S512x64 mm shapeCasts_S1x512x64_S512x64)

/-- One query head's rows of it, as stored. -/
def outPay (o : FVec Ideal S512x64 .f32) (g : ℕ) (hg : g < 4) : FVec Ideal S1x128x64 .bf16 :=
  shapeCast S1x128x64 (truncf .bf16 (extractStridedSlice S128x64 ![128 * g, 0] o (slO g hg)) bitsLt_bf16_f32) shapeCasts_S128x64_S1x128x64

theorem headO_apply (pc : Vec Ideal S1x512x256 .bf16) (pw : Vec Ideal S1x512x384 .bf16) (mm : Vec Ideal S1x512x64 .f32)
    (ρ : Fin 512) (d : Fin 64) : headO vw vc h hh pc pw mm (ix2 ρ d)
      = ((∑ j : Fin 256, (pc (ix3 0 ρ j) : EReal) * vc (jC j (64 * h + d))) + ∑ j : Fin 384, (pw (ix3 0 ρ j) : EReal) * vw (jW j (64 * h + d)))
        * mm (ix3 0 ρ d) := by
  unfold headO
  refine congrArg₂ (· * ·) (congrArg₂ (· + ·) ?_ ?_) ?_
  · refine (Ideal.matmul_plain_apply (M := 512) (K := 256) (N := 64) none _ _ _ ρ d).trans ?_
    refine (congrArg₂ (· + ·) (Ideal.ofBits_zero_f32) (Finset.sum_congr rfl fun j _ =>
      congrArg₂ (· * ·) ?_ (slice_c vc h hh j d))).trans (zero_add _)
    refine shapeCast_apply _ _ _ _ ?_
    rw [Shape.rowMajor_val_two, Shape.rowMajor_val_three]
    show (0 * 512 + ρ.val) * 256 + j.val = ρ.val * 256 + j.val
    omega
  · refine (Ideal.matmul_plain_apply (M := 512) (K := 384) (N := 64) none _ _ _ ρ d).trans ?_
    refine (congrArg₂ (· + ·) (Ideal.ofBits_zero_f32) (Finset.sum_congr rfl fun j _ =>
      congrArg₂ (· * ·) ?_ (slice_w vw h hh j d))).trans (zero_add _)
    refine shapeCast_apply _ _ _ _ ?_
    rw [Shape.rowMajor_val_two, Shape.rowMajor_val_three]
    show (0 * 512 + ρ.val) * 384 + j.val = ρ.val * 384 + j.val
    omega
  · refine shapeCast_apply _ _ _ _ ?_
    rw [Shape.rowMajor_val_two, Shape.rowMajor_val_three]
    show (0 * 512 + ρ.val) * 64 + d.val = ρ.val * 64 + d.val
    omega

theorem outPay_apply (o : FVec Ideal S512x64 .f32) (g : ℕ) (hg : g < 4) (t : Fin 128) (d : Fin 64) (hρ : 128 * g + t.val < 512) :
    outPay o g hg (ix3 0 t d) = o (ix2 ⟨128 * g + t, hρ⟩ d) := by
  unfold outPay
  refine (shapeCast_apply _ _ _ (ix2 t d) ?_).trans ?_
  · rw [Shape.rowMajor_val_two, Shape.rowMajor_val_three]
    show t.val * 64 + d.val = (0 * 128 + t.val) * 64 + d.val
    omega
  · refine extractStridedSlice_apply ![128 * g, 0] o (slO g hg) _ _ ?_
    intro a; match a with
    | ⟨0, _⟩ => rfl
    | ⟨1, _⟩ => show d.val = 0 + d.val; omega
end

section
variable (GS : S4x512x640.Idx → EReal) (GB : S128x384.Idx → EReal) (x0 : Vec Ideal S16 .f32)
  (vw : FVec Ideal S384x256 .bf16) (vc : FVec Ideal S256x256 .bf16)

/-- The block's output at row `t` and column `e`. -/
def OG (t e : ℕ) : EReal :=
  rowOut (TG GS GB (e / 256) (128 * (e / 64 % 4) + t)) (sg x0 (e / 256) (128 * (e / 64 % 4) + t))
    (fun j => vw (jW j (64 * (e / 256) + e % 64))) (fun j => vc (jC j (64 * (e / 256) + e % 64)))

/-- Every write of the output block holds its part of it. -/
def OkO (L : List (View.Piece (Elt Ideal) S1x128x1024 .bf16)) : Prop :=
  ∀ p ∈ L, ∀ x : p.1.shape.Idx, p.2 x = OG GS GB x0 vw vc (p.1.emb x 1) (p.1.emb x 2)

theorem okO_nil : OkO GS GB x0 vw vc [] := fun _ h => absurd h List.not_mem_nil

variable (v10 : Memref sig .tc .vmem S4x512x640 .bf16) (v11 : Memref sig .tc .vmem S4x512x128 .f32)
  (LP : List (View.Piece (Elt Ideal) S4x512x640 .bf16)) (LM : List (View.Piece (Elt Ideal) S4x512x128 .f32))
  (hP : ∀ y, View.canon LP y = PG GS GB x0 y) (hM : ∀ y, View.canon LM y = RG GS GB x0 (y 0) (y 1))

/-- The exponentials of a key head against the context. -/
def pcL (h : ℕ) (hh : h < 4) : Vec Ideal S1x512x256 .bf16 := v10.view.readCov LP (Rect.unit (s := S4x512x640) ![h, 0, 384] S1x512x256.size (inbSC h hh)).toLoadRect
/-- Against the window. -/
def pwL (h : ℕ) (hh : h < 4) : Vec Ideal S1x512x384 .bf16 := v10.view.readCov LP (Rect.unit (s := S4x512x640) ![h, 0, 0] S1x512x384.size (inbSW h hh)).toLoadRect
/-- Its reciprocal normalizers. -/
def rL (h : ℕ) (hh : h < 4) : Vec Ideal S1x512x64 .f32 := v11.view.readCov LM (Rect.unit (s := S4x512x128) ![h, 0, 0] S1x512x64.size (inbR h hh)).toLoadRect

include hP hM in
/-- A query head's write of the output block. -/
theorem okO_step (h g : ℕ) (hh : h < 4) (hg : g < 4) (L : List (View.Piece (Elt Ideal) S1x128x1024 .bf16)) (hL : OkO GS GB x0 vw vc L) :
    OkO GS GB x0 vw vc (⟨Rect.unit (s := S1x128x1024) ![0, 0, 64 * (4 * h + g)] S1x128x64.size (inbO _ (lt16 hh hg)),
      outPay (headO vw vc h hh (pcL v10 LP h hh) (pwL v10 LP h hh) (rL v11 LM h hh)) g hg⟩ :: L) := by
  intro p hp
  rcases List.mem_cons.mp hp with rfl | hp
  · intro x
    obtain ⟨z, t, d, rfl⟩ : ∃ (z : Fin 1) (t : Fin 128) (d : Fin 64), x = ix3 z t d := ⟨x 0, x 1, x 2, eq_ix3 x⟩
    obtain rfl : z = 0 := Subsingleton.elim _ _
    have ht := t.isLt
    have hd := d.isLt
    refine (outPay_apply _ g hg t d (by omega)).trans ?_
    rw [headO_apply]
    show _ = OG GS GB x0 vw vc (0 + 1 * t.val) (64 * (4 * h + g) + 1 * d.val)
    unfold OG rowOut
    rw [show (64 * (4 * h + g) + 1 * d.val) / 256 = h by omega, show (64 * (4 * h + g) + 1 * d.val) / 64 % 4 = g by omega,
      show (64 * (4 * h + g) + 1 * d.val) % 64 = d.val by omega, Nat.zero_add, Nat.one_mul]
    have e1 : ∀ j : Fin 256, pcL v10 LP h hh (ix3 0 ⟨128 * g + t, by omega⟩ j)
        = Ideal.exp (TG GS GB h (128 * g + t) (384 + j) - MG GS GB x0 h (128 * g + t)) := by
      intro j
      unfold pcL
      rw [View.readCov_eq_canon']
      refine (hP _).trans ?_
      unfold PG
      show Ideal.exp (TG _ _ (h + 1 * 0) (0 + 1 * (128 * g + t.val)) (384 + 1 * j.val) - MG _ _ _ (h + 1 * 0) (0 + 1 * (128 * g + t.val))) = _
      simp only [Nat.mul_zero, Nat.add_zero, Nat.one_mul, Nat.zero_add]
    have e2 : ∀ j : Fin 384, pwL v10 LP h hh (ix3 0 ⟨128 * g + t, by omega⟩ j)
        = Ideal.exp (TG GS GB h (128 * g + t) j - MG GS GB x0 h (128 * g + t)) := by
      intro j
      unfold pwL
      rw [View.readCov_eq_canon']
      refine (hP _).trans ?_
      unfold PG
      show Ideal.exp (TG _ _ (h + 1 * 0) (0 + 1 * (128 * g + t.val)) (0 + 1 * j.val) - MG _ _ _ (h + 1 * 0) (0 + 1 * (128 * g + t.val))) = _
      simp only [Nat.mul_zero, Nat.add_zero, Nat.one_mul, Nat.zero_add]
    have e3 : rL v11 LM h hh (ix3 0 ⟨128 * g + t, by omega⟩ d) = RG GS GB x0 h (128 * g + t) := by
      unfold rL
      rw [View.readCov_eq_canon']
      refine (hM _).trans ?_
      show RG _ _ _ (h + 1 * 0) (0 + 1 * (128 * g + t.val)) = _
      simp only [Nat.mul_zero, Nat.add_zero, Nat.one_mul, Nat.zero_add]
    rw [e3]
    simp only [e1, e2]
    rfl
  · exact hL p hp
end

end Cert.Attn
-- ==== Proof.Bridge.lean ====
module

public import proofs.«01_k».proof.Proof.Pieces
public import proofs.«01_k».proof.Proof.Gen.KernelIdeal.Frame.RunA

@[expose] public section

set_option maxRecDepth 16384

noncomputable section

/-!
The generated lists of writes, chunk by chunk: each chunk stores the payloads `Chunk` names.
-/

namespace Cert.Attn

open Idealize.ShloMosaic Idealize.ShloMosaic.TcCoe Idealize.ShloMosaic.ValueIdx Idealize.SL.Sem Cert.KernelIdeal Cert.KernelIdeal.Gen
open scoped BigOperators

variable (c : Dev nD) (i : grid0.Coords) (arg2 : Memref sig .tc .smem S16 .f32) (harg2 : arg2.IsWhole)
  (arg3 : Memref sig .tc .vmem S1x128x1024 .bf16) (harg3 : arg3.IsWhole) (arg4 : Memref sig .tc .vmem S1x2048x256 .bf16) (harg4 : arg4.IsWhole)
  (arg5 : Memref sig .tc .vmem S1x2048x256 .bf16) (harg5 : arg5.IsWhole)
  (arg6 : Memref sig .tc .vmem S1x256x256 .bf16) (harg6 : arg6.IsWhole) (arg7 : Memref sig .tc .vmem S1x256x256 .bf16) (harg7 : arg7.IsWhole)
  (arg9 : Memref sig .tc .vmem S4x512x640 .f32) (arg10 : Memref sig .tc .vmem S4x512x640 .bf16)
  (arg11 : Memref sig .tc .vmem S4x512x128 .f32) (arg12 : Memref sig .tc .vmem S128x384 .f32)
  (x0 : Vec Ideal S16 .f32) (x1 : Vec Ideal S1x128x1024 .bf16) (x2 x3 : Vec Ideal S1x2048x256 .bf16) (x4 x5 : Vec Ideal S1x256x256 .bf16)

/-- The logits as the scratch holds them. -/
def gS : S4x512x640.Idx → EReal := View.canon (kernelRun0_A.sl.HS0_8 (F := Ideal) c i arg3 harg3 arg4 harg4 arg6 harg6 x1 x2 x4)
/-- The mask as its scratch holds it. -/
def gB : S128x384.Idx → EReal := View.canon (kernelRun0_A.sl.HS3_1 (F := Ideal) i)

/-- The first pass: every chunk stores its rows' maxima. -/
theorem okM_all : OkM (gS c i arg3 harg3 arg4 harg4 arg6 harg6 x1 x2 x4) (gB i) x0 (kernelRun0_A.sl.HS2_64 (F := Ideal) c i arg2 harg2 arg3 harg3 arg4 harg4 arg6 harg6 arg9 arg12 x0 x1 x2 x4) := by
  refine okM_step arg2 harg2 arg9 arg12 _ _ x0 3 15 (by decide) (by decide) _ ?_
  refine okM_step arg2 harg2 arg9 arg12 _ _ x0 3 14 (by decide) (by decide) _ ?_
  refine okM_step arg2 harg2 arg9 arg12 _ _ x0 3 13 (by decide) (by decide) _ ?_
  refine okM_step arg2 harg2 arg9 arg12 _ _ x0 3 12 (by decide) (by decide) _ ?_
  refine okM_step arg2 harg2 arg9 arg12 _ _ x0 3 11 (by decide) (by decide) _ ?_
  refine okM_step arg2 harg2 arg9 arg12 _ _ x0 3 10 (by decide) (by decide) _ ?_
  refine okM_step arg2 harg2 arg9 arg12 _ _ x0 3 9 (by decide) (by decide) _ ?_
  refine okM_step arg2 harg2 arg9 arg12 _ _ x0 3 8 (by decide) (by decide) _ ?_
  refine okM_step arg2 harg2 arg9 arg12 _ _ x0 3 7 (by decide) (by decide) _ ?_
  refine okM_step arg2 harg2 arg9 arg12 _ _ x0 3 6 (by decide) (by decide) _ ?_
  refine okM_step arg2 harg2 arg9 arg12 _ _ x0 3 5 (by decide) (by decide) _ ?_
  refine okM_step arg2 harg2 arg9 arg12 _ _ x0 3 4 (by decide) (by decide) _ ?_
  refine okM_step arg2 harg2 arg9 arg12 _ _ x0 3 3 (by decide) (by decide) _ ?_
  refine okM_step arg2 harg2 arg9 arg12 _ _ x0 3 2 (by decide) (by decide) _ ?_
  refine okM_step arg2 harg2 arg9 arg12 _ _ x0 3 1 (by decide) (by decide) _ ?_
  refine okM_step arg2 harg2 arg9 arg12 _ _ x0 3 0 (by decide) (by decide) _ ?_
  refine okM_step arg2 harg2 arg9 arg12 _ _ x0 2 15 (by decide) (by decide) _ ?_
  refine okM_step arg2 harg2 arg9 arg12 _ _ x0 2 14 (by decide) (by decide) _ ?_
  refine okM_step arg2 harg2 arg9 arg12 _ _ x0 2 13 (by decide) (by decide) _ ?_
  refine okM_step arg2 harg2 arg9 arg12 _ _ x0 2 12 (by decide) (by decide) _ ?_
  refine okM_step arg2 harg2 arg9 arg12 _ _ x0 2 11 (by decide) (by decide) _ ?_
  refine okM_step arg2 harg2 arg9 arg12 _ _ x0 2 10 (by decide) (by decide) _ ?_
  refine okM_step arg2 harg2 arg9 arg12 _ _ x0 2 9 (by decide) (by decide) _ ?_
  refine okM_step arg2 harg2 arg9 arg12 _ _ x0 2 8 (by decide) (by decide) _ ?_
  refine okM_step arg2 harg2 arg9 arg12 _ _ x0 2 7 (by decide) (by decide) _ ?_
  refine okM_step arg2 harg2 arg9 arg12 _ _ x0 2 6 (by decide) (by decide) _ ?_
  refine okM_step arg2 harg2 arg9 arg12 _ _ x0 2 5 (by decide) (by decide) _ ?_
  refine okM_step arg2 harg2 arg9 arg12 _ _ x0 2 4 (by decide) (by decide) _ ?_
  refine okM_step arg2 harg2 arg9 arg12 _ _ x0 2 3 (by decide) (by decide) _ ?_
  refine okM_step arg2 harg2 arg9 arg12 _ _ x0 2 2 (by decide) (by decide) _ ?_
  refine okM_step arg2 harg2 arg9 arg12 _ _ x0 2 1 (by decide) (by decide) _ ?_
  refine okM_step arg2 harg2 arg9 arg12 _ _ x0 2 0 (by decide) (by decide) _ ?_
  refine okM_step arg2 harg2 arg9 arg12 _ _ x0 1 15 (by decide) (by decide) _ ?_
  refine okM_step arg2 harg2 arg9 arg12 _ _ x0 1 14 (by decide) (by decide) _ ?_
  refine okM_step arg2 harg2 arg9 arg12 _ _ x0 1 13 (by decide) (by decide) _ ?_
  refine okM_step arg2 harg2 arg9 arg12 _ _ x0 1 12 (by decide) (by decide) _ ?_
  refine okM_step arg2 harg2 arg9 arg12 _ _ x0 1 11 (by decide) (by decide) _ ?_
  refine okM_step arg2 harg2 arg9 arg12 _ _ x0 1 10 (by decide) (by decide) _ ?_
  refine okM_step arg2 harg2 arg9 arg12 _ _ x0 1 9 (by decide) (by decide) _ ?_
  refine okM_step arg2 harg2 arg9 arg12 _ _ x0 1 8 (by decide) (by decide) _ ?_
  refine okM_step arg2 harg2 arg9 arg12 _ _ x0 1 7 (by decide) (by decide) _ ?_
  refine okM_step arg2 harg2 arg9 arg12 _ _ x0 1 6 (by decide) (by decide) _ ?_
  refine okM_step arg2 harg2 arg9 arg12 _ _ x0 1 5 (by decide) (by decide) _ ?_
  refine okM_step arg2 harg2 arg9 arg12 _ _ x0 1 4 (by decide) (by decide) _ ?_
  refine okM_step arg2 harg2 arg9 arg12 _ _ x0 1 3 (by decide) (by decide) _ ?_
  refine okM_step arg2 harg2 arg9 arg12 _ _ x0 1 2 (by decide) (by decide) _ ?_
  refine okM_step arg2 harg2 arg9 arg12 _ _ x0 1 1 (by decide) (by decide) _ ?_
  refine okM_step arg2 harg2 arg9 arg12 _ _ x0 1 0 (by decide) (by decide) _ ?_
  refine okM_step arg2 harg2 arg9 arg12 _ _ x0 0 15 (by decide) (by decide) _ ?_
  refine okM_step arg2 harg2 arg9 arg12 _ _ x0 0 14 (by decide) (by decide) _ ?_
  refine okM_step arg2 harg2 arg9 arg12 _ _ x0 0 13 (by decide) (by decide) _ ?_
  refine okM_step arg2 harg2 arg9 arg12 _ _ x0 0 12 (by decide) (by decide) _ ?_
  refine okM_step arg2 harg2 arg9 arg12 _ _ x0 0 11 (by decide) (by decide) _ ?_
  refine okM_step arg2 harg2 arg9 arg12 _ _ x0 0 10 (by decide) (by decide) _ ?_
  refine okM_step arg2 harg2 arg9 arg12 _ _ x0 0 9 (by decide) (by decide) _ ?_
  refine okM_step arg2 harg2 arg9 arg12 _ _ x0 0 8 (by decide) (by decide) _ ?_
  refine okM_step arg2 harg2 arg9 arg12 _ _ x0 0 7 (by decide) (by decide) _ ?_
  refine okM_step arg2 harg2 arg9 arg12 _ _ x0 0 6 (by decide) (by decide) _ ?_
  refine okM_step arg2 harg2 arg9 arg12 _ _ x0 0 5 (by decide) (by decide) _ ?_
  refine okM_step arg2 harg2 arg9 arg12 _ _ x0 0 4 (by decide) (by decide) _ ?_
  refine okM_step arg2 harg2 arg9 arg12 _ _ x0 0 3 (by decide) (by decide) _ ?_
  refine okM_step arg2 harg2 arg9 arg12 _ _ x0 0 2 (by decide) (by decide) _ ?_
  refine okM_step arg2 harg2 arg9 arg12 _ _ x0 0 1 (by decide) (by decide) _ ?_
  refine okM_step arg2 harg2 arg9 arg12 _ _ x0 0 0 (by decide) (by decide) _ ?_
  exact okM_nil _ _ _

/-- So the statistics hold the maxima. -/
theorem inv_0 : Inv (gS c i arg3 harg3 arg4 harg4 arg6 harg6 x1 x2 x4) (gB i) x0 (kernelRun0_A.sl.HS2_64 (F := Ideal) c i arg2 harg2 arg3 harg3 arg4 harg4 arg6 harg6 arg9 arg12 x0 x1 x2 x4) 0 :=
  inv_zero _ _ x0 _ (okM_all c i arg2 harg2 arg3 harg3 arg4 harg4 arg6 harg6 arg9 arg12 x0 x1 x2 x4) (by sl_kernel_rfl)

theorem inv_1 : Inv (gS c i arg3 harg3 arg4 harg4 arg6 harg6 x1 x2 x4) (gB i) x0 (kernelRun0_A.sl.HS2_65 (F := Ideal) c i arg2 harg2 arg3 harg3 arg4 harg4 arg6 harg6 arg9 arg11 arg12 x0 x1 x2 x4) 1 :=
  inv_step arg2 harg2 arg9 arg11 arg12 _ _ x0 0 0 (by decide) (by decide) _ (inv_0 c i arg2 harg2 arg3 harg3 arg4 harg4 arg6 harg6 arg9 arg12 x0 x1 x2 x4)

theorem inv_2 : Inv (gS c i arg3 harg3 arg4 harg4 arg6 harg6 x1 x2 x4) (gB i) x0 (kernelRun0_A.sl.HS2_66 (F := Ideal) c i arg2 harg2 arg3 harg3 arg4 harg4 arg6 harg6 arg9 arg11 arg12 x0 x1 x2 x4) 2 :=
  inv_step arg2 harg2 arg9 arg11 arg12 _ _ x0 0 1 (by decide) (by decide) _ (inv_1 c i arg2 harg2 arg3 harg3 arg4 harg4 arg6 harg6 arg9 arg11 arg12 x0 x1 x2 x4)

theorem inv_3 : Inv (gS c i arg3 harg3 arg4 harg4 arg6 harg6 x1 x2 x4) (gB i) x0 (kernelRun0_A.sl.HS2_67 (F := Ideal) c i arg2 harg2 arg3 harg3 arg4 harg4 arg6 harg6 arg9 arg11 arg12 x0 x1 x2 x4) 3 :=
  inv_step arg2 harg2 arg9 arg11 arg12 _ _ x0 0 2 (by decide) (by decide) _ (inv_2 c i arg2 harg2 arg3 harg3 arg4 harg4 arg6 harg6 arg9 arg11 arg12 x0 x1 x2 x4)

theorem inv_4 : Inv (gS c i arg3 harg3 arg4 harg4 arg6 harg6 x1 x2 x4) (gB i) x0 (kernelRun0_A.sl.HS2_68 (F := Ideal) c i arg2 harg2 arg3 harg3 arg4 harg4 arg6 harg6 arg9 arg11 arg12 x0 x1 x2 x4) 4 :=
  inv_step arg2 harg2 arg9 arg11 arg12 _ _ x0 0 3 (by decide) (by decide) _ (inv_3 c i arg2 harg2 arg3 harg3 arg4 harg4 arg6 harg6 arg9 arg11 arg12 x0 x1 x2 x4)

theorem inv_5 : Inv (gS c i arg3 harg3 arg4 harg4 arg6 harg6 x1 x2 x4) (gB i) x0 (kernelRun0_A.sl.HS2_69 (F := Ideal) c i arg2 harg2 arg3 harg3 arg4 harg4 arg6 harg6 arg9 arg11 arg12 x0 x1 x2 x4) 5 :=
  inv_step arg2 harg2 arg9 arg11 arg12 _ _ x0 0 4 (by decide) (by decide) _ (inv_4 c i arg2 harg2 arg3 harg3 arg4 harg4 arg6 harg6 arg9 arg11 arg12 x0 x1 x2 x4)

theorem inv_6 : Inv (gS c i arg3 harg3 arg4 harg4 arg6 harg6 x1 x2 x4) (gB i) x0 (kernelRun0_A.sl.HS2_70 (F := Ideal) c i arg2 harg2 arg3 harg3 arg4 harg4 arg6 harg6 arg9 arg11 arg12 x0 x1 x2 x4) 6 :=
  inv_step arg2 harg2 arg9 arg11 arg12 _ _ x0 0 5 (by decide) (by decide) _ (inv_5 c i arg2 harg2 arg3 harg3 arg4 harg4 arg6 harg6 arg9 arg11 arg12 x0 x1 x2 x4)

theorem inv_7 : Inv (gS c i arg3 harg3 arg4 harg4 arg6 harg6 x1 x2 x4) (gB i) x0 (kernelRun0_A.sl.HS2_71 (F := Ideal) c i arg2 harg2 arg3 harg3 arg4 harg4 arg6 harg6 arg9 arg11 arg12 x0 x1 x2 x4) 7 :=
  inv_step arg2 harg2 arg9 arg11 arg12 _ _ x0 0 6 (by decide) (by decide) _ (inv_6 c i arg2 harg2 arg3 harg3 arg4 harg4 arg6 harg6 arg9 arg11 arg12 x0 x1 x2 x4)

theorem inv_8 : Inv (gS c i arg3 harg3 arg4 harg4 arg6 harg6 x1 x2 x4) (gB i) x0 (kernelRun0_A.sl.HS2_72 (F := Ideal) c i arg2 harg2 arg3 harg3 arg4 harg4 arg6 harg6 arg9 arg11 arg12 x0 x1 x2 x4) 8 :=
  inv_step arg2 harg2 arg9 arg11 arg12 _ _ x0 0 7 (by decide) (by decide) _ (inv_7 c i arg2 harg2 arg3 harg3 arg4 harg4 arg6 harg6 arg9 arg11 arg12 x0 x1 x2 x4)

theorem inv_9 : Inv (gS c i arg3 harg3 arg4 harg4 arg6 harg6 x1 x2 x4) (gB i) x0 (kernelRun0_A.sl.HS2_73 (F := Ideal) c i arg2 harg2 arg3 harg3 arg4 harg4 arg6 harg6 arg9 arg11 arg12 x0 x1 x2 x4) 9 :=
  inv_step arg2 harg2 arg9 arg11 arg12 _ _ x0 0 8 (by decide) (by decide) _ (inv_8 c i arg2 harg2 arg3 harg3 arg4 harg4 arg6 harg6 arg9 arg11 arg12 x0 x1 x2 x4)

theorem inv_10 : Inv (gS c i arg3 harg3 arg4 harg4 arg6 harg6 x1 x2 x4) (gB i) x0 (kernelRun0_A.sl.HS2_74 (F := Ideal) c i arg2 harg2 arg3 harg3 arg4 harg4 arg6 harg6 arg9 arg11 arg12 x0 x1 x2 x4) 10 :=
  inv_step arg2 harg2 arg9 arg11 arg12 _ _ x0 0 9 (by decide) (by decide) _ (inv_9 c i arg2 harg2 arg3 harg3 arg4 harg4 arg6 harg6 arg9 arg11 arg12 x0 x1 x2 x4)

theorem inv_11 : Inv (gS c i arg3 harg3 arg4 harg4 arg6 harg6 x1 x2 x4) (gB i) x0 (kernelRun0_A.sl.HS2_75 (F := Ideal) c i arg2 harg2 arg3 harg3 arg4 harg4 arg6 harg6 arg9 arg11 arg12 x0 x1 x2 x4) 11 :=
  inv_step arg2 harg2 arg9 arg11 arg12 _ _ x0 0 10 (by decide) (by decide) _ (inv_10 c i arg2 harg2 arg3 harg3 arg4 harg4 arg6 harg6 arg9 arg11 arg12 x0 x1 x2 x4)

theorem inv_12 : Inv (gS c i arg3 harg3 arg4 harg4 arg6 harg6 x1 x2 x4) (gB i) x0 (kernelRun0_A.sl.HS2_76 (F := Ideal) c i arg2 harg2 arg3 harg3 arg4 harg4 arg6 harg6 arg9 arg11 arg12 x0 x1 x2 x4) 12 :=
  inv_step arg2 harg2 arg9 arg11 arg12 _ _ x0 0 11 (by decide) (by decide) _ (inv_11 c i arg2 harg2 arg3 harg3 arg4 harg4 arg6 harg6 arg9 arg11 arg12 x0 x1 x2 x4)

theorem inv_13 : Inv (gS c i arg3 harg3 arg4 harg4 arg6 harg6 x1 x2 x4) (gB i) x0 (kernelRun0_A.sl.HS2_77 (F := Ideal) c i arg2 harg2 arg3 harg3 arg4 harg4 arg6 harg6 arg9 arg11 arg12 x0 x1 x2 x4) 13 :=
  inv_step arg2 harg2 arg9 arg11 arg12 _ _ x0 0 12 (by decide) (by decide) _ (inv_12 c i arg2 harg2 arg3 harg3 arg4 harg4 arg6 harg6 arg9 arg11 arg12 x0 x1 x2 x4)

theorem inv_14 : Inv (gS c i arg3 harg3 arg4 harg4 arg6 harg6 x1 x2 x4) (gB i) x0 (kernelRun0_A.sl.HS2_78 (F := Ideal) c i arg2 harg2 arg3 harg3 arg4 harg4 arg6 harg6 arg9 arg11 arg12 x0 x1 x2 x4) 14 :=
  inv_step arg2 harg2 arg9 arg11 arg12 _ _ x0 0 13 (by decide) (by decide) _ (inv_13 c i arg2 harg2 arg3 harg3 arg4 harg4 arg6 harg6 arg9 arg11 arg12 x0 x1 x2 x4)

theorem inv_15 : Inv (gS c i arg3 harg3 arg4 harg4 arg6 harg6 x1 x2 x4) (gB i) x0 (kernelRun0_A.sl.HS2_79 (F := Ideal) c i arg2 harg2 arg3 harg3 arg4 harg4 arg6 harg6 arg9 arg11 arg12 x0 x1 x2 x4) 15 :=
  inv_step arg2 harg2 arg9 arg11 arg12 _ _ x0 0 14 (by decide) (by decide) _ (inv_14 c i arg2 harg2 arg3 harg3 arg4 harg4 arg6 harg6 arg9 arg11 arg12 x0 x1 x2 x4)

theorem inv_16 : Inv (gS c i arg3 harg3 arg4 harg4 arg6 harg6 x1 x2 x4) (gB i) x0 (kernelRun0_A.sl.HS2_80 (F := Ideal) c i arg2 harg2 arg3 harg3 arg4 harg4 arg6 harg6 arg9 arg11 arg12 x0 x1 x2 x4) 16 :=
  inv_step arg2 harg2 arg9 arg11 arg12 _ _ x0 0 15 (by decide) (by decide) _ (inv_15 c i arg2 harg2 arg3 harg3 arg4 harg4 arg6 harg6 arg9 arg11 arg12 x0 x1 x2 x4)

theorem inv_17 : Inv (gS c i arg3 harg3 arg4 harg4 arg6 harg6 x1 x2 x4) (gB i) x0 (kernelRun0_A.sl.HS2_81 (F := Ideal) c i arg2 harg2 arg3 harg3 arg4 harg4 arg6 harg6 arg9 arg11 arg12 x0 x1 x2 x4) 17 :=
  inv_step arg2 harg2 arg9 arg11 arg12 _ _ x0 1 0 (by decide) (by decide) _ (inv_16 c i arg2 harg2 arg3 harg3 arg4 harg4 arg6 harg6 arg9 arg11 arg12 x0 x1 x2 x4)

theorem inv_18 : Inv (gS c i arg3 harg3 arg4 harg4 arg6 harg6 x1 x2 x4) (gB i) x0 (kernelRun0_A.sl.HS2_82 (F := Ideal) c i arg2 harg2 arg3 harg3 arg4 harg4 arg6 harg6 arg9 arg11 arg12 x0 x1 x2 x4) 18 :=
  inv_step arg2 harg2 arg9 arg11 arg12 _ _ x0 1 1 (by decide) (by decide) _ (inv_17 c i arg2 harg2 arg3 harg3 arg4 harg4 arg6 harg6 arg9 arg11 arg12 x0 x1 x2 x4)

theorem inv_19 : Inv (gS c i arg3 harg3 arg4 harg4 arg6 harg6 x1 x2 x4) (gB i) x0 (kernelRun0_A.sl.HS2_83 (F := Ideal) c i arg2 harg2 arg3 harg3 arg4 harg4 arg6 harg6 arg9 arg11 arg12 x0 x1 x2 x4) 19 :=
  inv_step arg2 harg2 arg9 arg11 arg12 _ _ x0 1 2 (by decide) (by decide) _ (inv_18 c i arg2 harg2 arg3 harg3 arg4 harg4 arg6 harg6 arg9 arg11 arg12 x0 x1 x2 x4)

theorem inv_20 : Inv (gS c i arg3 harg3 arg4 harg4 arg6 harg6 x1 x2 x4) (gB i) x0 (kernelRun0_A.sl.HS2_84 (F := Ideal) c i arg2 harg2 arg3 harg3 arg4 harg4 arg6 harg6 arg9 arg11 arg12 x0 x1 x2 x4) 20 :=
  inv_step arg2 harg2 arg9 arg11 arg12 _ _ x0 1 3 (by decide) (by decide) _ (inv_19 c i arg2 harg2 arg3 harg3 arg4 harg4 arg6 harg6 arg9 arg11 arg12 x0 x1 x2 x4)

theorem inv_21 : Inv (gS c i arg3 harg3 arg4 harg4 arg6 harg6 x1 x2 x4) (gB i) x0 (kernelRun0_A.sl.HS2_85 (F := Ideal) c i arg2 harg2 arg3 harg3 arg4 harg4 arg6 harg6 arg9 arg11 arg12 x0 x1 x2 x4) 21 :=
  inv_step arg2 harg2 arg9 arg11 arg12 _ _ x0 1 4 (by decide) (by decide) _ (inv_20 c i arg2 harg2 arg3 harg3 arg4 harg4 arg6 harg6 arg9 arg11 arg12 x0 x1 x2 x4)

theorem inv_22 : Inv (gS c i arg3 harg3 arg4 harg4 arg6 harg6 x1 x2 x4) (gB i) x0 (kernelRun0_A.sl.HS2_86 (F := Ideal) c i arg2 harg2 arg3 harg3 arg4 harg4 arg6 harg6 arg9 arg11 arg12 x0 x1 x2 x4) 22 :=
  inv_step arg2 harg2 arg9 arg11 arg12 _ _ x0 1 5 (by decide) (by decide) _ (inv_21 c i arg2 harg2 arg3 harg3 arg4 harg4 arg6 harg6 arg9 arg11 arg12 x0 x1 x2 x4)

theorem inv_23 : Inv (gS c i arg3 harg3 arg4 harg4 arg6 harg6 x1 x2 x4) (gB i) x0 (kernelRun0_A.sl.HS2_87 (F := Ideal) c i arg2 harg2 arg3 harg3 arg4 harg4 arg6 harg6 arg9 arg11 arg12 x0 x1 x2 x4) 23 :=
  inv_step arg2 harg2 arg9 arg11 arg12 _ _ x0 1 6 (by decide) (by decide) _ (inv_22 c i arg2 harg2 arg3 harg3 arg4 harg4 arg6 harg6 arg9 arg11 arg12 x0 x1 x2 x4)

theorem inv_24 : Inv (gS c i arg3 harg3 arg4 harg4 arg6 harg6 x1 x2 x4) (gB i) x0 (kernelRun0_A.sl.HS2_88 (F := Ideal) c i arg2 harg2 arg3 harg3 arg4 harg4 arg6 harg6 arg9 arg11 arg12 x0 x1 x2 x4) 24 :=
  inv_step arg2 harg2 arg9 arg11 arg12 _ _ x0 1 7 (by decide) (by decide) _ (inv_23 c i arg2 harg2 arg3 harg3 arg4 harg4 arg6 harg6 arg9 arg11 arg12 x0 x1 x2 x4)

theorem inv_25 : Inv (gS c i arg3 harg3 arg4 harg4 arg6 harg6 x1 x2 x4) (gB i) x0 (kernelRun0_A.sl.HS2_89 (F := Ideal) c i arg2 harg2 arg3 harg3 arg4 harg4 arg6 harg6 arg9 arg11 arg12 x0 x1 x2 x4) 25 :=
  inv_step arg2 harg2 arg9 arg11 arg12 _ _ x0 1 8 (by decide) (by decide) _ (inv_24 c i arg2 harg2 arg3 harg3 arg4 harg4 arg6 harg6 arg9 arg11 arg12 x0 x1 x2 x4)

theorem inv_26 : Inv (gS c i arg3 harg3 arg4 harg4 arg6 harg6 x1 x2 x4) (gB i) x0 (kernelRun0_A.sl.HS2_90 (F := Ideal) c i arg2 harg2 arg3 harg3 arg4 harg4 arg6 harg6 arg9 arg11 arg12 x0 x1 x2 x4) 26 :=
  inv_step arg2 harg2 arg9 arg11 arg12 _ _ x0 1 9 (by decide) (by decide) _ (inv_25 c i arg2 harg2 arg3 harg3 arg4 harg4 arg6 harg6 arg9 arg11 arg12 x0 x1 x2 x4)

theorem inv_27 : Inv (gS c i arg3 harg3 arg4 harg4 arg6 harg6 x1 x2 x4) (gB i) x0 (kernelRun0_A.sl.HS2_91 (F := Ideal) c i arg2 harg2 arg3 harg3 arg4 harg4 arg6 harg6 arg9 arg11 arg12 x0 x1 x2 x4) 27 :=
  inv_step arg2 harg2 arg9 arg11 arg12 _ _ x0 1 10 (by decide) (by decide) _ (inv_26 c i arg2 harg2 arg3 harg3 arg4 harg4 arg6 harg6 arg9 arg11 arg12 x0 x1 x2 x4)

theorem inv_28 : Inv (gS c i arg3 harg3 arg4 harg4 arg6 harg6 x1 x2 x4) (gB i) x0 (kernelRun0_A.sl.HS2_92 (F := Ideal) c i arg2 harg2 arg3 harg3 arg4 harg4 arg6 harg6 arg9 arg11 arg12 x0 x1 x2 x4) 28 :=
  inv_step arg2 harg2 arg9 arg11 arg12 _ _ x0 1 11 (by decide) (by decide) _ (inv_27 c i arg2 harg2 arg3 harg3 arg4 harg4 arg6 harg6 arg9 arg11 arg12 x0 x1 x2 x4)

theorem inv_29 : Inv (gS c i arg3 harg3 arg4 harg4 arg6 harg6 x1 x2 x4) (gB i) x0 (kernelRun0_A.sl.HS2_93 (F := Ideal) c i arg2 harg2 arg3 harg3 arg4 harg4 arg6 harg6 arg9 arg11 arg12 x0 x1 x2 x4) 29 :=
  inv_step arg2 harg2 arg9 arg11 arg12 _ _ x0 1 12 (by decide) (by decide) _ (inv_28 c i arg2 harg2 arg3 harg3 arg4 harg4 arg6 harg6 arg9 arg11 arg12 x0 x1 x2 x4)

theorem inv_30 : Inv (gS c i arg3 harg3 arg4 harg4 arg6 harg6 x1 x2 x4) (gB i) x0 (kernelRun0_A.sl.HS2_94 (F := Ideal) c i arg2 harg2 arg3 harg3 arg4 harg4 arg6 harg6 arg9 arg11 arg12 x0 x1 x2 x4) 30 :=
  inv_step arg2 harg2 arg9 arg11 arg12 _ _ x0 1 13 (by decide) (by decide) _ (inv_29 c i arg2 harg2 arg3 harg3 arg4 harg4 arg6 harg6 arg9 arg11 arg12 x0 x1 x2 x4)

theorem inv_31 : Inv (gS c i arg3 harg3 arg4 harg4 arg6 harg6 x1 x2 x4) (gB i) x0 (kernelRun0_A.sl.HS2_95 (F := Ideal) c i arg2 harg2 arg3 harg3 arg4 harg4 arg6 harg6 arg9 arg11 arg12 x0 x1 x2 x4) 31 :=
  inv_step arg2 harg2 arg9 arg11 arg12 _ _ x0 1 14 (by decide) (by decide) _ (inv_30 c i arg2 harg2 arg3 harg3 arg4 harg4 arg6 harg6 arg9 arg11 arg12 x0 x1 x2 x4)

theorem inv_32 : Inv (gS c i arg3 harg3 arg4 harg4 arg6 harg6 x1 x2 x4) (gB i) x0 (kernelRun0_A.sl.HS2_96 (F := Ideal) c i arg2 harg2 arg3 harg3 arg4 harg4 arg6 harg6 arg9 arg11 arg12 x0 x1 x2 x4) 32 :=
  inv_step arg2 harg2 arg9 arg11 arg12 _ _ x0 1 15 (by decide) (by decide) _ (inv_31 c i arg2 harg2 arg3 harg3 arg4 harg4 arg6 harg6 arg9 arg11 arg12 x0 x1 x2 x4)

theorem inv_33 : Inv (gS c i arg3 harg3 arg4 harg4 arg6 harg6 x1 x2 x4) (gB i) x0 (kernelRun0_A.sl.HS2_97 (F := Ideal) c i arg2 harg2 arg3 harg3 arg4 harg4 arg6 harg6 arg9 arg11 arg12 x0 x1 x2 x4) 33 :=
  inv_step arg2 harg2 arg9 arg11 arg12 _ _ x0 2 0 (by decide) (by decide) _ (inv_32 c i arg2 harg2 arg3 harg3 arg4 harg4 arg6 harg6 arg9 arg11 arg12 x0 x1 x2 x4)

theorem inv_34 : Inv (gS c i arg3 harg3 arg4 harg4 arg6 harg6 x1 x2 x4) (gB i) x0 (kernelRun0_A.sl.HS2_98 (F := Ideal) c i arg2 harg2 arg3 harg3 arg4 harg4 arg6 harg6 arg9 arg11 arg12 x0 x1 x2 x4) 34 :=
  inv_step arg2 harg2 arg9 arg11 arg12 _ _ x0 2 1 (by decide) (by decide) _ (inv_33 c i arg2 harg2 arg3 harg3 arg4 harg4 arg6 harg6 arg9 arg11 arg12 x0 x1 x2 x4)

theorem inv_35 : Inv (gS c i arg3 harg3 arg4 harg4 arg6 harg6 x1 x2 x4) (gB i) x0 (kernelRun0_A.sl.HS2_99 (F := Ideal) c i arg2 harg2 arg3 harg3 arg4 harg4 arg6 harg6 arg9 arg11 arg12 x0 x1 x2 x4) 35 :=
  inv_step arg2 harg2 arg9 arg11 arg12 _ _ x0 2 2 (by decide) (by decide) _ (inv_34 c i arg2 harg2 arg3 harg3 arg4 harg4 arg6 harg6 arg9 arg11 arg12 x0 x1 x2 x4)

theorem inv_36 : Inv (gS c i arg3 harg3 arg4 harg4 arg6 harg6 x1 x2 x4) (gB i) x0 (kernelRun0_A.sl.HS2_100 (F := Ideal) c i arg2 harg2 arg3 harg3 arg4 harg4 arg6 harg6 arg9 arg11 arg12 x0 x1 x2 x4) 36 :=
  inv_step arg2 harg2 arg9 arg11 arg12 _ _ x0 2 3 (by decide) (by decide) _ (inv_35 c i arg2 harg2 arg3 harg3 arg4 harg4 arg6 harg6 arg9 arg11 arg12 x0 x1 x2 x4)

theorem inv_37 : Inv (gS c i arg3 harg3 arg4 harg4 arg6 harg6 x1 x2 x4) (gB i) x0 (kernelRun0_A.sl.HS2_101 (F := Ideal) c i arg2 harg2 arg3 harg3 arg4 harg4 arg6 harg6 arg9 arg11 arg12 x0 x1 x2 x4) 37 :=
  inv_step arg2 harg2 arg9 arg11 arg12 _ _ x0 2 4 (by decide) (by decide) _ (inv_36 c i arg2 harg2 arg3 harg3 arg4 harg4 arg6 harg6 arg9 arg11 arg12 x0 x1 x2 x4)

theorem inv_38 : Inv (gS c i arg3 harg3 arg4 harg4 arg6 harg6 x1 x2 x4) (gB i) x0 (kernelRun0_A.sl.HS2_102 (F := Ideal) c i arg2 harg2 arg3 harg3 arg4 harg4 arg6 harg6 arg9 arg11 arg12 x0 x1 x2 x4) 38 :=
  inv_step arg2 harg2 arg9 arg11 arg12 _ _ x0 2 5 (by decide) (by decide) _ (inv_37 c i arg2 harg2 arg3 harg3 arg4 harg4 arg6 harg6 arg9 arg11 arg12 x0 x1 x2 x4)

theorem inv_39 : Inv (gS c i arg3 harg3 arg4 harg4 arg6 harg6 x1 x2 x4) (gB i) x0 (kernelRun0_A.sl.HS2_103 (F := Ideal) c i arg2 harg2 arg3 harg3 arg4 harg4 arg6 harg6 arg9 arg11 arg12 x0 x1 x2 x4) 39 :=
  inv_step arg2 harg2 arg9 arg11 arg12 _ _ x0 2 6 (by decide) (by decide) _ (inv_38 c i arg2 harg2 arg3 harg3 arg4 harg4 arg6 harg6 arg9 arg11 arg12 x0 x1 x2 x4)

theorem inv_40 : Inv (gS c i arg3 harg3 arg4 harg4 arg6 harg6 x1 x2 x4) (gB i) x0 (kernelRun0_A.sl.HS2_104 (F := Ideal) c i arg2 harg2 arg3 harg3 arg4 harg4 arg6 harg6 arg9 arg11 arg12 x0 x1 x2 x4) 40 :=
  inv_step arg2 harg2 arg9 arg11 arg12 _ _ x0 2 7 (by decide) (by decide) _ (inv_39 c i arg2 harg2 arg3 harg3 arg4 harg4 arg6 harg6 arg9 arg11 arg12 x0 x1 x2 x4)

theorem inv_41 : Inv (gS c i arg3 harg3 arg4 harg4 arg6 harg6 x1 x2 x4) (gB i) x0 (kernelRun0_A.sl.HS2_105 (F := Ideal) c i arg2 harg2 arg3 harg3 arg4 harg4 arg6 harg6 arg9 arg11 arg12 x0 x1 x2 x4) 41 :=
  inv_step arg2 harg2 arg9 arg11 arg12 _ _ x0 2 8 (by decide) (by decide) _ (inv_40 c i arg2 harg2 arg3 harg3 arg4 harg4 arg6 harg6 arg9 arg11 arg12 x0 x1 x2 x4)

theorem inv_42 : Inv (gS c i arg3 harg3 arg4 harg4 arg6 harg6 x1 x2 x4) (gB i) x0 (kernelRun0_A.sl.HS2_106 (F := Ideal) c i arg2 harg2 arg3 harg3 arg4 harg4 arg6 harg6 arg9 arg11 arg12 x0 x1 x2 x4) 42 :=
  inv_step arg2 harg2 arg9 arg11 arg12 _ _ x0 2 9 (by decide) (by decide) _ (inv_41 c i arg2 harg2 arg3 harg3 arg4 harg4 arg6 harg6 arg9 arg11 arg12 x0 x1 x2 x4)

theorem inv_43 : Inv (gS c i arg3 harg3 arg4 harg4 arg6 harg6 x1 x2 x4) (gB i) x0 (kernelRun0_A.sl.HS2_107 (F := Ideal) c i arg2 harg2 arg3 harg3 arg4 harg4 arg6 harg6 arg9 arg11 arg12 x0 x1 x2 x4) 43 :=
  inv_step arg2 harg2 arg9 arg11 arg12 _ _ x0 2 10 (by decide) (by decide) _ (inv_42 c i arg2 harg2 arg3 harg3 arg4 harg4 arg6 harg6 arg9 arg11 arg12 x0 x1 x2 x4)

theorem inv_44 : Inv (gS c i arg3 harg3 arg4 harg4 arg6 harg6 x1 x2 x4) (gB i) x0 (kernelRun0_A.sl.HS2_108 (F := Ideal) c i arg2 harg2 arg3 harg3 arg4 harg4 arg6 harg6 arg9 arg11 arg12 x0 x1 x2 x4) 44 :=
  inv_step arg2 harg2 arg9 arg11 arg12 _ _ x0 2 11 (by decide) (by decide) _ (inv_43 c i arg2 harg2 arg3 harg3 arg4 harg4 arg6 harg6 arg9 arg11 arg12 x0 x1 x2 x4)

theorem inv_45 : Inv (gS c i arg3 harg3 arg4 harg4 arg6 harg6 x1 x2 x4) (gB i) x0 (kernelRun0_A.sl.HS2_109 (F := Ideal) c i arg2 harg2 arg3 harg3 arg4 harg4 arg6 harg6 arg9 arg11 arg12 x0 x1 x2 x4) 45 :=
  inv_step arg2 harg2 arg9 arg11 arg12 _ _ x0 2 12 (by decide) (by decide) _ (inv_44 c i arg2 harg2 arg3 harg3 arg4 harg4 arg6 harg6 arg9 arg11 arg12 x0 x1 x2 x4)

theorem inv_46 : Inv (gS c i arg3 harg3 arg4 harg4 arg6 harg6 x1 x2 x4) (gB i) x0 (kernelRun0_A.sl.HS2_110 (F := Ideal) c i arg2 harg2 arg3 harg3 arg4 harg4 arg6 harg6 arg9 arg11 arg12 x0 x1 x2 x4) 46 :=
  inv_step arg2 harg2 arg9 arg11 arg12 _ _ x0 2 13 (by decide) (by decide) _ (inv_45 c i arg2 harg2 arg3 harg3 arg4 harg4 arg6 harg6 arg9 arg11 arg12 x0 x1 x2 x4)

theorem inv_47 : Inv (gS c i arg3 harg3 arg4 harg4 arg6 harg6 x1 x2 x4) (gB i) x0 (kernelRun0_A.sl.HS2_111 (F := Ideal) c i arg2 harg2 arg3 harg3 arg4 harg4 arg6 harg6 arg9 arg11 arg12 x0 x1 x2 x4) 47 :=
  inv_step arg2 harg2 arg9 arg11 arg12 _ _ x0 2 14 (by decide) (by decide) _ (inv_46 c i arg2 harg2 arg3 harg3 arg4 harg4 arg6 harg6 arg9 arg11 arg12 x0 x1 x2 x4)

theorem inv_48 : Inv (gS c i arg3 harg3 arg4 harg4 arg6 harg6 x1 x2 x4) (gB i) x0 (kernelRun0_A.sl.HS2_112 (F := Ideal) c i arg2 harg2 arg3 harg3 arg4 harg4 arg6 harg6 arg9 arg11 arg12 x0 x1 x2 x4) 48 :=
  inv_step arg2 harg2 arg9 arg11 arg12 _ _ x0 2 15 (by decide) (by decide) _ (inv_47 c i arg2 harg2 arg3 harg3 arg4 harg4 arg6 harg6 arg9 arg11 arg12 x0 x1 x2 x4)

theorem inv_49 : Inv (gS c i arg3 harg3 arg4 harg4 arg6 harg6 x1 x2 x4) (gB i) x0 (kernelRun0_A.sl.HS2_113 (F := Ideal) c i arg2 harg2 arg3 harg3 arg4 harg4 arg6 harg6 arg9 arg11 arg12 x0 x1 x2 x4) 49 :=
  inv_step arg2 harg2 arg9 arg11 arg12 _ _ x0 3 0 (by decide) (by decide) _ (inv_48 c i arg2 harg2 arg3 harg3 arg4 harg4 arg6 harg6 arg9 arg11 arg12 x0 x1 x2 x4)

theorem inv_50 : Inv (gS c i arg3 harg3 arg4 harg4 arg6 harg6 x1 x2 x4) (gB i) x0 (kernelRun0_A.sl.HS2_114 (F := Ideal) c i arg2 harg2 arg3 harg3 arg4 harg4 arg6 harg6 arg9 arg11 arg12 x0 x1 x2 x4) 50 :=
  inv_step arg2 harg2 arg9 arg11 arg12 _ _ x0 3 1 (by decide) (by decide) _ (inv_49 c i arg2 harg2 arg3 harg3 arg4 harg4 arg6 harg6 arg9 arg11 arg12 x0 x1 x2 x4)

theorem inv_51 : Inv (gS c i arg3 harg3 arg4 harg4 arg6 harg6 x1 x2 x4) (gB i) x0 (kernelRun0_A.sl.HS2_115 (F := Ideal) c i arg2 harg2 arg3 harg3 arg4 harg4 arg6 harg6 arg9 arg11 arg12 x0 x1 x2 x4) 51 :=
  inv_step arg2 harg2 arg9 arg11 arg12 _ _ x0 3 2 (by decide) (by decide) _ (inv_50 c i arg2 harg2 arg3 harg3 arg4 harg4 arg6 harg6 arg9 arg11 arg12 x0 x1 x2 x4)

theorem inv_52 : Inv (gS c i arg3 harg3 arg4 harg4 arg6 harg6 x1 x2 x4) (gB i) x0 (kernelRun0_A.sl.HS2_116 (F := Ideal) c i arg2 harg2 arg3 harg3 arg4 harg4 arg6 harg6 arg9 arg11 arg12 x0 x1 x2 x4) 52 :=
  inv_step arg2 harg2 arg9 arg11 arg12 _ _ x0 3 3 (by decide) (by decide) _ (inv_51 c i arg2 harg2 arg3 harg3 arg4 harg4 arg6 harg6 arg9 arg11 arg12 x0 x1 x2 x4)

theorem inv_53 : Inv (gS c i arg3 harg3 arg4 harg4 arg6 harg6 x1 x2 x4) (gB i) x0 (kernelRun0_A.sl.HS2_117 (F := Ideal) c i arg2 harg2 arg3 harg3 arg4 harg4 arg6 harg6 arg9 arg11 arg12 x0 x1 x2 x4) 53 :=
  inv_step arg2 harg2 arg9 arg11 arg12 _ _ x0 3 4 (by decide) (by decide) _ (inv_52 c i arg2 harg2 arg3 harg3 arg4 harg4 arg6 harg6 arg9 arg11 arg12 x0 x1 x2 x4)

theorem inv_54 : Inv (gS c i arg3 harg3 arg4 harg4 arg6 harg6 x1 x2 x4) (gB i) x0 (kernelRun0_A.sl.HS2_118 (F := Ideal) c i arg2 harg2 arg3 harg3 arg4 harg4 arg6 harg6 arg9 arg11 arg12 x0 x1 x2 x4) 54 :=
  inv_step arg2 harg2 arg9 arg11 arg12 _ _ x0 3 5 (by decide) (by decide) _ (inv_53 c i arg2 harg2 arg3 harg3 arg4 harg4 arg6 harg6 arg9 arg11 arg12 x0 x1 x2 x4)

theorem inv_55 : Inv (gS c i arg3 harg3 arg4 harg4 arg6 harg6 x1 x2 x4) (gB i) x0 (kernelRun0_A.sl.HS2_119 (F := Ideal) c i arg2 harg2 arg3 harg3 arg4 harg4 arg6 harg6 arg9 arg11 arg12 x0 x1 x2 x4) 55 :=
  inv_step arg2 harg2 arg9 arg11 arg12 _ _ x0 3 6 (by decide) (by decide) _ (inv_54 c i arg2 harg2 arg3 harg3 arg4 harg4 arg6 harg6 arg9 arg11 arg12 x0 x1 x2 x4)

theorem inv_56 : Inv (gS c i arg3 harg3 arg4 harg4 arg6 harg6 x1 x2 x4) (gB i) x0 (kernelRun0_A.sl.HS2_120 (F := Ideal) c i arg2 harg2 arg3 harg3 arg4 harg4 arg6 harg6 arg9 arg11 arg12 x0 x1 x2 x4) 56 :=
  inv_step arg2 harg2 arg9 arg11 arg12 _ _ x0 3 7 (by decide) (by decide) _ (inv_55 c i arg2 harg2 arg3 harg3 arg4 harg4 arg6 harg6 arg9 arg11 arg12 x0 x1 x2 x4)

theorem inv_57 : Inv (gS c i arg3 harg3 arg4 harg4 arg6 harg6 x1 x2 x4) (gB i) x0 (kernelRun0_A.sl.HS2_121 (F := Ideal) c i arg2 harg2 arg3 harg3 arg4 harg4 arg6 harg6 arg9 arg11 arg12 x0 x1 x2 x4) 57 :=
  inv_step arg2 harg2 arg9 arg11 arg12 _ _ x0 3 8 (by decide) (by decide) _ (inv_56 c i arg2 harg2 arg3 harg3 arg4 harg4 arg6 harg6 arg9 arg11 arg12 x0 x1 x2 x4)

theorem inv_58 : Inv (gS c i arg3 harg3 arg4 harg4 arg6 harg6 x1 x2 x4) (gB i) x0 (kernelRun0_A.sl.HS2_122 (F := Ideal) c i arg2 harg2 arg3 harg3 arg4 harg4 arg6 harg6 arg9 arg11 arg12 x0 x1 x2 x4) 58 :=
  inv_step arg2 harg2 arg9 arg11 arg12 _ _ x0 3 9 (by decide) (by decide) _ (inv_57 c i arg2 harg2 arg3 harg3 arg4 harg4 arg6 harg6 arg9 arg11 arg12 x0 x1 x2 x4)

theorem inv_59 : Inv (gS c i arg3 harg3 arg4 harg4 arg6 harg6 x1 x2 x4) (gB i) x0 (kernelRun0_A.sl.HS2_123 (F := Ideal) c i arg2 harg2 arg3 harg3 arg4 harg4 arg6 harg6 arg9 arg11 arg12 x0 x1 x2 x4) 59 :=
  inv_step arg2 harg2 arg9 arg11 arg12 _ _ x0 3 10 (by decide) (by decide) _ (inv_58 c i arg2 harg2 arg3 harg3 arg4 harg4 arg6 harg6 arg9 arg11 arg12 x0 x1 x2 x4)

theorem inv_60 : Inv (gS c i arg3 harg3 arg4 harg4 arg6 harg6 x1 x2 x4) (gB i) x0 (kernelRun0_A.sl.HS2_124 (F := Ideal) c i arg2 harg2 arg3 harg3 arg4 harg4 arg6 harg6 arg9 arg11 arg12 x0 x1 x2 x4) 60 :=
  inv_step arg2 harg2 arg9 arg11 arg12 _ _ x0 3 11 (by decide) (by decide) _ (inv_59 c i arg2 harg2 arg3 harg3 arg4 harg4 arg6 harg6 arg9 arg11 arg12 x0 x1 x2 x4)

theorem inv_61 : Inv (gS c i arg3 harg3 arg4 harg4 arg6 harg6 x1 x2 x4) (gB i) x0 (kernelRun0_A.sl.HS2_125 (F := Ideal) c i arg2 harg2 arg3 harg3 arg4 harg4 arg6 harg6 arg9 arg11 arg12 x0 x1 x2 x4) 61 :=
  inv_step arg2 harg2 arg9 arg11 arg12 _ _ x0 3 12 (by decide) (by decide) _ (inv_60 c i arg2 harg2 arg3 harg3 arg4 harg4 arg6 harg6 arg9 arg11 arg12 x0 x1 x2 x4)

theorem inv_62 : Inv (gS c i arg3 harg3 arg4 harg4 arg6 harg6 x1 x2 x4) (gB i) x0 (kernelRun0_A.sl.HS2_126 (F := Ideal) c i arg2 harg2 arg3 harg3 arg4 harg4 arg6 harg6 arg9 arg11 arg12 x0 x1 x2 x4) 62 :=
  inv_step arg2 harg2 arg9 arg11 arg12 _ _ x0 3 13 (by decide) (by decide) _ (inv_61 c i arg2 harg2 arg3 harg3 arg4 harg4 arg6 harg6 arg9 arg11 arg12 x0 x1 x2 x4)

theorem inv_63 : Inv (gS c i arg3 harg3 arg4 harg4 arg6 harg6 x1 x2 x4) (gB i) x0 (kernelRun0_A.sl.HS2_127 (F := Ideal) c i arg2 harg2 arg3 harg3 arg4 harg4 arg6 harg6 arg9 arg11 arg12 x0 x1 x2 x4) 63 :=
  inv_step arg2 harg2 arg9 arg11 arg12 _ _ x0 3 14 (by decide) (by decide) _ (inv_62 c i arg2 harg2 arg3 harg3 arg4 harg4 arg6 harg6 arg9 arg11 arg12 x0 x1 x2 x4)

theorem inv_64 : Inv (gS c i arg3 harg3 arg4 harg4 arg6 harg6 x1 x2 x4) (gB i) x0 (kernelRun0_A.sl.HS2_128 (F := Ideal) c i arg2 harg2 arg3 harg3 arg4 harg4 arg6 harg6 arg9 arg11 arg12 x0 x1 x2 x4) 64 :=
  inv_step arg2 harg2 arg9 arg11 arg12 _ _ x0 3 15 (by decide) (by decide) _ (inv_63 c i arg2 harg2 arg3 harg3 arg4 harg4 arg6 harg6 arg9 arg11 arg12 x0 x1 x2 x4)

/-- The second pass: every chunk stores its exponentials. -/
theorem okP_all : OkP (gS c i arg3 harg3 arg4 harg4 arg6 harg6 x1 x2 x4) (gB i) x0 (kernelRun0_A.sl.HS1_320 (F := Ideal) c i arg2 harg2 arg3 harg3 arg4 harg4 arg6 harg6 arg9 arg11 arg12 x0 x1 x2 x4) := by
  refine okP_step arg9 arg11 arg12 _ _ x0 3 15 (by decide) (by decide) _ (inv_63 c i arg2 harg2 arg3 harg3 arg4 harg4 arg6 harg6 arg9 arg11 arg12 x0 x1 x2 x4) _ ?_
  refine okP_step arg9 arg11 arg12 _ _ x0 3 14 (by decide) (by decide) _ (inv_62 c i arg2 harg2 arg3 harg3 arg4 harg4 arg6 harg6 arg9 arg11 arg12 x0 x1 x2 x4) _ ?_
  refine okP_step arg9 arg11 arg12 _ _ x0 3 13 (by decide) (by decide) _ (inv_61 c i arg2 harg2 arg3 harg3 arg4 harg4 arg6 harg6 arg9 arg11 arg12 x0 x1 x2 x4) _ ?_
  refine okP_step arg9 arg11 arg12 _ _ x0 3 12 (by decide) (by decide) _ (inv_60 c i arg2 harg2 arg3 harg3 arg4 harg4 arg6 harg6 arg9 arg11 arg12 x0 x1 x2 x4) _ ?_
  refine okP_step arg9 arg11 arg12 _ _ x0 3 11 (by decide) (by decide) _ (inv_59 c i arg2 harg2 arg3 harg3 arg4 harg4 arg6 harg6 arg9 arg11 arg12 x0 x1 x2 x4) _ ?_
  refine okP_step arg9 arg11 arg12 _ _ x0 3 10 (by decide) (by decide) _ (inv_58 c i arg2 harg2 arg3 harg3 arg4 harg4 arg6 harg6 arg9 arg11 arg12 x0 x1 x2 x4) _ ?_
  refine okP_step arg9 arg11 arg12 _ _ x0 3 9 (by decide) (by decide) _ (inv_57 c i arg2 harg2 arg3 harg3 arg4 harg4 arg6 harg6 arg9 arg11 arg12 x0 x1 x2 x4) _ ?_
  refine okP_step arg9 arg11 arg12 _ _ x0 3 8 (by decide) (by decide) _ (inv_56 c i arg2 harg2 arg3 harg3 arg4 harg4 arg6 harg6 arg9 arg11 arg12 x0 x1 x2 x4) _ ?_
  refine okP_step arg9 arg11 arg12 _ _ x0 3 7 (by decide) (by decide) _ (inv_55 c i arg2 harg2 arg3 harg3 arg4 harg4 arg6 harg6 arg9 arg11 arg12 x0 x1 x2 x4) _ ?_
  refine okP_step arg9 arg11 arg12 _ _ x0 3 6 (by decide) (by decide) _ (inv_54 c i arg2 harg2 arg3 harg3 arg4 harg4 arg6 harg6 arg9 arg11 arg12 x0 x1 x2 x4) _ ?_
  refine okP_step arg9 arg11 arg12 _ _ x0 3 5 (by decide) (by decide) _ (inv_53 c i arg2 harg2 arg3 harg3 arg4 harg4 arg6 harg6 arg9 arg11 arg12 x0 x1 x2 x4) _ ?_
  refine okP_step arg9 arg11 arg12 _ _ x0 3 4 (by decide) (by decide) _ (inv_52 c i arg2 harg2 arg3 harg3 arg4 harg4 arg6 harg6 arg9 arg11 arg12 x0 x1 x2 x4) _ ?_
  refine okP_step arg9 arg11 arg12 _ _ x0 3 3 (by decide) (by decide) _ (inv_51 c i arg2 harg2 arg3 harg3 arg4 harg4 arg6 harg6 arg9 arg11 arg12 x0 x1 x2 x4) _ ?_
  refine okP_step arg9 arg11 arg12 _ _ x0 3 2 (by decide) (by decide) _ (inv_50 c i arg2 harg2 arg3 harg3 arg4 harg4 arg6 harg6 arg9 arg11 arg12 x0 x1 x2 x4) _ ?_
  refine okP_step arg9 arg11 arg12 _ _ x0 3 1 (by decide) (by decide) _ (inv_49 c i arg2 harg2 arg3 harg3 arg4 harg4 arg6 harg6 arg9 arg11 arg12 x0 x1 x2 x4) _ ?_
  refine okP_step arg9 arg11 arg12 _ _ x0 3 0 (by decide) (by decide) _ (inv_48 c i arg2 harg2 arg3 harg3 arg4 harg4 arg6 harg6 arg9 arg11 arg12 x0 x1 x2 x4) _ ?_
  refine okP_step arg9 arg11 arg12 _ _ x0 2 15 (by decide) (by decide) _ (inv_47 c i arg2 harg2 arg3 harg3 arg4 harg4 arg6 harg6 arg9 arg11 arg12 x0 x1 x2 x4) _ ?_
  refine okP_step arg9 arg11 arg12 _ _ x0 2 14 (by decide) (by decide) _ (inv_46 c i arg2 harg2 arg3 harg3 arg4 harg4 arg6 harg6 arg9 arg11 arg12 x0 x1 x2 x4) _ ?_
  refine okP_step arg9 arg11 arg12 _ _ x0 2 13 (by decide) (by decide) _ (inv_45 c i arg2 harg2 arg3 harg3 arg4 harg4 arg6 harg6 arg9 arg11 arg12 x0 x1 x2 x4) _ ?_
  refine okP_step arg9 arg11 arg12 _ _ x0 2 12 (by decide) (by decide) _ (inv_44 c i arg2 harg2 arg3 harg3 arg4 harg4 arg6 harg6 arg9 arg11 arg12 x0 x1 x2 x4) _ ?_
  refine okP_step arg9 arg11 arg12 _ _ x0 2 11 (by decide) (by decide) _ (inv_43 c i arg2 harg2 arg3 harg3 arg4 harg4 arg6 harg6 arg9 arg11 arg12 x0 x1 x2 x4) _ ?_
  refine okP_step arg9 arg11 arg12 _ _ x0 2 10 (by decide) (by decide) _ (inv_42 c i arg2 harg2 arg3 harg3 arg4 harg4 arg6 harg6 arg9 arg11 arg12 x0 x1 x2 x4) _ ?_
  refine okP_step arg9 arg11 arg12 _ _ x0 2 9 (by decide) (by decide) _ (inv_41 c i arg2 harg2 arg3 harg3 arg4 harg4 arg6 harg6 arg9 arg11 arg12 x0 x1 x2 x4) _ ?_
  refine okP_step arg9 arg11 arg12 _ _ x0 2 8 (by decide) (by decide) _ (inv_40 c i arg2 harg2 arg3 harg3 arg4 harg4 arg6 harg6 arg9 arg11 arg12 x0 x1 x2 x4) _ ?_
  refine okP_step arg9 arg11 arg12 _ _ x0 2 7 (by decide) (by decide) _ (inv_39 c i arg2 harg2 arg3 harg3 arg4 harg4 arg6 harg6 arg9 arg11 arg12 x0 x1 x2 x4) _ ?_
  refine okP_step arg9 arg11 arg12 _ _ x0 2 6 (by decide) (by decide) _ (inv_38 c i arg2 harg2 arg3 harg3 arg4 harg4 arg6 harg6 arg9 arg11 arg12 x0 x1 x2 x4) _ ?_
  refine okP_step arg9 arg11 arg12 _ _ x0 2 5 (by decide) (by decide) _ (inv_37 c i arg2 harg2 arg3 harg3 arg4 harg4 arg6 harg6 arg9 arg11 arg12 x0 x1 x2 x4) _ ?_
  refine okP_step arg9 arg11 arg12 _ _ x0 2 4 (by decide) (by decide) _ (inv_36 c i arg2 harg2 arg3 harg3 arg4 harg4 arg6 harg6 arg9 arg11 arg12 x0 x1 x2 x4) _ ?_
  refine okP_step arg9 arg11 arg12 _ _ x0 2 3 (by decide) (by decide) _ (inv_35 c i arg2 harg2 arg3 harg3 arg4 harg4 arg6 harg6 arg9 arg11 arg12 x0 x1 x2 x4) _ ?_
  refine okP_step arg9 arg11 arg12 _ _ x0 2 2 (by decide) (by decide) _ (inv_34 c i arg2 harg2 arg3 harg3 arg4 harg4 arg6 harg6 arg9 arg11 arg12 x0 x1 x2 x4) _ ?_
  refine okP_step arg9 arg11 arg12 _ _ x0 2 1 (by decide) (by decide) _ (inv_33 c i arg2 harg2 arg3 harg3 arg4 harg4 arg6 harg6 arg9 arg11 arg12 x0 x1 x2 x4) _ ?_
  refine okP_step arg9 arg11 arg12 _ _ x0 2 0 (by decide) (by decide) _ (inv_32 c i arg2 harg2 arg3 harg3 arg4 harg4 arg6 harg6 arg9 arg11 arg12 x0 x1 x2 x4) _ ?_
  refine okP_step arg9 arg11 arg12 _ _ x0 1 15 (by decide) (by decide) _ (inv_31 c i arg2 harg2 arg3 harg3 arg4 harg4 arg6 harg6 arg9 arg11 arg12 x0 x1 x2 x4) _ ?_
  refine okP_step arg9 arg11 arg12 _ _ x0 1 14 (by decide) (by decide) _ (inv_30 c i arg2 harg2 arg3 harg3 arg4 harg4 arg6 harg6 arg9 arg11 arg12 x0 x1 x2 x4) _ ?_
  refine okP_step arg9 arg11 arg12 _ _ x0 1 13 (by decide) (by decide) _ (inv_29 c i arg2 harg2 arg3 harg3 arg4 harg4 arg6 harg6 arg9 arg11 arg12 x0 x1 x2 x4) _ ?_
  refine okP_step arg9 arg11 arg12 _ _ x0 1 12 (by decide) (by decide) _ (inv_28 c i arg2 harg2 arg3 harg3 arg4 harg4 arg6 harg6 arg9 arg11 arg12 x0 x1 x2 x4) _ ?_
  refine okP_step arg9 arg11 arg12 _ _ x0 1 11 (by decide) (by decide) _ (inv_27 c i arg2 harg2 arg3 harg3 arg4 harg4 arg6 harg6 arg9 arg11 arg12 x0 x1 x2 x4) _ ?_
  refine okP_step arg9 arg11 arg12 _ _ x0 1 10 (by decide) (by decide) _ (inv_26 c i arg2 harg2 arg3 harg3 arg4 harg4 arg6 harg6 arg9 arg11 arg12 x0 x1 x2 x4) _ ?_
  refine okP_step arg9 arg11 arg12 _ _ x0 1 9 (by decide) (by decide) _ (inv_25 c i arg2 harg2 arg3 harg3 arg4 harg4 arg6 harg6 arg9 arg11 arg12 x0 x1 x2 x4) _ ?_
  refine okP_step arg9 arg11 arg12 _ _ x0 1 8 (by decide) (by decide) _ (inv_24 c i arg2 harg2 arg3 harg3 arg4 harg4 arg6 harg6 arg9 arg11 arg12 x0 x1 x2 x4) _ ?_
  refine okP_step arg9 arg11 arg12 _ _ x0 1 7 (by decide) (by decide) _ (inv_23 c i arg2 harg2 arg3 harg3 arg4 harg4 arg6 harg6 arg9 arg11 arg12 x0 x1 x2 x4) _ ?_
  refine okP_step arg9 arg11 arg12 _ _ x0 1 6 (by decide) (by decide) _ (inv_22 c i arg2 harg2 arg3 harg3 arg4 harg4 arg6 harg6 arg9 arg11 arg12 x0 x1 x2 x4) _ ?_
  refine okP_step arg9 arg11 arg12 _ _ x0 1 5 (by decide) (by decide) _ (inv_21 c i arg2 harg2 arg3 harg3 arg4 harg4 arg6 harg6 arg9 arg11 arg12 x0 x1 x2 x4) _ ?_
  refine okP_step arg9 arg11 arg12 _ _ x0 1 4 (by decide) (by decide) _ (inv_20 c i arg2 harg2 arg3 harg3 arg4 harg4 arg6 harg6 arg9 arg11 arg12 x0 x1 x2 x4) _ ?_
  refine okP_step arg9 arg11 arg12 _ _ x0 1 3 (by decide) (by decide) _ (inv_19 c i arg2 harg2 arg3 harg3 arg4 harg4 arg6 harg6 arg9 arg11 arg12 x0 x1 x2 x4) _ ?_
  refine okP_step arg9 arg11 arg12 _ _ x0 1 2 (by decide) (by decide) _ (inv_18 c i arg2 harg2 arg3 harg3 arg4 harg4 arg6 harg6 arg9 arg11 arg12 x0 x1 x2 x4) _ ?_
  refine okP_step arg9 arg11 arg12 _ _ x0 1 1 (by decide) (by decide) _ (inv_17 c i arg2 harg2 arg3 harg3 arg4 harg4 arg6 harg6 arg9 arg11 arg12 x0 x1 x2 x4) _ ?_
  refine okP_step arg9 arg11 arg12 _ _ x0 1 0 (by decide) (by decide) _ (inv_16 c i arg2 harg2 arg3 harg3 arg4 harg4 arg6 harg6 arg9 arg11 arg12 x0 x1 x2 x4) _ ?_
  refine okP_step arg9 arg11 arg12 _ _ x0 0 15 (by decide) (by decide) _ (inv_15 c i arg2 harg2 arg3 harg3 arg4 harg4 arg6 harg6 arg9 arg11 arg12 x0 x1 x2 x4) _ ?_
  refine okP_step arg9 arg11 arg12 _ _ x0 0 14 (by decide) (by decide) _ (inv_14 c i arg2 harg2 arg3 harg3 arg4 harg4 arg6 harg6 arg9 arg11 arg12 x0 x1 x2 x4) _ ?_
  refine okP_step arg9 arg11 arg12 _ _ x0 0 13 (by decide) (by decide) _ (inv_13 c i arg2 harg2 arg3 harg3 arg4 harg4 arg6 harg6 arg9 arg11 arg12 x0 x1 x2 x4) _ ?_
  refine okP_step arg9 arg11 arg12 _ _ x0 0 12 (by decide) (by decide) _ (inv_12 c i arg2 harg2 arg3 harg3 arg4 harg4 arg6 harg6 arg9 arg11 arg12 x0 x1 x2 x4) _ ?_
  refine okP_step arg9 arg11 arg12 _ _ x0 0 11 (by decide) (by decide) _ (inv_11 c i arg2 harg2 arg3 harg3 arg4 harg4 arg6 harg6 arg9 arg11 arg12 x0 x1 x2 x4) _ ?_
  refine okP_step arg9 arg11 arg12 _ _ x0 0 10 (by decide) (by decide) _ (inv_10 c i arg2 harg2 arg3 harg3 arg4 harg4 arg6 harg6 arg9 arg11 arg12 x0 x1 x2 x4) _ ?_
  refine okP_step arg9 arg11 arg12 _ _ x0 0 9 (by decide) (by decide) _ (inv_9 c i arg2 harg2 arg3 harg3 arg4 harg4 arg6 harg6 arg9 arg11 arg12 x0 x1 x2 x4) _ ?_
  refine okP_step arg9 arg11 arg12 _ _ x0 0 8 (by decide) (by decide) _ (inv_8 c i arg2 harg2 arg3 harg3 arg4 harg4 arg6 harg6 arg9 arg11 arg12 x0 x1 x2 x4) _ ?_
  refine okP_step arg9 arg11 arg12 _ _ x0 0 7 (by decide) (by decide) _ (inv_7 c i arg2 harg2 arg3 harg3 arg4 harg4 arg6 harg6 arg9 arg11 arg12 x0 x1 x2 x4) _ ?_
  refine okP_step arg9 arg11 arg12 _ _ x0 0 6 (by decide) (by decide) _ (inv_6 c i arg2 harg2 arg3 harg3 arg4 harg4 arg6 harg6 arg9 arg11 arg12 x0 x1 x2 x4) _ ?_
  refine okP_step arg9 arg11 arg12 _ _ x0 0 5 (by decide) (by decide) _ (inv_5 c i arg2 harg2 arg3 harg3 arg4 harg4 arg6 harg6 arg9 arg11 arg12 x0 x1 x2 x4) _ ?_
  refine okP_step arg9 arg11 arg12 _ _ x0 0 4 (by decide) (by decide) _ (inv_4 c i arg2 harg2 arg3 harg3 arg4 harg4 arg6 harg6 arg9 arg11 arg12 x0 x1 x2 x4) _ ?_
  refine okP_step arg9 arg11 arg12 _ _ x0 0 3 (by decide) (by decide) _ (inv_3 c i arg2 harg2 arg3 harg3 arg4 harg4 arg6 harg6 arg9 arg11 arg12 x0 x1 x2 x4) _ ?_
  refine okP_step arg9 arg11 arg12 _ _ x0 0 2 (by decide) (by decide) _ (inv_2 c i arg2 harg2 arg3 harg3 arg4 harg4 arg6 harg6 arg9 arg11 arg12 x0 x1 x2 x4) _ ?_
  refine okP_step arg9 arg11 arg12 _ _ x0 0 1 (by decide) (by decide) _ (inv_1 c i arg2 harg2 arg3 harg3 arg4 harg4 arg6 harg6 arg9 arg11 arg12 x0 x1 x2 x4) _ ?_
  refine okP_step arg9 arg11 arg12 _ _ x0 0 0 (by decide) (by decide) _ (inv_0 c i arg2 harg2 arg3 harg3 arg4 harg4 arg6 harg6 arg9 arg12 x0 x1 x2 x4) _ ?_
  exact okP_nil _ _ _

end Cert.Attn
-- ==== Proof.Mask.lean ====
module

public import proofs.«01_k».proof.Proof.Heads
public import proofs.«01_k».proof.Proof.Bridge

@[expose] public section

noncomputable section

/-!
The window's start and the band mask, in naturals.
-/

namespace Cert.Attn

open Idealize.ShloMosaic Idealize.ShloMosaic.TcCoe Idealize.ShloMosaic.ValueIdx Idealize.SL.Sem Cert.KernelIdeal Cert.KernelIdeal.Gen
open scoped BigOperators

theorem idx_ext2 {n0 n1 : ℕ} {j k : (⟨2, ![n0, n1]⟩ : Shape).Idx} (h0 : j 0 = k 0) (h1 : j 1 = k 1) : j = k :=
  funext fun a => match a with
    | ⟨0, _⟩ => h0
    | ⟨1, _⟩ => h1
theorem idx_ext3 {n0 n1 n2 : ℕ} {j k : (⟨3, ![n0, n1, n2]⟩ : Shape).Idx} (h0 : j 0 = k 0) (h1 : j 1 = k 1) (h2 : j 2 = k 2) : j = k :=
  funext fun a => match a with
    | ⟨0, _⟩ => h0
    | ⟨1, _⟩ => h1
    | ⟨2, _⟩ => h2

/-- Whether a query sees a key: they are at most 128 apart. -/
def near (a b : ℕ) : Prop := a ≤ b + 128 ∧ b ≤ a + 128
instance (a b : ℕ) : Decidable (near a b) := inferInstanceAs (Decidable (_ ∧ _))

theorem sle_small (d : ℕ) (hd : d < 4096) : (BitVec.ofNat 32 d).sle 128#32 = decide (d ≤ 128) := by
  have h1 : (BitVec.ofNat 32 d).toInt = d := by
    rw [BitVec.toInt_eq_toNat_cond, BitVec.toNat_ofNat]
    have : d % 2 ^ 32 = d := Nat.mod_eq_of_lt (by omega)
    rw [this, if_pos (by omega)]
  have h2 : (128#32 : BitVec 32).toInt = 128 := by decide
  unfold BitVec.sle
  rw [h1, h2]
  exact decide_eq_decide.mpr (by omega)

theorem msb_small (d : ℕ) (hd : d < 4096) : (BitVec.ofNat 32 d).msb = false := by
  rw [BitVec.msb_eq_decide, BitVec.toNat_ofNat]
  have : d % 2 ^ 32 = d := Nat.mod_eq_of_lt (by omega)
  rw [this]
  exact decide_eq_false (by omega)

theorem near_bit (a b : ℕ) (ha : a < 4096) (hb : b < 4096) :
    IntOp.cmpi .sle (IntOp.absi (IntOp.subi (BitVec.ofNat 32 a) (BitVec.ofNat 32 b))) 128#32 = BitVec.ofBool (decide (near a b)) := by
  rcases Nat.le_total b a with h | h
  · obtain ⟨d, rfl⟩ := Nat.exists_eq_add_of_le h
    have e : IntOp.subi (BitVec.ofNat 32 (b + d)) (BitVec.ofNat 32 b) = BitVec.ofNat 32 d := by
      show BitVec.ofNat 32 (b + d) - BitVec.ofNat 32 b = _
      apply BitVec.eq_of_toNat_eq
      simp only [BitVec.toNat_sub, BitVec.toNat_ofNat]
      omega
    rw [e]
    unfold IntOp.absi IntOp.cmpi
    rw [msb_small d (by omega)]
    show BitVec.ofBool ((BitVec.ofNat 32 d).sle 128#32) = _
    rw [sle_small d (by omega)]
    exact congrArg _ (decide_eq_decide.mpr (by unfold near; omega))
  · obtain ⟨d, rfl⟩ := Nat.exists_eq_add_of_le h
    rcases Nat.eq_zero_or_pos d with rfl | hd
    · have e : IntOp.subi (BitVec.ofNat 32 a) (BitVec.ofNat 32 (a + 0)) = BitVec.ofNat 32 0 := by
        show BitVec.ofNat 32 a - BitVec.ofNat 32 (a + 0) = _
        apply BitVec.eq_of_toNat_eq
        simp only [BitVec.toNat_sub, BitVec.toNat_ofNat]
        omega
      rw [e]
      have : near a (a + 0) := ⟨by omega, by omega⟩
      rw [decide_eq_true this]
      decide
    · have e : IntOp.subi (BitVec.ofNat 32 a) (BitVec.ofNat 32 (a + d)) = - BitVec.ofNat 32 d := by
        show BitVec.ofNat 32 a - BitVec.ofNat 32 (a + d) = _
        apply BitVec.eq_of_toNat_eq
        simp only [BitVec.toNat_sub, BitVec.toNat_neg, BitVec.toNat_ofNat]
        omega
      have hm : (- BitVec.ofNat 32 d).msb = true := by
        rw [BitVec.msb_eq_decide, BitVec.toNat_neg, BitVec.toNat_ofNat]
        exact decide_eq_true (by omega)
      rw [e]
      unfold IntOp.absi IntOp.cmpi
      rw [hm]
      show BitVec.ofBool ((- - BitVec.ofNat 32 d).sle 128#32) = _
      rw [BitVec.neg_neg, sle_small d (by omega)]
      exact congrArg _ (decide_eq_decide.mpr (by unfold near; omega))

/-- The window's first key of query tile `b`. -/
def start (b : ℕ) : ℕ := min 1664 (128 * b - 128)

theorem start_le (b : ℕ) : start b ≤ 1664 := Nat.min_le_left _ _

theorem start_word : ∀ b : Fin 16, Scalar.minsi 1664#32 (Scalar.maxsi 0#32 (Scalar.subi (Scalar.muli (BitVec.ofNat 32 b.val) 128#32) 128#32))
    = BitVec.ofNat 32 (start b) := by decide

theorem off_start (i : grid0.Coords) : (k0_off1 i) 1 = start (i 1) := by
  have h := start_word (i 1)
  show (Scalar.minsi 1664#32 (Scalar.maxsi 0#32 (Scalar.subi (Scalar.muli (BitVec.ofNat 32 (i 1).val) 128#32) 128#32))).toNat = _
  rw [h, BitVec.toNat_ofNat]
  have := start_le (i 1)
  omega

/-- The mask at a row and a key of the window. -/
theorem mask_apply (i : grid0.Coords) (t : Fin 128) (n : Fin 384) :
    k0_pay9 (F := Ideal) i (ix2 t n) = (if near (128 * (i 1).val + t) (start (i 1) + n) then (0 : EReal) else ⊥) := by
  have hi : (i 1).val < 16 := (i 1).isLt
  have ht := t.isLt
  have hn := n.isLt
  have hs := start_le (i 1)
  unfold k0_pay9
  refine (shapeCast_apply _ _ _ (ix2 t n) rfl).trans ?_
  have eq : IntOp.addi (Scalar.muli (BitVec.ofNat 32 (i 1).val) 128#32) (iota .tc S128x384 32 [0] iota_S128x384_d0_w32 (ix2 t n))
      = BitVec.ofNat 32 (128 * (i 1).val + t) := by
    show BitVec.ofNat 32 (i 1).val * 128#32 + BitVec.ofNat 32 (0 * 128 + t.val) = _
    apply BitVec.eq_of_toNat_eq
    simp only [BitVec.toNat_add, BitVec.toNat_mul, BitVec.toNat_ofNat]
    omega
  have ek : IntOp.addi (Scalar.minsi 1664#32 (Scalar.maxsi 0#32 (Scalar.subi (Scalar.muli (BitVec.ofNat 32 (i 1).val) 128#32) 128#32)))
      (iota .tc S128x384 32 [1] iota_S128x384_d1_w32 (ix2 t n)) = BitVec.ofNat 32 (start (i 1) + n) := by
    rw [start_word (i 1)]
    show BitVec.ofNat 32 (start (i 1)) + BitVec.ofNat 32 (0 * 384 + n.val) = _
    apply BitVec.eq_of_toNat_eq
    simp only [BitVec.toNat_add, BitVec.toNat_ofNat]
    omega
  have h := near_bit (128 * (i 1).val + t) (start (i 1) + n) (by omega) (by omega)
  rw [← eq, ← ek] at h
  show Scalar.select (IntOp.cmpi .sle (IntOp.absi (IntOp.subi (IntOp.addi (Scalar.muli (BitVec.ofNat 32 (i 1).val) 128#32) (iota .tc S128x384 32 [0] iota_S128x384_d0_w32 (ix2 t n)))
    (IntOp.addi (Scalar.minsi 1664#32 (Scalar.maxsi 0#32 (Scalar.subi (Scalar.muli (BitVec.ofNat 32 (i 1).val) 128#32) 128#32)))
      (iota .tc S128x384 32 [1] iota_S128x384_d1_w32 (ix2 t n))))) 128#32)
    (Scalar.ofBits (F := Ideal) .f32 0x00000000#32) (Named.named (F := Ideal) κ "mask" (φ := .f32) 0xF149F2CA#32) = _
  rw [h]
  unfold Scalar.select
  by_cases hb : near (128 * (i 1).val + t) (start (i 1) + n)
  · rw [if_pos hb, decide_eq_true hb, if_pos (by decide)]
    exact Ideal.ofBits_zero_f32
  · rw [if_neg hb, decide_eq_false hb, if_neg (by decide)]
    rfl

end Cert.Attn
-- ==== Proof.Block.lean ====
module

public import proofs.«01_k».proof.Proof.Mask

@[expose] public section

set_option maxRecDepth 16384

noncomputable section

/-!
What one block of the grid leaves in the output, from the blocks it loads.
-/

namespace Cert.Attn

open Idealize.ShloMosaic Idealize.ShloMosaic.TcCoe Idealize.ShloMosaic.ValueIdx Idealize.SL.Sem Cert.KernelIdeal Cert.KernelIdeal.Gen
open scoped BigOperators

variable (c : Dev nD) (i : grid0.Coords) (arg2 : Memref sig .tc .smem S16 .f32) (harg2 : arg2.IsWhole)
  (arg3 : Memref sig .tc .vmem S1x128x1024 .bf16) (harg3 : arg3.IsWhole) (arg4 : Memref sig .tc .vmem S1x2048x256 .bf16) (harg4 : arg4.IsWhole)
  (arg5 : Memref sig .tc .vmem S1x2048x256 .bf16) (harg5 : arg5.IsWhole)
  (arg6 : Memref sig .tc .vmem S1x256x256 .bf16) (harg6 : arg6.IsWhole) (arg7 : Memref sig .tc .vmem S1x256x256 .bf16) (harg7 : arg7.IsWhole)
  (arg8 : Memref sig .tc .vmem S1x128x1024 .bf16) (harg8 : arg8.IsWhole)
  (arg9 : Memref sig .tc .vmem S4x512x640 .f32) (harg9 : arg9.IsWhole) (arg10 : Memref sig .tc .vmem S4x512x640 .bf16) (harg10 : arg10.IsWhole)
  (arg11 : Memref sig .tc .vmem S4x512x128 .f32) (harg11 : arg11.IsWhole) (arg12 : Memref sig .tc .vmem S128x384 .f32) (harg12 : arg12.IsWhole)
  (x0 : Vec Ideal S16 .f32) (x1 : Vec Ideal S1x128x1024 .bf16) (x2 x3 : Vec Ideal S1x2048x256 .bf16) (x4 x5 : Vec Ideal S1x256x256 .bf16)

/-- Every write of the logits' scratch. -/
theorem okS_all : OkS (kernelRun0_A.sl.r (F := Ideal) c arg3 harg3 x1) (kernelRun0_A.sl.r_3 (F := Ideal) c i arg4 harg4 x2)
    (kernelRun0_A.sl.r_1 (F := Ideal) c arg6 harg6 x4) (kernelRun0_A.sl.HS0_8 (F := Ideal) c i arg3 harg3 arg4 harg4 arg6 harg6 x1 x2 x4) := by
  refine okS_step _ _ _ 3 (by decide) _ ?_
  refine okS_step _ _ _ 2 (by decide) _ ?_
  refine okS_step _ _ _ 1 (by decide) _ ?_
  refine okS_step _ _ _ 0 (by decide) _ ?_
  exact okS_nil _ _ _

/-- The writes cover the scratch's first `k` key heads. -/
def CovS (L : List (View.Piece (Elt Ideal) S4x512x640 .f32)) (k : ℕ) : Prop :=
  ∀ y : S4x512x640.Idx, (y 0).val < k → ∃ p ∈ L, y ∈ p.1.toLoadRect.set

theorem covS_step (h : ℕ) (hh : h < 4) (L : List (View.Piece (Elt Ideal) S4x512x640 .f32)) (hL : CovS L h) (a b) :
    CovS (⟨Rect.unit (s := S4x512x640) ![h, 0, 384] S1x512x256.size (inbSC h hh), a⟩
      :: ⟨Rect.unit (s := S4x512x640) ![h, 0, 0] S1x512x384.size (inbSW h hh), b⟩ :: L) (h + 1) := by
  intro y hy
  have h1 : (y 1).val < 512 := (y 1).isLt
  have h2 : (y 2).val < 640 := (y 2).isLt
  by_cases hlt : (y 0).val < h
  · obtain ⟨p, hp, hm⟩ := hL y hlt
    exact ⟨p, List.mem_cons_of_mem _ (List.mem_cons_of_mem _ hp), hm⟩
  · by_cases hw : (y 2).val < 384
    · refine ⟨_, List.mem_cons_of_mem _ List.mem_cons_self, ?_⟩
      rw [Rect.mem_set_unit]
      intro d; match d with
      | ⟨0, _⟩ => show h ≤ (y 0).val ∧ (y 0).val < h + 1; omega
      | ⟨1, _⟩ => show 0 ≤ (y 1).val ∧ (y 1).val < 0 + 512; omega
      | ⟨2, _⟩ => show 0 ≤ (y 2).val ∧ (y 2).val < 0 + 384; omega
    · refine ⟨_, List.mem_cons_self, ?_⟩
      rw [Rect.mem_set_unit]
      intro d; match d with
      | ⟨0, _⟩ => show h ≤ (y 0).val ∧ (y 0).val < h + 1; omega
      | ⟨1, _⟩ => show 0 ≤ (y 1).val ∧ (y 1).val < 0 + 512; omega
      | ⟨2, _⟩ => show 384 ≤ (y 2).val ∧ (y 2).val < 384 + 256; omega

theorem covS_all (y : S4x512x640.Idx) : ∃ p ∈ kernelRun0_A.sl.HS0_8 (F := Ideal) c i arg3 harg3 arg4 harg4 arg6 harg6 x1 x2 x4, y ∈ p.1.toLoadRect.set := by
  have h : CovS (kernelRun0_A.sl.HS0_8 (F := Ideal) c i arg3 harg3 arg4 harg4 arg6 harg6 x1 x2 x4) 4 := by
    refine covS_step 3 (by decide) _ ?_ _ _
    refine covS_step 2 (by decide) _ ?_ _ _
    refine covS_step 1 (by decide) _ ?_ _ _
    refine covS_step 0 (by decide) _ ?_ _ _
    exact fun y hy => absurd hy (Nat.not_lt_zero _)
  exact h y (y 0).isLt

/-- So the scratch holds the logits. -/
theorem gS_apply (y : S4x512x640.Idx) : gS c i arg3 harg3 arg4 harg4 arg6 harg6 x1 x2 x4 y
    = LS (kernelRun0_A.sl.r (F := Ideal) c arg3 harg3 x1) (kernelRun0_A.sl.r_3 (F := Ideal) c i arg4 harg4 x2)
    (kernelRun0_A.sl.r_1 (F := Ideal) c arg6 harg6 x4) (y 0) (y 1) (y 2) :=
  View.canon_apply_of_pieces (Val := Elt Ideal) (e := .f32)
    (fun y => LS (kernelRun0_A.sl.r (F := Ideal) c arg3 harg3 x1) (kernelRun0_A.sl.r_3 (F := Ideal) c i arg4 harg4 x2)
    (kernelRun0_A.sl.r_1 (F := Ideal) c arg6 harg6 x4) (y 0) (y 1) (y 2)) _ (okS_all c i arg3 harg3 arg4 harg4 arg6 harg6 x1 x2 x4) y
    (covS_all c i arg3 harg3 arg4 harg4 arg6 harg6 x1 x2 x4 y)

theorem gB_apply (t : Fin 128) (n : Fin 384) : gB i (ix2 t n)
    = (if near (128 * (i 1).val + t) (start (i 1) + n) then (0 : EReal) else ⊥) := by
  refine (View.canon_apply_of_pieces (Val := Elt Ideal) (e := .f32) (k0_pay9 (F := Ideal) i) _ ?_ (ix2 t n)
    (View.cover_of_tiledL _ S128x384.size (by sl_kernel_rfl) _)).trans (mask_apply i t n)
  intro p hp
  obtain rfl := List.mem_singleton.mp hp
  intro x
  obtain ⟨a, l, rfl⟩ : ∃ (a : Fin 128) (l : Fin 384), x = ix2 a l := ⟨x 0, x 1, eq_ix2 x⟩
  refine congrArg (k0_pay9 (F := Ideal) i) ?_
  refine idx_ext2 ?_ ?_ <;> exact Fin.ext (by show _ = 0 + 1 * _; rw [Nat.zero_add, Nat.one_mul])

/-- Every write of the output block. -/
theorem okO_all : OkO (gS c i arg3 harg3 arg4 harg4 arg6 harg6 x1 x2 x4) (gB i) x0 (kernelRun0_A.sl.r_4 (F := Ideal) c i arg5 harg5 x3)
    (kernelRun0_A.sl.r_2 (F := Ideal) c arg7 harg7 x5)
    (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1 := by
  have hP : ∀ y, View.canon (kernelRun0_A.sl.HS1_320 (F := Ideal) c i arg2 harg2 arg3 harg3 arg4 harg4 arg6 harg6 arg9 arg11 arg12 x0 x1 x2 x4) y
      = PG (gS c i arg3 harg3 arg4 harg4 arg6 harg6 x1 x2 x4) (gB i) x0 y :=
    fun y => okP_canon _ _ x0 _ (okP_all c i arg2 harg2 arg3 harg3 arg4 harg4 arg6 harg6 arg9 arg11 arg12 x0 x1 x2 x4) (by sl_kernel_rfl) y
  have hM : ∀ y, View.canon (kernelRun0_A.sl.HS2_128 (F := Ideal) c i arg2 harg2 arg3 harg3 arg4 harg4 arg6 harg6 arg9 arg11 arg12 x0 x1 x2 x4) y
      = RG (gS c i arg3 harg3 arg4 harg4 arg6 harg6 x1 x2 x4) (gB i) x0 (y 0) (y 1) := by
    intro y
    refine (inv_64 c i arg2 harg2 arg3 harg3 arg4 harg4 arg6 harg6 arg9 arg11 arg12 x0 x1 x2 x4 y).trans (if_pos ?_)
    have h0 : (y 0).val < 4 := (y 0).isLt
    have h1 : (y 1).val < 512 := (y 1).isLt
    omega
  refine okO_step _ _ _ _ _ arg10 arg11 _ _ hP hM 3 3 (by decide) (by decide) _ ?_
  refine okO_step _ _ _ _ _ arg10 arg11 _ _ hP hM 3 2 (by decide) (by decide) _ ?_
  refine okO_step _ _ _ _ _ arg10 arg11 _ _ hP hM 3 1 (by decide) (by decide) _ ?_
  refine okO_step _ _ _ _ _ arg10 arg11 _ _ hP hM 3 0 (by decide) (by decide) _ ?_
  refine okO_step _ _ _ _ _ arg10 arg11 _ _ hP hM 2 3 (by decide) (by decide) _ ?_
  refine okO_step _ _ _ _ _ arg10 arg11 _ _ hP hM 2 2 (by decide) (by decide) _ ?_
  refine okO_step _ _ _ _ _ arg10 arg11 _ _ hP hM 2 1 (by decide) (by decide) _ ?_
  refine okO_step _ _ _ _ _ arg10 arg11 _ _ hP hM 2 0 (by decide) (by decide) _ ?_
  refine okO_step _ _ _ _ _ arg10 arg11 _ _ hP hM 1 3 (by decide) (by decide) _ ?_
  refine okO_step _ _ _ _ _ arg10 arg11 _ _ hP hM 1 2 (by decide) (by decide) _ ?_
  refine okO_step _ _ _ _ _ arg10 arg11 _ _ hP hM 1 1 (by decide) (by decide) _ ?_
  refine okO_step _ _ _ _ _ arg10 arg11 _ _ hP hM 1 0 (by decide) (by decide) _ ?_
  refine okO_step _ _ _ _ _ arg10 arg11 _ _ hP hM 0 3 (by decide) (by decide) _ ?_
  refine okO_step _ _ _ _ _ arg10 arg11 _ _ hP hM 0 2 (by decide) (by decide) _ ?_
  refine okO_step _ _ _ _ _ arg10 arg11 _ _ hP hM 0 1 (by decide) (by decide) _ ?_
  refine okO_step _ _ _ _ _ arg10 arg11 _ _ hP hM 0 0 (by decide) (by decide) _ ?_
  exact okO_nil _ _ _ _ _

/-- So the block holds the output. -/
theorem out_apply (t : Fin 128) (e : Fin 1024) :
    View.canon (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1 (ix3 0 t e)
    = OG (gS c i arg3 harg3 arg4 harg4 arg6 harg6 x1 x2 x4) (gB i) x0 (kernelRun0_A.sl.r_4 (F := Ideal) c i arg5 harg5 x3)
    (kernelRun0_A.sl.r_2 (F := Ideal) c arg7 harg7 x5) t e :=
  View.canon_apply_of_pieces (Val := Elt Ideal) (e := .bf16)
    (fun y => OG (gS c i arg3 harg3 arg4 harg4 arg6 harg6 x1 x2 x4) (gB i) x0 (kernelRun0_A.sl.r_4 (F := Ideal) c i arg5 harg5 x3)
    (kernelRun0_A.sl.r_2 (F := Ideal) c arg7 harg7 x5) (y 1) (y 2)) _
    (okO_all c i arg2 harg2 arg3 harg3 arg4 harg4 arg5 harg5 arg6 harg6 arg7 harg7 arg8 harg8 arg9 harg9 arg10 harg10 arg11 harg11 arg12 harg12 x0 x1 x2 x3 x4 x5) (ix3 0 t e)
    (View.cover_of_tiledL (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1 S1x128x64.size (by sl_kernel_rfl) _)

theorem q_cast (x : Vec Ideal S1x128x1024 .bf16) (t e : ℕ) : k0_pay4 x (jQ t e) = x (ix3 0 (Fin.ofNat 128 t) (Fin.ofNat 1024 e)) := by
  refine shapeCast_apply x _ (jQ t e) (ix3 0 (Fin.ofNat 128 t) (Fin.ofNat 1024 e)) ?_
  unfold jQ
  rw [Shape.rowMajor_val_two, Shape.rowMajor_val_three]
  show (0 * 128 + t % 128) * 1024 + e % 1024 = t % 128 * 1024 + e % 1024
  omega

theorem kc_cast (x : Vec Ideal S1x256x256 .bf16) (t e : ℕ) : k0_pay5 x (jC t e) = x (ix3 0 (Fin.ofNat 256 t) (Fin.ofNat 256 e)) := by
  refine shapeCast_apply x _ (jC t e) (ix3 0 (Fin.ofNat 256 t) (Fin.ofNat 256 e)) ?_
  unfold jC
  rw [Shape.rowMajor_val_two, Shape.rowMajor_val_three]
  show (0 * 256 + t % 256) * 256 + e % 256 = t % 256 * 256 + e % 256
  omega

theorem vc_cast (x : Vec Ideal S1x256x256 .bf16) (t e : ℕ) : k0_pay6 x (jC t e) = x (ix3 0 (Fin.ofNat 256 t) (Fin.ofNat 256 e)) := by
  refine shapeCast_apply x _ (jC t e) (ix3 0 (Fin.ofNat 256 t) (Fin.ofNat 256 e)) ?_
  unfold jC
  rw [Shape.rowMajor_val_two, Shape.rowMajor_val_three]
  show (0 * 256 + t % 256) * 256 + e % 256 = t % 256 * 256 + e % 256
  omega

theorem kw_cast (x : Vec Ideal S1x384x256 .bf16) (t e : ℕ) : k0_pay7 x (jW t e) = x (ix3 0 (Fin.ofNat 384 t) (Fin.ofNat 256 e)) := by
  refine shapeCast_apply x _ (jW t e) (ix3 0 (Fin.ofNat 384 t) (Fin.ofNat 256 e)) ?_
  unfold jW
  rw [Shape.rowMajor_val_two, Shape.rowMajor_val_three]
  show (0 * 384 + t % 384) * 256 + e % 256 = t % 384 * 256 + e % 256
  omega

theorem vw_cast (x : Vec Ideal S1x384x256 .bf16) (t e : ℕ) : k0_pay8 x (jW t e) = x (ix3 0 (Fin.ofNat 384 t) (Fin.ofNat 256 e)) := by
  refine shapeCast_apply x _ (jW t e) (ix3 0 (Fin.ofNat 384 t) (Fin.ofNat 256 e)) ?_
  unfold jW
  rw [Shape.rowMajor_val_two, Shape.rowMajor_val_three]
  show (0 * 384 + t % 384) * 256 + e % 256 = t % 384 * 256 + e % 256
  omega

theorem q_word (t e : ℕ) : kernelRun0_A.sl.r (F := Ideal) c arg3 harg3 x1 (jQ t e) = x1 (ix3 0 (Fin.ofNat 128 t) (Fin.ofNat 1024 e)) := by
  refine (q_cast _ t e).trans ?_
  rw [View.readAt_apply, harg3.read_unread]
  refine congrArg x1 (idx_ext3 ?_ ?_ ?_) <;> exact Fin.ext (by show 0 + 1 * _ = _; rw [Nat.zero_add, Nat.one_mul])

theorem kc_word (t e : ℕ) : kernelRun0_A.sl.r_1 (F := Ideal) c arg6 harg6 x4 (jC t e) = x4 (ix3 0 (Fin.ofNat 256 t) (Fin.ofNat 256 e)) := by
  refine (kc_cast _ t e).trans ?_
  rw [View.readAt_apply, harg6.read_unread]
  refine congrArg x4 (idx_ext3 ?_ ?_ ?_) <;> exact Fin.ext (by show 0 + 1 * _ = _; rw [Nat.zero_add, Nat.one_mul])

theorem vc_word (t e : ℕ) : kernelRun0_A.sl.r_2 (F := Ideal) c arg7 harg7 x5 (jC t e) = x5 (ix3 0 (Fin.ofNat 256 t) (Fin.ofNat 256 e)) := by
  refine (vc_cast _ t e).trans ?_
  rw [View.readAt_apply, harg7.read_unread]
  refine congrArg x5 (idx_ext3 ?_ ?_ ?_) <;> exact Fin.ext (by show 0 + 1 * _ = _; rw [Nat.zero_add, Nat.one_mul])

theorem kw_word (n e : ℕ) (hn : n < 384) : kernelRun0_A.sl.r_3 (F := Ideal) c i arg4 harg4 x2 (jW n e)
    = x2 (ix3 0 (Fin.ofNat 2048 (start (i 1) + n)) (Fin.ofNat 256 e)) := by
  have hs := start_le (i 1)
  refine (kw_cast _ n e).trans ?_
  rw [View.readAt_apply, harg4.read_unread]
  refine congrArg x2 (idx_ext3 (Fin.ext ?_) (Fin.ext ?_) (Fin.ext ?_))
  · show 0 + 1 * _ = _; rw [Nat.zero_add, Nat.one_mul]
  · show (k0_off1 i) 1 + 1 * (n % 384) = (start (i 1) + n) % 2048
    rw [off_start]; omega
  · show 0 + 1 * _ = _; rw [Nat.zero_add, Nat.one_mul]

theorem vw_word (n e : ℕ) (hn : n < 384) : kernelRun0_A.sl.r_4 (F := Ideal) c i arg5 harg5 x3 (jW n e)
    = x3 (ix3 0 (Fin.ofNat 2048 (start (i 1) + n)) (Fin.ofNat 256 e)) := by
  have hs := start_le (i 1)
  refine (vw_cast _ n e).trans ?_
  rw [View.readAt_apply, harg5.read_unread]
  refine congrArg x3 (idx_ext3 (Fin.ext ?_) (Fin.ext ?_) (Fin.ext ?_))
  · show 0 + 1 * _ = _; rw [Nat.zero_add, Nat.one_mul]
  · show (k0_off1 i) 1 + 1 * (n % 384) = (start (i 1) + n) % 2048
    rw [off_start]; omega
  · show 0 + 1 * _ = _; rw [Nat.zero_add, Nat.one_mul]

end Cert.Attn
-- ==== Proof.Target.lean ====
module

public import proofs.«01_k».proof.Proof.Block

@[expose] public section

noncomputable section

/-!
The attention both programs compute, as a function of the six arrays, and a block of the kernel's output as a part of
it.
-/

namespace Cert.Attn

open Idealize.ShloMosaic Idealize.ShloMosaic.TcCoe Idealize.ShloMosaic.ValueIdx Idealize.SL.Sem Cert.KernelIdeal Cert.KernelIdeal.Gen
open scoped BigOperators

/-- The scale the queries are multiplied with. -/
def c8 : EReal := Ideal.ofBits .f32 0x3E000000#32
theorem c8_eq : c8 = ((1 / 8 : ℝ) : EReal) := by
  unfold c8
  simp [Ideal.ofBits, Ideal.ieee, -EReal.coe_mul]; norm_num
theorem c8_nonneg : 0 ≤ c8 := by rw [c8_eq]; exact EReal.coe_nonneg.mpr (by norm_num)
theorem c8_ne_top : c8 ≠ ⊤ := by rw [c8_eq]; exact EReal.coe_ne_top _
theorem c8_ne_bot : c8 ≠ ⊥ := by rw [c8_eq]; exact EReal.coe_ne_bot _

section
variable (a0 : (⟨3, ![16, 2048, 1024]⟩ : Shape).Idx → EReal) (a1 a2 : (⟨3, ![16, 2048, 256]⟩ : Shape).Idx → EReal)
  (a3 a4 : (⟨3, ![16, 256, 256]⟩ : Shape).Idx → EReal) (a5 : (⟨1, ![16]⟩ : Shape).Idx → EReal)

/-- The logit of query `s` and latent key `n` in query head `g` of batch `b`. -/
def swF (b : Fin 16) (s g n : ℕ) : EReal :=
  if near s n then ∑ d : Fin 64, (a0 (ix3 b (Fin.ofNat 2048 s) (Fin.ofNat 1024 (64 * g + d))) * c8)
    * a1 (ix3 b (Fin.ofNat 2048 n) (Fin.ofNat 256 (64 * (g / 4) + d))) else ⊥
/-- Against context key `n`. -/
def scF (b : Fin 16) (s g n : ℕ) : EReal :=
  ∑ d : Fin 64, (a0 (ix3 b (Fin.ofNat 2048 s) (Fin.ofNat 1024 (64 * g + d))) * c8)
    * a3 (ix3 b (Fin.ofNat 256 n) (Fin.ofNat 256 (64 * (g / 4) + d)))
/-- The attention at batch `b`, query `s` and channel `e`. -/
def RES (b : Fin 16) (s e : ℕ) : EReal :=
  refOut (swF a0 a1 b s (e / 64)) (scF a0 a3 b s (e / 64)) (a5 (ix1 (Fin.ofNat 16 (e / 64))))
    (fun n => a2 (ix3 b (Fin.ofNat 2048 n) (Fin.ofNat 256 (64 * (e / 64 / 4) + e % 64))))
    (fun n => a4 (ix3 b (Fin.ofNat 256 n) (Fin.ofNat 256 (64 * (e / 64 / 4) + e % 64))))

theorem term_ne_top {x y : EReal} (hx : ∃ r : ℝ, x = r) (hy : ∃ r : ℝ, y = r) : (x * c8) * y ≠ ⊤ := by
  obtain ⟨r, rfl⟩ := hx
  obtain ⟨u, rfl⟩ := hy
  rw [c8_eq, ← EReal.coe_mul, ← EReal.coe_mul]
  exact EReal.coe_ne_top _

theorem swF_ne_top (h0 : ∀ y, ∃ r : ℝ, a0 y = r) (h1 : ∀ y, ∃ r : ℝ, a1 y = r) (b : Fin 16) (s g n : ℕ) : swF a0 a1 b s g n ≠ ⊤ := by
  unfold swF
  split
  · exact sum_ne_top _ _ fun d _ => term_ne_top (h0 _) (h1 _)
  · exact bot_ne_top
theorem scF_ne_top (h0 : ∀ y, ∃ r : ℝ, a0 y = r) (h3 : ∀ y, ∃ r : ℝ, a3 y = r) (b : Fin 16) (s g n : ℕ) : scF a0 a3 b s g n ≠ ⊤ := by
  unfold scF
  exact sum_ne_top _ _ fun d _ => term_ne_top (h0 _) (h3 _)
end

section
variable (c : Dev nD) (i : grid0.Coords)
  (arg3 : Memref sig .tc .vmem S1x128x1024 .bf16) (harg3 : arg3.IsWhole) (arg4 : Memref sig .tc .vmem S1x2048x256 .bf16) (harg4 : arg4.IsWhole)
  (arg5 : Memref sig .tc .vmem S1x2048x256 .bf16) (harg5 : arg5.IsWhole)
  (arg6 : Memref sig .tc .vmem S1x256x256 .bf16) (harg6 : arg6.IsWhole) (arg7 : Memref sig .tc .vmem S1x256x256 .bf16) (harg7 : arg7.IsWhole)
  (x0 : Vec Ideal S16 .f32) (x1 : Vec Ideal S1x128x1024 .bf16) (x2 x3 : Vec Ideal S1x2048x256 .bf16) (x4 x5 : Vec Ideal S1x256x256 .bf16)
  (a0 : (⟨3, ![16, 2048, 1024]⟩ : Shape).Idx → EReal) (a1 a2 : (⟨3, ![16, 2048, 256]⟩ : Shape).Idx → EReal)
  (a3 a4 : (⟨3, ![16, 256, 256]⟩ : Shape).Idx → EReal) (a5 : (⟨1, ![16]⟩ : Shape).Idx → EReal)

theorem og_eq (b : Fin 16) (t e : ℕ) (ht : t < 128) (he : e < 1024)
    (hx0 : ∀ y, x0 y = a5 y)
    (hx1 : ∀ (t : Fin 128) (e : Fin 1024), x1 (ix3 0 t e) = a0 (ix3 b (Fin.ofNat 2048 (128 * (i 1).val + t)) e) * c8)
    (hx2 : ∀ (n : Fin 2048) (e : Fin 256), x2 (ix3 0 n e) = a1 (ix3 b n e)) (hx3 : ∀ (n : Fin 2048) (e : Fin 256), x3 (ix3 0 n e) = a2 (ix3 b n e))
    (hx4 : ∀ (n : Fin 256) (e : Fin 256), x4 (ix3 0 n e) = a3 (ix3 b n e)) (hx5 : ∀ (n : Fin 256) (e : Fin 256), x5 (ix3 0 n e) = a4 (ix3 b n e))
    (h0 : ∀ y, ∃ r : ℝ, a0 y = r) (h1 : ∀ y, ∃ r : ℝ, a1 y = r) (h3 : ∀ y, ∃ r : ℝ, a3 y = r) (h5 : ∀ y, ∃ r : ℝ, a5 y = r) :
    OG (gS c i arg3 harg3 arg4 harg4 arg6 harg6 x1 x2 x4) (gB i) x0 (kernelRun0_A.sl.r_4 (F := Ideal) c i arg5 harg5 x3)
      (kernelRun0_A.sl.r_2 (F := Ideal) c arg7 harg7 x5) t e = RES a0 a1 a2 a3 a4 a5 b (128 * (i 1).val + t) e := by
  have hi : (i 1).val < 16 := (i 1).isLt
  have hs := start_le (i 1)
  have eρ : (128 * (e / 64 % 4) + t) % 128 = t := by omega
  have eh : 4 * (e / 256) + (128 * (e / 64 % 4) + t) / 128 = e / 64 := by omega
  have e4 : e / 64 / 4 = e / 256 := by omega
  have esg : sg x0 (e / 256) (128 * (e / 64 % 4) + t) = a5 (ix1 (Fin.ofNat 16 (e / 64))) := by
    unfold sg
    rw [eh]
    exact hx0 _
  have eg : ∀ n < 640, gS c i arg3 harg3 arg4 harg4 arg6 harg6 x1 x2 x4 (jS (e / 256) (128 * (e / 64 % 4) + t) n)
      = LS (kernelRun0_A.sl.r (F := Ideal) c arg3 harg3 x1) (kernelRun0_A.sl.r_3 (F := Ideal) c i arg4 harg4 x2)
        (kernelRun0_A.sl.r_1 (F := Ideal) c arg6 harg6 x4) (e / 256) (128 * (e / 64 % 4) + t) n := by
    intro n hn
    rw [gS_apply]
    show LS _ _ _ (e / 256 % 4) ((128 * (e / 64 % 4) + t) % 512) (n % 640) = _
    rw [Nat.mod_eq_of_lt (by omega : e / 256 < 4), Nat.mod_eq_of_lt (by omega : 128 * (e / 64 % 4) + t < 512), Nat.mod_eq_of_lt hn]
  have eq : ∀ d : Fin 64, kernelRun0_A.sl.r (F := Ideal) c arg3 harg3 x1 (jQ t (64 * (e / 64) + d))
      = a0 (ix3 b (Fin.ofNat 2048 (128 * (i 1).val + t)) (Fin.ofNat 1024 (64 * (e / 64) + d))) * c8 := by
    intro d
    rw [q_word, hx1]
    show a0 (ix3 b (Fin.ofNat 2048 (128 * (i 1).val + t % 128)) _) * c8 = _
    rw [Nat.mod_eq_of_lt ht]
  unfold OG RES
  rw [esg, e4]
  have hvc : (fun j => kernelRun0_A.sl.r_2 (F := Ideal) c arg7 harg7 x5 (jC j (64 * (e / 256) + e % 64)))
      = fun n => a4 (ix3 b (Fin.ofNat 256 n) (Fin.ofNat 256 (64 * (e / 256) + e % 64))) := by
    funext j
    rw [vc_word, hx5]
  rw [hvc]
  obtain ⟨r, hr⟩ := h5 (ix1 (Fin.ofNat 16 (e / 64)))
  refine rowOut_eq (start (i 1)) hs _ _ _ _ ?_ ?_ ?_ _ _ _ ?_ r hr ?_ ?_
  · intro j hj
    have hn := eg j (by omega)
    unfold TG
    rw [if_pos hj, hn, eρ]
    have hb : gB i (jB t j) = (if near (128 * (i 1).val + t) (start (i 1) + j) then (0 : EReal) else ⊥) := by
      have := gB_apply i ⟨t, ht⟩ ⟨j, hj⟩
      have ej : jB t j = ix2 ⟨t, ht⟩ ⟨j, hj⟩ := idx_ext2 (Fin.ext (Nat.mod_eq_of_lt ht)) (Fin.ext (Nat.mod_eq_of_lt hj))
      rw [ej]; exact this
    rw [hb]
    unfold swF
    by_cases hnr : near (128 * (i 1).val + t) (start (i 1) + j)
    · rw [if_pos hnr, if_pos hnr, add_zero]
      unfold LS
      rw [if_pos hj, eρ, eh]
      refine Finset.sum_congr rfl fun d _ => ?_
      rw [eq, kw_word c i arg4 harg4 x2 _ _ hj, hx2, e4]
    · rw [if_neg hnr, if_neg hnr, EReal.add_bot]
  · intro j hj
    have hn := eg (384 + j) (by omega)
    unfold TG
    rw [if_neg (by omega), hn]
    unfold LS scF
    rw [if_neg (by omega), eρ, eh, Nat.add_sub_cancel_left]
    refine Finset.sum_congr rfl fun d _ => ?_
    rw [eq, kc_word, hx4, e4]
  · intro n hn hout
    unfold swF
    refine if_neg ?_
    unfold near
    unfold start at hout
    omega
  · intro j hj
    rw [vw_word c i arg5 harg5 x3 _ _ hj, hx3]
  · intro n _
    exact swF_ne_top a0 a1 h0 h1 _ _ _ _
  · intro n _
    exact scF_ne_top a0 a3 h0 h3 _ _ _ _
end

end Cert.Attn
-- ==== Proof.Array.lean ====
module

public import proofs.«01_k».proof.Proof.Target
public import proofs.«01_k».proof.Proof.Gen.KernelIdeal.Value
public import Idealize.ShloMosaic.Lib.Pipeline.ValueKit

@[expose] public section

set_option maxRecDepth 16384

noncomputable section

/-!
The kernel's whole output array.
-/

namespace Cert.Attn

open Idealize.ShloMosaic Idealize.ShloMosaic.TcCoe Idealize.ShloMosaic.ValueIdx Idealize.SL.Sem Cert.KernelIdeal Cert.KernelIdeal.Gen Idealize.ShloMosaic.Pipeline
open scoped BigOperators

variable (m : (ℓ : Loc nD τ sig) → Buf (Elt Ideal) ℓ)

theorem cov6 : (cfg0.win 6).Covers := by decide +kernel

theorem ind6 : ∀ t : Fin cfg0.N, win0_6.index t 0 = ((cfg0.grid.coords t) 0).val ∧ win0_6.index t 1 = ((cfg0.grid.coords t) 1).val ∧ win0_6.index t 2 = 0 := by decide +kernel
theorem ind0 : ∀ t : Fin cfg0.N, win0_0.index t 0 = 0 := by decide +kernel
theorem ind1 : ∀ t : Fin cfg0.N, win0_1.index t 0 = ((cfg0.grid.coords t) 0).val ∧ win0_1.index t 1 = ((cfg0.grid.coords t) 1).val ∧ win0_1.index t 2 = 0 := by decide +kernel
theorem ind2 : ∀ t : Fin cfg0.N, win0_2.index t 0 = ((cfg0.grid.coords t) 0).val ∧ win0_2.index t 1 = 0 ∧ win0_2.index t 2 = 0 := by decide +kernel
theorem ind3 : ∀ t : Fin cfg0.N, win0_3.index t 0 = ((cfg0.grid.coords t) 0).val ∧ win0_3.index t 1 = 0 ∧ win0_3.index t 2 = 0 := by decide +kernel
theorem ind4 : ∀ t : Fin cfg0.N, win0_4.index t 0 = ((cfg0.grid.coords t) 0).val ∧ win0_4.index t 1 = 0 ∧ win0_4.index t 2 = 0 := by decide +kernel
theorem ind5 : ∀ t : Fin cfg0.N, win0_5.index t 0 = ((cfg0.grid.coords t) 0).val ∧ win0_5.index t 1 = 0 ∧ win0_5.index t 2 = 0 := by decide +kernel

/-- The queries. -/
def A0 (c : Dev nD) : S16x2048x1024.Idx → EReal := m ((c.tc : Thread nD τ).loc main_arg0)
/-- The latent keys. -/
def A1 (c : Dev nD) : S16x2048x256.Idx → EReal := m ((c.tc : Thread nD τ).loc main_arg1)
/-- The latent values. -/
def A2 (c : Dev nD) : S16x2048x256.Idx → EReal := m ((c.tc : Thread nD τ).loc main_arg2)
/-- The context's keys. -/
def A3 (c : Dev nD) : S16x256x256.Idx → EReal := m ((c.tc : Thread nD τ).loc main_arg3)
/-- The context's values. -/
def A4 (c : Dev nD) : S16x256x256.Idx → EReal := m ((c.tc : Thread nD τ).loc main_arg4)
/-- The sink logits. -/
def A5 (c : Dev nD) : S16.Idx → EReal := m ((c.tc : Thread nD τ).loc main_arg5)

/-- The prepared queries. -/
theorem host_q (c : Dev nD) (y : S16x2048x1024.Idx) : (show S16x2048x1024.Idx → EReal from V m c main_v2) y = A0 m c y * c8 := rfl

theorem blk1 (c : Dev nD) (t : Fin cfg0.N) (a : Fin 128) (l : Fin 1024) : (show S1x128x1024.Idx → EReal from iblk m c 1 t) (ValueIdx.ix3 0 a l)
    = A0 m c (ValueIdx.ix3 (cfg0.grid.coords t 0) (Fin.ofNat 2048 (128 * (cfg0.grid.coords t 1).val + a)) l) * c8 := by
  obtain ⟨g0, g1, g2⟩ := ind1 t
  have hq : (cfg0.grid.coords t 1).val < 16 := (cfg0.grid.coords t 1).isLt
  show A0 m c ((win0_1.blk t).view.emb (ValueIdx.ix3 0 a l)) * c8 = _
  refine congrArg (· * c8) (congrArg (A0 m c) (idx_ext3 (Fin.ext ?_) (Fin.ext ?_) (Fin.ext ?_)))
  · blk_simp
    exact g0
  · blk_simp
    rw [g1]
    show (cfg0.grid.coords t 1).val * 128 + a.val = (128 * (cfg0.grid.coords t 1).val + a.val) % 2048
    omega
  · blk_simp
    rw [g2]
    show 0 * 1024 + l.val = l.val
    omega

theorem blk2 (c : Dev nD) (t : Fin cfg0.N) (a : Fin 2048) (l : Fin 256) : (show S1x2048x256.Idx → EReal from iblk m c 2 t) (ValueIdx.ix3 0 a l)
    = A1 m c (ValueIdx.ix3 (cfg0.grid.coords t 0) a l) := by
  obtain ⟨g0, g1, g2⟩ := ind2 t
  show A1 m c ((win0_2.blk t).view.emb (ValueIdx.ix3 0 a l)) = _
  refine congrArg (A1 m c) (idx_ext3 (Fin.ext ?_) (Fin.ext ?_) (Fin.ext ?_))
  · blk_simp
    exact g0
  · blk_simp
    rw [g1]
    show 0 * 2048 + a.val = a.val
    omega
  · blk_simp
    rw [g2]
    show 0 * 256 + l.val = l.val
    omega

theorem blk3 (c : Dev nD) (t : Fin cfg0.N) (a : Fin 2048) (l : Fin 256) : (show S1x2048x256.Idx → EReal from iblk m c 3 t) (ValueIdx.ix3 0 a l)
    = A2 m c (ValueIdx.ix3 (cfg0.grid.coords t 0) a l) := by
  obtain ⟨g0, g1, g2⟩ := ind3 t
  show A2 m c ((win0_3.blk t).view.emb (ValueIdx.ix3 0 a l)) = _
  refine congrArg (A2 m c) (idx_ext3 (Fin.ext ?_) (Fin.ext ?_) (Fin.ext ?_))
  · blk_simp
    exact g0
  · blk_simp
    rw [g1]
    show 0 * 2048 + a.val = a.val
    omega
  · blk_simp
    rw [g2]
    show 0 * 256 + l.val = l.val
    omega

theorem blk4 (c : Dev nD) (t : Fin cfg0.N) (a : Fin 256) (l : Fin 256) : (show S1x256x256.Idx → EReal from iblk m c 4 t) (ValueIdx.ix3 0 a l)
    = A3 m c (ValueIdx.ix3 (cfg0.grid.coords t 0) a l) := by
  obtain ⟨g0, g1, g2⟩ := ind4 t
  show A3 m c ((win0_4.blk t).view.emb (ValueIdx.ix3 0 a l)) = _
  refine congrArg (A3 m c) (idx_ext3 (Fin.ext ?_) (Fin.ext ?_) (Fin.ext ?_))
  · blk_simp
    exact g0
  · blk_simp
    rw [g1]
    show 0 * 256 + a.val = a.val
    omega
  · blk_simp
    rw [g2]
    show 0 * 256 + l.val = l.val
    omega

theorem blk5 (c : Dev nD) (t : Fin cfg0.N) (a : Fin 256) (l : Fin 256) : (show S1x256x256.Idx → EReal from iblk m c 5 t) (ValueIdx.ix3 0 a l)
    = A4 m c (ValueIdx.ix3 (cfg0.grid.coords t 0) a l) := by
  obtain ⟨g0, g1, g2⟩ := ind5 t
  show A4 m c ((win0_5.blk t).view.emb (ValueIdx.ix3 0 a l)) = _
  refine congrArg (A4 m c) (idx_ext3 (Fin.ext ?_) (Fin.ext ?_) (Fin.ext ?_))
  · blk_simp
    exact g0
  · blk_simp
    rw [g1]
    show 0 * 256 + a.val = a.val
    omega
  · blk_simp
    rw [g2]
    show 0 * 256 + l.val = l.val
    omega

theorem blk0 (c : Dev nD) (t : Fin cfg0.N) (y : S16.Idx) : (show S16.Idx → EReal from iblk m c 0 t) y = A5 m c y := by
  show V m c main_arg5 ((win0_0.blk t).view.emb y) = _
  rw [V_main_arg5]
  refine congrArg (A5 m c) (funext fun a => Fin.ext ?_)
  obtain rfl : a = (0 : Fin 1) := Fin.ext (Nat.lt_one_iff.mp a.isLt)
  blk_simp
  rw [ind0 t, Nat.zero_mul, Nat.zero_add]

theorem res_at (c : Dev nD) (b z : Fin 16) (s e s' e' : ℕ) (e0 : z = b) (e1 : s' = s) (e2 : e' = e) :
    RES (A0 m c) (A1 m c) (A2 m c) (A3 m c) (A4 m c) (A5 m c) b s e
      = RES (A0 m c) (A1 m c) (A2 m c) (A3 m c) (A4 m c) (A5 m c) z s' e' := by
  rw [e0, e1, e2]

attribute [local irreducible] RES in
/-- The kernel's output array. -/
theorem array_eq (c : Dev nD) (h0 : ∀ y, ∃ r : ℝ, A0 m c y = r) (h1 : ∀ y, ∃ r : ℝ, A1 m c y = r)
    (h3 : ∀ y, ∃ r : ℝ, A3 m c y = r) (h5 : ∀ y, ∃ r : ℝ, A5 m c y = r) :
    (dats m 0 c).arrAt 6 cfg0.N = fun y : S16x2048x1024.Idx => RES (A0 m c) (A1 m c) (A2 m c) (A3 m c)
      (A4 m c) (A5 m c) (y 0) (y 1).val (y 2).val := by
  refine (dats m 0 c).arrAt_eq_of_covers 6 _ cov6 (fun t hf y => ?_)
  blk_simp
  rw [after0_6]
  obtain ⟨z, a, l, rfl⟩ : ∃ (z : Fin 1) (a : Fin 128) (l : Fin 1024), y = ValueIdx.ix3 z a l := ⟨y 0, y 1, y 2, ValueIdx.eq_ix3 y⟩
  obtain rfl : z = 0 := Subsingleton.elim _ _
  obtain ⟨g0, g1, g2⟩ := ind6 t
  have e0 : ((win0_6.blk t).view.emb (ValueIdx.ix3 0 a l)) 0 = cfg0.grid.coords t 0 := by
    apply Fin.ext
    blk_simp
    exact g0
  have ho := out_apply c (cfg0.grid.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) a l
  have hg := og_eq c (cfg0.grid.coords t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t) (A0 m c) (A1 m c) (A2 m c) (A3 m c) (A4 m c) (A5 m c)
    (cfg0.grid.coords t 0) a l a.isLt l.isLt (blk0 m c t) (blk1 m c t) (blk2 m c t) (blk3 m c t) (blk4 m c t) (blk5 m c t) h0 h1 h3 h5
  refine Eq.trans ?_ ((ho.trans hg).trans ?_)
  · unfold outsAt0 out0_A_6
    rw [View.read_writes_junk_eq_canon]
  · refine res_at m c _ _ _ _ _ _ e0 ?_ ?_
    · rw [g1]
      show (cfg0.grid.coords t 1).val * 128 + a.val = _
      omega
    · rw [g2]
      show 0 * 1024 + l.val = l.val
      omega

end Cert.Attn
-- ==== Proof.Ref.lean ====
module

public import proofs.«01_k».proof.Proof.Target
public import proofs.«01_k».proof.Proof.Gen.ReferenceIdeal.Read

@[expose] public section

noncomputable section

/-!
The reference's result as the same function of the six arrays.
-/

namespace Cert.Attn

open Idealize.ShloMosaic Idealize.ShloMosaic.TcCoe Idealize.ShloMosaic.ValueIdx Cert.ReferenceIdeal Cert.ReferenceIdeal.Gen Cert.ReferenceIdeal.Read
open scoped BigOperators

variable (a0 : S16x2048x1024.Idx → EReal) (a1 a2 : S16x2048x256.Idx → EReal) (a3 a4 : S16x256x256.Idx → EReal) (a5 : S16.Idx → EReal)

theorem minf_eq : (FloatOps.ofBits (F := Ideal) .f32 0xFF800000#32 : EReal) = ⊥ := by
  show Ideal.ofBits .f32 0xFF800000#32 = ⊥
  simp [Ideal.ofBits, Ideal.ieee]

/-- A query head's number from the key head's and the place among the key head's four. -/
abbrev hd (p q : Fin 4) : ℕ := 4 * p.val + q.val

theorem hd_div (p q : Fin 4) : hd p q / 4 = p.val := by
  have := q.isLt
  show (4 * p.val + q.val) / 4 = p.val
  omega

theorem q_read (b : Fin 16) (s : Fin 2048) (p q : Fin 4) (d : Fin 64) (j : S16x2048x4x4x64.Idx)
    (e0 : j 0 = b) (e1 : j 1 = s) (e2 : j 2 = p) (e3 : j 3 = q) (e4 : j 4 = d) :
    val_main_v0 (F := Ideal) a0 j = a0 (ix3 b (Fin.ofNat 2048 s.val) (Fin.ofNat 1024 (64 * hd p q + d.val))) := by
  have hb : b.val < 16 := b.isLt
  have hs : s.val < 2048 := s.isLt
  have hp : p.val < 4 := p.isLt
  have hd' : d.val < 64 := d.isLt
  have hq : q.val < 4 := q.isLt
  rw [val_main_v0_apply]
  refine congrArg a0 (idx_ext3 (Fin.ext ?_) (Fin.ext ?_) (Fin.ext ?_))
  · show (((((j 0).val * 2048 + (j 1).val) * 4 + (j 2).val) * 4 + (j 3).val) * 64 + (j 4).val) / 2097152 = b.val
    rw [e0, e1, e2, e3, e4]; omega
  · show (((((j 0).val * 2048 + (j 1).val) * 4 + (j 2).val) * 4 + (j 3).val) * 64 + (j 4).val) / 1024 % 2048 = s.val % 2048
    rw [e0, e1, e2, e3, e4]; omega
  · show (((((j 0).val * 2048 + (j 1).val) * 4 + (j 2).val) * 4 + (j 3).val) * 64 + (j 4).val) % 1024 = (64 * (4 * p.val + q.val) + d.val) % 1024
    rw [e0, e1, e2, e3, e4]; omega

theorem k_read (b : Fin 16) (s : Fin 2048) (p : Fin 4) (d : Fin 64) (j : S16x2048x4x64.Idx)
    (e0 : j 0 = b) (e1 : j 1 = s) (e2 : j 2 = p) (e3 : j 3 = d) :
    val_main_v1 (F := Ideal) a1 j = a1 (ix3 b (Fin.ofNat 2048 s.val) (Fin.ofNat 256 (64 * p.val + d.val))) := by
  have hb : b.val < 16 := b.isLt
  have hs : s.val < 2048 := s.isLt
  have hp : p.val < 4 := p.isLt
  have hd' : d.val < 64 := d.isLt
  rw [val_main_v1_apply]
  refine congrArg a1 (idx_ext3 (Fin.ext ?_) (Fin.ext ?_) (Fin.ext ?_))
  · show ((((j 0).val * 2048 + (j 1).val) * 4 + (j 2).val) * 64 + (j 3).val) / 524288 = b.val
    rw [e0, e1, e2, e3]; omega
  · show ((((j 0).val * 2048 + (j 1).val) * 4 + (j 2).val) * 64 + (j 3).val) / 256 % 2048 = s.val % 2048
    rw [e0, e1, e2, e3]; omega
  · show ((((j 0).val * 2048 + (j 1).val) * 4 + (j 2).val) * 64 + (j 3).val) % 256 = (64 * p.val + d.val) % 256
    rw [e0, e1, e2, e3]; omega

theorem v_read (b : Fin 16) (s : Fin 2048) (p : Fin 4) (d : Fin 64) (j : S16x2048x4x64.Idx)
    (e0 : j 0 = b) (e1 : j 1 = s) (e2 : j 2 = p) (e3 : j 3 = d) :
    val_main_v2 (F := Ideal) a2 j = a2 (ix3 b (Fin.ofNat 2048 s.val) (Fin.ofNat 256 (64 * p.val + d.val))) :=
  k_read a2 b s p d j e0 e1 e2 e3

theorem kc_read (b : Fin 16) (s : Fin 256) (p : Fin 4) (d : Fin 64) (j : S16x256x4x64.Idx)
    (e0 : j 0 = b) (e1 : j 1 = s) (e2 : j 2 = p) (e3 : j 3 = d) :
    val_main_v3 (F := Ideal) a3 j = a3 (ix3 b (Fin.ofNat 256 s.val) (Fin.ofNat 256 (64 * p.val + d.val))) := by
  have hb : b.val < 16 := b.isLt
  have hs : s.val < 256 := s.isLt
  have hp : p.val < 4 := p.isLt
  have hd' : d.val < 64 := d.isLt
  rw [val_main_v3_apply]
  refine congrArg a3 (idx_ext3 (Fin.ext ?_) (Fin.ext ?_) (Fin.ext ?_))
  · show ((((j 0).val * 256 + (j 1).val) * 4 + (j 2).val) * 64 + (j 3).val) / 65536 = b.val
    rw [e0, e1, e2, e3]; omega
  · show ((((j 0).val * 256 + (j 1).val) * 4 + (j 2).val) * 64 + (j 3).val) / 256 % 256 = s.val % 256
    rw [e0, e1, e2, e3]; omega
  · show ((((j 0).val * 256 + (j 1).val) * 4 + (j 2).val) * 64 + (j 3).val) % 256 = (64 * p.val + d.val) % 256
    rw [e0, e1, e2, e3]; omega

theorem vc_read (b : Fin 16) (s : Fin 256) (p : Fin 4) (d : Fin 64) (j : S16x256x4x64.Idx)
    (e0 : j 0 = b) (e1 : j 1 = s) (e2 : j 2 = p) (e3 : j 3 = d) :
    val_main_v4 (F := Ideal) a4 j = a4 (ix3 b (Fin.ofNat 256 s.val) (Fin.ofNat 256 (64 * p.val + d.val))) :=
  kc_read a4 b s p d j e0 e1 e2 e3

section
variable (b : Fin 16) (p q : Fin 4) (s : Fin 2048)

/-- The sink's logit of a head. -/
abbrev sk : EReal := a5 (ix1 (Fin.ofNat 16 (hd p q)))
/-- A row's maximum in the reference. -/
abbrev mx : EReal := refMax (swF a0 a1 b s.val (hd p q)) (scF a0 a3 b s.val (hd p q)) (sk a5 p q)
/-- A row's normalizer in the reference. -/
abbrev dn : EReal := refDen (swF a0 a1 b s.val (hd p q)) (scF a0 a3 b s.val (hd p q)) (sk a5 p q)

/-- The latent logits. -/
theorem v15_eq (n : Fin 2048) (i : S16x4x4x2048x2048.Idx) (e0 : i 0 = b) (e1 : i 1 = p) (e2 : i 2 = q) (e3 : i 3 = s) (e4 : i 4 = n) :
    val_main_v15 (F := Ideal) a0 a1 i
    = ∑ d : Fin 64, (a0 (ix3 b (Fin.ofNat 2048 s.val) (Fin.ofNat 1024 (64 * hd p q + d))) * c8)
      * a1 (ix3 b (Fin.ofNat 2048 n.val) (Fin.ofNat 256 (64 * (hd p q / 4) + d))) := by
  rw [val_main_v15_apply, val_main_v13_apply, val_main_v14_apply, val_main_v12_apply]
  show (∑ k : Fin 64, _) * c8 = _
  rw [sum_mul_of_nonneg _ _ c8_nonneg c8_ne_top, hd_div]
  refine Finset.sum_congr rfl fun d _ => ?_
  rw [k_read a1 b n p d _ e0 e4 e1 rfl, q_read a0 b s p q d _ e0 e3 e1 e2 rfl]
  rw [mul_comm (a1 _), mul_right_comm]

theorem v20_eq (n : Fin 256) (i : S16x4x4x2048x256.Idx) (e0 : i 0 = b) (e1 : i 1 = p) (e2 : i 2 = q) (e3 : i 3 = s) (e4 : i 4 = n) :
    val_main_v20 (F := Ideal) a0 a3 i = scF a0 a3 b s.val (hd p q) n.val := by
  rw [val_main_v20_apply, val_main_v18_apply, val_main_v19_apply, val_main_v17_apply]
  show (∑ k : Fin 64, _) * c8 = _
  unfold scF
  rw [sum_mul_of_nonneg _ _ c8_nonneg c8_ne_top, hd_div]
  refine Finset.sum_congr rfl fun d _ => ?_
  rw [kc_read a3 b n p d _ e0 e4 e1 rfl, q_read a0 b s p q d _ e0 e3 e1 e2 rfl]
  rw [mul_comm (a3 _), mul_right_comm]

/-- The mask. -/
theorem mask_eq (n : Fin 2048) (i : S16x4x4x2048x2048.Idx) (e3 : i 3 = s) (e4 : i 4 = n) :
    val_main_call0_v1 (F := Ideal) i = BitVec.ofBool (decide (near s.val n.val)) := by
  have h3 : s.val < 2048 := s.isLt
  have h4 : n.val < 2048 := n.isLt
  rw [val_main_call0_v1_apply, val_main_v11_apply, val_main_v10_apply, val_main_v8_apply, val_main_v7_apply, val_main_v9_apply,
    val_main_v5_apply, val_main_v6_apply, val_main_c_apply, ← near_bit s.val n.val (by omega) (by omega), ← e3, ← e4]

theorem v16_eq (n : Fin 2048) (i : S16x4x4x2048x2048.Idx) (e0 : i 0 = b) (e1 : i 1 = p) (e2 : i 2 = q) (e3 : i 3 = s) (e4 : i 4 = n) :
    val_main_v16 (F := Ideal) a0 a1 i = swF a0 a1 b s.val (hd p q) n.val := by
  rw [val_main_v16_apply, mask_eq s n i e3 e4, v15_eq a0 a1 b p q s n i e0 e1 e2 e3 e4, val_main_call0_v2_apply, val_main_call0_v0_apply,
    val_main_cst_0_apply, minf_eq]
  unfold swF
  by_cases h : near s.val n.val
  · rw [decide_eq_true h, if_pos h]; rfl
  · rw [decide_eq_false h, if_neg h]; rfl

theorem v22_eq (j : S16x4x4x2048.Idx) (e0 : j 0 = b) (e1 : j 1 = p) (e2 : j 2 = q) (e3 : j 3 = s) : val_main_v22 (F := Ideal) a0 a1 j
    = (Finset.univ : Finset (Fin 2048)).fold max ⊥ fun n : Fin 2048 => swF a0 a1 b s.val (hd p q) n.val := by
  unfold val_main_v22
  have e : ∀ k : Fin 2048, val_main_v16 (F := Ideal) a0 a1 (idx_main_v35 j k) = swF a0 a1 b s.val (hd p q) k.val :=
    fun k => v16_eq a0 a1 b p q s k (idx_main_v35 j k) e0 e1 e2 e3 rfl
  generalize val_main_v16 (F := Ideal) a0 a1 = y at e
  rw [Host.reduce_eq_fold_single (FloatOps.maximumf (F := Ideal)) y _ reducesTo_S16x4x4x2048x2048_S16x4x4x2048_d4 (by decide) h_S_ j, val_main_cst_2_apply, minf_eq]
  refine Finset.fold_congr fun k _ => ?_
  rw [← e k]
  exact congrArg y (funext fun a => Fin.ext (by match a with | ⟨0, _⟩ => rfl | ⟨1, _⟩ => rfl | ⟨2, _⟩ => rfl | ⟨3, _⟩ => rfl | ⟨4, _⟩ => rfl))

theorem v23_eq (j : S16x4x4x2048.Idx) (e0 : j 0 = b) (e1 : j 1 = p) (e2 : j 2 = q) (e3 : j 3 = s) : val_main_v23 (F := Ideal) a0 a3 j
    = (Finset.univ : Finset (Fin 256)).fold max ⊥ fun n : Fin 256 => scF a0 a3 b s.val (hd p q) n.val := by
  unfold val_main_v23
  have e : ∀ k : Fin 256, val_main_v20 (F := Ideal) a0 a3 (idx_main_v36 j k) = scF a0 a3 b s.val (hd p q) k.val :=
    fun k => v20_eq a0 a3 b p q s k (idx_main_v36 j k) e0 e1 e2 e3 rfl
  generalize val_main_v20 (F := Ideal) a0 a3 = y at e
  rw [Host.reduce_eq_fold_single (FloatOps.maximumf (F := Ideal)) y _ reducesTo_S16x4x4x2048x256_S16x4x4x2048_d4 (by decide) h_S_ j, val_main_cst_3_apply, minf_eq]
  refine Finset.fold_congr fun k _ => ?_
  rw [← e k]
  exact congrArg y (funext fun a => Fin.ext (by match a with | ⟨0, _⟩ => rfl | ⟨1, _⟩ => rfl | ⟨2, _⟩ => rfl | ⟨3, _⟩ => rfl | ⟨4, _⟩ => rfl))

theorem v21_eq (j : S1x4x4x1.Idx) (e1 : j 1 = p) (e2 : j 2 = q) : val_main_v21 (F := Ideal) a5 j = sk a5 p q := by
  rw [val_main_v21_apply]
  refine congrArg a5 (funext fun a => Fin.ext ?_)
  obtain rfl : a = (0 : Fin 1) := Fin.ext (Nat.lt_one_iff.mp a.isLt)
  have h0 : (j 0).val < 1 := (j 0).isLt
  have h3 : (j 3).val < 1 := (j 3).isLt
  have hp : p.val < 4 := p.isLt
  have hq : q.val < 4 := q.isLt
  show (((j 0).val * 4 + (j 1).val) * 4 + (j 2).val) * 1 + (j 3).val = (4 * p.val + q.val) % 16
  rw [e1, e2]; omega

/-- The row maximum. -/
theorem v26_eq (j : S16x4x4x2048.Idx) (e0 : j 0 = b) (e1 : j 1 = p) (e2 : j 2 = q) (e3 : j 3 = s) :
    val_main_v26 (F := Ideal) a0 a1 a3 a5 j = mx a0 a1 a3 a5 b p q s := by
  rw [val_main_v26_apply, val_main_v24_apply, v22_eq a0 a1 b p q s j e0 e1 e2 e3, v23_eq a0 a3 b p q s j e0 e1 e2 e3, val_main_v25_apply,
    v21_eq a5 p q _ e1 e2]
  rfl

theorem v30_eq (n : Fin 2048) (i : S16x4x4x2048x2048.Idx) (e0 : i 0 = b) (e1 : i 1 = p) (e2 : i 2 = q) (e3 : i 3 = s) (e4 : i 4 = n) :
    val_main_v30 (F := Ideal) a0 a1 a3 a5 i = Ideal.exp (swF a0 a1 b s.val (hd p q) n.val - mx a0 a1 a3 a5 b p q s) := by
  rw [val_main_v30_apply, val_main_v29_apply, v16_eq a0 a1 b p q s n i e0 e1 e2 e3 e4, val_main_v28_apply, val_main_v27_apply,
    v26_eq a0 a1 a3 a5 b p q s _ e0 e1 e2 e3]
  rfl

theorem v34_eq (n : Fin 256) (i : S16x4x4x2048x256.Idx) (e0 : i 0 = b) (e1 : i 1 = p) (e2 : i 2 = q) (e3 : i 3 = s) (e4 : i 4 = n) :
    val_main_v34 (F := Ideal) a0 a1 a3 a5 i = Ideal.exp (scF a0 a3 b s.val (hd p q) n.val - mx a0 a1 a3 a5 b p q s) := by
  rw [val_main_v34_apply, val_main_v33_apply, v20_eq a0 a3 b p q s n i e0 e1 e2 e3 e4, val_main_v32_apply, val_main_v31_apply,
    v26_eq a0 a1 a3 a5 b p q s _ e0 e1 e2 e3]
  rfl

/-- The normalizer. -/
theorem v41_eq (j : S16x4x4x2048.Idx) (e0 : j 0 = b) (e1 : j 1 = p) (e2 : j 2 = q) (e3 : j 3 = s) :
    val_main_v41 (F := Ideal) a0 a1 a3 a5 j = dn a0 a1 a3 a5 b p q s := by
  rw [val_main_v41_apply, val_main_v37_apply, val_main_v35_apply, val_main_v36_apply, val_main_v40_apply, val_main_v39_apply,
    val_main_v38_apply, v21_eq a5 p q _ e1 e2, v26_eq a0 a1 a3 a5 b p q s j e0 e1 e2 e3]
  have z4 : (val_main_cst_4 (F := Ideal)) (Shape.Idx.first h_S_) = 0 := Ideal.ofBits_zero_f32
  have z5 : (val_main_cst_5 (F := Ideal)) (Shape.Idx.first h_S_) = 0 := Ideal.ofBits_zero_f32
  rw [z4, z5]
  refine congrArg₂ (· + ·) (congrArg₂ (· + ·) ?_ ?_) rfl
  · refine (zero_add _).trans (Finset.sum_congr rfl fun k _ => ?_)
    exact v30_eq a0 a1 a3 a5 b p q s k (idx_main_v35 j k) e0 e1 e2 e3 rfl
  · refine (zero_add _).trans (Finset.sum_congr rfl fun k _ => ?_)
    exact v34_eq a0 a1 a3 a5 b p q s k (idx_main_v36 j k) e0 e1 e2 e3 rfl

theorem v44_eq (n : Fin 2048) (i : S16x4x4x2048x2048.Idx) (e0 : i 0 = b) (e1 : i 1 = p) (e2 : i 2 = q) (e3 : i 3 = s) (e4 : i 4 = n) :
    val_main_v44 (F := Ideal) a0 a1 a3 a5 i
      = Ideal.div (Ideal.exp (swF a0 a1 b s.val (hd p q) n.val - mx a0 a1 a3 a5 b p q s)) (dn a0 a1 a3 a5 b p q s) := by
  rw [val_main_v44_apply, v30_eq a0 a1 a3 a5 b p q s n i e0 e1 e2 e3 e4, val_main_v43_apply, val_main_v42_apply,
    v41_eq a0 a1 a3 a5 b p q s _ e0 e1 e2 e3]
  rfl

theorem v48_eq (n : Fin 256) (i : S16x4x4x2048x256.Idx) (e0 : i 0 = b) (e1 : i 1 = p) (e2 : i 2 = q) (e3 : i 3 = s) (e4 : i 4 = n) :
    val_main_v48 (F := Ideal) a0 a1 a3 a5 i
      = Ideal.div (Ideal.exp (scF a0 a3 b s.val (hd p q) n.val - mx a0 a1 a3 a5 b p q s)) (dn a0 a1 a3 a5 b p q s) := by
  rw [val_main_v48_apply, v34_eq a0 a1 a3 a5 b p q s n i e0 e1 e2 e3 e4, val_main_v47_apply, val_main_v42_apply,
    v41_eq a0 a1 a3 a5 b p q s _ e0 e1 e2 e3]
  rfl

/-- The heads' outputs, before they are joined. -/
theorem v51_eq (d : Fin 64) (i : S16x2048x4x4x64.Idx) (e0 : i 0 = b) (e1 : i 1 = s) (e2 : i 2 = p) (e3 : i 3 = q) (e4 : i 4 = d) :
    val_main_v51 (F := Ideal) a0 a1 a2 a3 a4 a5 i = RES a0 a1 a2 a3 a4 a5 b s.val (64 * hd p q + d.val) := by
  have hd' : d.val < 64 := d.isLt
  have g1 : (64 * hd p q + d.val) / 64 = hd p q := by omega
  have g2 : (64 * hd p q + d.val) % 64 = d.val := by omega
  rw [val_main_v51_apply, val_main_v46_apply, val_main_v50_apply, val_main_v45_apply, val_main_v49_apply]
  unfold RES
  rw [g1, g2, hd_div]
  unfold refOut
  refine congrArg₂ (· + ·) (Finset.sum_congr rfl fun k _ => ?_) (Finset.sum_congr rfl fun k _ => ?_)
  · rw [v_read a2 b k p d _ e0 rfl e2 e4, v44_eq a0 a1 a3 a5 b p q s k _ e0 e2 e3 e1 rfl, mul_comm]
  · rw [vc_read a4 b k p d _ e0 rfl e2 e4, v48_eq a0 a1 a3 a5 b p q s k _ e0 e2 e3 e1 rfl, mul_comm]
end

/-- The reference's result. -/
theorem ref_eq (y : S16x2048x1024.Idx) : val_main_v53 (F := Ideal) a0 a1 a2 a3 a4 a5 y
    = RES a0 a1 a2 a3 a4 a5 (y 0) (y 1).val (y 2).val := by
  rw [val_main_v53_apply]
  show val_main_v52 (F := Ideal) a0 a1 a2 a3 a4 a5 y = _
  have h0 : (y 0).val < 16 := (y 0).isLt
  have h1 : (y 1).val < 2048 := (y 1).isLt
  have h2 : (y 2).val < 1024 := (y 2).isLt
  have k2 : (y 2).val / 256 < 4 := by omega
  have k3 : (y 2).val / 64 % 4 < 4 := by omega
  have k4 : (y 2).val % 64 < 64 := by omega
  rw [val_main_v52_apply, v51_eq a0 a1 a2 a3 a4 a5 (y 0) ⟨(y 2).val / 256, k2⟩ ⟨(y 2).val / 64 % 4, k3⟩ (y 1) ⟨(y 2).val % 64, k4⟩ (idx_main_v52 y)]
  · refine congrArg (RES a0 a1 a2 a3 a4 a5 (y 0) (y 1).val) ?_
    show 64 * (4 * ((y 2).val / 256) + (y 2).val / 64 % 4) + (y 2).val % 64 = (y 2).val
    omega
  · apply Fin.ext
    show (((y 0).val * 2048 + (y 1).val) * 1024 + (y 2).val) / 2097152 = (y 0).val
    omega
  · apply Fin.ext
    show (((y 0).val * 2048 + (y 1).val) * 1024 + (y 2).val) / 1024 % 2048 = (y 1).val
    omega
  · apply Fin.ext
    show (((y 0).val * 2048 + (y 1).val) * 1024 + (y 2).val) / 256 % 4 = (y 2).val / 256
    omega
  · apply Fin.ext
    show (((y 0).val * 2048 + (y 1).val) * 1024 + (y 2).val) / 64 % 4 = (y 2).val / 64 % 4
    omega
  · apply Fin.ext
    show (((y 0).val * 2048 + (y 1).val) * 1024 + (y 2).val) % 64 = (y 2).val % 64
    omega

end Cert.Attn
-- ==== Proof.Finite.lean ====
module

public import proofs.«01_k».proof.Pre_finite
public import Idealize.ShloMosaic.Lib.ReduceAll
public import Idealize.ShloMosaic.Lib.Pipeline.Value
public import Idealize.ShloMosaic.PureOps.Ideal.Laws

@[expose] public section

noncomputable section

/-!
What the precondition says: the four arrays the logits are made of hold real numbers.
-/

namespace Cert.Attn

open Idealize.ShloMosaic Cert.Pre_finite

instance finite_facts : Cert.Pre_finite.Facts where
  bcast_S_S16x2048x1024 := by decide
  reducesTo_S16x2048x1024_S_d0_1_2 := by decide
  h_S_ := by decide
  bcast_S_S16x2048x256 := by decide
  reducesTo_S16x2048x256_S_d0_1_2 := by decide
  bcast_S_S16x256x256 := by decide
  reducesTo_S16x256x256_S_d0_1_2 := by decide
  bcast_S_S16 := by decide
  reducesTo_S16_S_d0 := by decide

theorem inf_eq : Ideal.ofBits .f32 0x7F800000#32 = (⊤ : EReal) := by
  simp [Ideal.ofBits, Ideal.ieee]

theorem real_of_abs_lt (x : EReal) (h : max x (-x) < ⊤) : ∃ r : ℝ, x = r := by
  have h1 : x ≠ ⊤ := ne_of_lt (lt_of_le_of_lt (le_max_left _ _) h)
  have h2 : x ≠ ⊥ := by
    rintro rfl
    exact absurd (lt_of_le_of_lt (le_max_right _ _) h) (by simp)
  exact ⟨x.toReal, (EReal.coe_toReal h1 h2).symm⟩

/-- An array whose every element is below infinity in absolute value holds real numbers. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (y : s.Idx) : ∃ r : ℝ, (show EReal from x y) = r := by
  haveI : Subsingleton S_.Idx := ⟨fun a b => funext fun k => k.elim0⟩
  have h := Host.reduce_andi_all _ _ hr hu j e y
  have hb' : broadcastInDim s ![] hb (constant (F := Ideal) S_ .f32 0x7F800000#32) y = (⊤ : EReal) := inf_eq
  have h' : Ideal.cmp .olt (max (show EReal from x y) (-(show EReal from x y))) (broadcastInDim s ![] hb (constant (F := Ideal) S_ .f32 0x7F800000#32) y) = 1#1 := h
  rw [hb'] at h'
  refine real_of_abs_lt _ ?_
  by_contra hn
  have : Ideal.cmp .olt (max (show EReal from x y) (-(show EReal from x y))) (⊤ : EReal) = 0#1 := by
    show BitVec.ofBool (decide (_ < _)) = 0#1
    rw [decide_eq_false hn]; rfl
  rw [this] at h'
  exact absurd h' (by decide)

/-- The precondition, read. -/
theorem real_of_finite (x0 : FVec Ideal S16x2048x1024 .f32) (x1 x2 : FVec Ideal S16x2048x256 .f32) (x3 x4 : FVec Ideal S16x256x256 .f32)
    (x5 : FVec Ideal S16 .f32) (h : Cert.Pre_finite.fn (F := Ideal) x0 x1 x2 x3 x4 x5 = fun _ => 1#1) :
    (∀ y, ∃ r : ℝ, (show EReal from x0 y) = r) ∧ (∀ y, ∃ r : ℝ, (show EReal from x1 y) = r)
      ∧ (∀ y, ∃ r : ℝ, (show EReal from x3 y) = r) ∧ (∀ y, ∃ r : ℝ, (show EReal from x5 y) = r) := by
  have h0 := congrFun h (fun k => k.elim0)
  obtain ⟨h1, k5⟩ := IntOp.andi_eq_one.1 h0
  obtain ⟨h2, k3⟩ := IntOp.andi_eq_one.1 h1
  obtain ⟨k0, k1⟩ := IntOp.andi_eq_one.1 h2
  exact ⟨real_of_all x0 _ _ _ _ k0, real_of_all x1 _ _ _ _ k1, real_of_all x3 _ _ _ _ k3, real_of_all x5 _ _ _ _ k5⟩

end Cert.Attn
-- ==== Proof.GmmRun.lean ====
/- One grid point of the routed experts' kernel, run over any float values: a point before the last row block in use
   multiplies two row blocks through their experts' gate, up and down projections and stores both results; a later
   point does nothing. -/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three tables in scalar memory: each block's expert, its number of live rows, and the number of blocks in use. -/
abbrev tabE : Memref sig .tc .smem S576 .i32 := Memref.whole main_arg0
abbrev tabV : Memref sig .tc .smem S576 .i32 := Memref.whole main_arg1
abbrev tabN : Memref sig .tc .smem S1 .i32 := Memref.whole main_arg2

/-- One staging buffer of the result, through which what a point stores is read. -/
abbrev outV : View sig .tc .vmem S1024x1024 .bf16 := (Memref.whole cc0_stg7_0 : Memref sig .tc .vmem S1024x1024 .bf16).view

/-- The number of blocks in use, as the body loads it. -/
abbrev usedWord (T2 : S1.Idx → Elt F .i32) : Elt F .i32 :=
  View.readAt (Elt F) tabN.view (Rect.unit (s := S1) ![0] S1.size inb_S1_S1_0).toLoadRect T2 (Shape.Idx.first (numel1_S1.symm ▸ Nat.one_pos))

section Point
variable (c : Dev nD) (i : grid0.Coords)
  (X : Memref sig .tc .vmem S1024x1024 .bf16) (hX : X.IsWhole)
  (G0 : Memref sig .tc .vmem S1x1x1024x256 .bf16) (hG0 : G0.IsWhole)
  (U0 : Memref sig .tc .vmem S1x1x1024x256 .bf16) (hU0 : U0.IsWhole)
  (D0 : Memref sig .tc .vmem S1x1x256x1024 .bf16) (hD0 : D0.IsWhole)
  (G1 : Memref sig .tc .vmem S1x1x1024x256 .bf16) (hG1 : G1.IsWhole)
  (U1 : Memref sig .tc .vmem S1x1x1024x256 .bf16) (hU1 : U1.IsWhole)
  (D1 : Memref sig .tc .vmem S1x1x256x1024 .bf16) (hD1 : D1.IsWhole)
  (O : Memref sig .tc .vmem S1024x1024 .bf16) (hO : O.IsWhole)
  (T0 T1 : S576.Idx → Elt F .i32) (T2 : S1.Idx → Elt F .i32)
  (x : S1024x1024.Idx → Elt F .bf16)
  (g0 : S1x1x1024x256.Idx → Elt F .bf16)
  (u0 : S1x1x1024x256.Idx → Elt F .bf16)
  (d0 : S1x1x256x1024.Idx → Elt F .bf16)
  (g1 : S1x1x1024x256.Idx → Elt F .bf16)
  (u1 : S1x1x1024x256.Idx → Elt F .bf16)
  (d1 : S1x1x256x1024.Idx → Elt F .bf16)

set_option backward.proofsInPublic true in
set_option maxHeartbeats 8000000 in
/-- A point whose two blocks begin before the last block in use: the two pieces it stores, with the proof that the body
    runs from the windows' blocks and the tables to those pieces written into the result's buffer. -/
def runTaken (ht : k0_cond1 i (usedWord T2) = 1#1) :
    { out : List (View.Piece (Elt F) S1024x1024 .bf16) //
      ∀ (K : PUnit → sProp 𝕄),
        iprop((X.view.loc (c : Thread nD τ) ↦[X.view.set]{fullShare} X.view.rep x)
          ∗ (G0.view.loc (c : Thread nD τ) ↦[G0.view.set]{fullShare} G0.view.rep g0)
          ∗ (U0.view.loc (c : Thread nD τ) ↦[U0.view.set]{fullShare} U0.view.rep u0)
          ∗ (D0.view.loc (c : Thread nD τ) ↦[D0.view.set]{fullShare} D0.view.rep d0)
          ∗ (G1.view.loc (c : Thread nD τ) ↦[G1.view.set]{fullShare} G1.view.rep g1)
          ∗ (U1.view.loc (c : Thread nD τ) ↦[U1.view.set]{fullShare} U1.view.rep u1)
          ∗ (D1.view.loc (c : Thread nD τ) ↦[D1.view.set]{fullShare} D1.view.rep d1)
          ∗ (tabE.view.loc (c : Thread nD τ) ↦{fullShare.right} T0)
          ∗ (tabV.view.loc (c : Thread nD τ) ↦{fullShare.right} T1)
          ∗ (tabN.view.loc (c : Thread nD τ) ↦{fullShare.right} T2)
          ∗ (∃ d, owns (c : Thread nD τ) O fullShare d)
          ∗ (iprop((X.view.loc (c : Thread nD τ) ↦[X.view.set]{fullShare} X.view.rep x)
          ∗ (G0.view.loc (c : Thread nD τ) ↦[G0.view.set]{fullShare} G0.view.rep g0)
          ∗ (U0.view.loc (c : Thread nD τ) ↦[U0.view.set]{fullShare} U0.view.rep u0)
          ∗ (D0.view.loc (c : Thread nD τ) ↦[D0.view.set]{fullShare} D0.view.rep d0)
          ∗ (G1.view.loc (c : Thread nD τ) ↦[G1.view.set]{fullShare} G1.view.rep g1)
          ∗ (U1.view.loc (c : Thread nD τ) ↦[U1.view.set]{fullShare} U1.view.rep u1)
          ∗ (D1.view.loc (c : Thread nD τ) ↦[D1.view.set]{fullShare} D1.view.rep d1)
          ∗ (tabE.view.loc (c : Thread nD τ) ↦{fullShare.right} T0)
          ∗ (tabV.view.loc (c : Thread nD τ) ↦{fullShare.right} T1)
          ∗ (tabN.view.loc (c : Thread nD τ) ↦{fullShare.right} T2)
              ∗ (∃ f, O.view.loc (c : Thread nD τ) ↦[O.view.set]{fullShare} O.view.writes (Elt F) f out)) -∗ K ⟨⟩))
          ⊢ wp frame (wpE (defs₀ (F := F)) Variants.none c none) Set.univ (cc0_moe_experts i tabE (Memref.isWhole_whole _) tabV (Memref.isWhole_whole _) tabN (Memref.isWhole_whole _) X hX G0 hG0 U0 hU0 D0 hD0 G1 hG1 U1 hU1 D1 hD1 O hO) K } :=
  ⟨_, fun K => by
    unfold owns
    rw [cc0_moe_experts_eq_skeleton]; unfold cc0_moe_experts_skel
    iintro ⟨H0, H1, H2, H3, H4, H5, H6, HT0, HT1, HT2, ⟨%d7, %f7, -, HO⟩, Hk⟩
    have hT0 : tabE.IsWhole := Memref.isWhole_whole _
    have hT1 : tabV.IsWhole := Memref.isWhole_whole _
    have hT2 : tabN.IsWhole := Memref.isWhole_whole _
    sl_exec! (disch := first | (guard_target = k0_cond1 _ _ = _; exact ht))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    iexists _; iexact HO⟩

/-- The two stores cover the result's block. -/
theorem taken_cover (ht : k0_cond1 i (usedWord T2) = 1#1) (y : S1024x1024.Idx) :
    ∃ pc ∈ (runTaken c i X hX G0 hG0 U0 hU0 D0 hD0 G1 hG1 U1 hU1 D1 hD1 O hO T0 T1 T2 x g0 u0 d0 g1 u1 d1 ht).1, y ∈ pc.1.set :=
  View.cover_of_tiledL (runTaken c i X hX G0 hG0 U0 hU0 D0 hD0 G1 hG1 U1 hU1 D1 hD1 O hO T0 T1 T2 x g0 u0 d0 g1 u1 d1 ht).1 S512x1024.size (by sl_kernel_rfl) y

/-- What such a point leaves in the result's buffer. -/
def takenOut (ht : k0_cond1 i (usedWord T2) = 1#1) : S1024x1024.Idx → Elt F .bf16 :=
  outV.read (Elt F) (outV.writes (Elt F) outV.junk (runTaken c i X hX G0 hG0 U0 hU0 D0 hD0 G1 hG1 U1 hU1 D1 hD1 O hO T0 T1 T2 x g0 u0 d0 g1 u1 d1 ht).1)

set_option maxHeartbeats 8000000 in
/-- A later point: the body does nothing, and every buffer is as it was. -/
theorem runSkipped (ht : ¬ k0_cond1 i (usedWord T2) = 1#1) (y : S1024x1024.Idx → Elt F .bf16) (K : PUnit → sProp 𝕄) :
        iprop((X.view.loc (c : Thread nD τ) ↦[X.view.set]{fullShare} X.view.rep x)
          ∗ (G0.view.loc (c : Thread nD τ) ↦[G0.view.set]{fullShare} G0.view.rep g0)
          ∗ (U0.view.loc (c : Thread nD τ) ↦[U0.view.set]{fullShare} U0.view.rep u0)
          ∗ (D0.view.loc (c : Thread nD τ) ↦[D0.view.set]{fullShare} D0.view.rep d0)
          ∗ (G1.view.loc (c : Thread nD τ) ↦[G1.view.set]{fullShare} G1.view.rep g1)
          ∗ (U1.view.loc (c : Thread nD τ) ↦[U1.view.set]{fullShare} U1.view.rep u1)
          ∗ (D1.view.loc (c : Thread nD τ) ↦[D1.view.set]{fullShare} D1.view.rep d1)
          ∗ (tabE.view.loc (c : Thread nD τ) ↦{fullShare.right} T0)
          ∗ (tabV.view.loc (c : Thread nD τ) ↦{fullShare.right} T1)
          ∗ (tabN.view.loc (c : Thread nD τ) ↦{fullShare.right} T2)
          ∗ owns (c : Thread nD τ) O fullShare y
          ∗ (iprop((X.view.loc (c : Thread nD τ) ↦[X.view.set]{fullShare} X.view.rep x)
          ∗ (G0.view.loc (c : Thread nD τ) ↦[G0.view.set]{fullShare} G0.view.rep g0)
          ∗ (U0.view.loc (c : Thread nD τ) ↦[U0.view.set]{fullShare} U0.view.rep u0)
          ∗ (D0.view.loc (c : Thread nD τ) ↦[D0.view.set]{fullShare} D0.view.rep d0)
          ∗ (G1.view.loc (c : Thread nD τ) ↦[G1.view.set]{fullShare} G1.view.rep g1)
          ∗ (U1.view.loc (c : Thread nD τ) ↦[U1.view.set]{fullShare} U1.view.rep u1)
          ∗ (D1.view.loc (c : Thread nD τ) ↦[D1.view.set]{fullShare} D1.view.rep d1)
          ∗ (tabE.view.loc (c : Thread nD τ) ↦{fullShare.right} T0)
          ∗ (tabV.view.loc (c : Thread nD τ) ↦{fullShare.right} T1)
          ∗ (tabN.view.loc (c : Thread nD τ) ↦{fullShare.right} T2)
              ∗ owns (c : Thread nD τ) O fullShare y) -∗ K ⟨⟩))
          ⊢ wp frame (wpE (defs₀ (F := F)) Variants.none c none) Set.univ (cc0_moe_experts i tabE (Memref.isWhole_whole _) tabV (Memref.isWhole_whole _) tabN (Memref.isWhole_whole _) X hX G0 hG0 U0 hU0 D0 hD0 G1 hG1 U1 hU1 D1 hD1 O hO) K := by
    rw [cc0_moe_experts_eq_skeleton]; unfold cc0_moe_experts_skel
    iintro ⟨H0, H1, H2, H3, H4, H5, H6, HT0, HT1, HT2, HO, Hk⟩
    have hT2 : tabN.IsWhole := Memref.isWhole_whole _
    sl_exec! (disch := first | (guard_target = ¬(k0_cond1 _ _ = _); exact ht))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    iexact HO

end Point

end Cert.Experts

end
-- ==== Proof.GmmTables.lean ====
/- The routed experts' schedule at tables in range: which rows and which expert each grid point is handed, at which
   points the body stores, and when the result's block is written back. -/
module

public import proofs.«01_k».proof.Proof.GmmRun
public import Idealize.ShloMosaic.Lib.ValueIdx

@[expose] public section

set_option maxRecDepth 16384

noncomputable section

namespace Cert.Experts

open Cert.Kernel2Ideal Cert.Kernel2Ideal.Gen
open Idealize.ShloMosaic
open Idealize.ShloMosaic.TcCoe
open Idealize.ShloMosaic.Pipeline (Dat Cfg Window)

variable {F : FTy → Type} [FloatOps F]

/-- Tables in range: every block's expert is one of the 64, and between one and 576 blocks are in use. -/
structure InRange (e : S576.Idx → BitVec 32) (n : S1.Idx → BitVec 32) : Prop where
  expert : ∀ x, (e x).toNat < 64
  pos : ∀ x, 1 ≤ (n x).toNat
  le : ∀ x, (n x).toNat ≤ 576

/-- The only index of a table of one word. -/
abbrev only : S1.Idx := ValueIdx.ix1 (0 : Fin 1)

/-- Row block `2 i + s`. -/
abbrev slot (i : grid0.Coords) (s : Fin 2) : S576.Idx :=
  ValueIdx.ix1 (⟨2 * (i 0).val + s.val, by have h1 : (i 0).val < 288 := (i 0).isLt; have := s.isLt; omega⟩ : Fin 576)

/-- The number of grid points with a row block in use. -/
abbrev live (n : S1.Idx → BitVec 32) : ℕ := ((n only).toNat + 1) / 2

theorem only_eq (x : S1.Idx) : x = only := by
  funext a
  obtain ⟨a, ha⟩ := a
  have h0 : a = 0 := by change a < 1 at ha; omega
  subst h0
  have h1 : (x ⟨0, ha⟩).val < 1 := (x ⟨0, ha⟩).isLt
  exact Fin.ext (by change (x ⟨0, ha⟩).val = 0; omega)

/-- The last grid point with a row block in use, from the number of blocks in use. -/
def lastOf (v0 : BitVec 32) : BitVec 32 :=
  let v2 : BitVec 32 := Scalar.subi (Scalar.addi v0 2#32) 1#32
  let v3 : BitVec 32 := Scalar.divsi v2 2#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 2#32 0#32)) (Scalar.extui (Scalar.cmpi .slt 2#32 0#32))
  let v17 : BitVec 1 := Scalar.andi (Scalar.cmpi .ne v8 v13) (Scalar.cmpi .ne (Scalar.remsi v2 2#32) 0#32)
  Scalar.subi (Scalar.select v17 (Scalar.subi v3 1#32) v3) 1#32

theorem lastOf_eq : ∀ w : Fin 577, 1 ≤ w.val → lastOf (BitVec.ofNat 32 w.val) = BitVec.ofNat 32 ((w.val + 1) / 2 - 1) := by
  decide +kernel

theorem rows_eq (pf : pre0.Contents (Elt F)) (hg : InRange (pf 0) (pf 2)) (i : grid0.Coords) :
    cc0_transform_0 inb_S1_S1_0 numel1_S1 pf i = ![min (i 0).val (live (pf 2) - 1), 0] := by
  have hi : (i 0).val < 288 := (i 0).isLt
  have e0 : (pf.at 2 (Rect.unit (s := S1) ![0] S1.size inb_S1_S1_0) numel1_S1 : BitVec 32) = (pf 2 only : BitVec 32) := congrArg (pf 2) (only_eq _)
  have h1 := hg.pos only
  have h2 := hg.le only
  have e1 := lastOf_eq ⟨(pf 2 only : BitVec 32).toNat, by omega⟩ h1
  have e2 : BitVec.ofNat 32 (pf 2 only : BitVec 32).toNat = (pf 2 only : BitVec 32) := BitVec.eq_of_toNat_eq (by rw [BitVec.toNat_ofNat]; exact Nat.mod_eq_of_lt (by omega))
  change lastOf (BitVec.ofNat 32 (pf 2 only : BitVec 32).toNat) = _ at e1
  rw [e2] at e1
  have e3 : cc0_transform_0 inb_S1_S1_0 numel1_S1 pf i
      = ![(Scalar.minsi (BitVec.ofNat 32 (i 0).val) (lastOf (pf.at 2 (Rect.unit (s := S1) ![0] S1.size inb_S1_S1_0) numel1_S1))).toNat, (0#32).toNat] := rfl
  rw [e3, e0, e1]
  refine Affine.vec_cons (Affine.minsi (Affine.ofNat _ ⟨rfl, by omega⟩) (Affine.ofNat _ ⟨rfl, ?_⟩) rfl) ?_ rfl
  · change (live (pf 2) - 1) < _
    unfold live; omega
  · change _ = ((min (i 0).val (live (pf 2) - 1) : ℕ) : ℤ)
    unfold live
    push_cast
    rfl

theorem rows_eq' (pf : pre0.Contents (Elt F)) (hg : InRange (pf 0) (pf 2)) (i : grid0.Coords) :
    cc0_transform_7 inb_S1_S1_0 numel1_S1 pf i = ![min (i 0).val (live (pf 2) - 1), 0] := rows_eq pf hg i

theorem word_eq (pf : pre0.Contents (Elt F)) (i : grid0.Coords) (s : Fin 2) (off : Fin 1 → ℕ)
    (h : ∀ a, off a + S1.size a ≤ S576.size a) (ho : off = ![2 * (i 0).val + s.val]) :
    (pf.at 0 (Rect.unit (s := S576) off S1.size h) numel1_S1 : BitVec 32) = (pf 0 (slot i s) : BitVec 32) := by
  subst ho
  refine congrArg (pf 0) ?_
  funext a
  obtain ⟨a, ha⟩ := a
  have h0 : a = 0 := by change a < 1 at ha; omega
  subst h0
  rfl

theorem expert0_eq (pf : pre0.Contents (Elt F)) (i : grid0.Coords) :
    cc0_transform_1 k0_off1_inb numel1_S1 pf i = ![1, (pf 0 (slot i 0) : BitVec 32).toNat, 0, 0] := by
  have e3 : cc0_transform_1 k0_off1_inb numel1_S1 pf i
      = ![(1#32).toNat, (pf.at 0 (Rect.unit (s := S576) (k0_off1 i (BitVec.ofNat 32 (0 : Fin 2).val)) S1.size (k0_off1_inb i 0)) numel1_S1 : BitVec 32).toNat, (0#32).toNat, (0#32).toNat] := rfl
  rw [e3, word_eq pf i 0 _ _ (k0_off1_eq i 0)]
  rfl

theorem expert1_eq (pf : pre0.Contents (Elt F)) (i : grid0.Coords) :
    cc0_transform_4 k0_off1_inb numel1_S1 pf i = ![1, (pf 0 (slot i 1) : BitVec 32).toNat, 0, 0] := by
  have e3 : cc0_transform_4 k0_off1_inb numel1_S1 pf i
      = ![(1#32).toNat, (pf.at 0 (Rect.unit (s := S576) (k0_off1 i (BitVec.ofNat 32 (1 : Fin 2).val)) S1.size (k0_off1_inb i 1)) numel1_S1 : BitVec 32).toNat, (0#32).toNat, (0#32).toNat] := rfl
  rw [e3, word_eq pf i 1 _ _ (k0_off1_eq i 1)]
  rfl

/-- The body stores at a point exactly when its first row block is in use. -/
theorem cond_iff (i : grid0.Coords) (w : BitVec 32) (hw : w.toNat ≤ 576) : k0_cond1 i w = 1#1 ↔ (i 0).val < (w.toNat + 1) / 2 := by
  have hi : (i 0).val < 288 := (i 0).isLt
  obtain ⟨n, hn, rfl⟩ : ∃ n, n ≤ 576 ∧ w = BitVec.ofNat 32 n := ⟨w.toNat, hw, BitVec.eq_of_toNat_eq (by simp)⟩
  have e : (BitVec.ofNat 32 n).toNat = n := by rw [BitVec.toNat_ofNat]; exact Nat.mod_eq_of_lt (by omega)
  rw [e]
  have h0 : Affine.IsInt (Scalar.muli (BitVec.ofNat 32 (i 0).val) 2#32) (((i 0).val : ℤ) * 2) :=
    Affine.muli (Affine.ofNat _ ⟨rfl, by omega⟩) (Affine.ofNat (e := 2) _ ⟨rfl, by omega⟩) ⟨rfl, by omega, by omega⟩
  have h1 : Affine.IsInt (BitVec.ofNat 32 n) (n : ℤ) := Affine.ofNat _ ⟨rfl, by omega⟩
  have hz : Affine.IsInt 0#32 0 := Affine.ofNat _ ⟨rfl, by omega⟩
  by_cases h : (i 0).val < (n + 1) / 2
  · exact iff_of_true (Affine.ne_holds (Affine.extui_holds (Affine.slt_holds h0 h1 (by omega)) rfl) hz (by decide)) h
  · exact iff_of_false (Affine.ne_fails (Affine.extui_fails (Affine.slt_fails h0 h1 (by omega)) rfl) hz (by decide)) h

/-- The tables' side condition: every block the index maps name lies inside its array. -/
theorem ok_of_inRange (pf : pre0.Contents (Elt F)) (hg : InRange (pf 0) (pf 2)) : ok0 pf := by
  have h2 := hg.le only
  have hr : ∀ i : grid0.Coords, ∀ a, ((![min (i 0).val (live (pf 2) - 1), 0] : Fin 2 → ℕ) a + 1) * S1024x1024.size a ≤ S294912x1024.size a := by
    intro i a
    have hi : (i 0).val < 288 := (i 0).isLt
    have hm : min (i 0).val (live (pf 2) - 1) ≤ (i 0).val := min_le_left _ _
    fin_cases a
    · change (min (i 0).val (live (pf 2) - 1) + 1) * 1024 ≤ 294912
      omega
    · change (0 + 1) * 1024 ≤ 1024
      omega
  have hA : ∀ x : S576.Idx, ∀ a, ((![1, (pf 0 x : BitVec 32).toNat, 0, 0] : Fin 4 → ℕ) a + 1) * S1x1x1024x256.size a ≤ S4x64x1024x256.size a := by
    intro x a
    have := hg.expert x
    fin_cases a
    · change (1 + 1) * 1 ≤ 4; omega
    · change ((pf 0 x : BitVec 32).toNat + 1) * 1 ≤ 64; omega
    · change (0 + 1) * 1024 ≤ 1024; omega
    · change (0 + 1) * 256 ≤ 256; omega
  have hD : ∀ x : S576.Idx, ∀ a, ((![1, (pf 0 x : BitVec 32).toNat, 0, 0] : Fin 4 → ℕ) a + 1) * S1x1x256x1024.size a ≤ S4x64x256x1024.size a := by
    intro x a
    have := hg.expert x
    fin_cases a
    · change (1 + 1) * 1 ≤ 4; omega
    · change ((pf 0 x : BitVec 32).toNat + 1) * 1 ≤ 64; omega
    · change (0 + 1) * 256 ≤ 256; omega
    · change (0 + 1) * 1024 ≤ 1024; omega
  refine ⟨fun i => ⟨by rw [rows_eq pf hg i]; exact hr i, .inr (Affine.block_words_dvd (s := S294912x1024) (p := EltTy.packing .bf16) (by decide) (by decide))⟩,
    fun i => ⟨by rw [expert0_eq pf i]; exact hA _, .inr (Affine.block_words_dvd (s := S4x64x1024x256) (p := EltTy.packing .bf16) (by decide) (by decide))⟩,
    fun i => ⟨by rw [show cc0_transform_2 k0_off1_inb numel1_S1 pf i = _ from expert0_eq pf i]; exact hA _, .inr (Affine.block_words_dvd (s := S4x64x1024x256) (p := EltTy.packing .bf16) (by decide) (by decide))⟩,
    fun i => ⟨by rw [show cc0_transform_3 k0_off1_inb numel1_S1 pf i = _ from expert0_eq pf i]; exact hD _, .inr (Affine.block_words_dvd (s := S4x64x256x1024) (p := EltTy.packing .bf16) (by decide) (by decide))⟩,
    fun i => ⟨by rw [expert1_eq pf i]; exact hA _, .inr (Affine.block_words_dvd (s := S4x64x1024x256) (p := EltTy.packing .bf16) (by decide) (by decide))⟩,
    fun i => ⟨by rw [show cc0_transform_5 k0_off1_inb numel1_S1 pf i = _ from expert1_eq pf i]; exact hA _, .inr (Affine.block_words_dvd (s := S4x64x1024x256) (p := EltTy.packing .bf16) (by decide) (by decide))⟩,
    fun i => ⟨by rw [show cc0_transform_6 k0_off1_inb numel1_S1 pf i = _ from expert1_eq pf i]; exact hD _, .inr (Affine.block_words_dvd (s := S4x64x256x1024) (p := EltTy.packing .bf16) (by decide) (by decide))⟩,
    fun i => ⟨by rw [rows_eq' pf hg i]; exact hr i, .inr (Affine.block_words_dvd (s := S294912x1024) (p := EltTy.packing .bf16) (by decide) (by decide))⟩⟩

/-! ## The schedule -/

variable (a : (pcfg0 (F := F)).Adm)

/-- Each block's expert, its number of live rows, and the number of blocks in use, as the tables `a` give them. -/
def tE : S576.Idx → Elt F .i32 := a.1 0
def tV : S576.Idx → Elt F .i32 := a.1 1
def tN : S1.Idx → Elt F .i32 := a.1 2

/-- The pipeline at the tables `a`. -/
abbrev cfgT : Pipeline.Cfg sig Λ₀ := cfg0 a

/-- A point's coordinates. -/
abbrev crd (t : Fin (cfgT a).N) : (cfgT a).grid.Coords := (cfgT a).grid.coords t

theorem points : (cfgT a).N = 288 := by change grid0.N = 288; decide

theorem crd_val (t : Fin (cfgT a).N) : (crd a t 0).val = t.val := by
  have h := points a
  have ht := t.isLt
  rw [Pipeline.Grid.coords_val (S := 1) (B := 288) t (0 : Fin 1) (show grid0.stride (0 : Fin 1) = 1 by decide) rfl]
  omega

/-- The body stores at point `t`. -/
abbrev Taken (t : Fin (cfgT a).N) : Prop := k0_cond1 (crd a t) (usedWord (F := F) (tN a)) = 1#1

theorem usedWord_eq (T2 : S1.Idx → Elt F .i32) : usedWord T2 = T2 only := by
  unfold usedWord
  rw [View.readAt_apply]
  exact congrArg T2 (only_eq _)

variable {a} (hg : InRange (tE a) (tN a))

include hg in
theorem taken_iff (t : Fin (cfgT a).N) : Taken a t ↔ t.val < live (tN a) := by
  unfold Taken
  rw [usedWord_eq]
  refine (cond_iff (crd a t) (tN a only) (hg.le only)).trans ?_
  rw [crd_val]

theorem idle_eq (t : Fin (cfgT a).N) : (cfgT a).idle (7 : Fin 8) ((cfgT a).grid.coords t) = !decide (Taken a t) := by
  have h : ∀ b, (![0] : Fin 1 → ℕ) b + 1 ≤ S1.size b := by decide
  have e1 : (a.1.atD 2 ![0] : BitVec 32) = (tN a only : BitVec 32) := by
    refine (dif_pos h).trans (congrArg (a.1 2) (only_eq _))
  change (!(k0_cond1 (crd a t) (a.1.atD 2 ![0]) == 1#1)) = _
  rw [e1]
  unfold Taken
  rw [usedWord_eq]
  rfl

theorem index7 (t : Fin (cfgT a).N) : ((cfgT a).win (7 : Fin 8)).indexMap ((cfgT a).grid.coords t) = cc0_transform_7 inb_S1_S1_0 numel1_S1 a.1 (crd a t) := rfl

include hg in
theorem rows7 (t : Fin (cfgT a).N) : cc0_transform_7 inb_S1_S1_0 numel1_S1 a.1 (crd a t) = ![min t.val (live (tN a) - 1), 0] := by
  refine (rows_eq' a.1 hg (crd a t)).trans ?_
  rw [crd_val]
  rfl

include hg in
/-- The result's block is written back at every point before the last one in use, and at the grid's last point. -/
theorem flush_iff (t : Fin (cfgT a).N) : ((cfgT a).win (7 : Fin 8)).flush t = true ↔ t.val + 1 < live (tN a) ∨ t.val + 1 = 288 := by
  have hN := points a
  have ht := t.isLt
  have hl : live (tN a) ≤ 288 := by have := hg.le only; unfold live; omega
  have hp : 1 ≤ live (tN a) := by have := hg.pos only; unfold live; omega
  rw [Window.flush_eq_flushOf]
  unfold Window.flushOf
  rw [show ((cfgT a).win (7 : Fin 8)).isOut = true from rfl, Bool.true_and, Bool.or_eq_true, decide_eq_true_eq, decide_eq_true_eq, index7]
  have hne : ∀ h : t.val + 1 < (cfgT a).grid.N, (((cfgT a).win (7 : Fin 8)).indexMap ((cfgT a).grid.coords ⟨t.val + 1, h⟩) ≠ cc0_transform_7 inb_S1_S1_0 numel1_S1 a.1 (crd a t))
      ↔ t.val + 1 < live (tN a) := by
    intro h
    rw [index7 ⟨t.val + 1, h⟩, rows7 hg, rows7 hg]
    constructor
    · intro hn
      by_contra hc
      refine hn ?_
      have : min (t.val + 1) (live (tN a) - 1) = min t.val (live (tN a) - 1) := by omega
      exact congrArg (fun k => ![k, 0]) this
    · intro hc he
      have := congrFun he 0
      change min (t.val + 1) (live (tN a) - 1) = min t.val (live (tN a) - 1) at this
      omega
  have hN' : (cfgT a).grid.N = 288 := hN
  constructor
  · rintro (h | ⟨h, hn⟩)
    · right; omega
    · left; exact (hne h).1 hn
  · rintro (h | h)
    · right
      have hlt : t.val + 1 < (cfgT a).grid.N := by omega
      exact ⟨hlt, (hne hlt).2 h⟩
    · left; omega

include hg in
/-- From the first point with no row block in use on, the result's buffer holds what was stored last. -/
theorem fresh_skipped : ∀ n : ℕ, n < (cfgT a).N → live (tN a) ≤ n → (cfgT a).fresh (7 : Fin 8) n = false
  | 0, _, hl => by
    have := hg.pos only
    unfold live at hl; omega
  | n + 1, hn, hl => by
    have hN := points a
    have hn' : n < (cfgT a).N := by omega
    rw [Pipeline.Cfg.fresh_succ (cfgT a) (7 : Fin 8) n hn']
    have hf : ((cfgT a).win (7 : Fin 8)).flush ⟨n, hn'⟩ = false := by
      rw [← Bool.not_eq_true]
      intro h
      have := (flush_iff hg ⟨n, hn'⟩).1 h
      change n + 1 < _ ∨ n + 1 = 288 at this
      omega
    rw [hf, idle_eq, Bool.false_or]
    by_cases h : live (tN a) ≤ n
    · rw [fresh_skipped n hn' h, Bool.and_false]
    · have : Taken a ⟨n, hn'⟩ := (taken_iff hg ⟨n, hn'⟩).2 (by change n < _; omega)
      rw [decide_eq_true this]; rfl

end Cert.Experts

end
-- ==== Proof.GmmLaunch.lean ====
/- The routed experts' kernel launched over any float values, at tables in range: what each window's buffer holds at
   every grid point, the body's obligation there, and the run of the whole launch. -/
module

public import proofs.«01_k».proof.Proof.GmmTables
public import Idealize.ShloMosaic.Lib.Pipeline.Quiescent

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the pipeline's staging cells. -/
abbrev EP : Emb (UR sig nD τ) 𝕄 := emb₁

variable (a : (pcfg0 (F := F)).Adm)

/-- The one pipeline of the program, at the tables `a`. -/
abbrev pcs : Fin 1 → Pipeline.Cfg sig Λ₀ := Pipeline.pin (pcfgs (F := F)) fun _ => a

/-! Each window's current staging buffer. -/

abbrev ms0 (t : Fin (cfgT a).N) : Memref sig .tc .vmem S1024x1024 .bf16 := spec0_0.stage ((cfgT a).slots t (0 : Fin 8))
abbrev hs0 (t : Fin (cfgT a).N) : (ms0 a t).IsWhole := hstage0_0 (((cfgT a).slots t (0 : Fin 8)).cast nbuf0_0)
abbrev ms1 (t : Fin (cfgT a).N) : Memref sig .tc .vmem S1x1x1024x256 .bf16 := spec0_1.stage ((cfgT a).slots t (1 : Fin 8))
abbrev hs1 (t : Fin (cfgT a).N) : (ms1 a t).IsWhole := hstage0_1 (((cfgT a).slots t (1 : Fin 8)).cast nbuf0_1)
abbrev ms2 (t : Fin (cfgT a).N) : Memref sig .tc .vmem S1x1x1024x256 .bf16 := spec0_2.stage ((cfgT a).slots t (2 : Fin 8))
abbrev hs2 (t : Fin (cfgT a).N) : (ms2 a t).IsWhole := hstage0_2 (((cfgT a).slots t (2 : Fin 8)).cast nbuf0_2)
abbrev ms3 (t : Fin (cfgT a).N) : Memref sig .tc .vmem S1x1x256x1024 .bf16 := spec0_3.stage ((cfgT a).slots t (3 : Fin 8))
abbrev hs3 (t : Fin (cfgT a).N) : (ms3 a t).IsWhole := hstage0_3 (((cfgT a).slots t (3 : Fin 8)).cast nbuf0_3)
abbrev ms4 (t : Fin (cfgT a).N) : Memref sig .tc .vmem S1x1x1024x256 .bf16 := spec0_4.stage ((cfgT a).slots t (4 : Fin 8))
abbrev hs4 (t : Fin (cfgT a).N) : (ms4 a t).IsWhole := hstage0_4 (((cfgT a).slots t (4 : Fin 8)).cast nbuf0_4)
abbrev ms5 (t : Fin (cfgT a).N) : Memref sig .tc .vmem S1x1x1024x256 .bf16 := spec0_5.stage ((cfgT a).slots t (5 : Fin 8))
abbrev hs5 (t : Fin (cfgT a).N) : (ms5 a t).IsWhole := hstage0_5 (((cfgT a).slots t (5 : Fin 8)).cast nbuf0_5)
abbrev ms6 (t : Fin (cfgT a).N) : Memref sig .tc .vmem S1x1x256x1024 .bf16 := spec0_6.stage ((cfgT a).slots t (6 : Fin 8))
abbrev hs6 (t : Fin (cfgT a).N) : (ms6 a t).IsWhole := hstage0_6 (((cfgT a).slots t (6 : Fin 8)).cast nbuf0_6)
abbrev ms7 (t : Fin (cfgT a).N) : Memref sig .tc .vmem S1024x1024 .bf16 := spec0_7.stage ((cfgT a).slots t (7 : Fin 8))
abbrev hs7 (t : Fin (cfgT a).N) : (ms7 a t).IsWhole := hstage0_7 (((cfgT a).slots t (7 : Fin 8)).cast nbuf0_7)

variable (m : (ℓ : Loc nD τ sig) → Buf (Elt F) ℓ) (ρ : Dev nD → PrngReg)

/-- Window `w`'s block at point `t`, read off its array at launch. -/
def iblk (c : Dev nD) (w : Fin (cfgT a).W) (t : Fin (cfgT a).N) : (((cfgT a).win w).xblock (crd a t)).Idx → Elt F ((cfgT a).win w).elt :=
  (((cfgT a).win w).blk t).view.read (Elt F) (m (((cfgT a).win w).arr.view.loc (c : Thread nD τ)))

/-- What the body leaves in the result's buffer at a point it stores at. -/
def stored (c : Dev nD) (t : Fin (cfgT a).N) (ht : Taken a t) : S1024x1024.Idx → Elt F .bf16 :=
  takenOut c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tE a) (tV a) (tN a) (iblk a m c (0 : Fin 8) t) (iblk a m c (1 : Fin 8) t) (iblk a m c (2 : Fin 8) t) (iblk a m c (3 : Fin 8) t) (iblk a m c (4 : Fin 8) t) (iblk a m c (5 : Fin 8) t) (iblk a m c (6 : Fin 8) t) ht

/-- What the result's buffer holds after point `n`: what the last point that stored left there. -/
def held (c : Dev nD) : (n : ℕ) → n < (cfgT a).N → (S1024x1024.Idx → Elt F .bf16)
  | 0, h => if q : Taken a ⟨0, h⟩ then stored a m c ⟨0, h⟩ q else fun _ => FloatOps.ofBits .bf16 0#16
  | n + 1, h => if q : Taken a ⟨n + 1, h⟩ then stored a m c ⟨n + 1, h⟩ q else held c n (Nat.lt_of_succ_lt h)

theorem held_taken (c : Dev nD) (t : Fin (cfgT a).N) (q : Taken a t) : held a m c t.val t.isLt = stored a m c t q := by
  obtain ⟨n, hn⟩ := t
  cases n with
  | zero => unfold held; rw [dif_pos q]
  | succ n => unfold held; rw [dif_pos q]

theorem held_skipped (c : Dev nD) (t : Fin (cfgT a).N) (q : ¬ Taken a t) (h0 : t.val ≠ 0) :
    held a m c t.val t.isLt = held a m c (t.val - 1) (by have := t.isLt; omega) := by
  obtain ⟨n, hn⟩ := t
  cases n with
  | zero => exact absurd rfl h0
  | succ n =>
    change held a m c (n + 1) hn = held a m c n _
    rw [held, dif_neg q]

/-- The tables held by the body. -/
def Phi (c : Dev nD) : sProp 𝕄 :=
  iprop((tabE.view.loc (c : Thread nD τ) ↦{fullShare.right} tE a) ∗ (tabV.view.loc (c : Thread nD τ) ↦{fullShare.right} tV a) ∗ (tabN.view.loc (c : Thread nD τ) ↦{fullShare.right} tN a))

/-- The pipeline's data on core `c`. -/
def dats (_ : Fin 1) (c : Dev nD) : Dat τ (Elt F) Unit ℕ (UR sig nD τ) ℕ (cfgT a) c where
  A w := m (((cfgT a).win w).arr.view.loc (c : Thread nD τ))
  after w t := match w with
    | ⟨0, _⟩ => iblk a m c (0 : Fin 8) t
    | ⟨1, _⟩ => iblk a m c (1 : Fin 8) t
    | ⟨2, _⟩ => iblk a m c (2 : Fin 8) t
    | ⟨3, _⟩ => iblk a m c (3 : Fin 8) t
    | ⟨4, _⟩ => iblk a m c (4 : Fin 8) t
    | ⟨5, _⟩ => iblk a m c (5 : Fin 8) t
    | ⟨6, _⟩ => iblk a m c (6 : Fin 8) t
    | ⟨7, _⟩ => held a m c t.val t.isLt
  Φ t := Phi a c
  q w := Pipeline.shareOf spec0 w
  owed _ := 0

theorem after0 (c : Dev nD) (t : Fin (cfgT a).N) : (dats a m 0 c).after (0 : Fin 8) t = iblk a m c (0 : Fin 8) t := rfl
theorem after1 (c : Dev nD) (t : Fin (cfgT a).N) : (dats a m 0 c).after (1 : Fin 8) t = iblk a m c (1 : Fin 8) t := rfl
theorem after2 (c : Dev nD) (t : Fin (cfgT a).N) : (dats a m 0 c).after (2 : Fin 8) t = iblk a m c (2 : Fin 8) t := rfl
theorem after3 (c : Dev nD) (t : Fin (cfgT a).N) : (dats a m 0 c).after (3 : Fin 8) t = iblk a m c (3 : Fin 8) t := rfl
theorem after4 (c : Dev nD) (t : Fin (cfgT a).N) : (dats a m 0 c).after (4 : Fin 8) t = iblk a m c (4 : Fin 8) t := rfl
theorem after5 (c : Dev nD) (t : Fin (cfgT a).N) : (dats a m 0 c).after (5 : Fin 8) t = iblk a m c (5 : Fin 8) t := rfl
theorem after6 (c : Dev nD) (t : Fin (cfgT a).N) : (dats a m 0 c).after (6 : Fin 8) t = iblk a m c (6 : Fin 8) t := rfl
theorem after7 (c : Dev nD) (t : Fin (cfgT a).N) : (dats a m 0 c).after (7 : Fin 8) t = held a m c t.val t.isLt := rfl

theorem before0 (c : Dev nD) (t : Fin (cfgT a).N) (d) : (dats a m 0 c).before (0 : Fin 8) t d = iblk a m c (0 : Fin 8) t :=
  ((dats a m 0 c).before_in_eq_fetched (0 : Fin 8) rfl (fun _ => rfl) (fun _ _ _ => rfl) (fun t => by rw [after0]; unfold Dat.blockOf iblk; rfl) t d).trans
    (by unfold Dat.fetched Dat.blockOf iblk; rfl)

theorem before1 (c : Dev nD) (t : Fin (cfgT a).N) (d) : (dats a m 0 c).before (1 : Fin 8) t d = iblk a m c (1 : Fin 8) t :=
  ((dats a m 0 c).before_in_eq_fetched (1 : Fin 8) rfl (fun _ => rfl) (fun _ _ _ => rfl) (fun t => by rw [after1]; unfold Dat.blockOf iblk; rfl) t d).trans
    (by unfold Dat.fetched Dat.blockOf iblk; rfl)

theorem before2 (c : Dev nD) (t : Fin (cfgT a).N) (d) : (dats a m 0 c).before (2 : Fin 8) t d = iblk a m c (2 : Fin 8) t :=
  ((dats a m 0 c).before_in_eq_fetched (2 : Fin 8) rfl (fun _ => rfl) (fun _ _ _ => rfl) (fun t => by rw [after2]; unfold Dat.blockOf iblk; rfl) t d).trans
    (by unfold Dat.fetched Dat.blockOf iblk; rfl)

theorem before3 (c : Dev nD) (t : Fin (cfgT a).N) (d) : (dats a m 0 c).before (3 : Fin 8) t d = iblk a m c (3 : Fin 8) t :=
  ((dats a m 0 c).before_in_eq_fetched (3 : Fin 8) rfl (fun _ => rfl) (fun _ _ _ => rfl) (fun t => by rw [after3]; unfold Dat.blockOf iblk; rfl) t d).trans
    (by unfold Dat.fetched Dat.blockOf iblk; rfl)

theorem before4 (c : Dev nD) (t : Fin (cfgT a).N) (d) : (dats a m 0 c).before (4 : Fin 8) t d = iblk a m c (4 : Fin 8) t :=
  ((dats a m 0 c).before_in_eq_fetched (4 : Fin 8) rfl (fun _ => rfl) (fun _ _ _ => rfl) (fun t => by rw [after4]; unfold Dat.blockOf iblk; rfl) t d).trans
    (by unfold Dat.fetched Dat.blockOf iblk; rfl)

theorem before5 (c : Dev nD) (t : Fin (cfgT a).N) (d) : (dats a m 0 c).before (5 : Fin 8) t d = iblk a m c (5 : Fin 8) t :=
  ((dats a m 0 c).before_in_eq_fetched (5 : Fin 8) rfl (fun _ => rfl) (fun _ _ _ => rfl) (fun t => by rw [after5]; unfold Dat.blockOf iblk; rfl) t d).trans
    (by unfold Dat.fetched Dat.blockOf iblk; rfl)

theorem before6 (c : Dev nD) (t : Fin (cfgT a).N) (d) : (dats a m 0 c).before (6 : Fin 8) t d = iblk a m c (6 : Fin 8) t :=
  ((dats a m 0 c).before_in_eq_fetched (6 : Fin 8) rfl (fun _ => rfl) (fun _ _ _ => rfl) (fun t => by rw [after6]; unfold Dat.blockOf iblk; rfl) t d).trans
    (by unfold Dat.fetched Dat.blockOf iblk; rfl)

theorem carry7 (c : Dev nD) : ∀ (t : Fin (cfgT a).N) (ht : t.val ≠ 0), (cfgT a).idle (7 : Fin 8) ((cfgT a).grid.coords t) = true → (cfgT a).fresh (7 : Fin 8) t.val = false →
    (dats a m 0 c).after (7 : Fin 8) t = (dats a m 0 c).after (7 : Fin 8) ⟨t.val - 1, by omega⟩ := by
  intro t ht hi hf
  rw [after7, after7]
  rw [idle_eq, Bool.not_eq_true', decide_eq_false_iff_not] at hi
  exact held_skipped a m c t hi ht

theorem before7 (c : Dev nD) (t : Fin (cfgT a).N) (d) :
    (dats a m 0 c).before (7 : Fin 8) t d = if (cfgT a).fresh (7 : Fin 8) t.val then d else held a m c (t.val - 1) (by have := t.isLt; omega) :=
  (dats a m 0 c).before_out_traj (7 : Fin 8) rfl (fun _ _ => rfl) (carry7 a m c) t.val t rfl d

/-- The body at point `t`, as the pipeline calls it. -/
abbrev bodyAt (t : Fin (cfgT a).N) : Prog (TpuEff nD τ sig (Elt F) Λ₀ .tc) PUnit :=
  cc0_moe_experts (crd a t) tabE (Memref.isWhole_whole _) tabV (Memref.isWhole_whole _) tabN (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t)

variable {a} in
set_option maxHeartbeats 4000000 in
/-- The body's obligation at point `t`. -/
theorem sound_body (hg : InRange (tE a) (tN a)) (c : Dev nD) (t : Fin (cfgT a).N) :
    iprop((dats a m 0 c).Φ t.castSucc ∗ (dats a m 0 c).owesAt () t.castSucc
        ∗ (∃ d, owns (c : Thread nD τ) (ms0 a t) fullShare ((dats a m 0 c).before (0 : Fin 8) t d))
        ∗ (∃ d, owns (c : Thread nD τ) (ms1 a t) fullShare ((dats a m 0 c).before (1 : Fin 8) t d))
        ∗ (∃ d, owns (c : Thread nD τ) (ms2 a t) fullShare ((dats a m 0 c).before (2 : Fin 8) t d))
        ∗ (∃ d, owns (c : Thread nD τ) (ms3 a t) fullShare ((dats a m 0 c).before (3 : Fin 8) t d))
        ∗ (∃ d, owns (c : Thread nD τ) (ms4 a t) fullShare ((dats a m 0 c).before (4 : Fin 8) t d))
        ∗ (∃ d, owns (c : Thread nD τ) (ms5 a t) fullShare ((dats a m 0 c).before (5 : Fin 8) t d))
        ∗ (∃ d, owns (c : Thread nD τ) (ms6 a t) fullShare ((dats a m 0 c).before (6 : Fin 8) t d))
        ∗ (∃ d, owns (c : Thread nD τ) (ms7 a t) fullShare ((dats a m 0 c).before (7 : Fin 8) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m 0 c).before w t d))
                  | true => owns (c : Thread nD τ) (((cfgT a).win w).stage ((cfgT a).slots t w)) fullShare ((dats a m 0 c).after w t)
                | false => owns (c : Thread nD τ) (((cfgT a).win w).stage ((cfgT a).slots t w)) fullShare ((dats a m 0 c).after w t)) := by
  rw [bigSep_W0]
  by_cases q : Taken a t
  · have i7 : (cfgT a).idle (7 : Fin 8) ((cfgT a).grid.coords t) = false := by rw [idle_eq, decide_eq_true q]; rfl
    rewrite [i7]
    simp only [before0, before1, before2, before3, before4, before5, before6, after0, after1, after2, after3, after4, after5, after6, after7]
    rewrite [held_taken a m c t q]
    rewrite [show (dats a m 0 c).Φ t.succ = Phi a c from rfl, show (dats a m 0 c).Φ t.castSucc = Phi a c from rfl,
      show (dats a m 0 c).owesAt () t.succ = (dats a m 0 c).owesAt () t.castSucc from rfl]
    unfold Phi
    iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runTaken c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tE a) (tV a) (tN a) (iblk a m c (0 : Fin 8) t) (iblk a m c (1 : Fin 8) t) (iblk a m c (2 : Fin 8) t) (iblk a m c (3 : Fin 8) t) (iblk a m c (4 : Fin 8) t) (iblk a m c (5 : Fin 8) t) (iblk a m c (6 : Fin 8) t) q).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [HT2]; · iexact HT2
    isplitl [H7]; · iexists _; iexact H7
    iintro ⟨H0, H1, H2, H3, H4, H5, H6, HT0, HT1, HT2, ⟨%e7, H7⟩⟩
    isplitl [HT0 HT1 HT2]
    · isplitl [HT0]
      · iexact HT0
      isplitl [HT1]
      · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr; swap
    · iexact H7
    · ipureintro; unfold stored takenOut; exact View.read_writes_of_cover _ _ _ _ _ (taken_cover c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tE a) (tV a) (tN a) (iblk a m c (0 : Fin 8) t) (iblk a m c (1 : Fin 8) t) (iblk a m c (2 : Fin 8) t) (iblk a m c (3 : Fin 8) t) (iblk a m c (4 : Fin 8) t) (iblk a m c (5 : Fin 8) t) (iblk a m c (6 : Fin 8) t) q)
  · have i7 : (cfgT a).idle (7 : Fin 8) ((cfgT a).grid.coords t) = true := by rw [idle_eq, decide_eq_false q]; rfl
    have hl : live (tN a) ≤ t.val := by have := (taken_iff hg t).not.1 q; omega
    have fr7 : (cfgT a).fresh (7 : Fin 8) t.val = false := fresh_skipped hg t.val t.isLt hl
    have h0 : t.val ≠ 0 := by have := hg.pos only; unfold live at hl; omega
    have hh : held a m c t.val t.isLt = held a m c (t.val - 1) (by have := t.isLt; omega) := held_skipped a m c t q h0
    rewrite [i7]
    have run := fun K => runSkipped c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tE a) (tV a) (tN a) (iblk a m c (0 : Fin 8) t) (iblk a m c (1 : Fin 8) t) (iblk a m c (2 : Fin 8) t) (iblk a m c (3 : Fin 8) t) (iblk a m c (4 : Fin 8) t) (iblk a m c (5 : Fin 8) t) (iblk a m c (6 : Fin 8) t) q (held a m c (t.val - 1) (by have := t.isLt; omega)) K
    cases f7 : ((cfgT a).win (7 : Fin 8)).flush t
    · simp only [before0, before1, before2, before3, before4, before5, before6, before7, after0, after1, after2, after3, after4, after5, after6, after7, fr7, Bool.false_eq_true, ↓reduceIte]
      rewrite [show (dats a m 0 c).Φ t.succ = Phi a c from rfl, show (dats a m 0 c).Φ t.castSucc = Phi a c from rfl,
        show (dats a m 0 c).owesAt () t.succ = (dats a m 0 c).owesAt () t.castSucc from rfl]
      unfold Phi
      iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [HT2]; · iexact HT2
      isplitl [H7]; · iexact H7
      iintro ⟨H0, H1, H2, H3, H4, H5, H6, HT0, HT1, HT2, H7⟩
      isplitl [HT0 HT1 HT2]
      · isplitl [HT0]
        · iexact HT0
        isplitl [HT1]
        · iexact HT1
        iexact HT2
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      first | (iexists d7; iexact H7) | iexact H7
    · simp only [before0, before1, before2, before3, before4, before5, before6, before7, after0, after1, after2, after3, after4, after5, after6, after7, fr7, Bool.false_eq_true, ↓reduceIte]
      rewrite [hh]
      rewrite [show (dats a m 0 c).Φ t.succ = Phi a c from rfl, show (dats a m 0 c).Φ t.castSucc = Phi a c from rfl,
        show (dats a m 0 c).owesAt () t.succ = (dats a m 0 c).owesAt () t.castSucc from rfl]
      unfold Phi
      iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [HT2]; · iexact HT2
      isplitl [H7]; · iexact H7
      iintro ⟨H0, H1, H2, H3, H4, H5, H6, HT0, HT1, HT2, H7⟩
      isplitl [HT0 HT1 HT2]
      · isplitl [HT0]
        · iexact HT0
        isplitl [HT1]
        · iexact HT1
        iexact HT2
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      iexact H7

variable {a} in
theorem body_obligation (hg : InRange (tE a) (tN a)) (c : Dev nD) : BodyObligation (dats a m 0 c) (defs₀ (F := F)) Variants.none () Set.univ := fun t => by
  rw [bigSep_W0]
  exact sound_body m hg c t

/-! ## The launch -/

/-- The element the launch starts from. -/
def u₀ : UR sig nD τ :=
  initOf (Pipeline.cells (pcs a) ((launch₀0 (F := F)).cellOf_inj fun _ => a))
    (Pipeline.launchToks (pcs a) ((launch₀0 (F := F)).cellOf_inj fun _ => a))

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem enter (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a c from rfl]
  unfold Phi
  iintro ⟨-, ⟨HT0, HT1, HT2⟩, -⟩
  isplitl [HT0]
  · iexact HT0
  isplitl [HT1]
  · iexact HT1
  iexact HT2

theorem leave (c : Dev nD) : (dats a m 0 c).Φ (Fin.last (cfgT a).N) ⊢ iprop(BI.emp ∗ Pipeline.scopedRest spec0 c) := by
  rw [scopedRest0_eq, show (dats a m 0 c).Φ (Fin.last (cfgT a).N) = Phi a c from rfl]
  unfold Phi
  iintro ⟨-, -, -⟩
  isplitr; · iempintro
  iempintro

/-- What every final memory is: each window's array as the write-backs left it, each table as it was. -/
def Final : PUnit × MemSt nD τ sig (Elt F) → Prop := fun r =>
  ∀ c : Dev nD, (∀ w : Fin (cfgT a).W, r.2.mem (((cfgT a).win w).arr.view.loc (c : Thread nD τ)) = (dats a m 0 c).arrAt w (cfgT a).N)
    ∧ ∀ j, r.2.mem ((c : Thread nD τ).loc (pre0.ref j)) = a.1 j

variable {a} in
set_option backward.isDefEq.respectTransparency.types false in
set_option maxHeartbeats 4000000 in
/-- From any memory whose tables are `a`, in range: the launch ends, in such a memory, with every counter at zero. -/
theorem run_launch (hg : InRange (tE a) (tN a)) (hm : ∀ (c : Dev nD) (j : Fin 3), m ((c : Thread nD τ).loc (pre0.ref j)) = a.1 j) :
    θ_run (defs (F := F)) (onTc (τ := τ) (main (F := F))) ⟨m, fun _ => 0, ρ⟩ (fun r => Final a m r ∧ r.2.sem = fun _ => 0) :=
  Pipeline.θ_run_region_noSem_pf_quiescent pcfgs (fun _ => a) (dats a m) () ((launch₀0 (F := F)).cellOf_inj fun _ => a) (0 : Fin 1)
    winFacts₀0 preFacts0 EP defs₀ Variants.none m ρ main
    (hbody := fun c => (body_obligation m hg c).loose) (hne := block_pos0)
    (harr := arr_whole0) (hstage := stage_whole0) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats a m 0 c).arrays_split_shared sharedIn0 arr_whole0 (fun _ _ => rfl) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Experts

end
-- ==== Proof.GmmFrame.lean ====
/- The routed experts' kernel from any memory in range: its tables are in range, and the whole run ends with every
   argument as it was and every counter at zero. -/
module

public import proofs.«01_k».proof.Defs
public import proofs.«01_k».proof.Proof.GmmLaunch
public import proofs.«01_k».proof.Proof.Gen.Kernel2
public import proofs.«01_k».proof.Proof.Gen.Pre_in_range
public import Idealize.ShloMosaic.Lib.ReduceAll
public import Idealize.ShloMosaic.Lib.StableHlo.Predicate

@[expose] public section

set_option maxRecDepth 16384

noncomputable section

namespace Cert.Experts

open Cert.Kernel2Ideal Cert.Kernel2Ideal.Gen
open Idealize.ShloMosaic Idealize.ShloMosaic.TcCoe Idealize.SL.Sem

/-- A word of at least 0 and less than 64, compared as signed. -/
theorem word_expert (x : BitVec 32) (h0 : IntOp.cmpi .sge x 0#32 = 1#1) (h1 : IntOp.cmpi .slt x 64#32 = 1#1) : x.toNat < 64 := by
  simp only [IntOp.cmpi, StableHlo.Predicate.ofBool_eq_one_iff] at h0 h1
  have a0 : (0#32 : BitVec 32).toInt ≤ x.toInt := by simpa [BitVec.sle] using h0
  have a1 : x.toInt < (64#32 : BitVec 32).toInt := by simpa [BitVec.slt] using h1
  rw [show (0#32 : BitVec 32).toInt = 0 by decide] at a0
  rw [show (64#32 : BitVec 32).toInt = 64 by decide] at a1
  have hx := BitVec.toInt_eq_toNat_cond x
  have := x.isLt
  split at hx <;> omega

/-- A word from 1 to 576, compared as signed. -/
theorem word_used (x : BitVec 32) (h0 : IntOp.cmpi .sge x 1#32 = 1#1) (h1 : IntOp.cmpi .sle x 576#32 = 1#1) : 1 ≤ x.toNat ∧ x.toNat ≤ 576 := by
  simp only [IntOp.cmpi, StableHlo.Predicate.ofBool_eq_one_iff] at h0 h1
  have a0 : (1#32 : BitVec 32).toInt ≤ x.toInt := by simpa [BitVec.sle] using h0
  have a1 : x.toInt ≤ (576#32 : BitVec 32).toInt := by simpa [BitVec.sle] using h1
  rw [show (1#32 : BitVec 32).toInt = 1 by decide] at a0
  rw [show (576#32 : BitVec 32).toInt = 576 by decide] at a1
  have hx := BitVec.toInt_eq_toNat_cond x
  have := x.isLt
  split at hx <;> omega

section
variable {F : FTy → Type} [FloatOps F]

/-- The precondition, read. -/
theorem inRange_of_pre (x0 x1 : IVec S576 32) (x2 : IVec S1 32) (x3 : FVec F S294912x1024 .bf16) (x4 x5 : FVec F S4x64x1024x256 .bf16)
    (x6 : FVec F S4x64x256x1024 .bf16) (h : Cert.Pre_in_range.fn (F := F) x0 x1 x2 x3 x4 x5 x6 = fun _ => 1#1) : InRange x0 x2 := by
  haveI : Subsingleton Cert.Pre_in_range.S_.Idx := ⟨fun a b => funext fun k => k.elim0⟩
  have h0 := congrFun h (fun k => k.elim0)
  obtain ⟨he, hn⟩ := IntOp.andi_eq_one.1 h0
  have kn : ∀ x, 1 ≤ (x2 x).toNat ∧ (x2 x).toNat ≤ 576 := fun x => by
    obtain ⟨ha, hb⟩ := IntOp.andi_eq_one.1 (Host.reduce_andi_all _ _ _ _ _ hn x)
    exact word_used _ ha hb
  refine ⟨fun x => ?_, fun x => (kn x).1, fun x => (kn x).2⟩
  obtain ⟨ha, hb⟩ := IntOp.andi_eq_one.1 (Host.reduce_andi_all _ _ _ _ _ he x)
  exact word_expert _ ha hb

variable (m : (ℓ : Loc nD τ sig) → Buf (Elt F) ℓ)

/-- The tables of a memory in range, as the launch takes them. -/
def admOf (hg : InRange (m (((0 : Dev nD) : Thread nD τ).loc main_arg0)) (m (((0 : Dev nD) : Thread nD τ).loc main_arg2))) : (pcfg0 (F := F)).Adm :=
  ⟨fun j => m (((0 : Dev nD) : Thread nD τ).loc (pre0.ref j)), ok_of_inRange _ hg⟩

variable (ρ : Dev nD → PrngReg) (hg : InRange (m (((0 : Dev nD) : Thread nD τ).loc main_arg0)) (m (((0 : Dev nD) : Thread nD τ).loc main_arg2)))

theorem admOf_inRange : InRange (tE (admOf m hg)) (tN (admOf m hg)) := hg

/-- The run, from a memory in range. -/
theorem run_main :
    θ_run (defs (F := F)) (onTc (τ := τ) (main (F := F))) ⟨m, fun _ => 0, ρ⟩ (fun r => Final (admOf m hg) m r ∧ r.2.sem = fun _ => 0) :=
  run_launch m ρ (admOf_inRange m hg) (fun c j => by rw [Subsingleton.elim c (0 : Dev nD)]; rfl)

variable {m}

/-- What every final memory holds in the arguments. -/
theorem final_args {hg} (r : PUnit × MemSt nD τ sig (Elt F)) (h : Final (admOf m hg) m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  obtain rfl : c = (0 : Dev nD) := Subsingleton.elim _ _
  refine ⟨(h 0).2 (0 : Fin 3), (h 0).2 (1 : Fin 3), (h 0).2 (2 : Fin 3), ?_, ?_, ?_, ?_⟩
  · exact ((h 0).1 (0 : Fin 8)).trans ((dats (admOf m hg) m 0 0).arrAt_in (0 : Fin 8) rfl _)
  · exact ((h 0).1 (1 : Fin 8)).trans ((dats (admOf m hg) m 0 0).arrAt_in (1 : Fin 8) rfl _)
  · exact ((h 0).1 (2 : Fin 8)).trans ((dats (admOf m hg) m 0 0).arrAt_in (2 : Fin 8) rfl _)
  · exact ((h 0).1 (3 : Fin 8)).trans ((dats (admOf m hg) m 0 0).arrAt_in (3 : Fin 8) rfl _)

end

/-- The frame of the experts' kernel over extended reals. -/
theorem frame_ideal : Cert.quiescent_Kernel2Ideal (hKernel2Ideal := Cert.Kernel2Ideal.Gen.facts) (hPre_in_range := Cert.Pre_in_range.Gen.facts) := fun m g hp =>
  (θ_run _ _ _).mono (fun r h => ⟨fun c => final_args r h.1 c, h.2⟩)
    (run_main (F := Ideal) m g (inRange_of_pre _ _ _ _ _ _ _ (hp 0)))

section
variable {F : FTy → Type} [FloatOps F]

/-- The two printed programs are one text: the same kernel bodies, -/
theorem bodies_eq : Cert.Kernel2.defs₀ (F := F) = Cert.Kernel2Ideal.defs₀ (F := F) := by
  funext p ℓ a
  cases p with
  | tc =>
    match ℓ, a with
    | 0, (t, s) => rfl
    | ⟨_ + 1, h⟩, _ => exact absurd h (Nat.not_lt.2 (Nat.le_add_left _ _))
  | scScalar _ => rfl
  | scVector _ _ => rfl

/-- the same table of bodies, -/
theorem defs_eq : Cert.Kernel2.defs (F := F) = Cert.Kernel2Ideal.defs (F := F) :=
  congrArg (Pipeline.defs (Cert.Kernel2Ideal.pcfgs (F := F))) bodies_eq

/-- and the same launch. -/
theorem main_eq : Cert.Kernel2.main (F := F) = Cert.Kernel2Ideal.main (F := F) := rfl

end

/-- The frame of the experts' kernel: the same run, over bit patterns. -/
theorem frame_kernel : Cert.quiescent_Kernel2 (hKernel2 := Cert.Kernel2.Gen.facts) (hPre_in_range := Cert.Pre_in_range.Gen.facts) := fun m g hp => by
  rw [defs_eq, main_eq]
  exact (θ_run (Cert.Kernel2Ideal.defs (F := Bits)) (onTc (τ := Cert.Kernel2Ideal.τ) (Cert.Kernel2Ideal.main (F := Bits))) ⟨m, fun _ => 0, g⟩).mono
    (fun r h => ⟨fun c => final_args r h.1 c, h.2⟩)
    (run_main (F := Bits) m g (inRange_of_pre _ _ _ _ _ _ _ (hp 0)))

end Cert.Experts

end
-- ==== Proof.GmmMath.lean ====
/- What one row of the experts' kernel computes, over extended reals: the gate and up products of the row, masked where
   it is not live, their gated product, and its product with the down projection. -/
module

public import proofs.«01_k».proof.Proof.Gen.Kernel2Ideal
public import proofs.«01_k».proof.Proof.Gen.Kernel2Ideal.Skeleton
public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 16384

noncomputable section

namespace Cert.Experts

open Cert.Kernel2Ideal Cert.Kernel2Ideal.Gen
open Idealize.ShloMosaic Idealize.ShloMosaic.TcCoe Idealize.ShloMosaic.ValueIdx
open scoped BigOperators

/-- A row's product with column `h` of a projection, the row being zero where it is not live. -/
def proj (live : BitVec 1) (x : Fin 1024 → EReal) (w : Fin 1024 → Fin 256 → EReal) (h : Fin 256) : EReal :=
  ∑ k : Fin 1024, (Scalar.select live (x k) 0 : EReal) * w k h

/-- The gated product of a row. -/
def hid (live : BitVec 1) (x : Fin 1024 → EReal) (wg wu : Fin 1024 → Fin 256 → EReal) (h : Fin 256) : EReal :=
  proj live x wg h * Ideal.logistic (proj live x wg h) * proj live x wu h

/-- Column `d` of a row's result. -/
def ffn (live : BitVec 1) (x : Fin 1024 → EReal) (wg wu : Fin 1024 → Fin 256 → EReal) (wd : Fin 256 → Fin 1024 → EReal) (d : Fin 1024) : EReal :=
  ∑ h : Fin 256, hid live x wg wu h * wd h d

/-- A projection given by its two halves of 512 rows. -/
def halves (a b : S1x1x512x256.Idx → EReal) (k : Fin 1024) (h : Fin 256) : EReal :=
  if hk : k.val < 512 then a (ix4 0 0 ⟨k.val, hk⟩ h) else b (ix4 0 0 ⟨k.val - 512, by have := k.isLt; omega⟩ h)

/-- Row `r` is below the block's number of live rows `w`. -/
def liveBit (w : BitVec 32) (r : Fin 512) : BitVec 1 := IntOp.cmpi .slt (BitVec.ofNat 32 r.val) w

/-- One half of the rows' product with a projection, as the body computes it. -/
def halfProd (off : ℕ) (hs : S512x1024.Slices ![0, off] S512x512) (x : Vec Ideal S512x1024 .bf16) (w : BitVec 32)
    (v : Vec Ideal S1x1x512x256 .bf16) : FVec Ideal S512x256 .f32 :=
  matmul dot_S512x512_S512x256_S512x256_1_0_0_1_n_n none
    (select (cmpi .slt (iota .tc S512x512 32 [0] iota_S512x512_d0_w32) (broadcast S512x512 w)) (extractStridedSlice S512x512 ![0, off] x hs)
      (broadcast S512x512 (Scalar.sitofp .bf16 0#32)) : FVec Ideal S512x512 .bf16)
    (shapeCast S512x256 v shapeCasts_S1x1x512x256_S512x256 : FVec Ideal S512x256 .bf16) (constant S512x256 .f32 0x00000000#32)

theorem halfProd_apply (off : ℕ) (ho : off + 512 ≤ 1024) (hs) (x : Vec Ideal S512x1024 .bf16) (w : BitVec 32) (v : Vec Ideal S1x1x512x256 .bf16) (r : Fin 512) (h : Fin 256) :
    halfProd off hs x w v (ix2 r h)
      = ∑ j : Fin 512, (Scalar.select (liveBit w r) (x (ix2 r ⟨off + j.val, by have := j.isLt; omega⟩) : EReal) 0 : EReal) * (v (ix4 0 0 j h) : EReal) := by
  unfold halfProd
  refine (Ideal.matmul_plain_apply (M := 512) (K := 512) (N := 256) none _ _ _ r h).trans ?_
  refine (congrArg₂ (· + ·) (Ideal.ofBits_zero_f32) (Finset.sum_congr rfl fun j _ => congrArg₂ (· * ·) ?_ ?_)).trans (zero_add _)
  · have e1 : iota .tc S512x512 32 [0] iota_S512x512_d0_w32 (ix2 r j) = BitVec.ofNat 32 r.val := iota_single_apply _ _ _ _ _ _
    have e2 : extractStridedSlice S512x512 ![0, off] x hs (ix2 r j) = x (ix2 r ⟨off + j.val, by have := j.isLt; omega⟩) :=
      extractStridedSlice_apply _ _ _ _ _ (fun a => match a with
        | ⟨0, _⟩ => by show r.val = 0 + r.val; omega
        | ⟨1, _⟩ => rfl)
    have e3 : (Scalar.sitofp (F := Ideal) .bf16 0#32 : EReal) = 0 := by
      show (((0#32 : BitVec 32).toInt : ℝ) : EReal) = 0
      simp
    show Scalar.select (IntOp.cmpi .slt (iota .tc S512x512 32 [0] iota_S512x512_d0_w32 (ix2 r j)) w) (extractStridedSlice S512x512 ![0, off] x hs (ix2 r j)) (Scalar.sitofp (F := Ideal) .bf16 0#32 : EReal) = _
    rw [e1, e2, e3]
    rfl
  · refine shapeCast_apply _ _ _ _ ?_
    rw [Shape.rowMajor_val_two, Shape.rowMajor_val_four]
    show ((0 * 1 + 0) * 512 + j.val) * 256 + h.val = j.val * 256 + h.val
    omega

/-- The two halves together are the whole product. -/
theorem halfProd_add (x : Vec Ideal S512x1024 .bf16) (w : BitVec 32) (a b : Vec Ideal S1x1x512x256 .bf16) (hs0 hs1) (r : Fin 512) (h : Fin 256) :
    (halfProd 0 hs0 x w a (ix2 r h) : EReal) + halfProd 512 hs1 x w b (ix2 r h)
      = proj (liveBit w r) (fun k => x (ix2 r k)) (halves a b) h := by
  rw [halfProd_apply 0 (by omega), halfProd_apply 512 (by omega)]
  unfold proj
  refine Eq.trans ?_ (Fin.sum_univ_add (a := 512) (b := 512) (fun k : Fin 1024 => (Scalar.select (liveBit w r) (x (ix2 r k) : EReal) 0 : EReal) * halves a b k h)).symm
  refine congrArg₂ (· + ·) (Finset.sum_congr rfl fun j _ => ?_) (Finset.sum_congr rfl fun j _ => ?_)
  · have hj : (Fin.castAdd 512 j : Fin 1024).val < 512 := j.isLt
    refine congrArg₂ (· * ·) ?_ ?_
    · refine congrArg (fun k => Scalar.select (liveBit w r) (x (ix2 r k) : EReal) 0) (Fin.ext ?_)
      show 0 + j.val = j.val
      omega
    · unfold halves; rw [dif_pos hj]; rfl
  · have hj : ¬ (Fin.natAdd 512 j : Fin 1024).val < 512 := by show ¬ 512 + j.val < 512; omega
    refine congrArg₂ (· * ·) rfl ?_
    unfold halves; rw [dif_neg hj]
    refine congrArg (fun k => b (ix4 0 0 k h)) (Fin.ext ?_)
    show j.val = 512 + j.val - 512
    omega

/-- The product with the down projection, as the body computes it. -/
theorem downProd_apply (y : FVec Ideal S512x256 .bf16) (v : Vec Ideal S1x1x256x1024 .bf16) (r : Fin 512) (d : Fin 1024) :
    matmul dot_S512x256_S256x1024_S512x1024_1_0_0_1_n_n none y (shapeCast S256x1024 v shapeCasts_S1x1x256x1024_S256x1024 : FVec Ideal S256x1024 .bf16)
        (constant S512x1024 .f32 0x00000000#32) (ix2 r d)
      = ∑ h : Fin 256, (y (ix2 r h) : EReal) * (v (ix4 0 0 h d) : EReal) := by
  refine (Ideal.matmul_plain_apply (M := 512) (K := 256) (N := 1024) none _ _ _ r d).trans ?_
  refine (congrArg₂ (· + ·) (Ideal.ofBits_zero_f32) (Finset.sum_congr rfl fun h _ => congrArg₂ (· * ·) rfl ?_)).trans (zero_add _)
  refine shapeCast_apply _ _ _ _ ?_
  rw [Shape.rowMajor_val_two, Shape.rowMajor_val_four]
  show ((0 * 1 + 0) * 256 + h.val) * 1024 + d.val = h.val * 1024 + d.val
  omega

/-- The first block's rows. -/
theorem first_apply (x : Vec Ideal S512x1024 .bf16) (w : BitVec 32) (ga gb ua ub : Vec Ideal S1x1x512x256 .bf16) (dn : Vec Ideal S1x1x256x1024 .bf16)
    (r : Fin 512) (d : Fin 1024) :
    k0_pay3 (F := Ideal) (k0_pay2 x w ga gb ua ub) dn (ix2 r d)
      = ffn (liveBit w r) (fun k => x (ix2 r k)) (halves ga gb) (halves ua ub) (fun h d => dn (ix4 0 0 h d)) d := by
  refine (downProd_apply _ dn r d).trans (Finset.sum_congr rfl fun h _ => congrArg (· * _) ?_)
  have e : (k0_pay2 (F := Ideal) x w ga gb ua ub (ix2 r h) : EReal)
      = (halfProd 0 slices_S512x1024_o0_0_S512x512 x w ga (ix2 r h) + halfProd 512 slices_S512x1024_o0_512_S512x512 x w gb (ix2 r h))
        * Ideal.logistic (halfProd 0 slices_S512x1024_o0_0_S512x512 x w ga (ix2 r h) + halfProd 512 slices_S512x1024_o0_512_S512x512 x w gb (ix2 r h))
        * (halfProd 0 slices_S512x1024_o0_0_S512x512 x w ua (ix2 r h) + halfProd 512 slices_S512x1024_o0_512_S512x512 x w ub (ix2 r h)) := rfl
  rw [e, halfProd_add, halfProd_add]
  rfl

/-- The second block's rows. -/
theorem second_apply (x : Vec Ideal S512x1024 .bf16) (w : BitVec 32) (ga gb ua ub : Vec Ideal S1x1x512x256 .bf16) (dn : Vec Ideal S1x1x256x1024 .bf16)
    (r : Fin 512) (d : Fin 1024) :
    k0_pay1 (F := Ideal) (k0_pay6 x w) (k0_pay7 x w ga gb) (k0_pay8 x w ua) ub dn (ix2 r d)
      = ffn (liveBit w r) (fun k => x (ix2 r k)) (halves ga gb) (halves ua ub) (fun h d => dn (ix4 0 0 h d)) d := by
  refine (downProd_apply _ dn r d).trans (Finset.sum_congr rfl fun h _ => congrArg (· * _) ?_)
  have e : ((mulf (mulf (k0_pay7 (F := Ideal) x w ga gb) (logistic (k0_pay7 (F := Ideal) x w ga gb)))
        (addf (k0_pay8 (F := Ideal) x w ua) (matmul dot_S512x512_S512x256_S512x256_1_0_0_1_n_n none (k0_pay6 x w) (shapeCast S512x256 ub shapeCasts_S1x1x512x256_S512x256 : FVec Ideal S512x256 .bf16) (constant S512x256 .f32 0x00000000#32)))) (ix2 r h) : EReal)
      = (halfProd 0 slices_S512x1024_o0_0_S512x512 x w ga (ix2 r h) + halfProd 512 slices_S512x1024_o0_512_S512x512 x w gb (ix2 r h))
        * Ideal.logistic (halfProd 0 slices_S512x1024_o0_0_S512x512 x w ga (ix2 r h) + halfProd 512 slices_S512x1024_o0_512_S512x512 x w gb (ix2 r h))
        * (halfProd 0 slices_S512x1024_o0_0_S512x512 x w ua (ix2 r h) + halfProd 512 slices_S512x1024_o0_512_S512x512 x w ub (ix2 r h)) := rfl
  refine e.trans ?_
  rw [halfProd_add, halfProd_add]
  rfl

end Cert.Experts

end
-- ==== Proof.GmmStore.lean ====
/- What the two blocks of one grid point of the experts' kernel hold, index by index, over extended reals. -/
module

public import proofs.«01_k».proof.Proof.GmmRun
public import proofs.«01_k».proof.Proof.GmmTables
public import proofs.«01_k».proof.Proof.GmmMath

@[expose] public section

set_option maxRecDepth 16384

noncomputable section

namespace Cert.Experts

open Cert.Kernel2Ideal Cert.Kernel2Ideal.Gen
open Idealize.ShloMosaic Idealize.ShloMosaic.TcCoe Idealize.ShloMosaic.ValueIdx
open scoped BigOperators

/-- One expert's projection inside a window's block. -/
def mat (g : S1x1x1024x256.Idx → EReal) (k : Fin 1024) (h : Fin 256) : EReal := g (ix4 0 0 k h)
/-- One expert's down projection inside a window's block. -/
def matD (g : S1x1x256x1024.Idx → EReal) (h : Fin 256) (d : Fin 1024) : EReal := g (ix4 0 0 h d)

/-- What row `y 0` and column `y 1` of a point's two blocks hold. -/
def rowOut (w0 w1 : BitVec 32) (x : S1024x1024.Idx → EReal) (g0 u0 : S1x1x1024x256.Idx → EReal) (d0 : S1x1x256x1024.Idx → EReal)
    (g1 u1 : S1x1x1024x256.Idx → EReal) (d1 : S1x1x256x1024.Idx → EReal) (ρ : Fin 1024) (d : Fin 1024) : EReal :=
  if hρ : ρ.val < 512 then ffn (liveBit w0 ⟨ρ.val, hρ⟩) (fun k => x (ix2 ρ k)) (mat g0) (mat u0) (matD d0) d
  else ffn (liveBit w1 ⟨ρ.val - 512, by have := ρ.isLt; omega⟩) (fun k => x (ix2 ρ k)) (mat g1) (mat u1) (matD d1) d

theorem halves_load (M : Memref sig .tc .vmem S1x1x1024x256 .bf16) (g : S1x1x1024x256.Idx → Elt Ideal .bf16)
    (h0 : ∀ a, (![0, 0, 0, 0] : Fin 4 → ℕ) a + S1x1x512x256.size a ≤ S1x1x1024x256.size a)
    (h1 : ∀ a, (![0, 0, 512, 0] : Fin 4 → ℕ) a + S1x1x512x256.size a ≤ S1x1x1024x256.size a) :
    halves (M.view.readAt (Elt Ideal) (Rect.unit (s := S1x1x1024x256) ![0, 0, 0, 0] S1x1x512x256.size h0).toLoadRect (M.view.rep g))
      (M.view.readAt (Elt Ideal) (Rect.unit (s := S1x1x1024x256) ![0, 0, 512, 0] S1x1x512x256.size h1).toLoadRect (M.view.rep g)) = mat g := by
  funext k h
  unfold halves mat
  rw [View.readAt_rep, View.readAt_rep]
  split
  · refine congrArg g (funext fun a => ?_)
    match a with
    | ⟨0, _⟩ => rfl
    | ⟨1, _⟩ => rfl
    | ⟨2, _⟩ => exact Fin.ext (by show 0 + 1 * k.val = k.val; omega)
    | ⟨3, _⟩ => exact Fin.ext (by show 0 + 1 * h.val = h.val; omega)
  · refine congrArg g (funext fun a => ?_)
    match a with
    | ⟨0, _⟩ => rfl
    | ⟨1, _⟩ => rfl
    | ⟨2, _⟩ => exact Fin.ext (by show 512 + 1 * (k.val - 512) = k.val; omega)
    | ⟨3, _⟩ => exact Fin.ext (by show 0 + 1 * h.val = h.val; omega)

theorem down_load (M : Memref sig .tc .vmem S1x1x256x1024 .bf16) (g : S1x1x256x1024.Idx → Elt Ideal .bf16)
    (h0 : ∀ a, (![0, 0, 0, 0] : Fin 4 → ℕ) a + S1x1x256x1024.size a ≤ S1x1x256x1024.size a) (h : Fin 256) (d : Fin 1024) :
    (M.view.readAt (Elt Ideal) (Rect.unit (s := S1x1x256x1024) ![0, 0, 0, 0] S1x1x256x1024.size h0).toLoadRect (M.view.rep g)) (ix4 0 0 h d) = matD g h d := by
  unfold matD
  rw [View.readAt_rep]
  refine congrArg g (funext fun a => ?_)
  match a with
  | ⟨0, _⟩ => rfl
  | ⟨1, _⟩ => rfl
  | ⟨2, _⟩ => exact Fin.ext (by show 0 + 1 * h.val = h.val; omega)
  | ⟨3, _⟩ => exact Fin.ext (by show 0 + 1 * d.val = d.val; omega)

theorem rows_load (M : Memref sig .tc .vmem S1024x1024 .bf16) (x : S1024x1024.Idx → Elt Ideal .bf16) (off : ℕ)
    (h0 : ∀ a, (![off, 0] : Fin 2 → ℕ) a + S512x1024.size a ≤ S1024x1024.size a) (r : Fin 512) (k : Fin 1024) (ρ : Fin 1024) (hρ : ρ.val = off + r.val) :
    (M.view.readAt (Elt Ideal) (Rect.unit (s := S1024x1024) ![off, 0] S512x1024.size h0).toLoadRect (M.view.rep x)) (ix2 r k) = x (ix2 ρ k) := by
  rw [View.readAt_rep]
  refine congrArg x (funext fun a => ?_)
  match a with
  | ⟨0, _⟩ => exact Fin.ext (by show off + 1 * r.val = ρ.val; omega)
  | ⟨1, _⟩ => exact Fin.ext (by show 0 + 1 * k.val = k.val; omega)

theorem word_load {F : FTy → Type} [FloatOps F] (i : grid0.Coords) (s : Fin 2) (off : Fin 1 → ℕ) (h : ∀ a, off a + S1.size a ≤ S576.size a)
    (ho : off = ![2 * (i 0).val + s.val]) (hn : S1.numel ≠ 0 ∨ 0 < S1.numel) (T1 : S576.Idx → Elt F .i32) (z : S1.Idx) :
    tabV.view.readAt (Elt F) (Rect.unit (s := S576) off S1.size h).toLoadRect T1 z = T1 (slot i s) := by
  subst ho
  refine congrArg T1 (funext fun a => ?_)
  obtain ⟨a, ha⟩ := a
  have h0 : a = 0 := by change a < 1 at ha; omega
  subst h0
  refine Fin.ext ?_
  have hz : (z ⟨0, ha⟩).val < 1 := (z ⟨0, ha⟩).isLt
  show 2 * (i 0).val + s.val + 1 * (z ⟨0, ha⟩).val = 2 * (i 0).val + s.val
  omega

section Point
variable (c : Dev nD) (i : grid0.Coords)
  (X : Memref sig .tc .vmem S1024x1024 .bf16) (hX : X.IsWhole)
  (G0 : Memref sig .tc .vmem S1x1x1024x256 .bf16) (hG0 : G0.IsWhole)
  (U0 : Memref sig .tc .vmem S1x1x1024x256 .bf16) (hU0 : U0.IsWhole)
  (D0 : Memref sig .tc .vmem S1x1x256x1024 .bf16) (hD0 : D0.IsWhole)
  (G1 : Memref sig .tc .vmem S1x1x1024x256 .bf16) (hG1 : G1.IsWhole)
  (U1 : Memref sig .tc .vmem S1x1x1024x256 .bf16) (hU1 : U1.IsWhole)
  (D1 : Memref sig .tc .vmem S1x1x256x1024 .bf16) (hD1 : D1.IsWhole)
  (O : Memref sig .tc .vmem S1024x1024 .bf16) (hO : O.IsWhole)
  (T0 T1 : S576.Idx → BitVec 32) (T2 : S1.Idx → BitVec 32)
  (x : S1024x1024.Idx → Elt Ideal .bf16)
  (g0 : S1x1x1024x256.Idx → Elt Ideal .bf16)
  (u0 : S1x1x1024x256.Idx → Elt Ideal .bf16)
  (d0 : S1x1x256x1024.Idx → Elt Ideal .bf16)
  (g1 : S1x1x1024x256.Idx → Elt Ideal .bf16)
  (u1 : S1x1x1024x256.Idx → Elt Ideal .bf16)
  (d1 : S1x1x256x1024.Idx → Elt Ideal .bf16)

/-- The two blocks of a point, index by index. -/
theorem takenOut_apply (ht : k0_cond1 i (usedWord (F := Ideal) T2) = 1#1) (ρ : Fin 1024) (d : Fin 1024) :
    takenOut (F := Ideal) c i X hX G0 hG0 U0 hU0 D0 hD0 G1 hG1 U1 hU1 D1 hD1 O hO T0 T1 T2 x g0 u0 d0 g1 u1 d1 ht (ix2 ρ d)
      = rowOut (T1 (slot i 0)) (T1 (slot i 1)) x g0 u0 d0 g1 u1 d1 ρ d := by
  unfold takenOut
  rw [View.read_writes_junk_eq_canon]
  refine (View.canon_apply_of_pieces (Val := Elt Ideal) (e := .bf16)
    (fun y : S1024x1024.Idx => rowOut (T1 (slot i 0)) (T1 (slot i 1)) x g0 u0 d0 g1 u1 d1 (y 0) (y 1)) _ ?_ (ix2 ρ d)
    (taken_cover c i X hX G0 hG0 U0 hU0 D0 hD0 G1 hG1 U1 hU1 D1 hD1 O hO T0 T1 T2 x g0 u0 d0 g1 u1 d1 ht _))
  unfold runTaken; dsimp only
  unfold runTaken.sl.HO_2
  intro p hp
  rcases List.mem_cons.mp hp with rfl | hp
  · intro y
    obtain ⟨r, e, rfl⟩ : ∃ (r : Fin 512) (e : Fin 1024), y = ix2 r e := ⟨y 0, y 1, eq_ix2 y⟩
    refine (second_apply _ _ _ _ _ _ _ r e).trans ?_
    have hr : (512 + 1 * r.val) < 1024 := by have := r.isLt; omega
    show _ = rowOut (T1 (slot i 0)) (T1 (slot i 1)) x g0 u0 d0 g1 u1 d1 ⟨512 + 1 * r.val, hr⟩ ⟨0 + 1 * e.val, by have := e.isLt; omega⟩
    unfold rowOut
    rw [dif_neg (by show ¬ 512 + 1 * r.val < 512; omega)]
    have ee : (⟨0 + 1 * e.val, by have := e.isLt; omega⟩ : Fin 1024) = e := Fin.ext (by show 0 + 1 * e.val = e.val; omega)
    have er : (⟨512 + 1 * r.val - 512, by have := r.isLt; omega⟩ : Fin 512) = r := Fin.ext (by show 512 + 1 * r.val - 512 = r.val; omega)
    rw [ee]
    have hw : runTaken.sl.r_3 (F := Ideal) i T1 = T1 (slot i 1) := word_load (F := Ideal) i 1 _ _ (k0_off2_eq i 1) (.inr (by decide)) T1 _
    rw [hw]
    show ffn (liveBit (T1 (slot i 1)) r) _ _ _ _ e = ffn (liveBit (T1 (slot i 1)) _) _ _ _ _ e
    rw [er]
    congr 1
    · funext k
      exact rows_load X x 512 _ r k _ (by show 512 + 1 * r.val = 512 + r.val; omega)
    · exact halves_load G1 g1 _ _
    · exact halves_load U1 u1 _ _
    · funext h d
      exact down_load D1 d1 _ h d
  rcases List.mem_cons.mp hp with rfl | hp
  · intro y
    obtain ⟨r, e, rfl⟩ : ∃ (r : Fin 512) (e : Fin 1024), y = ix2 r e := ⟨y 0, y 1, eq_ix2 y⟩
    refine (first_apply _ _ _ _ _ _ _ r e).trans ?_
    have hr : (0 + 1 * r.val) < 1024 := by have := r.isLt; omega
    show _ = rowOut (T1 (slot i 0)) (T1 (slot i 1)) x g0 u0 d0 g1 u1 d1 ⟨0 + 1 * r.val, hr⟩ ⟨0 + 1 * e.val, by have := e.isLt; omega⟩
    unfold rowOut
    rw [dif_pos (by show 0 + 1 * r.val < 512; have := r.isLt; omega)]
    have ee : (⟨0 + 1 * e.val, by have := e.isLt; omega⟩ : Fin 1024) = e := Fin.ext (by show 0 + 1 * e.val = e.val; omega)
    have er : (⟨0 + 1 * r.val, by have := r.isLt; omega⟩ : Fin 512) = r := Fin.ext (by show 0 + 1 * r.val = r.val; omega)
    rw [ee]
    have hw : runTaken.sl.r_1 (F := Ideal) i T1 = T1 (slot i 0) := word_load (F := Ideal) i 0 _ _ (k0_off2_eq i 0) (.inr (by decide)) T1 _
    rw [hw]
    show ffn (liveBit (T1 (slot i 0)) r) _ _ _ _ e = ffn (liveBit (T1 (slot i 0)) _) _ _ _ _ e
    rw [er]
    congr 1
    · funext k
      exact rows_load X x 0 _ r k _ (by show 0 + 1 * r.val = 0 + r.val; omega)
    · exact halves_load G0 g0 _ _
    · exact halves_load U0 u0 _ _
    · funext h d
      exact down_load D0 d0 _ h d
  · exact absurd hp (List.not_mem_nil)

end Point

end Cert.Experts

end
-- ==== Proof.GmmArr.lean ====
/- The experts' result array after the launch: every row of a block in use holds its expert's product, over extended
   reals. -/
module

public import proofs.«01_k».proof.Proof.GmmFrame
public import proofs.«01_k».proof.Proof.GmmStore
public import Idealize.ShloMosaic.Lib.Pipeline.ValueKit

@[expose] public section

set_option maxRecDepth 16384

noncomputable section

namespace Cert.Experts

open Cert.Kernel2Ideal Cert.Kernel2Ideal.Gen
open Idealize.ShloMosaic Idealize.ShloMosaic.TcCoe Idealize.ShloMosaic.ValueIdx Idealize.SL.Sem
open Idealize.ShloMosaic.Pipeline (Dat Cfg Window)
open scoped BigOperators

/-- The row block of row `r`. -/
abbrev blockOf (r : Fin 294912) : S576.Idx := ValueIdx.ix1 (⟨r.val / 512, by have := r.isLt; omega⟩ : Fin 576)

/-- Column `d` of row `r` of the experts' result: the row, zero unless it is among its block's live rows, through the gated
    projections of the block's expert in the second layer. -/
def expertRow (be bv : S576.Idx → BitVec 32) (x : S294912x1024.Idx → EReal) (wg wu : S4x64x1024x256.Idx → EReal) (wd : S4x64x256x1024.Idx → EReal)
    (r : Fin 294912) (d : Fin 1024) : EReal :=
  ffn (liveBit (bv (blockOf r)) ⟨r.val % 512, Nat.mod_lt _ (by decide)⟩) (fun k => x (ValueIdx.ix2 r k))
    (fun k h => wg (ValueIdx.ix4 1 (Fin.ofNat 64 (be (blockOf r)).toNat) k h)) (fun k h => wu (ValueIdx.ix4 1 (Fin.ofNat 64 (be (blockOf r)).toNat) k h))
    (fun h e => wd (ValueIdx.ix4 1 (Fin.ofNat 64 (be (blockOf r)).toNat) h e)) d

section
variable {F : FTy → Type} [FloatOps F] (m : (ℓ : Loc nD τ sig) → Buf (Elt F) ℓ) {a : (pcfg0 (F := F)).Adm} (hg : InRange (tE a) (tN a))

theorem held_at (c : Dev nD) {n n' : ℕ} (e : n = n') (h : n < (cfgT a).N) (h' : n' < (cfgT a).N) : held a m c n h = held a m c n' h' := by
  subst e; rfl

include hg

/-- After the last point in use the result's buffer is as that point left it. -/
theorem held_const (c : Dev nD) : ∀ (n : ℕ) (h : n < (cfgT a).N) (h' : min n (live (tN a) - 1) < (cfgT a).N),
    held a m c n h = held a m c (min n (live (tN a) - 1)) h'
  | 0, h, h' => held_at m c (by omega) _ _
  | n + 1, h, h' => by
    by_cases q : Taken a ⟨n + 1, h⟩
    · have ht := (taken_iff hg ⟨n + 1, h⟩).1 q
      exact held_at m c (by change n + 1 < _ at ht; omega) _ _
    · have ht : ¬ n + 1 < live (tN a) := fun h1 => q ((taken_iff hg ⟨n + 1, h⟩).2 h1)
      have s := held_skipped a m c ⟨n + 1, h⟩ q (Nat.succ_ne_zero n)
      exact s.trans ((held_const c n (Nat.lt_of_succ_lt h) (by have := Nat.lt_of_succ_lt h; omega)).trans (held_at m c (by omega) _ _))

/-- The result array, as its blocks were written. -/
def outArr (c : Dev nD) : S294912x1024.Idx → Elt F .bf16 := fun i =>
  held a m c ((i 0).val / 1024) (by have : (i 0).val < 294912 := (i 0).isLt; rw [points a]; omega)
    (ValueIdx.ix2 (⟨(i 0).val % 1024, Nat.mod_lt _ (by decide)⟩ : Fin 1024) (⟨(i 1).val, (i 1).isLt⟩ : Fin 1024))

omit hg in
theorem held_congr (c : Dev nD) {n n' : ℕ} (e : n = n') (h : n < (cfgT a).N) (h' : n' < (cfgT a).N) {y y' : S1024x1024.Idx} (ey : y = y') :
    held a m c n h y = held a m c n' h' y' := by subst e; subst ey; rfl

theorem emb7 (t : Fin (cfgT a).N) (y : (((cfgT a).win (7 : Fin 8)).xblock ((cfgT a).grid.coords t)).Idx) :
    (((((cfgT a).win (7 : Fin 8)).blk t).view.emb y (0 : Fin 2) : Fin _).val = min t.val (live (tN a) - 1) * 1024 + (y (0 : Fin 2)).val)
      ∧ ((((cfgT a).win (7 : Fin 8)).blk t).view.emb y (1 : Fin 2) : Fin _).val = (y (1 : Fin 2)).val := by
  have e : ∀ b : Fin 2, ((((cfgT a).win (7 : Fin 8)).blk t).view.emb y b : Fin _).val = (![min t.val (live (tN a) - 1), 0] : Fin 2 → ℕ) b * S1024x1024.size b + (y b).val := fun b => by
    rw [← rows7 hg t]
    exact Window.rect_emb_val ((cfgT a).win (7 : Fin 8)) t y b
  exact ⟨e 0, (e 1).trans (by show 0 * 1024 + _ = _; omega)⟩

/-- The array after the launch, at a row of a block in use. -/
theorem arr_eq (c : Dev nD) (r : Fin 294912) (d : Fin 1024) (hr : r.val / 1024 < live (tN a)) :
    (dats a m 0 c).arrAt (7 : Fin 8) (cfgT a).N (ValueIdx.ix2 r d) = outArr (a := a) m c (ValueIdx.ix2 r d) := by
  have hN := points a
  have hl : live (tN a) ≤ 288 := by have := hg.le only; unfold live; omega
  have key : ∀ t : Fin (cfgT a).N, ((cfgT a).win (7 : Fin 8)).flush t = true → min t.val (live (tN a) - 1) = r.val / 1024 →
      (dats a m 0 c).arrAt (7 : Fin 8) (cfgT a).N (ValueIdx.ix2 r d) = outArr (a := a) m c (ValueIdx.ix2 r d) := by
    intro t hf hb
    refine (dats a m 0 c).arrAt_apply_of_mem (7 : Fin 8) (outArr (a := a) m c) ?_ (cfgT a).N t (ValueIdx.ix2 r d) t.isLt hf ?_
    · intro s _
      funext y
      obtain ⟨e0, e1⟩ := emb7 hg s y
      have hy0 : (y (0 : Fin 2)).val < 1024 := (y (0 : Fin 2)).isLt
      show held a m c s.val s.isLt y = outArr (a := a) m c ((((cfgT a).win (7 : Fin 8)).blk s).view.emb y)
      rw [held_const m hg c s.val s.isLt (by have := s.isLt; omega)]
      unfold outArr
      refine held_congr m c ?_ _ _ (funext fun b => ?_)
      · rw [e0]; omega
      · match b with
        | ⟨0, _⟩ => exact Fin.ext (by show (y (0 : Fin 2)).val = _ % 1024; rw [e0]; omega)
        | ⟨1, _⟩ => exact Fin.ext (by show (y (1 : Fin 2)).val = _; rw [e1])
    · have he : (ValueIdx.ix2 r d : S294912x1024.Idx) = (((cfgT a).win (7 : Fin 8)).blk t).view.emb (ValueIdx.ix2 (⟨r.val % 1024, Nat.mod_lt _ (by decide)⟩ : Fin 1024) d) := by
        obtain ⟨e0, e1⟩ := emb7 hg t (ValueIdx.ix2 (⟨r.val % 1024, Nat.mod_lt _ (by decide)⟩ : Fin 1024) d)
        funext b
        match b with
        | ⟨0, _⟩ => exact Fin.ext (by refine Eq.trans ?_ e0.symm; rw [hb]; show r.val = r.val / 1024 * 1024 + r.val % 1024; omega)
        | ⟨1, _⟩ => exact Fin.ext e1.symm
      exact he ▸ View.emb_mem_set _ _
  by_cases hlast : r.val / 1024 + 1 < live (tN a)
  · exact key ⟨r.val / 1024, by omega⟩ ((flush_iff hg _).2 (.inl hlast)) (by show min (r.val / 1024) _ = _; omega)
  · exact key ⟨287, by omega⟩ ((flush_iff hg _).2 (.inr rfl)) (by show min 287 _ = _; omega)

end

end Cert.Experts

end
-- ==== Proof.GmmValue.lean ====
/- The experts' result array after the launch, read against the arguments, over extended reals. -/
module

public import proofs.«01_k».proof.Proof.GmmArr

@[expose] public section

set_option maxRecDepth 16384

noncomputable section

namespace Cert.Experts

open Cert.Kernel2Ideal Cert.Kernel2Ideal.Gen
open Idealize.ShloMosaic Idealize.ShloMosaic.TcCoe Idealize.SL.Sem
open Idealize.ShloMosaic.Pipeline (Dat Cfg Window)
open scoped BigOperators

variable (m : (ℓ : Loc nD τ sig) → Buf (Elt Ideal) ℓ) {a : (pcfg0 (F := Ideal)).Adm} (hg : InRange (tE a) (tN a))

/-- The rows. -/
def argX (c : Dev nD) : S294912x1024.Idx → EReal := m ((c : Thread nD τ).loc main_arg3)
/-- The gate projections. -/
def argG (c : Dev nD) : S4x64x1024x256.Idx → EReal := m ((c : Thread nD τ).loc main_arg4)
/-- The up projections. -/
def argU (c : Dev nD) : S4x64x1024x256.Idx → EReal := m ((c : Thread nD τ).loc main_arg5)
/-- The down projections. -/
def argD (c : Dev nD) : S4x64x256x1024.Idx → EReal := m ((c : Thread nD τ).loc main_arg6)

/-- The expert of row block `2 t + s`. -/
def expertOf (a : (pcfg0 (F := Ideal)).Adm) (t : Fin (cfgT a).N) (s : Fin 2) : Fin 64 := Fin.ofNat 64 ((tE a (slot (crd a t) s) : BitVec 32).toNat)

include hg

theorem expertOf_val (t : Fin (cfgT a).N) (s : Fin 2) : (expertOf a t s).val = ((tE a (slot (crd a t) s) : BitVec 32).toNat) :=
  Nat.mod_eq_of_lt (hg.expert _)

theorem blkX (c : Dev nD) (t : Fin (cfgT a).N) (ht : Taken a t) (ρ k : Fin 1024) (r : Fin 294912) (hr : r.val = t.val * 1024 + ρ.val) :
    (show S1024x1024.Idx → EReal from iblk a m c (0 : Fin 8) t) (ValueIdx.ix2 ρ k) = argX m c (ValueIdx.ix2 r k) := by
  have hl := (taken_iff hg t).1 ht
  have e : ∀ b : Fin 2, ((((cfgT a).win (0 : Fin 8)).blk t).view.emb (ValueIdx.ix2 ρ k) b : Fin _).val
      = (![min t.val (live (tN a) - 1), 0] : Fin 2 → ℕ) b * S1024x1024.size b + ((ValueIdx.ix2 ρ k : S1024x1024.Idx) b).val := fun b => by
    rw [← rows7 hg t]
    exact Window.rect_emb_val ((cfgT a).win (0 : Fin 8)) t (ValueIdx.ix2 ρ k) b
  show argX m c ((((cfgT a).win (0 : Fin 8)).blk t).view.emb (ValueIdx.ix2 ρ k)) = _
  refine congrArg (argX m c) (funext fun b => ?_)
  match b with
  | ⟨0, _⟩ => exact Fin.ext ((e 0).trans (by show min t.val (live (tN a) - 1) * 1024 + ρ.val = r.val; rw [hr, show min t.val (live (tN a) - 1) = t.val by omega]))
  | ⟨1, _⟩ => exact Fin.ext ((e 1).trans (by show 0 * 1024 + k.val = k.val; omega))

theorem blkG0 (c : Dev nD) (t : Fin (cfgT a).N) (k : Fin 1024) (h : Fin 256) :
    (show S1x1x1024x256.Idx → EReal from iblk a m c (1 : Fin 8) t) (ValueIdx.ix4 0 0 k h) = argG m c (ValueIdx.ix4 1 (expertOf a t 0) k h) := by
  have e : ∀ b : Fin 4, ((((cfgT a).win (1 : Fin 8)).blk t).view.emb (ValueIdx.ix4 0 0 k h) b : Fin _).val
      = (![1, (tE a (slot (crd a t) 0) : BitVec 32).toNat, 0, 0] : Fin 4 → ℕ) b * S1x1x1024x256.size b + ((ValueIdx.ix4 0 0 k h : S1x1x1024x256.Idx) b).val := fun b => by
    refine (Window.rect_emb_val ((cfgT a).win (1 : Fin 8)) t (ValueIdx.ix4 0 0 k h) b).trans ?_
    exact congrArg (fun f : Fin 4 → ℕ => f b * S1x1x1024x256.size b + ((ValueIdx.ix4 0 0 k h : S1x1x1024x256.Idx) b).val) (expert0_eq a.1 (crd a t))
  show argG m c ((((cfgT a).win (1 : Fin 8)).blk t).view.emb (ValueIdx.ix4 0 0 k h)) = _
  refine congrArg (argG m c) (funext fun b => ?_)
  match b with
  | ⟨0, _⟩ => exact Fin.ext (e 0)
  | ⟨1, _⟩ => exact Fin.ext ((e 1).trans (by show _ * 1 + 0 = (expertOf a t 0).val; rw [expertOf_val hg]; exact Nat.mul_one _))
  | ⟨2, _⟩ => exact Fin.ext ((e 2).trans (by show 0 * 1024 + k.val = k.val; omega))
  | ⟨3, _⟩ => exact Fin.ext ((e 3).trans (by show 0 * 256 + h.val = h.val; omega))

theorem blkU0 (c : Dev nD) (t : Fin (cfgT a).N) (k : Fin 1024) (h : Fin 256) :
    (show S1x1x1024x256.Idx → EReal from iblk a m c (2 : Fin 8) t) (ValueIdx.ix4 0 0 k h) = argU m c (ValueIdx.ix4 1 (expertOf a t 0) k h) := by
  have e : ∀ b : Fin 4, ((((cfgT a).win (2 : Fin 8)).blk t).view.emb (ValueIdx.ix4 0 0 k h) b : Fin _).val
      = (![1, (tE a (slot (crd a t) 0) : BitVec 32).toNat, 0, 0] : Fin 4 → ℕ) b * S1x1x1024x256.size b + ((ValueIdx.ix4 0 0 k h : S1x1x1024x256.Idx) b).val := fun b => by
    refine (Window.rect_emb_val ((cfgT a).win (2 : Fin 8)) t (ValueIdx.ix4 0 0 k h) b).trans ?_
    exact congrArg (fun f : Fin 4 → ℕ => f b * S1x1x1024x256.size b + ((ValueIdx.ix4 0 0 k h : S1x1x1024x256.Idx) b).val) (expert0_eq a.1 (crd a t))
  show argU m c ((((cfgT a).win (2 : Fin 8)).blk t).view.emb (ValueIdx.ix4 0 0 k h)) = _
  refine congrArg (argU m c) (funext fun b => ?_)
  match b with
  | ⟨0, _⟩ => exact Fin.ext (e 0)
  | ⟨1, _⟩ => exact Fin.ext ((e 1).trans (by show _ * 1 + 0 = (expertOf a t 0).val; rw [expertOf_val hg]; exact Nat.mul_one _))
  | ⟨2, _⟩ => exact Fin.ext ((e 2).trans (by show 0 * 1024 + k.val = k.val; omega))
  | ⟨3, _⟩ => exact Fin.ext ((e 3).trans (by show 0 * 256 + h.val = h.val; omega))

theorem blkD0 (c : Dev nD) (t : Fin (cfgT a).N) (h : Fin 256) (k : Fin 1024) :
    (show S1x1x256x1024.Idx → EReal from iblk a m c (3 : Fin 8) t) (ValueIdx.ix4 0 0 h k) = argD m c (ValueIdx.ix4 1 (expertOf a t 0) h k) := by
  have e : ∀ b : Fin 4, ((((cfgT a).win (3 : Fin 8)).blk t).view.emb (ValueIdx.ix4 0 0 h k) b : Fin _).val
      = (![1, (tE a (slot (crd a t) 0) : BitVec 32).toNat, 0, 0] : Fin 4 → ℕ) b * S1x1x256x1024.size b + ((ValueIdx.ix4 0 0 h k : S1x1x256x1024.Idx) b).val := fun b => by
    refine (Window.rect_emb_val ((cfgT a).win (3 : Fin 8)) t (ValueIdx.ix4 0 0 h k) b).trans ?_
    exact congrArg (fun f : Fin 4 → ℕ => f b * S1x1x256x1024.size b + ((ValueIdx.ix4 0 0 h k : S1x1x256x1024.Idx) b).val) (expert0_eq a.1 (crd a t))
  show argD m c ((((cfgT a).win (3 : Fin 8)).blk t).view.emb (ValueIdx.ix4 0 0 h k)) = _
  refine congrArg (argD m c) (funext fun b => ?_)
  match b with
  | ⟨0, _⟩ => exact Fin.ext (e 0)
  | ⟨1, _⟩ => exact Fin.ext ((e 1).trans (by show _ * 1 + 0 = (expertOf a t 0).val; rw [expertOf_val hg]; exact Nat.mul_one _))
  | ⟨2, _⟩ => exact Fin.ext ((e 2).trans (by show 0 * 256 + h.val = h.val; omega))
  | ⟨3, _⟩ => exact Fin.ext ((e 3).trans (by show 0 * 1024 + k.val = k.val; omega))

theorem blkG1 (c : Dev nD) (t : Fin (cfgT a).N) (k : Fin 1024) (h : Fin 256) :
    (show S1x1x1024x256.Idx → EReal from iblk a m c (4 : Fin 8) t) (ValueIdx.ix4 0 0 k h) = argG m c (ValueIdx.ix4 1 (expertOf a t 1) k h) := by
  have e : ∀ b : Fin 4, ((((cfgT a).win (4 : Fin 8)).blk t).view.emb (ValueIdx.ix4 0 0 k h) b : Fin _).val
      = (![1, (tE a (slot (crd a t) 1) : BitVec 32).toNat, 0, 0] : Fin 4 → ℕ) b * S1x1x1024x256.size b + ((ValueIdx.ix4 0 0 k h : S1x1x1024x256.Idx) b).val := fun b => by
    refine (Window.rect_emb_val ((cfgT a).win (4 : Fin 8)) t (ValueIdx.ix4 0 0 k h) b).trans ?_
    exact congrArg (fun f : Fin 4 → ℕ => f b * S1x1x1024x256.size b + ((ValueIdx.ix4 0 0 k h : S1x1x1024x256.Idx) b).val) (expert1_eq a.1 (crd a t))
  show argG m c ((((cfgT a).win (4 : Fin 8)).blk t).view.emb (ValueIdx.ix4 0 0 k h)) = _
  refine congrArg (argG m c) (funext fun b => ?_)
  match b with
  | ⟨0, _⟩ => exact Fin.ext (e 0)
  | ⟨1, _⟩ => exact Fin.ext ((e 1).trans (by show _ * 1 + 0 = (expertOf a t 1).val; rw [expertOf_val hg]; exact Nat.mul_one _))
  | ⟨2, _⟩ => exact Fin.ext ((e 2).trans (by show 0 * 1024 + k.val = k.val; omega))
  | ⟨3, _⟩ => exact Fin.ext ((e 3).trans (by show 0 * 256 + h.val = h.val; omega))

theorem blkU1 (c : Dev nD) (t : Fin (cfgT a).N) (k : Fin 1024) (h : Fin 256) :
    (show S1x1x1024x256.Idx → EReal from iblk a m c (5 : Fin 8) t) (ValueIdx.ix4 0 0 k h) = argU m c (ValueIdx.ix4 1 (expertOf a t 1) k h) := by
  have e : ∀ b : Fin 4, ((((cfgT a).win (5 : Fin 8)).blk t).view.emb (ValueIdx.ix4 0 0 k h) b : Fin _).val
      = (![1, (tE a (slot (crd a t) 1) : BitVec 32).toNat, 0, 0] : Fin 4 → ℕ) b * S1x1x1024x256.size b + ((ValueIdx.ix4 0 0 k h : S1x1x1024x256.Idx) b).val := fun b => by
    refine (Window.rect_emb_val ((cfgT a).win (5 : Fin 8)) t (ValueIdx.ix4 0 0 k h) b).trans ?_
    exact congrArg (fun f : Fin 4 → ℕ => f b * S1x1x1024x256.size b + ((ValueIdx.ix4 0 0 k h : S1x1x1024x256.Idx) b).val) (expert1_eq a.1 (crd a t))
  show argU m c ((((cfgT a).win (5 : Fin 8)).blk t).view.emb (ValueIdx.ix4 0 0 k h)) = _
  refine congrArg (argU m c) (funext fun b => ?_)
  match b with
  | ⟨0, _⟩ => exact Fin.ext (e 0)
  | ⟨1, _⟩ => exact Fin.ext ((e 1).trans (by show _ * 1 + 0 = (expertOf a t 1).val; rw [expertOf_val hg]; exact Nat.mul_one _))
  | ⟨2, _⟩ => exact Fin.ext ((e 2).trans (by show 0 * 1024 + k.val = k.val; omega))
  | ⟨3, _⟩ => exact Fin.ext ((e 3).trans (by show 0 * 256 + h.val = h.val; omega))

theorem blkD1 (c : Dev nD) (t : Fin (cfgT a).N) (h : Fin 256) (k : Fin 1024) :
    (show S1x1x256x1024.Idx → EReal from iblk a m c (6 : Fin 8) t) (ValueIdx.ix4 0 0 h k) = argD m c (ValueIdx.ix4 1 (expertOf a t 1) h k) := by
  have e : ∀ b : Fin 4, ((((cfgT a).win (6 : Fin 8)).blk t).view.emb (ValueIdx.ix4 0 0 h k) b : Fin _).val
      = (![1, (tE a (slot (crd a t) 1) : BitVec 32).toNat, 0, 0] : Fin 4 → ℕ) b * S1x1x256x1024.size b + ((ValueIdx.ix4 0 0 h k : S1x1x256x1024.Idx) b).val := fun b => by
    refine (Window.rect_emb_val ((cfgT a).win (6 : Fin 8)) t (ValueIdx.ix4 0 0 h k) b).trans ?_
    exact congrArg (fun f : Fin 4 → ℕ => f b * S1x1x256x1024.size b + ((ValueIdx.ix4 0 0 h k : S1x1x256x1024.Idx) b).val) (expert1_eq a.1 (crd a t))
  show argD m c ((((cfgT a).win (6 : Fin 8)).blk t).view.emb (ValueIdx.ix4 0 0 h k)) = _
  refine congrArg (argD m c) (funext fun b => ?_)
  match b with
  | ⟨0, _⟩ => exact Fin.ext (e 0)
  | ⟨1, _⟩ => exact Fin.ext ((e 1).trans (by show _ * 1 + 0 = (expertOf a t 1).val; rw [expertOf_val hg]; exact Nat.mul_one _))
  | ⟨2, _⟩ => exact Fin.ext ((e 2).trans (by show 0 * 256 + h.val = h.val; omega))
  | ⟨3, _⟩ => exact Fin.ext ((e 3).trans (by show 0 * 1024 + k.val = k.val; omega))

/-- What the body leaves at row `ρ` and column `d` of a point it stores at. -/
theorem stored_apply (c : Dev nD) (t : Fin (cfgT a).N) (ht : Taken a t) (ρ : Fin 1024) (d : Fin 1024) (r : Fin 294912) (hr : r.val = t.val * 1024 + ρ.val) :
    stored a m c t ht (ValueIdx.ix2 ρ d) = expertRow (tE a) (tV a) (argX m c) (argG m c) (argU m c) (argD m c) r d := by
  have hc := crd_val a t
  refine (takenOut_apply c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tE a) (tV a) (tN a) (iblk a m c (0 : Fin 8) t) (iblk a m c (1 : Fin 8) t) (iblk a m c (2 : Fin 8) t) (iblk a m c (3 : Fin 8) t) (iblk a m c (4 : Fin 8) t) (iblk a m c (5 : Fin 8) t) (iblk a m c (6 : Fin 8) t) ht ρ d).trans ?_
  have hx : (fun k => (show S1024x1024.Idx → EReal from iblk a m c (0 : Fin 8) t) (ValueIdx.ix2 ρ k)) = fun k => argX m c (ValueIdx.ix2 r k) :=
    funext fun k => blkX m hg c t ht ρ k r hr
  unfold rowOut expertRow
  by_cases hρ : ρ.val < 512
  · rw [dif_pos hρ]
    have hb : blockOf r = slot (crd a t) 0 := by
      funext b
      match b with
      | ⟨0, _⟩ => exact Fin.ext (by show r.val / 512 = 2 * (crd a t 0).val + 0; omega)
    have hq : (⟨r.val % 512, Nat.mod_lt _ (by decide)⟩ : Fin 512) = ⟨ρ.val, hρ⟩ := Fin.ext (by show r.val % 512 = ρ.val; omega)
    rw [hb, hq]
    have h1 : mat (show S1x1x1024x256.Idx → EReal from iblk a m c (1 : Fin 8) t) = fun k h => argG m c (ValueIdx.ix4 1 (expertOf a t 0) k h) := funext fun k => funext fun h => blkG0 m hg c t k h
    have h2 : mat (show S1x1x1024x256.Idx → EReal from iblk a m c (2 : Fin 8) t) = fun k h => argU m c (ValueIdx.ix4 1 (expertOf a t 0) k h) := funext fun k => funext fun h => blkU0 m hg c t k h
    have h3 : matD (show S1x1x256x1024.Idx → EReal from iblk a m c (3 : Fin 8) t) = fun h k => argD m c (ValueIdx.ix4 1 (expertOf a t 0) h k) := funext fun h => funext fun k => blkD0 m hg c t h k
    show ffn _ (fun k => (show S1024x1024.Idx → EReal from iblk a m c (0 : Fin 8) t) (ValueIdx.ix2 ρ k)) (mat (show S1x1x1024x256.Idx → EReal from iblk a m c (1 : Fin 8) t)) (mat (show S1x1x1024x256.Idx → EReal from iblk a m c (2 : Fin 8) t)) (matD (show S1x1x256x1024.Idx → EReal from iblk a m c (3 : Fin 8) t)) d = _
    rw [hx, h1, h2, h3]
    rfl
  · rw [dif_neg hρ]
    have hb : blockOf r = slot (crd a t) 1 := by
      funext b
      match b with
      | ⟨0, _⟩ => exact Fin.ext (by show r.val / 512 = 2 * (crd a t 0).val + 1; have := ρ.isLt; omega)
    have hq : (⟨r.val % 512, Nat.mod_lt _ (by decide)⟩ : Fin 512) = ⟨ρ.val - 512, by have := ρ.isLt; omega⟩ := Fin.ext (by show r.val % 512 = ρ.val - 512; have := ρ.isLt; omega)
    rw [hb, hq]
    have h1 : mat (show S1x1x1024x256.Idx → EReal from iblk a m c (4 : Fin 8) t) = fun k h => argG m c (ValueIdx.ix4 1 (expertOf a t 1) k h) := funext fun k => funext fun h => blkG1 m hg c t k h
    have h2 : mat (show S1x1x1024x256.Idx → EReal from iblk a m c (5 : Fin 8) t) = fun k h => argU m c (ValueIdx.ix4 1 (expertOf a t 1) k h) := funext fun k => funext fun h => blkU1 m hg c t k h
    have h3 : matD (show S1x1x256x1024.Idx → EReal from iblk a m c (6 : Fin 8) t) = fun h k => argD m c (ValueIdx.ix4 1 (expertOf a t 1) h k) := funext fun h => funext fun k => blkD1 m hg c t h k
    show ffn _ (fun k => (show S1024x1024.Idx → EReal from iblk a m c (0 : Fin 8) t) (ValueIdx.ix2 ρ k)) (mat (show S1x1x1024x256.Idx → EReal from iblk a m c (4 : Fin 8) t)) (mat (show S1x1x1024x256.Idx → EReal from iblk a m c (5 : Fin 8) t)) (matD (show S1x1x256x1024.Idx → EReal from iblk a m c (6 : Fin 8) t)) d = _
    rw [hx, h1, h2, h3]
    rfl

/-- The array after the launch, at a row of a block in use: that row of the experts' result. -/
theorem arr_value (c : Dev nD) (r : Fin 294912) (d : Fin 1024) (hr : r.val / 1024 < live (tN a)) :
    (dats a m 0 c).arrAt (7 : Fin 8) (cfgT a).N (ValueIdx.ix2 r d) = expertRow (tE a) (tV a) (argX m c) (argG m c) (argU m c) (argD m c) r d := by
  refine (arr_eq m hg c r d hr).trans ?_
  have hN := points a
  have hr' := r.isLt
  have ht : Taken a ⟨r.val / 1024, by omega⟩ := (taken_iff hg _).2 hr
  refine Eq.trans ?_ (stored_apply m hg c ⟨r.val / 1024, by omega⟩ ht ⟨r.val % 1024, Nat.mod_lt _ (by decide)⟩ d r (by show r.val = r.val / 1024 * 1024 + r.val % 1024; omega))
  rw [← held_taken a m c _ ht]
  rfl

end Cert.Experts

end
-- ==== Proof.GmmRef.lean ====
/- The experts' reference at a row of a block in use, over extended reals: that row of the experts' result. -/
module

public import proofs.«01_k».proof.Proof.GmmValue
public import proofs.«01_k».proof.Proof.Gen.Reference2Ideal
public import proofs.«01_k».proof.Proof.Gen.Reference2Ideal.Read

@[expose] public section

set_option maxRecDepth 16384

noncomputable section

namespace Cert.Experts

open Cert.Reference2Ideal Cert.Reference2Ideal.Gen Cert.Reference2Ideal.Read
open Idealize.ShloMosaic Idealize.ShloMosaic.TcCoe Idealize.SL.Sem
open scoped BigOperators

/-- One matrix of a stack for each row of a column of indices: the matrix at the row's index, kept inside the stack. -/
theorem gather_rows {α : Type} {N n A B w : ℕ} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (b : Fin n) (p : Fin A) (q : Fin B) (e : Fin N)
    (he : min (idx (ValueIdx.ix2 b (0 : Fin 1))).toInt.toNat (N - 1) = e.val) :
    Host.gather d x idx (ValueIdx.ix3 b p q) = x (ValueIdx.ix3 e p q) := by
  have hsl : d.sliceSizes 0 = 1 := d.slice_collapsed 0 (by rw [hcoll]; exact List.mem_singleton.mpr rfl)
  have hbc : ∀ a, d.batchCoord (ValueIdx.ix3 b p q) a = 0 := fun a => d.batchCoord_eq_zero _ _ (by rw [hob]; exact List.not_mem_nil)
  obtain ⟨od, cd, ob, sb, sm, iv, ss, wf⟩ := d
  dsimp only at hoff hcoll hob hsim hivd hsl
  subst hoff hcoll hob hsim hivd
  unfold Host.gather
  refine congrArg x (funext fun a => ?_)
  match a with
  | ⟨0, _⟩ =>
    apply Fin.ext
    refine Eq.trans ?_ he
    show GatherDims.start _ _ _ 0 + GatherDims.batchCoord _ _ 0 + GatherDims.offCoord _ _ 0 = _
    rw [hbc, GatherDims.offCoord_eq_zero _ _ _ (by rw [GatherDims.mem_sKept]; simp)]
    unfold GatherDims.start
    rw [dif_pos (List.mem_singleton.mpr rfl)]
    show min (idx _).toInt.toNat (N - ss 0) + 0 + 0 = _
    rw [hsl, Nat.add_zero]
    refine congrArg (fun z => min (idx z).toInt.toNat (N - 1)) (funext fun c => ?_)
    match c with
    | ⟨0, _⟩ => rfl
    | ⟨1, _⟩ => rfl
  | ⟨1, _⟩ =>
    apply Fin.ext
    show GatherDims.start _ _ _ 1 + GatherDims.batchCoord _ _ 1 + GatherDims.offCoord _ _ 1 = p.val
    rw [hbc]
    unfold GatherDims.start
    rw [dif_neg (by simp)]
    show 0 + 0 + p.val = p.val
    omega
  | ⟨2, _⟩ =>
    apply Fin.ext
    show GatherDims.start _ _ _ 2 + GatherDims.batchCoord _ _ 2 + GatherDims.offCoord _ _ 2 = q.val
    rw [hbc]
    unfold GatherDims.start
    rw [dif_neg (by simp)]
    show 0 + 0 + q.val = q.val
    omega

theorem andi_one : ∀ x : BitVec 1, IntOp.andi x 1#1 = x := by decide

/-- Small words compare, as signed, as their naturals do. -/
theorem slt_iff (a b : BitVec 32) (ha : a.toNat < 2147483648) (hb : b.toNat < 2147483648) : IntOp.cmpi .slt a b = 1#1 ↔ a.toNat < b.toNat := by
  simp only [IntOp.cmpi, StableHlo.Predicate.ofBool_eq_one_iff]
  have ea : a.toInt = a.toNat := BitVec.toInt_eq_toNat_of_lt (by omega)
  have eb : b.toInt = b.toNat := BitVec.toInt_eq_toNat_of_lt (by omega)
  rw [BitVec.slt, ea, eb]
  simp

section
variable (x0 x1 : S576.Idx → BitVec 32) (x2 : S1.Idx → BitVec 32) (x3 : S294912x1024.Idx → EReal) (x4 x5 : S4x64x1024x256.Idx → EReal)
  (x6 : S4x64x256x1024.Idx → EReal)

/-- The wrap of negative indices leaves an index in range alone. -/
theorem v25_at (h0 : ∀ x, (x0 x).toNat < 64) (b : Fin 576) : val_main_v25 (F := Ideal) x0 (ValueIdx.ix2 b (0 : Fin 1)) = x0 (ValueIdx.ix1 b) := by
  rw [val_main_v25_apply]
  have e : idx_main_v25 (ValueIdx.ix2 b (0 : Fin 1)) = ValueIdx.ix1 b := by
    funext a
    match a with
    | ⟨0, _⟩ => rfl
  rw [e, val_main_v24_apply, val_main_v21_apply, val_main_v20_apply, val_main_c_apply]
  have hb := h0 (ValueIdx.ix1 b)
  have hn : ¬ IntOp.cmpi .slt (x0 (ValueIdx.ix1 b)) 0#32 = 1#1 := by
    rw [slt_iff _ _ (by omega) (by decide)]
    exact Nat.not_lt_zero _
  have hz : IntOp.cmpi .slt (x0 (ValueIdx.ix1 b)) 0#32 = 0#1 := (BitVec.eq_zero_or_eq_one _).resolve_right hn
  rw [hz]
  rfl

theorem start_at (h0 : ∀ x, (x0 x).toNat < 64) (b : Fin 576) :
    min (val_main_v25 (F := Ideal) x0 (ValueIdx.ix2 b (0 : Fin 1)) : BitVec 32).toInt.toNat (64 - 1) = (Fin.ofNat 64 (x0 (ValueIdx.ix1 b)).toNat).val := by
  rw [v25_at x0 h0 b]
  have hb := h0 (ValueIdx.ix1 b)
  have e : (x0 (ValueIdx.ix1 b)).toInt = (x0 (ValueIdx.ix1 b)).toNat := BitVec.toInt_eq_toNat_of_lt (by omega)
  rw [e, Int.toNat_natCast]
  show _ = (x0 (ValueIdx.ix1 b)).toNat % 64
  omega

/-- The gathered projections. -/
theorem v26_at (h0 : ∀ x, (x0 x).toNat < 64) (b : Fin 576) (k : Fin 1024) (h : Fin 256) :
    (val_main_v26 (F := Ideal) x0 x4 (ValueIdx.ix3 b k h) : EReal) = x4 (ValueIdx.ix4 1 (Fin.ofNat 64 (x0 (ValueIdx.ix1 b)).toNat) k h) := by
  unfold val_main_v26
  refine (gather_rows _ rfl rfl rfl rfl rfl _ _ b k h _ (start_at x0 h0 b)).trans ?_
  generalize Fin.ofNat 64 (x0 (ValueIdx.ix1 b)).toNat = e
  rw [val_main_v19_apply, val_main_v18_apply, val_main_v17_apply]
  show x4 _ = x4 _
  refine congrArg x4 (funext fun a => ?_)
  have he := e.isLt
  have hk := k.isLt
  have hh := h.isLt
  match a with
  | ⟨0, _⟩ => rfl
  | ⟨1, _⟩ => exact Fin.ext (by show ((e.val * 1024 + k.val) * 256 + h.val) / 262144 % 64 = e.val; omega)
  | ⟨2, _⟩ => exact Fin.ext (by show ((e.val * 1024 + k.val) * 256 + h.val) / 256 % 1024 = k.val; omega)
  | ⟨3, _⟩ => exact Fin.ext (by show ((e.val * 1024 + k.val) * 256 + h.val) % 256 = h.val; omega)

theorem v50_at (h0 : ∀ x, (x0 x).toNat < 64) (b : Fin 576) (h : Fin 256) (k : Fin 1024) :
    (val_main_v50 (F := Ideal) x0 x6 (ValueIdx.ix3 b h k) : EReal) = x6 (ValueIdx.ix4 1 (Fin.ofNat 64 (x0 (ValueIdx.ix1 b)).toNat) h k) := by
  unfold val_main_v50
  refine (gather_rows _ rfl rfl rfl rfl rfl _ _ b h k _ (start_at x0 h0 b)).trans ?_
  generalize Fin.ofNat 64 (x0 (ValueIdx.ix1 b)).toNat = e
  rw [val_main_v43_apply, val_main_v42_apply, val_main_v41_apply]
  show x6 _ = x6 _
  refine congrArg x6 (funext fun a => ?_)
  have he := e.isLt
  have hk := k.isLt
  have hh := h.isLt
  match a with
  | ⟨0, _⟩ => rfl
  | ⟨1, _⟩ => exact Fin.ext (by show ((e.val * 256 + h.val) * 1024 + k.val) / 262144 % 64 = e.val; omega)
  | ⟨2, _⟩ => exact Fin.ext (by show ((e.val * 256 + h.val) * 1024 + k.val) / 1024 % 256 = h.val; omega)
  | ⟨3, _⟩ => exact Fin.ext (by show ((e.val * 256 + h.val) * 1024 + k.val) % 1024 = k.val; omega)

/-- The mask, in a block in use. -/
theorem mask_at (h2 : ∀ x, (x2 x).toNat ≤ 576) (b : Fin 576) (q : Fin 512) (k : Fin 1024) (hb : b.val < (x2 only).toNat) :
    val_main_call0_v1 (F := Ideal) x1 x2 (ValueIdx.ix3 b q k) = liveBit (x1 (ValueIdx.ix1 b)) q := by
  rw [val_main_call0_v1_apply, val_main_v15_apply]
  have e : idx_main_v15 (idx_main_call0_v1 (ValueIdx.ix3 b q k)) = ValueIdx.ix2 b q := by
    funext a
    match a with
    | ⟨0, _⟩ => rfl
    | ⟨1, _⟩ => rfl
  rw [e, val_main_v14_apply, val_main_v7_apply, val_main_v5_apply, val_main_v3_apply, val_main_v2_apply, val_main_v6_apply, val_main_v4_apply,
    val_main_v13_apply, val_main_v12_apply, val_main_v11_apply, val_main_v8_apply, val_main_v10_apply]
  have e2 : val_main_v9 (F := Ideal) x2 (idx_main_v10 (idx_main_v12 (idx_main_v13 (ValueIdx.ix2 b q)))) = x2 only := congrArg x2 (only_eq _)
  have hx := h2 only
  have hbl := b.isLt
  have hbn : (BitVec.ofNat 32 b.val).toNat = b.val := by rw [BitVec.toNat_ofNat]; exact Nat.mod_eq_of_lt (by omega)
  have e3 : IntOp.cmpi .slt (BitVec.ofNat 32 b.val) (x2 only) = 1#1 := (slt_iff _ _ (by rw [hbn]; omega) (by omega)).2 (by rw [hbn]; exact hb)
  have e4 : idx_main_v4 (idx_main_v6 (ValueIdx.ix2 b q)) = ValueIdx.ix1 b := by
    funext a
    match a with
    | ⟨0, _⟩ => rfl
  rw [e2, e4]
  show IntOp.andi (IntOp.cmpi .slt (BitVec.ofNat 32 q.val) (x1 (ValueIdx.ix1 b))) (IntOp.cmpi .slt (BitVec.ofNat 32 b.val) (x2 only)) = _
  rw [e3, andi_one]
  rfl

/-- The masked rows. -/
theorem v16_at (h2 : ∀ x, (x2 x).toNat ≤ 576) (b : Fin 576) (q : Fin 512) (k : Fin 1024) (hb : b.val < (x2 only).toNat) (r : Fin 294912) (hr : r.val = b.val * 512 + q.val) :
    (val_main_v16 (F := Ideal) x1 x2 x3 (ValueIdx.ix3 b q k) : EReal) = Scalar.select (liveBit (x1 (ValueIdx.ix1 b)) q) (x3 (ValueIdx.ix2 r k)) 0 := by
  rw [val_main_v16_apply, mask_at x1 x2 h2 b q k hb, val_main_v1_apply, val_main_v0_apply, val_main_call0_v2_apply, val_main_call0_v0_apply, val_main_cst_apply]
  have e : idx_main_v1 (ValueIdx.ix3 b q k) = ValueIdx.ix2 r k := by
    have hk := k.isLt
    funext a
    match a with
    | ⟨0, _⟩ => exact Fin.ext (by show ((b.val * 512 + q.val) * 1024 + k.val) / 1024 = r.val; omega)
    | ⟨1, _⟩ => exact Fin.ext (by show ((b.val * 512 + q.val) * 1024 + k.val) % 1024 = k.val; omega)
  rw [e]
  exact congrArg (fun z : EReal => (Scalar.select (liveBit (x1 (ValueIdx.ix1 b)) q) (x3 (ValueIdx.ix2 r k)) z : EReal)) Ideal.ofBits_zero_f32

/-- A projection of the masked rows. -/
theorem v27_at (h0 : ∀ x, (x0 x).toNat < 64) (h2 : ∀ x, (x2 x).toNat ≤ 576) (b : Fin 576) (q : Fin 512) (h : Fin 256) (hb : b.val < (x2 only).toNat)
    (r : Fin 294912) (hr : r.val = b.val * 512 + q.val) :
    (val_main_v27 (F := Ideal) x0 x1 x2 x3 x4 (ValueIdx.ix3 b q h) : EReal)
      = proj (liveBit (x1 (ValueIdx.ix1 b)) q) (fun k => x3 (ValueIdx.ix2 r k)) (fun k h => x4 (ValueIdx.ix4 1 (Fin.ofNat 64 (x0 (ValueIdx.ix1 b)).toNat) k h)) h := by
  rw [val_main_v27_apply]
  unfold proj
  refine Finset.sum_congr rfl fun k _ => congrArg₂ (· * ·) ?_ ?_
  · refine Eq.trans (congrArg (val_main_v16 (F := Ideal) x1 x2 x3) ?_) (v16_at x1 x2 x3 h2 b q k hb r hr)
    funext a
    match a with
    | ⟨0, _⟩ => rfl
    | ⟨1, _⟩ => rfl
    | ⟨2, _⟩ => rfl
  · refine Eq.trans (congrArg (val_main_v26 (F := Ideal) x0 x4) ?_) (v26_at x0 x4 h0 b k h)
    funext a
    match a with
    | ⟨0, _⟩ => rfl
    | ⟨1, _⟩ => rfl
    | ⟨2, _⟩ => rfl

theorem one_f32 : (FloatOps.ofBits (F := Ideal) .f32 0x3F800000#32 : EReal) = 1 := by
  show Ideal.ofBits .f32 0x3F800000#32 = 1
  simp [Ideal.ofBits, Ideal.ieee, -EReal.coe_mul]; norm_num

/-- The gated product. -/
theorem v40_at (h0 : ∀ x, (x0 x).toNat < 64) (h2 : ∀ x, (x2 x).toNat ≤ 576) (b : Fin 576) (q : Fin 512) (h : Fin 256) (hb : b.val < (x2 only).toNat)
    (r : Fin 294912) (hr : r.val = b.val * 512 + q.val) :
    (val_main_v40 (F := Ideal) x0 x1 x2 x3 x4 x5 (ValueIdx.ix3 b q h) : EReal)
      = hid (liveBit (x1 (ValueIdx.ix1 b)) q) (fun k => x3 (ValueIdx.ix2 r k)) (fun k h => x4 (ValueIdx.ix4 1 (Fin.ofNat 64 (x0 (ValueIdx.ix1 b)).toNat) k h))
          (fun k h => x5 (ValueIdx.ix4 1 (Fin.ofNat 64 (x0 (ValueIdx.ix1 b)).toNat) k h)) h := by
  have e38 : (val_main_v38 (F := Ideal) x0 x1 x2 x3 x5 (ValueIdx.ix3 b q h) : EReal) = val_main_v27 (F := Ideal) x0 x1 x2 x3 x5 (ValueIdx.ix3 b q h) := rfl
  rw [val_main_v40_apply, val_main_v39_apply, val_main_call1_v5_apply, val_main_call1_v4_apply, val_main_call1_cst_0_apply, val_main_call1_v3_apply,
    val_main_call1_v2_apply, val_main_call1_cst_apply, val_main_call1_v1_apply, val_main_call1_v0_apply, e38, one_f32,
    v27_at x0 x1 x2 x3 x4 h0 h2 b q h hb r hr, v27_at x0 x1 x2 x3 x5 h0 h2 b q h hb r hr]
  rfl

/-- The reference at a row of a block in use. -/
theorem ref_apply (hg : InRange x0 x2) (r : Fin 294912) (d : Fin 1024) (hr : r.val / 512 < (x2 only).toNat) :
    (val_main_v53 (F := Ideal) x0 x1 x2 x3 x4 x5 x6 (ValueIdx.ix2 r d) : EReal) = expertRow x0 x1 x3 x4 x5 x6 r d := by
  have hr' := r.isLt
  have hd := d.isLt
  rw [val_main_v53_apply]
  show (val_main_v52 (F := Ideal) x0 x1 x2 x3 x4 x5 x6 (ValueIdx.ix2 r d) : EReal) = _
  rw [val_main_v52_apply, val_main_v51_apply]
  unfold expertRow ffn
  refine Finset.sum_congr rfl fun h _ => congrArg₂ (· * ·) ?_ ?_
  · refine Eq.trans (congrArg (val_main_v40 (F := Ideal) x0 x1 x2 x3 x4 x5) ?_)
      (v40_at x0 x1 x2 x3 x4 x5 hg.expert hg.le (⟨r.val / 512, by omega⟩ : Fin 576) (⟨r.val % 512, Nat.mod_lt _ (by decide)⟩ : Fin 512) h hr r
        (by show r.val = r.val / 512 * 512 + r.val % 512; omega))
    funext a
    match a with
    | ⟨0, _⟩ => exact Fin.ext (by show (r.val * 1024 + d.val) / 524288 = r.val / 512; omega)
    | ⟨1, _⟩ => exact Fin.ext (by show (r.val * 1024 + d.val) / 1024 % 512 = r.val % 512; omega)
    | ⟨2, _⟩ => rfl
  · refine Eq.trans (congrArg (val_main_v50 (F := Ideal) x0 x6) ?_) (v50_at x0 x6 hg.expert (⟨r.val / 512, by omega⟩ : Fin 576) h d)
    funext a
    match a with
    | ⟨0, _⟩ => exact Fin.ext (by show (r.val * 1024 + d.val) / 524288 = r.val / 512; omega)
    | ⟨1, _⟩ => rfl
    | ⟨2, _⟩ => exact Fin.ext (by show (r.val * 1024 + d.val) % 1024 = d.val; omega)

end

end Cert.Experts

end
-- ==== Proof.GmmClaim.lean ====
/- The experts' kernel and their reference leave one result on the rows of the blocks in use. -/
module

public import proofs.«01_k».proof.Defs
public import proofs.«01_k».proof.Proof.Gen.On_rows_used
public import proofs.«01_k».proof.Proof.GmmFrame
public import proofs.«01_k».proof.Proof.GmmRef

@[expose] public section

set_option maxRecDepth 16384

noncomputable section

namespace Cert.Experts

open Idealize.ShloMosaic Idealize.ShloMosaic.TcCoe Idealize.SL.Sem

/-- A row the claim speaks of lies in a block in use. -/
theorem row_used {x0 : Cert.Kernel2Ideal.S576.Idx → BitVec 32} {x2 : Cert.Kernel2Ideal.S1.Idx → BitVec 32} (hg : InRange x0 x2) (x0' x1 : IVec Cert.On_rows_used.S576 32)
    (x3 : FVec Ideal Cert.On_rows_used.S294912x1024 .bf16) (x4 x5 : FVec Ideal Cert.On_rows_used.S4x64x1024x256 .bf16)
    (x6 : FVec Ideal Cert.On_rows_used.S4x64x256x1024 .bf16) (i : Cert.On_rows_used.S294912x1024.Idx)
    (h : (Cert.On_rows_used.fn (F := Ideal) x0' x1 x2 x3 x4 x5 x6) i = 1#1) : (i 0).val < 512 * (x2 only).toNat := by
  have hx := hg.le only
  have hi : (i 0).val < 294912 := (i 0).isLt
  have e : shapeCast Cert.On_rows_used.S_ x2 Cert.On_rows_used.Facts.shapeCasts_S1_S_ (fun a => a.elim0) = x2 only := congrArg x2 (only_eq _)
  have h' : IntOp.cmpi .slt (BitVec.ofNat 32 (i 0).val) (512#32 * x2 only) = 1#1 := by
    rw [← e]
    refine Eq.trans ?_ h
    show IntOp.cmpi .slt (BitVec.ofNat 32 (i 0).val) (512#32 * shapeCast Cert.On_rows_used.S_ x2 _ _)
      = IntOp.cmpi .slt (BitVec.ofNat 32 (i 0).val) (512#32 * shapeCast Cert.On_rows_used.S_ x2 _ _)
    congr 3
    exact funext fun a => a.elim0
  have e1 : (BitVec.ofNat 32 (i 0).val).toNat = (i 0).val := by rw [BitVec.toNat_ofNat]; exact Nat.mod_eq_of_lt (by omega)
  have e2 : (512#32 * x2 only).toNat = 512 * (x2 only).toNat := by
    rw [BitVec.toNat_mul]
    show 512 * (x2 only).toNat % 4294967296 = _
    exact Nat.mod_eq_of_lt (by omega)
  have h3 := (slt_iff _ _ (by rw [e1]; omega) (by rw [e2]; omega)).1 h'
  rwa [e1, e2] at h3

/-- An element of the result is a row and a column. -/
theorem split (i : (⟨2, ![294912, 1024]⟩ : Shape).Idx) : ∃ (u : Fin 294912) (d : Fin 1024), i = ValueIdx.ix2 u d :=
  ⟨i 0, i 1, funext fun a => match a with | ⟨0, _⟩ => rfl | ⟨1, _⟩ => rfl⟩

/-- The reference leaves its arguments unchanged; it declares no semaphore. -/
theorem frame_reference : Cert.quiescent_Reference2Ideal (hReference2Ideal := Cert.Reference2Ideal.Gen.facts) (hPre_in_range := Cert.Pre_in_range.Gen.facts) :=
  fun m g _ =>
    (θ_run _ _ _).mono (fun r h => ⟨fun c => (h c).2, Idealize.ShloMosaic.sem_eq_zero_of_no_sems (by decide) r.2⟩)
      (Cert.Reference2Ideal.Value.run (F := Ideal) m g)

/-- Kernel and reference compute the same experts, on the rows of the blocks in use. -/
theorem experts : Cert.algebraic_Kernel2Ideal_Reference2Ideal_on_rows_used (hKernel2Ideal := Cert.Kernel2Ideal.Gen.facts)
    (hReference2Ideal := Cert.Reference2Ideal.Gen.facts) (hPre_in_range := Cert.Pre_in_range.Gen.facts) (hOn_rows_used := Cert.On_rows_used.Gen.facts) := by
  intro m g m' g' hpre heq
  have hg := inRange_of_pre (F := Ideal) _ _ _ _ _ _ _ (hpre 0)
  refine ⟨fun c => fun i => expertRow (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (argX m c) (argG m c) (argU m c) (argD m c) (i 0) (i 1), ?_, ?_⟩
  · refine (θ_run _ _ _).mono (fun r h c => ⟨fun i hi => ?_, final_args r h.1 c⟩) (run_main (F := Ideal) m g hg)
    obtain rfl : c = (0 : Dev Cert.Kernel2Ideal.nD) := Subsingleton.elim _ _
    obtain ⟨u, d, rfl⟩ := split i
    have hu : u.val < 512 * (tN (admOf m hg) only).toNat := row_used hg _ _ _ _ _ _ _ hi
    exact (congrFun ((h.1 0).1 (7 : Fin 8)) (ValueIdx.ix2 u d)).trans (arr_value (a := admOf m hg) m (admOf_inRange m hg) 0 u d (by
      show u.val / 1024 < (_ + 1) / 2
      omega))
  · refine (θ_run _ _ _).mono (fun r h c => ⟨fun i hi => ?_, (h c).2⟩) (Cert.Reference2Ideal.Value.run (F := Ideal) m' g')
    obtain rfl : c = (0 : Dev Cert.Kernel2Ideal.nD) := Subsingleton.elim _ _
    obtain ⟨u, d, rfl⟩ := split i
    have hu : u.val < 512 * (m (((0 : Dev Cert.Kernel2Ideal.nD).tc : Thread Cert.Kernel2Ideal.nD Cert.Kernel2Ideal.τ).loc Cert.Kernel2Ideal.main_arg2) only).toNat :=
      row_used hg _ _ _ _ _ _ _ hi
    refine (congrFun ((h 0).1.trans (Cert.Reference2Ideal.Read.val_main_v53_eq m' 0)) (ValueIdx.ix2 u d)).trans ?_
    obtain ⟨e0, e1, e2, e3, e4, e5, e6⟩ := heq 0
    rw [e0, e1, e2, e3, e4, e5, e6]
    exact ref_apply _ (m (((0 : Dev Cert.Kernel2Ideal.nD).tc : Thread Cert.Kernel2Ideal.nD Cert.Kernel2Ideal.τ).loc Cert.Kernel2Ideal.main_arg1)) _
      (argX m 0) (argG m 0) (argU m 0) (argD m 0) hg u d (by omega)

end Cert.Experts

end
-- ==== Proof.OutMath.lean ====
/- What one row of the shared expert's kernel computes, over extended reals: the row normalised and modulated, its gated
   product, the sum with the routed experts and the stream, and that sum normalised again. -/
module

public import proofs.«01_k».proof.Proof.Gen.Kernel3Ideal
public import proofs.«01_k».proof.Proof.Gen.Kernel3Ideal.Skeleton
public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 16384

noncomputable section

namespace Cert.Shared

open Cert.Kernel3Ideal Cert.Kernel3Ideal.Gen
open Idealize.ShloMosaic Idealize.ShloMosaic.TcCoe
open scoped BigOperators

/-- The mean of a row. -/
def avg (v : Fin 1024 → EReal) : EReal := Ideal.div (∑ k : Fin 1024, v k) (Ideal.ofBits .f32 0x44800000#32)

/-- A row less its mean, over the root of its variance and the constant `e`. -/
def nrm (e : BitVec 32) (v : Fin 1024 → EReal) (d : Fin 1024) : EReal :=
  (v d - avg v) * Ideal.rsqrt (avg (fun k => (v k - avg v) * (v k - avg v)) + Ideal.ofBits .f32 e)

/-- The stream's row, normalised and modulated. -/
def modRow (x sh sc : Fin 1024 → EReal) (d : Fin 1024) : EReal :=
  nrm 0x358637BD#32 x d * (Ideal.ofBits .f32 0x3F800000#32 + sc d) + sh d

/-- The gated product of a row. -/
def hid (u : Fin 1024 → EReal) (wg wu : Fin 1024 → Fin 256 → EReal) (h : Fin 256) : EReal :=
  (∑ k : Fin 1024, u k * wg k h) * Ideal.logistic (∑ k : Fin 1024, u k * wg k h) * (∑ k : Fin 1024, u k * wu k h)

/-- The stream's row and the gated sum of the experts. -/
def mixRow (u r x g : Fin 1024 → EReal) (wg wu : Fin 1024 → Fin 256 → EReal) (wd : Fin 256 → Fin 1024 → EReal) (d : Fin 1024) : EReal :=
  Ideal.ofBits .f32 0x3FD744FD#32 * x d + g d * (r d + ∑ h : Fin 256, hid u wg wu h * wd h d)

/-- A row of the layer's result. -/
def outRow (r x sh sc g lg lb : Fin 1024 → EReal) (wg wu : Fin 1024 → Fin 256 → EReal) (wd : Fin 256 → Fin 1024 → EReal) (d : Fin 1024) : EReal :=
  nrm 0x3727C5AC#32 (mixRow (modRow x sh sc) r x g wg wu wd) d * lg d + lb d

theorem lift_row (a : Fin 512) (l : Fin 1024) : reduces_S512x1024_S512.lift (ValueIdx.ix1 a) l = ValueIdx.ix2 a l := by
  funext d; apply Fin.ext
  match d with
  | ⟨0, _⟩ => rfl
  | ⟨1, _⟩ => rfl

theorem red_add (x : FVec Ideal S512x1024 .f32) (h1 : FKind.Formats .f32) (h2 : 0x00000000#32 = FKind.add.neutral .f32 h1) (a : Fin 512) :
    multiReduction .add [1] S512 x 0x00000000#32 reduces_S512x1024_S512 h1 h2 (ValueIdx.ix1 a) = ∑ l : Fin 1024, x (ValueIdx.ix2 a l) := by
  refine (Ideal.multiReduction_add_single (a := (1 : Fin S512x1024.rank)) x _ _ h1 h2 _).trans ?_
  exact Finset.sum_congr rfl fun l _ => congrArg x (lift_row a l)

/-- A column spread over the lanes. -/
theorem spread (x : FVec Ideal S512x1 .f32) (a : Fin 512) (l : Fin 1024) :
    broadcastTo S512x1024 x broadcasts_S512x1_S512x1024 (ValueIdx.ix2 a l) = x (ValueIdx.ix2 a 0) := by
  refine broadcastTo_apply _ _ _ _ ?_
  intro d; match d with
    | ⟨0, _⟩ => rfl
    | ⟨1, _⟩ => rfl

/-- A row spread over the rows. -/
theorem spread_row (x : FVec Ideal S1x1024 .f32) (a : Fin 512) (l : Fin 1024) :
    broadcastTo S512x1024 x broadcasts_S1x1024_S512x1024 (ValueIdx.ix2 a l) = x (ValueIdx.ix2 0 l) := by
  refine broadcastTo_apply _ _ _ _ ?_
  intro d; match d with
    | ⟨0, _⟩ => rfl
    | ⟨1, _⟩ => rfl

theorem col (x : FVec Ideal S512 .f32) (a : Fin 512) : shapeCast S512x1 x shapeCasts_S512_S512x1 (ValueIdx.ix2 a 0) = x (ValueIdx.ix1 a) := by
  refine shapeCast_apply _ _ _ _ ?_
  rw [Shape.rowMajor_val_one, Shape.rowMajor_val_two]
  show a.val = a.val * 1 + 0
  omega

theorem cast_row (x : Vec Ideal S1x512x1024 .f32) (a : Fin 512) (l : Fin 1024) :
    (shapeCast S512x1024 x shapeCasts_S1x512x1024_S512x1024 : FVec Ideal S512x1024 .f32) (ValueIdx.ix2 a l) = x (ValueIdx.ix3 0 a l) := by
  refine shapeCast_apply _ _ _ _ ?_
  rw [Shape.rowMajor_val_two, Shape.rowMajor_val_three]
  show (0 * 512 + a.val) * 1024 + l.val = a.val * 1024 + l.val
  omega

theorem cast_mod (x : Vec Ideal S1x1x1x1024 .f32) (l : Fin 1024) :
    (shapeCast S1x1024 x shapeCasts_S1x1x1x1024_S1x1024 : FVec Ideal S1x1024 .f32) (ValueIdx.ix2 0 l) = x (ValueIdx.ix4 0 0 0 l) := by
  refine shapeCast_apply _ _ _ _ ?_
  rw [Shape.rowMajor_val_two, Shape.rowMajor_val_four]
  show ((0 * 1 + 0) * 1 + 0) * 1024 + l.val = 0 * 1024 + l.val
  omega

/-- The columns of means, as the body computes it. -/
def kAvg (x : FVec Ideal S512x1024 .f32) : FVec Ideal S512x1 .f32 :=
  divf (shapeCast S512x1 (multiReduction .add [1] S512 x 0x00000000#32 reduces_S512x1024_S512 (.inl rfl) rfl : FVec Ideal S512 .f32) shapeCasts_S512_S512x1 : FVec Ideal S512x1 .f32)
    (broadcast S512x1 (Scalar.ofBits .f32 0x44800000#32 : Ideal .f32))

theorem kAvg_apply (x : FVec Ideal S512x1024 .f32) (a : Fin 512) : kAvg x (ValueIdx.ix2 a 0) = avg fun k => x (ValueIdx.ix2 a k) :=
  congrArg (Ideal.div · (Ideal.ofBits .f32 0x44800000#32)) ((col _ a).trans (red_add x _ _ a))

/-- The rows less their means. -/
def kCen (x : FVec Ideal S512x1024 .f32) : FVec Ideal S512x1024 .f32 := subf x (broadcastTo S512x1024 (kAvg x) broadcasts_S512x1_S512x1024)

theorem kCen_apply (x : FVec Ideal S512x1024 .f32) (a : Fin 512) (d : Fin 1024) :
    kCen x (ValueIdx.ix2 a d) = (x (ValueIdx.ix2 a d) : EReal) - avg fun k => x (ValueIdx.ix2 a k) :=
  congrArg ((x (ValueIdx.ix2 a d) : EReal) - ·) ((spread _ a d).trans (kAvg_apply x a))

/-- The rows normalised. -/
def kNrm (e : BitVec 32) (x : FVec Ideal S512x1024 .f32) : FVec Ideal S512x1024 .f32 :=
  mulf (kCen x) (broadcastTo S512x1024 (rsqrt (addf (kAvg (mulf (kCen x) (kCen x))) (broadcast S512x1 (Scalar.ofBits .f32 e : Ideal .f32)))) broadcasts_S512x1_S512x1024)

theorem kNrm_apply (e : BitVec 32) (x : FVec Ideal S512x1024 .f32) (a : Fin 512) (d : Fin 1024) :
    kNrm e x (ValueIdx.ix2 a d) = nrm e (fun k => x (ValueIdx.ix2 a k)) d := by
  refine congrArg₂ (fun p q : EReal => p * q) (kCen_apply x a d) ((spread _ a d).trans ?_)
  refine congrArg (fun z : EReal => Ideal.rsqrt (z + Ideal.ofBits .f32 e)) ((kAvg_apply _ a).trans (congrArg avg (funext fun k => ?_)))
  exact congrArg₂ (fun p q : EReal => p * q) (kCen_apply x a k) (kCen_apply x a k)

/-- The body's modulated rows. -/
theorem mod_apply (v0 : Vec Ideal S1x512x1024 .f32) (v2 v4 : Vec Ideal S1x1x1x1024 .f32) (a : Fin 512) (d : Fin 1024) :
    k0_pay3 v0 v2 v4 (ValueIdx.ix2 a d)
      = modRow (fun k => v0 (ValueIdx.ix3 0 a k)) (fun k => v2 (ValueIdx.ix4 0 0 0 k)) (fun k => v4 (ValueIdx.ix4 0 0 0 k)) d := by
  refine congrArg₂ (fun p q : EReal => p + q) (congrArg₂ (fun p q : EReal => p * q) ?_ ?_) ?_
  · refine (kNrm_apply 0x358637BD#32 (k0_pay2 v0) a d).trans ?_
    exact congrArg (fun v => nrm 0x358637BD#32 v d) (funext fun k => cast_row v0 a k)
  · refine (spread_row _ a d).trans ?_
    exact congrArg (Ideal.ofBits .f32 0x3F800000#32 + ·) (cast_mod v4 d)
  · exact (spread_row _ a d).trans (cast_mod v2 d)

/-- A product with a projection up. -/
theorem up_apply (u : FVec Ideal S512x1024 .bf16) (w : Vec Ideal S1024x256 .bf16) (a : Fin 512) (h : Fin 256) :
    matmul dot_S512x1024_S1024x256_S512x256_1_0_0_1_n_n none u (shapeCast S1024x256 w shapeCasts_S1024x256_S1024x256 : FVec Ideal S1024x256 .bf16)
        (constant S512x256 .f32 0x00000000#32) (ValueIdx.ix2 a h)
      = ∑ k : Fin 1024, (u (ValueIdx.ix2 a k) : EReal) * (w (ValueIdx.ix2 k h) : EReal) := by
  refine (Ideal.matmul_plain_apply (M := 512) (K := 1024) (N := 256) none _ _ _ a h).trans ?_
  refine (congrArg₂ (· + ·) (Ideal.ofBits_zero_f32) (Finset.sum_congr rfl fun k _ => congrArg₂ (· * ·) rfl ?_)).trans (zero_add _)
  exact shapeCast_apply _ _ _ _ rfl

/-- The product with the projection down. -/
theorem down_apply (u : FVec Ideal S512x256 .bf16) (w : Vec Ideal S256x1024 .bf16) (a : Fin 512) (d : Fin 1024) :
    matmul dot_S512x256_S256x1024_S512x1024_1_0_0_1_n_n none u (shapeCast S256x1024 w shapeCasts_S256x1024_S256x1024 : FVec Ideal S256x1024 .bf16)
        (constant S512x1024 .f32 0x00000000#32) (ValueIdx.ix2 a d)
      = ∑ h : Fin 256, (u (ValueIdx.ix2 a h) : EReal) * (w (ValueIdx.ix2 h d) : EReal) := by
  refine (Ideal.matmul_plain_apply (M := 512) (K := 256) (N := 1024) none _ _ _ a d).trans ?_
  refine (congrArg₂ (· + ·) (Ideal.ofBits_zero_f32) (Finset.sum_congr rfl fun h _ => congrArg₂ (· * ·) rfl ?_)).trans (zero_add _)
  exact shapeCast_apply _ _ _ _ rfl

section
variable (v0 v29 : Vec Ideal S1x512x1024 .f32) (v2 v4 v47 : Vec Ideal S1x1x1x1024 .f32) (v31 v36 : Vec Ideal S1024x256 .bf16) (v41 : Vec Ideal S256x1024 .bf16)
  (v68 v72 : Vec Ideal S1x1024 .f32)

/-- The body's gated product. -/
def kHid : FVec Ideal S512x256 .f32 :=
  mulf (mulf (k0_pay5 v0 v2 v4 v31) (k0_pay6 v0 v2 v4 v31))
    (matmul dot_S512x1024_S1024x256_S512x256_1_0_0_1_n_n none (k0_pay3 v0 v2 v4) (shapeCast S1024x256 v36 shapeCasts_S1024x256_S1024x256 : FVec Ideal S1024x256 .bf16)
      (constant S512x256 .f32 0x00000000#32))

theorem proj_apply (w : Vec Ideal S1024x256 .bf16) (a : Fin 512) (h : Fin 256) :
    k0_pay5 v0 v2 v4 w (ValueIdx.ix2 a h)
      = ∑ k : Fin 1024, modRow (fun k => v0 (ValueIdx.ix3 0 a k)) (fun k => v2 (ValueIdx.ix4 0 0 0 k)) (fun k => v4 (ValueIdx.ix4 0 0 0 k)) k * (w (ValueIdx.ix2 k h) : EReal) :=
  (up_apply _ w a h).trans (Finset.sum_congr rfl fun k _ => congrArg (fun z : EReal => z * (w (ValueIdx.ix2 k h) : EReal)) (mod_apply v0 v2 v4 a k))

theorem kHid_apply (a : Fin 512) (h : Fin 256) : kHid v0 v2 v4 v31 v36 (ValueIdx.ix2 a h)
    = hid (modRow (fun k => v0 (ValueIdx.ix3 0 a k)) (fun k => v2 (ValueIdx.ix4 0 0 0 k)) (fun k => v4 (ValueIdx.ix4 0 0 0 k)))
        (fun k h => v31 (ValueIdx.ix2 k h)) (fun k h => v36 (ValueIdx.ix2 k h)) h :=
  congrArg₂ (fun p q : EReal => p * Ideal.logistic p * q) (proj_apply v0 v2 v4 v31 a h) (proj_apply v0 v2 v4 v36 a h)

/-- The body's sum of the stream and the experts. -/
def kMix : FVec Ideal S512x1024 .f32 :=
  addf (mulf (broadcast S512x1024 (Scalar.ofBits .f32 0x3FD744FD#32 : Ideal .f32)) (k0_pay2 v0))
    (mulf (broadcastTo S512x1024 (shapeCast S1x1024 v47 shapeCasts_S1x1x1x1024_S1x1024 : FVec Ideal S1x1024 .f32) broadcasts_S1x1024_S512x1024)
      (addf (k0_pay4 v29) (matmul dot_S512x256_S256x1024_S512x1024_1_0_0_1_n_n none (truncf .bf16 (kHid v0 v2 v4 v31 v36) bitsLt_bf16_f32)
        (shapeCast S256x1024 v41 shapeCasts_S256x1024_S256x1024 : FVec Ideal S256x1024 .bf16) (constant S512x1024 .f32 0x00000000#32))))

theorem kMix_apply (a : Fin 512) (d : Fin 1024) : kMix v0 v29 v2 v4 v47 v31 v36 v41 (ValueIdx.ix2 a d)
    = mixRow (modRow (fun k => v0 (ValueIdx.ix3 0 a k)) (fun k => v2 (ValueIdx.ix4 0 0 0 k)) (fun k => v4 (ValueIdx.ix4 0 0 0 k)))
        (fun k => v29 (ValueIdx.ix3 0 a k)) (fun k => v0 (ValueIdx.ix3 0 a k)) (fun k => v47 (ValueIdx.ix4 0 0 0 k))
        (fun k h => v31 (ValueIdx.ix2 k h)) (fun k h => v36 (ValueIdx.ix2 k h)) (fun h d => v41 (ValueIdx.ix2 h d)) d := by
  refine congrArg₂ (fun p q : EReal => Ideal.ofBits .f32 0x3FD744FD#32 * p + q) (cast_row v0 a d) (congrArg₂ (fun p q : EReal => p * q) ?_
    (congrArg₂ (fun p q : EReal => p + q) (cast_row v29 a d) ?_))
  · exact (spread_row _ a d).trans (cast_mod v47 d)
  · refine (down_apply _ v41 a d).trans (Finset.sum_congr rfl fun h _ => congrArg (fun z : EReal => z * (v41 (ValueIdx.ix2 h d) : EReal)) ?_)
    exact kHid_apply v0 v2 v4 v31 v36 a h

/-- The stored block, less its leading axis. -/
theorem sum_apply (x y : FVec Ideal S512x1024 .f32) (a : Fin 512) (d : Fin 1024) :
    k0_pay1 x y (ValueIdx.ix3 0 a d) = (x (ValueIdx.ix2 a d) : EReal) + (y (ValueIdx.ix2 a d) : EReal) := by
  refine (shapeCast_apply (addf x y) shapeCasts_S512x1024_S1x512x1024 (ValueIdx.ix3 0 a d) (ValueIdx.ix2 a d) ?_).trans rfl
  rw [Shape.rowMajor_val_two, Shape.rowMajor_val_three]
  show a.val * 1024 + d.val = (0 * 512 + a.val) * 1024 + d.val
  omega

/-- A row of what the body stores. -/
theorem stored_apply (a : Fin 512) (d : Fin 1024) :
    k0_pay1 (k0_pay7 (k0_pay2 v0) (k0_pay3 v0 v2 v4) (k0_pay4 v29) (k0_pay5 v0 v2 v4 v31) (k0_pay6 v0 v2 v4 v31) v36 v41 v47 v68) (k0_pay8 v72) (ValueIdx.ix3 0 a d)
      = outRow (fun k => v29 (ValueIdx.ix3 0 a k)) (fun k => v0 (ValueIdx.ix3 0 a k)) (fun k => v2 (ValueIdx.ix4 0 0 0 k)) (fun k => v4 (ValueIdx.ix4 0 0 0 k))
        (fun k => v47 (ValueIdx.ix4 0 0 0 k)) (fun k => v68 (ValueIdx.ix2 0 k)) (fun k => v72 (ValueIdx.ix2 0 k))
        (fun k h => v31 (ValueIdx.ix2 k h)) (fun k h => v36 (ValueIdx.ix2 k h)) (fun h d => v41 (ValueIdx.ix2 h d)) d := by
  refine (sum_apply _ _ a d).trans (congrArg₂ (fun p q : EReal => p + q) (congrArg₂ (fun p q : EReal => p * q) ?_ ?_) ?_)
  · refine (kNrm_apply _ _ a d).trans (congrArg (fun v => nrm 0x3727C5AC#32 v d) (funext fun k => ?_))
    exact kMix_apply v0 v29 v2 v4 v47 v31 v36 v41 a k
  · exact (spread_row _ a d).trans (shapeCast_apply _ _ _ _ rfl)
  · exact (spread_row _ a d).trans (shapeCast_apply _ _ _ _ rfl)
end

end Cert.Shared

end
-- ==== Proof.OutArr.lean ====
/- What the shared expert's kernel leaves in its result: batches 16 to 31 hold the layer's rows, the others what was there. -/
module

public import proofs.«01_k».proof.Proof.OutMath
public import proofs.«01_k».proof.Proof.Gen.Kernel3Ideal.Value
public import Idealize.ShloMosaic.Lib.Pipeline.ValueKit

@[expose] public section

set_option maxRecDepth 16384

noncomputable section

namespace Cert.Shared

open Cert.Kernel3Ideal Cert.Kernel3Ideal.Gen
open Idealize.ShloMosaic Idealize.ShloMosaic.TcCoe Idealize.SL.Sem Idealize.ShloMosaic.Pipeline
open scoped BigOperators

theorem ext2 {n0 n1 : ℕ} {j k : (⟨2, ![n0, n1]⟩ : Shape).Idx} (h0 : j 0 = k 0) (h1 : j 1 = k 1) : j = k :=
  funext fun a => match a with | ⟨0, _⟩ => h0 | ⟨1, _⟩ => h1

theorem ext3 {n0 n1 n2 : ℕ} {j k : (⟨3, ![n0, n1, n2]⟩ : Shape).Idx} (h0 : j 0 = k 0) (h1 : j 1 = k 1) (h2 : j 2 = k 2) : j = k :=
  funext fun a => match a with | ⟨0, _⟩ => h0 | ⟨1, _⟩ => h1 | ⟨2, _⟩ => h2

/-- Part `j` of a batch's modulation. -/
def part (x : S17x6144.Idx → EReal) (b : Fin 16) (j : Fin 6) (k : Fin 1024) : EReal :=
  x (ValueIdx.ix2 (⟨b.val, by have := b.isLt; omega⟩ : Fin 17) (⟨j.val * 1024 + k.val, by have := j.isLt; have := k.isLt; omega⟩ : Fin 6144))

section
variable (x0 : S16x2048x1024.Idx → EReal) (x1 x2 : S1024x256.Idx → EReal) (x3 : S256x1024.Idx → EReal) (x4 : S16x2048x1024.Idx → EReal)
  (x5 : S17x6144.Idx → EReal) (x6 x7 : S1024.Idx → EReal) (x8 : S32x2048x1024.Idx → EReal)

/-- Row `s` of batch `b` of the layer's result. -/
def layer (b : Fin 16) (s : Fin 2048) (d : Fin 1024) : EReal :=
  outRow (fun k => x0 (ValueIdx.ix3 b s k)) (fun k => x4 (ValueIdx.ix3 b s k)) (part x5 b 3) (part x5 b 4) (part x5 b 5)
    (fun k => x6 (ValueIdx.ix1 k)) (fun k => x7 (ValueIdx.ix1 k)) (fun k h => x1 (ValueIdx.ix2 k h)) (fun k h => x2 (ValueIdx.ix2 k h))
    (fun h d => x3 (ValueIdx.ix2 h d)) d

/-- The whole result. -/
def both (b : Fin 32) (s : Fin 2048) (d : Fin 1024) : EReal :=
  if h : b.val < 16 then x8 (ValueIdx.ix3 b s d) else layer x0 x1 x2 x3 x4 x5 x6 x7 ⟨b.val - 16, by have := b.isLt; omega⟩ s d
end

/-! ## The blocks -/

theorem flush10 : ∀ t : Fin cfg0.N, (cfg0.win 10).flush t = true := by decide +kernel
theorem ind0 : ∀ t : Fin cfg0.N, win0_0.index t 0 = ((cfg0.grid.coords t) 0).val ∧ win0_0.index t 1 = ((cfg0.grid.coords t) 1).val ∧ win0_0.index t 2 = 0 := by decide +kernel
theorem ind4 : ∀ t : Fin cfg0.N, win0_4.index t 0 = ((cfg0.grid.coords t) 0).val ∧ win0_4.index t 1 = ((cfg0.grid.coords t) 1).val ∧ win0_4.index t 2 = 0 := by decide +kernel
theorem ind10 : ∀ t : Fin cfg0.N, win0_10.index t 0 = ((cfg0.grid.coords t) 0).val + 16 ∧ win0_10.index t 1 = ((cfg0.grid.coords t) 1).val ∧ win0_10.index t 2 = 0 := by decide +kernel
theorem ind5 : ∀ t : Fin cfg0.N, win0_5.index t 0 = ((cfg0.grid.coords t) 0).val ∧ win0_5.index t 1 = 3 ∧ win0_5.index t 2 = 0 ∧ win0_5.index t 3 = 0 := by decide +kernel
theorem ind6 : ∀ t : Fin cfg0.N, win0_6.index t 0 = ((cfg0.grid.coords t) 0).val ∧ win0_6.index t 1 = 4 ∧ win0_6.index t 2 = 0 ∧ win0_6.index t 3 = 0 := by decide +kernel
theorem ind7 : ∀ t : Fin cfg0.N, win0_7.index t 0 = ((cfg0.grid.coords t) 0).val ∧ win0_7.index t 1 = 5 ∧ win0_7.index t 2 = 0 ∧ win0_7.index t 3 = 0 := by decide +kernel
theorem ind1 : ∀ t : Fin cfg0.N, win0_1.index t 0 = 0 ∧ win0_1.index t 1 = 0 := by decide +kernel
theorem ind2 : ∀ t : Fin cfg0.N, win0_2.index t 0 = 0 ∧ win0_2.index t 1 = 0 := by decide +kernel
theorem ind3 : ∀ t : Fin cfg0.N, win0_3.index t 0 = 0 ∧ win0_3.index t 1 = 0 := by decide +kernel
theorem ind8 : ∀ t : Fin cfg0.N, win0_8.index t 0 = 0 ∧ win0_8.index t 1 = 0 := by decide +kernel
theorem ind9 : ∀ t : Fin cfg0.N, win0_9.index t 0 = 0 ∧ win0_9.index t 1 = 0 := by decide +kernel

/-- The point of a batch and a block of rows. -/
theorem at_point : ∀ (b : Fin 16) (j : Fin 4), ((cfg0.grid.coords (⟨4 * b.val + j.val, by have := b.isLt; have := j.isLt; show _ < 64; omega⟩ : Fin cfg0.N)) 0).val = b.val
    ∧ ((cfg0.grid.coords (⟨4 * b.val + j.val, by have := b.isLt; have := j.isLt; show _ < 64; omega⟩ : Fin cfg0.N)) 1).val = j.val := by decide +kernel

variable (m : (ℓ : Loc nD τ sig) → Buf (Elt Ideal) ℓ)

/-- The routed experts' sum. -/
def A0 (c : Dev nD) : S16x2048x1024.Idx → EReal := m ((c.tc : Thread nD τ).loc main_arg0)
/-- The gate projection. -/
def A1 (c : Dev nD) : S1024x256.Idx → EReal := m ((c.tc : Thread nD τ).loc main_arg1)
/-- The up projection. -/
def A2 (c : Dev nD) : S1024x256.Idx → EReal := m ((c.tc : Thread nD τ).loc main_arg2)
/-- The down projection. -/
def A3 (c : Dev nD) : S256x1024.Idx → EReal := m ((c.tc : Thread nD τ).loc main_arg3)
/-- The stream. -/
def A4 (c : Dev nD) : S16x2048x1024.Idx → EReal := m ((c.tc : Thread nD τ).loc main_arg4)
/-- The modulation. -/
def A5 (c : Dev nD) : S17x6144.Idx → EReal := m ((c.tc : Thread nD τ).loc main_arg5)
/-- The last scale. -/
def A6 (c : Dev nD) : S1024.Idx → EReal := m ((c.tc : Thread nD τ).loc main_arg6)
/-- The last shift. -/
def A7 (c : Dev nD) : S1024.Idx → EReal := m ((c.tc : Thread nD τ).loc main_arg7)
/-- The result before. -/
def A8 (c : Dev nD) : S32x2048x1024.Idx → EReal := m ((c.tc : Thread nD τ).loc main_arg8)

theorem host_mod (c : Dev nD) (b : Fin 17) (j : Fin 6) (k : Fin 1024) : (show S17x6x1x1024.Idx → EReal from V m c main_v3) (ValueIdx.ix4 b j 0 k)
    = A5 m c (ValueIdx.ix2 b (⟨j.val * 1024 + k.val, by have := j.isLt; have := k.isLt; omega⟩ : Fin 6144)) := by
  refine (congrFun (show (show S17x6x1x1024.Idx → EReal from V m c main_v3) = shapeCast S17x6x1x1024 (A5 m c) shapeCasts_S17x6144_S17x6x1x1024 from rfl) _).trans ?_
  refine shapeCast_apply _ _ _ _ ?_
  rw [Shape.rowMajor_val_two, Shape.rowMajor_val_four]
  show b.val * 6144 + (j.val * 1024 + k.val) = ((b.val * 6 + j.val) * 1 + 0) * 1024 + k.val
  omega

theorem host_lng (c : Dev nD) (k : Fin 1024) : (show S1x1024.Idx → EReal from V m c main_v4) (ValueIdx.ix2 0 k) = A6 m c (ValueIdx.ix1 k) := by
  refine (congrFun (show (show S1x1024.Idx → EReal from V m c main_v4) = shapeCast S1x1024 (A6 m c) shapeCasts_S1024_S1x1024 from rfl) _).trans ?_
  refine shapeCast_apply _ _ _ _ ?_
  rw [Shape.rowMajor_val_one, Shape.rowMajor_val_two]
  show k.val = 0 * 1024 + k.val
  omega

theorem host_lnb (c : Dev nD) (k : Fin 1024) : (show S1x1024.Idx → EReal from V m c main_v5) (ValueIdx.ix2 0 k) = A7 m c (ValueIdx.ix1 k) := by
  refine (congrFun (show (show S1x1024.Idx → EReal from V m c main_v5) = shapeCast S1x1024 (A7 m c) shapeCasts_S1024_S1x1024 from rfl) _).trans ?_
  refine shapeCast_apply _ _ _ _ ?_
  rw [Shape.rowMajor_val_one, Shape.rowMajor_val_two]
  show k.val = 0 * 1024 + k.val
  omega

theorem blk0 (c : Dev nD) (t : Fin cfg0.N) (b : Fin 16) (s : Fin 2048) (a : Fin 512) (hb : ((cfg0.grid.coords t) 0).val = b.val)
    (hs : s.val = 512 * ((cfg0.grid.coords t) 1).val + a.val) (k : Fin 1024) :
    (show S1x512x1024.Idx → EReal from iblk m c 0 t) (ValueIdx.ix3 0 a k) = A0 m c (ValueIdx.ix3 b s k) := by
  obtain ⟨g0, g1, g2⟩ := ind0 t
  show V m c main_arg0 ((win0_0.blk t).view.emb (ValueIdx.ix3 0 a k)) = _
  rw [V_main_arg0]
  refine congrArg (A0 m c) (ext3 (Fin.ext ?_) (Fin.ext ?_) (Fin.ext ?_))
  · blk_simp
    exact g0.trans hb
  · blk_simp
    rw [g1]
    show ((cfg0.grid.coords t) 1).val * 512 + a.val = s.val
    omega
  · blk_simp
    rw [g2]
    show 0 * 1024 + k.val = k.val
    omega

theorem blk4 (c : Dev nD) (t : Fin cfg0.N) (b : Fin 16) (s : Fin 2048) (a : Fin 512) (hb : ((cfg0.grid.coords t) 0).val = b.val)
    (hs : s.val = 512 * ((cfg0.grid.coords t) 1).val + a.val) (k : Fin 1024) :
    (show S1x512x1024.Idx → EReal from iblk m c 4 t) (ValueIdx.ix3 0 a k) = A4 m c (ValueIdx.ix3 b s k) := by
  obtain ⟨g0, g1, g2⟩ := ind4 t
  show V m c main_arg4 ((win0_4.blk t).view.emb (ValueIdx.ix3 0 a k)) = _
  rw [V_main_arg4]
  refine congrArg (A4 m c) (ext3 (Fin.ext ?_) (Fin.ext ?_) (Fin.ext ?_))
  · blk_simp
    exact g0.trans hb
  · blk_simp
    rw [g1]
    show ((cfg0.grid.coords t) 1).val * 512 + a.val = s.val
    omega
  · blk_simp
    rw [g2]
    show 0 * 1024 + k.val = k.val
    omega

theorem blk5 (c : Dev nD) (t : Fin cfg0.N) (b : Fin 16) (hb : ((cfg0.grid.coords t) 0).val = b.val) (k : Fin 1024) :
    (show S1x1x1x1024.Idx → EReal from iblk m c 5 t) (ValueIdx.ix4 0 0 0 k) = part (A5 m c) b 3 k := by
  obtain ⟨g0, g1, g2, g3⟩ := ind5 t
  refine Eq.trans ?_ (host_mod m c ⟨b.val, by have := b.isLt; omega⟩ 3 k)
  show (show S17x6x1x1024.Idx → EReal from V m c main_v3) ((win0_5.blk t).view.emb (ValueIdx.ix4 0 0 0 k)) = _
  refine congrArg (show S17x6x1x1024.Idx → EReal from V m c main_v3) (funext fun d => Fin.ext ?_)
  match d with
  | ⟨0, _⟩ =>
    blk_simp
    exact g0.trans hb
  | ⟨1, _⟩ =>
    blk_simp
    exact g1
  | ⟨2, _⟩ =>
    blk_simp
    exact g2
  | ⟨3, _⟩ =>
    blk_simp
    rw [g3]
    show 0 * 1024 + k.val = k.val
    omega

theorem blk6 (c : Dev nD) (t : Fin cfg0.N) (b : Fin 16) (hb : ((cfg0.grid.coords t) 0).val = b.val) (k : Fin 1024) :
    (show S1x1x1x1024.Idx → EReal from iblk m c 6 t) (ValueIdx.ix4 0 0 0 k) = part (A5 m c) b 4 k := by
  obtain ⟨g0, g1, g2, g3⟩ := ind6 t
  refine Eq.trans ?_ (host_mod m c ⟨b.val, by have := b.isLt; omega⟩ 4 k)
  show (show S17x6x1x1024.Idx → EReal from V m c main_v3) ((win0_6.blk t).view.emb (ValueIdx.ix4 0 0 0 k)) = _
  refine congrArg (show S17x6x1x1024.Idx → EReal from V m c main_v3) (funext fun d => Fin.ext ?_)
  match d with
  | ⟨0, _⟩ =>
    blk_simp
    exact g0.trans hb
  | ⟨1, _⟩ =>
    blk_simp
    exact g1
  | ⟨2, _⟩ =>
    blk_simp
    exact g2
  | ⟨3, _⟩ =>
    blk_simp
    rw [g3]
    show 0 * 1024 + k.val = k.val
    omega

theorem blk7 (c : Dev nD) (t : Fin cfg0.N) (b : Fin 16) (hb : ((cfg0.grid.coords t) 0).val = b.val) (k : Fin 1024) :
    (show S1x1x1x1024.Idx → EReal from iblk m c 7 t) (ValueIdx.ix4 0 0 0 k) = part (A5 m c) b 5 k := by
  obtain ⟨g0, g1, g2, g3⟩ := ind7 t
  refine Eq.trans ?_ (host_mod m c ⟨b.val, by have := b.isLt; omega⟩ 5 k)
  show (show S17x6x1x1024.Idx → EReal from V m c main_v3) ((win0_7.blk t).view.emb (ValueIdx.ix4 0 0 0 k)) = _
  refine congrArg (show S17x6x1x1024.Idx → EReal from V m c main_v3) (funext fun d => Fin.ext ?_)
  match d with
  | ⟨0, _⟩ =>
    blk_simp
    exact g0.trans hb
  | ⟨1, _⟩ =>
    blk_simp
    exact g1
  | ⟨2, _⟩ =>
    blk_simp
    exact g2
  | ⟨3, _⟩ =>
    blk_simp
    rw [g3]
    show 0 * 1024 + k.val = k.val
    omega

theorem blk1 (c : Dev nD) (t : Fin cfg0.N) (k : Fin 1024) (h : Fin 256) :
    (show S1024x256.Idx → EReal from iblk m c 1 t) (ValueIdx.ix2 k h) = A1 m c (ValueIdx.ix2 k h) := by
  obtain ⟨g0, g1⟩ := ind1 t
  show A1 m c ((win0_1.blk t).view.emb (ValueIdx.ix2 k h)) = _
  refine congrArg (A1 m c) (ext2 (Fin.ext ?_) (Fin.ext ?_))
  · blk_simp
    rw [g0]
    show 0 * 1024 + k.val = k.val
    omega
  · blk_simp
    rw [g1]
    show 0 * 256 + h.val = h.val
    omega

theorem blk2 (c : Dev nD) (t : Fin cfg0.N) (k : Fin 1024) (h : Fin 256) :
    (show S1024x256.Idx → EReal from iblk m c 2 t) (ValueIdx.ix2 k h) = A2 m c (ValueIdx.ix2 k h) := by
  obtain ⟨g0, g1⟩ := ind2 t
  show A2 m c ((win0_2.blk t).view.emb (ValueIdx.ix2 k h)) = _
  refine congrArg (A2 m c) (ext2 (Fin.ext ?_) (Fin.ext ?_))
  · blk_simp
    rw [g0]
    show 0 * 1024 + k.val = k.val
    omega
  · blk_simp
    rw [g1]
    show 0 * 256 + h.val = h.val
    omega

theorem blk3 (c : Dev nD) (t : Fin cfg0.N) (k : Fin 256) (h : Fin 1024) :
    (show S256x1024.Idx → EReal from iblk m c 3 t) (ValueIdx.ix2 k h) = A3 m c (ValueIdx.ix2 k h) := by
  obtain ⟨g0, g1⟩ := ind3 t
  show A3 m c ((win0_3.blk t).view.emb (ValueIdx.ix2 k h)) = _
  refine congrArg (A3 m c) (ext2 (Fin.ext ?_) (Fin.ext ?_))
  · blk_simp
    rw [g0]
    show 0 * 256 + k.val = k.val
    omega
  · blk_simp
    rw [g1]
    show 0 * 1024 + h.val = h.val
    omega

theorem blk8 (c : Dev nD) (t : Fin cfg0.N) (k : Fin 1024) :
    (show S1x1024.Idx → EReal from iblk m c 8 t) (ValueIdx.ix2 0 k) = A6 m c (ValueIdx.ix1 k) := by
  obtain ⟨g0, g1⟩ := ind8 t
  refine Eq.trans ?_ (host_lng m c k)
  show (show S1x1024.Idx → EReal from V m c main_v4) ((win0_8.blk t).view.emb (ValueIdx.ix2 0 k)) = _
  refine congrArg (show S1x1024.Idx → EReal from V m c main_v4) (ext2 (Fin.ext ?_) (Fin.ext ?_))
  · blk_simp
    exact g0
  · blk_simp
    rw [g1]
    show 0 * 1024 + k.val = k.val
    omega

theorem blk9 (c : Dev nD) (t : Fin cfg0.N) (k : Fin 1024) :
    (show S1x1024.Idx → EReal from iblk m c 9 t) (ValueIdx.ix2 0 k) = A7 m c (ValueIdx.ix1 k) := by
  obtain ⟨g0, g1⟩ := ind9 t
  refine Eq.trans ?_ (host_lnb m c k)
  show (show S1x1024.Idx → EReal from V m c main_v5) ((win0_9.blk t).view.emb (ValueIdx.ix2 0 k)) = _
  refine congrArg (show S1x1024.Idx → EReal from V m c main_v5) (ext2 (Fin.ext ?_) (Fin.ext ?_))
  · blk_simp
    exact g0
  · blk_simp
    rw [g1]
    show 0 * 1024 + k.val = k.val
    omega

/-! ## The loads -/

theorem rd3 (M : Memref sig .tc .vmem S1x512x1024 .f32) (hM : M.IsWhole) (x : Vec Ideal S1x512x1024 .f32) :
    View.readAt (Elt Ideal) M.view (Rect.unit ![0, 0, 0] S1x512x1024.size inb_S1x512x1024_S1x512x1024_0_0_0).toLoadRect (hM.unread x) = x := by
  funext y
  rw [View.readAt_apply, hM.read_unread]
  refine congrArg x (ext3 ?_ ?_ ?_) <;> exact Fin.ext (by show 0 + 1 * _ = _; rw [Nat.zero_add, Nat.one_mul])

theorem rd4 (M : Memref sig .tc .vmem S1x1x1x1024 .f32) (hM : M.IsWhole) (x : Vec Ideal S1x1x1x1024 .f32) :
    View.readAt (Elt Ideal) M.view (Rect.unit ![0, 0, 0, 0] S1x1x1x1024.size inb_S1x1x1x1024_S1x1x1x1024_0_0_0_0).toLoadRect (hM.unread x) = x := by
  funext y
  rw [View.readAt_apply, hM.read_unread]
  refine congrArg x (funext fun d => Fin.ext ?_)
  match d with
  | ⟨0, _⟩ => show 0 + 1 * _ = _; rw [Nat.zero_add, Nat.one_mul]
  | ⟨1, _⟩ => show 0 + 1 * _ = _; rw [Nat.zero_add, Nat.one_mul]
  | ⟨2, _⟩ => show 0 + 1 * _ = _; rw [Nat.zero_add, Nat.one_mul]
  | ⟨3, _⟩ => show 0 + 1 * _ = _; rw [Nat.zero_add, Nat.one_mul]

theorem rd2u (M : Memref sig .tc .vmem S1024x256 .bf16) (hM : M.IsWhole) (x : Vec Ideal S1024x256 .bf16) :
    View.readAt (Elt Ideal) M.view (Rect.unit ![0, 0] S1024x256.size inb_S1024x256_S1024x256_0_0).toLoadRect (hM.unread x) = x := by
  funext y
  rw [View.readAt_apply, hM.read_unread]
  refine congrArg x (ext2 ?_ ?_) <;> exact Fin.ext (by show 0 + 1 * _ = _; rw [Nat.zero_add, Nat.one_mul])

theorem rd2d (M : Memref sig .tc .vmem S256x1024 .bf16) (hM : M.IsWhole) (x : Vec Ideal S256x1024 .bf16) :
    View.readAt (Elt Ideal) M.view (Rect.unit ![0, 0] S256x1024.size inb_S256x1024_S256x1024_0_0).toLoadRect (hM.unread x) = x := by
  funext y
  rw [View.readAt_apply, hM.read_unread]
  refine congrArg x (ext2 ?_ ?_) <;> exact Fin.ext (by show 0 + 1 * _ = _; rw [Nat.zero_add, Nat.one_mul])

theorem rd2r (M : Memref sig .tc .vmem S1x1024 .f32) (hM : M.IsWhole) (x : Vec Ideal S1x1024 .f32) :
    View.readAt (Elt Ideal) M.view (Rect.unit ![0, 0] S1x1024.size inb_S1x1024_S1x1024_0_0).toLoadRect (hM.unread x) = x := by
  funext y
  rw [View.readAt_apply, hM.read_unread]
  refine congrArg x (ext2 ?_ ?_) <;> exact Fin.ext (by show 0 + 1 * _ = _; rw [Nat.zero_add, Nat.one_mul])

attribute [local irreducible] k0_pay1 k0_pay2 k0_pay3 k0_pay4 k0_pay5 k0_pay6 k0_pay7 k0_pay8 outRow in
set_option maxHeartbeats 1000000 in
/-- What the body leaves in its block. -/
theorem left_apply (c : Dev nD) (i : grid0.Coords) (arg2 : Memref sig .tc .vmem S1x512x1024 .f32) (harg2 : arg2.IsWhole)
    (arg3 arg4 : Memref sig .tc .vmem S1024x256 .bf16) (harg3 : arg3.IsWhole) (harg4 : arg4.IsWhole) (arg5 : Memref sig .tc .vmem S256x1024 .bf16) (harg5 : arg5.IsWhole)
    (arg6 : Memref sig .tc .vmem S1x512x1024 .f32) (harg6 : arg6.IsWhole) (arg7 arg8 arg9 : Memref sig .tc .vmem S1x1x1x1024 .f32)
    (harg7 : arg7.IsWhole) (harg8 : arg8.IsWhole) (harg9 : arg9.IsWhole) (arg10 arg11 : Memref sig .tc .vmem S1x1024 .f32) (harg10 : arg10.IsWhole) (harg11 : arg11.IsWhole)
    (arg13 : Memref sig .tc .vmem S1x512x1024 .f32) (harg13 : arg13.IsWhole)
    (x0 : Vec Ideal S1x512x1024 .f32) (x1 x2 : Vec Ideal S1024x256 .bf16) (x3 : Vec Ideal S256x1024 .bf16) (x4 : Vec Ideal S1x512x1024 .f32)
    (x5 x6 x7 : Vec Ideal S1x1x1x1024 .f32) (x8 x9 : Vec Ideal S1x1024 .f32) (a : Fin 512) (d : Fin 1024) :
    out0_A_10 (F := Ideal) c i arg2 harg2 arg3 harg3 arg4 harg4 arg5 harg5 arg6 harg6 arg7 harg7 arg8 harg8 arg9 harg9 arg10 harg10 arg11 harg11 arg13 harg13 x0 x1 x2 x3 x4 x5 x6 x7 x8 x9 (ValueIdx.ix3 0 a d)
      = outRow (fun k => x0 (ValueIdx.ix3 0 a k)) (fun k => x4 (ValueIdx.ix3 0 a k)) (fun k => x5 (ValueIdx.ix4 0 0 0 k)) (fun k => x6 (ValueIdx.ix4 0 0 0 k))
        (fun k => x7 (ValueIdx.ix4 0 0 0 k)) (fun k => x8 (ValueIdx.ix2 0 k)) (fun k => x9 (ValueIdx.ix2 0 k))
        (fun k h => x1 (ValueIdx.ix2 k h)) (fun k h => x2 (ValueIdx.ix2 k h)) (fun h d => x3 (ValueIdx.ix2 h d)) d := by
  have e5 : kernelRun0_A.sl.r_5 (F := Ideal) c arg2 harg2 arg3 harg3 arg4 harg4 arg5 harg5 arg6 harg6 arg7 harg7 arg8 harg8 arg9 harg9 arg10 harg10 x0 x1 x2 x3 x4 x5 x6 x7 x8
      = k0_pay7 (k0_pay2 x4) (k0_pay3 x4 x5 x6) (k0_pay4 x0) (k0_pay5 x4 x5 x6 x1) (k0_pay6 x4 x5 x6 x1) x2 x3 x7 x8 := by
    unfold kernelRun0_A.sl.r_5 kernelRun0_A.sl.r_4 kernelRun0_A.sl.r_3 kernelRun0_A.sl.r_2 kernelRun0_A.sl.r_1 kernelRun0_A.sl.r
    rw [rd3 arg6 harg6 x4, rd3 arg2 harg2 x0, rd4 arg7 harg7 x5, rd4 arg8 harg8 x6, rd4 arg9 harg9 x7, rd2u arg3 harg3 x1, rd2u arg4 harg4 x2, rd2d arg5 harg5 x3, rd2r arg10 harg10 x8]
  have e6 : kernelRun0_A.sl.r_6 (F := Ideal) c arg11 harg11 x9 = k0_pay8 x9 := by
    unfold kernelRun0_A.sl.r_6
    rw [rd2r arg11 harg11 x9]
  unfold out0_A_10
  rw [View.read_writes_junk_eq_canon]
  refine Eq.trans ?_ (stored_apply x4 x0 x5 x6 x7 x1 x2 x3 x8 x9 a d)
  rw [← e5, ← e6]
  refine View.canon_apply_of_pieces (Val := Elt Ideal) (e := .f32)
    (k0_pay1 (kernelRun0_A.sl.r_5 (F := Ideal) c arg2 harg2 arg3 harg3 arg4 harg4 arg5 harg5 arg6 harg6 arg7 harg7 arg8 harg8 arg9 harg9 arg10 harg10 x0 x1 x2 x3 x4 x5 x6 x7 x8)
      (kernelRun0_A.sl.r_6 (F := Ideal) c arg11 harg11 x9)) _ ?_ (ValueIdx.ix3 0 a d) (View.cover_of_tiledL _ S1x512x1024.size (by sl_kernel_rfl) _)
  intro p hp
  obtain rfl := List.mem_singleton.mp hp
  intro x
  refine congrArg (k0_pay1 (kernelRun0_A.sl.r_5 (F := Ideal) c arg2 harg2 arg3 harg3 arg4 harg4 arg5 harg5 arg6 harg6 arg7 harg7 arg8 harg8 arg9 harg9 arg10 harg10 x0 x1 x2 x3 x4 x5 x6 x7 x8)
      (kernelRun0_A.sl.r_6 (F := Ideal) c arg11 harg11 x9)) ?_
  refine ext3 ?_ ?_ ?_ <;> exact Fin.ext (by show _ = 0 + 1 * _; rw [Nat.zero_add, Nat.one_mul])

theorem outRow_congr {r r' x x' sh sh' sc sc' g g' lg lg' lb lb' : Fin 1024 → EReal} {wg wg' wu wu' : Fin 1024 → Fin 256 → EReal} {wd wd' : Fin 256 → Fin 1024 → EReal}
    (e0 : r = r') (e1 : x = x') (e2 : sh = sh') (e3 : sc = sc') (e4 : g = g') (e5 : lg = lg') (e6 : lb = lb') (e7 : wg = wg') (e8 : wu = wu') (e9 : wd = wd') (d : Fin 1024) :
    outRow r x sh sc g lg lb wg wu wd d = outRow r' x' sh' sc' g' lg' lb' wg' wu' wd' d := by
  rw [e0, e1, e2, e3, e4, e5, e6, e7, e8, e9]

/-- The kernel's whole result. -/
theorem array_eq (c : Dev nD) (b : Fin 32) (s : Fin 2048) (d : Fin 1024) :
    (show S32x2048x1024.Idx → EReal from (dats m 0 c).arrAt 10 cfg0.N) (ValueIdx.ix3 b s d)
      = both (A0 m c) (A1 m c) (A2 m c) (A3 m c) (A4 m c) (A5 m c) (A6 m c) (A7 m c) (A8 m c) b s d := by
  unfold both
  split
  · rename_i hb
    refine (Value.entry10 m c (ValueIdx.ix3 b s d) fun t _ hm => ?_).trans rfl
    obtain ⟨x, -, hx⟩ := Finset.mem_map.1 hm
    obtain ⟨g0, -, -⟩ := ind10 t
    have h0 : ((win0_10.blk t).view.emb x 0).val = b.val := congrArg (fun i : S32x2048x1024.Idx => (i 0).val) hx
    have h1 : ((win0_10.blk t).view.emb x 0).val = win0_10.index t 0 := by blk_simp
    omega
  · rename_i hb
    have hs := s.isLt
    have hbl := b.isLt
    obtain ⟨p0, p1⟩ := at_point ⟨b.val - 16, by omega⟩ ⟨s.val / 512, by omega⟩
    generalize (⟨4 * (b.val - 16) + s.val / 512, _⟩ : Fin cfg0.N) = t at p0 p1
    obtain ⟨g0, g1, g2⟩ := ind10 t
    have hr := congrFun (Value.blocks10 m c t (flush10 t)) (ValueIdx.ix3 0 (⟨s.val % 512, by omega⟩ : Fin 512) d)
    have he : (win0_10.blk t).view.emb (ValueIdx.ix3 0 (⟨s.val % 512, by omega⟩ : Fin 512) d) = (ValueIdx.ix3 b s d : S32x2048x1024.Idx) := by
      refine ext3 (Fin.ext ?_) (Fin.ext ?_) (Fin.ext ?_)
      · blk_simp
        rw [g0, p0]
        show b.val - 16 + 16 = b.val
        omega
      · blk_simp
        rw [g1, p1]
        show s.val / 512 * 512 + s.val % 512 = s.val
        omega
      · blk_simp
        rw [g2]
        show 0 * 1024 + d.val = d.val
        omega
    refine (congrArg (show S32x2048x1024.Idx → EReal from (dats m 0 c).arrAt 10 cfg0.N) he.symm).trans (hr.trans ?_)
    rw [Value.flushed10_A]
    refine (left_apply c _ _ _ _ _ _ _ _ _ _ _ _ _ _ _ _ _ _ _ _ _ _ _ _ _ _ _ _ _ _ _ _ _ _ _).trans ?_
    unfold layer
    have e0 : (fun k => (show S1x512x1024.Idx → EReal from iblk m c 0 t) (ValueIdx.ix3 0 (⟨s.val % 512, by omega⟩ : Fin 512) k)) = fun k => A0 m c (ValueIdx.ix3 (⟨b.val - 16, by omega⟩ : Fin 16) s k) :=
      funext fun k => blk0 m c t _ s _ p0 (by rw [p1]; show s.val = 512 * (s.val / 512) + s.val % 512; omega) k
    have e4 : (fun k => (show S1x512x1024.Idx → EReal from iblk m c 4 t) (ValueIdx.ix3 0 (⟨s.val % 512, by omega⟩ : Fin 512) k)) = fun k => A4 m c (ValueIdx.ix3 (⟨b.val - 16, by omega⟩ : Fin 16) s k) :=
      funext fun k => blk4 m c t _ s _ p0 (by rw [p1]; show s.val = 512 * (s.val / 512) + s.val % 512; omega) k
    have e5 : (fun k => (show S1x1x1x1024.Idx → EReal from iblk m c 5 t) (ValueIdx.ix4 0 0 0 k)) = part (A5 m c) (⟨b.val - 16, by omega⟩ : Fin 16) 3 := funext fun k => blk5 m c t _ p0 k
    have e6 : (fun k => (show S1x1x1x1024.Idx → EReal from iblk m c 6 t) (ValueIdx.ix4 0 0 0 k)) = part (A5 m c) (⟨b.val - 16, by omega⟩ : Fin 16) 4 := funext fun k => blk6 m c t _ p0 k
    have e7 : (fun k => (show S1x1x1x1024.Idx → EReal from iblk m c 7 t) (ValueIdx.ix4 0 0 0 k)) = part (A5 m c) (⟨b.val - 16, by omega⟩ : Fin 16) 5 := funext fun k => blk7 m c t _ p0 k
    have e8 : (fun k => (show S1x1024.Idx → EReal from iblk m c 8 t) (ValueIdx.ix2 0 k)) = fun k => A6 m c (ValueIdx.ix1 k) := funext fun k => blk8 m c t k
    have e9 : (fun k => (show S1x1024.Idx → EReal from iblk m c 9 t) (ValueIdx.ix2 0 k)) = fun k => A7 m c (ValueIdx.ix1 k) := funext fun k => blk9 m c t k
    have e1 : (fun k h => (show S1024x256.Idx → EReal from iblk m c 1 t) (ValueIdx.ix2 k h)) = fun k h => A1 m c (ValueIdx.ix2 k h) := funext fun k => funext fun h => blk1 m c t k h
    have e2 : (fun k h => (show S1024x256.Idx → EReal from iblk m c 2 t) (ValueIdx.ix2 k h)) = fun k h => A2 m c (ValueIdx.ix2 k h) := funext fun k => funext fun h => blk2 m c t k h
    have e3 : (fun k h => (show S256x1024.Idx → EReal from iblk m c 3 t) (ValueIdx.ix2 k h)) = fun k h => A3 m c (ValueIdx.ix2 k h) := funext fun k => funext fun h => blk3 m c t k h
    exact outRow_congr e0 e4 e5 e6 e7 e8 e9 e1 e2 e3 d

end Cert.Shared

end
-- ==== Proof.OutRef.lean ====
/- The layer's reference, over extended reals: the same rows in batches 16 to 31, and what was there in the others. -/
module

public import proofs.«01_k».proof.Proof.OutArr
public import proofs.«01_k».proof.Proof.Gen.Reference3Ideal
public import proofs.«01_k».proof.Proof.Gen.Reference3Ideal.Read

@[expose] public section

set_option maxRecDepth 16384

noncomputable section

namespace Cert.Shared

open Cert.Reference3Ideal Cert.Reference3Ideal.Gen Cert.Reference3Ideal.Read
open Idealize.ShloMosaic Idealize.ShloMosaic.TcCoe Idealize.SL.Sem
open scoped BigOperators

theorem one_f32 : (FloatOps.ofBits (F := Ideal) .f32 0x3F800000#32 : EReal) = 1 := by
  show Ideal.ofBits .f32 0x3F800000#32 = 1
  simp [Ideal.ofBits, Ideal.ieee, -EReal.coe_mul]; norm_num

/-- Reading at another name of one index. -/
theorem via {α β : Type} (f : α → β) {i j : α} {v : β} (h : f j = v) (e : i = j) : f i = v := e ▸ h

/-- A sum begun at zero. -/
theorem sum_from {n : Nat} {z : EReal} {f g : Fin n → EReal} (h0 : z = 0) (h : ∀ k, f k = g k) : z + ∑ k, f k = ∑ k, g k := by
  rw [h0, zero_add]
  exact Finset.sum_congr rfl fun k _ => h k

variable (x0 : S16x2048x1024.Idx → EReal) (x1 x2 : S1024x256.Idx → EReal) (x3 : S256x1024.Idx → EReal) (x4 : S16x2048x1024.Idx → EReal)
  (x5 : S17x6144.Idx → EReal) (x6 x7 : S1024.Idx → EReal) (x8 : S32x2048x1024.Idx → EReal) (b : Fin 16) (s : Fin 2048)

/-! ## The modulation's parts -/

theorem part3 (k : Fin 1024) : (val_main_v10 (F := Ideal) x5 (ValueIdx.ix3 b 0 k) : EReal) = part x5 b 3 k := by
  rw [val_main_v10_apply, val_main_v4_apply, val_main_v0_apply]
  exact congrArg x5 (ext2 rfl (Fin.ext (by show 3072 + k.val = 3 * 1024 + k.val; omega)))

theorem part4 (k : Fin 1024) : (val_main_v11 (F := Ideal) x5 (ValueIdx.ix3 b 0 k) : EReal) = part x5 b 4 k := by
  rw [val_main_v11_apply, val_main_v5_apply, val_main_v0_apply]
  exact congrArg x5 (ext2 rfl (Fin.ext (by show 4096 + k.val = 4 * 1024 + k.val; omega)))

theorem part5 (k : Fin 1024) : (val_main_v12 (F := Ideal) x5 (ValueIdx.ix3 b 0 k) : EReal) = part x5 b 5 k := by
  rw [val_main_v12_apply, val_main_v6_apply, val_main_v0_apply]
  exact congrArg x5 (ext2 rfl (Fin.ext (by show 5120 + k.val = 5 * 1024 + k.val; omega)))

/-! ## The stream's row, normalised and modulated -/

theorem ref_avg : (val_main_v16 (F := Ideal) x4 (ValueIdx.ix3 b s 0) : EReal) = avg fun k => x4 (ValueIdx.ix3 b s k) := by
  rw [val_main_v16_apply, val_main_v14_apply, val_main_v13_apply, val_main_v15_apply]
  refine congrArg (Ideal.div · (Ideal.ofBits .f32 0x44800000#32)) ?_
  refine sum_from Ideal.ofBits_zero_f32 fun k => congrArg x4 (ext3 rfl rfl rfl)

theorem ref_cen (d : Fin 1024) : (val_main_v18 (F := Ideal) x4 (ValueIdx.ix3 b s d) : EReal) = x4 (ValueIdx.ix3 b s d) - avg fun k => x4 (ValueIdx.ix3 b s k) := by
  rw [val_main_v18_apply, val_main_v17_apply]
  exact congrArg (x4 (ValueIdx.ix3 b s d) - ·) (via (val_main_v16 (F := Ideal) x4) (ref_avg x4 b s) (ext3 rfl rfl rfl))

theorem ref_cen' (d : Fin 1024) : (val_main_v25 (F := Ideal) x4 (ValueIdx.ix3 b s d) : EReal) = x4 (ValueIdx.ix3 b s d) - avg fun k => x4 (ValueIdx.ix3 b s k) := by
  rw [val_main_v25_apply, val_main_v24_apply]
  exact congrArg (x4 (ValueIdx.ix3 b s d) - ·) (via (val_main_v16 (F := Ideal) x4) (ref_avg x4 b s) (ext3 rfl rfl rfl))

theorem ref_var : (val_main_v23 (F := Ideal) x4 (ValueIdx.ix3 b s 0) : EReal)
    = avg fun d => (x4 (ValueIdx.ix3 b s d) - avg fun k => x4 (ValueIdx.ix3 b s k)) * (x4 (ValueIdx.ix3 b s d) - avg fun k => x4 (ValueIdx.ix3 b s k)) := by
  rw [val_main_v23_apply, val_main_v21_apply, val_main_v20_apply, val_main_v22_apply]
  refine congrArg (Ideal.div · (Ideal.ofBits .f32 0x44800000#32)) ?_
  refine sum_from Ideal.ofBits_zero_f32 fun k => ?_
  refine via (val_main_v19 (F := Ideal) x4) (j := ValueIdx.ix3 b s k) ?_ (ext3 rfl rfl rfl)
  rw [val_main_v19_apply]
  exact congrArg₂ (fun p q : EReal => p * q) (ref_cen x4 b s k) (ref_cen x4 b s k)

theorem ref_nrm (d : Fin 1024) : (val_main_v30 (F := Ideal) x4 (ValueIdx.ix3 b s d) : EReal) = nrm 0x358637BD#32 (fun k => x4 (ValueIdx.ix3 b s k)) d := by
  rw [val_main_v30_apply, val_main_v29_apply]
  refine congrArg₂ (fun p q : EReal => p * q) (ref_cen' x4 b s d) (via (val_main_v28 (F := Ideal) x4) (j := ValueIdx.ix3 b s 0) ?_ (ext3 rfl rfl rfl))
  rw [val_main_v28_apply, val_main_v27_apply, val_main_v26_apply]
  exact congrArg (fun z : EReal => Ideal.rsqrt (z + Ideal.ofBits .f32 0x358637BD#32)) (ref_var x4 b s)

theorem ref_mod (d : Fin 1024) : (val_main_v36 (F := Ideal) x4 x5 (ValueIdx.ix3 b s d) : EReal)
    = modRow (fun k => x4 (ValueIdx.ix3 b s k)) (part x5 b 3) (part x5 b 4) d := by
  rw [val_main_v36_apply, val_main_v34_apply, val_main_v33_apply, val_main_v35_apply]
  refine congrArg₂ (fun p q : EReal => p + q) (congrArg₂ (fun p q : EReal => p * q) (ref_nrm x4 b s d) ?_) ?_
  · refine via (val_main_v32 (F := Ideal) x5) (j := ValueIdx.ix3 b 0 d) ?_ (ext3 rfl rfl rfl)
    rw [val_main_v32_apply, val_main_v31_apply]
    exact congrArg (Ideal.ofBits .f32 0x3F800000#32 + ·) (part4 x5 b d)
  · exact via (val_main_v10 (F := Ideal) x5) (part3 x5 b d) (ext3 rfl rfl rfl)

/-! ## The shared expert -/

theorem ref_gate (h : Fin 256) : (val_main_v37 (F := Ideal) x1 x4 x5 (ValueIdx.ix3 b s h) : EReal)
    = ∑ k : Fin 1024, modRow (fun k => x4 (ValueIdx.ix3 b s k)) (part x5 b 3) (part x5 b 4) k * x1 (ValueIdx.ix2 k h) := by
  rw [val_main_v37_apply]
  refine Finset.sum_congr rfl fun k _ => congrArg₂ (fun p q : EReal => p * q) ?_ (congrArg x1 (ext2 rfl rfl))
  exact via (val_main_v36 (F := Ideal) x4 x5) (ref_mod x4 x5 b s k) (ext3 rfl rfl rfl)

theorem ref_up (h : Fin 256) : (val_main_v39 (F := Ideal) x2 x4 x5 (ValueIdx.ix3 b s h) : EReal)
    = ∑ k : Fin 1024, modRow (fun k => x4 (ValueIdx.ix3 b s k)) (part x5 b 3) (part x5 b 4) k * x2 (ValueIdx.ix2 k h) := by
  rw [val_main_v39_apply]
  refine Finset.sum_congr rfl fun k _ => congrArg₂ (fun p q : EReal => p * q) ?_ (congrArg x2 (ext2 rfl rfl))
  exact via (val_main_v36 (F := Ideal) x4 x5) (ref_mod x4 x5 b s k) (ext3 rfl rfl rfl)

theorem ref_hid (h : Fin 256) : (val_main_v40 (F := Ideal) x1 x2 x4 x5 (ValueIdx.ix3 b s h) : EReal)
    = hid (modRow (fun k => x4 (ValueIdx.ix3 b s k)) (part x5 b 3) (part x5 b 4)) (fun k h => x1 (ValueIdx.ix2 k h)) (fun k h => x2 (ValueIdx.ix2 k h)) h := by
  rw [val_main_v40_apply, val_main_v38_apply, val_main_call0_v5_apply, val_main_call0_v4_apply, val_main_call0_cst_0_apply, val_main_call0_v3_apply,
    val_main_call0_v2_apply, val_main_call0_cst_apply, val_main_call0_v1_apply, val_main_call0_v0_apply, one_f32, ref_gate x1 x4 x5 b s h, ref_up x2 x4 x5 b s h]
  rfl

theorem ref_mix (d : Fin 1024) : (val_main_v47 (F := Ideal) x0 x1 x2 x3 x4 x5 (ValueIdx.ix3 b s d) : EReal)
    = mixRow (modRow (fun k => x4 (ValueIdx.ix3 b s k)) (part x5 b 3) (part x5 b 4)) (fun k => x0 (ValueIdx.ix3 b s k)) (fun k => x4 (ValueIdx.ix3 b s k)) (part x5 b 5)
        (fun k h => x1 (ValueIdx.ix2 k h)) (fun k h => x2 (ValueIdx.ix2 k h)) (fun h d => x3 (ValueIdx.ix2 h d)) d := by
  rw [val_main_v47_apply, val_main_v43_apply, val_main_v42_apply, val_main_v46_apply, val_main_v45_apply, val_main_v44_apply, val_main_v41_apply]
  refine congrArg (fun q : EReal => Ideal.ofBits .f32 0x3FD744FD#32 * x4 (ValueIdx.ix3 b s d) + q) (congrArg₂ (fun p q : EReal => p * q) ?_
    (congrArg (fun q : EReal => x0 (ValueIdx.ix3 b s d) + q) (Finset.sum_congr rfl fun h _ => congrArg₂ (fun p q : EReal => p * q) ?_ (congrArg x3 (ext2 rfl rfl)))))
  · exact via (val_main_v12 (F := Ideal) x5) (part5 x5 b d) (ext3 rfl rfl rfl)
  · exact via (val_main_v40 (F := Ideal) x1 x2 x4 x5) (ref_hid x1 x2 x4 x5 b s h) (ext3 rfl rfl rfl)

/-! ## The sum, normalised -/

theorem sum_avg : (val_main_v51 (F := Ideal) x0 x1 x2 x3 x4 x5 (ValueIdx.ix3 b s 0) : EReal) = avg fun k => val_main_v47 (F := Ideal) x0 x1 x2 x3 x4 x5 (ValueIdx.ix3 b s k) := by
  rw [val_main_v51_apply, val_main_v49_apply, val_main_v48_apply, val_main_v50_apply]
  refine congrArg (Ideal.div · (Ideal.ofBits .f32 0x44800000#32)) ?_
  refine sum_from Ideal.ofBits_zero_f32 fun k => congrArg (val_main_v47 (F := Ideal) x0 x1 x2 x3 x4 x5) (ext3 rfl rfl rfl)

theorem sum_cen (d : Fin 1024) : (val_main_v53 (F := Ideal) x0 x1 x2 x3 x4 x5 (ValueIdx.ix3 b s d) : EReal)
    = (val_main_v47 (F := Ideal) x0 x1 x2 x3 x4 x5 (ValueIdx.ix3 b s d) : EReal) - avg fun k => val_main_v47 (F := Ideal) x0 x1 x2 x3 x4 x5 (ValueIdx.ix3 b s k) := by
  rw [val_main_v53_apply, val_main_v52_apply]
  exact congrArg ((val_main_v47 (F := Ideal) x0 x1 x2 x3 x4 x5 (ValueIdx.ix3 b s d) : EReal) - ·)
    (via (val_main_v51 (F := Ideal) x0 x1 x2 x3 x4 x5) (sum_avg x0 x1 x2 x3 x4 x5 b s) (ext3 rfl rfl rfl))

theorem sum_cen' (d : Fin 1024) : (val_main_v60 (F := Ideal) x0 x1 x2 x3 x4 x5 (ValueIdx.ix3 b s d) : EReal)
    = (val_main_v47 (F := Ideal) x0 x1 x2 x3 x4 x5 (ValueIdx.ix3 b s d) : EReal) - avg fun k => val_main_v47 (F := Ideal) x0 x1 x2 x3 x4 x5 (ValueIdx.ix3 b s k) := by
  rw [val_main_v60_apply, val_main_v59_apply]
  exact congrArg ((val_main_v47 (F := Ideal) x0 x1 x2 x3 x4 x5 (ValueIdx.ix3 b s d) : EReal) - ·)
    (via (val_main_v51 (F := Ideal) x0 x1 x2 x3 x4 x5) (sum_avg x0 x1 x2 x3 x4 x5 b s) (ext3 rfl rfl rfl))

theorem sum_var : (val_main_v58 (F := Ideal) x0 x1 x2 x3 x4 x5 (ValueIdx.ix3 b s 0) : EReal)
    = avg fun d => ((val_main_v47 (F := Ideal) x0 x1 x2 x3 x4 x5 (ValueIdx.ix3 b s d) : EReal) - avg fun k => val_main_v47 (F := Ideal) x0 x1 x2 x3 x4 x5 (ValueIdx.ix3 b s k))
        * ((val_main_v47 (F := Ideal) x0 x1 x2 x3 x4 x5 (ValueIdx.ix3 b s d) : EReal) - avg fun k => val_main_v47 (F := Ideal) x0 x1 x2 x3 x4 x5 (ValueIdx.ix3 b s k)) := by
  rw [val_main_v58_apply, val_main_v56_apply, val_main_v55_apply, val_main_v57_apply]
  refine congrArg (Ideal.div · (Ideal.ofBits .f32 0x44800000#32)) ?_
  refine sum_from Ideal.ofBits_zero_f32 fun k => ?_
  refine via (val_main_v54 (F := Ideal) x0 x1 x2 x3 x4 x5) (j := ValueIdx.ix3 b s k) ?_ (ext3 rfl rfl rfl)
  rw [val_main_v54_apply]
  exact congrArg₂ (fun p q : EReal => p * q) (sum_cen x0 x1 x2 x3 x4 x5 b s k) (sum_cen x0 x1 x2 x3 x4 x5 b s k)

theorem sum_nrm (d : Fin 1024) : (val_main_v65 (F := Ideal) x0 x1 x2 x3 x4 x5 (ValueIdx.ix3 b s d) : EReal)
    = nrm 0x3727C5AC#32 (fun k => val_main_v47 (F := Ideal) x0 x1 x2 x3 x4 x5 (ValueIdx.ix3 b s k)) d := by
  rw [val_main_v65_apply, val_main_v64_apply]
  refine congrArg₂ (fun p q : EReal => p * q) (sum_cen' x0 x1 x2 x3 x4 x5 b s d)
    (via (val_main_v63 (F := Ideal) x0 x1 x2 x3 x4 x5) (j := ValueIdx.ix3 b s 0) ?_ (ext3 rfl rfl rfl))
  rw [val_main_v63_apply, val_main_v62_apply, val_main_v61_apply]
  exact congrArg (fun z : EReal => Ideal.rsqrt (z + Ideal.ofBits .f32 0x3727C5AC#32)) (sum_var x0 x1 x2 x3 x4 x5 b s)

theorem ref_row (d : Fin 1024) : (val_main_v71 (F := Ideal) x0 x1 x2 x3 x4 x5 x6 x7 (ValueIdx.ix3 b s d) : EReal) = layer x0 x1 x2 x3 x4 x5 x6 x7 b s d := by
  rw [val_main_v71_apply, val_main_v68_apply, val_main_v67_apply, val_main_v66_apply, val_main_v70_apply, val_main_v69_apply]
  unfold layer outRow
  refine congrArg₂ (fun p q : EReal => p + q) (congrArg₂ (fun p q : EReal => p * q) ?_ (congrArg x6 ?_)) (congrArg x7 ?_)
  · refine (sum_nrm x0 x1 x2 x3 x4 x5 b s d).trans (congrArg (fun v => nrm 0x3727C5AC#32 v d) (funext fun k => ?_))
    exact ref_mix x0 x1 x2 x3 x4 x5 b s k
  · exact funext fun a => match a with | ⟨0, _⟩ => rfl
  · exact funext fun a => match a with | ⟨0, _⟩ => rfl

/-- The reference's result. -/
theorem ref_apply (z : Fin 32) (d : Fin 1024) :
    (val_main_v73 (F := Ideal) x0 x1 x2 x3 x4 x5 x6 x7 x8 (ValueIdx.ix3 z s d) : EReal) = both x0 x1 x2 x3 x4 x5 x6 x7 x8 z s d := by
  have hz := z.isLt
  unfold val_main_v73 both
  split
  · rename_i h
    refine Eq.trans (concatenate_pair_apply_left (t := S32x2048x1024) 0 (val_main_v72 (F := Ideal) x8) (val_main_v71 (F := Ideal) x0 x1 x2 x3 x4 x5 x6 x7) _ _ rfl (ValueIdx.ix3 (⟨z.val, h⟩ : Fin 16) s d) ?_) ?_
    · intro a; match a with
      | ⟨0, _⟩ => rfl
      | ⟨1, _⟩ => rfl
      | ⟨2, _⟩ => rfl
    · rw [val_main_v72_apply]
      exact congrArg x8 (ext3 rfl rfl rfl)
  · rename_i h
    refine Eq.trans (concatenate_pair_apply_right (t := S32x2048x1024) 0 (val_main_v72 (F := Ideal) x8) (val_main_v71 (F := Ideal) x0 x1 x2 x3 x4 x5 x6 x7) _ _ rfl rfl (ValueIdx.ix3 (⟨z.val - 16, by omega⟩ : Fin 16) s d) ?_ ?_) (ref_row x0 x1 x2 x3 x4 x5 x6 x7 _ s d)
    · intro a ha; match a with
      | ⟨0, _⟩ => exact absurd rfl ha
      | ⟨1, _⟩ => rfl
      | ⟨2, _⟩ => rfl
    · show z.val - 16 + 16 = z.val
      omega

end Cert.Shared

end
-- ==== Proof.OutClaim.lean ====
/- The shared expert's kernel and its reference leave one result. -/
module

public import proofs.«01_k».proof.Defs
public import proofs.«01_k».proof.Proof.OutRef

@[expose] public section

set_option maxRecDepth 16384

noncomputable section

namespace Cert.Shared

open Idealize.ShloMosaic Idealize.ShloMosaic.TcCoe Idealize.SL.Sem

/-- An element of the result is a batch, a row and a column. -/
theorem split (i : (⟨3, ![32, 2048, 1024]⟩ : Shape).Idx) : ∃ (b : Fin 32) (s : Fin 2048) (d : Fin 1024), i = ValueIdx.ix3 b s d :=
  ⟨i 0, i 1, i 2, ext3 rfl rfl rfl⟩

/-- The reference leaves its arguments unchanged; it declares no semaphore. -/
theorem frame_reference : Cert.quiescent_Reference3Ideal (hReference3Ideal := Cert.Reference3Ideal.Gen.facts) :=
  fun m g _ =>
    (θ_run _ _ _).mono (fun r h => ⟨fun c => (h c).2, Idealize.ShloMosaic.sem_eq_zero_of_no_sems (by decide) r.2⟩)
      (Cert.Reference3Ideal.Value.run (F := Ideal) m g)

/-- Kernel and reference compute the same layer. -/
theorem shared : Cert.algebraic_Kernel3Ideal_Reference3Ideal (hKernel3Ideal := Cert.Kernel3Ideal.Gen.facts) (hReference3Ideal := Cert.Reference3Ideal.Gen.facts) := by
  intro m g m' g' _ heq
  refine ⟨fun c => fun i => both (A0 m c) (A1 m c) (A2 m c) (A3 m c) (A4 m c) (A5 m c) (A6 m c) (A7 m c) (A8 m c) (i 0) (i 1) (i 2), ?_, ?_⟩
  · refine (θ_run _ _ _).mono (fun r h c => ⟨(h c).1.trans (funext fun i => ?_), (h c).2⟩) (Cert.Kernel3Ideal.Value.run_blocks (F := Ideal) m g)
    obtain ⟨b, s, d, rfl⟩ := split i
    exact array_eq m c b s d
  · refine (θ_run _ _ _).mono (fun r h c => ⟨(h c).1.trans (funext fun i => ?_), (h c).2⟩) (Cert.Reference3Ideal.Value.run (F := Ideal) m' g')
    obtain ⟨b, s, d, rfl⟩ := split i
    refine (congrFun (Cert.Reference3Ideal.Read.val_main_v73_eq m' c) (ValueIdx.ix3 b s d)).trans ?_
    obtain ⟨e0, e1, e2, e3, e4, e5, e6, e7, e8⟩ := heq c
    rw [e0, e1, e2, e3, e4, e5, e6, e7, e8]
    exact ref_apply (A0 m c) (A1 m c) (A2 m c) (A3 m c) (A4 m c) (A5 m c) (A6 m c) (A7 m c) (A8 m c) s b d

end Cert.Shared

end
-- ==== Proof.FourMath.lean ====
/- What one step of the Fourier mixer's first kernel computes, over extended reals: the rows normalised and modulated, and
   each group of 256 of their channels against a table of cosines and a table of sines. -/
module

public import proofs.«01_k».proof.Proof.Gen.Kernel4Ideal
public import proofs.«01_k».proof.Proof.Gen.Kernel4Ideal.Skeleton
public import proofs.«01_k».proof.Proof.Gen.Kernel4Ideal.Frame
public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 16384

noncomputable section

namespace Cert.Fourier

open Cert.Kernel4Ideal Cert.Kernel4Ideal.Gen
open Idealize.ShloMosaic Idealize.ShloMosaic.TcCoe
open scoped BigOperators

/-- The mean of a row. -/
def avg (v : Fin 1024 → EReal) : EReal := Ideal.div (∑ k : Fin 1024, v k) (Ideal.ofBits .f32 0x44800000#32)

/-- A row less its mean, over the root of its variance and the constant `e`. -/
def nrm (e : BitVec 32) (v : Fin 1024 → EReal) (d : Fin 1024) : EReal :=
  (v d - avg v) * Ideal.rsqrt (avg (fun k => (v k - avg v) * (v k - avg v)) + Ideal.ofBits .f32 e)

/-- The stream's row, normalised and modulated. -/
def modRow (x sh sc : Fin 1024 → EReal) (d : Fin 1024) : EReal :=
  nrm 0x358637BD#32 x d * (Ideal.ofBits .f32 0x3F800000#32 + sc d) + sh d

/-- A column of the result's row: the channels of the column's group against the column of the table, the cosines in the
    first half, the sines in the second. -/
def chanRow (u : Fin 1024 → EReal) (T : Fin 256 → Fin 512 → EReal) (q : Fin 2048) : EReal :=
  ∑ k : Fin 256, u ⟨q.val % 1024 / 256 * 256 + k.val, by have := k.isLt; omega⟩
    * T k ⟨q.val / 1024 * 256 + q.val % 256, by have := q.isLt; omega⟩

theorem lift_row (a : Fin 512) (l : Fin 1024) : reduces_S512x1024_S512.lift (ValueIdx.ix1 a) l = ValueIdx.ix2 a l := by
  funext d; apply Fin.ext
  match d with
  | ⟨0, _⟩ => rfl
  | ⟨1, _⟩ => rfl

theorem red_add (x : FVec Ideal S512x1024 .f32) (h1 : FKind.Formats .f32) (h2 : 0x00000000#32 = FKind.add.neutral .f32 h1) (a : Fin 512) :
    multiReduction .add [1] S512 x 0x00000000#32 reduces_S512x1024_S512 h1 h2 (ValueIdx.ix1 a) = ∑ l : Fin 1024, x (ValueIdx.ix2 a l) := by
  refine (Ideal.multiReduction_add_single (a := (1 : Fin S512x1024.rank)) x _ _ h1 h2 _).trans ?_
  exact Finset.sum_congr rfl fun l _ => congrArg x (lift_row a l)

/-- A column spread over the lanes. -/
theorem spread (x : FVec Ideal S512x1 .f32) (a : Fin 512) (l : Fin 1024) :
    broadcastTo S512x1024 x broadcasts_S512x1_S512x1024 (ValueIdx.ix2 a l) = x (ValueIdx.ix2 a 0) := by
  refine broadcastTo_apply _ _ _ _ ?_
  intro d; match d with
    | ⟨0, _⟩ => rfl
    | ⟨1, _⟩ => rfl

/-- A row spread over the rows. -/
theorem spread_row (x : FVec Ideal S1x1024 .f32) (a : Fin 512) (l : Fin 1024) :
    broadcastTo S512x1024 x broadcasts_S1x1024_S512x1024 (ValueIdx.ix2 a l) = x (ValueIdx.ix2 0 l) := by
  refine broadcastTo_apply _ _ _ _ ?_
  intro d; match d with
    | ⟨0, _⟩ => rfl
    | ⟨1, _⟩ => rfl

theorem col (x : FVec Ideal S512 .f32) (a : Fin 512) : shapeCast S512x1 x shapeCasts_S512_S512x1 (ValueIdx.ix2 a 0) = x (ValueIdx.ix1 a) := by
  refine shapeCast_apply _ _ _ _ ?_
  rw [Shape.rowMajor_val_one, Shape.rowMajor_val_two]
  show a.val = a.val * 1 + 0
  omega

theorem cast_row (x : Vec Ideal S1x512x1024 .f32) (a : Fin 512) (l : Fin 1024) :
    (shapeCast S512x1024 x shapeCasts_S1x512x1024_S512x1024 : FVec Ideal S512x1024 .f32) (ValueIdx.ix2 a l) = x (ValueIdx.ix3 0 a l) := by
  refine shapeCast_apply _ _ _ _ ?_
  rw [Shape.rowMajor_val_two, Shape.rowMajor_val_three]
  show (0 * 512 + a.val) * 1024 + l.val = a.val * 1024 + l.val
  omega

theorem cast_mod (x : Vec Ideal S1x1x1x1024 .f32) (l : Fin 1024) :
    (shapeCast S1x1024 x shapeCasts_S1x1x1x1024_S1x1024 : FVec Ideal S1x1024 .f32) (ValueIdx.ix2 0 l) = x (ValueIdx.ix4 0 0 0 l) := by
  refine shapeCast_apply _ _ _ _ ?_
  rw [Shape.rowMajor_val_two, Shape.rowMajor_val_four]
  show ((0 * 1 + 0) * 1 + 0) * 1024 + l.val = 0 * 1024 + l.val
  omega

/-- The columns of means, as the body computes it. -/
def kAvg (x : FVec Ideal S512x1024 .f32) : FVec Ideal S512x1 .f32 :=
  divf (shapeCast S512x1 (multiReduction .add [1] S512 x 0x00000000#32 reduces_S512x1024_S512 (.inl rfl) rfl : FVec Ideal S512 .f32) shapeCasts_S512_S512x1 : FVec Ideal S512x1 .f32)
    (broadcast S512x1 (Scalar.ofBits .f32 0x44800000#32 : Ideal .f32))

theorem kAvg_apply (x : FVec Ideal S512x1024 .f32) (a : Fin 512) : kAvg x (ValueIdx.ix2 a 0) = avg fun k => x (ValueIdx.ix2 a k) :=
  congrArg (Ideal.div · (Ideal.ofBits .f32 0x44800000#32)) ((col _ a).trans (red_add x _ _ a))

/-- The rows less their means. -/
def kCen (x : FVec Ideal S512x1024 .f32) : FVec Ideal S512x1024 .f32 := subf x (broadcastTo S512x1024 (kAvg x) broadcasts_S512x1_S512x1024)

theorem kCen_apply (x : FVec Ideal S512x1024 .f32) (a : Fin 512) (d : Fin 1024) :
    kCen x (ValueIdx.ix2 a d) = (x (ValueIdx.ix2 a d) : EReal) - avg fun k => x (ValueIdx.ix2 a k) :=
  congrArg ((x (ValueIdx.ix2 a d) : EReal) - ·) ((spread _ a d).trans (kAvg_apply x a))

/-- The rows normalised. -/
def kNrm (e : BitVec 32) (x : FVec Ideal S512x1024 .f32) : FVec Ideal S512x1024 .f32 :=
  mulf (kCen x) (broadcastTo S512x1024 (rsqrt (addf (kAvg (mulf (kCen x) (kCen x))) (broadcast S512x1 (Scalar.ofBits .f32 e : Ideal .f32)))) broadcasts_S512x1_S512x1024)

theorem kNrm_apply (e : BitVec 32) (x : FVec Ideal S512x1024 .f32) (a : Fin 512) (d : Fin 1024) :
    kNrm e x (ValueIdx.ix2 a d) = nrm e (fun k => x (ValueIdx.ix2 a k)) d := by
  refine congrArg₂ (fun p q : EReal => p * q) (kCen_apply x a d) ((spread _ a d).trans ?_)
  refine congrArg (fun z : EReal => Ideal.rsqrt (z + Ideal.ofBits .f32 e)) ((kAvg_apply _ a).trans (congrArg avg (funext fun k => ?_)))
  exact congrArg₂ (fun p q : EReal => p * q) (kCen_apply x a k) (kCen_apply x a k)

/-- The body's modulated rows. -/
theorem mod_apply (v0 : Vec Ideal S1x512x1024 .f32) (v2 v4 : Vec Ideal S1x1x1x1024 .f32) (a : Fin 512) (d : Fin 1024) :
    k0_pay3 v0 v2 v4 (ValueIdx.ix2 a d)
      = modRow (fun k => v0 (ValueIdx.ix3 0 a k)) (fun k => v2 (ValueIdx.ix4 0 0 0 k)) (fun k => v4 (ValueIdx.ix4 0 0 0 k)) d := by
  refine congrArg₂ (fun p q : EReal => p + q) (congrArg₂ (fun p q : EReal => p * q) ?_ ?_) ?_
  · refine (kNrm_apply 0x358637BD#32 (shapeCast S512x1024 v0 shapeCasts_S1x512x1024_S512x1024 : FVec Ideal S512x1024 .f32) a d).trans ?_
    exact congrArg (fun v => nrm 0x358637BD#32 v d) (funext fun k => cast_row v0 a k)
  · refine (spread_row _ a d).trans ?_
    exact congrArg (Ideal.ofBits .f32 0x3F800000#32 + ·) (cast_mod v4 d)
  · exact (spread_row _ a d).trans (cast_mod v2 d)

theorem ext2 {n0 n1 : ℕ} {j k : (⟨2, ![n0, n1]⟩ : Shape).Idx} (h0 : j 0 = k 0) (h1 : j 1 = k 1) : j = k :=
  funext fun a => match a with | ⟨0, _⟩ => h0 | ⟨1, _⟩ => h1

theorem ext3 {n0 n1 n2 : ℕ} {j k : (⟨3, ![n0, n1, n2]⟩ : Shape).Idx} (h0 : j 0 = k 0) (h1 : j 1 = k 1) (h2 : j 2 = k 2) : j = k :=
  funext fun a => match a with | ⟨0, _⟩ => h0 | ⟨1, _⟩ => h1 | ⟨2, _⟩ => h2

/-- A stored block: one group of channels against one half of the table. -/
theorem piece_apply (u : FVec Ideal S512x1024 .bf16) (T : FVec Ideal S256x512 .bf16) (o p : ℕ) (ho : o + 256 ≤ 1024) (hp : p + 256 ≤ 512)
    (hu : S512x1024.Slices ![0, o] S512x256) (hT : S512x512.Slices ![0, p] S512x256) (a : Fin 512) (l : Fin 256) :
    (shapeCast S1x512x256 (truncf .bf16 (extractStridedSlice S512x256 ![0, p]
      (matmul dot_S512x256_S256x512_S512x512_1_0_0_1_n_n none (extractStridedSlice S512x256 ![0, o] u hu : FVec Ideal S512x256 .bf16) T
        (constant S512x512 .f32 0x00000000#32) : FVec Ideal S512x512 .f32) hT : FVec Ideal S512x256 .f32) bitsLt_bf16_f32 : FVec Ideal S512x256 .bf16)
      shapeCasts_S512x256_S1x512x256 : FVec Ideal S1x512x256 .bf16) (ValueIdx.ix3 0 a l)
      = ∑ k : Fin 256, (u (ValueIdx.ix2 a (⟨o + k.val, by have := k.isLt; omega⟩ : Fin 1024)) : EReal)
          * (T (ValueIdx.ix2 k (⟨p + l.val, by have := l.isLt; omega⟩ : Fin 512)) : EReal) := by
  refine (shapeCast_apply _ _ (ValueIdx.ix3 0 a l) (ValueIdx.ix2 a l) ?_).trans ?_
  · rw [Shape.rowMajor_val_two, Shape.rowMajor_val_three]
    show a.val * 256 + l.val = (0 * 512 + a.val) * 256 + l.val
    omega
  refine (extractStridedSlice_apply ![0, p] (matmul dot_S512x256_S256x512_S512x512_1_0_0_1_n_n none (extractStridedSlice S512x256 ![0, o] u hu : FVec Ideal S512x256 .bf16) T
        (constant S512x512 .f32 0x00000000#32) : FVec Ideal S512x512 .f32) hT (ValueIdx.ix2 a l) (ValueIdx.ix2 a (⟨p + l.val, by have := l.isLt; omega⟩ : Fin 512)) ?_).trans ?_
  · intro d; match d with
    | ⟨0, _⟩ => exact (Nat.zero_add _).symm
    | ⟨1, _⟩ => rfl
  refine (Ideal.matmul_plain_apply (M := 512) (K := 256) (N := 512) none _ _ _ a _).trans ?_
  refine (congrArg₂ (· + ·) (Ideal.ofBits_zero_f32) (Finset.sum_congr rfl fun k _ => congrArg₂ (· * ·) ?_ rfl)).trans (zero_add _)
  refine extractStridedSlice_apply ![0, o] u hu _ _ ?_
  intro d; match d with
    | ⟨0, _⟩ => exact (Nat.zero_add _).symm
    | ⟨1, _⟩ => rfl

/-- A stored block is its part of the whole. -/
theorem piece_part (u : FVec Ideal S512x1024 .bf16) (T : FVec Ideal S256x512 .bf16) (g h q : ℕ) (hg : g < 4) (hh : h < 2) (hq : q = h * 1024 + g * 256)
    (inb : ∀ a, (![0, 0, q] : Fin 3 → Nat) a + S1x512x256.size a ≤ S1x512x2048.size a)
    (P : Vec Ideal S1x512x256 .bf16) (hP : ∀ (a : Fin 512) (l : Fin 256), (P (ValueIdx.ix3 0 a l) : EReal)
      = ∑ k : Fin 256, (u (ValueIdx.ix2 a (⟨256 * g + k.val, by have := k.isLt; omega⟩ : Fin 1024)) : EReal)
          * (T (ValueIdx.ix2 k (⟨256 * h + l.val, by have := l.isLt; omega⟩ : Fin 512)) : EReal)) (x : S1x512x256.Idx) :
    (P x : EReal) = (fun y : S1x512x2048.Idx => chanRow (fun k => u (ValueIdx.ix2 (y 1) k)) (fun k l => T (ValueIdx.ix2 k l)) (y 2))
      ((Rect.unit (s := S1x512x2048) ![0, 0, q] S1x512x256.size inb).emb x) := by
  obtain ⟨a, l, rfl⟩ : ∃ (a : Fin 512) (l : Fin 256), x = ValueIdx.ix3 0 a l :=
    ⟨x 1, x 2, ext3 (Fin.ext (by have : (x 0).val < 1 := (x 0).isLt; show (x 0).val = 0; omega)) rfl rfl⟩
  have hl := l.isLt
  refine (hP a l).trans ?_
  have e1 : ((Rect.unit (s := S1x512x2048) ![0, 0, q] S1x512x256.size inb).emb (ValueIdx.ix3 0 a l)) 1 = a :=
    Fin.ext (by show 0 + 1 * a.val = a.val; omega)
  have e2 : (((Rect.unit (s := S1x512x2048) ![0, 0, q] S1x512x256.size inb).emb (ValueIdx.ix3 0 a l)) 2).val = h * 1024 + g * 256 + l.val := by
    show q + 1 * l.val = _
    omega
  show _ = chanRow _ _ _
  unfold chanRow
  rw [e1]
  refine Finset.sum_congr rfl fun k _ => congrArg₂ (fun p q : EReal => p * q) (congrArg u (ext2 rfl (Fin.ext ?_))) (congrArg T (ext2 rfl (Fin.ext ?_)))
  · show 256 * g + k.val = _ % 1024 / 256 * 256 + k.val
    rw [e2]
    omega
  · show 256 * h + l.val = _ / 1024 * 256 + _ % 256
    rw [e2]
    omega

attribute [local irreducible] k0_pay3 k0_pay4 in
set_option maxHeartbeats 1000000 in
/-- What the body leaves in its block, over its rows and its table. -/
theorem out_apply (x0 : Vec Ideal S1x512x1024 .f32) (x1 x2 : Vec Ideal S1x1x1x1024 .f32) (x3 : Vec Ideal S256x512 .bf16) (a : Fin 512) (q : Fin 2048) :
    (out0_4 (F := Ideal) x0 x1 x2 x3 (ValueIdx.ix3 0 a q) : EReal)
      = chanRow (fun k => k0_pay17 (F := Ideal) x0 x1 x2 x3 (ValueIdx.ix2 a k)) (fun k l => k0_pay18 (F := Ideal) x0 x1 x2 x3 (ValueIdx.ix2 k l)) q := by
  unfold out0_4
  refine View.canon_apply_of_pieces (Val := Elt Ideal) (e := .bf16)
    (fun y : S1x512x2048.Idx => chanRow (fun k => k0_pay17 (F := Ideal) x0 x1 x2 x3 (ValueIdx.ix2 (y 1) k)) (fun k l => k0_pay18 (F := Ideal) x0 x1 x2 x3 (ValueIdx.ix2 k l)) (y 2))
    _ ?_ (ValueIdx.ix3 0 a q) (cover0_4 _ _ _ _ _ _ _ _ _)
  intro p hp
  simp only [List.mem_cons, List.not_mem_nil, or_false] at hp
  obtain rfl | rfl | rfl | rfl | rfl | rfl | rfl | rfl := hp
  · exact piece_part _ _ 3 1 1792 (by decide) (by decide) rfl inb_S1x512x2048_S1x512x256_0_0_1792 _ fun a l => piece_apply _ _ 768 256 (by decide) (by decide) _ _ a l
  · exact piece_part _ _ 3 0 768 (by decide) (by decide) rfl inb_S1x512x2048_S1x512x256_0_0_768 _ fun a l => piece_apply _ _ 768 0 (by decide) (by decide) _ _ a l
  · exact piece_part _ _ 2 1 1536 (by decide) (by decide) rfl inb_S1x512x2048_S1x512x256_0_0_1536 _ fun a l => piece_apply _ _ 512 256 (by decide) (by decide) _ _ a l
  · exact piece_part _ _ 2 0 512 (by decide) (by decide) rfl inb_S1x512x2048_S1x512x256_0_0_512 _ fun a l => piece_apply _ _ 512 0 (by decide) (by decide) _ _ a l
  · exact piece_part _ _ 1 1 1280 (by decide) (by decide) rfl inb_S1x512x2048_S1x512x256_0_0_1280 _ fun a l => piece_apply _ _ 256 256 (by decide) (by decide) _ _ a l
  · exact piece_part _ _ 1 0 256 (by decide) (by decide) rfl inb_S1x512x2048_S1x512x256_0_0_256 _ fun a l => piece_apply _ _ 256 0 (by decide) (by decide) _ _ a l
  · exact piece_part _ _ 0 1 1024 (by decide) (by decide) rfl inb_S1x512x2048_S1x512x256_0_0_1024 _ fun a l => piece_apply _ _ 0 256 (by decide) (by decide) _ _ a l
  · exact piece_part _ _ 0 0 0 (by decide) (by decide) rfl inb_S1x512x2048_S1x512x256_0_0_0 _ fun a l => piece_apply _ _ 0 0 (by decide) (by decide) _ _ a l

/-- What the body leaves in its block, over the blocks it reads. -/
theorem left_apply (x0 : Vec Ideal S1x512x1024 .f32) (x1 x2 : Vec Ideal S1x1x1x1024 .f32) (x3 : Vec Ideal S256x512 .bf16) (a : Fin 512) (q : Fin 2048) :
    (out0_4 (F := Ideal) x0 x1 x2 x3 (ValueIdx.ix3 0 a q) : EReal)
      = chanRow (modRow (fun k => x0 (ValueIdx.ix3 0 a k)) (fun k => x1 (ValueIdx.ix4 0 0 0 k)) (fun k => x2 (ValueIdx.ix4 0 0 0 k)))
          (fun k l => x3 (ValueIdx.ix2 k l)) q := by
  refine (out_apply x0 x1 x2 x3 a q).trans (congrArg₂ (fun u T => chanRow u T q) (funext fun d => ?_) (funext fun k => funext fun l => ?_))
  · unfold k0_pay17
    refine (mod_apply _ _ _ a d).trans ?_
    have e0 : View.ld x0 r0_0 = x0 := funext fun y => congrArg x0 (ext3 (Fin.ext (by show 0 + 1 * _ = _; rw [Nat.zero_add, Nat.one_mul]))
      (Fin.ext (by show 0 + 1 * _ = _; rw [Nat.zero_add, Nat.one_mul])) (Fin.ext (by show 0 + 1 * _ = _; rw [Nat.zero_add, Nat.one_mul])))
    have e1 (x : Vec Ideal S1x1x1x1024 .f32) : View.ld x r0_1 = x := funext fun y => congrArg x (funext fun d => Fin.ext (by
      match d with
      | ⟨0, _⟩ => show 0 + 1 * _ = _; rw [Nat.zero_add, Nat.one_mul]
      | ⟨1, _⟩ => show 0 + 1 * _ = _; rw [Nat.zero_add, Nat.one_mul]
      | ⟨2, _⟩ => show 0 + 1 * _ = _; rw [Nat.zero_add, Nat.one_mul]
      | ⟨3, _⟩ => show 0 + 1 * _ = _; rw [Nat.zero_add, Nat.one_mul]))
    rw [e0, e1, e1]
  · unfold k0_pay18
    refine (shapeCast_apply (View.ld x3 r0_2) shapeCasts_S256x512_S256x512 (ValueIdx.ix2 k l) (ValueIdx.ix2 k l) rfl).trans ?_
    exact congrArg x3 (ext2 (Fin.ext (by show 0 + 1 * _ = _; rw [Nat.zero_add, Nat.one_mul])) (Fin.ext (by show 0 + 1 * _ = _; rw [Nat.zero_add, Nat.one_mul])))

end Cert.Fourier

end
-- ==== Proof.FourArr.lean ====
/- What the Fourier mixer's first kernel leaves in its result: every row normalised, modulated and transformed group by group. -/
module

public import proofs.«01_k».proof.Proof.FourMath
public import proofs.«01_k».proof.Proof.Gen.Kernel4Ideal.Value
public import proofs.«01_k».proof.Proof.Gen.Reference4Ideal
public import proofs.«01_k».proof.Proof.Gen.Reference4Ideal.Read
public import Idealize.ShloMosaic.Lib.Pipeline.ValueKit

@[expose] public section

set_option maxRecDepth 16384

noncomputable section

namespace Cert.Fourier

open Cert.Kernel4Ideal Cert.Kernel4Ideal.Gen
open Idealize.ShloMosaic Idealize.ShloMosaic.TcCoe Idealize.SL.Sem Idealize.ShloMosaic.Pipeline
open scoped BigOperators

/-- Part `j` of a batch's modulation. -/
def part (x : S17x6144.Idx → EReal) (b : Fin 16) (j : Fin 6) (k : Fin 1024) : EReal :=
  x (ValueIdx.ix2 (⟨b.val, by have := b.isLt; omega⟩ : Fin 17) (⟨j.val * 1024 + k.val, by have := j.isLt; have := k.isLt; omega⟩ : Fin 6144))

/-- The cosines beside the sines. -/
def tab : FVec Ideal S256x512 .bf16 :=
  truncf .bf16 (concatenate S256x512 1 [⟨S256x256, (Cert.Reference4Ideal.Read.val_main_v50 (F := Ideal))⟩,
    ⟨S256x256, (Cert.Reference4Ideal.Read.val_main_v54 (F := Ideal))⟩] concatenates_S256x256_S256x256_S256x512_d1 : FVec Ideal S256x512 .f32) bitsLt_bf16_f32

theorem tab_left (k l : Fin 256) : (tab (ValueIdx.ix2 k (⟨l.val, by have := l.isLt; omega⟩ : Fin 512)) : EReal) = Cert.Reference4Ideal.Read.val_main_v50 (F := Ideal) (ValueIdx.ix2 k l) := by
  refine concatenate_pair_apply_left (t := S256x512) 1 (Cert.Reference4Ideal.Read.val_main_v50 (F := Ideal)) (Cert.Reference4Ideal.Read.val_main_v54 (F := Ideal)) concatenates_S256x256_S256x256_S256x512_d1 _ rfl (ValueIdx.ix2 k l) ?_
  intro a; match a with
  | ⟨0, _⟩ => rfl
  | ⟨1, _⟩ => rfl

theorem tab_right (k l : Fin 256) : (tab (ValueIdx.ix2 k (⟨256 + l.val, by have := l.isLt; omega⟩ : Fin 512)) : EReal) = Cert.Reference4Ideal.Read.val_main_v54 (F := Ideal) (ValueIdx.ix2 k l) := by
  refine concatenate_pair_apply_right (t := S256x512) 1 (Cert.Reference4Ideal.Read.val_main_v50 (F := Ideal)) (Cert.Reference4Ideal.Read.val_main_v54 (F := Ideal)) concatenates_S256x256_S256x256_S256x512_d1 _ rfl rfl (ValueIdx.ix2 k l) ?_ ?_
  · intro a ha; match a with
    | ⟨0, _⟩ => rfl
    | ⟨1, _⟩ => exact absurd rfl ha
  · show l.val + 256 = 256 + l.val
    omega

/-- Row `s` of batch `b` of the result. -/
def row (x : S16x2048x1024.Idx → EReal) (w : S17x6144.Idx → EReal) (b : Fin 16) (s : Fin 2048) (q : Fin 2048) : EReal :=
  chanRow (modRow (fun k => x (ValueIdx.ix3 b s k)) (part w b 0) (part w b 1)) (fun k l => tab (ValueIdx.ix2 k l)) q

/-! ## The blocks -/

theorem flush4 : ∀ t : Fin cfg0.N, (cfg0.win 4).flush t = true := by decide +kernel
theorem ind0 : ∀ t : Fin cfg0.N, win0_0.index t 0 = ((cfg0.grid.coords t) 0).val ∧ win0_0.index t 1 = ((cfg0.grid.coords t) 1).val ∧ win0_0.index t 2 = 0 := by decide +kernel
theorem ind4 : ∀ t : Fin cfg0.N, win0_4.index t 0 = ((cfg0.grid.coords t) 0).val ∧ win0_4.index t 1 = ((cfg0.grid.coords t) 1).val ∧ win0_4.index t 2 = 0 := by decide +kernel
theorem ind1 : ∀ t : Fin cfg0.N, win0_1.index t 0 = ((cfg0.grid.coords t) 0).val ∧ win0_1.index t 1 = 0 ∧ win0_1.index t 2 = 0 ∧ win0_1.index t 3 = 0 := by decide +kernel
theorem ind2 : ∀ t : Fin cfg0.N, win0_2.index t 0 = ((cfg0.grid.coords t) 0).val ∧ win0_2.index t 1 = 1 ∧ win0_2.index t 2 = 0 ∧ win0_2.index t 3 = 0 := by decide +kernel
theorem ind3 : ∀ t : Fin cfg0.N, win0_3.index t 0 = 0 ∧ win0_3.index t 1 = 0 := by decide +kernel

/-- The point of a batch and a block of rows. -/
theorem at_point : ∀ (b : Fin 16) (j : Fin 4), ((cfg0.grid.coords (⟨4 * b.val + j.val, by have := b.isLt; have := j.isLt; show _ < 64; omega⟩ : Fin cfg0.N)) 0).val = b.val
    ∧ ((cfg0.grid.coords (⟨4 * b.val + j.val, by have := b.isLt; have := j.isLt; show _ < 64; omega⟩ : Fin cfg0.N)) 1).val = j.val := by decide +kernel

variable (m : (ℓ : Loc nD τ sig) → Buf (Elt Ideal) ℓ)

/-- The stream. -/
def A0 (c : Dev nD) : S16x2048x1024.Idx → EReal := m ((c.tc : Thread nD τ).loc main_arg0)
/-- The modulation. -/
def A1 (c : Dev nD) : S17x6144.Idx → EReal := m ((c.tc : Thread nD τ).loc main_arg1)

set_option maxHeartbeats 1000000 in
/-- The table the host prepares. -/
theorem host_tab (c : Dev nD) : V m c main_v17 = tab := by
  unfold V
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem host_mod (c : Dev nD) (b : Fin 17) (j : Fin 6) (k : Fin 1024) : (show S17x6x1x1024.Idx → EReal from V m c main_v18) (ValueIdx.ix4 b j 0 k)
    = A1 m c (ValueIdx.ix2 b (⟨j.val * 1024 + k.val, by have := j.isLt; have := k.isLt; omega⟩ : Fin 6144)) := by
  refine (congrFun (show (show S17x6x1x1024.Idx → EReal from V m c main_v18) = shapeCast S17x6x1x1024 (A1 m c) shapeCasts_S17x6144_S17x6x1x1024 from rfl) _).trans ?_
  refine shapeCast_apply _ _ _ _ ?_
  rw [Shape.rowMajor_val_two, Shape.rowMajor_val_four]
  show b.val * 6144 + (j.val * 1024 + k.val) = ((b.val * 6 + j.val) * 1 + 0) * 1024 + k.val
  omega

theorem blk0 (c : Dev nD) (t : Fin cfg0.N) (b : Fin 16) (s : Fin 2048) (a : Fin 512) (hb : ((cfg0.grid.coords t) 0).val = b.val)
    (hs : s.val = 512 * ((cfg0.grid.coords t) 1).val + a.val) (k : Fin 1024) :
    (show S1x512x1024.Idx → EReal from iblk m c 0 t) (ValueIdx.ix3 0 a k) = A0 m c (ValueIdx.ix3 b s k) := by
  obtain ⟨g0, g1, g2⟩ := ind0 t
  show V m c main_arg0 ((win0_0.blk t).view.emb (ValueIdx.ix3 0 a k)) = _
  rw [V_main_arg0]
  refine congrArg (A0 m c) (ext3 (Fin.ext ?_) (Fin.ext ?_) (Fin.ext ?_))
  · blk_simp
    exact g0.trans hb
  · blk_simp
    rw [g1]
    show ((cfg0.grid.coords t) 1).val * 512 + a.val = s.val
    omega
  · blk_simp
    rw [g2]
    show 0 * 1024 + k.val = k.val
    omega

theorem blk1 (c : Dev nD) (t : Fin cfg0.N) (b : Fin 16) (hb : ((cfg0.grid.coords t) 0).val = b.val) (k : Fin 1024) :
    (show S1x1x1x1024.Idx → EReal from iblk m c 1 t) (ValueIdx.ix4 0 0 0 k) = part (A1 m c) b 0 k := by
  obtain ⟨g0, g1, g2, g3⟩ := ind1 t
  refine Eq.trans ?_ (host_mod m c ⟨b.val, by have := b.isLt; omega⟩ 0 k)
  show (show S17x6x1x1024.Idx → EReal from V m c main_v18) ((win0_1.blk t).view.emb (ValueIdx.ix4 0 0 0 k)) = _
  refine congrArg (show S17x6x1x1024.Idx → EReal from V m c main_v18) (funext fun d => Fin.ext ?_)
  match d with
  | ⟨0, _⟩ =>
    blk_simp
    exact g0.trans hb
  | ⟨1, _⟩ =>
    blk_simp
    exact g1
  | ⟨2, _⟩ =>
    blk_simp
    exact g2
  | ⟨3, _⟩ =>
    blk_simp
    rw [g3]
    show 0 * 1024 + k.val = k.val
    omega

theorem blk2 (c : Dev nD) (t : Fin cfg0.N) (b : Fin 16) (hb : ((cfg0.grid.coords t) 0).val = b.val) (k : Fin 1024) :
    (show S1x1x1x1024.Idx → EReal from iblk m c 2 t) (ValueIdx.ix4 0 0 0 k) = part (A1 m c) b 1 k := by
  obtain ⟨g0, g1, g2, g3⟩ := ind2 t
  refine Eq.trans ?_ (host_mod m c ⟨b.val, by have := b.isLt; omega⟩ 1 k)
  show (show S17x6x1x1024.Idx → EReal from V m c main_v18) ((win0_2.blk t).view.emb (ValueIdx.ix4 0 0 0 k)) = _
  refine congrArg (show S17x6x1x1024.Idx → EReal from V m c main_v18) (funext fun d => Fin.ext ?_)
  match d with
  | ⟨0, _⟩ =>
    blk_simp
    exact g0.trans hb
  | ⟨1, _⟩ =>
    blk_simp
    exact g1
  | ⟨2, _⟩ =>
    blk_simp
    exact g2
  | ⟨3, _⟩ =>
    blk_simp
    rw [g3]
    show 0 * 1024 + k.val = k.val
    omega

theorem blk3 (c : Dev nD) (t : Fin cfg0.N) (k : Fin 256) (l : Fin 512) :
    (show S256x512.Idx → EReal from iblk m c 3 t) (ValueIdx.ix2 k l) = tab (ValueIdx.ix2 k l) := by
  obtain ⟨g0, g1⟩ := ind3 t
  refine Eq.trans ?_ (congrFun (host_tab m c) (ValueIdx.ix2 k l))
  show (show S256x512.Idx → EReal from V m c main_v17) ((win0_3.blk t).view.emb (ValueIdx.ix2 k l)) = _
  refine congrArg (show S256x512.Idx → EReal from V m c main_v17) (ext2 (Fin.ext ?_) (Fin.ext ?_))
  · blk_simp
    rw [g0]
    show 0 * 256 + k.val = k.val
    omega
  · blk_simp
    rw [g1]
    show 0 * 512 + l.val = l.val
    omega

/-- The kernel's whole result. -/
theorem array_eq (c : Dev nD) (b : Fin 16) (s : Fin 2048) (q : Fin 2048) :
    (show S16x2048x2048.Idx → EReal from (dats m 0 c).arrAt 4 cfg0.N) (ValueIdx.ix3 b s q) = row (A0 m c) (A1 m c) b s q := by
  have hs := s.isLt
  have hbl := b.isLt
  obtain ⟨p0, p1⟩ := at_point b ⟨s.val / 512, by omega⟩
  generalize (⟨4 * b.val + s.val / 512, _⟩ : Fin cfg0.N) = t at p0 p1
  obtain ⟨g0, g1, g2⟩ := ind4 t
  have hr := congrFun (Value.blocks4 m c t (flush4 t)) (ValueIdx.ix3 0 (⟨s.val % 512, by omega⟩ : Fin 512) q)
  have he : (win0_4.blk t).view.emb (ValueIdx.ix3 0 (⟨s.val % 512, by omega⟩ : Fin 512) q) = (ValueIdx.ix3 b s q : S16x2048x2048.Idx) := by
    refine ext3 (Fin.ext ?_) (Fin.ext ?_) (Fin.ext ?_)
    · blk_simp
      exact g0.trans p0
    · blk_simp
      rw [g1, p1]
      show s.val / 512 * 512 + s.val % 512 = s.val
      omega
    · blk_simp
      rw [g2]
      show 0 * 2048 + q.val = q.val
      omega
  refine (congrArg (show S16x2048x2048.Idx → EReal from (dats m 0 c).arrAt 4 cfg0.N) he.symm).trans (hr.trans ?_)
  rw [Value.flushed4]
  refine (left_apply _ _ _ _ _ _).trans ?_
  unfold row
  have e0 : (fun k => (show S1x512x1024.Idx → EReal from iblk m c 0 t) (ValueIdx.ix3 0 (⟨s.val % 512, by omega⟩ : Fin 512) k)) = fun k => A0 m c (ValueIdx.ix3 b s k) :=
    funext fun k => blk0 m c t _ s _ p0 (by rw [p1]; show s.val = 512 * (s.val / 512) + s.val % 512; omega) k
  have e1 : (fun k => (show S1x1x1x1024.Idx → EReal from iblk m c 1 t) (ValueIdx.ix4 0 0 0 k)) = part (A1 m c) b 0 := funext fun k => blk1 m c t _ p0 k
  have e2 : (fun k => (show S1x1x1x1024.Idx → EReal from iblk m c 2 t) (ValueIdx.ix4 0 0 0 k)) = part (A1 m c) b 1 := funext fun k => blk2 m c t _ p0 k
  have e3 : (fun k l => (show S256x512.Idx → EReal from iblk m c 3 t) (ValueIdx.ix2 k l)) = fun k l => tab (ValueIdx.ix2 k l) := funext fun k => funext fun l => blk3 m c t k l
  have ec {x x' sh sh' sc sc' : Fin 1024 → EReal} {T T' : Fin 256 → Fin 512 → EReal} (h0 : x = x') (h1 : sh = sh') (h2 : sc = sc') (h3 : T = T') :
      chanRow (modRow x sh sc) T q = chanRow (modRow x' sh' sc') T' q := by rw [h0, h1, h2, h3]
  exact ec e0 e1 e2 e3

end Cert.Fourier

end
-- ==== Proof.FourRef.lean ====
/- The reference of the Fourier mixer's channel half, over extended reals: the same rows. -/
module

public import proofs.«01_k».proof.Proof.FourArr

@[expose] public section

set_option maxRecDepth 16384

noncomputable section

namespace Cert.Fourier

open Cert.Reference4Ideal Cert.Reference4Ideal.Gen Cert.Reference4Ideal.Read
open Idealize.ShloMosaic Idealize.ShloMosaic.TcCoe Idealize.SL.Sem
open scoped BigOperators

/-- Reading at another name of one index. -/
theorem via {α β : Type} (f : α → β) {i j : α} {v : β} (h : f j = v) (e : i = j) : f i = v := e ▸ h

/-- A sum begun at zero. -/
theorem sum_from {n : Nat} {z : EReal} {f g : Fin n → EReal} (h0 : z = 0) (h : ∀ k, f k = g k) : z + ∑ k, f k = ∑ k, g k := by
  rw [h0, zero_add]
  exact Finset.sum_congr rfl fun k _ => h k

variable (x0 : S16x2048x1024.Idx → EReal) (x1 : S17x6144.Idx → EReal) (b : Fin 16) (s : Fin 2048)

/-! ## The modulation's parts -/

theorem part0 (k : Fin 1024) : (val_main_v7 (F := Ideal) x1 (ValueIdx.ix3 b 0 k) : EReal) = part x1 b 0 k := by
  rw [val_main_v7_apply, val_main_v1_apply, val_main_v0_apply]
  exact congrArg x1 (ext2 rfl (Fin.ext (by show k.val = 0 * 1024 + k.val; omega)))

theorem part1 (k : Fin 1024) : (val_main_v8 (F := Ideal) x1 (ValueIdx.ix3 b 0 k) : EReal) = part x1 b 1 k := by
  rw [val_main_v8_apply, val_main_v2_apply, val_main_v0_apply]
  exact congrArg x1 (ext2 rfl (Fin.ext (by show 1024 + k.val = 1 * 1024 + k.val; omega)))

/-! ## The stream's row, normalised and modulated -/

theorem ref_avg : (val_main_v16 (F := Ideal) x0 (ValueIdx.ix3 b s 0) : EReal) = avg fun k => x0 (ValueIdx.ix3 b s k) := by
  rw [val_main_v16_apply, val_main_v14_apply, val_main_v13_apply, val_main_v15_apply]
  refine congrArg (Ideal.div · (Ideal.ofBits .f32 0x44800000#32)) ?_
  refine sum_from Ideal.ofBits_zero_f32 fun k => congrArg x0 (ext3 rfl rfl rfl)

theorem ref_cen (d : Fin 1024) : (val_main_v18 (F := Ideal) x0 (ValueIdx.ix3 b s d) : EReal) = x0 (ValueIdx.ix3 b s d) - avg fun k => x0 (ValueIdx.ix3 b s k) := by
  rw [val_main_v18_apply, val_main_v17_apply]
  exact congrArg (x0 (ValueIdx.ix3 b s d) - ·) (via (val_main_v16 (F := Ideal) x0) (ref_avg x0 b s) (ext3 rfl rfl rfl))

theorem ref_cen' (d : Fin 1024) : (val_main_v25 (F := Ideal) x0 (ValueIdx.ix3 b s d) : EReal) = x0 (ValueIdx.ix3 b s d) - avg fun k => x0 (ValueIdx.ix3 b s k) := by
  rw [val_main_v25_apply, val_main_v24_apply]
  exact congrArg (x0 (ValueIdx.ix3 b s d) - ·) (via (val_main_v16 (F := Ideal) x0) (ref_avg x0 b s) (ext3 rfl rfl rfl))

theorem ref_var : (val_main_v23 (F := Ideal) x0 (ValueIdx.ix3 b s 0) : EReal)
    = avg fun d => (x0 (ValueIdx.ix3 b s d) - avg fun k => x0 (ValueIdx.ix3 b s k)) * (x0 (ValueIdx.ix3 b s d) - avg fun k => x0 (ValueIdx.ix3 b s k)) := by
  rw [val_main_v23_apply, val_main_v21_apply, val_main_v20_apply, val_main_v22_apply]
  refine congrArg (Ideal.div · (Ideal.ofBits .f32 0x44800000#32)) ?_
  refine sum_from Ideal.ofBits_zero_f32 fun k => ?_
  refine via (val_main_v19 (F := Ideal) x0) (j := ValueIdx.ix3 b s k) ?_ (ext3 rfl rfl rfl)
  rw [val_main_v19_apply]
  exact congrArg₂ (fun p q : EReal => p * q) (ref_cen x0 b s k) (ref_cen x0 b s k)

theorem ref_nrm (d : Fin 1024) : (val_main_v30 (F := Ideal) x0 (ValueIdx.ix3 b s d) : EReal) = nrm 0x358637BD#32 (fun k => x0 (ValueIdx.ix3 b s k)) d := by
  rw [val_main_v30_apply, val_main_v29_apply]
  refine congrArg₂ (fun p q : EReal => p * q) (ref_cen' x0 b s d) (via (val_main_v28 (F := Ideal) x0) (j := ValueIdx.ix3 b s 0) ?_ (ext3 rfl rfl rfl))
  rw [val_main_v28_apply, val_main_v27_apply, val_main_v26_apply]
  exact congrArg (fun z : EReal => Ideal.rsqrt (z + Ideal.ofBits .f32 0x358637BD#32)) (ref_var x0 b s)

theorem ref_mod (d : Fin 1024) : (val_main_v36 (F := Ideal) x0 x1 (ValueIdx.ix3 b s d) : EReal)
    = modRow (fun k => x0 (ValueIdx.ix3 b s k)) (part x1 b 0) (part x1 b 1) d := by
  rw [val_main_v36_apply, val_main_v34_apply, val_main_v33_apply, val_main_v35_apply]
  refine congrArg₂ (fun p q : EReal => p + q) (congrArg₂ (fun p q : EReal => p * q) (ref_nrm x0 b s d) ?_) ?_
  · refine via (val_main_v32 (F := Ideal) x1) (j := ValueIdx.ix3 b 0 d) ?_ (ext3 rfl rfl rfl)
    rw [val_main_v32_apply, val_main_v31_apply]
    exact congrArg (Ideal.ofBits .f32 0x3F800000#32 + ·) (part1 x1 b d)
  · exact via (val_main_v7 (F := Ideal) x1) (part0 x1 b d) (ext3 rfl rfl rfl)

/-! ## The groups of channels -/

theorem ext4 {n0 n1 n2 n3 : ℕ} {j k : (⟨4, ![n0, n1, n2, n3]⟩ : Shape).Idx} (h0 : j 0 = k 0) (h1 : j 1 = k 1) (h2 : j 2 = k 2) (h3 : j 3 = k 3) : j = k :=
  funext fun a => match a with | ⟨0, _⟩ => h0 | ⟨1, _⟩ => h1 | ⟨2, _⟩ => h2 | ⟨3, _⟩ => h3

theorem ref_grp (g : Fin 4) (k : Fin 256) : (val_main_v37 (F := Ideal) x0 x1 (ValueIdx.ix4 b s g k) : EReal)
    = modRow (fun k => x0 (ValueIdx.ix3 b s k)) (part x1 b 0) (part x1 b 1) ⟨g.val * 256 + k.val, by have := g.isLt; have := k.isLt; omega⟩ := by
  have hb := b.isLt
  have hs := s.isLt
  have hg := g.isLt
  have hk := k.isLt
  rw [val_main_v37_apply]
  refine via (val_main_v36 (F := Ideal) x0 x1) (ref_mod x0 x1 b s _) (ext3 (Fin.ext ?_) (Fin.ext ?_) (Fin.ext ?_))
  · show (((b.val * 2048 + s.val) * 4 + g.val) * 256 + k.val) / 2097152 = b.val
    omega
  · show (((b.val * 2048 + s.val) * 4 + g.val) * 256 + k.val) / 1024 % 2048 = s.val
    omega
  · show (((b.val * 2048 + s.val) * 4 + g.val) * 256 + k.val) % 1024 = g.val * 256 + k.val
    omega

theorem ref_re (q : Fin 1024) : (val_main_v56 (F := Ideal) x0 x1 (ValueIdx.ix3 b s q) : EReal)
    = ∑ k : Fin 256, modRow (fun k => x0 (ValueIdx.ix3 b s k)) (part x1 b 0) (part x1 b 1) ⟨q.val / 256 * 256 + k.val, by have := q.isLt; have := k.isLt; omega⟩
        * val_main_v50 (F := Ideal) (ValueIdx.ix2 k (⟨q.val % 256, by omega⟩ : Fin 256)) := by
  have hb := b.isLt
  have hs := s.isLt
  have hq := q.isLt
  rw [val_main_v56_apply]
  refine via (val_main_v51 (F := Ideal) x0 x1) (j := ValueIdx.ix4 b s (⟨q.val / 256, by omega⟩ : Fin 4) (⟨q.val % 256, by omega⟩ : Fin 256)) ?_ (ext4 (Fin.ext ?_) (Fin.ext ?_) (Fin.ext ?_) (Fin.ext ?_))
  · rw [val_main_v51_apply]
    refine Finset.sum_congr rfl fun k _ => congrArg₂ (fun p q : EReal => p * q) ?_ ?_
    · exact via (val_main_v37 (F := Ideal) x0 x1) (ref_grp x0 x1 b s (⟨q.val / 256, by omega⟩ : Fin 4) k) (ext4 rfl rfl rfl rfl)
    · exact via (val_main_v50 (F := Ideal)) (j := ValueIdx.ix2 k (⟨q.val % 256, by omega⟩ : Fin 256)) (Eq.refl _) (ext2 rfl rfl)
  · show ((b.val * 2048 + s.val) * 1024 + q.val) / 2097152 = b.val
    omega
  · show ((b.val * 2048 + s.val) * 1024 + q.val) / 1024 % 2048 = s.val
    omega
  · show ((b.val * 2048 + s.val) * 1024 + q.val) / 256 % 4 = q.val / 256
    omega
  · show ((b.val * 2048 + s.val) * 1024 + q.val) % 256 = q.val % 256
    omega

theorem ref_im (q : Fin 1024) : (val_main_v57 (F := Ideal) x0 x1 (ValueIdx.ix3 b s q) : EReal)
    = ∑ k : Fin 256, modRow (fun k => x0 (ValueIdx.ix3 b s k)) (part x1 b 0) (part x1 b 1) ⟨q.val / 256 * 256 + k.val, by have := q.isLt; have := k.isLt; omega⟩
        * val_main_v54 (F := Ideal) (ValueIdx.ix2 k (⟨q.val % 256, by omega⟩ : Fin 256)) := by
  have hb := b.isLt
  have hs := s.isLt
  have hq := q.isLt
  rw [val_main_v57_apply]
  refine via (val_main_v55 (F := Ideal) x0 x1) (j := ValueIdx.ix4 b s (⟨q.val / 256, by omega⟩ : Fin 4) (⟨q.val % 256, by omega⟩ : Fin 256)) ?_ (ext4 (Fin.ext ?_) (Fin.ext ?_) (Fin.ext ?_) (Fin.ext ?_))
  · rw [val_main_v55_apply]
    refine Finset.sum_congr rfl fun k _ => congrArg₂ (fun p q : EReal => p * q) ?_ ?_
    · exact via (val_main_v37 (F := Ideal) x0 x1) (ref_grp x0 x1 b s (⟨q.val / 256, by omega⟩ : Fin 4) k) (ext4 rfl rfl rfl rfl)
    · exact via (val_main_v54 (F := Ideal)) (j := ValueIdx.ix2 k (⟨q.val % 256, by omega⟩ : Fin 256)) (Eq.refl _) (ext2 rfl rfl)
  · show ((b.val * 2048 + s.val) * 1024 + q.val) / 2097152 = b.val
    omega
  · show ((b.val * 2048 + s.val) * 1024 + q.val) / 1024 % 2048 = s.val
    omega
  · show ((b.val * 2048 + s.val) * 1024 + q.val) / 256 % 4 = q.val / 256
    omega
  · show ((b.val * 2048 + s.val) * 1024 + q.val) % 256 = q.val % 256
    omega

/-- The reference's result. -/
theorem ref_apply (q : Fin 2048) : (val_main_v59 (F := Ideal) x0 x1 (ValueIdx.ix3 b s q) : EReal) = row x0 x1 b s q := by
  have hq := q.isLt
  rw [val_main_v59_apply]
  show (val_main_v58 (F := Ideal) x0 x1 (ValueIdx.ix3 b s q) : EReal) = _
  unfold val_main_v58 row chanRow
  by_cases h : q.val < 1024
  · refine (concatenate_pair_apply_left (t := S16x2048x2048) 2 (val_main_v56 (F := Ideal) x0 x1) (val_main_v57 (F := Ideal) x0 x1) _ _ rfl (ValueIdx.ix3 b s (⟨q.val, h⟩ : Fin 1024)) ?_).trans
      ((ref_re x0 x1 b s _).trans (Finset.sum_congr rfl fun k _ => congrArg₂ (fun p q : EReal => p * q) (congrArg _ (Fin.ext ?_)) ?_))
    · intro a; match a with
      | ⟨0, _⟩ => rfl
      | ⟨1, _⟩ => rfl
      | ⟨2, _⟩ => rfl
    · show q.val / 256 * 256 + k.val = q.val % 1024 / 256 * 256 + k.val
      omega
    · refine (tab_left k _).symm.trans (congrArg tab (ext2 rfl (Fin.ext ?_)))
      show q.val % 256 = q.val / 1024 * 256 + q.val % 256
      omega
  · refine (concatenate_pair_apply_right (t := S16x2048x2048) 2 (val_main_v56 (F := Ideal) x0 x1) (val_main_v57 (F := Ideal) x0 x1) _ _ rfl rfl (ValueIdx.ix3 b s (⟨q.val - 1024, by omega⟩ : Fin 1024)) ?_ ?_).trans
      ((ref_im x0 x1 b s _).trans (Finset.sum_congr rfl fun k _ => congrArg₂ (fun p q : EReal => p * q) (congrArg _ (Fin.ext ?_)) ?_))
    · intro a ha; match a with
      | ⟨0, _⟩ => rfl
      | ⟨1, _⟩ => rfl
      | ⟨2, _⟩ => exact absurd rfl ha
    · show q.val - 1024 + 1024 = q.val
      omega
    · show (q.val - 1024) / 256 * 256 + k.val = q.val % 1024 / 256 * 256 + k.val
      omega
    · refine (tab_right k _).symm.trans (congrArg tab (ext2 rfl (Fin.ext ?_)))
      show 256 + (q.val - 1024) % 256 = q.val / 1024 * 256 + q.val % 256
      omega

end Cert.Fourier

end
-- ==== Proof.FourClaim.lean ====
/- The Fourier mixer's first kernel and its reference leave one result. -/
module

public import proofs.«01_k».proof.Defs
public import proofs.«01_k».proof.Proof.FourRef
public import proofs.«01_k».proof.Proof.Gen.Reference4Ideal.Run

@[expose] public section

set_option maxRecDepth 16384

noncomputable section

namespace Cert.Fourier

open Idealize.ShloMosaic Idealize.ShloMosaic.TcCoe Idealize.SL.Sem

/-- An element of the result is a batch, a row and a column. -/
theorem split (i : (⟨3, ![16, 2048, 2048]⟩ : Shape).Idx) : ∃ (b : Fin 16) (s : Fin 2048) (d : Fin 2048), i = ValueIdx.ix3 b s d :=
  ⟨i 0, i 1, i 2, ext3 rfl rfl rfl⟩

/-- The reference leaves its arguments unchanged; it declares no semaphore. -/
theorem frame_reference : Cert.quiescent_Reference4Ideal (hReference4Ideal := Cert.Reference4Ideal.Gen.facts) :=
  fun m g _ =>
    (θ_run _ _ _).mono (fun r h => ⟨fun c => (h c).2, Idealize.ShloMosaic.sem_eq_zero_of_no_sems (by decide) r.2⟩)
      (Cert.Reference4Ideal.Value.run (F := Ideal) m g)

/-- Kernel and reference compute the same rows. -/
theorem channels : Cert.algebraic_Kernel4Ideal_Reference4Ideal (hKernel4Ideal := Cert.Kernel4Ideal.Gen.facts) (hReference4Ideal := Cert.Reference4Ideal.Gen.facts) := by
  intro m g m' g' _ heq
  refine ⟨fun c => fun i => row (A0 m c) (A1 m c) (i 0) (i 1) (i 2), ?_, ?_⟩
  · refine (θ_run _ _ _).mono (fun r h c => ⟨(h c).1.trans (funext fun i => ?_), (h c).2⟩) (Cert.Kernel4Ideal.Value.run_blocks (F := Ideal) m g)
    obtain ⟨b, s, d, rfl⟩ := split i
    exact array_eq m c b s d
  · refine (θ_run _ _ _).mono (fun r h c => ⟨(h c).1.trans (funext fun i => ?_), (h c).2⟩) (Cert.Reference4Ideal.Value.run (F := Ideal) m' g')
    obtain ⟨b, s, d, rfl⟩ := split i
    refine (congrFun (Cert.Reference4Ideal.Read.val_main_v59_eq m' c) (ValueIdx.ix3 b s d)).trans ?_
    obtain ⟨e0, e1⟩ := heq c
    rw [e0, e1]
    exact ref_apply (A0 m c) (A1 m c) b s d

end Cert.Fourier

end
-- ==== Proof.AdaMath.lean ====
/- One element of the modulation's kernel: with finite rows and weights the parts that the rounding leaves over are zero. -/
module

public import proofs.«01_k».proof.Proof.Gen.Kernel5Ideal.Frame
public import Idealize.ShloMosaic.Lib.Pipeline.Value
public import Idealize.ShloMosaic.Lib.Pipeline.ValueKit
public import Idealize.ShloMosaic.PureOps.Ideal.Laws
public import Idealize.ShloMosaic.Lib.MatmulPlain
public import Idealize.ShloMosaic.Lib.ValueIdx

@[expose] public section

set_option maxRecDepth 16384

noncomputable section

namespace Cert.Ada

open Cert.Kernel5Ideal Cert.Kernel5Ideal.Gen
open Idealize.ShloMosaic Idealize.ShloMosaic.TcCoe Idealize.SL.Sem Idealize.ShloMosaic.Pipeline
open scoped BigOperators

/-- The gate of a number. -/
def gate (x : EReal) : EReal := x * Ideal.logistic x

/-- The gated row against a column, and the bias. -/
def el (v w : Fin 1024 → EReal) (b : EReal) : EReal := (∑ k : Fin 1024, gate (v k) * w k) + b

theorem gate_real (x : EReal) (h : ∃ r : ℝ, x = r) : ∃ r : ℝ, gate x = r := by
  obtain ⟨r, rfl⟩ := h
  have hp : (0 : ℝ) < 1 + Real.exp (-r) := by positivity
  have e : Ideal.logistic (r : EReal) = (((1 + Real.exp (-r))⁻¹ : ℝ) : EReal) := by
    show (if ((1 : EReal) + Ideal.exp (-(r : EReal))) = 0 then _ else (1 : EReal) * ((1 : EReal) + Ideal.exp (-(r : EReal)))⁻¹) = _
    have e1 : ((1 : EReal) + Ideal.exp (-(r : EReal))) = ((1 + Real.exp (-r) : ℝ) : EReal) := by
      rw [EReal.coe_add]; rfl
    rw [e1, if_neg (by exact_mod_cast hp.ne'), one_mul, EReal.coe_inv]
  exact ⟨r * (1 + Real.exp (-r))⁻¹, by unfold gate; rw [e, ← EReal.coe_mul]⟩

theorem sub_zero_of_real (x : EReal) (h : ∃ r : ℝ, x = r) : x - x = 0 := by
  obtain ⟨r, rfl⟩ := h
  rw [← EReal.coe_sub, sub_self, EReal.coe_zero]

/-- The three products together. -/
theorem parts (s w : Fin 1024 → EReal) (b : EReal) (hs : ∀ k, ∃ r : ℝ, s k = r) (hw : ∀ k, ∃ r : ℝ, w k = r) :
    (((∑ k, s k * w k) + ∑ k, (s k - s k) * w k) + ∑ k, s k * (w k - w k)) + b = (∑ k, s k * w k) + b := by
  have h1 : ∑ k, (s k - s k) * w k = 0 := Finset.sum_eq_zero fun k _ => by rw [sub_zero_of_real _ (hs k), zero_mul]
  have h2 : ∑ k, s k * (w k - w k) = 0 := Finset.sum_eq_zero fun k _ => by rw [sub_zero_of_real _ (hw k), mul_zero]
  rw [h1, h2, add_zero, add_zero]

theorem ext2 {n0 n1 : ℕ} {j k : (⟨2, ![n0, n1]⟩ : Shape).Idx} (h0 : j 0 = k 0) (h1 : j 1 = k 1) : j = k :=
  funext fun a => match a with | ⟨0, _⟩ => h0 | ⟨1, _⟩ => h1

theorem ext3 {n0 n1 n2 : ℕ} {j k : (⟨3, ![n0, n1, n2]⟩ : Shape).Idx} (h0 : j 0 = k 0) (h1 : j 1 = k 1) (h2 : j 2 = k 2) : j = k :=
  funext fun a => match a with | ⟨0, _⟩ => h0 | ⟨1, _⟩ => h1 | ⟨2, _⟩ => h2

/-- A product of the body. -/
theorem prod_apply (u : FVec Ideal S48x1024 .bf16) (T : FVec Ideal S1024x1536 .bf16) (f g : Fin 1024 → EReal) (a : Fin 48) (q : Fin 1536)
    (hu : ∀ k, (u (ValueIdx.ix2 a k) : EReal) = f k) (hT : ∀ k, (T (ValueIdx.ix2 k q) : EReal) = g k) :
    (matmul dot_S48x1024_S1024x1536_S48x1536_1_0_0_1_n_n none u T (constant S48x1536 .f32 0x00000000#32) (ValueIdx.ix2 a q) : EReal)
      = ∑ k : Fin 1024, f k * g k :=
  (Ideal.matmul_plain_apply (M := 48) (K := 1024) (N := 1536) none _ _ _ a q).trans
    ((congrArg₂ (· + ·) (Ideal.ofBits_zero_f32) (Finset.sum_congr rfl fun k _ => congrArg₂ (fun p q : EReal => p * q) (hu k) (hT k))).trans (zero_add _))

/-- The block that a step stores. -/
theorem pay_apply (v0 : Vec Ideal S48x1024 .f32) (v8 : Vec Ideal S1x1024x1536 .f32) (v19 : Vec Ideal S1x1x1536 .f32) (a : Fin 48) (q : Fin 1536)
    (h0 : ∀ k, ∃ r : ℝ, (v0 (ValueIdx.ix2 a k) : EReal) = r) (h8 : ∀ k, ∃ r : ℝ, (v8 (ValueIdx.ix3 0 k q) : EReal) = r) :
    (k0_pay1 (F := Ideal) v0 v8 v19 (ValueIdx.ix3 0 a q) : EReal)
      = el (fun k => v0 (ValueIdx.ix2 a k)) (fun k => v8 (ValueIdx.ix3 0 k q)) (v19 (ValueIdx.ix3 0 0 q)) := by
  have hv (k : Fin 1024) : (shapeCast S48x1024 v0 shapeCasts_S48x1024_S48x1024 : FVec Ideal S48x1024 .f32) (ValueIdx.ix2 a k) = v0 (ValueIdx.ix2 a k) :=
    shapeCast_apply _ _ _ _ rfl
  have hs (k : Fin 1024) : ((mulf (shapeCast S48x1024 v0 shapeCasts_S48x1024_S48x1024) (logistic (shapeCast S48x1024 v0 shapeCasts_S48x1024_S48x1024)) : FVec Ideal S48x1024 .f32)
      (ValueIdx.ix2 a k) : EReal) = gate (v0 (ValueIdx.ix2 a k)) := congrArg gate (hv k)
  have hw (k : Fin 1024) : ((shapeCast S1024x1536 v8 shapeCasts_S1x1024x1536_S1024x1536 : FVec Ideal S1024x1536 .f32) (ValueIdx.ix2 k q) : EReal) = v8 (ValueIdx.ix3 0 k q) := by
    refine shapeCast_apply _ _ _ _ ?_
    rw [Shape.rowMajor_val_two, Shape.rowMajor_val_three]
    show (0 * 1024 + k.val) * 1536 + q.val = k.val * 1536 + q.val
    omega
  have hb : ((broadcastTo S48x1536 (shapeCast S1x1536 v19 shapeCasts_S1x1x1536_S1x1536 : FVec Ideal S1x1536 .f32) broadcasts_S1x1536_S48x1536 : FVec Ideal S48x1536 .f32)
      (ValueIdx.ix2 a q) : EReal) = v19 (ValueIdx.ix3 0 0 q) := by
    refine (broadcastTo_apply _ _ (ValueIdx.ix2 a q) (ValueIdx.ix2 0 q) ?_).trans ?_
    · intro d; match d with
      | ⟨0, _⟩ => rfl
      | ⟨1, _⟩ => rfl
    · refine shapeCast_apply _ _ _ _ ?_
      rw [Shape.rowMajor_val_two, Shape.rowMajor_val_three]
      show (0 * 1 + 0) * 1536 + q.val = 0 * 1536 + q.val
      omega
  unfold k0_pay1
  refine (shapeCast_apply _ _ (ValueIdx.ix3 0 a q) (ValueIdx.ix2 a q) ?_).trans ?_
  · rw [Shape.rowMajor_val_two, Shape.rowMajor_val_three]
    show a.val * 1536 + q.val = (0 * 48 + a.val) * 1536 + q.val
    omega
  refine Eq.trans (congrArg₂ (fun p q : EReal => p + q) (congrArg₂ (fun p q : EReal => p + q) (congrArg₂ (fun p q : EReal => p + q) ?_ ?_) ?_) hb)
    (parts (fun k => gate (v0 (ValueIdx.ix2 a k))) (fun k => v8 (ValueIdx.ix3 0 k q)) _ (fun k => gate_real _ (h0 k)) h8)
  · exact prod_apply _ _ _ _ a q hs hw
  · exact prod_apply _ _ _ _ a q (fun k => congrArg (fun z : EReal => z - z) (hs k)) hw
  · exact prod_apply _ _ _ _ a q hs (fun k => congrArg (fun z : EReal => z - z) (hw k))

/-- What the body leaves in its block. -/
theorem left_apply (x0 : Vec Ideal S48x1024 .f32) (x1 : Vec Ideal S1x1024x1536 .f32) (x2 : Vec Ideal S1x1x1536 .f32) (a : Fin 48) (q : Fin 1536)
    (h0 : ∀ k, ∃ r : ℝ, (x0 (ValueIdx.ix2 a k) : EReal) = r) (h1 : ∀ k, ∃ r : ℝ, (x1 (ValueIdx.ix3 0 k q) : EReal) = r) :
    (out0_3 (F := Ideal) x0 x1 x2 (ValueIdx.ix3 0 a q) : EReal)
      = el (fun k => x0 (ValueIdx.ix2 a k)) (fun k => x1 (ValueIdx.ix3 0 k q)) (x2 (ValueIdx.ix3 0 0 q)) := by
  have e0 : View.ld x0 r0_0 = x0 := funext fun y => congrArg x0 (ext2 (Fin.ext (by show 0 + 1 * _ = _; rw [Nat.zero_add, Nat.one_mul]))
    (Fin.ext (by show 0 + 1 * _ = _; rw [Nat.zero_add, Nat.one_mul])))
  have e1 : View.ld x1 r0_1 = x1 := funext fun y => congrArg x1 (ext3 (Fin.ext (by show 0 + 1 * _ = _; rw [Nat.zero_add, Nat.one_mul]))
    (Fin.ext (by show 0 + 1 * _ = _; rw [Nat.zero_add, Nat.one_mul])) (Fin.ext (by show 0 + 1 * _ = _; rw [Nat.zero_add, Nat.one_mul])))
  have e2 : View.ld x2 r0_2 = x2 := funext fun y => congrArg x2 (ext3 (Fin.ext (by show 0 + 1 * _ = _; rw [Nat.zero_add, Nat.one_mul]))
    (Fin.ext (by show 0 + 1 * _ = _; rw [Nat.zero_add, Nat.one_mul])) (Fin.ext (by show 0 + 1 * _ = _; rw [Nat.zero_add, Nat.one_mul])))
  unfold out0_3
  rw [e0, e1, e2]
  refine Eq.trans ?_ (pay_apply x0 x1 x2 a q h0 h1)
  generalize k0_pay1 (F := Ideal) x0 x1 x2 = P
  refine View.canon_apply_of_pieces (Val := Elt Ideal) (e := .f32) P _ ?_ (ValueIdx.ix3 0 a q) (cover0_3 _ _)
  intro p hp
  simp only [List.mem_cons, List.not_mem_nil, or_false] at hp
  subst hp
  intro x
  refine congrArg P (ext3 (Fin.ext ?_) (Fin.ext ?_) (Fin.ext ?_))
  · show (x 0).val = 0 + 1 * (x 0).val
    omega
  · show (x 1).val = 0 + 1 * (x 1).val
    omega
  · show (x 2).val = 0 + 1 * (x 2).val
    omega

end Cert.Ada

end
-- ==== Proof.AdaArr.lean ====
/- What the modulation's kernel leaves in its result, for finite rows and weights. -/
module

public import proofs.«01_k».proof.Proof.AdaMath
public import proofs.«01_k».proof.Proof.Finite
public import proofs.«01_k».proof.Pre_finite_weights
public import proofs.«01_k».proof.Proof.Gen.Kernel5Ideal.Value
public import proofs.«01_k».proof.Proof.Gen.Reference5Ideal
public import proofs.«01_k».proof.Proof.Gen.Reference5Ideal.Read
public import Idealize.ShloMosaic.Lib.Pipeline.ValueKit
public import Idealize.ShloMosaic.Lib.Pointwise.SelectCore

@[expose] public section

set_option maxRecDepth 16384

noncomputable section

namespace Cert.Ada

open Cert.Kernel5Ideal Cert.Kernel5Ideal.Gen
open Idealize.ShloMosaic Idealize.ShloMosaic.TcCoe Idealize.SL.Sem Idealize.ShloMosaic.Pipeline
open scoped BigOperators

instance weights_facts : Cert.Pre_finite_weights.Facts where
  bcast_S_S32x1024 := by decide
  reducesTo_S32x1024_S_d0_1 := by decide
  h_S_ := by decide
  bcast_S_S1024 := by decide
  reducesTo_S1024_S_d0 := by decide
  bcast_S_S4x1024x6144 := by decide
  reducesTo_S4x1024x6144_S_d0_1_2 := by decide

/-- The precondition, read. -/
theorem real_of_weights (x0 : FVec Ideal S32x1024 .f32) (x1 : FVec Ideal S1024 .f32) (x2 : FVec Ideal S4x1024x6144 .f32) (x3 : FVec Ideal S4x6144 .f32)
    (h : Cert.Pre_finite_weights.fn (F := Ideal) x0 x1 x2 x3 = fun _ => 1#1) :
    (∀ y, ∃ r : ℝ, (show EReal from x0 y) = r) ∧ (∀ y, ∃ r : ℝ, (show EReal from x1 y) = r) ∧ (∀ y, ∃ r : ℝ, (show EReal from x2 y) = r) := by
  have h0 := congrFun h (fun k => k.elim0)
  obtain ⟨h1, k2⟩ := IntOp.andi_eq_one.1 h0
  obtain ⟨k0, k1⟩ := IntOp.andi_eq_one.1 h1
  exact ⟨Cert.Attn.real_of_all x0 _ _ _ _ k0, Cert.Attn.real_of_all x1 _ _ _ _ k1, Cert.Attn.real_of_all x2 _ _ _ _ k2⟩

/-- The rows of both conditions, padded with rows of zeros. -/
def rows (x0 : S32x1024.Idx → EReal) (x1 : S1024.Idx → EReal) : S48x1024.Idx → EReal := Cert.Reference5Ideal.Read.val_main_v2 (F := Ideal) x0 x1

theorem rows_real (x0 : S32x1024.Idx → EReal) (x1 : S1024.Idx → EReal) (h0 : ∀ y, ∃ r : ℝ, x0 y = r) (h1 : ∀ y, ∃ r : ℝ, x1 y = r) (y : S48x1024.Idx) :
    ∃ r : ℝ, rows x0 x1 y = r := by
  unfold rows Cert.Reference5Ideal.Read.val_main_v2
  refine concatenate_forall (α := EReal) (P := fun z => ∃ r : ℝ, z = r) _ _ _ _ ?_ y
  intro p hp i
  simp only [List.mem_cons, List.not_mem_nil, or_false] at hp
  obtain rfl | rfl | rfl := hp
  · exact h0 i
  · obtain ⟨r, hr⟩ := h1 (Cert.Reference5Ideal.Read.idx_main_v0 i)
    exact ⟨r, (Cert.Reference5Ideal.Read.val_main_v0_apply (F := Ideal) x1 i).trans hr⟩
  · exact ⟨0, Ideal.ofBits_zero_f32⟩

/-- An element of the result. -/
def cell (x0 : S32x1024.Idx → EReal) (x1 : S1024.Idx → EReal) (x2 : S4x1024x6144.Idx → EReal) (x3 : S4x6144.Idx → EReal) (l : Fin 4) (b : Fin 48) (q : Fin 6144) : EReal :=
  el (fun k => rows x0 x1 (ValueIdx.ix2 b k)) (fun k => x2 (ValueIdx.ix3 l k q)) (x3 (ValueIdx.ix2 l q))

/-! ## The blocks -/

theorem flush3 : ∀ t : Fin cfg0.N, (cfg0.win 3).flush t = true := by decide +kernel
theorem ind0 : ∀ t : Fin cfg0.N, win0_0.index t 0 = 0 ∧ win0_0.index t 1 = 0 := by decide +kernel
theorem ind1 : ∀ t : Fin cfg0.N, win0_1.index t 0 = ((cfg0.grid.coords t) 0).val ∧ win0_1.index t 1 = 0 ∧ win0_1.index t 2 = ((cfg0.grid.coords t) 1).val := by decide +kernel
theorem ind2 : ∀ t : Fin cfg0.N, win0_2.index t 0 = ((cfg0.grid.coords t) 0).val ∧ win0_2.index t 1 = 0 ∧ win0_2.index t 2 = ((cfg0.grid.coords t) 1).val := by decide +kernel
theorem ind3 : ∀ t : Fin cfg0.N, win0_3.index t 0 = ((cfg0.grid.coords t) 0).val ∧ win0_3.index t 1 = 0 ∧ win0_3.index t 2 = ((cfg0.grid.coords t) 1).val := by decide +kernel

/-- The point of a layer and a block of columns. -/
theorem at_point : ∀ (b : Fin 4) (j : Fin 4), ((cfg0.grid.coords (⟨4 * b.val + j.val, by have := b.isLt; have := j.isLt; show _ < 16; omega⟩ : Fin cfg0.N)) 0).val = b.val
    ∧ ((cfg0.grid.coords (⟨4 * b.val + j.val, by have := b.isLt; have := j.isLt; show _ < 16; omega⟩ : Fin cfg0.N)) 1).val = j.val := by decide +kernel

variable (m : (ℓ : Loc nD τ sig) → Buf (Elt Ideal) ℓ)

/-- The batches' conditions. -/
def A0 (c : Dev nD) : S32x1024.Idx → EReal := m ((c.tc : Thread nD τ).loc main_arg0)
/-- The context's condition. -/
def A1 (c : Dev nD) : S1024.Idx → EReal := m ((c.tc : Thread nD τ).loc main_arg1)
/-- The weights. -/
def A2 (c : Dev nD) : S4x1024x6144.Idx → EReal := m ((c.tc : Thread nD τ).loc main_arg2)
/-- The biases. -/
def A3 (c : Dev nD) : S4x6144.Idx → EReal := m ((c.tc : Thread nD τ).loc main_arg3)

/-- The rows the host prepares. -/
theorem host_rows (c : Dev nD) : (show S48x1024.Idx → EReal from V m c main_v2) = rows (A0 m c) (A1 m c) := rfl

theorem host_bias (c : Dev nD) (l : Fin 4) (q : Fin 6144) : (show S4x1x6144.Idx → EReal from V m c main_v3) (ValueIdx.ix3 l 0 q) = A3 m c (ValueIdx.ix2 l q) := by
  refine (congrFun (show (show S4x1x6144.Idx → EReal from V m c main_v3) = shapeCast S4x1x6144 (A3 m c) shapeCasts_S4x6144_S4x1x6144 from rfl) _).trans ?_
  refine shapeCast_apply _ _ _ _ ?_
  rw [Shape.rowMajor_val_two, Shape.rowMajor_val_three]
  show l.val * 6144 + q.val = (l.val * 1 + 0) * 6144 + q.val
  omega

theorem blk0 (c : Dev nD) (t : Fin cfg0.N) (a : Fin 48) (k : Fin 1024) :
    (show S48x1024.Idx → EReal from iblk m c 0 t) (ValueIdx.ix2 a k) = rows (A0 m c) (A1 m c) (ValueIdx.ix2 a k) := by
  obtain ⟨g0, g1⟩ := ind0 t
  refine Eq.trans ?_ (congrFun (host_rows m c) (ValueIdx.ix2 a k))
  show (show S48x1024.Idx → EReal from V m c main_v2) ((win0_0.blk t).view.emb (ValueIdx.ix2 a k)) = _
  refine congrArg (show S48x1024.Idx → EReal from V m c main_v2) (ext2 (Fin.ext ?_) (Fin.ext ?_))
  · blk_simp
    rw [g0]
    show 0 * 48 + a.val = a.val
    omega
  · blk_simp
    rw [g1]
    show 0 * 1024 + k.val = k.val
    omega

theorem blk1 (c : Dev nD) (t : Fin cfg0.N) (l : Fin 4) (q : Fin 6144) (p : Fin 1536) (hl : ((cfg0.grid.coords t) 0).val = l.val)
    (hq : q.val = 1536 * ((cfg0.grid.coords t) 1).val + p.val) (k : Fin 1024) :
    (show S1x1024x1536.Idx → EReal from iblk m c 1 t) (ValueIdx.ix3 0 k p) = A2 m c (ValueIdx.ix3 l k q) := by
  obtain ⟨g0, g1, g2⟩ := ind1 t
  show V m c main_arg2 ((win0_1.blk t).view.emb (ValueIdx.ix3 0 k p)) = _
  rw [V_main_arg2]
  refine congrArg (A2 m c) (ext3 (Fin.ext ?_) (Fin.ext ?_) (Fin.ext ?_))
  · blk_simp
    exact g0.trans hl
  · blk_simp
    rw [g1]
    show 0 * 1024 + k.val = k.val
    omega
  · blk_simp
    rw [g2]
    show ((cfg0.grid.coords t) 1).val * 1536 + p.val = q.val
    omega

theorem blk2 (c : Dev nD) (t : Fin cfg0.N) (l : Fin 4) (q : Fin 6144) (p : Fin 1536) (hl : ((cfg0.grid.coords t) 0).val = l.val)
    (hq : q.val = 1536 * ((cfg0.grid.coords t) 1).val + p.val) :
    (show S1x1x1536.Idx → EReal from iblk m c 2 t) (ValueIdx.ix3 0 0 p) = A3 m c (ValueIdx.ix2 l q) := by
  obtain ⟨g0, g1, g2⟩ := ind2 t
  refine Eq.trans ?_ (host_bias m c l q)
  show (show S4x1x6144.Idx → EReal from V m c main_v3) ((win0_2.blk t).view.emb (ValueIdx.ix3 0 0 p)) = _
  refine congrArg (show S4x1x6144.Idx → EReal from V m c main_v3) (ext3 (Fin.ext ?_) (Fin.ext ?_) (Fin.ext ?_))
  · blk_simp
    exact g0.trans hl
  · blk_simp
    exact g1
  · blk_simp
    rw [g2]
    show ((cfg0.grid.coords t) 1).val * 1536 + p.val = q.val
    omega

/-- The kernel's whole result. -/
theorem array_eq (c : Dev nD) (h0 : ∀ y, ∃ r : ℝ, A0 m c y = r) (h1 : ∀ y, ∃ r : ℝ, A1 m c y = r) (h2 : ∀ y, ∃ r : ℝ, A2 m c y = r) (l : Fin 4) (b : Fin 48) (q : Fin 6144) :
    (show S4x48x6144.Idx → EReal from (dats m 0 c).arrAt 3 cfg0.N) (ValueIdx.ix3 l b q) = cell (A0 m c) (A1 m c) (A2 m c) (A3 m c) l b q := by
  have hq := q.isLt
  have hl := l.isLt
  obtain ⟨p0, p1⟩ := at_point l ⟨q.val / 1536, by omega⟩
  generalize (⟨4 * l.val + q.val / 1536, _⟩ : Fin cfg0.N) = t at p0 p1
  obtain ⟨g0, g1, g2⟩ := ind3 t
  have hr := congrFun (Value.blocks3 m c t (flush3 t)) (ValueIdx.ix3 0 b (⟨q.val % 1536, by omega⟩ : Fin 1536))
  have he : (win0_3.blk t).view.emb (ValueIdx.ix3 0 b (⟨q.val % 1536, by omega⟩ : Fin 1536)) = (ValueIdx.ix3 l b q : S4x48x6144.Idx) := by
    refine ext3 (Fin.ext ?_) (Fin.ext ?_) (Fin.ext ?_)
    · blk_simp
      exact g0.trans p0
    · blk_simp
      rw [g1]
      show 0 * 48 + b.val = b.val
      omega
    · blk_simp
      rw [g2, p1]
      show q.val / 1536 * 1536 + q.val % 1536 = q.val
      omega
  have hs : q.val = 1536 * ((cfg0.grid.coords t) 1).val + q.val % 1536 := by rw [p1]; show q.val = 1536 * (q.val / 1536) + q.val % 1536; omega
  refine (congrArg (show S4x48x6144.Idx → EReal from (dats m 0 c).arrAt 3 cfg0.N) he.symm).trans (hr.trans ?_)
  rw [Value.flushed3]
  have e0 (k : Fin 1024) := blk0 m c t b k
  have e1 (k : Fin 1024) := blk1 m c t l q (⟨q.val % 1536, by omega⟩ : Fin 1536) p0 hs k
  have e2 := blk2 m c t l q (⟨q.val % 1536, by omega⟩ : Fin 1536) p0 hs
  refine (left_apply _ _ _ _ _ (fun k => ?_) (fun k => ?_)).trans ?_
  · obtain ⟨r, hr⟩ := rows_real _ _ h0 h1 (ValueIdx.ix2 b k)
    exact ⟨r, (e0 k).trans hr⟩
  · obtain ⟨r, hr⟩ := h2 (ValueIdx.ix3 l k q)
    exact ⟨r, (e1 k).trans hr⟩
  · unfold cell
    have ec {v v' w w' : Fin 1024 → EReal} {x x' : EReal} (i0 : v = v') (i1 : w = w') (i2 : x = x') : el v w x = el v' w' x' := by rw [i0, i1, i2]
    exact ec (funext e0) (funext e1) e2

end Cert.Ada

end
-- ==== Proof.AdaClaim.lean ====
/- The modulation's kernel and its reference leave one result. -/
module

public import proofs.«01_k».proof.Defs
public import proofs.«01_k».proof.Proof.AdaArr
public import proofs.«01_k».proof.Proof.Gen.Reference5Ideal.Run

@[expose] public section

set_option maxRecDepth 16384

noncomputable section

namespace Cert.Ada

open Idealize.ShloMosaic Idealize.ShloMosaic.TcCoe Idealize.SL.Sem
open scoped BigOperators

section
open Cert.Reference5Ideal Cert.Reference5Ideal.Read

theorem one_f32 : (FloatOps.ofBits (F := Ideal) .f32 0x3F800000#32 : EReal) = 1 := by
  show Ideal.ofBits .f32 0x3F800000#32 = 1
  simp [Ideal.ofBits, Ideal.ieee, -EReal.coe_mul]; norm_num

variable (x0 : S32x1024.Idx → EReal) (x1 : S1024.Idx → EReal) (x2 : S4x1024x6144.Idx → EReal) (x3 : S4x6144.Idx → EReal)

theorem ref_gate (b : Fin 48) (k : Fin 1024) : (val_main_v3 (F := Ideal) x0 x1 (ValueIdx.ix2 b k) : EReal) = gate (rows x0 x1 (ValueIdx.ix2 b k)) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply, one_f32]
  rfl

/-- The reference's result. -/
theorem ref_apply (l : Fin 4) (b : Fin 48) (q : Fin 6144) : (val_main_v8 (F := Ideal) x0 x1 x2 x3 (ValueIdx.ix3 l b q) : EReal) = cell x0 x1 x2 x3 l b q := by
  rw [val_main_v8_apply, val_main_v5_apply, val_main_v4_apply, val_main_v7_apply, val_main_v6_apply]
  refine congrArg₂ (fun p q : EReal => p + q) (Finset.sum_congr rfl fun k _ => ?_) (congrArg x3 (ext2 rfl rfl))
  refine (mul_comm _ _).trans (congrArg₂ (fun p q : EReal => p * q) ?_ (congrArg x2 (ext3 rfl rfl rfl)))
  have e : ridx_main_v4 (idx_main_v5 (ValueIdx.ix3 l b q)) k = ValueIdx.ix2 b k := ext2 rfl rfl
  rw [e]
  exact ref_gate x0 x1 b k

end

/-- An element of the result is a layer, a row and a column. -/
theorem split (i : (⟨3, ![4, 48, 6144]⟩ : Shape).Idx) : ∃ (l : Fin 4) (b : Fin 48) (q : Fin 6144), i = ValueIdx.ix3 l b q :=
  ⟨i 0, i 1, i 2, ext3 rfl rfl rfl⟩

/-- The reference leaves its arguments unchanged; it declares no semaphore. -/
theorem frame_reference : Cert.quiescent_Reference5Ideal (hReference5Ideal := Cert.Reference5Ideal.Gen.facts) :=
  fun m g _ =>
    (θ_run _ _ _).mono (fun r h => ⟨fun c => (h c).2, Idealize.ShloMosaic.sem_eq_zero_of_no_sems (by decide) r.2⟩)
      (Cert.Reference5Ideal.Value.run (F := Ideal) m g)

/-- Kernel and reference compute the same modulation. -/
theorem modulation : Cert.algebraic_Kernel5Ideal_Reference5Ideal_pre_finite_weights (hKernel5Ideal := Cert.Kernel5Ideal.Gen.facts)
    (hReference5Ideal := Cert.Reference5Ideal.Gen.facts) (hPre_finite_weights := weights_facts) := by
  intro m g m' g' hpre heq
  refine ⟨fun c => fun i => cell (A0 m c) (A1 m c) (A2 m c) (A3 m c) (i 0) (i 1) (i 2), ?_, ?_⟩
  · refine (θ_run _ _ _).mono (fun r h c => ⟨(h c).1.trans (funext fun i => ?_), (h c).2⟩) (Cert.Kernel5Ideal.Value.run_blocks (F := Ideal) m g)
    obtain ⟨l, b, q, rfl⟩ := split i
    obtain ⟨h0, h1, h2⟩ := real_of_weights _ _ _ _ (hpre c)
    exact array_eq m c h0 h1 h2 l b q
  · refine (θ_run _ _ _).mono (fun r h c => ⟨(h c).1.trans (funext fun i => ?_), (h c).2⟩) (Cert.Reference5Ideal.Value.run (F := Ideal) m' g')
    obtain ⟨l, b, q, rfl⟩ := split i
    obtain ⟨e0, e1, e2, e3⟩ := heq c
    rw [e0, e1, e2, e3]
    exact ref_apply (A0 m c) (A1 m c) (A2 m c) (A3 m c) l b q

end Cert.Ada

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_in_range
public import proofs.«01_k».proof.Proof.Gen.On_rows_used
public import proofs.«01_k».proof.Proof.Array
public import proofs.«01_k».proof.Proof.Ref
public import proofs.«01_k».proof.Proof.Finite
public import proofs.«01_k».proof.Proof.GmmFrame
public import proofs.«01_k».proof.Proof.GmmClaim
public import proofs.«01_k».proof.Proof.OutClaim
public import proofs.«01_k».proof.Proof.FourClaim
public import proofs.«01_k».proof.Proof.AdaClaim
public import Idealize.ShloMosaic.Adequacy
public import Idealize.ShloMosaic.Init

@[expose] public section

noncomputable section

namespace Cert.Proof

open Idealize.ShloMosaic Idealize.SL.Sem

/-- The reference leaves its arguments unchanged; it declares no semaphore. -/
theorem frame_reference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- Kernel and reference compute the same attention. -/
theorem attention : Cert.algebraic_KernelIdeal_ReferenceIdeal_pre_finite (hKernelIdeal := Cert.KernelIdeal.Gen.facts)
    (hReferenceIdeal := Cert.ReferenceIdeal.Gen.facts) (hPre_finite := Cert.Attn.finite_facts) := by
  intro m g m' g' hpre heq
  refine ⟨fun c => fun y => Cert.Attn.RES (Cert.Attn.A0 m c) (Cert.Attn.A1 m c) (Cert.Attn.A2 m c) (Cert.Attn.A3 m c) (Cert.Attn.A4 m c)
    (Cert.Attn.A5 m c) (y 0) (y 1).val (y 2).val, ?_, ?_⟩
  · refine (θ_run _ _ _).mono (fun r h c => ⟨?_, (h c).2⟩) (Cert.KernelIdeal.Value.run_blocks (F := Ideal) m g)
    obtain ⟨h0, h1, h3, h5⟩ := Cert.Attn.real_of_finite _ _ _ _ _ _ (hpre c)
    exact (h c).1.trans (Cert.Attn.array_eq m c h0 h1 h3 h5)
  · refine (θ_run _ _ _).mono (fun r h c => ⟨?_, (h c).2⟩) (Cert.ReferenceIdeal.Value.run (F := Ideal) m' g')
    refine (h c).1.trans ((Cert.ReferenceIdeal.Read.val_main_v53_eq m' c).trans ?_)
    obtain ⟨e0, e1, e2, e3, e4, e5⟩ := heq c
    rw [e0, e1, e2, e3, e4, e5]
    exact funext fun y => Cert.Attn.ref_eq (Cert.Attn.A0 m c) (Cert.Attn.A1 m c) (Cert.Attn.A2 m c) (Cert.Attn.A3 m c) (Cert.Attn.A4 m c)
      (Cert.Attn.A5 m c) y

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Attn.finite_facts, Cert.Pre_in_range.Gen.facts, Cert.Ada.weights_facts, Cert.On_rows_used.Gen.facts,
    fun m g _ => Cert.Kernel.Gen.frame m g,
    fun m g _ => Cert.KernelIdeal.Gen.frame m g,
    fun m g _ => Cert.KernelIdeal.Gen.frame m g,
    fun m g _ => frame_reference m g trivial,
    fun m g _ => frame_reference m g trivial,
    Cert.Experts.frame_kernel,
    Cert.Experts.frame_ideal,
    Cert.Experts.frame_reference,
    fun m g _ => Cert.Kernel3.Gen.frame m g,
    fun m g _ => Cert.Kernel3Ideal.Gen.frame m g,
    Cert.Shared.frame_reference,
    fun m g _ => Cert.Kernel4.Gen.frame m g,
    fun m g _ => Cert.Kernel4Ideal.Gen.frame m g,
    Cert.Fourier.frame_reference,
    fun m g _ => Cert.Kernel5.Gen.frame m g,
    fun m g _ => Cert.Kernel5Ideal.Gen.frame m g,
    fun m g _ => Cert.Kernel5Ideal.Gen.frame m g,
    Cert.Ada.frame_reference,
    fun m g _ => Cert.Ada.frame_reference m g trivial,
    IdealRules.named_const.statement Cert.KernelIdeal.κ "mask" .f32 0xF149F2CA#32 ⊥ rfl,
    attention,
    trivial,
    Cert.Experts.experts,
    trivial,
    Cert.Shared.shared,
    trivial,
    Cert.Fourier.channels,
    trivial,
    Cert.Ada.modulation⟩

end Cert.Proof

end
